-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_GatherRefIdeal (m : (ℓ : Loc Cert.GatherRefIdeal.nD Cert.GatherRefIdeal.τ Cert.GatherRefIdeal.sig) → Buf (Elt Ideal) ℓ) : Prop :=
  True

def Pre_Cores (m : (ℓ : Loc Cert.Cores.nD Cert.Cores.τ Cert.Cores.sig) → Buf (Elt Bits) ℓ) : Prop :=
  True

def Pre_CoresIdeal (m : (ℓ : Loc Cert.CoresIdeal.nD Cert.CoresIdeal.τ Cert.CoresIdeal.sig) → Buf (Elt Ideal) ℓ) : Prop :=
  True

def Pre_CoresRef (m : (ℓ : Loc Cert.CoresRef.nD Cert.CoresRef.τ Cert.CoresRef.sig) → Buf (Elt Bits) ℓ) : Prop :=
  True

def Pre_CoresRefIdeal (m : (ℓ : Loc Cert.CoresRefIdeal.nD Cert.CoresRefIdeal.τ Cert.CoresRefIdeal.sig) → Buf (Elt Ideal) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRef (m : (ℓ : Loc Cert.ChipsRef.nD Cert.ChipsRef.τ Cert.ChipsRef.sig) → Buf (Elt Bits) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRef (m : (ℓ : Loc Cert.AdamInRef.nD Cert.AdamInRef.τ Cert.AdamInRef.sig) → Buf (Elt Bits) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRef (m : (ℓ : Loc Cert.AdamUpRef.nD Cert.AdamUpRef.τ Cert.AdamUpRef.sig) → Buf (Elt Bits) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamGateUp (m : (ℓ : Loc Cert.AdamGateUp.nD Cert.AdamGateUp.τ Cert.AdamGateUp.sig) → Buf (Elt Bits) ℓ) : Prop :=
  True

def Pre_AdamGateUpIdeal (m : (ℓ : Loc Cert.AdamGateUpIdeal.nD Cert.AdamGateUpIdeal.τ Cert.AdamGateUpIdeal.sig) → Buf (Elt Ideal) ℓ) : Prop :=
  True

def Pre_AdamGateUpRef (m : (ℓ : Loc Cert.AdamGateUpRef.nD Cert.AdamGateUpRef.τ Cert.AdamGateUpRef.sig) → Buf (Elt Bits) ℓ) : Prop :=
  True

def Pre_AdamGateUpRefIdeal (m : (ℓ : Loc Cert.AdamGateUpRefIdeal.nD Cert.AdamGateUpRefIdeal.τ Cert.AdamGateUpRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRef (m : (ℓ : Loc Cert.AdamOutRef.nD Cert.AdamOutRef.τ Cert.AdamOutRef.sig) → Buf (Elt Bits) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORef (m : (ℓ : Loc Cert.AdamORef.nD Cert.AdamORef.τ Cert.AdamORef.sig) → Buf (Elt Bits) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamFfnUp (m : (ℓ : Loc Cert.AdamFfnUp.nD Cert.AdamFfnUp.τ Cert.AdamFfnUp.sig) → Buf (Elt Bits) ℓ) : Prop :=
  True

def Pre_AdamFfnUpIdeal (m : (ℓ : Loc Cert.AdamFfnUpIdeal.nD Cert.AdamFfnUpIdeal.τ Cert.AdamFfnUpIdeal.sig) → Buf (Elt Ideal) ℓ) : Prop :=
  True

def Pre_AdamFfnUpRef (m : (ℓ : Loc Cert.AdamFfnUpRef.nD Cert.AdamFfnUpRef.τ Cert.AdamFfnUpRef.sig) → Buf (Elt Bits) ℓ) : Prop :=
  True

def Pre_AdamFfnUpRefIdeal (m : (ℓ : Loc Cert.AdamFfnUpRefIdeal.nD Cert.AdamFfnUpRefIdeal.τ Cert.AdamFfnUpRefIdeal.sig) → Buf (Elt Ideal) ℓ) : Prop :=
  True

def Pre_AdamFfnDown (m : (ℓ : Loc Cert.AdamFfnDown.nD Cert.AdamFfnDown.τ Cert.AdamFfnDown.sig) → Buf (Elt Bits) ℓ) : Prop :=
  True

def Pre_AdamFfnDownIdeal (m : (ℓ : Loc Cert.AdamFfnDownIdeal.nD Cert.AdamFfnDownIdeal.τ Cert.AdamFfnDownIdeal.sig) → Buf (Elt Ideal) ℓ) : Prop :=
  True

def Pre_AdamFfnDownRef (m : (ℓ : Loc Cert.AdamFfnDownRef.nD Cert.AdamFfnDownRef.τ Cert.AdamFfnDownRef.sig) → Buf (Elt Bits) ℓ) : Prop :=
  True

def Pre_AdamFfnDownRefIdeal (m : (ℓ : Loc Cert.AdamFfnDownRefIdeal.nD Cert.AdamFfnDownRefIdeal.τ Cert.AdamFfnDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRef (m : (ℓ : Loc Cert.AdamSmallRef.nD Cert.AdamSmallRef.τ Cert.AdamSmallRef.sig) → Buf (Elt Bits) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AddCore [hPre_core_given : Cert.Pre_core_given.Facts] (m : (ℓ : Loc Cert.AddCore.nD Cert.AddCore.τ Cert.AddCore.sig) → Buf (Elt Bits) ℓ) : Prop :=
  ∀ c : Dev Cert.AddCore.nD,
    (Cert.Pre_core_given.fn (F := Bits) (m ((c.tc : Thread Cert.AddCore.nD Cert.AddCore.τ).loc Cert.AddCore.main_arg0)) (m ((c.tc : Thread Cert.AddCore.nD Cert.AddCore.τ).loc Cert.AddCore.main_arg1)) (m ((c.tc : Thread Cert.AddCore.nD Cert.AddCore.τ).loc Cert.AddCore.main_arg2))) = (fun _ => 1#1)

def Pre_AddCoreIdeal [hPre_core_given : Cert.Pre_core_given.Facts] (m : (ℓ : Loc Cert.AddCoreIdeal.nD Cert.AddCoreIdeal.τ Cert.AddCoreIdeal.sig) → Buf (Elt Ideal) ℓ) : Prop :=
  ∀ c : Dev Cert.AddCoreIdeal.nD,
    (Cert.Pre_core_given.fn (F := Ideal) (m ((c.tc : Thread Cert.AddCoreIdeal.nD Cert.AddCoreIdeal.τ).loc Cert.AddCoreIdeal.main_arg0)) (m ((c.tc : Thread Cert.AddCoreIdeal.nD Cert.AddCoreIdeal.τ).loc Cert.AddCoreIdeal.main_arg1)) (m ((c.tc : Thread Cert.AddCoreIdeal.nD Cert.AddCoreIdeal.τ).loc Cert.AddCoreIdeal.main_arg2))) = (fun _ => 1#1)

def Pre_AddCoreRef (m : (ℓ : Loc Cert.AddCoreRef.nD Cert.AddCoreRef.τ Cert.AddCoreRef.sig) → Buf (Elt Bits) ℓ) : Prop :=
  True

def Pre_AddCoreRef_core_given [hPre_core_given : Cert.Pre_core_given.Facts] (m : (ℓ : Loc Cert.AddCoreRef.nD Cert.AddCoreRef.τ Cert.AddCoreRef.sig) → Buf (Elt Bits) ℓ) : Prop :=
  ∀ c : Dev Cert.AddCoreRef.nD,
    (Cert.Pre_core_given.fn (F := Bits) (m ((c.tc : Thread Cert.AddCoreRef.nD Cert.AddCoreRef.τ).loc Cert.AddCoreRef.main_arg0)) (m ((c.tc : Thread Cert.AddCoreRef.nD Cert.AddCoreRef.τ).loc Cert.AddCoreRef.main_arg1)) (m ((c.tc : Thread Cert.AddCoreRef.nD Cert.AddCoreRef.τ).loc Cert.AddCoreRef.main_arg2))) = (fun _ => 1#1)

def Pre_AddCoreRefIdeal (m : (ℓ : Loc Cert.AddCoreRefIdeal.nD Cert.AddCoreRefIdeal.τ Cert.AddCoreRefIdeal.sig) → Buf (Elt Ideal) ℓ) : Prop :=
  True

def Pre_AddCoreRefIdeal_core_given [hPre_core_given : Cert.Pre_core_given.Facts] (m : (ℓ : Loc Cert.AddCoreRefIdeal.nD Cert.AddCoreRefIdeal.τ Cert.AddCoreRefIdeal.sig) → Buf (Elt Ideal) ℓ) : Prop :=
  ∀ c : Dev Cert.AddCoreRefIdeal.nD,
    (Cert.Pre_core_given.fn (F := Ideal) (m ((c.tc : Thread Cert.AddCoreRefIdeal.nD Cert.AddCoreRefIdeal.τ).loc Cert.AddCoreRefIdeal.main_arg0)) (m ((c.tc : Thread Cert.AddCoreRefIdeal.nD Cert.AddCoreRefIdeal.τ).loc Cert.AddCoreRefIdeal.main_arg1)) (m ((c.tc : Thread Cert.AddCoreRefIdeal.nD Cert.AddCoreRefIdeal.τ).loc Cert.AddCoreRefIdeal.main_arg2))) = (fun _ => 1#1)

def Pre_SumChips [hPre_chip_given : Cert.Pre_chip_given.Facts] (m : (ℓ : Loc Cert.SumChips.nD Cert.SumChips.τ Cert.SumChips.sig) → Buf (Elt Bits) ℓ) : Prop :=
  ∀ c : Dev Cert.SumChips.nD,
    (Cert.Pre_chip_given.fn (F := Bits) (m ((c.tc : Thread Cert.SumChips.nD Cert.SumChips.τ).loc Cert.SumChips.main_arg0)) (m ((c.tc : Thread Cert.SumChips.nD Cert.SumChips.τ).loc Cert.SumChips.main_arg1)) (m ((c.tc : Thread Cert.SumChips.nD Cert.SumChips.τ).loc Cert.SumChips.main_arg2))) = (fun _ => 1#1)

def Pre_SumChipsIdeal [hPre_chip_given : Cert.Pre_chip_given.Facts] (m : (ℓ : Loc Cert.SumChipsIdeal.nD Cert.SumChipsIdeal.τ Cert.SumChipsIdeal.sig) → Buf (Elt Ideal) ℓ) : Prop :=
  ∀ c : Dev Cert.SumChipsIdeal.nD,
    (Cert.Pre_chip_given.fn (F := Ideal) (m ((c.tc : Thread Cert.SumChipsIdeal.nD Cert.SumChipsIdeal.τ).loc Cert.SumChipsIdeal.main_arg0)) (m ((c.tc : Thread Cert.SumChipsIdeal.nD Cert.SumChipsIdeal.τ).loc Cert.SumChipsIdeal.main_arg1)) (m ((c.tc : Thread Cert.SumChipsIdeal.nD Cert.SumChipsIdeal.τ).loc Cert.SumChipsIdeal.main_arg2))) = (fun _ => 1#1)

def Pre_SumChipsRef (m : (ℓ : Loc Cert.SumChipsRef.nD Cert.SumChipsRef.τ Cert.SumChipsRef.sig) → Buf (Elt Bits) ℓ) : Prop :=
  True

def Pre_SumChipsRefIdeal (m : (ℓ : Loc Cert.SumChipsRefIdeal.nD Cert.SumChipsRefIdeal.τ Cert.SumChipsRefIdeal.sig) → Buf (Elt Ideal) ℓ) : Prop :=
  True

def Pre_SumChipsRefIdeal_chip_given [hPre_chip_given : Cert.Pre_chip_given.Facts] (m : (ℓ : Loc Cert.SumChipsRefIdeal.nD Cert.SumChipsRefIdeal.τ Cert.SumChipsRefIdeal.sig) → Buf (Elt Ideal) ℓ) : Prop :=
  ∀ c : Dev Cert.SumChipsRefIdeal.nD,
    (Cert.Pre_chip_given.fn (F := Ideal) (m ((c.tc : Thread Cert.SumChipsRefIdeal.nD Cert.SumChipsRefIdeal.τ).loc Cert.SumChipsRefIdeal.main_arg0)) (m ((c.tc : Thread Cert.SumChipsRefIdeal.nD Cert.SumChipsRefIdeal.τ).loc Cert.SumChipsRefIdeal.main_arg1)) (m ((c.tc : Thread Cert.SumChipsRefIdeal.nD Cert.SumChipsRefIdeal.τ).loc Cert.SumChipsRefIdeal.main_arg2))) = (fun _ => 1#1)

def Pre_GradQkv (m : (ℓ : Loc Cert.GradQkv.nD Cert.GradQkv.τ Cert.GradQkv.sig) → Buf (Elt Bits) ℓ) : Prop :=
  True

def Pre_GradQkvIdeal (m : (ℓ : Loc Cert.GradQkvIdeal.nD Cert.GradQkvIdeal.τ Cert.GradQkvIdeal.sig) → Buf (Elt Ideal) ℓ) : Prop :=
  True

def Pre_GradQkvRef (m : (ℓ : Loc Cert.GradQkvRef.nD Cert.GradQkvRef.τ Cert.GradQkvRef.sig) → Buf (Elt Bits) ℓ) : Prop :=
  True

def Pre_GradQkvRefIdeal (m : (ℓ : Loc Cert.GradQkvRefIdeal.nD Cert.GradQkvRefIdeal.τ Cert.GradQkvRefIdeal.sig) → Buf (Elt Ideal) ℓ) : Prop :=
  True

def Pre_GradRw (m : (ℓ : Loc Cert.GradRw.nD Cert.GradRw.τ Cert.GradRw.sig) → Buf (Elt Bits) ℓ) : Prop :=
  True

def Pre_GradRwIdeal (m : (ℓ : Loc Cert.GradRwIdeal.nD Cert.GradRwIdeal.τ Cert.GradRwIdeal.sig) → Buf (Elt Ideal) ℓ) : Prop :=
  True

def Pre_GradRwRef (m : (ℓ : Loc Cert.GradRwRef.nD Cert.GradRwRef.τ Cert.GradRwRef.sig) → Buf (Elt Bits) ℓ) : Prop :=
  True

def Pre_GradRwRefIdeal (m : (ℓ : Loc Cert.GradRwRefIdeal.nD Cert.GradRwRefIdeal.τ Cert.GradRwRefIdeal.sig) → Buf (Elt Ideal) ℓ) : Prop :=
  True

def Pre_GradGate (m : (ℓ : Loc Cert.GradGate.nD Cert.GradGate.τ Cert.GradGate.sig) → Buf (Elt Bits) ℓ) : Prop :=
  True

def Pre_GradGateIdeal (m : (ℓ : Loc Cert.GradGateIdeal.nD Cert.GradGateIdeal.τ Cert.GradGateIdeal.sig) → Buf (Elt Ideal) ℓ) : Prop :=
  True

def Pre_GradGateRef (m : (ℓ : Loc Cert.GradGateRef.nD Cert.GradGateRef.τ Cert.GradGateRef.sig) → Buf (Elt Bits) ℓ) : Prop :=
  True

def Pre_GradGateRefIdeal (m : (ℓ : Loc Cert.GradGateRefIdeal.nD Cert.GradGateRefIdeal.τ Cert.GradGateRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRef (m : (ℓ : Loc Cert.GradOutRef.nD Cert.GradOutRef.τ Cert.GradOutRef.sig) → Buf (Elt Bits) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradO (m : (ℓ : Loc Cert.GradO.nD Cert.GradO.τ Cert.GradO.sig) → Buf (Elt Bits) ℓ) : Prop :=
  True

def Pre_GradOIdeal (m : (ℓ : Loc Cert.GradOIdeal.nD Cert.GradOIdeal.τ Cert.GradOIdeal.sig) → Buf (Elt Ideal) ℓ) : Prop :=
  True

def Pre_GradORef (m : (ℓ : Loc Cert.GradORef.nD Cert.GradORef.τ Cert.GradORef.sig) → Buf (Elt Bits) ℓ) : Prop :=
  True

def Pre_GradORefIdeal (m : (ℓ : Loc Cert.GradORefIdeal.nD Cert.GradORefIdeal.τ Cert.GradORefIdeal.sig) → Buf (Elt Ideal) ℓ) : Prop :=
  True

def Pre_GradFfnUp (m : (ℓ : Loc Cert.GradFfnUp.nD Cert.GradFfnUp.τ Cert.GradFfnUp.sig) → Buf (Elt Bits) ℓ) : Prop :=
  True

def Pre_GradFfnUpIdeal (m : (ℓ : Loc Cert.GradFfnUpIdeal.nD Cert.GradFfnUpIdeal.τ Cert.GradFfnUpIdeal.sig) → Buf (Elt Ideal) ℓ) : Prop :=
  True

def Pre_GradFfnUpRef (m : (ℓ : Loc Cert.GradFfnUpRef.nD Cert.GradFfnUpRef.τ Cert.GradFfnUpRef.sig) → Buf (Elt Bits) ℓ) : Prop :=
  True

def Pre_GradFfnUpRefIdeal (m : (ℓ : Loc Cert.GradFfnUpRefIdeal.nD Cert.GradFfnUpRefIdeal.τ Cert.GradFfnUpRefIdeal.sig) → Buf (Elt Ideal) ℓ) : Prop :=
  True

def Pre_GradFfnDown (m : (ℓ : Loc Cert.GradFfnDown.nD Cert.GradFfnDown.τ Cert.GradFfnDown.sig) → Buf (Elt Bits) ℓ) : Prop :=
  True

def Pre_GradFfnDownIdeal (m : (ℓ : Loc Cert.GradFfnDownIdeal.nD Cert.GradFfnDownIdeal.τ Cert.GradFfnDownIdeal.sig) → Buf (Elt Ideal) ℓ) : Prop :=
  True

def Pre_GradFfnDownRef (m : (ℓ : Loc Cert.GradFfnDownRef.nD Cert.GradFfnDownRef.τ Cert.GradFfnDownRef.sig) → Buf (Elt Bits) ℓ) : Prop :=
  True

def Pre_GradFfnDownRefIdeal (m : (ℓ : Loc Cert.GradFfnDownRefIdeal.nD Cert.GradFfnDownRefIdeal.τ Cert.GradFfnDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRef (m : (ℓ : Loc Cert.InProjRef.nD Cert.InProjRef.τ Cert.InProjRef.sig) → Buf (Elt Bits) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjBack (m : (ℓ : Loc Cert.InProjBack.nD Cert.InProjBack.τ Cert.InProjBack.sig) → Buf (Elt Bits) ℓ) : Prop :=
  True

def Pre_InProjBackIdeal (m : (ℓ : Loc Cert.InProjBackIdeal.nD Cert.InProjBackIdeal.τ Cert.InProjBackIdeal.sig) → Buf (Elt Ideal) ℓ) : Prop :=
  True

def Pre_InProjBackRef (m : (ℓ : Loc Cert.InProjBackRef.nD Cert.InProjBackRef.τ Cert.InProjBackRef.sig) → Buf (Elt Bits) ℓ) : Prop :=
  True

def Pre_InProjBackRefIdeal (m : (ℓ : Loc Cert.InProjBackRefIdeal.nD Cert.InProjBackRefIdeal.τ Cert.InProjBackRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRef (m : (ℓ : Loc Cert.MergeRef.nD Cert.MergeRef.τ Cert.MergeRef.sig) → Buf (Elt Bits) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBack (m : (ℓ : Loc Cert.MergeBack.nD Cert.MergeBack.τ Cert.MergeBack.sig) → Buf (Elt Bits) ℓ) : Prop :=
  True

def Pre_MergeBackIdeal (m : (ℓ : Loc Cert.MergeBackIdeal.nD Cert.MergeBackIdeal.τ Cert.MergeBackIdeal.sig) → Buf (Elt Ideal) ℓ) : Prop :=
  True

def Pre_MergeBackRef (m : (ℓ : Loc Cert.MergeBackRef.nD Cert.MergeBackRef.τ Cert.MergeBackRef.sig) → Buf (Elt Bits) ℓ) : Prop :=
  True

def Pre_MergeBackRefIdeal (m : (ℓ : Loc Cert.MergeBackRefIdeal.nD Cert.MergeBackRefIdeal.τ Cert.MergeBackRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRef (m : (ℓ : Loc Cert.FfnRef.nD Cert.FfnRef.τ Cert.FfnRef.sig) → Buf (Elt Bits) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_Cores [hCores : Cert.Cores.Facts] : Prop :=
  ∀ (m : (ℓ : Loc Cert.Cores.nD Cert.Cores.τ Cert.Cores.sig) → Buf (Elt Bits) ℓ) (g : Dev Cert.Cores.nD → PrngReg), Pre_Cores m →
    θ_run (Cert.Cores.defs (F := Bits)) (onTc (τ := Cert.Cores.τ) (Cert.Cores.main (F := Bits))) ⟨m, fun _ => 0, g⟩ (fun r => (∀ c : Dev Cert.Cores.nD,
      r.2.mem ((c.tc : Thread Cert.Cores.nD Cert.Cores.τ).loc Cert.Cores.main_arg0) = m ((c.tc : Thread Cert.Cores.nD Cert.Cores.τ).loc Cert.Cores.main_arg0)
      ∧ r.2.mem ((c.tc : Thread Cert.Cores.nD Cert.Cores.τ).loc Cert.Cores.main_arg1) = m ((c.tc : Thread Cert.Cores.nD Cert.Cores.τ).loc Cert.Cores.main_arg1))
      ∧ r.2.sem = fun _ => 0)

def quiescent_CoresIdeal [hCoresIdeal : Cert.CoresIdeal.Facts] : Prop :=
  ∀ (m : (ℓ : Loc Cert.CoresIdeal.nD Cert.CoresIdeal.τ Cert.CoresIdeal.sig) → Buf (Elt Ideal) ℓ) (g : Dev Cert.CoresIdeal.nD → PrngReg), Pre_CoresIdeal m →
    θ_run (Cert.CoresIdeal.defs (F := Ideal)) (onTc (τ := Cert.CoresIdeal.τ) (Cert.CoresIdeal.main (F := Ideal))) ⟨m, fun _ => 0, g⟩ (fun r => (∀ c : Dev Cert.CoresIdeal.nD,
      r.2.mem ((c.tc : Thread Cert.CoresIdeal.nD Cert.CoresIdeal.τ).loc Cert.CoresIdeal.main_arg0) = m ((c.tc : Thread Cert.CoresIdeal.nD Cert.CoresIdeal.τ).loc Cert.CoresIdeal.main_arg0)
      ∧ r.2.mem ((c.tc : Thread Cert.CoresIdeal.nD Cert.CoresIdeal.τ).loc Cert.CoresIdeal.main_arg1) = m ((c.tc : Thread Cert.CoresIdeal.nD Cert.CoresIdeal.τ).loc Cert.CoresIdeal.main_arg1))
      ∧ r.2.sem = fun _ => 0)

def quiescent_CoresRef [hCoresRef : Cert.CoresRef.Facts] : Prop :=
  ∀ (m : (ℓ : Loc Cert.CoresRef.nD Cert.CoresRef.τ Cert.CoresRef.sig) → Buf (Elt Bits) ℓ) (g : Dev Cert.CoresRef.nD → PrngReg), Pre_CoresRef m →
    θ_run (Cert.CoresRef.defs (F := Bits)) (onTc (τ := Cert.CoresRef.τ) (Cert.CoresRef.main (F := Bits))) ⟨m, fun _ => 0, g⟩ (fun r => (∀ c : Dev Cert.CoresRef.nD,
      r.2.mem ((c.tc : Thread Cert.CoresRef.nD Cert.CoresRef.τ).loc Cert.CoresRef.main_arg0) = m ((c.tc : Thread Cert.CoresRef.nD Cert.CoresRef.τ).loc Cert.CoresRef.main_arg0)
      ∧ r.2.mem ((c.tc : Thread Cert.CoresRef.nD Cert.CoresRef.τ).loc Cert.CoresRef.main_arg1) = m ((c.tc : Thread Cert.CoresRef.nD Cert.CoresRef.τ).loc Cert.CoresRef.main_arg1))
      ∧ r.2.sem = fun _ => 0)

def quiescent_CoresRefIdeal [hCoresRefIdeal : Cert.CoresRefIdeal.Facts] : Prop :=
  ∀ (m : (ℓ : Loc Cert.CoresRefIdeal.nD Cert.CoresRefIdeal.τ Cert.CoresRefIdeal.sig) → Buf (Elt Ideal) ℓ) (g : Dev Cert.CoresRefIdeal.nD → PrngReg), Pre_CoresRefIdeal m →
    θ_run (Cert.CoresRefIdeal.defs (F := Ideal)) (onTc (τ := Cert.CoresRefIdeal.τ) (Cert.CoresRefIdeal.main (F := Ideal))) ⟨m, fun _ => 0, g⟩ (fun r => (∀ c : Dev Cert.CoresRefIdeal.nD,
      r.2.mem ((c.tc : Thread Cert.CoresRefIdeal.nD Cert.CoresRefIdeal.τ).loc Cert.CoresRefIdeal.main_arg0) = m ((c.tc : Thread Cert.CoresRefIdeal.nD Cert.CoresRefIdeal.τ).loc Cert.CoresRefIdeal.main_arg0)
      ∧ r.2.mem ((c.tc : Thread Cert.CoresRefIdeal.nD Cert.CoresRefIdeal.τ).loc Cert.CoresRefIdeal.main_arg1) = m ((c.tc : Thread Cert.CoresRefIdeal.nD Cert.CoresRefIdeal.τ).loc Cert.CoresRefIdeal.main_arg1))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ r.2.sem = fun _ => 0)

def quiescent_ChipsRef [hChipsRef : Cert.ChipsRef.Facts] : Prop :=
  ∀ (m : (ℓ : Loc Cert.ChipsRef.nD Cert.ChipsRef.τ Cert.ChipsRef.sig) → Buf (Elt Bits) ℓ) (g : Dev Cert.ChipsRef.nD → PrngReg), Pre_ChipsRef m →
    θ_run (Cert.ChipsRef.defs (F := Bits)) (onTc (τ := Cert.ChipsRef.τ) (Cert.ChipsRef.main (F := Bits))) ⟨m, fun _ => 0, g⟩ (fun r => (∀ c : Dev Cert.ChipsRef.nD,
      r.2.mem ((c.tc : Thread Cert.ChipsRef.nD Cert.ChipsRef.τ).loc Cert.ChipsRef.main_arg0) = m ((c.tc : Thread Cert.ChipsRef.nD Cert.ChipsRef.τ).loc Cert.ChipsRef.main_arg0))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRef [hAdamInRef : Cert.AdamInRef.Facts] : Prop :=
  ∀ (m : (ℓ : Loc Cert.AdamInRef.nD Cert.AdamInRef.τ Cert.AdamInRef.sig) → Buf (Elt Bits) ℓ) (g : Dev Cert.AdamInRef.nD → PrngReg), Pre_AdamInRef m →
    θ_run (Cert.AdamInRef.defs (F := Bits)) (onTc (τ := Cert.AdamInRef.τ) (Cert.AdamInRef.main (F := Bits))) ⟨m, fun _ => 0, g⟩ (fun r => (∀ c : Dev Cert.AdamInRef.nD,
      r.2.mem ((c.tc : Thread Cert.AdamInRef.nD Cert.AdamInRef.τ).loc Cert.AdamInRef.main_arg0) = m ((c.tc : Thread Cert.AdamInRef.nD Cert.AdamInRef.τ).loc Cert.AdamInRef.main_arg0)
      ∧ r.2.mem ((c.tc : Thread Cert.AdamInRef.nD Cert.AdamInRef.τ).loc Cert.AdamInRef.main_arg1) = m ((c.tc : Thread Cert.AdamInRef.nD Cert.AdamInRef.τ).loc Cert.AdamInRef.main_arg1)
      ∧ r.2.mem ((c.tc : Thread Cert.AdamInRef.nD Cert.AdamInRef.τ).loc Cert.AdamInRef.main_arg2) = m ((c.tc : Thread Cert.AdamInRef.nD Cert.AdamInRef.τ).loc Cert.AdamInRef.main_arg2)
      ∧ r.2.mem ((c.tc : Thread Cert.AdamInRef.nD Cert.AdamInRef.τ).loc Cert.AdamInRef.main_arg3) = m ((c.tc : Thread Cert.AdamInRef.nD Cert.AdamInRef.τ).loc Cert.AdamInRef.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRef [hAdamUpRef : Cert.AdamUpRef.Facts] : Prop :=
  ∀ (m : (ℓ : Loc Cert.AdamUpRef.nD Cert.AdamUpRef.τ Cert.AdamUpRef.sig) → Buf (Elt Bits) ℓ) (g : Dev Cert.AdamUpRef.nD → PrngReg), Pre_AdamUpRef m →
    θ_run (Cert.AdamUpRef.defs (F := Bits)) (onTc (τ := Cert.AdamUpRef.τ) (Cert.AdamUpRef.main (F := Bits))) ⟨m, fun _ => 0, g⟩ (fun r => (∀ c : Dev Cert.AdamUpRef.nD,
      r.2.mem ((c.tc : Thread Cert.AdamUpRef.nD Cert.AdamUpRef.τ).loc Cert.AdamUpRef.main_arg0) = m ((c.tc : Thread Cert.AdamUpRef.nD Cert.AdamUpRef.τ).loc Cert.AdamUpRef.main_arg0)
      ∧ r.2.mem ((c.tc : Thread Cert.AdamUpRef.nD Cert.AdamUpRef.τ).loc Cert.AdamUpRef.main_arg1) = m ((c.tc : Thread Cert.AdamUpRef.nD Cert.AdamUpRef.τ).loc Cert.AdamUpRef.main_arg1)
      ∧ r.2.mem ((c.tc : Thread Cert.AdamUpRef.nD Cert.AdamUpRef.τ).loc Cert.AdamUpRef.main_arg2) = m ((c.tc : Thread Cert.AdamUpRef.nD Cert.AdamUpRef.τ).loc Cert.AdamUpRef.main_arg2)
      ∧ r.2.mem ((c.tc : Thread Cert.AdamUpRef.nD Cert.AdamUpRef.τ).loc Cert.AdamUpRef.main_arg3) = m ((c.tc : Thread Cert.AdamUpRef.nD Cert.AdamUpRef.τ).loc Cert.AdamUpRef.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamGateUp [hAdamGateUp : Cert.AdamGateUp.Facts] : Prop :=
  ∀ (m : (ℓ : Loc Cert.AdamGateUp.nD Cert.AdamGateUp.τ Cert.AdamGateUp.sig) → Buf (Elt Bits) ℓ) (g : Dev Cert.AdamGateUp.nD → PrngReg), Pre_AdamGateUp m →
    θ_run (Cert.AdamGateUp.defs (F := Bits)) (onTc (τ := Cert.AdamGateUp.τ) (Cert.AdamGateUp.main (F := Bits))) ⟨m, fun _ => 0, g⟩ (fun r => (∀ c : Dev Cert.AdamGateUp.nD,
      r.2.mem ((c.tc : Thread Cert.AdamGateUp.nD Cert.AdamGateUp.τ).loc Cert.AdamGateUp.main_arg0) = m ((c.tc : Thread Cert.AdamGateUp.nD Cert.AdamGateUp.τ).loc Cert.AdamGateUp.main_arg0)
      ∧ r.2.mem ((c.tc : Thread Cert.AdamGateUp.nD Cert.AdamGateUp.τ).loc Cert.AdamGateUp.main_arg1) = m ((c.tc : Thread Cert.AdamGateUp.nD Cert.AdamGateUp.τ).loc Cert.AdamGateUp.main_arg1)
      ∧ r.2.mem ((c.tc : Thread Cert.AdamGateUp.nD Cert.AdamGateUp.τ).loc Cert.AdamGateUp.main_arg2) = m ((c.tc : Thread Cert.AdamGateUp.nD Cert.AdamGateUp.τ).loc Cert.AdamGateUp.main_arg2)
      ∧ r.2.mem ((c.tc : Thread Cert.AdamGateUp.nD Cert.AdamGateUp.τ).loc Cert.AdamGateUp.main_arg3) = m ((c.tc : Thread Cert.AdamGateUp.nD Cert.AdamGateUp.τ).loc Cert.AdamGateUp.main_arg3))
      ∧ r.2.sem = fun _ => 0)

def quiescent_AdamGateUpIdeal [hAdamGateUpIdeal : Cert.AdamGateUpIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg), Pre_AdamGateUpIdeal m →
    θ_run (Cert.AdamGateUpIdeal.defs (F := Ideal)) (onTc (τ := Cert.AdamGateUpIdeal.τ) (Cert.AdamGateUpIdeal.main (F := Ideal))) ⟨m, fun _ => 0, g⟩ (fun r => (∀ c : Dev Cert.AdamGateUpIdeal.nD,
      r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
      ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
      ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
      ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ r.2.sem = fun _ => 0)

def quiescent_AdamGateUpRef [hAdamGateUpRef : Cert.AdamGateUpRef.Facts] : Prop :=
  ∀ (m : (ℓ : Loc Cert.AdamGateUpRef.nD Cert.AdamGateUpRef.τ Cert.AdamGateUpRef.sig) → Buf (Elt Bits) ℓ) (g : Dev Cert.AdamGateUpRef.nD → PrngReg), Pre_AdamGateUpRef m →
    θ_run (Cert.AdamGateUpRef.defs (F := Bits)) (onTc (τ := Cert.AdamGateUpRef.τ) (Cert.AdamGateUpRef.main (F := Bits))) ⟨m, fun _ => 0, g⟩ (fun r => (∀ c : Dev Cert.AdamGateUpRef.nD,
      r.2.mem ((c.tc : Thread Cert.AdamGateUpRef.nD Cert.AdamGateUpRef.τ).loc Cert.AdamGateUpRef.main_arg0) = m ((c.tc : Thread Cert.AdamGateUpRef.nD Cert.AdamGateUpRef.τ).loc Cert.AdamGateUpRef.main_arg0)
      ∧ r.2.mem ((c.tc : Thread Cert.AdamGateUpRef.nD Cert.AdamGateUpRef.τ).loc Cert.AdamGateUpRef.main_arg1) = m ((c.tc : Thread Cert.AdamGateUpRef.nD Cert.AdamGateUpRef.τ).loc Cert.AdamGateUpRef.main_arg1)
      ∧ r.2.mem ((c.tc : Thread Cert.AdamGateUpRef.nD Cert.AdamGateUpRef.τ).loc Cert.AdamGateUpRef.main_arg2) = m ((c.tc : Thread Cert.AdamGateUpRef.nD Cert.AdamGateUpRef.τ).loc Cert.AdamGateUpRef.main_arg2)
      ∧ r.2.mem ((c.tc : Thread Cert.AdamGateUpRef.nD Cert.AdamGateUpRef.τ).loc Cert.AdamGateUpRef.main_arg3) = m ((c.tc : Thread Cert.AdamGateUpRef.nD Cert.AdamGateUpRef.τ).loc Cert.AdamGateUpRef.main_arg3))
      ∧ r.2.sem = fun _ => 0)

def quiescent_AdamGateUpRefIdeal [hAdamGateUpRefIdeal : Cert.AdamGateUpRefIdeal.Facts] : Prop :=
  ∀ (m : (ℓ : Loc Cert.AdamGateUpRefIdeal.nD Cert.AdamGateUpRefIdeal.τ Cert.AdamGateUpRefIdeal.sig) → Buf (Elt Ideal) ℓ) (g : Dev Cert.AdamGateUpRefIdeal.nD → PrngReg), Pre_AdamGateUpRefIdeal m →
    θ_run (Cert.AdamGateUpRefIdeal.defs (F := Ideal)) (onTc (τ := Cert.AdamGateUpRefIdeal.τ) (Cert.AdamGateUpRefIdeal.main (F := Ideal))) ⟨m, fun _ => 0, g⟩ (fun r => (∀ c : Dev Cert.AdamGateUpRefIdeal.nD,
      r.2.mem ((c.tc : Thread Cert.AdamGateUpRefIdeal.nD Cert.AdamGateUpRefIdeal.τ).loc Cert.AdamGateUpRefIdeal.main_arg0) = m ((c.tc : Thread Cert.AdamGateUpRefIdeal.nD Cert.AdamGateUpRefIdeal.τ).loc Cert.AdamGateUpRefIdeal.main_arg0)
      ∧ r.2.mem ((c.tc : Thread Cert.AdamGateUpRefIdeal.nD Cert.AdamGateUpRefIdeal.τ).loc Cert.AdamGateUpRefIdeal.main_arg1) = m ((c.tc : Thread Cert.AdamGateUpRefIdeal.nD Cert.AdamGateUpRefIdeal.τ).loc Cert.AdamGateUpRefIdeal.main_arg1)
      ∧ r.2.mem ((c.tc : Thread Cert.AdamGateUpRefIdeal.nD Cert.AdamGateUpRefIdeal.τ).loc Cert.AdamGateUpRefIdeal.main_arg2) = m ((c.tc : Thread Cert.AdamGateUpRefIdeal.nD Cert.AdamGateUpRefIdeal.τ).loc Cert.AdamGateUpRefIdeal.main_arg2)
      ∧ r.2.mem ((c.tc : Thread Cert.AdamGateUpRefIdeal.nD Cert.AdamGateUpRefIdeal.τ).loc Cert.AdamGateUpRefIdeal.main_arg3) = m ((c.tc : Thread Cert.AdamGateUpRefIdeal.nD Cert.AdamGateUpRefIdeal.τ).loc Cert.AdamGateUpRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRef [hAdamOutRef : Cert.AdamOutRef.Facts] : Prop :=
  ∀ (m : (ℓ : Loc Cert.AdamOutRef.nD Cert.AdamOutRef.τ Cert.AdamOutRef.sig) → Buf (Elt Bits) ℓ) (g : Dev Cert.AdamOutRef.nD → PrngReg), Pre_AdamOutRef m →
    θ_run (Cert.AdamOutRef.defs (F := Bits)) (onTc (τ := Cert.AdamOutRef.τ) (Cert.AdamOutRef.main (F := Bits))) ⟨m, fun _ => 0, g⟩ (fun r => (∀ c : Dev Cert.AdamOutRef.nD,
      r.2.mem ((c.tc : Thread Cert.AdamOutRef.nD Cert.AdamOutRef.τ).loc Cert.AdamOutRef.main_arg0) = m ((c.tc : Thread Cert.AdamOutRef.nD Cert.AdamOutRef.τ).loc Cert.AdamOutRef.main_arg0)
      ∧ r.2.mem ((c.tc : Thread Cert.AdamOutRef.nD Cert.AdamOutRef.τ).loc Cert.AdamOutRef.main_arg1) = m ((c.tc : Thread Cert.AdamOutRef.nD Cert.AdamOutRef.τ).loc Cert.AdamOutRef.main_arg1)
      ∧ r.2.mem ((c.tc : Thread Cert.AdamOutRef.nD Cert.AdamOutRef.τ).loc Cert.AdamOutRef.main_arg2) = m ((c.tc : Thread Cert.AdamOutRef.nD Cert.AdamOutRef.τ).loc Cert.AdamOutRef.main_arg2)
      ∧ r.2.mem ((c.tc : Thread Cert.AdamOutRef.nD Cert.AdamOutRef.τ).loc Cert.AdamOutRef.main_arg3) = m ((c.tc : Thread Cert.AdamOutRef.nD Cert.AdamOutRef.τ).loc Cert.AdamOutRef.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ r.2.sem = fun _ => 0)

def quiescent_AdamORef [hAdamORef : Cert.AdamORef.Facts] : Prop :=
  ∀ (m : (ℓ : Loc Cert.AdamORef.nD Cert.AdamORef.τ Cert.AdamORef.sig) → Buf (Elt Bits) ℓ) (g : Dev Cert.AdamORef.nD → PrngReg), Pre_AdamORef m →
    θ_run (Cert.AdamORef.defs (F := Bits)) (onTc (τ := Cert.AdamORef.τ) (Cert.AdamORef.main (F := Bits))) ⟨m, fun _ => 0, g⟩ (fun r => (∀ c : Dev Cert.AdamORef.nD,
      r.2.mem ((c.tc : Thread Cert.AdamORef.nD Cert.AdamORef.τ).loc Cert.AdamORef.main_arg0) = m ((c.tc : Thread Cert.AdamORef.nD Cert.AdamORef.τ).loc Cert.AdamORef.main_arg0)
      ∧ r.2.mem ((c.tc : Thread Cert.AdamORef.nD Cert.AdamORef.τ).loc Cert.AdamORef.main_arg1) = m ((c.tc : Thread Cert.AdamORef.nD Cert.AdamORef.τ).loc Cert.AdamORef.main_arg1)
      ∧ r.2.mem ((c.tc : Thread Cert.AdamORef.nD Cert.AdamORef.τ).loc Cert.AdamORef.main_arg2) = m ((c.tc : Thread Cert.AdamORef.nD Cert.AdamORef.τ).loc Cert.AdamORef.main_arg2)
      ∧ r.2.mem ((c.tc : Thread Cert.AdamORef.nD Cert.AdamORef.τ).loc Cert.AdamORef.main_arg3) = m ((c.tc : Thread Cert.AdamORef.nD Cert.AdamORef.τ).loc Cert.AdamORef.main_arg3))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3))
      ∧ r.2.sem = fun _ => 0)

def quiescent_AdamFfnUp [hAdamFfnUp : Cert.AdamFfnUp.Facts] : Prop :=
  ∀ (m : (ℓ : Loc Cert.AdamFfnUp.nD Cert.AdamFfnUp.τ Cert.AdamFfnUp.sig) → Buf (Elt Bits) ℓ) (g : Dev Cert.AdamFfnUp.nD → PrngReg), Pre_AdamFfnUp m →
    θ_run (Cert.AdamFfnUp.defs (F := Bits)) (onTc (τ := Cert.AdamFfnUp.τ) (Cert.AdamFfnUp.main (F := Bits))) ⟨m, fun _ => 0, g⟩ (fun r => (∀ c : Dev Cert.AdamFfnUp.nD,
      r.2.mem ((c.tc : Thread Cert.AdamFfnUp.nD Cert.AdamFfnUp.τ).loc Cert.AdamFfnUp.main_arg0) = m ((c.tc : Thread Cert.AdamFfnUp.nD Cert.AdamFfnUp.τ).loc Cert.AdamFfnUp.main_arg0)
      ∧ r.2.mem ((c.tc : Thread Cert.AdamFfnUp.nD Cert.AdamFfnUp.τ).loc Cert.AdamFfnUp.main_arg1) = m ((c.tc : Thread Cert.AdamFfnUp.nD Cert.AdamFfnUp.τ).loc Cert.AdamFfnUp.main_arg1)
      ∧ r.2.mem ((c.tc : Thread Cert.AdamFfnUp.nD Cert.AdamFfnUp.τ).loc Cert.AdamFfnUp.main_arg2) = m ((c.tc : Thread Cert.AdamFfnUp.nD Cert.AdamFfnUp.τ).loc Cert.AdamFfnUp.main_arg2)
      ∧ r.2.mem ((c.tc : Thread Cert.AdamFfnUp.nD Cert.AdamFfnUp.τ).loc Cert.AdamFfnUp.main_arg3) = m ((c.tc : Thread Cert.AdamFfnUp.nD Cert.AdamFfnUp.τ).loc Cert.AdamFfnUp.main_arg3))
      ∧ r.2.sem = fun _ => 0)

def quiescent_AdamFfnUpIdeal [hAdamFfnUpIdeal : Cert.AdamFfnUpIdeal.Facts] : Prop :=
  ∀ (m : (ℓ : Loc Cert.AdamFfnUpIdeal.nD Cert.AdamFfnUpIdeal.τ Cert.AdamFfnUpIdeal.sig) → Buf (Elt Ideal) ℓ) (g : Dev Cert.AdamFfnUpIdeal.nD → PrngReg), Pre_AdamFfnUpIdeal m →
    θ_run (Cert.AdamFfnUpIdeal.defs (F := Ideal)) (onTc (τ := Cert.AdamFfnUpIdeal.τ) (Cert.AdamFfnUpIdeal.main (F := Ideal))) ⟨m, fun _ => 0, g⟩ (fun r => (∀ c : Dev Cert.AdamFfnUpIdeal.nD,
      r.2.mem ((c.tc : Thread Cert.AdamFfnUpIdeal.nD Cert.AdamFfnUpIdeal.τ).loc Cert.AdamFfnUpIdeal.main_arg0) = m ((c.tc : Thread Cert.AdamFfnUpIdeal.nD Cert.AdamFfnUpIdeal.τ).loc Cert.AdamFfnUpIdeal.main_arg0)
      ∧ r.2.mem ((c.tc : Thread Cert.AdamFfnUpIdeal.nD Cert.AdamFfnUpIdeal.τ).loc Cert.AdamFfnUpIdeal.main_arg1) = m ((c.tc : Thread Cert.AdamFfnUpIdeal.nD Cert.AdamFfnUpIdeal.τ).loc Cert.AdamFfnUpIdeal.main_arg1)
      ∧ r.2.mem ((c.tc : Thread Cert.AdamFfnUpIdeal.nD Cert.AdamFfnUpIdeal.τ).loc Cert.AdamFfnUpIdeal.main_arg2) = m ((c.tc : Thread Cert.AdamFfnUpIdeal.nD Cert.AdamFfnUpIdeal.τ).loc Cert.AdamFfnUpIdeal.main_arg2)
      ∧ r.2.mem ((c.tc : Thread Cert.AdamFfnUpIdeal.nD Cert.AdamFfnUpIdeal.τ).loc Cert.AdamFfnUpIdeal.main_arg3) = m ((c.tc : Thread Cert.AdamFfnUpIdeal.nD Cert.AdamFfnUpIdeal.τ).loc Cert.AdamFfnUpIdeal.main_arg3))
      ∧ r.2.sem = fun _ => 0)

def quiescent_AdamFfnUpRef [hAdamFfnUpRef : Cert.AdamFfnUpRef.Facts] : Prop :=
  ∀ (m : (ℓ : Loc Cert.AdamFfnUpRef.nD Cert.AdamFfnUpRef.τ Cert.AdamFfnUpRef.sig) → Buf (Elt Bits) ℓ) (g : Dev Cert.AdamFfnUpRef.nD → PrngReg), Pre_AdamFfnUpRef m →
    θ_run (Cert.AdamFfnUpRef.defs (F := Bits)) (onTc (τ := Cert.AdamFfnUpRef.τ) (Cert.AdamFfnUpRef.main (F := Bits))) ⟨m, fun _ => 0, g⟩ (fun r => (∀ c : Dev Cert.AdamFfnUpRef.nD,
      r.2.mem ((c.tc : Thread Cert.AdamFfnUpRef.nD Cert.AdamFfnUpRef.τ).loc Cert.AdamFfnUpRef.main_arg0) = m ((c.tc : Thread Cert.AdamFfnUpRef.nD Cert.AdamFfnUpRef.τ).loc Cert.AdamFfnUpRef.main_arg0)
      ∧ r.2.mem ((c.tc : Thread Cert.AdamFfnUpRef.nD Cert.AdamFfnUpRef.τ).loc Cert.AdamFfnUpRef.main_arg1) = m ((c.tc : Thread Cert.AdamFfnUpRef.nD Cert.AdamFfnUpRef.τ).loc Cert.AdamFfnUpRef.main_arg1)
      ∧ r.2.mem ((c.tc : Thread Cert.AdamFfnUpRef.nD Cert.AdamFfnUpRef.τ).loc Cert.AdamFfnUpRef.main_arg2) = m ((c.tc : Thread Cert.AdamFfnUpRef.nD Cert.AdamFfnUpRef.τ).loc Cert.AdamFfnUpRef.main_arg2)
      ∧ r.2.mem ((c.tc : Thread Cert.AdamFfnUpRef.nD Cert.AdamFfnUpRef.τ).loc Cert.AdamFfnUpRef.main_arg3) = m ((c.tc : Thread Cert.AdamFfnUpRef.nD Cert.AdamFfnUpRef.τ).loc Cert.AdamFfnUpRef.main_arg3))
      ∧ r.2.sem = fun _ => 0)

def quiescent_AdamFfnUpRefIdeal [hAdamFfnUpRefIdeal : Cert.AdamFfnUpRefIdeal.Facts] : Prop :=
  ∀ (m : (ℓ : Loc Cert.AdamFfnUpRefIdeal.nD Cert.AdamFfnUpRefIdeal.τ Cert.AdamFfnUpRefIdeal.sig) → Buf (Elt Ideal) ℓ) (g : Dev Cert.AdamFfnUpRefIdeal.nD → PrngReg), Pre_AdamFfnUpRefIdeal m →
    θ_run (Cert.AdamFfnUpRefIdeal.defs (F := Ideal)) (onTc (τ := Cert.AdamFfnUpRefIdeal.τ) (Cert.AdamFfnUpRefIdeal.main (F := Ideal))) ⟨m, fun _ => 0, g⟩ (fun r => (∀ c : Dev Cert.AdamFfnUpRefIdeal.nD,
      r.2.mem ((c.tc : Thread Cert.AdamFfnUpRefIdeal.nD Cert.AdamFfnUpRefIdeal.τ).loc Cert.AdamFfnUpRefIdeal.main_arg0) = m ((c.tc : Thread Cert.AdamFfnUpRefIdeal.nD Cert.AdamFfnUpRefIdeal.τ).loc Cert.AdamFfnUpRefIdeal.main_arg0)
      ∧ r.2.mem ((c.tc : Thread Cert.AdamFfnUpRefIdeal.nD Cert.AdamFfnUpRefIdeal.τ).loc Cert.AdamFfnUpRefIdeal.main_arg1) = m ((c.tc : Thread Cert.AdamFfnUpRefIdeal.nD Cert.AdamFfnUpRefIdeal.τ).loc Cert.AdamFfnUpRefIdeal.main_arg1)
      ∧ r.2.mem ((c.tc : Thread Cert.AdamFfnUpRefIdeal.nD Cert.AdamFfnUpRefIdeal.τ).loc Cert.AdamFfnUpRefIdeal.main_arg2) = m ((c.tc : Thread Cert.AdamFfnUpRefIdeal.nD Cert.AdamFfnUpRefIdeal.τ).loc Cert.AdamFfnUpRefIdeal.main_arg2)
      ∧ r.2.mem ((c.tc : Thread Cert.AdamFfnUpRefIdeal.nD Cert.AdamFfnUpRefIdeal.τ).loc Cert.AdamFfnUpRefIdeal.main_arg3) = m ((c.tc : Thread Cert.AdamFfnUpRefIdeal.nD Cert.AdamFfnUpRefIdeal.τ).loc Cert.AdamFfnUpRefIdeal.main_arg3))
      ∧ r.2.sem = fun _ => 0)

def quiescent_AdamFfnDown [hAdamFfnDown : Cert.AdamFfnDown.Facts] : Prop :=
  ∀ (m : (ℓ : Loc Cert.AdamFfnDown.nD Cert.AdamFfnDown.τ Cert.AdamFfnDown.sig) → Buf (Elt Bits) ℓ) (g : Dev Cert.AdamFfnDown.nD → PrngReg), Pre_AdamFfnDown m →
    θ_run (Cert.AdamFfnDown.defs (F := Bits)) (onTc (τ := Cert.AdamFfnDown.τ) (Cert.AdamFfnDown.main (F := Bits))) ⟨m, fun _ => 0, g⟩ (fun r => (∀ c : Dev Cert.AdamFfnDown.nD,
      r.2.mem ((c.tc : Thread Cert.AdamFfnDown.nD Cert.AdamFfnDown.τ).loc Cert.AdamFfnDown.main_arg0) = m ((c.tc : Thread Cert.AdamFfnDown.nD Cert.AdamFfnDown.τ).loc Cert.AdamFfnDown.main_arg0)
      ∧ r.2.mem ((c.tc : Thread Cert.AdamFfnDown.nD Cert.AdamFfnDown.τ).loc Cert.AdamFfnDown.main_arg1) = m ((c.tc : Thread Cert.AdamFfnDown.nD Cert.AdamFfnDown.τ).loc Cert.AdamFfnDown.main_arg1)
      ∧ r.2.mem ((c.tc : Thread Cert.AdamFfnDown.nD Cert.AdamFfnDown.τ).loc Cert.AdamFfnDown.main_arg2) = m ((c.tc : Thread Cert.AdamFfnDown.nD Cert.AdamFfnDown.τ).loc Cert.AdamFfnDown.main_arg2)
      ∧ r.2.mem ((c.tc : Thread Cert.AdamFfnDown.nD Cert.AdamFfnDown.τ).loc Cert.AdamFfnDown.main_arg3) = m ((c.tc : Thread Cert.AdamFfnDown.nD Cert.AdamFfnDown.τ).loc Cert.AdamFfnDown.main_arg3))
      ∧ r.2.sem = fun _ => 0)

def quiescent_AdamFfnDownIdeal [hAdamFfnDownIdeal : Cert.AdamFfnDownIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg), Pre_AdamFfnDownIdeal m →
    θ_run (Cert.AdamFfnDownIdeal.defs (F := Ideal)) (onTc (τ := Cert.AdamFfnDownIdeal.τ) (Cert.AdamFfnDownIdeal.main (F := Ideal))) ⟨m, fun _ => 0, g⟩ (fun r => (∀ c : Dev Cert.AdamFfnDownIdeal.nD,
      r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
      ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
      ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
      ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ r.2.sem = fun _ => 0)

def quiescent_AdamFfnDownRef [hAdamFfnDownRef : Cert.AdamFfnDownRef.Facts] : Prop :=
  ∀ (m : (ℓ : Loc Cert.AdamFfnDownRef.nD Cert.AdamFfnDownRef.τ Cert.AdamFfnDownRef.sig) → Buf (Elt Bits) ℓ) (g : Dev Cert.AdamFfnDownRef.nD → PrngReg), Pre_AdamFfnDownRef m →
    θ_run (Cert.AdamFfnDownRef.defs (F := Bits)) (onTc (τ := Cert.AdamFfnDownRef.τ) (Cert.AdamFfnDownRef.main (F := Bits))) ⟨m, fun _ => 0, g⟩ (fun r => (∀ c : Dev Cert.AdamFfnDownRef.nD,
      r.2.mem ((c.tc : Thread Cert.AdamFfnDownRef.nD Cert.AdamFfnDownRef.τ).loc Cert.AdamFfnDownRef.main_arg0) = m ((c.tc : Thread Cert.AdamFfnDownRef.nD Cert.AdamFfnDownRef.τ).loc Cert.AdamFfnDownRef.main_arg0)
      ∧ r.2.mem ((c.tc : Thread Cert.AdamFfnDownRef.nD Cert.AdamFfnDownRef.τ).loc Cert.AdamFfnDownRef.main_arg1) = m ((c.tc : Thread Cert.AdamFfnDownRef.nD Cert.AdamFfnDownRef.τ).loc Cert.AdamFfnDownRef.main_arg1)
      ∧ r.2.mem ((c.tc : Thread Cert.AdamFfnDownRef.nD Cert.AdamFfnDownRef.τ).loc Cert.AdamFfnDownRef.main_arg2) = m ((c.tc : Thread Cert.AdamFfnDownRef.nD Cert.AdamFfnDownRef.τ).loc Cert.AdamFfnDownRef.main_arg2)
      ∧ r.2.mem ((c.tc : Thread Cert.AdamFfnDownRef.nD Cert.AdamFfnDownRef.τ).loc Cert.AdamFfnDownRef.main_arg3) = m ((c.tc : Thread Cert.AdamFfnDownRef.nD Cert.AdamFfnDownRef.τ).loc Cert.AdamFfnDownRef.main_arg3))
      ∧ r.2.sem = fun _ => 0)

def quiescent_AdamFfnDownRefIdeal [hAdamFfnDownRefIdeal : Cert.AdamFfnDownRefIdeal.Facts] : Prop :=
  ∀ (m : (ℓ : Loc Cert.AdamFfnDownRefIdeal.nD Cert.AdamFfnDownRefIdeal.τ Cert.AdamFfnDownRefIdeal.sig) → Buf (Elt Ideal) ℓ) (g : Dev Cert.AdamFfnDownRefIdeal.nD → PrngReg), Pre_AdamFfnDownRefIdeal m →
    θ_run (Cert.AdamFfnDownRefIdeal.defs (F := Ideal)) (onTc (τ := Cert.AdamFfnDownRefIdeal.τ) (Cert.AdamFfnDownRefIdeal.main (F := Ideal))) ⟨m, fun _ => 0, g⟩ (fun r => (∀ c : Dev Cert.AdamFfnDownRefIdeal.nD,
      r.2.mem ((c.tc : Thread Cert.AdamFfnDownRefIdeal.nD Cert.AdamFfnDownRefIdeal.τ).loc Cert.AdamFfnDownRefIdeal.main_arg0) = m ((c.tc : Thread Cert.AdamFfnDownRefIdeal.nD Cert.AdamFfnDownRefIdeal.τ).loc Cert.AdamFfnDownRefIdeal.main_arg0)
      ∧ r.2.mem ((c.tc : Thread Cert.AdamFfnDownRefIdeal.nD Cert.AdamFfnDownRefIdeal.τ).loc Cert.AdamFfnDownRefIdeal.main_arg1) = m ((c.tc : Thread Cert.AdamFfnDownRefIdeal.nD Cert.AdamFfnDownRefIdeal.τ).loc Cert.AdamFfnDownRefIdeal.main_arg1)
      ∧ r.2.mem ((c.tc : Thread Cert.AdamFfnDownRefIdeal.nD Cert.AdamFfnDownRefIdeal.τ).loc Cert.AdamFfnDownRefIdeal.main_arg2) = m ((c.tc : Thread Cert.AdamFfnDownRefIdeal.nD Cert.AdamFfnDownRefIdeal.τ).loc Cert.AdamFfnDownRefIdeal.main_arg2)
      ∧ r.2.mem ((c.tc : Thread Cert.AdamFfnDownRefIdeal.nD Cert.AdamFfnDownRefIdeal.τ).loc Cert.AdamFfnDownRefIdeal.main_arg3) = m ((c.tc : Thread Cert.AdamFfnDownRefIdeal.nD Cert.AdamFfnDownRefIdeal.τ).loc Cert.AdamFfnDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRef [hAdamSmallRef : Cert.AdamSmallRef.Facts] : Prop :=
  ∀ (m : (ℓ : Loc Cert.AdamSmallRef.nD Cert.AdamSmallRef.τ Cert.AdamSmallRef.sig) → Buf (Elt Bits) ℓ) (g : Dev Cert.AdamSmallRef.nD → PrngReg), Pre_AdamSmallRef m →
    θ_run (Cert.AdamSmallRef.defs (F := Bits)) (onTc (τ := Cert.AdamSmallRef.τ) (Cert.AdamSmallRef.main (F := Bits))) ⟨m, fun _ => 0, g⟩ (fun r => (∀ c : Dev Cert.AdamSmallRef.nD,
      r.2.mem ((c.tc : Thread Cert.AdamSmallRef.nD Cert.AdamSmallRef.τ).loc Cert.AdamSmallRef.main_arg0) = m ((c.tc : Thread Cert.AdamSmallRef.nD Cert.AdamSmallRef.τ).loc Cert.AdamSmallRef.main_arg0)
      ∧ r.2.mem ((c.tc : Thread Cert.AdamSmallRef.nD Cert.AdamSmallRef.τ).loc Cert.AdamSmallRef.main_arg1) = m ((c.tc : Thread Cert.AdamSmallRef.nD Cert.AdamSmallRef.τ).loc Cert.AdamSmallRef.main_arg1)
      ∧ r.2.mem ((c.tc : Thread Cert.AdamSmallRef.nD Cert.AdamSmallRef.τ).loc Cert.AdamSmallRef.main_arg2) = m ((c.tc : Thread Cert.AdamSmallRef.nD Cert.AdamSmallRef.τ).loc Cert.AdamSmallRef.main_arg2)
      ∧ r.2.mem ((c.tc : Thread Cert.AdamSmallRef.nD Cert.AdamSmallRef.τ).loc Cert.AdamSmallRef.main_arg3) = m ((c.tc : Thread Cert.AdamSmallRef.nD Cert.AdamSmallRef.τ).loc Cert.AdamSmallRef.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AddCore [hAddCore : Cert.AddCore.Facts] [hPre_core_given : Cert.Pre_core_given.Facts] : Prop :=
  ∀ (m : (ℓ : Loc Cert.AddCore.nD Cert.AddCore.τ Cert.AddCore.sig) → Buf (Elt Bits) ℓ) (g : Dev Cert.AddCore.nD → PrngReg), Pre_AddCore m →
    θ_run (Cert.AddCore.defs (F := Bits)) (onTc (τ := Cert.AddCore.τ) (Cert.AddCore.main (F := Bits))) ⟨m, fun _ => 0, g⟩ (fun r => (∀ c : Dev Cert.AddCore.nD,
      r.2.mem ((c.tc : Thread Cert.AddCore.nD Cert.AddCore.τ).loc Cert.AddCore.main_arg0) = m ((c.tc : Thread Cert.AddCore.nD Cert.AddCore.τ).loc Cert.AddCore.main_arg0)
      ∧ r.2.mem ((c.tc : Thread Cert.AddCore.nD Cert.AddCore.τ).loc Cert.AddCore.main_arg1) = m ((c.tc : Thread Cert.AddCore.nD Cert.AddCore.τ).loc Cert.AddCore.main_arg1)
      ∧ r.2.mem ((c.tc : Thread Cert.AddCore.nD Cert.AddCore.τ).loc Cert.AddCore.main_arg2) = m ((c.tc : Thread Cert.AddCore.nD Cert.AddCore.τ).loc Cert.AddCore.main_arg2))
      ∧ r.2.sem = fun _ => 0)

def quiescent_AddCoreIdeal [hAddCoreIdeal : Cert.AddCoreIdeal.Facts] [hPre_core_given : Cert.Pre_core_given.Facts] : Prop :=
  ∀ (m : (ℓ : Loc Cert.AddCoreIdeal.nD Cert.AddCoreIdeal.τ Cert.AddCoreIdeal.sig) → Buf (Elt Ideal) ℓ) (g : Dev Cert.AddCoreIdeal.nD → PrngReg), Pre_AddCoreIdeal m →
    θ_run (Cert.AddCoreIdeal.defs (F := Ideal)) (onTc (τ := Cert.AddCoreIdeal.τ) (Cert.AddCoreIdeal.main (F := Ideal))) ⟨m, fun _ => 0, g⟩ (fun r => (∀ c : Dev Cert.AddCoreIdeal.nD,
      r.2.mem ((c.tc : Thread Cert.AddCoreIdeal.nD Cert.AddCoreIdeal.τ).loc Cert.AddCoreIdeal.main_arg0) = m ((c.tc : Thread Cert.AddCoreIdeal.nD Cert.AddCoreIdeal.τ).loc Cert.AddCoreIdeal.main_arg0)
      ∧ r.2.mem ((c.tc : Thread Cert.AddCoreIdeal.nD Cert.AddCoreIdeal.τ).loc Cert.AddCoreIdeal.main_arg1) = m ((c.tc : Thread Cert.AddCoreIdeal.nD Cert.AddCoreIdeal.τ).loc Cert.AddCoreIdeal.main_arg1)
      ∧ r.2.mem ((c.tc : Thread Cert.AddCoreIdeal.nD Cert.AddCoreIdeal.τ).loc Cert.AddCoreIdeal.main_arg2) = m ((c.tc : Thread Cert.AddCoreIdeal.nD Cert.AddCoreIdeal.τ).loc Cert.AddCoreIdeal.main_arg2))
      ∧ r.2.sem = fun _ => 0)

def quiescent_AddCoreRef [hAddCoreRef : Cert.AddCoreRef.Facts] : Prop :=
  ∀ (m : (ℓ : Loc Cert.AddCoreRef.nD Cert.AddCoreRef.τ Cert.AddCoreRef.sig) → Buf (Elt Bits) ℓ) (g : Dev Cert.AddCoreRef.nD → PrngReg), Pre_AddCoreRef m →
    θ_run (Cert.AddCoreRef.defs (F := Bits)) (onTc (τ := Cert.AddCoreRef.τ) (Cert.AddCoreRef.main (F := Bits))) ⟨m, fun _ => 0, g⟩ (fun r => (∀ c : Dev Cert.AddCoreRef.nD,
      r.2.mem ((c.tc : Thread Cert.AddCoreRef.nD Cert.AddCoreRef.τ).loc Cert.AddCoreRef.main_arg0) = m ((c.tc : Thread Cert.AddCoreRef.nD Cert.AddCoreRef.τ).loc Cert.AddCoreRef.main_arg0)
      ∧ r.2.mem ((c.tc : Thread Cert.AddCoreRef.nD Cert.AddCoreRef.τ).loc Cert.AddCoreRef.main_arg1) = m ((c.tc : Thread Cert.AddCoreRef.nD Cert.AddCoreRef.τ).loc Cert.AddCoreRef.main_arg1)
      ∧ r.2.mem ((c.tc : Thread Cert.AddCoreRef.nD Cert.AddCoreRef.τ).loc Cert.AddCoreRef.main_arg2) = m ((c.tc : Thread Cert.AddCoreRef.nD Cert.AddCoreRef.τ).loc Cert.AddCoreRef.main_arg2))
      ∧ r.2.sem = fun _ => 0)

def quiescent_AddCoreRef_pre_core_given [hAddCoreRef : Cert.AddCoreRef.Facts] [hPre_core_given : Cert.Pre_core_given.Facts] : Prop :=
  ∀ (m : (ℓ : Loc Cert.AddCoreRef.nD Cert.AddCoreRef.τ Cert.AddCoreRef.sig) → Buf (Elt Bits) ℓ) (g : Dev Cert.AddCoreRef.nD → PrngReg), Pre_AddCoreRef_core_given m →
    θ_run (Cert.AddCoreRef.defs (F := Bits)) (onTc (τ := Cert.AddCoreRef.τ) (Cert.AddCoreRef.main (F := Bits))) ⟨m, fun _ => 0, g⟩ (fun r => (∀ c : Dev Cert.AddCoreRef.nD,
      r.2.mem ((c.tc : Thread Cert.AddCoreRef.nD Cert.AddCoreRef.τ).loc Cert.AddCoreRef.main_arg0) = m ((c.tc : Thread Cert.AddCoreRef.nD Cert.AddCoreRef.τ).loc Cert.AddCoreRef.main_arg0)
      ∧ r.2.mem ((c.tc : Thread Cert.AddCoreRef.nD Cert.AddCoreRef.τ).loc Cert.AddCoreRef.main_arg1) = m ((c.tc : Thread Cert.AddCoreRef.nD Cert.AddCoreRef.τ).loc Cert.AddCoreRef.main_arg1)
      ∧ r.2.mem ((c.tc : Thread Cert.AddCoreRef.nD Cert.AddCoreRef.τ).loc Cert.AddCoreRef.main_arg2) = m ((c.tc : Thread Cert.AddCoreRef.nD Cert.AddCoreRef.τ).loc Cert.AddCoreRef.main_arg2))
      ∧ r.2.sem = fun _ => 0)

def quiescent_AddCoreRefIdeal [hAddCoreRefIdeal : Cert.AddCoreRefIdeal.Facts] : Prop :=
  ∀ (m : (ℓ : Loc Cert.AddCoreRefIdeal.nD Cert.AddCoreRefIdeal.τ Cert.AddCoreRefIdeal.sig) → Buf (Elt Ideal) ℓ) (g : Dev Cert.AddCoreRefIdeal.nD → PrngReg), Pre_AddCoreRefIdeal m →
    θ_run (Cert.AddCoreRefIdeal.defs (F := Ideal)) (onTc (τ := Cert.AddCoreRefIdeal.τ) (Cert.AddCoreRefIdeal.main (F := Ideal))) ⟨m, fun _ => 0, g⟩ (fun r => (∀ c : Dev Cert.AddCoreRefIdeal.nD,
      r.2.mem ((c.tc : Thread Cert.AddCoreRefIdeal.nD Cert.AddCoreRefIdeal.τ).loc Cert.AddCoreRefIdeal.main_arg0) = m ((c.tc : Thread Cert.AddCoreRefIdeal.nD Cert.AddCoreRefIdeal.τ).loc Cert.AddCoreRefIdeal.main_arg0)
      ∧ r.2.mem ((c.tc : Thread Cert.AddCoreRefIdeal.nD Cert.AddCoreRefIdeal.τ).loc Cert.AddCoreRefIdeal.main_arg1) = m ((c.tc : Thread Cert.AddCoreRefIdeal.nD Cert.AddCoreRefIdeal.τ).loc Cert.AddCoreRefIdeal.main_arg1)
      ∧ r.2.mem ((c.tc : Thread Cert.AddCoreRefIdeal.nD Cert.AddCoreRefIdeal.τ).loc Cert.AddCoreRefIdeal.main_arg2) = m ((c.tc : Thread Cert.AddCoreRefIdeal.nD Cert.AddCoreRefIdeal.τ).loc Cert.AddCoreRefIdeal.main_arg2))
      ∧ r.2.sem = fun _ => 0)

def quiescent_AddCoreRefIdeal_pre_core_given [hAddCoreRefIdeal : Cert.AddCoreRefIdeal.Facts] [hPre_core_given : Cert.Pre_core_given.Facts] : Prop :=
  ∀ (m : (ℓ : Loc Cert.AddCoreRefIdeal.nD Cert.AddCoreRefIdeal.τ Cert.AddCoreRefIdeal.sig) → Buf (Elt Ideal) ℓ) (g : Dev Cert.AddCoreRefIdeal.nD → PrngReg), Pre_AddCoreRefIdeal_core_given m →
    θ_run (Cert.AddCoreRefIdeal.defs (F := Ideal)) (onTc (τ := Cert.AddCoreRefIdeal.τ) (Cert.AddCoreRefIdeal.main (F := Ideal))) ⟨m, fun _ => 0, g⟩ (fun r => (∀ c : Dev Cert.AddCoreRefIdeal.nD,
      r.2.mem ((c.tc : Thread Cert.AddCoreRefIdeal.nD Cert.AddCoreRefIdeal.τ).loc Cert.AddCoreRefIdeal.main_arg0) = m ((c.tc : Thread Cert.AddCoreRefIdeal.nD Cert.AddCoreRefIdeal.τ).loc Cert.AddCoreRefIdeal.main_arg0)
      ∧ r.2.mem ((c.tc : Thread Cert.AddCoreRefIdeal.nD Cert.AddCoreRefIdeal.τ).loc Cert.AddCoreRefIdeal.main_arg1) = m ((c.tc : Thread Cert.AddCoreRefIdeal.nD Cert.AddCoreRefIdeal.τ).loc Cert.AddCoreRefIdeal.main_arg1)
      ∧ r.2.mem ((c.tc : Thread Cert.AddCoreRefIdeal.nD Cert.AddCoreRefIdeal.τ).loc Cert.AddCoreRefIdeal.main_arg2) = m ((c.tc : Thread Cert.AddCoreRefIdeal.nD Cert.AddCoreRefIdeal.τ).loc Cert.AddCoreRefIdeal.main_arg2))
      ∧ r.2.sem = fun _ => 0)

def quiescent_SumChips [hSumChips : Cert.SumChips.Facts] [hPre_chip_given : Cert.Pre_chip_given.Facts] : Prop :=
  ∀ (m : (ℓ : Loc Cert.SumChips.nD Cert.SumChips.τ Cert.SumChips.sig) → Buf (Elt Bits) ℓ) (g : Dev Cert.SumChips.nD → PrngReg), Pre_SumChips m →
    θ_run (Cert.SumChips.defs (F := Bits)) (onTc (τ := Cert.SumChips.τ) (Cert.SumChips.main (F := Bits))) ⟨m, fun _ => 0, g⟩ (fun r => (∀ c : Dev Cert.SumChips.nD,
      r.2.mem ((c.tc : Thread Cert.SumChips.nD Cert.SumChips.τ).loc Cert.SumChips.main_arg0) = m ((c.tc : Thread Cert.SumChips.nD Cert.SumChips.τ).loc Cert.SumChips.main_arg0)
      ∧ r.2.mem ((c.tc : Thread Cert.SumChips.nD Cert.SumChips.τ).loc Cert.SumChips.main_arg1) = m ((c.tc : Thread Cert.SumChips.nD Cert.SumChips.τ).loc Cert.SumChips.main_arg1)
      ∧ r.2.mem ((c.tc : Thread Cert.SumChips.nD Cert.SumChips.τ).loc Cert.SumChips.main_arg2) = m ((c.tc : Thread Cert.SumChips.nD Cert.SumChips.τ).loc Cert.SumChips.main_arg2))
      ∧ r.2.sem = fun _ => 0)

def quiescent_SumChipsIdeal [hSumChipsIdeal : Cert.SumChipsIdeal.Facts] [hPre_chip_given : Cert.Pre_chip_given.Facts] : Prop :=
  ∀ (m : (ℓ : Loc Cert.SumChipsIdeal.nD Cert.SumChipsIdeal.τ Cert.SumChipsIdeal.sig) → Buf (Elt Ideal) ℓ) (g : Dev Cert.SumChipsIdeal.nD → PrngReg), Pre_SumChipsIdeal m →
    θ_run (Cert.SumChipsIdeal.defs (F := Ideal)) (onTc (τ := Cert.SumChipsIdeal.τ) (Cert.SumChipsIdeal.main (F := Ideal))) ⟨m, fun _ => 0, g⟩ (fun r => (∀ c : Dev Cert.SumChipsIdeal.nD,
      r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0)
      ∧ r.2.mem ((c.tc : Thread Cert.SumChipsIdeal.nD Cert.SumChipsIdeal.τ).loc Cert.SumChipsIdeal.main_arg1) = m ((c.tc : Thread Cert.SumChipsIdeal.nD Cert.SumChipsIdeal.τ).loc Cert.SumChipsIdeal.main_arg1)
      ∧ r.2.mem ((c.tc : Thread Cert.SumChipsIdeal.nD Cert.SumChipsIdeal.τ).loc Cert.SumChipsIdeal.main_arg2) = m ((c.tc : Thread Cert.SumChipsIdeal.nD Cert.SumChipsIdeal.τ).loc Cert.SumChipsIdeal.main_arg2))
      ∧ r.2.sem = fun _ => 0)

def quiescent_SumChipsRef [hSumChipsRef : Cert.SumChipsRef.Facts] : Prop :=
  ∀ (m : (ℓ : Loc Cert.SumChipsRef.nD Cert.SumChipsRef.τ Cert.SumChipsRef.sig) → Buf (Elt Bits) ℓ) (g : Dev Cert.SumChipsRef.nD → PrngReg), Pre_SumChipsRef m →
    θ_run (Cert.SumChipsRef.defs (F := Bits)) (onTc (τ := Cert.SumChipsRef.τ) (Cert.SumChipsRef.main (F := Bits))) ⟨m, fun _ => 0, g⟩ (fun r => (∀ c : Dev Cert.SumChipsRef.nD,
      r.2.mem ((c.tc : Thread Cert.SumChipsRef.nD Cert.SumChipsRef.τ).loc Cert.SumChipsRef.main_arg0) = m ((c.tc : Thread Cert.SumChipsRef.nD Cert.SumChipsRef.τ).loc Cert.SumChipsRef.main_arg0)
      ∧ r.2.mem ((c.tc : Thread Cert.SumChipsRef.nD Cert.SumChipsRef.τ).loc Cert.SumChipsRef.main_arg1) = m ((c.tc : Thread Cert.SumChipsRef.nD Cert.SumChipsRef.τ).loc Cert.SumChipsRef.main_arg1)
      ∧ r.2.mem ((c.tc : Thread Cert.SumChipsRef.nD Cert.SumChipsRef.τ).loc Cert.SumChipsRef.main_arg2) = m ((c.tc : Thread Cert.SumChipsRef.nD Cert.SumChipsRef.τ).loc Cert.SumChipsRef.main_arg2))
      ∧ r.2.sem = fun _ => 0)

def quiescent_SumChipsRefIdeal [hSumChipsRefIdeal : Cert.SumChipsRefIdeal.Facts] : Prop :=
  ∀ (m : (ℓ : Loc Cert.SumChipsRefIdeal.nD Cert.SumChipsRefIdeal.τ Cert.SumChipsRefIdeal.sig) → Buf (Elt Ideal) ℓ) (g : Dev Cert.SumChipsRefIdeal.nD → PrngReg), Pre_SumChipsRefIdeal m →
    θ_run (Cert.SumChipsRefIdeal.defs (F := Ideal)) (onTc (τ := Cert.SumChipsRefIdeal.τ) (Cert.SumChipsRefIdeal.main (F := Ideal))) ⟨m, fun _ => 0, g⟩ (fun r => (∀ c : Dev Cert.SumChipsRefIdeal.nD,
      r.2.mem ((c.tc : Thread Cert.SumChipsRefIdeal.nD Cert.SumChipsRefIdeal.τ).loc Cert.SumChipsRefIdeal.main_arg0) = m ((c.tc : Thread Cert.SumChipsRefIdeal.nD Cert.SumChipsRefIdeal.τ).loc Cert.SumChipsRefIdeal.main_arg0)
      ∧ r.2.mem ((c.tc : Thread Cert.SumChipsRefIdeal.nD Cert.SumChipsRefIdeal.τ).loc Cert.SumChipsRefIdeal.main_arg1) = m ((c.tc : Thread Cert.SumChipsRefIdeal.nD Cert.SumChipsRefIdeal.τ).loc Cert.SumChipsRefIdeal.main_arg1)
      ∧ r.2.mem ((c.tc : Thread Cert.SumChipsRefIdeal.nD Cert.SumChipsRefIdeal.τ).loc Cert.SumChipsRefIdeal.main_arg2) = m ((c.tc : Thread Cert.SumChipsRefIdeal.nD Cert.SumChipsRefIdeal.τ).loc Cert.SumChipsRefIdeal.main_arg2))
      ∧ r.2.sem = fun _ => 0)

def quiescent_SumChipsRefIdeal_pre_chip_given [hSumChipsRefIdeal : Cert.SumChipsRefIdeal.Facts] [hPre_chip_given : Cert.Pre_chip_given.Facts] : Prop :=
  ∀ (m : (ℓ : Loc Cert.SumChipsRefIdeal.nD Cert.SumChipsRefIdeal.τ Cert.SumChipsRefIdeal.sig) → Buf (Elt Ideal) ℓ) (g : Dev Cert.SumChipsRefIdeal.nD → PrngReg), Pre_SumChipsRefIdeal_chip_given m →
    θ_run (Cert.SumChipsRefIdeal.defs (F := Ideal)) (onTc (τ := Cert.SumChipsRefIdeal.τ) (Cert.SumChipsRefIdeal.main (F := Ideal))) ⟨m, fun _ => 0, g⟩ (fun r => (∀ c : Dev Cert.SumChipsRefIdeal.nD,
      r.2.mem ((c.tc : Thread Cert.SumChipsRefIdeal.nD Cert.SumChipsRefIdeal.τ).loc Cert.SumChipsRefIdeal.main_arg0) = m ((c.tc : Thread Cert.SumChipsRefIdeal.nD Cert.SumChipsRefIdeal.τ).loc Cert.SumChipsRefIdeal.main_arg0)
      ∧ r.2.mem ((c.tc : Thread Cert.SumChipsRefIdeal.nD Cert.SumChipsRefIdeal.τ).loc Cert.SumChipsRefIdeal.main_arg1) = m ((c.tc : Thread Cert.SumChipsRefIdeal.nD Cert.SumChipsRefIdeal.τ).loc Cert.SumChipsRefIdeal.main_arg1)
      ∧ r.2.mem ((c.tc : Thread Cert.SumChipsRefIdeal.nD Cert.SumChipsRefIdeal.τ).loc Cert.SumChipsRefIdeal.main_arg2) = m ((c.tc : Thread Cert.SumChipsRefIdeal.nD Cert.SumChipsRefIdeal.τ).loc Cert.SumChipsRefIdeal.main_arg2))
      ∧ r.2.sem = fun _ => 0)

def quiescent_GradQkv [hGradQkv : Cert.GradQkv.Facts] : Prop :=
  ∀ (m : (ℓ : Loc Cert.GradQkv.nD Cert.GradQkv.τ Cert.GradQkv.sig) → Buf (Elt Bits) ℓ) (g : Dev Cert.GradQkv.nD → PrngReg), Pre_GradQkv m →
    θ_run (Cert.GradQkv.defs (F := Bits)) (onTc (τ := Cert.GradQkv.τ) (Cert.GradQkv.main (F := Bits))) ⟨m, fun _ => 0, g⟩ (fun r => (∀ c : Dev Cert.GradQkv.nD,
      r.2.mem ((c.tc : Thread Cert.GradQkv.nD Cert.GradQkv.τ).loc Cert.GradQkv.main_arg0) = m ((c.tc : Thread Cert.GradQkv.nD Cert.GradQkv.τ).loc Cert.GradQkv.main_arg0)
      ∧ r.2.mem ((c.tc : Thread Cert.GradQkv.nD Cert.GradQkv.τ).loc Cert.GradQkv.main_arg1) = m ((c.tc : Thread Cert.GradQkv.nD Cert.GradQkv.τ).loc Cert.GradQkv.main_arg1))
      ∧ r.2.sem = fun _ => 0)

def quiescent_GradQkvIdeal [hGradQkvIdeal : Cert.GradQkvIdeal.Facts] : Prop :=
  ∀ (m : (ℓ : Loc Cert.GradQkvIdeal.nD Cert.GradQkvIdeal.τ Cert.GradQkvIdeal.sig) → Buf (Elt Ideal) ℓ) (g : Dev Cert.GradQkvIdeal.nD → PrngReg), Pre_GradQkvIdeal m →
    θ_run (Cert.GradQkvIdeal.defs (F := Ideal)) (onTc (τ := Cert.GradQkvIdeal.τ) (Cert.GradQkvIdeal.main (F := Ideal))) ⟨m, fun _ => 0, g⟩ (fun r => (∀ c : Dev Cert.GradQkvIdeal.nD,
      r.2.mem ((c.tc : Thread Cert.GradQkvIdeal.nD Cert.GradQkvIdeal.τ).loc Cert.GradQkvIdeal.main_arg0) = m ((c.tc : Thread Cert.GradQkvIdeal.nD Cert.GradQkvIdeal.τ).loc Cert.GradQkvIdeal.main_arg0)
      ∧ r.2.mem ((c.tc : Thread Cert.GradQkvIdeal.nD Cert.GradQkvIdeal.τ).loc Cert.GradQkvIdeal.main_arg1) = m ((c.tc : Thread Cert.GradQkvIdeal.nD Cert.GradQkvIdeal.τ).loc Cert.GradQkvIdeal.main_arg1))
      ∧ r.2.sem = fun _ => 0)

def quiescent_GradQkvRef [hGradQkvRef : Cert.GradQkvRef.Facts] : Prop :=
  ∀ (m : (ℓ : Loc Cert.GradQkvRef.nD Cert.GradQkvRef.τ Cert.GradQkvRef.sig) → Buf (Elt Bits) ℓ) (g : Dev Cert.GradQkvRef.nD → PrngReg), Pre_GradQkvRef m →
    θ_run (Cert.GradQkvRef.defs (F := Bits)) (onTc (τ := Cert.GradQkvRef.τ) (Cert.GradQkvRef.main (F := Bits))) ⟨m, fun _ => 0, g⟩ (fun r => (∀ c : Dev Cert.GradQkvRef.nD,
      r.2.mem ((c.tc : Thread Cert.GradQkvRef.nD Cert.GradQkvRef.τ).loc Cert.GradQkvRef.main_arg0) = m ((c.tc : Thread Cert.GradQkvRef.nD Cert.GradQkvRef.τ).loc Cert.GradQkvRef.main_arg0)
      ∧ r.2.mem ((c.tc : Thread Cert.GradQkvRef.nD Cert.GradQkvRef.τ).loc Cert.GradQkvRef.main_arg1) = m ((c.tc : Thread Cert.GradQkvRef.nD Cert.GradQkvRef.τ).loc Cert.GradQkvRef.main_arg1))
      ∧ r.2.sem = fun _ => 0)

def quiescent_GradQkvRefIdeal [hGradQkvRefIdeal : Cert.GradQkvRefIdeal.Facts] : Prop :=
  ∀ (m : (ℓ : Loc Cert.GradQkvRefIdeal.nD Cert.GradQkvRefIdeal.τ Cert.GradQkvRefIdeal.sig) → Buf (Elt Ideal) ℓ) (g : Dev Cert.GradQkvRefIdeal.nD → PrngReg), Pre_GradQkvRefIdeal m →
    θ_run (Cert.GradQkvRefIdeal.defs (F := Ideal)) (onTc (τ := Cert.GradQkvRefIdeal.τ) (Cert.GradQkvRefIdeal.main (F := Ideal))) ⟨m, fun _ => 0, g⟩ (fun r => (∀ c : Dev Cert.GradQkvRefIdeal.nD,
      r.2.mem ((c.tc : Thread Cert.GradQkvRefIdeal.nD Cert.GradQkvRefIdeal.τ).loc Cert.GradQkvRefIdeal.main_arg0) = m ((c.tc : Thread Cert.GradQkvRefIdeal.nD Cert.GradQkvRefIdeal.τ).loc Cert.GradQkvRefIdeal.main_arg0)
      ∧ r.2.mem ((c.tc : Thread Cert.GradQkvRefIdeal.nD Cert.GradQkvRefIdeal.τ).loc Cert.GradQkvRefIdeal.main_arg1) = m ((c.tc : Thread Cert.GradQkvRefIdeal.nD Cert.GradQkvRefIdeal.τ).loc Cert.GradQkvRefIdeal.main_arg1))
      ∧ r.2.sem = fun _ => 0)

def quiescent_GradRw [hGradRw : Cert.GradRw.Facts] : Prop :=
  ∀ (m : (ℓ : Loc Cert.GradRw.nD Cert.GradRw.τ Cert.GradRw.sig) → Buf (Elt Bits) ℓ) (g : Dev Cert.GradRw.nD → PrngReg), Pre_GradRw m →
    θ_run (Cert.GradRw.defs (F := Bits)) (onTc (τ := Cert.GradRw.τ) (Cert.GradRw.main (F := Bits))) ⟨m, fun _ => 0, g⟩ (fun r => (∀ c : Dev Cert.GradRw.nD,
      r.2.mem ((c.tc : Thread Cert.GradRw.nD Cert.GradRw.τ).loc Cert.GradRw.main_arg0) = m ((c.tc : Thread Cert.GradRw.nD Cert.GradRw.τ).loc Cert.GradRw.main_arg0)
      ∧ r.2.mem ((c.tc : Thread Cert.GradRw.nD Cert.GradRw.τ).loc Cert.GradRw.main_arg1) = m ((c.tc : Thread Cert.GradRw.nD Cert.GradRw.τ).loc Cert.GradRw.main_arg1))
      ∧ r.2.sem = fun _ => 0)

def quiescent_GradRwIdeal [hGradRwIdeal : Cert.GradRwIdeal.Facts] : Prop :=
  ∀ (m : (ℓ : Loc Cert.GradRwIdeal.nD Cert.GradRwIdeal.τ Cert.GradRwIdeal.sig) → Buf (Elt Ideal) ℓ) (g : Dev Cert.GradRwIdeal.nD → PrngReg), Pre_GradRwIdeal m →
    θ_run (Cert.GradRwIdeal.defs (F := Ideal)) (onTc (τ := Cert.GradRwIdeal.τ) (Cert.GradRwIdeal.main (F := Ideal))) ⟨m, fun _ => 0, g⟩ (fun r => (∀ c : Dev Cert.GradRwIdeal.nD,
      r.2.mem ((c.tc : Thread Cert.GradRwIdeal.nD Cert.GradRwIdeal.τ).loc Cert.GradRwIdeal.main_arg0) = m ((c.tc : Thread Cert.GradRwIdeal.nD Cert.GradRwIdeal.τ).loc Cert.GradRwIdeal.main_arg0)
      ∧ r.2.mem ((c.tc : Thread Cert.GradRwIdeal.nD Cert.GradRwIdeal.τ).loc Cert.GradRwIdeal.main_arg1) = m ((c.tc : Thread Cert.GradRwIdeal.nD Cert.GradRwIdeal.τ).loc Cert.GradRwIdeal.main_arg1))
      ∧ r.2.sem = fun _ => 0)

def quiescent_GradRwRef [hGradRwRef : Cert.GradRwRef.Facts] : Prop :=
  ∀ (m : (ℓ : Loc Cert.GradRwRef.nD Cert.GradRwRef.τ Cert.GradRwRef.sig) → Buf (Elt Bits) ℓ) (g : Dev Cert.GradRwRef.nD → PrngReg), Pre_GradRwRef m →
    θ_run (Cert.GradRwRef.defs (F := Bits)) (onTc (τ := Cert.GradRwRef.τ) (Cert.GradRwRef.main (F := Bits))) ⟨m, fun _ => 0, g⟩ (fun r => (∀ c : Dev Cert.GradRwRef.nD,
      r.2.mem ((c.tc : Thread Cert.GradRwRef.nD Cert.GradRwRef.τ).loc Cert.GradRwRef.main_arg0) = m ((c.tc : Thread Cert.GradRwRef.nD Cert.GradRwRef.τ).loc Cert.GradRwRef.main_arg0)
      ∧ r.2.mem ((c.tc : Thread Cert.GradRwRef.nD Cert.GradRwRef.τ).loc Cert.GradRwRef.main_arg1) = m ((c.tc : Thread Cert.GradRwRef.nD Cert.GradRwRef.τ).loc Cert.GradRwRef.main_arg1))
      ∧ r.2.sem = fun _ => 0)

def quiescent_GradRwRefIdeal [hGradRwRefIdeal : Cert.GradRwRefIdeal.Facts] : Prop :=
  ∀ (m : (ℓ : Loc Cert.GradRwRefIdeal.nD Cert.GradRwRefIdeal.τ Cert.GradRwRefIdeal.sig) → Buf (Elt Ideal) ℓ) (g : Dev Cert.GradRwRefIdeal.nD → PrngReg), Pre_GradRwRefIdeal m →
    θ_run (Cert.GradRwRefIdeal.defs (F := Ideal)) (onTc (τ := Cert.GradRwRefIdeal.τ) (Cert.GradRwRefIdeal.main (F := Ideal))) ⟨m, fun _ => 0, g⟩ (fun r => (∀ c : Dev Cert.GradRwRefIdeal.nD,
      r.2.mem ((c.tc : Thread Cert.GradRwRefIdeal.nD Cert.GradRwRefIdeal.τ).loc Cert.GradRwRefIdeal.main_arg0) = m ((c.tc : Thread Cert.GradRwRefIdeal.nD Cert.GradRwRefIdeal.τ).loc Cert.GradRwRefIdeal.main_arg0)
      ∧ r.2.mem ((c.tc : Thread Cert.GradRwRefIdeal.nD Cert.GradRwRefIdeal.τ).loc Cert.GradRwRefIdeal.main_arg1) = m ((c.tc : Thread Cert.GradRwRefIdeal.nD Cert.GradRwRefIdeal.τ).loc Cert.GradRwRefIdeal.main_arg1))
      ∧ r.2.sem = fun _ => 0)

def quiescent_GradGate [hGradGate : Cert.GradGate.Facts] : Prop :=
  ∀ (m : (ℓ : Loc Cert.GradGate.nD Cert.GradGate.τ Cert.GradGate.sig) → Buf (Elt Bits) ℓ) (g : Dev Cert.GradGate.nD → PrngReg), Pre_GradGate m →
    θ_run (Cert.GradGate.defs (F := Bits)) (onTc (τ := Cert.GradGate.τ) (Cert.GradGate.main (F := Bits))) ⟨m, fun _ => 0, g⟩ (fun r => (∀ c : Dev Cert.GradGate.nD,
      r.2.mem ((c.tc : Thread Cert.GradGate.nD Cert.GradGate.τ).loc Cert.GradGate.main_arg0) = m ((c.tc : Thread Cert.GradGate.nD Cert.GradGate.τ).loc Cert.GradGate.main_arg0)
      ∧ r.2.mem ((c.tc : Thread Cert.GradGate.nD Cert.GradGate.τ).loc Cert.GradGate.main_arg1) = m ((c.tc : Thread Cert.GradGate.nD Cert.GradGate.τ).loc Cert.GradGate.main_arg1))
      ∧ r.2.sem = fun _ => 0)

def quiescent_GradGateIdeal [hGradGateIdeal : Cert.GradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg), Pre_GradGateIdeal m →
    θ_run (Cert.GradGateIdeal.defs (F := Ideal)) (onTc (τ := Cert.GradGateIdeal.τ) (Cert.GradGateIdeal.main (F := Ideal))) ⟨m, fun _ => 0, g⟩ (fun r => (∀ c : Dev Cert.GradGateIdeal.nD,
      r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
      ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ r.2.sem = fun _ => 0)

def quiescent_GradGateRef [hGradGateRef : Cert.GradGateRef.Facts] : Prop :=
  ∀ (m : (ℓ : Loc Cert.GradGateRef.nD Cert.GradGateRef.τ Cert.GradGateRef.sig) → Buf (Elt Bits) ℓ) (g : Dev Cert.GradGateRef.nD → PrngReg), Pre_GradGateRef m →
    θ_run (Cert.GradGateRef.defs (F := Bits)) (onTc (τ := Cert.GradGateRef.τ) (Cert.GradGateRef.main (F := Bits))) ⟨m, fun _ => 0, g⟩ (fun r => (∀ c : Dev Cert.GradGateRef.nD,
      r.2.mem ((c.tc : Thread Cert.GradGateRef.nD Cert.GradGateRef.τ).loc Cert.GradGateRef.main_arg0) = m ((c.tc : Thread Cert.GradGateRef.nD Cert.GradGateRef.τ).loc Cert.GradGateRef.main_arg0)
      ∧ r.2.mem ((c.tc : Thread Cert.GradGateRef.nD Cert.GradGateRef.τ).loc Cert.GradGateRef.main_arg1) = m ((c.tc : Thread Cert.GradGateRef.nD Cert.GradGateRef.τ).loc Cert.GradGateRef.main_arg1))
      ∧ r.2.sem = fun _ => 0)

def quiescent_GradGateRefIdeal [hGradGateRefIdeal : Cert.GradGateRefIdeal.Facts] : Prop :=
  ∀ (m : (ℓ : Loc Cert.GradGateRefIdeal.nD Cert.GradGateRefIdeal.τ Cert.GradGateRefIdeal.sig) → Buf (Elt Ideal) ℓ) (g : Dev Cert.GradGateRefIdeal.nD → PrngReg), Pre_GradGateRefIdeal m →
    θ_run (Cert.GradGateRefIdeal.defs (F := Ideal)) (onTc (τ := Cert.GradGateRefIdeal.τ) (Cert.GradGateRefIdeal.main (F := Ideal))) ⟨m, fun _ => 0, g⟩ (fun r => (∀ c : Dev Cert.GradGateRefIdeal.nD,
      r.2.mem ((c.tc : Thread Cert.GradGateRefIdeal.nD Cert.GradGateRefIdeal.τ).loc Cert.GradGateRefIdeal.main_arg0) = m ((c.tc : Thread Cert.GradGateRefIdeal.nD Cert.GradGateRefIdeal.τ).loc Cert.GradGateRefIdeal.main_arg0)
      ∧ r.2.mem ((c.tc : Thread Cert.GradGateRefIdeal.nD Cert.GradGateRefIdeal.τ).loc Cert.GradGateRefIdeal.main_arg1) = m ((c.tc : Thread Cert.GradGateRefIdeal.nD Cert.GradGateRefIdeal.τ).loc Cert.GradGateRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRef [hGradOutRef : Cert.GradOutRef.Facts] : Prop :=
  ∀ (m : (ℓ : Loc Cert.GradOutRef.nD Cert.GradOutRef.τ Cert.GradOutRef.sig) → Buf (Elt Bits) ℓ) (g : Dev Cert.GradOutRef.nD → PrngReg), Pre_GradOutRef m →
    θ_run (Cert.GradOutRef.defs (F := Bits)) (onTc (τ := Cert.GradOutRef.τ) (Cert.GradOutRef.main (F := Bits))) ⟨m, fun _ => 0, g⟩ (fun r => (∀ c : Dev Cert.GradOutRef.nD,
      r.2.mem ((c.tc : Thread Cert.GradOutRef.nD Cert.GradOutRef.τ).loc Cert.GradOutRef.main_arg0) = m ((c.tc : Thread Cert.GradOutRef.nD Cert.GradOutRef.τ).loc Cert.GradOutRef.main_arg0)
      ∧ r.2.mem ((c.tc : Thread Cert.GradOutRef.nD Cert.GradOutRef.τ).loc Cert.GradOutRef.main_arg1) = m ((c.tc : Thread Cert.GradOutRef.nD Cert.GradOutRef.τ).loc Cert.GradOutRef.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradO [hGradO : Cert.GradO.Facts] : Prop :=
  ∀ (m : (ℓ : Loc Cert.GradO.nD Cert.GradO.τ Cert.GradO.sig) → Buf (Elt Bits) ℓ) (g : Dev Cert.GradO.nD → PrngReg), Pre_GradO m →
    θ_run (Cert.GradO.defs (F := Bits)) (onTc (τ := Cert.GradO.τ) (Cert.GradO.main (F := Bits))) ⟨m, fun _ => 0, g⟩ (fun r => (∀ c : Dev Cert.GradO.nD,
      r.2.mem ((c.tc : Thread Cert.GradO.nD Cert.GradO.τ).loc Cert.GradO.main_arg0) = m ((c.tc : Thread Cert.GradO.nD Cert.GradO.τ).loc Cert.GradO.main_arg0)
      ∧ r.2.mem ((c.tc : Thread Cert.GradO.nD Cert.GradO.τ).loc Cert.GradO.main_arg1) = m ((c.tc : Thread Cert.GradO.nD Cert.GradO.τ).loc Cert.GradO.main_arg1))
      ∧ r.2.sem = fun _ => 0)

def quiescent_GradOIdeal [hGradOIdeal : Cert.GradOIdeal.Facts] : Prop :=
  ∀ (m : (ℓ : Loc Cert.GradOIdeal.nD Cert.GradOIdeal.τ Cert.GradOIdeal.sig) → Buf (Elt Ideal) ℓ) (g : Dev Cert.GradOIdeal.nD → PrngReg), Pre_GradOIdeal m →
    θ_run (Cert.GradOIdeal.defs (F := Ideal)) (onTc (τ := Cert.GradOIdeal.τ) (Cert.GradOIdeal.main (F := Ideal))) ⟨m, fun _ => 0, g⟩ (fun r => (∀ c : Dev Cert.GradOIdeal.nD,
      r.2.mem ((c.tc : Thread Cert.GradOIdeal.nD Cert.GradOIdeal.τ).loc Cert.GradOIdeal.main_arg0) = m ((c.tc : Thread Cert.GradOIdeal.nD Cert.GradOIdeal.τ).loc Cert.GradOIdeal.main_arg0)
      ∧ r.2.mem ((c.tc : Thread Cert.GradOIdeal.nD Cert.GradOIdeal.τ).loc Cert.GradOIdeal.main_arg1) = m ((c.tc : Thread Cert.GradOIdeal.nD Cert.GradOIdeal.τ).loc Cert.GradOIdeal.main_arg1))
      ∧ r.2.sem = fun _ => 0)

def quiescent_GradORef [hGradORef : Cert.GradORef.Facts] : Prop :=
  ∀ (m : (ℓ : Loc Cert.GradORef.nD Cert.GradORef.τ Cert.GradORef.sig) → Buf (Elt Bits) ℓ) (g : Dev Cert.GradORef.nD → PrngReg), Pre_GradORef m →
    θ_run (Cert.GradORef.defs (F := Bits)) (onTc (τ := Cert.GradORef.τ) (Cert.GradORef.main (F := Bits))) ⟨m, fun _ => 0, g⟩ (fun r => (∀ c : Dev Cert.GradORef.nD,
      r.2.mem ((c.tc : Thread Cert.GradORef.nD Cert.GradORef.τ).loc Cert.GradORef.main_arg0) = m ((c.tc : Thread Cert.GradORef.nD Cert.GradORef.τ).loc Cert.GradORef.main_arg0)
      ∧ r.2.mem ((c.tc : Thread Cert.GradORef.nD Cert.GradORef.τ).loc Cert.GradORef.main_arg1) = m ((c.tc : Thread Cert.GradORef.nD Cert.GradORef.τ).loc Cert.GradORef.main_arg1))
      ∧ r.2.sem = fun _ => 0)

def quiescent_GradORefIdeal [hGradORefIdeal : Cert.GradORefIdeal.Facts] : Prop :=
  ∀ (m : (ℓ : Loc Cert.GradORefIdeal.nD Cert.GradORefIdeal.τ Cert.GradORefIdeal.sig) → Buf (Elt Ideal) ℓ) (g : Dev Cert.GradORefIdeal.nD → PrngReg), Pre_GradORefIdeal m →
    θ_run (Cert.GradORefIdeal.defs (F := Ideal)) (onTc (τ := Cert.GradORefIdeal.τ) (Cert.GradORefIdeal.main (F := Ideal))) ⟨m, fun _ => 0, g⟩ (fun r => (∀ c : Dev Cert.GradORefIdeal.nD,
      r.2.mem ((c.tc : Thread Cert.GradORefIdeal.nD Cert.GradORefIdeal.τ).loc Cert.GradORefIdeal.main_arg0) = m ((c.tc : Thread Cert.GradORefIdeal.nD Cert.GradORefIdeal.τ).loc Cert.GradORefIdeal.main_arg0)
      ∧ r.2.mem ((c.tc : Thread Cert.GradORefIdeal.nD Cert.GradORefIdeal.τ).loc Cert.GradORefIdeal.main_arg1) = m ((c.tc : Thread Cert.GradORefIdeal.nD Cert.GradORefIdeal.τ).loc Cert.GradORefIdeal.main_arg1))
      ∧ r.2.sem = fun _ => 0)

def quiescent_GradFfnUp [hGradFfnUp : Cert.GradFfnUp.Facts] : Prop :=
  ∀ (m : (ℓ : Loc Cert.GradFfnUp.nD Cert.GradFfnUp.τ Cert.GradFfnUp.sig) → Buf (Elt Bits) ℓ) (g : Dev Cert.GradFfnUp.nD → PrngReg), Pre_GradFfnUp m →
    θ_run (Cert.GradFfnUp.defs (F := Bits)) (onTc (τ := Cert.GradFfnUp.τ) (Cert.GradFfnUp.main (F := Bits))) ⟨m, fun _ => 0, g⟩ (fun r => (∀ c : Dev Cert.GradFfnUp.nD,
      r.2.mem ((c.tc : Thread Cert.GradFfnUp.nD Cert.GradFfnUp.τ).loc Cert.GradFfnUp.main_arg0) = m ((c.tc : Thread Cert.GradFfnUp.nD Cert.GradFfnUp.τ).loc Cert.GradFfnUp.main_arg0)
      ∧ r.2.mem ((c.tc : Thread Cert.GradFfnUp.nD Cert.GradFfnUp.τ).loc Cert.GradFfnUp.main_arg1) = m ((c.tc : Thread Cert.GradFfnUp.nD Cert.GradFfnUp.τ).loc Cert.GradFfnUp.main_arg1))
      ∧ r.2.sem = fun _ => 0)

def quiescent_GradFfnUpIdeal [hGradFfnUpIdeal : Cert.GradFfnUpIdeal.Facts] : Prop :=
  ∀ (m : (ℓ : Loc Cert.GradFfnUpIdeal.nD Cert.GradFfnUpIdeal.τ Cert.GradFfnUpIdeal.sig) → Buf (Elt Ideal) ℓ) (g : Dev Cert.GradFfnUpIdeal.nD → PrngReg), Pre_GradFfnUpIdeal m →
    θ_run (Cert.GradFfnUpIdeal.defs (F := Ideal)) (onTc (τ := Cert.GradFfnUpIdeal.τ) (Cert.GradFfnUpIdeal.main (F := Ideal))) ⟨m, fun _ => 0, g⟩ (fun r => (∀ c : Dev Cert.GradFfnUpIdeal.nD,
      r.2.mem ((c.tc : Thread Cert.GradFfnUpIdeal.nD Cert.GradFfnUpIdeal.τ).loc Cert.GradFfnUpIdeal.main_arg0) = m ((c.tc : Thread Cert.GradFfnUpIdeal.nD Cert.GradFfnUpIdeal.τ).loc Cert.GradFfnUpIdeal.main_arg0)
      ∧ r.2.mem ((c.tc : Thread Cert.GradFfnUpIdeal.nD Cert.GradFfnUpIdeal.τ).loc Cert.GradFfnUpIdeal.main_arg1) = m ((c.tc : Thread Cert.GradFfnUpIdeal.nD Cert.GradFfnUpIdeal.τ).loc Cert.GradFfnUpIdeal.main_arg1))
      ∧ r.2.sem = fun _ => 0)

def quiescent_GradFfnUpRef [hGradFfnUpRef : Cert.GradFfnUpRef.Facts] : Prop :=
  ∀ (m : (ℓ : Loc Cert.GradFfnUpRef.nD Cert.GradFfnUpRef.τ Cert.GradFfnUpRef.sig) → Buf (Elt Bits) ℓ) (g : Dev Cert.GradFfnUpRef.nD → PrngReg), Pre_GradFfnUpRef m →
    θ_run (Cert.GradFfnUpRef.defs (F := Bits)) (onTc (τ := Cert.GradFfnUpRef.τ) (Cert.GradFfnUpRef.main (F := Bits))) ⟨m, fun _ => 0, g⟩ (fun r => (∀ c : Dev Cert.GradFfnUpRef.nD,
      r.2.mem ((c.tc : Thread Cert.GradFfnUpRef.nD Cert.GradFfnUpRef.τ).loc Cert.GradFfnUpRef.main_arg0) = m ((c.tc : Thread Cert.GradFfnUpRef.nD Cert.GradFfnUpRef.τ).loc Cert.GradFfnUpRef.main_arg0)
      ∧ r.2.mem ((c.tc : Thread Cert.GradFfnUpRef.nD Cert.GradFfnUpRef.τ).loc Cert.GradFfnUpRef.main_arg1) = m ((c.tc : Thread Cert.GradFfnUpRef.nD Cert.GradFfnUpRef.τ).loc Cert.GradFfnUpRef.main_arg1))
      ∧ r.2.sem = fun _ => 0)

def quiescent_GradFfnUpRefIdeal [hGradFfnUpRefIdeal : Cert.GradFfnUpRefIdeal.Facts] : Prop :=
  ∀ (m : (ℓ : Loc Cert.GradFfnUpRefIdeal.nD Cert.GradFfnUpRefIdeal.τ Cert.GradFfnUpRefIdeal.sig) → Buf (Elt Ideal) ℓ) (g : Dev Cert.GradFfnUpRefIdeal.nD → PrngReg), Pre_GradFfnUpRefIdeal m →
    θ_run (Cert.GradFfnUpRefIdeal.defs (F := Ideal)) (onTc (τ := Cert.GradFfnUpRefIdeal.τ) (Cert.GradFfnUpRefIdeal.main (F := Ideal))) ⟨m, fun _ => 0, g⟩ (fun r => (∀ c : Dev Cert.GradFfnUpRefIdeal.nD,
      r.2.mem ((c.tc : Thread Cert.GradFfnUpRefIdeal.nD Cert.GradFfnUpRefIdeal.τ).loc Cert.GradFfnUpRefIdeal.main_arg0) = m ((c.tc : Thread Cert.GradFfnUpRefIdeal.nD Cert.GradFfnUpRefIdeal.τ).loc Cert.GradFfnUpRefIdeal.main_arg0)
      ∧ r.2.mem ((c.tc : Thread Cert.GradFfnUpRefIdeal.nD Cert.GradFfnUpRefIdeal.τ).loc Cert.GradFfnUpRefIdeal.main_arg1) = m ((c.tc : Thread Cert.GradFfnUpRefIdeal.nD Cert.GradFfnUpRefIdeal.τ).loc Cert.GradFfnUpRefIdeal.main_arg1))
      ∧ r.2.sem = fun _ => 0)

def quiescent_GradFfnDown [hGradFfnDown : Cert.GradFfnDown.Facts] : Prop :=
  ∀ (m : (ℓ : Loc Cert.GradFfnDown.nD Cert.GradFfnDown.τ Cert.GradFfnDown.sig) → Buf (Elt Bits) ℓ) (g : Dev Cert.GradFfnDown.nD → PrngReg), Pre_GradFfnDown m →
    θ_run (Cert.GradFfnDown.defs (F := Bits)) (onTc (τ := Cert.GradFfnDown.τ) (Cert.GradFfnDown.main (F := Bits))) ⟨m, fun _ => 0, g⟩ (fun r => (∀ c : Dev Cert.GradFfnDown.nD,
      r.2.mem ((c.tc : Thread Cert.GradFfnDown.nD Cert.GradFfnDown.τ).loc Cert.GradFfnDown.main_arg0) = m ((c.tc : Thread Cert.GradFfnDown.nD Cert.GradFfnDown.τ).loc Cert.GradFfnDown.main_arg0)
      ∧ r.2.mem ((c.tc : Thread Cert.GradFfnDown.nD Cert.GradFfnDown.τ).loc Cert.GradFfnDown.main_arg1) = m ((c.tc : Thread Cert.GradFfnDown.nD Cert.GradFfnDown.τ).loc Cert.GradFfnDown.main_arg1))
      ∧ r.2.sem = fun _ => 0)

def quiescent_GradFfnDownIdeal [hGradFfnDownIdeal : Cert.GradFfnDownIdeal.Facts] : Prop :=
  ∀ (m : (ℓ : Loc Cert.GradFfnDownIdeal.nD Cert.GradFfnDownIdeal.τ Cert.GradFfnDownIdeal.sig) → Buf (Elt Ideal) ℓ) (g : Dev Cert.GradFfnDownIdeal.nD → PrngReg), Pre_GradFfnDownIdeal m →
    θ_run (Cert.GradFfnDownIdeal.defs (F := Ideal)) (onTc (τ := Cert.GradFfnDownIdeal.τ) (Cert.GradFfnDownIdeal.main (F := Ideal))) ⟨m, fun _ => 0, g⟩ (fun r => (∀ c : Dev Cert.GradFfnDownIdeal.nD,
      r.2.mem ((c.tc : Thread Cert.GradFfnDownIdeal.nD Cert.GradFfnDownIdeal.τ).loc Cert.GradFfnDownIdeal.main_arg0) = m ((c.tc : Thread Cert.GradFfnDownIdeal.nD Cert.GradFfnDownIdeal.τ).loc Cert.GradFfnDownIdeal.main_arg0)
      ∧ r.2.mem ((c.tc : Thread Cert.GradFfnDownIdeal.nD Cert.GradFfnDownIdeal.τ).loc Cert.GradFfnDownIdeal.main_arg1) = m ((c.tc : Thread Cert.GradFfnDownIdeal.nD Cert.GradFfnDownIdeal.τ).loc Cert.GradFfnDownIdeal.main_arg1))
      ∧ r.2.sem = fun _ => 0)

def quiescent_GradFfnDownRef [hGradFfnDownRef : Cert.GradFfnDownRef.Facts] : Prop :=
  ∀ (m : (ℓ : Loc Cert.GradFfnDownRef.nD Cert.GradFfnDownRef.τ Cert.GradFfnDownRef.sig) → Buf (Elt Bits) ℓ) (g : Dev Cert.GradFfnDownRef.nD → PrngReg), Pre_GradFfnDownRef m →
    θ_run (Cert.GradFfnDownRef.defs (F := Bits)) (onTc (τ := Cert.GradFfnDownRef.τ) (Cert.GradFfnDownRef.main (F := Bits))) ⟨m, fun _ => 0, g⟩ (fun r => (∀ c : Dev Cert.GradFfnDownRef.nD,
      r.2.mem ((c.tc : Thread Cert.GradFfnDownRef.nD Cert.GradFfnDownRef.τ).loc Cert.GradFfnDownRef.main_arg0) = m ((c.tc : Thread Cert.GradFfnDownRef.nD Cert.GradFfnDownRef.τ).loc Cert.GradFfnDownRef.main_arg0)
      ∧ r.2.mem ((c.tc : Thread Cert.GradFfnDownRef.nD Cert.GradFfnDownRef.τ).loc Cert.GradFfnDownRef.main_arg1) = m ((c.tc : Thread Cert.GradFfnDownRef.nD Cert.GradFfnDownRef.τ).loc Cert.GradFfnDownRef.main_arg1))
      ∧ r.2.sem = fun _ => 0)

def quiescent_GradFfnDownRefIdeal [hGradFfnDownRefIdeal : Cert.GradFfnDownRefIdeal.Facts] : Prop :=
  ∀ (m : (ℓ : Loc Cert.GradFfnDownRefIdeal.nD Cert.GradFfnDownRefIdeal.τ Cert.GradFfnDownRefIdeal.sig) → Buf (Elt Ideal) ℓ) (g : Dev Cert.GradFfnDownRefIdeal.nD → PrngReg), Pre_GradFfnDownRefIdeal m →
    θ_run (Cert.GradFfnDownRefIdeal.defs (F := Ideal)) (onTc (τ := Cert.GradFfnDownRefIdeal.τ) (Cert.GradFfnDownRefIdeal.main (F := Ideal))) ⟨m, fun _ => 0, g⟩ (fun r => (∀ c : Dev Cert.GradFfnDownRefIdeal.nD,
      r.2.mem ((c.tc : Thread Cert.GradFfnDownRefIdeal.nD Cert.GradFfnDownRefIdeal.τ).loc Cert.GradFfnDownRefIdeal.main_arg0) = m ((c.tc : Thread Cert.GradFfnDownRefIdeal.nD Cert.GradFfnDownRefIdeal.τ).loc Cert.GradFfnDownRefIdeal.main_arg0)
      ∧ r.2.mem ((c.tc : Thread Cert.GradFfnDownRefIdeal.nD Cert.GradFfnDownRefIdeal.τ).loc Cert.GradFfnDownRefIdeal.main_arg1) = m ((c.tc : Thread Cert.GradFfnDownRefIdeal.nD Cert.GradFfnDownRefIdeal.τ).loc Cert.GradFfnDownRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRef [hInProjRef : Cert.InProjRef.Facts] : Prop :=
  ∀ (m : (ℓ : Loc Cert.InProjRef.nD Cert.InProjRef.τ Cert.InProjRef.sig) → Buf (Elt Bits) ℓ) (g : Dev Cert.InProjRef.nD → PrngReg), Pre_InProjRef m →
    θ_run (Cert.InProjRef.defs (F := Bits)) (onTc (τ := Cert.InProjRef.τ) (Cert.InProjRef.main (F := Bits))) ⟨m, fun _ => 0, g⟩ (fun r => (∀ c : Dev Cert.InProjRef.nD,
      r.2.mem ((c.tc : Thread Cert.InProjRef.nD Cert.InProjRef.τ).loc Cert.InProjRef.main_arg0) = m ((c.tc : Thread Cert.InProjRef.nD Cert.InProjRef.τ).loc Cert.InProjRef.main_arg0)
      ∧ r.2.mem ((c.tc : Thread Cert.InProjRef.nD Cert.InProjRef.τ).loc Cert.InProjRef.main_arg1) = m ((c.tc : Thread Cert.InProjRef.nD Cert.InProjRef.τ).loc Cert.InProjRef.main_arg1)
      ∧ r.2.mem ((c.tc : Thread Cert.InProjRef.nD Cert.InProjRef.τ).loc Cert.InProjRef.main_arg2) = m ((c.tc : Thread Cert.InProjRef.nD Cert.InProjRef.τ).loc Cert.InProjRef.main_arg2)
      ∧ r.2.mem ((c.tc : Thread Cert.InProjRef.nD Cert.InProjRef.τ).loc Cert.InProjRef.main_arg3) = m ((c.tc : Thread Cert.InProjRef.nD Cert.InProjRef.τ).loc Cert.InProjRef.main_arg3)
      ∧ r.2.mem ((c.tc : Thread Cert.InProjRef.nD Cert.InProjRef.τ).loc Cert.InProjRef.main_arg4) = m ((c.tc : Thread Cert.InProjRef.nD Cert.InProjRef.τ).loc Cert.InProjRef.main_arg4)
      ∧ r.2.mem ((c.tc : Thread Cert.InProjRef.nD Cert.InProjRef.τ).loc Cert.InProjRef.main_arg5) = m ((c.tc : Thread Cert.InProjRef.nD Cert.InProjRef.τ).loc Cert.InProjRef.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_InProjBack [hInProjBack : Cert.InProjBack.Facts] : Prop :=
  ∀ (m : (ℓ : Loc Cert.InProjBack.nD Cert.InProjBack.τ Cert.InProjBack.sig) → Buf (Elt Bits) ℓ) (g : Dev Cert.InProjBack.nD → PrngReg), Pre_InProjBack m →
    θ_run (Cert.InProjBack.defs (F := Bits)) (onTc (τ := Cert.InProjBack.τ) (Cert.InProjBack.main (F := Bits))) ⟨m, fun _ => 0, g⟩ (fun r => (∀ c : Dev Cert.InProjBack.nD,
      r.2.mem ((c.tc : Thread Cert.InProjBack.nD Cert.InProjBack.τ).loc Cert.InProjBack.main_arg0) = m ((c.tc : Thread Cert.InProjBack.nD Cert.InProjBack.τ).loc Cert.InProjBack.main_arg0)
      ∧ r.2.mem ((c.tc : Thread Cert.InProjBack.nD Cert.InProjBack.τ).loc Cert.InProjBack.main_arg1) = m ((c.tc : Thread Cert.InProjBack.nD Cert.InProjBack.τ).loc Cert.InProjBack.main_arg1)
      ∧ r.2.mem ((c.tc : Thread Cert.InProjBack.nD Cert.InProjBack.τ).loc Cert.InProjBack.main_arg2) = m ((c.tc : Thread Cert.InProjBack.nD Cert.InProjBack.τ).loc Cert.InProjBack.main_arg2)
      ∧ r.2.mem ((c.tc : Thread Cert.InProjBack.nD Cert.InProjBack.τ).loc Cert.InProjBack.main_arg3) = m ((c.tc : Thread Cert.InProjBack.nD Cert.InProjBack.τ).loc Cert.InProjBack.main_arg3)
      ∧ r.2.mem ((c.tc : Thread Cert.InProjBack.nD Cert.InProjBack.τ).loc Cert.InProjBack.main_arg4) = m ((c.tc : Thread Cert.InProjBack.nD Cert.InProjBack.τ).loc Cert.InProjBack.main_arg4)
      ∧ r.2.mem ((c.tc : Thread Cert.InProjBack.nD Cert.InProjBack.τ).loc Cert.InProjBack.main_arg5) = m ((c.tc : Thread Cert.InProjBack.nD Cert.InProjBack.τ).loc Cert.InProjBack.main_arg5)
      ∧ r.2.mem ((c.tc : Thread Cert.InProjBack.nD Cert.InProjBack.τ).loc Cert.InProjBack.main_arg6) = m ((c.tc : Thread Cert.InProjBack.nD Cert.InProjBack.τ).loc Cert.InProjBack.main_arg6)
      ∧ r.2.mem ((c.tc : Thread Cert.InProjBack.nD Cert.InProjBack.τ).loc Cert.InProjBack.main_arg7) = m ((c.tc : Thread Cert.InProjBack.nD Cert.InProjBack.τ).loc Cert.InProjBack.main_arg7)
      ∧ r.2.mem ((c.tc : Thread Cert.InProjBack.nD Cert.InProjBack.τ).loc Cert.InProjBack.main_arg8) = m ((c.tc : Thread Cert.InProjBack.nD Cert.InProjBack.τ).loc Cert.InProjBack.main_arg8))
      ∧ r.2.sem = fun _ => 0)

def quiescent_InProjBackIdeal [hInProjBackIdeal : Cert.InProjBackIdeal.Facts] : Prop :=
  ∀ (m : (ℓ : Loc Cert.InProjBackIdeal.nD Cert.InProjBackIdeal.τ Cert.InProjBackIdeal.sig) → Buf (Elt Ideal) ℓ) (g : Dev Cert.InProjBackIdeal.nD → PrngReg), Pre_InProjBackIdeal m →
    θ_run (Cert.InProjBackIdeal.defs (F := Ideal)) (onTc (τ := Cert.InProjBackIdeal.τ) (Cert.InProjBackIdeal.main (F := Ideal))) ⟨m, fun _ => 0, g⟩ (fun r => (∀ c : Dev Cert.InProjBackIdeal.nD,
      r.2.mem ((c.tc : Thread Cert.InProjBackIdeal.nD Cert.InProjBackIdeal.τ).loc Cert.InProjBackIdeal.main_arg0) = m ((c.tc : Thread Cert.InProjBackIdeal.nD Cert.InProjBackIdeal.τ).loc Cert.InProjBackIdeal.main_arg0)
      ∧ r.2.mem ((c.tc : Thread Cert.InProjBackIdeal.nD Cert.InProjBackIdeal.τ).loc Cert.InProjBackIdeal.main_arg1) = m ((c.tc : Thread Cert.InProjBackIdeal.nD Cert.InProjBackIdeal.τ).loc Cert.InProjBackIdeal.main_arg1)
      ∧ r.2.mem ((c.tc : Thread Cert.InProjBackIdeal.nD Cert.InProjBackIdeal.τ).loc Cert.InProjBackIdeal.main_arg2) = m ((c.tc : Thread Cert.InProjBackIdeal.nD Cert.InProjBackIdeal.τ).loc Cert.InProjBackIdeal.main_arg2)
      ∧ r.2.mem ((c.tc : Thread Cert.InProjBackIdeal.nD Cert.InProjBackIdeal.τ).loc Cert.InProjBackIdeal.main_arg3) = m ((c.tc : Thread Cert.InProjBackIdeal.nD Cert.InProjBackIdeal.τ).loc Cert.InProjBackIdeal.main_arg3)
      ∧ r.2.mem ((c.tc : Thread Cert.InProjBackIdeal.nD Cert.InProjBackIdeal.τ).loc Cert.InProjBackIdeal.main_arg4) = m ((c.tc : Thread Cert.InProjBackIdeal.nD Cert.InProjBackIdeal.τ).loc Cert.InProjBackIdeal.main_arg4)
      ∧ r.2.mem ((c.tc : Thread Cert.InProjBackIdeal.nD Cert.InProjBackIdeal.τ).loc Cert.InProjBackIdeal.main_arg5) = m ((c.tc : Thread Cert.InProjBackIdeal.nD Cert.InProjBackIdeal.τ).loc Cert.InProjBackIdeal.main_arg5)
      ∧ r.2.mem ((c.tc : Thread Cert.InProjBackIdeal.nD Cert.InProjBackIdeal.τ).loc Cert.InProjBackIdeal.main_arg6) = m ((c.tc : Thread Cert.InProjBackIdeal.nD Cert.InProjBackIdeal.τ).loc Cert.InProjBackIdeal.main_arg6)
      ∧ r.2.mem ((c.tc : Thread Cert.InProjBackIdeal.nD Cert.InProjBackIdeal.τ).loc Cert.InProjBackIdeal.main_arg7) = m ((c.tc : Thread Cert.InProjBackIdeal.nD Cert.InProjBackIdeal.τ).loc Cert.InProjBackIdeal.main_arg7)
      ∧ r.2.mem ((c.tc : Thread Cert.InProjBackIdeal.nD Cert.InProjBackIdeal.τ).loc Cert.InProjBackIdeal.main_arg8) = m ((c.tc : Thread Cert.InProjBackIdeal.nD Cert.InProjBackIdeal.τ).loc Cert.InProjBackIdeal.main_arg8))
      ∧ r.2.sem = fun _ => 0)

def quiescent_InProjBackRef [hInProjBackRef : Cert.InProjBackRef.Facts] : Prop :=
  ∀ (m : (ℓ : Loc Cert.InProjBackRef.nD Cert.InProjBackRef.τ Cert.InProjBackRef.sig) → Buf (Elt Bits) ℓ) (g : Dev Cert.InProjBackRef.nD → PrngReg), Pre_InProjBackRef m →
    θ_run (Cert.InProjBackRef.defs (F := Bits)) (onTc (τ := Cert.InProjBackRef.τ) (Cert.InProjBackRef.main (F := Bits))) ⟨m, fun _ => 0, g⟩ (fun r => (∀ c : Dev Cert.InProjBackRef.nD,
      r.2.mem ((c.tc : Thread Cert.InProjBackRef.nD Cert.InProjBackRef.τ).loc Cert.InProjBackRef.main_arg0) = m ((c.tc : Thread Cert.InProjBackRef.nD Cert.InProjBackRef.τ).loc Cert.InProjBackRef.main_arg0)
      ∧ r.2.mem ((c.tc : Thread Cert.InProjBackRef.nD Cert.InProjBackRef.τ).loc Cert.InProjBackRef.main_arg1) = m ((c.tc : Thread Cert.InProjBackRef.nD Cert.InProjBackRef.τ).loc Cert.InProjBackRef.main_arg1)
      ∧ r.2.mem ((c.tc : Thread Cert.InProjBackRef.nD Cert.InProjBackRef.τ).loc Cert.InProjBackRef.main_arg2) = m ((c.tc : Thread Cert.InProjBackRef.nD Cert.InProjBackRef.τ).loc Cert.InProjBackRef.main_arg2)
      ∧ r.2.mem ((c.tc : Thread Cert.InProjBackRef.nD Cert.InProjBackRef.τ).loc Cert.InProjBackRef.main_arg3) = m ((c.tc : Thread Cert.InProjBackRef.nD Cert.InProjBackRef.τ).loc Cert.InProjBackRef.main_arg3)
      ∧ r.2.mem ((c.tc : Thread Cert.InProjBackRef.nD Cert.InProjBackRef.τ).loc Cert.InProjBackRef.main_arg4) = m ((c.tc : Thread Cert.InProjBackRef.nD Cert.InProjBackRef.τ).loc Cert.InProjBackRef.main_arg4)
      ∧ r.2.mem ((c.tc : Thread Cert.InProjBackRef.nD Cert.InProjBackRef.τ).loc Cert.InProjBackRef.main_arg5) = m ((c.tc : Thread Cert.InProjBackRef.nD Cert.InProjBackRef.τ).loc Cert.InProjBackRef.main_arg5)
      ∧ r.2.mem ((c.tc : Thread Cert.InProjBackRef.nD Cert.InProjBackRef.τ).loc Cert.InProjBackRef.main_arg6) = m ((c.tc : Thread Cert.InProjBackRef.nD Cert.InProjBackRef.τ).loc Cert.InProjBackRef.main_arg6)
      ∧ r.2.mem ((c.tc : Thread Cert.InProjBackRef.nD Cert.InProjBackRef.τ).loc Cert.InProjBackRef.main_arg7) = m ((c.tc : Thread Cert.InProjBackRef.nD Cert.InProjBackRef.τ).loc Cert.InProjBackRef.main_arg7)
      ∧ r.2.mem ((c.tc : Thread Cert.InProjBackRef.nD Cert.InProjBackRef.τ).loc Cert.InProjBackRef.main_arg8) = m ((c.tc : Thread Cert.InProjBackRef.nD Cert.InProjBackRef.τ).loc Cert.InProjBackRef.main_arg8))
      ∧ r.2.sem = fun _ => 0)

def quiescent_InProjBackRefIdeal [hInProjBackRefIdeal : Cert.InProjBackRefIdeal.Facts] : Prop :=
  ∀ (m : (ℓ : Loc Cert.InProjBackRefIdeal.nD Cert.InProjBackRefIdeal.τ Cert.InProjBackRefIdeal.sig) → Buf (Elt Ideal) ℓ) (g : Dev Cert.InProjBackRefIdeal.nD → PrngReg), Pre_InProjBackRefIdeal m →
    θ_run (Cert.InProjBackRefIdeal.defs (F := Ideal)) (onTc (τ := Cert.InProjBackRefIdeal.τ) (Cert.InProjBackRefIdeal.main (F := Ideal))) ⟨m, fun _ => 0, g⟩ (fun r => (∀ c : Dev Cert.InProjBackRefIdeal.nD,
      r.2.mem ((c.tc : Thread Cert.InProjBackRefIdeal.nD Cert.InProjBackRefIdeal.τ).loc Cert.InProjBackRefIdeal.main_arg0) = m ((c.tc : Thread Cert.InProjBackRefIdeal.nD Cert.InProjBackRefIdeal.τ).loc Cert.InProjBackRefIdeal.main_arg0)
      ∧ r.2.mem ((c.tc : Thread Cert.InProjBackRefIdeal.nD Cert.InProjBackRefIdeal.τ).loc Cert.InProjBackRefIdeal.main_arg1) = m ((c.tc : Thread Cert.InProjBackRefIdeal.nD Cert.InProjBackRefIdeal.τ).loc Cert.InProjBackRefIdeal.main_arg1)
      ∧ r.2.mem ((c.tc : Thread Cert.InProjBackRefIdeal.nD Cert.InProjBackRefIdeal.τ).loc Cert.InProjBackRefIdeal.main_arg2) = m ((c.tc : Thread Cert.InProjBackRefIdeal.nD Cert.InProjBackRefIdeal.τ).loc Cert.InProjBackRefIdeal.main_arg2)
      ∧ r.2.mem ((c.tc : Thread Cert.InProjBackRefIdeal.nD Cert.InProjBackRefIdeal.τ).loc Cert.InProjBackRefIdeal.main_arg3) = m ((c.tc : Thread Cert.InProjBackRefIdeal.nD Cert.InProjBackRefIdeal.τ).loc Cert.InProjBackRefIdeal.main_arg3)
      ∧ r.2.mem ((c.tc : Thread Cert.InProjBackRefIdeal.nD Cert.InProjBackRefIdeal.τ).loc Cert.InProjBackRefIdeal.main_arg4) = m ((c.tc : Thread Cert.InProjBackRefIdeal.nD Cert.InProjBackRefIdeal.τ).loc Cert.InProjBackRefIdeal.main_arg4)
      ∧ r.2.mem ((c.tc : Thread Cert.InProjBackRefIdeal.nD Cert.InProjBackRefIdeal.τ).loc Cert.InProjBackRefIdeal.main_arg5) = m ((c.tc : Thread Cert.InProjBackRefIdeal.nD Cert.InProjBackRefIdeal.τ).loc Cert.InProjBackRefIdeal.main_arg5)
      ∧ r.2.mem ((c.tc : Thread Cert.InProjBackRefIdeal.nD Cert.InProjBackRefIdeal.τ).loc Cert.InProjBackRefIdeal.main_arg6) = m ((c.tc : Thread Cert.InProjBackRefIdeal.nD Cert.InProjBackRefIdeal.τ).loc Cert.InProjBackRefIdeal.main_arg6)
      ∧ r.2.mem ((c.tc : Thread Cert.InProjBackRefIdeal.nD Cert.InProjBackRefIdeal.τ).loc Cert.InProjBackRefIdeal.main_arg7) = m ((c.tc : Thread Cert.InProjBackRefIdeal.nD Cert.InProjBackRefIdeal.τ).loc Cert.InProjBackRefIdeal.main_arg7)
      ∧ r.2.mem ((c.tc : Thread Cert.InProjBackRefIdeal.nD Cert.InProjBackRefIdeal.τ).loc Cert.InProjBackRefIdeal.main_arg8) = m ((c.tc : Thread Cert.InProjBackRefIdeal.nD Cert.InProjBackRefIdeal.τ).loc Cert.InProjBackRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRef [hMergeRef : Cert.MergeRef.Facts] : Prop :=
  ∀ (m : (ℓ : Loc Cert.MergeRef.nD Cert.MergeRef.τ Cert.MergeRef.sig) → Buf (Elt Bits) ℓ) (g : Dev Cert.MergeRef.nD → PrngReg), Pre_MergeRef m →
    θ_run (Cert.MergeRef.defs (F := Bits)) (onTc (τ := Cert.MergeRef.τ) (Cert.MergeRef.main (F := Bits))) ⟨m, fun _ => 0, g⟩ (fun r => (∀ c : Dev Cert.MergeRef.nD,
      r.2.mem ((c.tc : Thread Cert.MergeRef.nD Cert.MergeRef.τ).loc Cert.MergeRef.main_arg0) = m ((c.tc : Thread Cert.MergeRef.nD Cert.MergeRef.τ).loc Cert.MergeRef.main_arg0)
      ∧ r.2.mem ((c.tc : Thread Cert.MergeRef.nD Cert.MergeRef.τ).loc Cert.MergeRef.main_arg1) = m ((c.tc : Thread Cert.MergeRef.nD Cert.MergeRef.τ).loc Cert.MergeRef.main_arg1)
      ∧ r.2.mem ((c.tc : Thread Cert.MergeRef.nD Cert.MergeRef.τ).loc Cert.MergeRef.main_arg2) = m ((c.tc : Thread Cert.MergeRef.nD Cert.MergeRef.τ).loc Cert.MergeRef.main_arg2)
      ∧ r.2.mem ((c.tc : Thread Cert.MergeRef.nD Cert.MergeRef.τ).loc Cert.MergeRef.main_arg3) = m ((c.tc : Thread Cert.MergeRef.nD Cert.MergeRef.τ).loc Cert.MergeRef.main_arg3)
      ∧ r.2.mem ((c.tc : Thread Cert.MergeRef.nD Cert.MergeRef.τ).loc Cert.MergeRef.main_arg4) = m ((c.tc : Thread Cert.MergeRef.nD Cert.MergeRef.τ).loc Cert.MergeRef.main_arg4)
      ∧ r.2.mem ((c.tc : Thread Cert.MergeRef.nD Cert.MergeRef.τ).loc Cert.MergeRef.main_arg5) = m ((c.tc : Thread Cert.MergeRef.nD Cert.MergeRef.τ).loc Cert.MergeRef.main_arg5)
      ∧ r.2.mem ((c.tc : Thread Cert.MergeRef.nD Cert.MergeRef.τ).loc Cert.MergeRef.main_arg6) = m ((c.tc : Thread Cert.MergeRef.nD Cert.MergeRef.τ).loc Cert.MergeRef.main_arg6)
      ∧ r.2.mem ((c.tc : Thread Cert.MergeRef.nD Cert.MergeRef.τ).loc Cert.MergeRef.main_arg7) = m ((c.tc : Thread Cert.MergeRef.nD Cert.MergeRef.τ).loc Cert.MergeRef.main_arg7)
      ∧ r.2.mem ((c.tc : Thread Cert.MergeRef.nD Cert.MergeRef.τ).loc Cert.MergeRef.main_arg8) = m ((c.tc : Thread Cert.MergeRef.nD Cert.MergeRef.τ).loc Cert.MergeRef.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_MergeBack [hMergeBack : Cert.MergeBack.Facts] : Prop :=
  ∀ (m : (ℓ : Loc Cert.MergeBack.nD Cert.MergeBack.τ Cert.MergeBack.sig) → Buf (Elt Bits) ℓ) (g : Dev Cert.MergeBack.nD → PrngReg), Pre_MergeBack m →
    θ_run (Cert.MergeBack.defs (F := Bits)) (onTc (τ := Cert.MergeBack.τ) (Cert.MergeBack.main (F := Bits))) ⟨m, fun _ => 0, g⟩ (fun r => (∀ c : Dev Cert.MergeBack.nD,
      r.2.mem ((c.tc : Thread Cert.MergeBack.nD Cert.MergeBack.τ).loc Cert.MergeBack.main_arg0) = m ((c.tc : Thread Cert.MergeBack.nD Cert.MergeBack.τ).loc Cert.MergeBack.main_arg0)
      ∧ r.2.mem ((c.tc : Thread Cert.MergeBack.nD Cert.MergeBack.τ).loc Cert.MergeBack.main_arg1) = m ((c.tc : Thread Cert.MergeBack.nD Cert.MergeBack.τ).loc Cert.MergeBack.main_arg1)
      ∧ r.2.mem ((c.tc : Thread Cert.MergeBack.nD Cert.MergeBack.τ).loc Cert.MergeBack.main_arg2) = m ((c.tc : Thread Cert.MergeBack.nD Cert.MergeBack.τ).loc Cert.MergeBack.main_arg2)
      ∧ r.2.mem ((c.tc : Thread Cert.MergeBack.nD Cert.MergeBack.τ).loc Cert.MergeBack.main_arg3) = m ((c.tc : Thread Cert.MergeBack.nD Cert.MergeBack.τ).loc Cert.MergeBack.main_arg3)
      ∧ r.2.mem ((c.tc : Thread Cert.MergeBack.nD Cert.MergeBack.τ).loc Cert.MergeBack.main_arg4) = m ((c.tc : Thread Cert.MergeBack.nD Cert.MergeBack.τ).loc Cert.MergeBack.main_arg4)
      ∧ r.2.mem ((c.tc : Thread Cert.MergeBack.nD Cert.MergeBack.τ).loc Cert.MergeBack.main_arg5) = m ((c.tc : Thread Cert.MergeBack.nD Cert.MergeBack.τ).loc Cert.MergeBack.main_arg5)
      ∧ r.2.mem ((c.tc : Thread Cert.MergeBack.nD Cert.MergeBack.τ).loc Cert.MergeBack.main_arg6) = m ((c.tc : Thread Cert.MergeBack.nD Cert.MergeBack.τ).loc Cert.MergeBack.main_arg6)
      ∧ r.2.mem ((c.tc : Thread Cert.MergeBack.nD Cert.MergeBack.τ).loc Cert.MergeBack.main_arg7) = m ((c.tc : Thread Cert.MergeBack.nD Cert.MergeBack.τ).loc Cert.MergeBack.main_arg7)
      ∧ r.2.mem ((c.tc : Thread Cert.MergeBack.nD Cert.MergeBack.τ).loc Cert.MergeBack.main_arg8) = m ((c.tc : Thread Cert.MergeBack.nD Cert.MergeBack.τ).loc Cert.MergeBack.main_arg8))
      ∧ r.2.sem = fun _ => 0)

def quiescent_MergeBackIdeal [hMergeBackIdeal : Cert.MergeBackIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg), Pre_MergeBackIdeal m →
    θ_run (Cert.MergeBackIdeal.defs (F := Ideal)) (onTc (τ := Cert.MergeBackIdeal.τ) (Cert.MergeBackIdeal.main (F := Ideal))) ⟨m, fun _ => 0, g⟩ (fun r => (∀ c : Dev Cert.MergeBackIdeal.nD,
      r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
      ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
      ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
      ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3)
      ∧ r.2.mem ((c.tc : Thread Cert.MergeBackIdeal.nD Cert.MergeBackIdeal.τ).loc Cert.MergeBackIdeal.main_arg4) = m ((c.tc : Thread Cert.MergeBackIdeal.nD Cert.MergeBackIdeal.τ).loc Cert.MergeBackIdeal.main_arg4)
      ∧ r.2.mem ((c.tc : Thread Cert.MergeBackIdeal.nD Cert.MergeBackIdeal.τ).loc Cert.MergeBackIdeal.main_arg5) = m ((c.tc : Thread Cert.MergeBackIdeal.nD Cert.MergeBackIdeal.τ).loc Cert.MergeBackIdeal.main_arg5)
      ∧ r.2.mem ((c.tc : Thread Cert.MergeBackIdeal.nD Cert.MergeBackIdeal.τ).loc Cert.MergeBackIdeal.main_arg6) = m ((c.tc : Thread Cert.MergeBackIdeal.nD Cert.MergeBackIdeal.τ).loc Cert.MergeBackIdeal.main_arg6)
      ∧ r.2.mem ((c.tc : Thread Cert.MergeBackIdeal.nD Cert.MergeBackIdeal.τ).loc Cert.MergeBackIdeal.main_arg7) = m ((c.tc : Thread Cert.MergeBackIdeal.nD Cert.MergeBackIdeal.τ).loc Cert.MergeBackIdeal.main_arg7)
      ∧ r.2.mem ((c.tc : Thread Cert.MergeBackIdeal.nD Cert.MergeBackIdeal.τ).loc Cert.MergeBackIdeal.main_arg8) = m ((c.tc : Thread Cert.MergeBackIdeal.nD Cert.MergeBackIdeal.τ).loc Cert.MergeBackIdeal.main_arg8))
      ∧ r.2.sem = fun _ => 0)

def quiescent_MergeBackRef [hMergeBackRef : Cert.MergeBackRef.Facts] : Prop :=
  ∀ (m : (ℓ : Loc Cert.MergeBackRef.nD Cert.MergeBackRef.τ Cert.MergeBackRef.sig) → Buf (Elt Bits) ℓ) (g : Dev Cert.MergeBackRef.nD → PrngReg), Pre_MergeBackRef m →
    θ_run (Cert.MergeBackRef.defs (F := Bits)) (onTc (τ := Cert.MergeBackRef.τ) (Cert.MergeBackRef.main (F := Bits))) ⟨m, fun _ => 0, g⟩ (fun r => (∀ c : Dev Cert.MergeBackRef.nD,
      r.2.mem ((c.tc : Thread Cert.MergeBackRef.nD Cert.MergeBackRef.τ).loc Cert.MergeBackRef.main_arg0) = m ((c.tc : Thread Cert.MergeBackRef.nD Cert.MergeBackRef.τ).loc Cert.MergeBackRef.main_arg0)
      ∧ r.2.mem ((c.tc : Thread Cert.MergeBackRef.nD Cert.MergeBackRef.τ).loc Cert.MergeBackRef.main_arg1) = m ((c.tc : Thread Cert.MergeBackRef.nD Cert.MergeBackRef.τ).loc Cert.MergeBackRef.main_arg1)
      ∧ r.2.mem ((c.tc : Thread Cert.MergeBackRef.nD Cert.MergeBackRef.τ).loc Cert.MergeBackRef.main_arg2) = m ((c.tc : Thread Cert.MergeBackRef.nD Cert.MergeBackRef.τ).loc Cert.MergeBackRef.main_arg2)
      ∧ r.2.mem ((c.tc : Thread Cert.MergeBackRef.nD Cert.MergeBackRef.τ).loc Cert.MergeBackRef.main_arg3) = m ((c.tc : Thread Cert.MergeBackRef.nD Cert.MergeBackRef.τ).loc Cert.MergeBackRef.main_arg3)
      ∧ r.2.mem ((c.tc : Thread Cert.MergeBackRef.nD Cert.MergeBackRef.τ).loc Cert.MergeBackRef.main_arg4) = m ((c.tc : Thread Cert.MergeBackRef.nD Cert.MergeBackRef.τ).loc Cert.MergeBackRef.main_arg4)
      ∧ r.2.mem ((c.tc : Thread Cert.MergeBackRef.nD Cert.MergeBackRef.τ).loc Cert.MergeBackRef.main_arg5) = m ((c.tc : Thread Cert.MergeBackRef.nD Cert.MergeBackRef.τ).loc Cert.MergeBackRef.main_arg5)
      ∧ r.2.mem ((c.tc : Thread Cert.MergeBackRef.nD Cert.MergeBackRef.τ).loc Cert.MergeBackRef.main_arg6) = m ((c.tc : Thread Cert.MergeBackRef.nD Cert.MergeBackRef.τ).loc Cert.MergeBackRef.main_arg6)
      ∧ r.2.mem ((c.tc : Thread Cert.MergeBackRef.nD Cert.MergeBackRef.τ).loc Cert.MergeBackRef.main_arg7) = m ((c.tc : Thread Cert.MergeBackRef.nD Cert.MergeBackRef.τ).loc Cert.MergeBackRef.main_arg7)
      ∧ r.2.mem ((c.tc : Thread Cert.MergeBackRef.nD Cert.MergeBackRef.τ).loc Cert.MergeBackRef.main_arg8) = m ((c.tc : Thread Cert.MergeBackRef.nD Cert.MergeBackRef.τ).loc Cert.MergeBackRef.main_arg8))
      ∧ r.2.sem = fun _ => 0)

def quiescent_MergeBackRefIdeal [hMergeBackRefIdeal : Cert.MergeBackRefIdeal.Facts] : Prop :=
  ∀ (m : (ℓ : Loc Cert.MergeBackRefIdeal.nD Cert.MergeBackRefIdeal.τ Cert.MergeBackRefIdeal.sig) → Buf (Elt Ideal) ℓ) (g : Dev Cert.MergeBackRefIdeal.nD → PrngReg), Pre_MergeBackRefIdeal m →
    θ_run (Cert.MergeBackRefIdeal.defs (F := Ideal)) (onTc (τ := Cert.MergeBackRefIdeal.τ) (Cert.MergeBackRefIdeal.main (F := Ideal))) ⟨m, fun _ => 0, g⟩ (fun r => (∀ c : Dev Cert.MergeBackRefIdeal.nD,
      r.2.mem ((c.tc : Thread Cert.MergeBackRefIdeal.nD Cert.MergeBackRefIdeal.τ).loc Cert.MergeBackRefIdeal.main_arg0) = m ((c.tc : Thread Cert.MergeBackRefIdeal.nD Cert.MergeBackRefIdeal.τ).loc Cert.MergeBackRefIdeal.main_arg0)
      ∧ r.2.mem ((c.tc : Thread Cert.MergeBackRefIdeal.nD Cert.MergeBackRefIdeal.τ).loc Cert.MergeBackRefIdeal.main_arg1) = m ((c.tc : Thread Cert.MergeBackRefIdeal.nD Cert.MergeBackRefIdeal.τ).loc Cert.MergeBackRefIdeal.main_arg1)
      ∧ r.2.mem ((c.tc : Thread Cert.MergeBackRefIdeal.nD Cert.MergeBackRefIdeal.τ).loc Cert.MergeBackRefIdeal.main_arg2) = m ((c.tc : Thread Cert.MergeBackRefIdeal.nD Cert.MergeBackRefIdeal.τ).loc Cert.MergeBackRefIdeal.main_arg2)
      ∧ r.2.mem ((c.tc : Thread Cert.MergeBackRefIdeal.nD Cert.MergeBackRefIdeal.τ).loc Cert.MergeBackRefIdeal.main_arg3) = m ((c.tc : Thread Cert.MergeBackRefIdeal.nD Cert.MergeBackRefIdeal.τ).loc Cert.MergeBackRefIdeal.main_arg3)
      ∧ r.2.mem ((c.tc : Thread Cert.MergeBackRefIdeal.nD Cert.MergeBackRefIdeal.τ).loc Cert.MergeBackRefIdeal.main_arg4) = m ((c.tc : Thread Cert.MergeBackRefIdeal.nD Cert.MergeBackRefIdeal.τ).loc Cert.MergeBackRefIdeal.main_arg4)
      ∧ r.2.mem ((c.tc : Thread Cert.MergeBackRefIdeal.nD Cert.MergeBackRefIdeal.τ).loc Cert.MergeBackRefIdeal.main_arg5) = m ((c.tc : Thread Cert.MergeBackRefIdeal.nD Cert.MergeBackRefIdeal.τ).loc Cert.MergeBackRefIdeal.main_arg5)
      ∧ r.2.mem ((c.tc : Thread Cert.MergeBackRefIdeal.nD Cert.MergeBackRefIdeal.τ).loc Cert.MergeBackRefIdeal.main_arg6) = m ((c.tc : Thread Cert.MergeBackRefIdeal.nD Cert.MergeBackRefIdeal.τ).loc Cert.MergeBackRefIdeal.main_arg6)
      ∧ r.2.mem ((c.tc : Thread Cert.MergeBackRefIdeal.nD Cert.MergeBackRefIdeal.τ).loc Cert.MergeBackRefIdeal.main_arg7) = m ((c.tc : Thread Cert.MergeBackRefIdeal.nD Cert.MergeBackRefIdeal.τ).loc Cert.MergeBackRefIdeal.main_arg7)
      ∧ r.2.mem ((c.tc : Thread Cert.MergeBackRefIdeal.nD Cert.MergeBackRefIdeal.τ).loc Cert.MergeBackRefIdeal.main_arg8) = m ((c.tc : Thread Cert.MergeBackRefIdeal.nD Cert.MergeBackRefIdeal.τ).loc Cert.MergeBackRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRef [hFfnRef : Cert.FfnRef.Facts] : Prop :=
  ∀ (m : (ℓ : Loc Cert.FfnRef.nD Cert.FfnRef.τ Cert.FfnRef.sig) → Buf (Elt Bits) ℓ) (g : Dev Cert.FfnRef.nD → PrngReg), Pre_FfnRef m →
    θ_run (Cert.FfnRef.defs (F := Bits)) (onTc (τ := Cert.FfnRef.τ) (Cert.FfnRef.main (F := Bits))) ⟨m, fun _ => 0, g⟩ (fun r => (∀ c : Dev Cert.FfnRef.nD,
      r.2.mem ((c.tc : Thread Cert.FfnRef.nD Cert.FfnRef.τ).loc Cert.FfnRef.main_arg0) = m ((c.tc : Thread Cert.FfnRef.nD Cert.FfnRef.τ).loc Cert.FfnRef.main_arg0)
      ∧ r.2.mem ((c.tc : Thread Cert.FfnRef.nD Cert.FfnRef.τ).loc Cert.FfnRef.main_arg1) = m ((c.tc : Thread Cert.FfnRef.nD Cert.FfnRef.τ).loc Cert.FfnRef.main_arg1)
      ∧ r.2.mem ((c.tc : Thread Cert.FfnRef.nD Cert.FfnRef.τ).loc Cert.FfnRef.main_arg2) = m ((c.tc : Thread Cert.FfnRef.nD Cert.FfnRef.τ).loc Cert.FfnRef.main_arg2)
      ∧ r.2.mem ((c.tc : Thread Cert.FfnRef.nD Cert.FfnRef.τ).loc Cert.FfnRef.main_arg3) = m ((c.tc : Thread Cert.FfnRef.nD Cert.FfnRef.τ).loc Cert.FfnRef.main_arg3)
      ∧ r.2.mem ((c.tc : Thread Cert.FfnRef.nD Cert.FfnRef.τ).loc Cert.FfnRef.main_arg4) = m ((c.tc : Thread Cert.FfnRef.nD Cert.FfnRef.τ).loc Cert.FfnRef.main_arg4)
      ∧ r.2.mem ((c.tc : Thread Cert.FfnRef.nD Cert.FfnRef.τ).loc Cert.FfnRef.main_arg5) = m ((c.tc : Thread Cert.FfnRef.nD Cert.FfnRef.τ).loc Cert.FfnRef.main_arg5)
      ∧ r.2.mem ((c.tc : Thread Cert.FfnRef.nD Cert.FfnRef.τ).loc Cert.FfnRef.main_arg6) = m ((c.tc : Thread Cert.FfnRef.nD Cert.FfnRef.τ).loc Cert.FfnRef.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def preserves_Gather_GatherIdeal : Prop :=
  True

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![16000, 128]⟩ ⟨2, ![128000, 128]⟩ 0 8 c (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![16000, 128]⟩ ⟨2, ![128000, 128]⟩ 0 8 c (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def preserves_Cores_CoresIdeal : Prop :=
  True

def bitexact_Cores_CoresRef [hCores : Cert.Cores.Facts] [hCoresRef : Cert.CoresRef.Facts] : Prop :=
  ∀ (m : (ℓ : Loc Cert.Cores.nD Cert.Cores.τ Cert.Cores.sig) → Buf (Elt Bits) ℓ) (g : Dev Cert.Cores.nD → PrngReg)
    (m' : (ℓ : Loc Cert.CoresRef.nD Cert.CoresRef.τ Cert.CoresRef.sig) → Buf (Elt Bits) ℓ) (g' : Dev Cert.CoresRef.nD → PrngReg), Pre_Cores m →
    (∀ c : Dev Cert.Cores.nD,
      m ((c.tc : Thread Cert.Cores.nD Cert.Cores.τ).loc Cert.Cores.main_arg0) = Layout.block ⟨4, ![2, 4, 16000, 128]⟩ ⟨4, ![16, 4, 16000, 128]⟩ 0 8 c (m' (((0 : Dev Cert.CoresRef.nD).tc : Thread Cert.CoresRef.nD Cert.CoresRef.τ).loc Cert.CoresRef.main_arg0))
      ∧ m ((c.tc : Thread Cert.Cores.nD Cert.Cores.τ).loc Cert.Cores.main_arg1) = Layout.block ⟨2, ![96, 128]⟩ ⟨2, ![768, 128]⟩ 0 8 c (m' (((0 : Dev Cert.CoresRef.nD).tc : Thread Cert.CoresRef.nD Cert.CoresRef.τ).loc Cert.CoresRef.main_arg1))) →
    ∃ (v0 : Buf (Elt Bits) (((0 : Dev Cert.CoresRef.nD).tc : Thread Cert.CoresRef.nD Cert.CoresRef.τ).loc Cert.CoresRef.main_v8)) (v1 : Buf (Elt Bits) (((0 : Dev Cert.CoresRef.nD).tc : Thread Cert.CoresRef.nD Cert.CoresRef.τ).loc Cert.CoresRef.main_v9)),
      θ_run (Cert.Cores.defs (F := Bits)) (onTc (τ := Cert.Cores.τ) (Cert.Cores.main (F := Bits))) ⟨m, fun _ => 0, g⟩ (fun r => ∀ c : Dev Cert.Cores.nD,
          r.2.mem ((c.tc : Thread Cert.Cores.nD Cert.Cores.τ).loc Cert.Cores.main_v1_0) = Layout.block ⟨3, ![4, 16000, 128]⟩ ⟨3, ![32, 16000, 128]⟩ 0 8 c v0
          ∧ r.2.mem ((c.tc : Thread Cert.Cores.nD Cert.Cores.τ).loc Cert.Cores.main_v1_1) = v1
          ∧ r.2.mem ((c.tc : Thread Cert.Cores.nD Cert.Cores.τ).loc Cert.Cores.main_arg0) = m ((c.tc : Thread Cert.Cores.nD Cert.Cores.τ).loc Cert.Cores.main_arg0)
          ∧ r.2.mem ((c.tc : Thread Cert.Cores.nD Cert.Cores.τ).loc Cert.Cores.main_arg1) = m ((c.tc : Thread Cert.Cores.nD Cert.Cores.τ).loc Cert.Cores.main_arg1))
      ∧ θ_run (Cert.CoresRef.defs (F := Bits)) (onTc (τ := Cert.CoresRef.τ) (Cert.CoresRef.main (F := Bits))) ⟨m', fun _ => 0, g'⟩ (fun r =>
          r.2.mem (((0 : Dev Cert.CoresRef.nD).tc : Thread Cert.CoresRef.nD Cert.CoresRef.τ).loc Cert.CoresRef.main_v8) = v0
          ∧ r.2.mem (((0 : Dev Cert.CoresRef.nD).tc : Thread Cert.CoresRef.nD Cert.CoresRef.τ).loc Cert.CoresRef.main_v9) = v1
          ∧ r.2.mem (((0 : Dev Cert.CoresRef.nD).tc : Thread Cert.CoresRef.nD Cert.CoresRef.τ).loc Cert.CoresRef.main_arg0) = m' (((0 : Dev Cert.CoresRef.nD).tc : Thread Cert.CoresRef.nD Cert.CoresRef.τ).loc Cert.CoresRef.main_arg0)
          ∧ r.2.mem (((0 : Dev Cert.CoresRef.nD).tc : Thread Cert.CoresRef.nD Cert.CoresRef.τ).loc Cert.CoresRef.main_arg1) = m' (((0 : Dev Cert.CoresRef.nD).tc : Thread Cert.CoresRef.nD Cert.CoresRef.τ).loc Cert.CoresRef.main_arg1))

def algebraic_CoresIdeal_CoresRefIdeal [hCoresIdeal : Cert.CoresIdeal.Facts] [hCoresRefIdeal : Cert.CoresRefIdeal.Facts] : Prop :=
  ∀ (m : (ℓ : Loc Cert.CoresIdeal.nD Cert.CoresIdeal.τ Cert.CoresIdeal.sig) → Buf (Elt Ideal) ℓ) (g : Dev Cert.CoresIdeal.nD → PrngReg)
    (m' : (ℓ : Loc Cert.CoresRefIdeal.nD Cert.CoresRefIdeal.τ Cert.CoresRefIdeal.sig) → Buf (Elt Ideal) ℓ) (g' : Dev Cert.CoresRefIdeal.nD → PrngReg), Pre_CoresIdeal m →
    (∀ c : Dev Cert.CoresIdeal.nD,
      m ((c.tc : Thread Cert.CoresIdeal.nD Cert.CoresIdeal.τ).loc Cert.CoresIdeal.main_arg0) = Layout.block ⟨4, ![2, 4, 16000, 128]⟩ ⟨4, ![16, 4, 16000, 128]⟩ 0 8 c (m' (((0 : Dev Cert.CoresRefIdeal.nD).tc : Thread Cert.CoresRefIdeal.nD Cert.CoresRefIdeal.τ).loc Cert.CoresRefIdeal.main_arg0))
      ∧ m ((c.tc : Thread Cert.CoresIdeal.nD Cert.CoresIdeal.τ).loc Cert.CoresIdeal.main_arg1) = Layout.block ⟨2, ![96, 128]⟩ ⟨2, ![768, 128]⟩ 0 8 c (m' (((0 : Dev Cert.CoresRefIdeal.nD).tc : Thread Cert.CoresRefIdeal.nD Cert.CoresRefIdeal.τ).loc Cert.CoresRefIdeal.main_arg1))) →
    ∃ (v0 : Buf (Elt Ideal) (((0 : Dev Cert.CoresRefIdeal.nD).tc : Thread Cert.CoresRefIdeal.nD Cert.CoresRefIdeal.τ).loc Cert.CoresRefIdeal.main_v8)) (v1 : Buf (Elt Ideal) (((0 : Dev Cert.CoresRefIdeal.nD).tc : Thread Cert.CoresRefIdeal.nD Cert.CoresRefIdeal.τ).loc Cert.CoresRefIdeal.main_v9)),
      θ_run (Cert.CoresIdeal.defs (F := Ideal)) (onTc (τ := Cert.CoresIdeal.τ) (Cert.CoresIdeal.main (F := Ideal))) ⟨m, fun _ => 0, g⟩ (fun r => ∀ c : Dev Cert.CoresIdeal.nD,
          r.2.mem ((c.tc : Thread Cert.CoresIdeal.nD Cert.CoresIdeal.τ).loc Cert.CoresIdeal.main_v1_0) = Layout.block ⟨3, ![4, 16000, 128]⟩ ⟨3, ![32, 16000, 128]⟩ 0 8 c v0
          ∧ r.2.mem ((c.tc : Thread Cert.CoresIdeal.nD Cert.CoresIdeal.τ).loc Cert.CoresIdeal.main_v1_1) = v1
          ∧ r.2.mem ((c.tc : Thread Cert.CoresIdeal.nD Cert.CoresIdeal.τ).loc Cert.CoresIdeal.main_arg0) = m ((c.tc : Thread Cert.CoresIdeal.nD Cert.CoresIdeal.τ).loc Cert.CoresIdeal.main_arg0)
          ∧ r.2.mem ((c.tc : Thread Cert.CoresIdeal.nD Cert.CoresIdeal.τ).loc Cert.CoresIdeal.main_arg1) = m ((c.tc : Thread Cert.CoresIdeal.nD Cert.CoresIdeal.τ).loc Cert.CoresIdeal.main_arg1))
      ∧ θ_run (Cert.CoresRefIdeal.defs (F := Ideal)) (onTc (τ := Cert.CoresRefIdeal.τ) (Cert.CoresRefIdeal.main (F := Ideal))) ⟨m', fun _ => 0, g'⟩ (fun r =>
          r.2.mem (((0 : Dev Cert.CoresRefIdeal.nD).tc : Thread Cert.CoresRefIdeal.nD Cert.CoresRefIdeal.τ).loc Cert.CoresRefIdeal.main_v8) = v0
          ∧ r.2.mem (((0 : Dev Cert.CoresRefIdeal.nD).tc : Thread Cert.CoresRefIdeal.nD Cert.CoresRefIdeal.τ).loc Cert.CoresRefIdeal.main_v9) = v1
          ∧ r.2.mem (((0 : Dev Cert.CoresRefIdeal.nD).tc : Thread Cert.CoresRefIdeal.nD Cert.CoresRefIdeal.τ).loc Cert.CoresRefIdeal.main_arg0) = m' (((0 : Dev Cert.CoresRefIdeal.nD).tc : Thread Cert.CoresRefIdeal.nD Cert.CoresRefIdeal.τ).loc Cert.CoresRefIdeal.main_arg0)
          ∧ r.2.mem (((0 : Dev Cert.CoresRefIdeal.nD).tc : Thread Cert.CoresRefIdeal.nD Cert.CoresRefIdeal.τ).loc Cert.CoresRefIdeal.main_arg1) = m' (((0 : Dev Cert.CoresRefIdeal.nD).tc : Thread Cert.CoresRefIdeal.nD Cert.CoresRefIdeal.τ).loc Cert.CoresRefIdeal.main_arg1))

def preserves_Chips_ChipsIdeal : Prop :=
  True

def bitexact_Chips_ChipsRef [hChips : Cert.Chips.Facts] [hChipsRef : Cert.ChipsRef.Facts] : Prop :=
  ∀ (m : (ℓ : Loc Cert.Chips.nD Cert.Chips.τ Cert.Chips.sig) → Buf (Elt Bits) ℓ) (g : Dev Cert.Chips.nD → PrngReg)
    (m' : (ℓ : Loc Cert.ChipsRef.nD Cert.ChipsRef.τ Cert.ChipsRef.sig) → Buf (Elt Bits) ℓ) (g' : Dev Cert.ChipsRef.nD → PrngReg), Pre_Chips m →
    (∀ c : Dev Cert.Chips.nD,
      m ((c.tc : Thread Cert.Chips.nD Cert.Chips.τ).loc Cert.Chips.main_arg0) = Layout.block ⟨3, ![4, 16000, 128]⟩ ⟨3, ![32, 16000, 128]⟩ 0 8 c (m' (((0 : Dev Cert.ChipsRef.nD).tc : Thread Cert.ChipsRef.nD Cert.ChipsRef.τ).loc Cert.ChipsRef.main_arg0))) →
    ∃ (v0 : Buf (Elt Bits) (((0 : Dev Cert.ChipsRef.nD).tc : Thread Cert.ChipsRef.nD Cert.ChipsRef.τ).loc Cert.ChipsRef.main_v81)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v1) = Layout.block ⟨3, ![3, 16000, 128]⟩ ⟨3, ![24, 16000, 128]⟩ 0 8 c v0
          ∧ r.2.mem ((c.tc : Thread Cert.Chips.nD Cert.Chips.τ).loc Cert.Chips.main_arg0) = m ((c.tc : Thread Cert.Chips.nD Cert.Chips.τ).loc Cert.Chips.main_arg0))
      ∧ θ_run (Cert.ChipsRef.defs (F := Bits)) (onTc (τ := Cert.ChipsRef.τ) (Cert.ChipsRef.main (F := Bits))) ⟨m', fun _ => 0, g'⟩ (fun r =>
          r.2.mem (((0 : Dev Cert.ChipsRef.nD).tc : Thread Cert.ChipsRef.nD Cert.ChipsRef.τ).loc Cert.ChipsRef.main_v81) = v0
          ∧ r.2.mem (((0 : Dev Cert.ChipsRef.nD).tc : Thread Cert.ChipsRef.nD Cert.ChipsRef.τ).loc Cert.ChipsRef.main_arg0) = m' (((0 : Dev Cert.ChipsRef.nD).tc : Thread Cert.ChipsRef.nD Cert.ChipsRef.τ).loc Cert.ChipsRef.main_arg0))

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 16000, 128]⟩ ⟨3, ![32, 16000, 128]⟩ 0 8 c (m' (((0 : Dev Cert.ChipsRefIdeal.nD).tc : Thread Cert.ChipsRefIdeal.nD Cert.ChipsRefIdeal.τ).loc Cert.ChipsRefIdeal.main_arg0))) →
    ∃ (v0 : Buf (Elt Ideal) (((0 : Dev Cert.ChipsRefIdeal.nD).tc : Thread Cert.ChipsRefIdeal.nD Cert.ChipsRefIdeal.τ).loc Cert.ChipsRefIdeal.main_v81)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v1) = Layout.block ⟨3, ![3, 16000, 128]⟩ ⟨3, ![24, 16000, 128]⟩ 0 8 c v0
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v81) = v0
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamGateUp_AdamGateUpIdeal : Prop :=
  True

def algebraic_AdamGateUpIdeal_AdamGateUpRefIdeal [hAdamGateUpIdeal : Cert.AdamGateUpIdeal.Facts] [hAdamGateUpRefIdeal : Cert.AdamGateUpRefIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg)
    (m' : (ℓ : Loc Cert.AdamGateUpRefIdeal.nD Cert.AdamGateUpRefIdeal.τ Cert.AdamGateUpRefIdeal.sig) → Buf (Elt Ideal) ℓ) (g' : Dev Cert.AdamGateUpRefIdeal.nD → PrngReg), Pre_AdamGateUpIdeal m →
    (∀ c : Dev Cert.AdamGateUpIdeal.nD,
      m' ((c.tc : Thread Cert.AdamGateUpRefIdeal.nD Cert.AdamGateUpRefIdeal.τ).loc Cert.AdamGateUpRefIdeal.main_arg0) = m ((c.tc : Thread Cert.AdamGateUpIdeal.nD Cert.AdamGateUpIdeal.τ).loc Cert.AdamGateUpIdeal.main_arg0)
      ∧ m' ((c.tc : Thread Cert.AdamGateUpRefIdeal.nD Cert.AdamGateUpRefIdeal.τ).loc Cert.AdamGateUpRefIdeal.main_arg1) = m ((c.tc : Thread Cert.AdamGateUpIdeal.nD Cert.AdamGateUpIdeal.τ).loc Cert.AdamGateUpIdeal.main_arg1)
      ∧ m' ((c.tc : Thread Cert.AdamGateUpRefIdeal.nD Cert.AdamGateUpRefIdeal.τ).loc Cert.AdamGateUpRefIdeal.main_arg2) = m ((c.tc : Thread Cert.AdamGateUpIdeal.nD Cert.AdamGateUpIdeal.τ).loc Cert.AdamGateUpIdeal.main_arg2)
      ∧ m' ((c.tc : Thread Cert.AdamGateUpRefIdeal.nD Cert.AdamGateUpRefIdeal.τ).loc Cert.AdamGateUpRefIdeal.main_arg3) = m ((c.tc : Thread Cert.AdamGateUpIdeal.nD Cert.AdamGateUpIdeal.τ).loc Cert.AdamGateUpIdeal.main_arg3)) →
    ∃ (v0 : (c : Dev Cert.AdamGateUpIdeal.nD) → Buf (Elt Ideal) ((c.tc : Thread Cert.AdamGateUpIdeal.nD Cert.AdamGateUpIdeal.τ).loc Cert.AdamGateUpIdeal.main_v0_0)) (v1 : (c : Dev Cert.AdamGateUpIdeal.nD) → Buf (Elt Ideal) ((c.tc : Thread Cert.AdamGateUpIdeal.nD Cert.AdamGateUpIdeal.τ).loc Cert.AdamGateUpIdeal.main_v0_1)) (v2 : (c : Dev Cert.AdamGateUpIdeal.nD) → Buf (Elt Ideal) ((c.tc : Thread Cert.AdamGateUpIdeal.nD Cert.AdamGateUpIdeal.τ).loc Cert.AdamGateUpIdeal.main_v0_2)),
      θ_run (Cert.AdamGateUpIdeal.defs (F := Ideal)) (onTc (τ := Cert.AdamGateUpIdeal.τ) (Cert.AdamGateUpIdeal.main (F := Ideal))) ⟨m, fun _ => 0, g⟩ (fun r => ∀ c : Dev Cert.AdamGateUpIdeal.nD,
          r.2.mem ((c.tc : Thread Cert.AdamGateUpIdeal.nD Cert.AdamGateUpIdeal.τ).loc Cert.AdamGateUpIdeal.main_v0_0) = v0 c
          ∧ r.2.mem ((c.tc : Thread Cert.AdamGateUpIdeal.nD Cert.AdamGateUpIdeal.τ).loc Cert.AdamGateUpIdeal.main_v0_1) = v1 c
          ∧ r.2.mem ((c.tc : Thread Cert.AdamGateUpIdeal.nD Cert.AdamGateUpIdeal.τ).loc Cert.AdamGateUpIdeal.main_v0_2) = v2 c
          ∧ r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
          ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
          ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
          ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ θ_run (Cert.AdamGateUpRefIdeal.defs (F := Ideal)) (onTc (τ := Cert.AdamGateUpRefIdeal.τ) (Cert.AdamGateUpRefIdeal.main (F := Ideal))) ⟨m', fun _ => 0, g'⟩ (fun r => ∀ c : Dev Cert.AdamGateUpRefIdeal.nD,
          r.2.mem ((c.tc : Thread Cert.AdamGateUpRefIdeal.nD Cert.AdamGateUpRefIdeal.τ).loc Cert.AdamGateUpRefIdeal.main_v23) = v0 c
          ∧ r.2.mem ((c.tc : Thread Cert.AdamGateUpRefIdeal.nD Cert.AdamGateUpRefIdeal.τ).loc Cert.AdamGateUpRefIdeal.main_v4) = v1 c
          ∧ r.2.mem ((c.tc : Thread Cert.AdamGateUpRefIdeal.nD Cert.AdamGateUpRefIdeal.τ).loc Cert.AdamGateUpRefIdeal.main_v10) = v2 c
          ∧ r.2.mem ((c.tc : Thread Cert.AdamGateUpRefIdeal.nD Cert.AdamGateUpRefIdeal.τ).loc Cert.AdamGateUpRefIdeal.main_arg0) = m' ((c.tc : Thread Cert.AdamGateUpRefIdeal.nD Cert.AdamGateUpRefIdeal.τ).loc Cert.AdamGateUpRefIdeal.main_arg0)
          ∧ r.2.mem ((c.tc : Thread Cert.AdamGateUpRefIdeal.nD Cert.AdamGateUpRefIdeal.τ).loc Cert.AdamGateUpRefIdeal.main_arg1) = m' ((c.tc : Thread Cert.AdamGateUpRefIdeal.nD Cert.AdamGateUpRefIdeal.τ).loc Cert.AdamGateUpRefIdeal.main_arg1)
          ∧ r.2.mem ((c.tc : Thread Cert.AdamGateUpRefIdeal.nD Cert.AdamGateUpRefIdeal.τ).loc Cert.AdamGateUpRefIdeal.main_arg2) = m' ((c.tc : Thread Cert.AdamGateUpRefIdeal.nD Cert.AdamGateUpRefIdeal.τ).loc Cert.AdamGateUpRefIdeal.main_arg2)
          ∧ r.2.mem ((c.tc : Thread Cert.AdamGateUpRefIdeal.nD Cert.AdamGateUpRefIdeal.τ).loc Cert.AdamGateUpRefIdeal.main_arg3) = m' ((c.tc : Thread Cert.AdamGateUpRefIdeal.nD Cert.AdamGateUpRefIdeal.τ).loc Cert.AdamGateUpRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)) →
    ∃ (v0 : (c : Dev Cert.AdamOIdeal.nD) → Buf (Elt Ideal) ((c.tc : Thread Cert.AdamOIdeal.nD Cert.AdamOIdeal.τ).loc Cert.AdamOIdeal.main_v0_0)) (v1 : (c : Dev Cert.AdamOIdeal.nD) → Buf (Elt Ideal) ((c.tc : Thread Cert.AdamOIdeal.nD Cert.AdamOIdeal.τ).loc Cert.AdamOIdeal.main_v0_1)) (v2 : (c : Dev Cert.AdamOIdeal.nD) → Buf (Elt Ideal) ((c.tc : Thread Cert.AdamOIdeal.nD Cert.AdamOIdeal.τ).loc Cert.AdamOIdeal.main_v0_2)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v0_0) = v0 c
          ∧ r.2.mem ((c.tc : Thread Cert.AdamOIdeal.nD Cert.AdamOIdeal.τ).loc Cert.AdamOIdeal.main_v0_1) = v1 c
          ∧ r.2.mem ((c.tc : Thread Cert.AdamOIdeal.nD Cert.AdamOIdeal.τ).loc Cert.AdamOIdeal.main_v0_2) = v2 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v23) = v0 c
          ∧ r.2.mem ((c.tc : Thread Cert.AdamORefIdeal.nD Cert.AdamORefIdeal.τ).loc Cert.AdamORefIdeal.main_v4) = v1 c
          ∧ r.2.mem ((c.tc : Thread Cert.AdamORefIdeal.nD Cert.AdamORefIdeal.τ).loc Cert.AdamORefIdeal.main_v10) = v2 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3))

def preserves_AdamFfnUp_AdamFfnUpIdeal : Prop :=
  True

def algebraic_AdamFfnUpIdeal_AdamFfnUpRefIdeal [hAdamFfnUpIdeal : Cert.AdamFfnUpIdeal.Facts] [hAdamFfnUpRefIdeal : Cert.AdamFfnUpRefIdeal.Facts] : Prop :=
  ∀ (m : (ℓ : Loc Cert.AdamFfnUpIdeal.nD Cert.AdamFfnUpIdeal.τ Cert.AdamFfnUpIdeal.sig) → Buf (Elt Ideal) ℓ) (g : Dev Cert.AdamFfnUpIdeal.nD → PrngReg)
    (m' : (ℓ : Loc Cert.AdamFfnUpRefIdeal.nD Cert.AdamFfnUpRefIdeal.τ Cert.AdamFfnUpRefIdeal.sig) → Buf (Elt Ideal) ℓ) (g' : Dev Cert.AdamFfnUpRefIdeal.nD → PrngReg), Pre_AdamFfnUpIdeal m →
    (∀ c : Dev Cert.AdamFfnUpIdeal.nD,
      m' ((c.tc : Thread Cert.AdamFfnUpRefIdeal.nD Cert.AdamFfnUpRefIdeal.τ).loc Cert.AdamFfnUpRefIdeal.main_arg0) = m ((c.tc : Thread Cert.AdamFfnUpIdeal.nD Cert.AdamFfnUpIdeal.τ).loc Cert.AdamFfnUpIdeal.main_arg0)
      ∧ m' ((c.tc : Thread Cert.AdamFfnUpRefIdeal.nD Cert.AdamFfnUpRefIdeal.τ).loc Cert.AdamFfnUpRefIdeal.main_arg1) = m ((c.tc : Thread Cert.AdamFfnUpIdeal.nD Cert.AdamFfnUpIdeal.τ).loc Cert.AdamFfnUpIdeal.main_arg1)
      ∧ m' ((c.tc : Thread Cert.AdamFfnUpRefIdeal.nD Cert.AdamFfnUpRefIdeal.τ).loc Cert.AdamFfnUpRefIdeal.main_arg2) = m ((c.tc : Thread Cert.AdamFfnUpIdeal.nD Cert.AdamFfnUpIdeal.τ).loc Cert.AdamFfnUpIdeal.main_arg2)
      ∧ m' ((c.tc : Thread Cert.AdamFfnUpRefIdeal.nD Cert.AdamFfnUpRefIdeal.τ).loc Cert.AdamFfnUpRefIdeal.main_arg3) = m ((c.tc : Thread Cert.AdamFfnUpIdeal.nD Cert.AdamFfnUpIdeal.τ).loc Cert.AdamFfnUpIdeal.main_arg3)) →
    ∃ (v0 : (c : Dev Cert.AdamFfnUpIdeal.nD) → Buf (Elt Ideal) ((c.tc : Thread Cert.AdamFfnUpIdeal.nD Cert.AdamFfnUpIdeal.τ).loc Cert.AdamFfnUpIdeal.main_v0_0)) (v1 : (c : Dev Cert.AdamFfnUpIdeal.nD) → Buf (Elt Ideal) ((c.tc : Thread Cert.AdamFfnUpIdeal.nD Cert.AdamFfnUpIdeal.τ).loc Cert.AdamFfnUpIdeal.main_v0_1)) (v2 : (c : Dev Cert.AdamFfnUpIdeal.nD) → Buf (Elt Ideal) ((c.tc : Thread Cert.AdamFfnUpIdeal.nD Cert.AdamFfnUpIdeal.τ).loc Cert.AdamFfnUpIdeal.main_v0_2)),
      θ_run (Cert.AdamFfnUpIdeal.defs (F := Ideal)) (onTc (τ := Cert.AdamFfnUpIdeal.τ) (Cert.AdamFfnUpIdeal.main (F := Ideal))) ⟨m, fun _ => 0, g⟩ (fun r => ∀ c : Dev Cert.AdamFfnUpIdeal.nD,
          r.2.mem ((c.tc : Thread Cert.AdamFfnUpIdeal.nD Cert.AdamFfnUpIdeal.τ).loc Cert.AdamFfnUpIdeal.main_v0_0) = v0 c
          ∧ r.2.mem ((c.tc : Thread Cert.AdamFfnUpIdeal.nD Cert.AdamFfnUpIdeal.τ).loc Cert.AdamFfnUpIdeal.main_v0_1) = v1 c
          ∧ r.2.mem ((c.tc : Thread Cert.AdamFfnUpIdeal.nD Cert.AdamFfnUpIdeal.τ).loc Cert.AdamFfnUpIdeal.main_v0_2) = v2 c
          ∧ r.2.mem ((c.tc : Thread Cert.AdamFfnUpIdeal.nD Cert.AdamFfnUpIdeal.τ).loc Cert.AdamFfnUpIdeal.main_arg0) = m ((c.tc : Thread Cert.AdamFfnUpIdeal.nD Cert.AdamFfnUpIdeal.τ).loc Cert.AdamFfnUpIdeal.main_arg0)
          ∧ r.2.mem ((c.tc : Thread Cert.AdamFfnUpIdeal.nD Cert.AdamFfnUpIdeal.τ).loc Cert.AdamFfnUpIdeal.main_arg1) = m ((c.tc : Thread Cert.AdamFfnUpIdeal.nD Cert.AdamFfnUpIdeal.τ).loc Cert.AdamFfnUpIdeal.main_arg1)
          ∧ r.2.mem ((c.tc : Thread Cert.AdamFfnUpIdeal.nD Cert.AdamFfnUpIdeal.τ).loc Cert.AdamFfnUpIdeal.main_arg2) = m ((c.tc : Thread Cert.AdamFfnUpIdeal.nD Cert.AdamFfnUpIdeal.τ).loc Cert.AdamFfnUpIdeal.main_arg2)
          ∧ r.2.mem ((c.tc : Thread Cert.AdamFfnUpIdeal.nD Cert.AdamFfnUpIdeal.τ).loc Cert.AdamFfnUpIdeal.main_arg3) = m ((c.tc : Thread Cert.AdamFfnUpIdeal.nD Cert.AdamFfnUpIdeal.τ).loc Cert.AdamFfnUpIdeal.main_arg3))
      ∧ θ_run (Cert.AdamFfnUpRefIdeal.defs (F := Ideal)) (onTc (τ := Cert.AdamFfnUpRefIdeal.τ) (Cert.AdamFfnUpRefIdeal.main (F := Ideal))) ⟨m', fun _ => 0, g'⟩ (fun r => ∀ c : Dev Cert.AdamFfnUpRefIdeal.nD,
          r.2.mem ((c.tc : Thread Cert.AdamFfnUpRefIdeal.nD Cert.AdamFfnUpRefIdeal.τ).loc Cert.AdamFfnUpRefIdeal.main_v23) = v0 c
          ∧ r.2.mem ((c.tc : Thread Cert.AdamFfnUpRefIdeal.nD Cert.AdamFfnUpRefIdeal.τ).loc Cert.AdamFfnUpRefIdeal.main_v4) = v1 c
          ∧ r.2.mem ((c.tc : Thread Cert.AdamFfnUpRefIdeal.nD Cert.AdamFfnUpRefIdeal.τ).loc Cert.AdamFfnUpRefIdeal.main_v10) = v2 c
          ∧ r.2.mem ((c.tc : Thread Cert.AdamFfnUpRefIdeal.nD Cert.AdamFfnUpRefIdeal.τ).loc Cert.AdamFfnUpRefIdeal.main_arg0) = m' ((c.tc : Thread Cert.AdamFfnUpRefIdeal.nD Cert.AdamFfnUpRefIdeal.τ).loc Cert.AdamFfnUpRefIdeal.main_arg0)
          ∧ r.2.mem ((c.tc : Thread Cert.AdamFfnUpRefIdeal.nD Cert.AdamFfnUpRefIdeal.τ).loc Cert.AdamFfnUpRefIdeal.main_arg1) = m' ((c.tc : Thread Cert.AdamFfnUpRefIdeal.nD Cert.AdamFfnUpRefIdeal.τ).loc Cert.AdamFfnUpRefIdeal.main_arg1)
          ∧ r.2.mem ((c.tc : Thread Cert.AdamFfnUpRefIdeal.nD Cert.AdamFfnUpRefIdeal.τ).loc Cert.AdamFfnUpRefIdeal.main_arg2) = m' ((c.tc : Thread Cert.AdamFfnUpRefIdeal.nD Cert.AdamFfnUpRefIdeal.τ).loc Cert.AdamFfnUpRefIdeal.main_arg2)
          ∧ r.2.mem ((c.tc : Thread Cert.AdamFfnUpRefIdeal.nD Cert.AdamFfnUpRefIdeal.τ).loc Cert.AdamFfnUpRefIdeal.main_arg3) = m' ((c.tc : Thread Cert.AdamFfnUpRefIdeal.nD Cert.AdamFfnUpRefIdeal.τ).loc Cert.AdamFfnUpRefIdeal.main_arg3))

def preserves_AdamFfnDown_AdamFfnDownIdeal : Prop :=
  True

def algebraic_AdamFfnDownIdeal_AdamFfnDownRefIdeal [hAdamFfnDownIdeal : Cert.AdamFfnDownIdeal.Facts] [hAdamFfnDownRefIdeal : Cert.AdamFfnDownRefIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg)
    (m' : (ℓ : Loc Cert.AdamFfnDownRefIdeal.nD Cert.AdamFfnDownRefIdeal.τ Cert.AdamFfnDownRefIdeal.sig) → Buf (Elt Ideal) ℓ) (g' : Dev Cert.AdamFfnDownRefIdeal.nD → PrngReg), Pre_AdamFfnDownIdeal m →
    (∀ c : Dev Cert.AdamFfnDownIdeal.nD,
      m' ((c.tc : Thread Cert.AdamFfnDownRefIdeal.nD Cert.AdamFfnDownRefIdeal.τ).loc Cert.AdamFfnDownRefIdeal.main_arg0) = m ((c.tc : Thread Cert.AdamFfnDownIdeal.nD Cert.AdamFfnDownIdeal.τ).loc Cert.AdamFfnDownIdeal.main_arg0)
      ∧ m' ((c.tc : Thread Cert.AdamFfnDownRefIdeal.nD Cert.AdamFfnDownRefIdeal.τ).loc Cert.AdamFfnDownRefIdeal.main_arg1) = m ((c.tc : Thread Cert.AdamFfnDownIdeal.nD Cert.AdamFfnDownIdeal.τ).loc Cert.AdamFfnDownIdeal.main_arg1)
      ∧ m' ((c.tc : Thread Cert.AdamFfnDownRefIdeal.nD Cert.AdamFfnDownRefIdeal.τ).loc Cert.AdamFfnDownRefIdeal.main_arg2) = m ((c.tc : Thread Cert.AdamFfnDownIdeal.nD Cert.AdamFfnDownIdeal.τ).loc Cert.AdamFfnDownIdeal.main_arg2)
      ∧ m' ((c.tc : Thread Cert.AdamFfnDownRefIdeal.nD Cert.AdamFfnDownRefIdeal.τ).loc Cert.AdamFfnDownRefIdeal.main_arg3) = m ((c.tc : Thread Cert.AdamFfnDownIdeal.nD Cert.AdamFfnDownIdeal.τ).loc Cert.AdamFfnDownIdeal.main_arg3)) →
    ∃ (v0 : (c : Dev Cert.AdamFfnDownIdeal.nD) → Buf (Elt Ideal) ((c.tc : Thread Cert.AdamFfnDownIdeal.nD Cert.AdamFfnDownIdeal.τ).loc Cert.AdamFfnDownIdeal.main_v0_0)) (v1 : (c : Dev Cert.AdamFfnDownIdeal.nD) → Buf (Elt Ideal) ((c.tc : Thread Cert.AdamFfnDownIdeal.nD Cert.AdamFfnDownIdeal.τ).loc Cert.AdamFfnDownIdeal.main_v0_1)) (v2 : (c : Dev Cert.AdamFfnDownIdeal.nD) → Buf (Elt Ideal) ((c.tc : Thread Cert.AdamFfnDownIdeal.nD Cert.AdamFfnDownIdeal.τ).loc Cert.AdamFfnDownIdeal.main_v0_2)),
      θ_run (Cert.AdamFfnDownIdeal.defs (F := Ideal)) (onTc (τ := Cert.AdamFfnDownIdeal.τ) (Cert.AdamFfnDownIdeal.main (F := Ideal))) ⟨m, fun _ => 0, g⟩ (fun r => ∀ c : Dev Cert.AdamFfnDownIdeal.nD,
          r.2.mem ((c.tc : Thread Cert.AdamFfnDownIdeal.nD Cert.AdamFfnDownIdeal.τ).loc Cert.AdamFfnDownIdeal.main_v0_0) = v0 c
          ∧ r.2.mem ((c.tc : Thread Cert.AdamFfnDownIdeal.nD Cert.AdamFfnDownIdeal.τ).loc Cert.AdamFfnDownIdeal.main_v0_1) = v1 c
          ∧ r.2.mem ((c.tc : Thread Cert.AdamFfnDownIdeal.nD Cert.AdamFfnDownIdeal.τ).loc Cert.AdamFfnDownIdeal.main_v0_2) = v2 c
          ∧ r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
          ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
          ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
          ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ θ_run (Cert.AdamFfnDownRefIdeal.defs (F := Ideal)) (onTc (τ := Cert.AdamFfnDownRefIdeal.τ) (Cert.AdamFfnDownRefIdeal.main (F := Ideal))) ⟨m', fun _ => 0, g'⟩ (fun r => ∀ c : Dev Cert.AdamFfnDownRefIdeal.nD,
          r.2.mem ((c.tc : Thread Cert.AdamFfnDownRefIdeal.nD Cert.AdamFfnDownRefIdeal.τ).loc Cert.AdamFfnDownRefIdeal.main_v23) = v0 c
          ∧ r.2.mem ((c.tc : Thread Cert.AdamFfnDownRefIdeal.nD Cert.AdamFfnDownRefIdeal.τ).loc Cert.AdamFfnDownRefIdeal.main_v4) = v1 c
          ∧ r.2.mem ((c.tc : Thread Cert.AdamFfnDownRefIdeal.nD Cert.AdamFfnDownRefIdeal.τ).loc Cert.AdamFfnDownRefIdeal.main_v10) = v2 c
          ∧ r.2.mem ((c.tc : Thread Cert.AdamFfnDownRefIdeal.nD Cert.AdamFfnDownRefIdeal.τ).loc Cert.AdamFfnDownRefIdeal.main_arg0) = m' ((c.tc : Thread Cert.AdamFfnDownRefIdeal.nD Cert.AdamFfnDownRefIdeal.τ).loc Cert.AdamFfnDownRefIdeal.main_arg0)
          ∧ r.2.mem ((c.tc : Thread Cert.AdamFfnDownRefIdeal.nD Cert.AdamFfnDownRefIdeal.τ).loc Cert.AdamFfnDownRefIdeal.main_arg1) = m' ((c.tc : Thread Cert.AdamFfnDownRefIdeal.nD Cert.AdamFfnDownRefIdeal.τ).loc Cert.AdamFfnDownRefIdeal.main_arg1)
          ∧ r.2.mem ((c.tc : Thread Cert.AdamFfnDownRefIdeal.nD Cert.AdamFfnDownRefIdeal.τ).loc Cert.AdamFfnDownRefIdeal.main_arg2) = m' ((c.tc : Thread Cert.AdamFfnDownRefIdeal.nD Cert.AdamFfnDownRefIdeal.τ).loc Cert.AdamFfnDownRefIdeal.main_arg2)
          ∧ r.2.mem ((c.tc : Thread Cert.AdamFfnDownRefIdeal.nD Cert.AdamFfnDownRefIdeal.τ).loc Cert.AdamFfnDownRefIdeal.main_arg3) = m' ((c.tc : Thread Cert.AdamFfnDownRefIdeal.nD Cert.AdamFfnDownRefIdeal.τ).loc Cert.AdamFfnDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AddCore_AddCoreIdeal : Prop :=
  True

def bitexact_AddCore_AddCoreRef [hAddCore : Cert.AddCore.Facts] [hAddCoreRef : Cert.AddCoreRef.Facts] [hPre_core_given : Cert.Pre_core_given.Facts] : Prop :=
  ∀ (m : (ℓ : Loc Cert.AddCore.nD Cert.AddCore.τ Cert.AddCore.sig) → Buf (Elt Bits) ℓ) (g : Dev Cert.AddCore.nD → PrngReg)
    (m' : (ℓ : Loc Cert.AddCoreRef.nD Cert.AddCoreRef.τ Cert.AddCoreRef.sig) → Buf (Elt Bits) ℓ) (g' : Dev Cert.AddCoreRef.nD → PrngReg), Pre_AddCore m →
    (∀ c : Dev Cert.AddCore.nD,
      m' ((c.tc : Thread Cert.AddCoreRef.nD Cert.AddCoreRef.τ).loc Cert.AddCoreRef.main_arg0) = m ((c.tc : Thread Cert.AddCore.nD Cert.AddCore.τ).loc Cert.AddCore.main_arg0)
      ∧ m' ((c.tc : Thread Cert.AddCoreRef.nD Cert.AddCoreRef.τ).loc Cert.AddCoreRef.main_arg1) = m ((c.tc : Thread Cert.AddCore.nD Cert.AddCore.τ).loc Cert.AddCore.main_arg1)
      ∧ m' ((c.tc : Thread Cert.AddCoreRef.nD Cert.AddCoreRef.τ).loc Cert.AddCoreRef.main_arg2) = m ((c.tc : Thread Cert.AddCore.nD Cert.AddCore.τ).loc Cert.AddCore.main_arg2)) →
    ∃ (v0 : (c : Dev Cert.AddCore.nD) → Buf (Elt Bits) ((c.tc : Thread Cert.AddCore.nD Cert.AddCore.τ).loc Cert.AddCore.main_v0)),
      θ_run (Cert.AddCore.defs (F := Bits)) (onTc (τ := Cert.AddCore.τ) (Cert.AddCore.main (F := Bits))) ⟨m, fun _ => 0, g⟩ (fun r => ∀ c : Dev Cert.AddCore.nD,
          r.2.mem ((c.tc : Thread Cert.AddCore.nD Cert.AddCore.τ).loc Cert.AddCore.main_v0) = v0 c
          ∧ r.2.mem ((c.tc : Thread Cert.AddCore.nD Cert.AddCore.τ).loc Cert.AddCore.main_arg0) = m ((c.tc : Thread Cert.AddCore.nD Cert.AddCore.τ).loc Cert.AddCore.main_arg0)
          ∧ r.2.mem ((c.tc : Thread Cert.AddCore.nD Cert.AddCore.τ).loc Cert.AddCore.main_arg1) = m ((c.tc : Thread Cert.AddCore.nD Cert.AddCore.τ).loc Cert.AddCore.main_arg1)
          ∧ r.2.mem ((c.tc : Thread Cert.AddCore.nD Cert.AddCore.τ).loc Cert.AddCore.main_arg2) = m ((c.tc : Thread Cert.AddCore.nD Cert.AddCore.τ).loc Cert.AddCore.main_arg2))
      ∧ θ_run (Cert.AddCoreRef.defs (F := Bits)) (onTc (τ := Cert.AddCoreRef.τ) (Cert.AddCoreRef.main (F := Bits))) ⟨m', fun _ => 0, g'⟩ (fun r => ∀ c : Dev Cert.AddCoreRef.nD,
          r.2.mem ((c.tc : Thread Cert.AddCoreRef.nD Cert.AddCoreRef.τ).loc Cert.AddCoreRef.main_v4) = v0 c
          ∧ r.2.mem ((c.tc : Thread Cert.AddCoreRef.nD Cert.AddCoreRef.τ).loc Cert.AddCoreRef.main_arg0) = m' ((c.tc : Thread Cert.AddCoreRef.nD Cert.AddCoreRef.τ).loc Cert.AddCoreRef.main_arg0)
          ∧ r.2.mem ((c.tc : Thread Cert.AddCoreRef.nD Cert.AddCoreRef.τ).loc Cert.AddCoreRef.main_arg1) = m' ((c.tc : Thread Cert.AddCoreRef.nD Cert.AddCoreRef.τ).loc Cert.AddCoreRef.main_arg1)
          ∧ r.2.mem ((c.tc : Thread Cert.AddCoreRef.nD Cert.AddCoreRef.τ).loc Cert.AddCoreRef.main_arg2) = m' ((c.tc : Thread Cert.AddCoreRef.nD Cert.AddCoreRef.τ).loc Cert.AddCoreRef.main_arg2))

def algebraic_AddCoreIdeal_AddCoreRefIdeal [hAddCoreIdeal : Cert.AddCoreIdeal.Facts] [hAddCoreRefIdeal : Cert.AddCoreRefIdeal.Facts] [hPre_core_given : Cert.Pre_core_given.Facts] : Prop :=
  ∀ (m : (ℓ : Loc Cert.AddCoreIdeal.nD Cert.AddCoreIdeal.τ Cert.AddCoreIdeal.sig) → Buf (Elt Ideal) ℓ) (g : Dev Cert.AddCoreIdeal.nD → PrngReg)
    (m' : (ℓ : Loc Cert.AddCoreRefIdeal.nD Cert.AddCoreRefIdeal.τ Cert.AddCoreRefIdeal.sig) → Buf (Elt Ideal) ℓ) (g' : Dev Cert.AddCoreRefIdeal.nD → PrngReg), Pre_AddCoreIdeal m →
    (∀ c : Dev Cert.AddCoreIdeal.nD,
      m' ((c.tc : Thread Cert.AddCoreRefIdeal.nD Cert.AddCoreRefIdeal.τ).loc Cert.AddCoreRefIdeal.main_arg0) = m ((c.tc : Thread Cert.AddCoreIdeal.nD Cert.AddCoreIdeal.τ).loc Cert.AddCoreIdeal.main_arg0)
      ∧ m' ((c.tc : Thread Cert.AddCoreRefIdeal.nD Cert.AddCoreRefIdeal.τ).loc Cert.AddCoreRefIdeal.main_arg1) = m ((c.tc : Thread Cert.AddCoreIdeal.nD Cert.AddCoreIdeal.τ).loc Cert.AddCoreIdeal.main_arg1)
      ∧ m' ((c.tc : Thread Cert.AddCoreRefIdeal.nD Cert.AddCoreRefIdeal.τ).loc Cert.AddCoreRefIdeal.main_arg2) = m ((c.tc : Thread Cert.AddCoreIdeal.nD Cert.AddCoreIdeal.τ).loc Cert.AddCoreIdeal.main_arg2)) →
    ∃ (v0 : (c : Dev Cert.AddCoreIdeal.nD) → Buf (Elt Ideal) ((c.tc : Thread Cert.AddCoreIdeal.nD Cert.AddCoreIdeal.τ).loc Cert.AddCoreIdeal.main_v0)),
      θ_run (Cert.AddCoreIdeal.defs (F := Ideal)) (onTc (τ := Cert.AddCoreIdeal.τ) (Cert.AddCoreIdeal.main (F := Ideal))) ⟨m, fun _ => 0, g⟩ (fun r => ∀ c : Dev Cert.AddCoreIdeal.nD,
          r.2.mem ((c.tc : Thread Cert.AddCoreIdeal.nD Cert.AddCoreIdeal.τ).loc Cert.AddCoreIdeal.main_v0) = v0 c
          ∧ r.2.mem ((c.tc : Thread Cert.AddCoreIdeal.nD Cert.AddCoreIdeal.τ).loc Cert.AddCoreIdeal.main_arg0) = m ((c.tc : Thread Cert.AddCoreIdeal.nD Cert.AddCoreIdeal.τ).loc Cert.AddCoreIdeal.main_arg0)
          ∧ r.2.mem ((c.tc : Thread Cert.AddCoreIdeal.nD Cert.AddCoreIdeal.τ).loc Cert.AddCoreIdeal.main_arg1) = m ((c.tc : Thread Cert.AddCoreIdeal.nD Cert.AddCoreIdeal.τ).loc Cert.AddCoreIdeal.main_arg1)
          ∧ r.2.mem ((c.tc : Thread Cert.AddCoreIdeal.nD Cert.AddCoreIdeal.τ).loc Cert.AddCoreIdeal.main_arg2) = m ((c.tc : Thread Cert.AddCoreIdeal.nD Cert.AddCoreIdeal.τ).loc Cert.AddCoreIdeal.main_arg2))
      ∧ θ_run (Cert.AddCoreRefIdeal.defs (F := Ideal)) (onTc (τ := Cert.AddCoreRefIdeal.τ) (Cert.AddCoreRefIdeal.main (F := Ideal))) ⟨m', fun _ => 0, g'⟩ (fun r => ∀ c : Dev Cert.AddCoreRefIdeal.nD,
          r.2.mem ((c.tc : Thread Cert.AddCoreRefIdeal.nD Cert.AddCoreRefIdeal.τ).loc Cert.AddCoreRefIdeal.main_v4) = v0 c
          ∧ r.2.mem ((c.tc : Thread Cert.AddCoreRefIdeal.nD Cert.AddCoreRefIdeal.τ).loc Cert.AddCoreRefIdeal.main_arg0) = m' ((c.tc : Thread Cert.AddCoreRefIdeal.nD Cert.AddCoreRefIdeal.τ).loc Cert.AddCoreRefIdeal.main_arg0)
          ∧ r.2.mem ((c.tc : Thread Cert.AddCoreRefIdeal.nD Cert.AddCoreRefIdeal.τ).loc Cert.AddCoreRefIdeal.main_arg1) = m' ((c.tc : Thread Cert.AddCoreRefIdeal.nD Cert.AddCoreRefIdeal.τ).loc Cert.AddCoreRefIdeal.main_arg1)
          ∧ r.2.mem ((c.tc : Thread Cert.AddCoreRefIdeal.nD Cert.AddCoreRefIdeal.τ).loc Cert.AddCoreRefIdeal.main_arg2) = m' ((c.tc : Thread Cert.AddCoreRefIdeal.nD Cert.AddCoreRefIdeal.τ).loc Cert.AddCoreRefIdeal.main_arg2))

def preserves_SumChips_SumChipsIdeal : Prop :=
  True

def algebraic_SumChipsIdeal_SumChipsRefIdeal [hSumChipsIdeal : Cert.SumChipsIdeal.Facts] [hSumChipsRefIdeal : Cert.SumChipsRefIdeal.Facts] [hPre_chip_given : Cert.Pre_chip_given.Facts] : Prop :=
  ∀ (m : (ℓ : Loc Cert.SumChipsIdeal.nD Cert.SumChipsIdeal.τ Cert.SumChipsIdeal.sig) → Buf (Elt Ideal) ℓ) (g : Dev Cert.SumChipsIdeal.nD → PrngReg)
    (m' : (ℓ : Loc Cert.SumChipsRefIdeal.nD Cert.SumChipsRefIdeal.τ Cert.SumChipsRefIdeal.sig) → Buf (Elt Ideal) ℓ) (g' : Dev Cert.SumChipsRefIdeal.nD → PrngReg), Pre_SumChipsIdeal m →
    (∀ c : Dev Cert.SumChipsIdeal.nD,
      m' ((c.tc : Thread Cert.SumChipsRefIdeal.nD Cert.SumChipsRefIdeal.τ).loc Cert.SumChipsRefIdeal.main_arg0) = m ((c.tc : Thread Cert.SumChipsIdeal.nD Cert.SumChipsIdeal.τ).loc Cert.SumChipsIdeal.main_arg0)
      ∧ m' ((c.tc : Thread Cert.SumChipsRefIdeal.nD Cert.SumChipsRefIdeal.τ).loc Cert.SumChipsRefIdeal.main_arg1) = m ((c.tc : Thread Cert.SumChipsIdeal.nD Cert.SumChipsIdeal.τ).loc Cert.SumChipsIdeal.main_arg1)
      ∧ m' ((c.tc : Thread Cert.SumChipsRefIdeal.nD Cert.SumChipsRefIdeal.τ).loc Cert.SumChipsRefIdeal.main_arg2) = m ((c.tc : Thread Cert.SumChipsIdeal.nD Cert.SumChipsIdeal.τ).loc Cert.SumChipsIdeal.main_arg2)) →
    ∃ (v0 : (c : Dev Cert.SumChipsIdeal.nD) → Buf (Elt Ideal) ((c.tc : Thread Cert.SumChipsIdeal.nD Cert.SumChipsIdeal.τ).loc Cert.SumChipsIdeal.main_v0)),
      θ_run (Cert.SumChipsIdeal.defs (F := Ideal)) (onTc (τ := Cert.SumChipsIdeal.τ) (Cert.SumChipsIdeal.main (F := Ideal))) ⟨m, fun _ => 0, g⟩ (fun r => ∀ c : Dev Cert.SumChipsIdeal.nD,
          r.2.mem ((c.tc : Thread Cert.SumChipsIdeal.nD Cert.SumChipsIdeal.τ).loc Cert.SumChipsIdeal.main_v0) = v0 c
          ∧ r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0)
          ∧ r.2.mem ((c.tc : Thread Cert.SumChipsIdeal.nD Cert.SumChipsIdeal.τ).loc Cert.SumChipsIdeal.main_arg1) = m ((c.tc : Thread Cert.SumChipsIdeal.nD Cert.SumChipsIdeal.τ).loc Cert.SumChipsIdeal.main_arg1)
          ∧ r.2.mem ((c.tc : Thread Cert.SumChipsIdeal.nD Cert.SumChipsIdeal.τ).loc Cert.SumChipsIdeal.main_arg2) = m ((c.tc : Thread Cert.SumChipsIdeal.nD Cert.SumChipsIdeal.τ).loc Cert.SumChipsIdeal.main_arg2))
      ∧ θ_run (Cert.SumChipsRefIdeal.defs (F := Ideal)) (onTc (τ := Cert.SumChipsRefIdeal.τ) (Cert.SumChipsRefIdeal.main (F := Ideal))) ⟨m', fun _ => 0, g'⟩ (fun r => ∀ c : Dev Cert.SumChipsRefIdeal.nD,
          r.2.mem ((c.tc : Thread Cert.SumChipsRefIdeal.nD Cert.SumChipsRefIdeal.τ).loc Cert.SumChipsRefIdeal.main_v6) = v0 c
          ∧ r.2.mem ((c.tc : Thread Cert.SumChipsRefIdeal.nD Cert.SumChipsRefIdeal.τ).loc Cert.SumChipsRefIdeal.main_arg0) = m' ((c.tc : Thread Cert.SumChipsRefIdeal.nD Cert.SumChipsRefIdeal.τ).loc Cert.SumChipsRefIdeal.main_arg0)
          ∧ r.2.mem ((c.tc : Thread Cert.SumChipsRefIdeal.nD Cert.SumChipsRefIdeal.τ).loc Cert.SumChipsRefIdeal.main_arg1) = m' ((c.tc : Thread Cert.SumChipsRefIdeal.nD Cert.SumChipsRefIdeal.τ).loc Cert.SumChipsRefIdeal.main_arg1)
          ∧ r.2.mem ((c.tc : Thread Cert.SumChipsRefIdeal.nD Cert.SumChipsRefIdeal.τ).loc Cert.SumChipsRefIdeal.main_arg2) = m' ((c.tc : Thread Cert.SumChipsRefIdeal.nD Cert.SumChipsRefIdeal.τ).loc Cert.SumChipsRefIdeal.main_arg2))

def preserves_GradQkv_GradQkvIdeal : Prop :=
  True

def algebraic_GradQkvIdeal_GradQkvRefIdeal [hGradQkvIdeal : Cert.GradQkvIdeal.Facts] [hGradQkvRefIdeal : Cert.GradQkvRefIdeal.Facts] : Prop :=
  ∀ (m : (ℓ : Loc Cert.GradQkvIdeal.nD Cert.GradQkvIdeal.τ Cert.GradQkvIdeal.sig) → Buf (Elt Ideal) ℓ) (g : Dev Cert.GradQkvIdeal.nD → PrngReg)
    (m' : (ℓ : Loc Cert.GradQkvRefIdeal.nD Cert.GradQkvRefIdeal.τ Cert.GradQkvRefIdeal.sig) → Buf (Elt Ideal) ℓ) (g' : Dev Cert.GradQkvRefIdeal.nD → PrngReg), Pre_GradQkvIdeal m →
    (∀ c : Dev Cert.GradQkvIdeal.nD,
      m' ((c.tc : Thread Cert.GradQkvRefIdeal.nD Cert.GradQkvRefIdeal.τ).loc Cert.GradQkvRefIdeal.main_arg0) = m ((c.tc : Thread Cert.GradQkvIdeal.nD Cert.GradQkvIdeal.τ).loc Cert.GradQkvIdeal.main_arg0)
      ∧ m' ((c.tc : Thread Cert.GradQkvRefIdeal.nD Cert.GradQkvRefIdeal.τ).loc Cert.GradQkvRefIdeal.main_arg1) = m ((c.tc : Thread Cert.GradQkvIdeal.nD Cert.GradQkvIdeal.τ).loc Cert.GradQkvIdeal.main_arg1)) →
    ∃ (v0 : (c : Dev Cert.GradQkvIdeal.nD) → Buf (Elt Ideal) ((c.tc : Thread Cert.GradQkvIdeal.nD Cert.GradQkvIdeal.τ).loc Cert.GradQkvIdeal.main_v0)),
      θ_run (Cert.GradQkvIdeal.defs (F := Ideal)) (onTc (τ := Cert.GradQkvIdeal.τ) (Cert.GradQkvIdeal.main (F := Ideal))) ⟨m, fun _ => 0, g⟩ (fun r => ∀ c : Dev Cert.GradQkvIdeal.nD,
          r.2.mem ((c.tc : Thread Cert.GradQkvIdeal.nD Cert.GradQkvIdeal.τ).loc Cert.GradQkvIdeal.main_v0) = v0 c
          ∧ r.2.mem ((c.tc : Thread Cert.GradQkvIdeal.nD Cert.GradQkvIdeal.τ).loc Cert.GradQkvIdeal.main_arg0) = m ((c.tc : Thread Cert.GradQkvIdeal.nD Cert.GradQkvIdeal.τ).loc Cert.GradQkvIdeal.main_arg0)
          ∧ r.2.mem ((c.tc : Thread Cert.GradQkvIdeal.nD Cert.GradQkvIdeal.τ).loc Cert.GradQkvIdeal.main_arg1) = m ((c.tc : Thread Cert.GradQkvIdeal.nD Cert.GradQkvIdeal.τ).loc Cert.GradQkvIdeal.main_arg1))
      ∧ θ_run (Cert.GradQkvRefIdeal.defs (F := Ideal)) (onTc (τ := Cert.GradQkvRefIdeal.τ) (Cert.GradQkvRefIdeal.main (F := Ideal))) ⟨m', fun _ => 0, g'⟩ (fun r => ∀ c : Dev Cert.GradQkvRefIdeal.nD,
          r.2.mem ((c.tc : Thread Cert.GradQkvRefIdeal.nD Cert.GradQkvRefIdeal.τ).loc Cert.GradQkvRefIdeal.main_v3) = v0 c
          ∧ r.2.mem ((c.tc : Thread Cert.GradQkvRefIdeal.nD Cert.GradQkvRefIdeal.τ).loc Cert.GradQkvRefIdeal.main_arg0) = m' ((c.tc : Thread Cert.GradQkvRefIdeal.nD Cert.GradQkvRefIdeal.τ).loc Cert.GradQkvRefIdeal.main_arg0)
          ∧ r.2.mem ((c.tc : Thread Cert.GradQkvRefIdeal.nD Cert.GradQkvRefIdeal.τ).loc Cert.GradQkvRefIdeal.main_arg1) = m' ((c.tc : Thread Cert.GradQkvRefIdeal.nD Cert.GradQkvRefIdeal.τ).loc Cert.GradQkvRefIdeal.main_arg1))

def preserves_GradRw_GradRwIdeal : Prop :=
  True

def algebraic_GradRwIdeal_GradRwRefIdeal [hGradRwIdeal : Cert.GradRwIdeal.Facts] [hGradRwRefIdeal : Cert.GradRwRefIdeal.Facts] : Prop :=
  ∀ (m : (ℓ : Loc Cert.GradRwIdeal.nD Cert.GradRwIdeal.τ Cert.GradRwIdeal.sig) → Buf (Elt Ideal) ℓ) (g : Dev Cert.GradRwIdeal.nD → PrngReg)
    (m' : (ℓ : Loc Cert.GradRwRefIdeal.nD Cert.GradRwRefIdeal.τ Cert.GradRwRefIdeal.sig) → Buf (Elt Ideal) ℓ) (g' : Dev Cert.GradRwRefIdeal.nD → PrngReg), Pre_GradRwIdeal m →
    (∀ c : Dev Cert.GradRwIdeal.nD,
      m' ((c.tc : Thread Cert.GradRwRefIdeal.nD Cert.GradRwRefIdeal.τ).loc Cert.GradRwRefIdeal.main_arg0) = m ((c.tc : Thread Cert.GradRwIdeal.nD Cert.GradRwIdeal.τ).loc Cert.GradRwIdeal.main_arg0)
      ∧ m' ((c.tc : Thread Cert.GradRwRefIdeal.nD Cert.GradRwRefIdeal.τ).loc Cert.GradRwRefIdeal.main_arg1) = m ((c.tc : Thread Cert.GradRwIdeal.nD Cert.GradRwIdeal.τ).loc Cert.GradRwIdeal.main_arg1)) →
    ∃ (v0 : (c : Dev Cert.GradRwIdeal.nD) → Buf (Elt Ideal) ((c.tc : Thread Cert.GradRwIdeal.nD Cert.GradRwIdeal.τ).loc Cert.GradRwIdeal.main_v0)),
      θ_run (Cert.GradRwIdeal.defs (F := Ideal)) (onTc (τ := Cert.GradRwIdeal.τ) (Cert.GradRwIdeal.main (F := Ideal))) ⟨m, fun _ => 0, g⟩ (fun r => ∀ c : Dev Cert.GradRwIdeal.nD,
          r.2.mem ((c.tc : Thread Cert.GradRwIdeal.nD Cert.GradRwIdeal.τ).loc Cert.GradRwIdeal.main_v0) = v0 c
          ∧ r.2.mem ((c.tc : Thread Cert.GradRwIdeal.nD Cert.GradRwIdeal.τ).loc Cert.GradRwIdeal.main_arg0) = m ((c.tc : Thread Cert.GradRwIdeal.nD Cert.GradRwIdeal.τ).loc Cert.GradRwIdeal.main_arg0)
          ∧ r.2.mem ((c.tc : Thread Cert.GradRwIdeal.nD Cert.GradRwIdeal.τ).loc Cert.GradRwIdeal.main_arg1) = m ((c.tc : Thread Cert.GradRwIdeal.nD Cert.GradRwIdeal.τ).loc Cert.GradRwIdeal.main_arg1))
      ∧ θ_run (Cert.GradRwRefIdeal.defs (F := Ideal)) (onTc (τ := Cert.GradRwRefIdeal.τ) (Cert.GradRwRefIdeal.main (F := Ideal))) ⟨m', fun _ => 0, g'⟩ (fun r => ∀ c : Dev Cert.GradRwRefIdeal.nD,
          r.2.mem ((c.tc : Thread Cert.GradRwRefIdeal.nD Cert.GradRwRefIdeal.τ).loc Cert.GradRwRefIdeal.main_v3) = v0 c
          ∧ r.2.mem ((c.tc : Thread Cert.GradRwRefIdeal.nD Cert.GradRwRefIdeal.τ).loc Cert.GradRwRefIdeal.main_arg0) = m' ((c.tc : Thread Cert.GradRwRefIdeal.nD Cert.GradRwRefIdeal.τ).loc Cert.GradRwRefIdeal.main_arg0)
          ∧ r.2.mem ((c.tc : Thread Cert.GradRwRefIdeal.nD Cert.GradRwRefIdeal.τ).loc Cert.GradRwRefIdeal.main_arg1) = m' ((c.tc : Thread Cert.GradRwRefIdeal.nD Cert.GradRwRefIdeal.τ).loc Cert.GradRwRefIdeal.main_arg1))

def preserves_GradGate_GradGateIdeal : Prop :=
  True

def algebraic_GradGateIdeal_GradGateRefIdeal [hGradGateIdeal : Cert.GradGateIdeal.Facts] [hGradGateRefIdeal : Cert.GradGateRefIdeal.Facts] : Prop :=
  ∀ (m : (ℓ : Loc Cert.GradGateIdeal.nD Cert.GradGateIdeal.τ Cert.GradGateIdeal.sig) → Buf (Elt Ideal) ℓ) (g : Dev Cert.GradGateIdeal.nD → PrngReg)
    (m' : (ℓ : Loc Cert.GradGateRefIdeal.nD Cert.GradGateRefIdeal.τ Cert.GradGateRefIdeal.sig) → Buf (Elt Ideal) ℓ) (g' : Dev Cert.GradGateRefIdeal.nD → PrngReg), Pre_GradGateIdeal m →
    (∀ c : Dev Cert.GradGateIdeal.nD,
      m' ((c.tc : Thread Cert.GradGateRefIdeal.nD Cert.GradGateRefIdeal.τ).loc Cert.GradGateRefIdeal.main_arg0) = m ((c.tc : Thread Cert.GradGateIdeal.nD Cert.GradGateIdeal.τ).loc Cert.GradGateIdeal.main_arg0)
      ∧ m' ((c.tc : Thread Cert.GradGateRefIdeal.nD Cert.GradGateRefIdeal.τ).loc Cert.GradGateRefIdeal.main_arg1) = m ((c.tc : Thread Cert.GradGateIdeal.nD Cert.GradGateIdeal.τ).loc Cert.GradGateIdeal.main_arg1)) →
    ∃ (v0 : (c : Dev Cert.GradGateIdeal.nD) → Buf (Elt Ideal) ((c.tc : Thread Cert.GradGateIdeal.nD Cert.GradGateIdeal.τ).loc Cert.GradGateIdeal.main_v0)),
      θ_run (Cert.GradGateIdeal.defs (F := Ideal)) (onTc (τ := Cert.GradGateIdeal.τ) (Cert.GradGateIdeal.main (F := Ideal))) ⟨m, fun _ => 0, g⟩ (fun r => ∀ c : Dev Cert.GradGateIdeal.nD,
          r.2.mem ((c.tc : Thread Cert.GradGateIdeal.nD Cert.GradGateIdeal.τ).loc Cert.GradGateIdeal.main_v0) = v0 c
          ∧ r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
          ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ θ_run (Cert.GradGateRefIdeal.defs (F := Ideal)) (onTc (τ := Cert.GradGateRefIdeal.τ) (Cert.GradGateRefIdeal.main (F := Ideal))) ⟨m', fun _ => 0, g'⟩ (fun r => ∀ c : Dev Cert.GradGateRefIdeal.nD,
          r.2.mem ((c.tc : Thread Cert.GradGateRefIdeal.nD Cert.GradGateRefIdeal.τ).loc Cert.GradGateRefIdeal.main_v3) = v0 c
          ∧ r.2.mem ((c.tc : Thread Cert.GradGateRefIdeal.nD Cert.GradGateRefIdeal.τ).loc Cert.GradGateRefIdeal.main_arg0) = m' ((c.tc : Thread Cert.GradGateRefIdeal.nD Cert.GradGateRefIdeal.τ).loc Cert.GradGateRefIdeal.main_arg0)
          ∧ r.2.mem ((c.tc : Thread Cert.GradGateRefIdeal.nD Cert.GradGateRefIdeal.τ).loc Cert.GradGateRefIdeal.main_arg1) = m' ((c.tc : Thread Cert.GradGateRefIdeal.nD Cert.GradGateRefIdeal.τ).loc Cert.GradGateRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v3) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradO_GradOIdeal : Prop :=
  True

def algebraic_GradOIdeal_GradORefIdeal [hGradOIdeal : Cert.GradOIdeal.Facts] [hGradORefIdeal : Cert.GradORefIdeal.Facts] : Prop :=
  ∀ (m : (ℓ : Loc Cert.GradOIdeal.nD Cert.GradOIdeal.τ Cert.GradOIdeal.sig) → Buf (Elt Ideal) ℓ) (g : Dev Cert.GradOIdeal.nD → PrngReg)
    (m' : (ℓ : Loc Cert.GradORefIdeal.nD Cert.GradORefIdeal.τ Cert.GradORefIdeal.sig) → Buf (Elt Ideal) ℓ) (g' : Dev Cert.GradORefIdeal.nD → PrngReg), Pre_GradOIdeal m →
    (∀ c : Dev Cert.GradOIdeal.nD,
      m' ((c.tc : Thread Cert.GradORefIdeal.nD Cert.GradORefIdeal.τ).loc Cert.GradORefIdeal.main_arg0) = m ((c.tc : Thread Cert.GradOIdeal.nD Cert.GradOIdeal.τ).loc Cert.GradOIdeal.main_arg0)
      ∧ m' ((c.tc : Thread Cert.GradORefIdeal.nD Cert.GradORefIdeal.τ).loc Cert.GradORefIdeal.main_arg1) = m ((c.tc : Thread Cert.GradOIdeal.nD Cert.GradOIdeal.τ).loc Cert.GradOIdeal.main_arg1)) →
    ∃ (v0 : (c : Dev Cert.GradOIdeal.nD) → Buf (Elt Ideal) ((c.tc : Thread Cert.GradOIdeal.nD Cert.GradOIdeal.τ).loc Cert.GradOIdeal.main_v0)),
      θ_run (Cert.GradOIdeal.defs (F := Ideal)) (onTc (τ := Cert.GradOIdeal.τ) (Cert.GradOIdeal.main (F := Ideal))) ⟨m, fun _ => 0, g⟩ (fun r => ∀ c : Dev Cert.GradOIdeal.nD,
          r.2.mem ((c.tc : Thread Cert.GradOIdeal.nD Cert.GradOIdeal.τ).loc Cert.GradOIdeal.main_v0) = v0 c
          ∧ r.2.mem ((c.tc : Thread Cert.GradOIdeal.nD Cert.GradOIdeal.τ).loc Cert.GradOIdeal.main_arg0) = m ((c.tc : Thread Cert.GradOIdeal.nD Cert.GradOIdeal.τ).loc Cert.GradOIdeal.main_arg0)
          ∧ r.2.mem ((c.tc : Thread Cert.GradOIdeal.nD Cert.GradOIdeal.τ).loc Cert.GradOIdeal.main_arg1) = m ((c.tc : Thread Cert.GradOIdeal.nD Cert.GradOIdeal.τ).loc Cert.GradOIdeal.main_arg1))
      ∧ θ_run (Cert.GradORefIdeal.defs (F := Ideal)) (onTc (τ := Cert.GradORefIdeal.τ) (Cert.GradORefIdeal.main (F := Ideal))) ⟨m', fun _ => 0, g'⟩ (fun r => ∀ c : Dev Cert.GradORefIdeal.nD,
          r.2.mem ((c.tc : Thread Cert.GradORefIdeal.nD Cert.GradORefIdeal.τ).loc Cert.GradORefIdeal.main_v3) = v0 c
          ∧ r.2.mem ((c.tc : Thread Cert.GradORefIdeal.nD Cert.GradORefIdeal.τ).loc Cert.GradORefIdeal.main_arg0) = m' ((c.tc : Thread Cert.GradORefIdeal.nD Cert.GradORefIdeal.τ).loc Cert.GradORefIdeal.main_arg0)
          ∧ r.2.mem ((c.tc : Thread Cert.GradORefIdeal.nD Cert.GradORefIdeal.τ).loc Cert.GradORefIdeal.main_arg1) = m' ((c.tc : Thread Cert.GradORefIdeal.nD Cert.GradORefIdeal.τ).loc Cert.GradORefIdeal.main_arg1))

def preserves_GradFfnUp_GradFfnUpIdeal : Prop :=
  True

def algebraic_GradFfnUpIdeal_GradFfnUpRefIdeal [hGradFfnUpIdeal : Cert.GradFfnUpIdeal.Facts] [hGradFfnUpRefIdeal : Cert.GradFfnUpRefIdeal.Facts] : Prop :=
  ∀ (m : (ℓ : Loc Cert.GradFfnUpIdeal.nD Cert.GradFfnUpIdeal.τ Cert.GradFfnUpIdeal.sig) → Buf (Elt Ideal) ℓ) (g : Dev Cert.GradFfnUpIdeal.nD → PrngReg)
    (m' : (ℓ : Loc Cert.GradFfnUpRefIdeal.nD Cert.GradFfnUpRefIdeal.τ Cert.GradFfnUpRefIdeal.sig) → Buf (Elt Ideal) ℓ) (g' : Dev Cert.GradFfnUpRefIdeal.nD → PrngReg), Pre_GradFfnUpIdeal m →
    (∀ c : Dev Cert.GradFfnUpIdeal.nD,
      m' ((c.tc : Thread Cert.GradFfnUpRefIdeal.nD Cert.GradFfnUpRefIdeal.τ).loc Cert.GradFfnUpRefIdeal.main_arg0) = m ((c.tc : Thread Cert.GradFfnUpIdeal.nD Cert.GradFfnUpIdeal.τ).loc Cert.GradFfnUpIdeal.main_arg0)
      ∧ m' ((c.tc : Thread Cert.GradFfnUpRefIdeal.nD Cert.GradFfnUpRefIdeal.τ).loc Cert.GradFfnUpRefIdeal.main_arg1) = m ((c.tc : Thread Cert.GradFfnUpIdeal.nD Cert.GradFfnUpIdeal.τ).loc Cert.GradFfnUpIdeal.main_arg1)) →
    ∃ (v0 : (c : Dev Cert.GradFfnUpIdeal.nD) → Buf (Elt Ideal) ((c.tc : Thread Cert.GradFfnUpIdeal.nD Cert.GradFfnUpIdeal.τ).loc Cert.GradFfnUpIdeal.main_v0)),
      θ_run (Cert.GradFfnUpIdeal.defs (F := Ideal)) (onTc (τ := Cert.GradFfnUpIdeal.τ) (Cert.GradFfnUpIdeal.main (F := Ideal))) ⟨m, fun _ => 0, g⟩ (fun r => ∀ c : Dev Cert.GradFfnUpIdeal.nD,
          r.2.mem ((c.tc : Thread Cert.GradFfnUpIdeal.nD Cert.GradFfnUpIdeal.τ).loc Cert.GradFfnUpIdeal.main_v0) = v0 c
          ∧ r.2.mem ((c.tc : Thread Cert.GradFfnUpIdeal.nD Cert.GradFfnUpIdeal.τ).loc Cert.GradFfnUpIdeal.main_arg0) = m ((c.tc : Thread Cert.GradFfnUpIdeal.nD Cert.GradFfnUpIdeal.τ).loc Cert.GradFfnUpIdeal.main_arg0)
          ∧ r.2.mem ((c.tc : Thread Cert.GradFfnUpIdeal.nD Cert.GradFfnUpIdeal.τ).loc Cert.GradFfnUpIdeal.main_arg1) = m ((c.tc : Thread Cert.GradFfnUpIdeal.nD Cert.GradFfnUpIdeal.τ).loc Cert.GradFfnUpIdeal.main_arg1))
      ∧ θ_run (Cert.GradFfnUpRefIdeal.defs (F := Ideal)) (onTc (τ := Cert.GradFfnUpRefIdeal.τ) (Cert.GradFfnUpRefIdeal.main (F := Ideal))) ⟨m', fun _ => 0, g'⟩ (fun r => ∀ c : Dev Cert.GradFfnUpRefIdeal.nD,
          r.2.mem ((c.tc : Thread Cert.GradFfnUpRefIdeal.nD Cert.GradFfnUpRefIdeal.τ).loc Cert.GradFfnUpRefIdeal.main_v3) = v0 c
          ∧ r.2.mem ((c.tc : Thread Cert.GradFfnUpRefIdeal.nD Cert.GradFfnUpRefIdeal.τ).loc Cert.GradFfnUpRefIdeal.main_arg0) = m' ((c.tc : Thread Cert.GradFfnUpRefIdeal.nD Cert.GradFfnUpRefIdeal.τ).loc Cert.GradFfnUpRefIdeal.main_arg0)
          ∧ r.2.mem ((c.tc : Thread Cert.GradFfnUpRefIdeal.nD Cert.GradFfnUpRefIdeal.τ).loc Cert.GradFfnUpRefIdeal.main_arg1) = m' ((c.tc : Thread Cert.GradFfnUpRefIdeal.nD Cert.GradFfnUpRefIdeal.τ).loc Cert.GradFfnUpRefIdeal.main_arg1))

def preserves_GradFfnDown_GradFfnDownIdeal : Prop :=
  True

def algebraic_GradFfnDownIdeal_GradFfnDownRefIdeal [hGradFfnDownIdeal : Cert.GradFfnDownIdeal.Facts] [hGradFfnDownRefIdeal : Cert.GradFfnDownRefIdeal.Facts] : Prop :=
  ∀ (m : (ℓ : Loc Cert.GradFfnDownIdeal.nD Cert.GradFfnDownIdeal.τ Cert.GradFfnDownIdeal.sig) → Buf (Elt Ideal) ℓ) (g : Dev Cert.GradFfnDownIdeal.nD → PrngReg)
    (m' : (ℓ : Loc Cert.GradFfnDownRefIdeal.nD Cert.GradFfnDownRefIdeal.τ Cert.GradFfnDownRefIdeal.sig) → Buf (Elt Ideal) ℓ) (g' : Dev Cert.GradFfnDownRefIdeal.nD → PrngReg), Pre_GradFfnDownIdeal m →
    (∀ c : Dev Cert.GradFfnDownIdeal.nD,
      m' ((c.tc : Thread Cert.GradFfnDownRefIdeal.nD Cert.GradFfnDownRefIdeal.τ).loc Cert.GradFfnDownRefIdeal.main_arg0) = m ((c.tc : Thread Cert.GradFfnDownIdeal.nD Cert.GradFfnDownIdeal.τ).loc Cert.GradFfnDownIdeal.main_arg0)
      ∧ m' ((c.tc : Thread Cert.GradFfnDownRefIdeal.nD Cert.GradFfnDownRefIdeal.τ).loc Cert.GradFfnDownRefIdeal.main_arg1) = m ((c.tc : Thread Cert.GradFfnDownIdeal.nD Cert.GradFfnDownIdeal.τ).loc Cert.GradFfnDownIdeal.main_arg1)) →
    ∃ (v0 : (c : Dev Cert.GradFfnDownIdeal.nD) → Buf (Elt Ideal) ((c.tc : Thread Cert.GradFfnDownIdeal.nD Cert.GradFfnDownIdeal.τ).loc Cert.GradFfnDownIdeal.main_v0)),
      θ_run (Cert.GradFfnDownIdeal.defs (F := Ideal)) (onTc (τ := Cert.GradFfnDownIdeal.τ) (Cert.GradFfnDownIdeal.main (F := Ideal))) ⟨m, fun _ => 0, g⟩ (fun r => ∀ c : Dev Cert.GradFfnDownIdeal.nD,
          r.2.mem ((c.tc : Thread Cert.GradFfnDownIdeal.nD Cert.GradFfnDownIdeal.τ).loc Cert.GradFfnDownIdeal.main_v0) = v0 c
          ∧ r.2.mem ((c.tc : Thread Cert.GradFfnDownIdeal.nD Cert.GradFfnDownIdeal.τ).loc Cert.GradFfnDownIdeal.main_arg0) = m ((c.tc : Thread Cert.GradFfnDownIdeal.nD Cert.GradFfnDownIdeal.τ).loc Cert.GradFfnDownIdeal.main_arg0)
          ∧ r.2.mem ((c.tc : Thread Cert.GradFfnDownIdeal.nD Cert.GradFfnDownIdeal.τ).loc Cert.GradFfnDownIdeal.main_arg1) = m ((c.tc : Thread Cert.GradFfnDownIdeal.nD Cert.GradFfnDownIdeal.τ).loc Cert.GradFfnDownIdeal.main_arg1))
      ∧ θ_run (Cert.GradFfnDownRefIdeal.defs (F := Ideal)) (onTc (τ := Cert.GradFfnDownRefIdeal.τ) (Cert.GradFfnDownRefIdeal.main (F := Ideal))) ⟨m', fun _ => 0, g'⟩ (fun r => ∀ c : Dev Cert.GradFfnDownRefIdeal.nD,
          r.2.mem ((c.tc : Thread Cert.GradFfnDownRefIdeal.nD Cert.GradFfnDownRefIdeal.τ).loc Cert.GradFfnDownRefIdeal.main_v3) = v0 c
          ∧ r.2.mem ((c.tc : Thread Cert.GradFfnDownRefIdeal.nD Cert.GradFfnDownRefIdeal.τ).loc Cert.GradFfnDownRefIdeal.main_arg0) = m' ((c.tc : Thread Cert.GradFfnDownRefIdeal.nD Cert.GradFfnDownRefIdeal.τ).loc Cert.GradFfnDownRefIdeal.main_arg0)
          ∧ r.2.mem ((c.tc : Thread Cert.GradFfnDownRefIdeal.nD Cert.GradFfnDownRefIdeal.τ).loc Cert.GradFfnDownRefIdeal.main_arg1) = m' ((c.tc : Thread Cert.GradFfnDownRefIdeal.nD Cert.GradFfnDownRefIdeal.τ).loc Cert.GradFfnDownRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v22) = v0 c
          ∧ r.2.mem ((c.tc : Thread Cert.InProjRefIdeal.nD Cert.InProjRefIdeal.τ).loc Cert.InProjRefIdeal.main_v25) = v1 c
          ∧ r.2.mem ((c.tc : Thread Cert.InProjRefIdeal.nD Cert.InProjRefIdeal.τ).loc Cert.InProjRefIdeal.main_v27) = v2 c
          ∧ r.2.mem ((c.tc : Thread Cert.InProjRefIdeal.nD Cert.InProjRefIdeal.τ).loc Cert.InProjRefIdeal.main_v21) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_InProjBack_InProjBackIdeal : Prop :=
  True

def algebraic_InProjBackIdeal_InProjBackRefIdeal [hInProjBackIdeal : Cert.InProjBackIdeal.Facts] [hInProjBackRefIdeal : Cert.InProjBackRefIdeal.Facts] : Prop :=
  ∀ (m : (ℓ : Loc Cert.InProjBackIdeal.nD Cert.InProjBackIdeal.τ Cert.InProjBackIdeal.sig) → Buf (Elt Ideal) ℓ) (g : Dev Cert.InProjBackIdeal.nD → PrngReg)
    (m' : (ℓ : Loc Cert.InProjBackRefIdeal.nD Cert.InProjBackRefIdeal.τ Cert.InProjBackRefIdeal.sig) → Buf (Elt Ideal) ℓ) (g' : Dev Cert.InProjBackRefIdeal.nD → PrngReg), Pre_InProjBackIdeal m →
    (∀ c : Dev Cert.InProjBackIdeal.nD,
      m' ((c.tc : Thread Cert.InProjBackRefIdeal.nD Cert.InProjBackRefIdeal.τ).loc Cert.InProjBackRefIdeal.main_arg0) = m ((c.tc : Thread Cert.InProjBackIdeal.nD Cert.InProjBackIdeal.τ).loc Cert.InProjBackIdeal.main_arg0)
      ∧ m' ((c.tc : Thread Cert.InProjBackRefIdeal.nD Cert.InProjBackRefIdeal.τ).loc Cert.InProjBackRefIdeal.main_arg1) = m ((c.tc : Thread Cert.InProjBackIdeal.nD Cert.InProjBackIdeal.τ).loc Cert.InProjBackIdeal.main_arg1)
      ∧ m' ((c.tc : Thread Cert.InProjBackRefIdeal.nD Cert.InProjBackRefIdeal.τ).loc Cert.InProjBackRefIdeal.main_arg2) = m ((c.tc : Thread Cert.InProjBackIdeal.nD Cert.InProjBackIdeal.τ).loc Cert.InProjBackIdeal.main_arg2)
      ∧ m' ((c.tc : Thread Cert.InProjBackRefIdeal.nD Cert.InProjBackRefIdeal.τ).loc Cert.InProjBackRefIdeal.main_arg3) = m ((c.tc : Thread Cert.InProjBackIdeal.nD Cert.InProjBackIdeal.τ).loc Cert.InProjBackIdeal.main_arg3)
      ∧ m' ((c.tc : Thread Cert.InProjBackRefIdeal.nD Cert.InProjBackRefIdeal.τ).loc Cert.InProjBackRefIdeal.main_arg4) = m ((c.tc : Thread Cert.InProjBackIdeal.nD Cert.InProjBackIdeal.τ).loc Cert.InProjBackIdeal.main_arg4)
      ∧ m' ((c.tc : Thread Cert.InProjBackRefIdeal.nD Cert.InProjBackRefIdeal.τ).loc Cert.InProjBackRefIdeal.main_arg5) = m ((c.tc : Thread Cert.InProjBackIdeal.nD Cert.InProjBackIdeal.τ).loc Cert.InProjBackIdeal.main_arg5)
      ∧ m' ((c.tc : Thread Cert.InProjBackRefIdeal.nD Cert.InProjBackRefIdeal.τ).loc Cert.InProjBackRefIdeal.main_arg6) = m ((c.tc : Thread Cert.InProjBackIdeal.nD Cert.InProjBackIdeal.τ).loc Cert.InProjBackIdeal.main_arg6)
      ∧ m' ((c.tc : Thread Cert.InProjBackRefIdeal.nD Cert.InProjBackRefIdeal.τ).loc Cert.InProjBackRefIdeal.main_arg7) = m ((c.tc : Thread Cert.InProjBackIdeal.nD Cert.InProjBackIdeal.τ).loc Cert.InProjBackIdeal.main_arg7)
      ∧ m' ((c.tc : Thread Cert.InProjBackRefIdeal.nD Cert.InProjBackRefIdeal.τ).loc Cert.InProjBackRefIdeal.main_arg8) = m ((c.tc : Thread Cert.InProjBackIdeal.nD Cert.InProjBackIdeal.τ).loc Cert.InProjBackIdeal.main_arg8)) →
    ∃ (v0 : (c : Dev Cert.InProjBackIdeal.nD) → Buf (Elt Ideal) ((c.tc : Thread Cert.InProjBackIdeal.nD Cert.InProjBackIdeal.τ).loc Cert.InProjBackIdeal.main_v0_0)) (v1 : (c : Dev Cert.InProjBackIdeal.nD) → Buf (Elt Ideal) ((c.tc : Thread Cert.InProjBackIdeal.nD Cert.InProjBackIdeal.τ).loc Cert.InProjBackIdeal.main_v0_1)),
      θ_run (Cert.InProjBackIdeal.defs (F := Ideal)) (onTc (τ := Cert.InProjBackIdeal.τ) (Cert.InProjBackIdeal.main (F := Ideal))) ⟨m, fun _ => 0, g⟩ (fun r => ∀ c : Dev Cert.InProjBackIdeal.nD,
          r.2.mem ((c.tc : Thread Cert.InProjBackIdeal.nD Cert.InProjBackIdeal.τ).loc Cert.InProjBackIdeal.main_v0_0) = v0 c
          ∧ r.2.mem ((c.tc : Thread Cert.InProjBackIdeal.nD Cert.InProjBackIdeal.τ).loc Cert.InProjBackIdeal.main_v0_1) = v1 c
          ∧ r.2.mem ((c.tc : Thread Cert.InProjBackIdeal.nD Cert.InProjBackIdeal.τ).loc Cert.InProjBackIdeal.main_arg0) = m ((c.tc : Thread Cert.InProjBackIdeal.nD Cert.InProjBackIdeal.τ).loc Cert.InProjBackIdeal.main_arg0)
          ∧ r.2.mem ((c.tc : Thread Cert.InProjBackIdeal.nD Cert.InProjBackIdeal.τ).loc Cert.InProjBackIdeal.main_arg1) = m ((c.tc : Thread Cert.InProjBackIdeal.nD Cert.InProjBackIdeal.τ).loc Cert.InProjBackIdeal.main_arg1)
          ∧ r.2.mem ((c.tc : Thread Cert.InProjBackIdeal.nD Cert.InProjBackIdeal.τ).loc Cert.InProjBackIdeal.main_arg2) = m ((c.tc : Thread Cert.InProjBackIdeal.nD Cert.InProjBackIdeal.τ).loc Cert.InProjBackIdeal.main_arg2)
          ∧ r.2.mem ((c.tc : Thread Cert.InProjBackIdeal.nD Cert.InProjBackIdeal.τ).loc Cert.InProjBackIdeal.main_arg3) = m ((c.tc : Thread Cert.InProjBackIdeal.nD Cert.InProjBackIdeal.τ).loc Cert.InProjBackIdeal.main_arg3)
          ∧ r.2.mem ((c.tc : Thread Cert.InProjBackIdeal.nD Cert.InProjBackIdeal.τ).loc Cert.InProjBackIdeal.main_arg4) = m ((c.tc : Thread Cert.InProjBackIdeal.nD Cert.InProjBackIdeal.τ).loc Cert.InProjBackIdeal.main_arg4)
          ∧ r.2.mem ((c.tc : Thread Cert.InProjBackIdeal.nD Cert.InProjBackIdeal.τ).loc Cert.InProjBackIdeal.main_arg5) = m ((c.tc : Thread Cert.InProjBackIdeal.nD Cert.InProjBackIdeal.τ).loc Cert.InProjBackIdeal.main_arg5)
          ∧ r.2.mem ((c.tc : Thread Cert.InProjBackIdeal.nD Cert.InProjBackIdeal.τ).loc Cert.InProjBackIdeal.main_arg6) = m ((c.tc : Thread Cert.InProjBackIdeal.nD Cert.InProjBackIdeal.τ).loc Cert.InProjBackIdeal.main_arg6)
          ∧ r.2.mem ((c.tc : Thread Cert.InProjBackIdeal.nD Cert.InProjBackIdeal.τ).loc Cert.InProjBackIdeal.main_arg7) = m ((c.tc : Thread Cert.InProjBackIdeal.nD Cert.InProjBackIdeal.τ).loc Cert.InProjBackIdeal.main_arg7)
          ∧ r.2.mem ((c.tc : Thread Cert.InProjBackIdeal.nD Cert.InProjBackIdeal.τ).loc Cert.InProjBackIdeal.main_arg8) = m ((c.tc : Thread Cert.InProjBackIdeal.nD Cert.InProjBackIdeal.τ).loc Cert.InProjBackIdeal.main_arg8))
      ∧ θ_run (Cert.InProjBackRefIdeal.defs (F := Ideal)) (onTc (τ := Cert.InProjBackRefIdeal.τ) (Cert.InProjBackRefIdeal.main (F := Ideal))) ⟨m', fun _ => 0, g'⟩ (fun r => ∀ c : Dev Cert.InProjBackRefIdeal.nD,
          r.2.mem ((c.tc : Thread Cert.InProjBackRefIdeal.nD Cert.InProjBackRefIdeal.τ).loc Cert.InProjBackRefIdeal.main_v48) = v0 c
          ∧ r.2.mem ((c.tc : Thread Cert.InProjBackRefIdeal.nD Cert.InProjBackRefIdeal.τ).loc Cert.InProjBackRefIdeal.main_v31) = v1 c
          ∧ r.2.mem ((c.tc : Thread Cert.InProjBackRefIdeal.nD Cert.InProjBackRefIdeal.τ).loc Cert.InProjBackRefIdeal.main_arg0) = m' ((c.tc : Thread Cert.InProjBackRefIdeal.nD Cert.InProjBackRefIdeal.τ).loc Cert.InProjBackRefIdeal.main_arg0)
          ∧ r.2.mem ((c.tc : Thread Cert.InProjBackRefIdeal.nD Cert.InProjBackRefIdeal.τ).loc Cert.InProjBackRefIdeal.main_arg1) = m' ((c.tc : Thread Cert.InProjBackRefIdeal.nD Cert.InProjBackRefIdeal.τ).loc Cert.InProjBackRefIdeal.main_arg1)
          ∧ r.2.mem ((c.tc : Thread Cert.InProjBackRefIdeal.nD Cert.InProjBackRefIdeal.τ).loc Cert.InProjBackRefIdeal.main_arg2) = m' ((c.tc : Thread Cert.InProjBackRefIdeal.nD Cert.InProjBackRefIdeal.τ).loc Cert.InProjBackRefIdeal.main_arg2)
          ∧ r.2.mem ((c.tc : Thread Cert.InProjBackRefIdeal.nD Cert.InProjBackRefIdeal.τ).loc Cert.InProjBackRefIdeal.main_arg3) = m' ((c.tc : Thread Cert.InProjBackRefIdeal.nD Cert.InProjBackRefIdeal.τ).loc Cert.InProjBackRefIdeal.main_arg3)
          ∧ r.2.mem ((c.tc : Thread Cert.InProjBackRefIdeal.nD Cert.InProjBackRefIdeal.τ).loc Cert.InProjBackRefIdeal.main_arg4) = m' ((c.tc : Thread Cert.InProjBackRefIdeal.nD Cert.InProjBackRefIdeal.τ).loc Cert.InProjBackRefIdeal.main_arg4)
          ∧ r.2.mem ((c.tc : Thread Cert.InProjBackRefIdeal.nD Cert.InProjBackRefIdeal.τ).loc Cert.InProjBackRefIdeal.main_arg5) = m' ((c.tc : Thread Cert.InProjBackRefIdeal.nD Cert.InProjBackRefIdeal.τ).loc Cert.InProjBackRefIdeal.main_arg5)
          ∧ r.2.mem ((c.tc : Thread Cert.InProjBackRefIdeal.nD Cert.InProjBackRefIdeal.τ).loc Cert.InProjBackRefIdeal.main_arg6) = m' ((c.tc : Thread Cert.InProjBackRefIdeal.nD Cert.InProjBackRefIdeal.τ).loc Cert.InProjBackRefIdeal.main_arg6)
          ∧ r.2.mem ((c.tc : Thread Cert.InProjBackRefIdeal.nD Cert.InProjBackRefIdeal.τ).loc Cert.InProjBackRefIdeal.main_arg7) = m' ((c.tc : Thread Cert.InProjBackRefIdeal.nD Cert.InProjBackRefIdeal.τ).loc Cert.InProjBackRefIdeal.main_arg7)
          ∧ r.2.mem ((c.tc : Thread Cert.InProjBackRefIdeal.nD Cert.InProjBackRefIdeal.τ).loc Cert.InProjBackRefIdeal.main_arg8) = m' ((c.tc : Thread Cert.InProjBackRefIdeal.nD Cert.InProjBackRefIdeal.τ).loc Cert.InProjBackRefIdeal.main_arg8))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_MergeBack_MergeBackIdeal : Prop :=
  True

def algebraic_MergeBackIdeal_MergeBackRefIdeal [hMergeBackIdeal : Cert.MergeBackIdeal.Facts] [hMergeBackRefIdeal : Cert.MergeBackRefIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg)
    (m' : (ℓ : Loc Cert.MergeBackRefIdeal.nD Cert.MergeBackRefIdeal.τ Cert.MergeBackRefIdeal.sig) → Buf (Elt Ideal) ℓ) (g' : Dev Cert.MergeBackRefIdeal.nD → PrngReg), Pre_MergeBackIdeal m →
    (∀ c : Dev Cert.MergeBackIdeal.nD,
      m' ((c.tc : Thread Cert.MergeBackRefIdeal.nD Cert.MergeBackRefIdeal.τ).loc Cert.MergeBackRefIdeal.main_arg0) = m ((c.tc : Thread Cert.MergeBackIdeal.nD Cert.MergeBackIdeal.τ).loc Cert.MergeBackIdeal.main_arg0)
      ∧ m' ((c.tc : Thread Cert.MergeBackRefIdeal.nD Cert.MergeBackRefIdeal.τ).loc Cert.MergeBackRefIdeal.main_arg1) = m ((c.tc : Thread Cert.MergeBackIdeal.nD Cert.MergeBackIdeal.τ).loc Cert.MergeBackIdeal.main_arg1)
      ∧ m' ((c.tc : Thread Cert.MergeBackRefIdeal.nD Cert.MergeBackRefIdeal.τ).loc Cert.MergeBackRefIdeal.main_arg2) = m ((c.tc : Thread Cert.MergeBackIdeal.nD Cert.MergeBackIdeal.τ).loc Cert.MergeBackIdeal.main_arg2)
      ∧ m' ((c.tc : Thread Cert.MergeBackRefIdeal.nD Cert.MergeBackRefIdeal.τ).loc Cert.MergeBackRefIdeal.main_arg3) = m ((c.tc : Thread Cert.MergeBackIdeal.nD Cert.MergeBackIdeal.τ).loc Cert.MergeBackIdeal.main_arg3)
      ∧ m' ((c.tc : Thread Cert.MergeBackRefIdeal.nD Cert.MergeBackRefIdeal.τ).loc Cert.MergeBackRefIdeal.main_arg4) = m ((c.tc : Thread Cert.MergeBackIdeal.nD Cert.MergeBackIdeal.τ).loc Cert.MergeBackIdeal.main_arg4)
      ∧ m' ((c.tc : Thread Cert.MergeBackRefIdeal.nD Cert.MergeBackRefIdeal.τ).loc Cert.MergeBackRefIdeal.main_arg5) = m ((c.tc : Thread Cert.MergeBackIdeal.nD Cert.MergeBackIdeal.τ).loc Cert.MergeBackIdeal.main_arg5)
      ∧ m' ((c.tc : Thread Cert.MergeBackRefIdeal.nD Cert.MergeBackRefIdeal.τ).loc Cert.MergeBackRefIdeal.main_arg6) = m ((c.tc : Thread Cert.MergeBackIdeal.nD Cert.MergeBackIdeal.τ).loc Cert.MergeBackIdeal.main_arg6)
      ∧ m' ((c.tc : Thread Cert.MergeBackRefIdeal.nD Cert.MergeBackRefIdeal.τ).loc Cert.MergeBackRefIdeal.main_arg7) = m ((c.tc : Thread Cert.MergeBackIdeal.nD Cert.MergeBackIdeal.τ).loc Cert.MergeBackIdeal.main_arg7)
      ∧ m' ((c.tc : Thread Cert.MergeBackRefIdeal.nD Cert.MergeBackRefIdeal.τ).loc Cert.MergeBackRefIdeal.main_arg8) = m ((c.tc : Thread Cert.MergeBackIdeal.nD Cert.MergeBackIdeal.τ).loc Cert.MergeBackIdeal.main_arg8)) →
    ∃ (v0 : (c : Dev Cert.MergeBackIdeal.nD) → Buf (Elt Ideal) ((c.tc : Thread Cert.MergeBackIdeal.nD Cert.MergeBackIdeal.τ).loc Cert.MergeBackIdeal.main_v0_0)) (v1 : (c : Dev Cert.MergeBackIdeal.nD) → Buf (Elt Ideal) ((c.tc : Thread Cert.MergeBackIdeal.nD Cert.MergeBackIdeal.τ).loc Cert.MergeBackIdeal.main_v0_1)) (v2 : (c : Dev Cert.MergeBackIdeal.nD) → Buf (Elt Ideal) ((c.tc : Thread Cert.MergeBackIdeal.nD Cert.MergeBackIdeal.τ).loc Cert.MergeBackIdeal.main_v0_2)) (v3 : (c : Dev Cert.MergeBackIdeal.nD) → Buf (Elt Ideal) ((c.tc : Thread Cert.MergeBackIdeal.nD Cert.MergeBackIdeal.τ).loc Cert.MergeBackIdeal.main_v0_3)) (v4 : (c : Dev Cert.MergeBackIdeal.nD) → Buf (Elt Ideal) ((c.tc : Thread Cert.MergeBackIdeal.nD Cert.MergeBackIdeal.τ).loc Cert.MergeBackIdeal.main_v0_4)) (v5 : (c : Dev Cert.MergeBackIdeal.nD) → Buf (Elt Ideal) ((c.tc : Thread Cert.MergeBackIdeal.nD Cert.MergeBackIdeal.τ).loc Cert.MergeBackIdeal.main_v0_5)) (v6 : (c : Dev Cert.MergeBackIdeal.nD) → Buf (Elt Ideal) ((c.tc : Thread Cert.MergeBackIdeal.nD Cert.MergeBackIdeal.τ).loc Cert.MergeBackIdeal.main_v0_6)) (v7 : (c : Dev Cert.MergeBackIdeal.nD) → Buf (Elt Ideal) ((c.tc : Thread Cert.MergeBackIdeal.nD Cert.MergeBackIdeal.τ).loc Cert.MergeBackIdeal.main_v0_7)) (v8 : (c : Dev Cert.MergeBackIdeal.nD) → Buf (Elt Ideal) ((c.tc : Thread Cert.MergeBackIdeal.nD Cert.MergeBackIdeal.τ).loc Cert.MergeBackIdeal.main_v0_8)) (v9 : (c : Dev Cert.MergeBackIdeal.nD) → Buf (Elt Ideal) ((c.tc : Thread Cert.MergeBackIdeal.nD Cert.MergeBackIdeal.τ).loc Cert.MergeBackIdeal.main_v0_9)) (v10 : (c : Dev Cert.MergeBackIdeal.nD) → Buf (Elt Ideal) ((c.tc : Thread Cert.MergeBackIdeal.nD Cert.MergeBackIdeal.τ).loc Cert.MergeBackIdeal.main_v0_10)),
      θ_run (Cert.MergeBackIdeal.defs (F := Ideal)) (onTc (τ := Cert.MergeBackIdeal.τ) (Cert.MergeBackIdeal.main (F := Ideal))) ⟨m, fun _ => 0, g⟩ (fun r => ∀ c : Dev Cert.MergeBackIdeal.nD,
          r.2.mem ((c.tc : Thread Cert.MergeBackIdeal.nD Cert.MergeBackIdeal.τ).loc Cert.MergeBackIdeal.main_v0_0) = v0 c
          ∧ r.2.mem ((c.tc : Thread Cert.MergeBackIdeal.nD Cert.MergeBackIdeal.τ).loc Cert.MergeBackIdeal.main_v0_1) = v1 c
          ∧ r.2.mem ((c.tc : Thread Cert.MergeBackIdeal.nD Cert.MergeBackIdeal.τ).loc Cert.MergeBackIdeal.main_v0_2) = v2 c
          ∧ r.2.mem ((c.tc : Thread Cert.MergeBackIdeal.nD Cert.MergeBackIdeal.τ).loc Cert.MergeBackIdeal.main_v0_3) = v3 c
          ∧ r.2.mem ((c.tc : Thread Cert.MergeBackIdeal.nD Cert.MergeBackIdeal.τ).loc Cert.MergeBackIdeal.main_v0_4) = v4 c
          ∧ r.2.mem ((c.tc : Thread Cert.MergeBackIdeal.nD Cert.MergeBackIdeal.τ).loc Cert.MergeBackIdeal.main_v0_5) = v5 c
          ∧ r.2.mem ((c.tc : Thread Cert.MergeBackIdeal.nD Cert.MergeBackIdeal.τ).loc Cert.MergeBackIdeal.main_v0_6) = v6 c
          ∧ r.2.mem ((c.tc : Thread Cert.MergeBackIdeal.nD Cert.MergeBackIdeal.τ).loc Cert.MergeBackIdeal.main_v0_7) = v7 c
          ∧ r.2.mem ((c.tc : Thread Cert.MergeBackIdeal.nD Cert.MergeBackIdeal.τ).loc Cert.MergeBackIdeal.main_v0_8) = v8 c
          ∧ r.2.mem ((c.tc : Thread Cert.MergeBackIdeal.nD Cert.MergeBackIdeal.τ).loc Cert.MergeBackIdeal.main_v0_9) = v9 c
          ∧ r.2.mem ((c.tc : Thread Cert.MergeBackIdeal.nD Cert.MergeBackIdeal.τ).loc Cert.MergeBackIdeal.main_v0_10) = v10 c
          ∧ r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
          ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
          ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
          ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3)
          ∧ r.2.mem ((c.tc : Thread Cert.MergeBackIdeal.nD Cert.MergeBackIdeal.τ).loc Cert.MergeBackIdeal.main_arg4) = m ((c.tc : Thread Cert.MergeBackIdeal.nD Cert.MergeBackIdeal.τ).loc Cert.MergeBackIdeal.main_arg4)
          ∧ r.2.mem ((c.tc : Thread Cert.MergeBackIdeal.nD Cert.MergeBackIdeal.τ).loc Cert.MergeBackIdeal.main_arg5) = m ((c.tc : Thread Cert.MergeBackIdeal.nD Cert.MergeBackIdeal.τ).loc Cert.MergeBackIdeal.main_arg5)
          ∧ r.2.mem ((c.tc : Thread Cert.MergeBackIdeal.nD Cert.MergeBackIdeal.τ).loc Cert.MergeBackIdeal.main_arg6) = m ((c.tc : Thread Cert.MergeBackIdeal.nD Cert.MergeBackIdeal.τ).loc Cert.MergeBackIdeal.main_arg6)
          ∧ r.2.mem ((c.tc : Thread Cert.MergeBackIdeal.nD Cert.MergeBackIdeal.τ).loc Cert.MergeBackIdeal.main_arg7) = m ((c.tc : Thread Cert.MergeBackIdeal.nD Cert.MergeBackIdeal.τ).loc Cert.MergeBackIdeal.main_arg7)
          ∧ r.2.mem ((c.tc : Thread Cert.MergeBackIdeal.nD Cert.MergeBackIdeal.τ).loc Cert.MergeBackIdeal.main_arg8) = m ((c.tc : Thread Cert.MergeBackIdeal.nD Cert.MergeBackIdeal.τ).loc Cert.MergeBackIdeal.main_arg8))
      ∧ θ_run (Cert.MergeBackRefIdeal.defs (F := Ideal)) (onTc (τ := Cert.MergeBackRefIdeal.τ) (Cert.MergeBackRefIdeal.main (F := Ideal))) ⟨m', fun _ => 0, g'⟩ (fun r => ∀ c : Dev Cert.MergeBackRefIdeal.nD,
          r.2.mem ((c.tc : Thread Cert.MergeBackRefIdeal.nD Cert.MergeBackRefIdeal.τ).loc Cert.MergeBackRefIdeal.main_v69) = v0 c
          ∧ r.2.mem ((c.tc : Thread Cert.MergeBackRefIdeal.nD Cert.MergeBackRefIdeal.τ).loc Cert.MergeBackRefIdeal.main_v70) = v1 c
          ∧ r.2.mem ((c.tc : Thread Cert.MergeBackRefIdeal.nD Cert.MergeBackRefIdeal.τ).loc Cert.MergeBackRefIdeal.main_v71) = v2 c
          ∧ r.2.mem ((c.tc : Thread Cert.MergeBackRefIdeal.nD Cert.MergeBackRefIdeal.τ).loc Cert.MergeBackRefIdeal.main_v72) = v3 c
          ∧ r.2.mem ((c.tc : Thread Cert.MergeBackRefIdeal.nD Cert.MergeBackRefIdeal.τ).loc Cert.MergeBackRefIdeal.main_v73) = v4 c
          ∧ r.2.mem ((c.tc : Thread Cert.MergeBackRefIdeal.nD Cert.MergeBackRefIdeal.τ).loc Cert.MergeBackRefIdeal.main_v74) = v5 c
          ∧ r.2.mem ((c.tc : Thread Cert.MergeBackRefIdeal.nD Cert.MergeBackRefIdeal.τ).loc Cert.MergeBackRefIdeal.main_v75) = v6 c
          ∧ r.2.mem ((c.tc : Thread Cert.MergeBackRefIdeal.nD Cert.MergeBackRefIdeal.τ).loc Cert.MergeBackRefIdeal.main_v67) = v7 c
          ∧ r.2.mem ((c.tc : Thread Cert.MergeBackRefIdeal.nD Cert.MergeBackRefIdeal.τ).loc Cert.MergeBackRefIdeal.main_v64) = v8 c
          ∧ r.2.mem ((c.tc : Thread Cert.MergeBackRefIdeal.nD Cert.MergeBackRefIdeal.τ).loc Cert.MergeBackRefIdeal.main_v32) = v9 c
          ∧ r.2.mem ((c.tc : Thread Cert.MergeBackRefIdeal.nD Cert.MergeBackRefIdeal.τ).loc Cert.MergeBackRefIdeal.main_v77) = v10 c
          ∧ r.2.mem ((c.tc : Thread Cert.MergeBackRefIdeal.nD Cert.MergeBackRefIdeal.τ).loc Cert.MergeBackRefIdeal.main_arg0) = m' ((c.tc : Thread Cert.MergeBackRefIdeal.nD Cert.MergeBackRefIdeal.τ).loc Cert.MergeBackRefIdeal.main_arg0)
          ∧ r.2.mem ((c.tc : Thread Cert.MergeBackRefIdeal.nD Cert.MergeBackRefIdeal.τ).loc Cert.MergeBackRefIdeal.main_arg1) = m' ((c.tc : Thread Cert.MergeBackRefIdeal.nD Cert.MergeBackRefIdeal.τ).loc Cert.MergeBackRefIdeal.main_arg1)
          ∧ r.2.mem ((c.tc : Thread Cert.MergeBackRefIdeal.nD Cert.MergeBackRefIdeal.τ).loc Cert.MergeBackRefIdeal.main_arg2) = m' ((c.tc : Thread Cert.MergeBackRefIdeal.nD Cert.MergeBackRefIdeal.τ).loc Cert.MergeBackRefIdeal.main_arg2)
          ∧ r.2.mem ((c.tc : Thread Cert.MergeBackRefIdeal.nD Cert.MergeBackRefIdeal.τ).loc Cert.MergeBackRefIdeal.main_arg3) = m' ((c.tc : Thread Cert.MergeBackRefIdeal.nD Cert.MergeBackRefIdeal.τ).loc Cert.MergeBackRefIdeal.main_arg3)
          ∧ r.2.mem ((c.tc : Thread Cert.MergeBackRefIdeal.nD Cert.MergeBackRefIdeal.τ).loc Cert.MergeBackRefIdeal.main_arg4) = m' ((c.tc : Thread Cert.MergeBackRefIdeal.nD Cert.MergeBackRefIdeal.τ).loc Cert.MergeBackRefIdeal.main_arg4)
          ∧ r.2.mem ((c.tc : Thread Cert.MergeBackRefIdeal.nD Cert.MergeBackRefIdeal.τ).loc Cert.MergeBackRefIdeal.main_arg5) = m' ((c.tc : Thread Cert.MergeBackRefIdeal.nD Cert.MergeBackRefIdeal.τ).loc Cert.MergeBackRefIdeal.main_arg5)
          ∧ r.2.mem ((c.tc : Thread Cert.MergeBackRefIdeal.nD Cert.MergeBackRefIdeal.τ).loc Cert.MergeBackRefIdeal.main_arg6) = m' ((c.tc : Thread Cert.MergeBackRefIdeal.nD Cert.MergeBackRefIdeal.τ).loc Cert.MergeBackRefIdeal.main_arg6)
          ∧ r.2.mem ((c.tc : Thread Cert.MergeBackRefIdeal.nD Cert.MergeBackRefIdeal.τ).loc Cert.MergeBackRefIdeal.main_arg7) = m' ((c.tc : Thread Cert.MergeBackRefIdeal.nD Cert.MergeBackRefIdeal.τ).loc Cert.MergeBackRefIdeal.main_arg7)
          ∧ r.2.mem ((c.tc : Thread Cert.MergeBackRefIdeal.nD Cert.MergeBackRefIdeal.τ).loc Cert.MergeBackRefIdeal.main_arg8) = m' ((c.tc : Thread Cert.MergeBackRefIdeal.nD Cert.MergeBackRefIdeal.τ).loc Cert.MergeBackRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)) (v4 : (c : Dev Cert.FfnIdeal.nD) → Buf (Elt Ideal) ((c.tc : Thread Cert.FfnIdeal.nD Cert.FfnIdeal.τ).loc Cert.FfnIdeal.main_v0_4)) (v5 : (c : Dev Cert.FfnIdeal.nD) → Buf (Elt Ideal) ((c.tc : Thread Cert.FfnIdeal.nD Cert.FfnIdeal.τ).loc Cert.FfnIdeal.main_v0_5)) (v6 : (c : Dev Cert.FfnIdeal.nD) → Buf (Elt Ideal) ((c.tc : Thread Cert.FfnIdeal.nD Cert.FfnIdeal.τ).loc Cert.FfnIdeal.main_v0_6)) (v7 : (c : Dev Cert.FfnIdeal.nD) → Buf (Elt Ideal) ((c.tc : Thread Cert.FfnIdeal.nD Cert.FfnIdeal.τ).loc Cert.FfnIdeal.main_v0_7)) (v8 : (c : Dev Cert.FfnIdeal.nD) → Buf (Elt Ideal) ((c.tc : Thread Cert.FfnIdeal.nD Cert.FfnIdeal.τ).loc Cert.FfnIdeal.main_v0_8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_v0_4) = v4 c
          ∧ r.2.mem ((c.tc : Thread Cert.FfnIdeal.nD Cert.FfnIdeal.τ).loc Cert.FfnIdeal.main_v0_5) = v5 c
          ∧ r.2.mem ((c.tc : Thread Cert.FfnIdeal.nD Cert.FfnIdeal.τ).loc Cert.FfnIdeal.main_v0_6) = v6 c
          ∧ r.2.mem ((c.tc : Thread Cert.FfnIdeal.nD Cert.FfnIdeal.τ).loc Cert.FfnIdeal.main_v0_7) = v7 c
          ∧ r.2.mem ((c.tc : Thread Cert.FfnIdeal.nD Cert.FfnIdeal.τ).loc Cert.FfnIdeal.main_v0_8) = v8 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v101) = v0 c
          ∧ r.2.mem ((c.tc : Thread Cert.FfnRefIdeal.nD Cert.FfnRefIdeal.τ).loc Cert.FfnRefIdeal.main_v104) = v1 c
          ∧ r.2.mem ((c.tc : Thread Cert.FfnRefIdeal.nD Cert.FfnRefIdeal.τ).loc Cert.FfnRefIdeal.main_v96) = v2 c
          ∧ r.2.mem ((c.tc : Thread Cert.FfnRefIdeal.nD Cert.FfnRefIdeal.τ).loc Cert.FfnRefIdeal.main_v97) = v3 c
          ∧ r.2.mem ((c.tc : Thread Cert.FfnRefIdeal.nD Cert.FfnRefIdeal.τ).loc Cert.FfnRefIdeal.main_v98) = v4 c
          ∧ r.2.mem ((c.tc : Thread Cert.FfnRefIdeal.nD Cert.FfnRefIdeal.τ).loc Cert.FfnRefIdeal.main_v99) = v5 c
          ∧ r.2.mem ((c.tc : Thread Cert.FfnRefIdeal.nD Cert.FfnRefIdeal.τ).loc Cert.FfnRefIdeal.main_v100) = v6 c
          ∧ r.2.mem ((c.tc : Thread Cert.FfnRefIdeal.nD Cert.FfnRefIdeal.τ).loc Cert.FfnRefIdeal.main_v78) = v7 c
          ∧ r.2.mem ((c.tc : Thread Cert.FfnRefIdeal.nD Cert.FfnRefIdeal.τ).loc Cert.FfnRefIdeal.main_v50) = v8 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def Claim : Prop :=
  ∃ (hGather : Cert.Gather.Facts) (hGatherIdeal : Cert.GatherIdeal.Facts) (hGatherRef : Cert.GatherRef.Facts) (hGatherRefIdeal : Cert.GatherRefIdeal.Facts) (hCores : Cert.Cores.Facts) (hCoresIdeal : Cert.CoresIdeal.Facts) (hCoresRef : Cert.CoresRef.Facts) (hCoresRefIdeal : Cert.CoresRefIdeal.Facts) (hChips : Cert.Chips.Facts) (hChipsIdeal : Cert.ChipsIdeal.Facts) (hChipsRef : Cert.ChipsRef.Facts) (hChipsRefIdeal : Cert.ChipsRefIdeal.Facts) (hAdamIn : Cert.AdamIn.Facts) (hAdamInIdeal : Cert.AdamInIdeal.Facts) (hAdamInRef : Cert.AdamInRef.Facts) (hAdamInRefIdeal : Cert.AdamInRefIdeal.Facts) (hAdamUp : Cert.AdamUp.Facts) (hAdamUpIdeal : Cert.AdamUpIdeal.Facts) (hAdamUpRef : Cert.AdamUpRef.Facts) (hAdamUpRefIdeal : Cert.AdamUpRefIdeal.Facts) (hAdamGateUp : Cert.AdamGateUp.Facts) (hAdamGateUpIdeal : Cert.AdamGateUpIdeal.Facts) (hAdamGateUpRef : Cert.AdamGateUpRef.Facts) (hAdamGateUpRefIdeal : Cert.AdamGateUpRefIdeal.Facts) (hAdamOut : Cert.AdamOut.Facts) (hAdamOutIdeal : Cert.AdamOutIdeal.Facts) (hAdamOutRef : Cert.AdamOutRef.Facts) (hAdamOutRefIdeal : Cert.AdamOutRefIdeal.Facts) (hAdamO : Cert.AdamO.Facts) (hAdamOIdeal : Cert.AdamOIdeal.Facts) (hAdamORef : Cert.AdamORef.Facts) (hAdamORefIdeal : Cert.AdamORefIdeal.Facts) (hAdamFfnUp : Cert.AdamFfnUp.Facts) (hAdamFfnUpIdeal : Cert.AdamFfnUpIdeal.Facts) (hAdamFfnUpRef : Cert.AdamFfnUpRef.Facts) (hAdamFfnUpRefIdeal : Cert.AdamFfnUpRefIdeal.Facts) (hAdamFfnDown : Cert.AdamFfnDown.Facts) (hAdamFfnDownIdeal : Cert.AdamFfnDownIdeal.Facts) (hAdamFfnDownRef : Cert.AdamFfnDownRef.Facts) (hAdamFfnDownRefIdeal : Cert.AdamFfnDownRefIdeal.Facts) (hAdamSmall : Cert.AdamSmall.Facts) (hAdamSmallIdeal : Cert.AdamSmallIdeal.Facts) (hAdamSmallRef : Cert.AdamSmallRef.Facts) (hAdamSmallRefIdeal : Cert.AdamSmallRefIdeal.Facts) (hAddCore : Cert.AddCore.Facts) (hAddCoreIdeal : Cert.AddCoreIdeal.Facts) (hAddCoreRef : Cert.AddCoreRef.Facts) (hAddCoreRefIdeal : Cert.AddCoreRefIdeal.Facts) (hSumChips : Cert.SumChips.Facts) (hSumChipsIdeal : Cert.SumChipsIdeal.Facts) (hSumChipsRef : Cert.SumChipsRef.Facts) (hSumChipsRefIdeal : Cert.SumChipsRefIdeal.Facts) (hGradQkv : Cert.GradQkv.Facts) (hGradQkvIdeal : Cert.GradQkvIdeal.Facts) (hGradQkvRef : Cert.GradQkvRef.Facts) (hGradQkvRefIdeal : Cert.GradQkvRefIdeal.Facts) (hGradRw : Cert.GradRw.Facts) (hGradRwIdeal : Cert.GradRwIdeal.Facts) (hGradRwRef : Cert.GradRwRef.Facts) (hGradRwRefIdeal : Cert.GradRwRefIdeal.Facts) (hGradGate : Cert.GradGate.Facts) (hGradGateIdeal : Cert.GradGateIdeal.Facts) (hGradGateRef : Cert.GradGateRef.Facts) (hGradGateRefIdeal : Cert.GradGateRefIdeal.Facts) (hGradOut : Cert.GradOut.Facts) (hGradOutIdeal : Cert.GradOutIdeal.Facts) (hGradOutRef : Cert.GradOutRef.Facts) (hGradOutRefIdeal : Cert.GradOutRefIdeal.Facts) (hGradO : Cert.GradO.Facts) (hGradOIdeal : Cert.GradOIdeal.Facts) (hGradORef : Cert.GradORef.Facts) (hGradORefIdeal : Cert.GradORefIdeal.Facts) (hGradFfnUp : Cert.GradFfnUp.Facts) (hGradFfnUpIdeal : Cert.GradFfnUpIdeal.Facts) (hGradFfnUpRef : Cert.GradFfnUpRef.Facts) (hGradFfnUpRefIdeal : Cert.GradFfnUpRefIdeal.Facts) (hGradFfnDown : Cert.GradFfnDown.Facts) (hGradFfnDownIdeal : Cert.GradFfnDownIdeal.Facts) (hGradFfnDownRef : Cert.GradFfnDownRef.Facts) (hGradFfnDownRefIdeal : Cert.GradFfnDownRefIdeal.Facts) (hInProj : Cert.InProj.Facts) (hInProjIdeal : Cert.InProjIdeal.Facts) (hInProjRef : Cert.InProjRef.Facts) (hInProjRefIdeal : Cert.InProjRefIdeal.Facts) (hInProjBack : Cert.InProjBack.Facts) (hInProjBackIdeal : Cert.InProjBackIdeal.Facts) (hInProjBackRef : Cert.InProjBackRef.Facts) (hInProjBackRefIdeal : Cert.InProjBackRefIdeal.Facts) (hMerge : Cert.Merge.Facts) (hMergeIdeal : Cert.MergeIdeal.Facts) (hMergeRef : Cert.MergeRef.Facts) (hMergeRefIdeal : Cert.MergeRefIdeal.Facts) (hMergeBack : Cert.MergeBack.Facts) (hMergeBackIdeal : Cert.MergeBackIdeal.Facts) (hMergeBackRef : Cert.MergeBackRef.Facts) (hMergeBackRefIdeal : Cert.MergeBackRefIdeal.Facts) (hFfn : Cert.Ffn.Facts) (hFfnIdeal : Cert.FfnIdeal.Facts) (hFfnRef : Cert.FfnRef.Facts) (hFfnRefIdeal : Cert.FfnRefIdeal.Facts) (hPre_core_given : Cert.Pre_core_given.Facts) (hPre_chip_given : Cert.Pre_chip_given.Facts),
    quiescent_Gather (hGather := hGather)
    ∧ quiescent_GatherIdeal (hGatherIdeal := hGatherIdeal)
    ∧ quiescent_GatherRef (hGatherRef := hGatherRef)
    ∧ quiescent_GatherRefIdeal (hGatherRefIdeal := hGatherRefIdeal)
    ∧ quiescent_Cores (hCores := hCores)
    ∧ quiescent_CoresIdeal (hCoresIdeal := hCoresIdeal)
    ∧ quiescent_CoresRef (hCoresRef := hCoresRef)
    ∧ quiescent_CoresRefIdeal (hCoresRefIdeal := hCoresRefIdeal)
    ∧ quiescent_Chips (hChips := hChips)
    ∧ quiescent_ChipsIdeal (hChipsIdeal := hChipsIdeal)
    ∧ quiescent_ChipsRef (hChipsRef := hChipsRef)
    ∧ quiescent_ChipsRefIdeal (hChipsRefIdeal := hChipsRefIdeal)
    ∧ quiescent_AdamIn (hAdamIn := hAdamIn)
    ∧ quiescent_AdamInIdeal (hAdamInIdeal := hAdamInIdeal)
    ∧ quiescent_AdamInRef (hAdamInRef := hAdamInRef)
    ∧ quiescent_AdamInRefIdeal (hAdamInRefIdeal := hAdamInRefIdeal)
    ∧ quiescent_AdamUp (hAdamUp := hAdamUp)
    ∧ quiescent_AdamUpIdeal (hAdamUpIdeal := hAdamUpIdeal)
    ∧ quiescent_AdamUpRef (hAdamUpRef := hAdamUpRef)
    ∧ quiescent_AdamUpRefIdeal (hAdamUpRefIdeal := hAdamUpRefIdeal)
    ∧ quiescent_AdamGateUp (hAdamGateUp := hAdamGateUp)
    ∧ quiescent_AdamGateUpIdeal (hAdamGateUpIdeal := hAdamGateUpIdeal)
    ∧ quiescent_AdamGateUpRef (hAdamGateUpRef := hAdamGateUpRef)
    ∧ quiescent_AdamGateUpRefIdeal (hAdamGateUpRefIdeal := hAdamGateUpRefIdeal)
    ∧ quiescent_AdamOut (hAdamOut := hAdamOut)
    ∧ quiescent_AdamOutIdeal (hAdamOutIdeal := hAdamOutIdeal)
    ∧ quiescent_AdamOutRef (hAdamOutRef := hAdamOutRef)
    ∧ quiescent_AdamOutRefIdeal (hAdamOutRefIdeal := hAdamOutRefIdeal)
    ∧ quiescent_AdamO (hAdamO := hAdamO)
    ∧ quiescent_AdamOIdeal (hAdamOIdeal := hAdamOIdeal)
    ∧ quiescent_AdamORef (hAdamORef := hAdamORef)
    ∧ quiescent_AdamORefIdeal (hAdamORefIdeal := hAdamORefIdeal)
    ∧ quiescent_AdamFfnUp (hAdamFfnUp := hAdamFfnUp)
    ∧ quiescent_AdamFfnUpIdeal (hAdamFfnUpIdeal := hAdamFfnUpIdeal)
    ∧ quiescent_AdamFfnUpRef (hAdamFfnUpRef := hAdamFfnUpRef)
    ∧ quiescent_AdamFfnUpRefIdeal (hAdamFfnUpRefIdeal := hAdamFfnUpRefIdeal)
    ∧ quiescent_AdamFfnDown (hAdamFfnDown := hAdamFfnDown)
    ∧ quiescent_AdamFfnDownIdeal (hAdamFfnDownIdeal := hAdamFfnDownIdeal)
    ∧ quiescent_AdamFfnDownRef (hAdamFfnDownRef := hAdamFfnDownRef)
    ∧ quiescent_AdamFfnDownRefIdeal (hAdamFfnDownRefIdeal := hAdamFfnDownRefIdeal)
    ∧ quiescent_AdamSmall (hAdamSmall := hAdamSmall)
    ∧ quiescent_AdamSmallIdeal (hAdamSmallIdeal := hAdamSmallIdeal)
    ∧ quiescent_AdamSmallRef (hAdamSmallRef := hAdamSmallRef)
    ∧ quiescent_AdamSmallRefIdeal (hAdamSmallRefIdeal := hAdamSmallRefIdeal)
    ∧ quiescent_AddCore (hAddCore := hAddCore) (hPre_core_given := hPre_core_given)
    ∧ quiescent_AddCoreIdeal (hAddCoreIdeal := hAddCoreIdeal) (hPre_core_given := hPre_core_given)
    ∧ quiescent_AddCoreRef (hAddCoreRef := hAddCoreRef)
    ∧ quiescent_AddCoreRef_pre_core_given (hAddCoreRef := hAddCoreRef) (hPre_core_given := hPre_core_given)
    ∧ quiescent_AddCoreRefIdeal (hAddCoreRefIdeal := hAddCoreRefIdeal)
    ∧ quiescent_AddCoreRefIdeal_pre_core_given (hAddCoreRefIdeal := hAddCoreRefIdeal) (hPre_core_given := hPre_core_given)
    ∧ quiescent_SumChips (hSumChips := hSumChips) (hPre_chip_given := hPre_chip_given)
    ∧ quiescent_SumChipsIdeal (hSumChipsIdeal := hSumChipsIdeal) (hPre_chip_given := hPre_chip_given)
    ∧ quiescent_SumChipsRef (hSumChipsRef := hSumChipsRef)
    ∧ quiescent_SumChipsRefIdeal (hSumChipsRefIdeal := hSumChipsRefIdeal)
    ∧ quiescent_SumChipsRefIdeal_pre_chip_given (hSumChipsRefIdeal := hSumChipsRefIdeal) (hPre_chip_given := hPre_chip_given)
    ∧ quiescent_GradQkv (hGradQkv := hGradQkv)
    ∧ quiescent_GradQkvIdeal (hGradQkvIdeal := hGradQkvIdeal)
    ∧ quiescent_GradQkvRef (hGradQkvRef := hGradQkvRef)
    ∧ quiescent_GradQkvRefIdeal (hGradQkvRefIdeal := hGradQkvRefIdeal)
    ∧ quiescent_GradRw (hGradRw := hGradRw)
    ∧ quiescent_GradRwIdeal (hGradRwIdeal := hGradRwIdeal)
    ∧ quiescent_GradRwRef (hGradRwRef := hGradRwRef)
    ∧ quiescent_GradRwRefIdeal (hGradRwRefIdeal := hGradRwRefIdeal)
    ∧ quiescent_GradGate (hGradGate := hGradGate)
    ∧ quiescent_GradGateIdeal (hGradGateIdeal := hGradGateIdeal)
    ∧ quiescent_GradGateRef (hGradGateRef := hGradGateRef)
    ∧ quiescent_GradGateRefIdeal (hGradGateRefIdeal := hGradGateRefIdeal)
    ∧ quiescent_GradOut (hGradOut := hGradOut)
    ∧ quiescent_GradOutIdeal (hGradOutIdeal := hGradOutIdeal)
    ∧ quiescent_GradOutRef (hGradOutRef := hGradOutRef)
    ∧ quiescent_GradOutRefIdeal (hGradOutRefIdeal := hGradOutRefIdeal)
    ∧ quiescent_GradO (hGradO := hGradO)
    ∧ quiescent_GradOIdeal (hGradOIdeal := hGradOIdeal)
    ∧ quiescent_GradORef (hGradORef := hGradORef)
    ∧ quiescent_GradORefIdeal (hGradORefIdeal := hGradORefIdeal)
    ∧ quiescent_GradFfnUp (hGradFfnUp := hGradFfnUp)
    ∧ quiescent_GradFfnUpIdeal (hGradFfnUpIdeal := hGradFfnUpIdeal)
    ∧ quiescent_GradFfnUpRef (hGradFfnUpRef := hGradFfnUpRef)
    ∧ quiescent_GradFfnUpRefIdeal (hGradFfnUpRefIdeal := hGradFfnUpRefIdeal)
    ∧ quiescent_GradFfnDown (hGradFfnDown := hGradFfnDown)
    ∧ quiescent_GradFfnDownIdeal (hGradFfnDownIdeal := hGradFfnDownIdeal)
    ∧ quiescent_GradFfnDownRef (hGradFfnDownRef := hGradFfnDownRef)
    ∧ quiescent_GradFfnDownRefIdeal (hGradFfnDownRefIdeal := hGradFfnDownRefIdeal)
    ∧ quiescent_InProj (hInProj := hInProj)
    ∧ quiescent_InProjIdeal (hInProjIdeal := hInProjIdeal)
    ∧ quiescent_InProjRef (hInProjRef := hInProjRef)
    ∧ quiescent_InProjRefIdeal (hInProjRefIdeal := hInProjRefIdeal)
    ∧ quiescent_InProjBack (hInProjBack := hInProjBack)
    ∧ quiescent_InProjBackIdeal (hInProjBackIdeal := hInProjBackIdeal)
    ∧ quiescent_InProjBackRef (hInProjBackRef := hInProjBackRef)
    ∧ quiescent_InProjBackRefIdeal (hInProjBackRefIdeal := hInProjBackRefIdeal)
    ∧ quiescent_Merge (hMerge := hMerge)
    ∧ quiescent_MergeIdeal (hMergeIdeal := hMergeIdeal)
    ∧ quiescent_MergeRef (hMergeRef := hMergeRef)
    ∧ quiescent_MergeRefIdeal (hMergeRefIdeal := hMergeRefIdeal)
    ∧ quiescent_MergeBack (hMergeBack := hMergeBack)
    ∧ quiescent_MergeBackIdeal (hMergeBackIdeal := hMergeBackIdeal)
    ∧ quiescent_MergeBackRef (hMergeBackRef := hMergeBackRef)
    ∧ quiescent_MergeBackRefIdeal (hMergeBackRefIdeal := hMergeBackRefIdeal)
    ∧ quiescent_Ffn (hFfn := hFfn)
    ∧ quiescent_FfnIdeal (hFfnIdeal := hFfnIdeal)
    ∧ quiescent_FfnRef (hFfnRef := hFfnRef)
    ∧ quiescent_FfnRefIdeal (hFfnRefIdeal := hFfnRefIdeal)
    ∧ preserves_Gather_GatherIdeal
    ∧ bitexact_Gather_GatherRef (hGather := hGather) (hGatherRef := hGatherRef)
    ∧ algebraic_GatherIdeal_GatherRefIdeal (hGatherIdeal := hGatherIdeal) (hGatherRefIdeal := hGatherRefIdeal)
    ∧ preserves_Cores_CoresIdeal
    ∧ bitexact_Cores_CoresRef (hCores := hCores) (hCoresRef := hCoresRef)
    ∧ algebraic_CoresIdeal_CoresRefIdeal (hCoresIdeal := hCoresIdeal) (hCoresRefIdeal := hCoresRefIdeal)
    ∧ preserves_Chips_ChipsIdeal
    ∧ bitexact_Chips_ChipsRef (hChips := hChips) (hChipsRef := hChipsRef)
    ∧ algebraic_ChipsIdeal_ChipsRefIdeal (hChipsIdeal := hChipsIdeal) (hChipsRefIdeal := hChipsRefIdeal)
    ∧ preserves_AdamIn_AdamInIdeal
    ∧ algebraic_AdamInIdeal_AdamInRefIdeal (hAdamInIdeal := hAdamInIdeal) (hAdamInRefIdeal := hAdamInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamGateUp_AdamGateUpIdeal
    ∧ algebraic_AdamGateUpIdeal_AdamGateUpRefIdeal (hAdamGateUpIdeal := hAdamGateUpIdeal) (hAdamGateUpRefIdeal := hAdamGateUpRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamO_AdamOIdeal
    ∧ algebraic_AdamOIdeal_AdamORefIdeal (hAdamOIdeal := hAdamOIdeal) (hAdamORefIdeal := hAdamORefIdeal)
    ∧ preserves_AdamFfnUp_AdamFfnUpIdeal
    ∧ algebraic_AdamFfnUpIdeal_AdamFfnUpRefIdeal (hAdamFfnUpIdeal := hAdamFfnUpIdeal) (hAdamFfnUpRefIdeal := hAdamFfnUpRefIdeal)
    ∧ preserves_AdamFfnDown_AdamFfnDownIdeal
    ∧ algebraic_AdamFfnDownIdeal_AdamFfnDownRefIdeal (hAdamFfnDownIdeal := hAdamFfnDownIdeal) (hAdamFfnDownRefIdeal := hAdamFfnDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AddCore_AddCoreIdeal
    ∧ bitexact_AddCore_AddCoreRef (hAddCore := hAddCore) (hAddCoreRef := hAddCoreRef) (hPre_core_given := hPre_core_given)
    ∧ algebraic_AddCoreIdeal_AddCoreRefIdeal (hAddCoreIdeal := hAddCoreIdeal) (hAddCoreRefIdeal := hAddCoreRefIdeal) (hPre_core_given := hPre_core_given)
    ∧ preserves_SumChips_SumChipsIdeal
    ∧ algebraic_SumChipsIdeal_SumChipsRefIdeal (hSumChipsIdeal := hSumChipsIdeal) (hSumChipsRefIdeal := hSumChipsRefIdeal) (hPre_chip_given := hPre_chip_given)
    ∧ preserves_GradQkv_GradQkvIdeal
    ∧ algebraic_GradQkvIdeal_GradQkvRefIdeal (hGradQkvIdeal := hGradQkvIdeal) (hGradQkvRefIdeal := hGradQkvRefIdeal)
    ∧ preserves_GradRw_GradRwIdeal
    ∧ algebraic_GradRwIdeal_GradRwRefIdeal (hGradRwIdeal := hGradRwIdeal) (hGradRwRefIdeal := hGradRwRefIdeal)
    ∧ preserves_GradGate_GradGateIdeal
    ∧ algebraic_GradGateIdeal_GradGateRefIdeal (hGradGateIdeal := hGradGateIdeal) (hGradGateRefIdeal := hGradGateRefIdeal)
    ∧ preserves_GradOut_GradOutIdeal
    ∧ algebraic_GradOutIdeal_GradOutRefIdeal (hGradOutIdeal := hGradOutIdeal) (hGradOutRefIdeal := hGradOutRefIdeal)
    ∧ preserves_GradO_GradOIdeal
    ∧ algebraic_GradOIdeal_GradORefIdeal (hGradOIdeal := hGradOIdeal) (hGradORefIdeal := hGradORefIdeal)
    ∧ preserves_GradFfnUp_GradFfnUpIdeal
    ∧ algebraic_GradFfnUpIdeal_GradFfnUpRefIdeal (hGradFfnUpIdeal := hGradFfnUpIdeal) (hGradFfnUpRefIdeal := hGradFfnUpRefIdeal)
    ∧ preserves_GradFfnDown_GradFfnDownIdeal
    ∧ algebraic_GradFfnDownIdeal_GradFfnDownRefIdeal (hGradFfnDownIdeal := hGradFfnDownIdeal) (hGradFfnDownRefIdeal := hGradFfnDownRefIdeal)
    ∧ preserves_InProj_InProjIdeal
    ∧ algebraic_InProjIdeal_InProjRefIdeal (hInProjIdeal := hInProjIdeal) (hInProjRefIdeal := hInProjRefIdeal)
    ∧ preserves_InProjBack_InProjBackIdeal
    ∧ algebraic_InProjBackIdeal_InProjBackRefIdeal (hInProjBackIdeal := hInProjBackIdeal) (hInProjBackRefIdeal := hInProjBackRefIdeal)
    ∧ preserves_Merge_MergeIdeal
    ∧ algebraic_MergeIdeal_MergeRefIdeal (hMergeIdeal := hMergeIdeal) (hMergeRefIdeal := hMergeRefIdeal)
    ∧ preserves_MergeBack_MergeBackIdeal
    ∧ algebraic_MergeBackIdeal_MergeBackRefIdeal (hMergeBackIdeal := hMergeBackIdeal) (hMergeBackRefIdeal := hMergeBackRefIdeal)
    ∧ preserves_Ffn_FfnIdeal
    ∧ algebraic_FfnIdeal_FfnRefIdeal (hFfnIdeal := hFfnIdeal) (hFfnRefIdeal := hFfnRefIdeal)
-- ==== Pre_chip_given.lean ====
abbrev S1 : Shape := ⟨1, ![1]⟩
abbrev S4x16000x128 : Shape := ⟨3, ![4, 16000, 128]⟩
abbrev S3x16000x128 : Shape := ⟨3, ![3, 16000, 128]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x16000x128 .bf16) (main_arg2 : FVec F S3x16000x128 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_core_given.lean ====
abbrev S1 : Shape := ⟨1, ![1]⟩
abbrev S2x4x16000x128 : Shape := ⟨4, ![2, 4, 16000, 128]⟩
abbrev S4x16000x128 : Shape := ⟨3, ![4, 16000, 128]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x4x16000x128 .f32) (main_arg2 : FVec F S4x16000x128 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Gather.lean ====
abbrev S16000x128 : Shape := ⟨2, ![16000, 128]⟩
abbrev S8x16000x128 : Shape := ⟨3, ![8, 16000, 128]⟩
abbrev S7 : Shape := ⟨1, ![7]⟩
abbrev S_ : Shape := ⟨0, ![]⟩
abbrev S1x16000x128 : Shape := ⟨3, ![1, 16000, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S16000x128, .bf16⟩
  | .hbm, ⟨1, _⟩ => ⟨S8x16000x128, .bf16⟩
  | _, _ => ⟨S16000x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherRef.lean ====
abbrev S128000x128 : Shape := ⟨2, ![128000, 128]⟩
abbrev S8x16000x128 : Shape := ⟨3, ![8, 16000, 128]⟩

abbrev nBuf : Space → Nat
  | .hbm => 2
  | .vmem => 0
  | .smem => 0
  | _ => 0

abbrev bufTy : (tb : Table) → Fin (tcTables nBuf tb) → BufTy
  | .hbm, ⟨0, _⟩ => ⟨S128000x128, .bf16⟩
  | .hbm, ⟨1, _⟩ => ⟨S8x16000x128, .bf16⟩
  | _, _ => ⟨S128000x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Cores.lean ====
abbrev S2x4x16000x128 : Shape := ⟨4, ![2, 4, 16000, 128]⟩
abbrev S96x128 : Shape := ⟨2, ![96, 128]⟩
abbrev S4x16000x128 : Shape := ⟨3, ![4, 16000, 128]⟩
abbrev S8x96x128 : Shape := ⟨3, ![8, 96, 128]⟩
abbrev S4 : Shape := ⟨1, ![4]⟩
abbrev S8 : Shape := ⟨1, ![8]⟩
abbrev S_ : Shape := ⟨0, ![]⟩
abbrev S1x96x128 : Shape := ⟨3, ![1, 96, 128]⟩
abbrev S1 : Shape := ⟨1, ![1]⟩
abbrev S1x16000x128 : Shape := ⟨3, ![1, 16000, 128]⟩
abbrev S16000x128 : Shape := ⟨2, ![16000, 128]⟩
abbrev S1x1x16000x128 : Shape := ⟨4, ![1, 1, 16000, 128]⟩

abbrev nBuf : Space → Nat
  | .hbm => 4
  | .vmem => 0
  | .smem => 0
  | _ => 0

abbrev bufTy : (tb : Table) → Fin (tcTables nBuf tb) → BufTy
  | .hbm, ⟨0, _⟩ => ⟨S2x4x16000x128, .f32⟩
  | .hbm, ⟨1, _⟩ => ⟨S96x128, .f32⟩
  | .hbm, ⟨2, _⟩ => ⟨S4x16000x128, .f32⟩
  | .hbm, ⟨3, _⟩ => ⟨S8x96x128, .f32⟩
  | _, _ => ⟨S2x4x16000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_5 v5
  let v12 : BitVec 32 := Scalar.addi v10 v11
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32 : BitVec 32 := 0#32
  let c0_i32_6 : BitVec 32 := 0#32
  ![v13.toNat, 0, 0]
def k0_off2 (d0 : Dev nD) : Fin 4 → Nat :=
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_7 v8
  let c0_i32_11 : BitVec 32 := 0#32
  let c0_i32_21 : BitVec 32 := 0#32
  let c0_i32_22 : BitVec 32 := 0#32
  ![v16.toNat, 0, 0, 0]
def k0_dev1 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v20 : BitVec 32 := Scalar.muli v2 c4_i32_15
  let v21 : BitVec 32 := Scalar.addi c0_i32_16 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v22 : BitVec 32 := Scalar.muli v5 c2_i32_17
  let v23 : BitVec 32 := Scalar.addi v21 v22
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_18 : BitVec 32 := 1#32
  let v24 : BitVec 32 := Scalar.muli v9 c1_i32_18
  let v25 : BitVec 32 := Scalar.addi v23 v24
  v25.toNat
def k0_off3 (d0 : Dev nD) : Fin 4 → Nat :=
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_23 : BitVec 32 := 1#32
  let c0_i32_33 : BitVec 32 := 0#32
  let c0_i32_34 : BitVec 32 := 0#32
  ![v17.toNat, 1, 0, 0]
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v34 : BitVec 32 := Scalar.muli v2 c4_i32_27
  let v35 : BitVec 32 := Scalar.addi c0_i32_28 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v36 : BitVec 32 := Scalar.muli v5 c2_i32_29
  let v37 : BitVec 32 := Scalar.addi v35 v36
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_30 : BitVec 32 := 1#32
  let v38 : BitVec 32 := Scalar.muli v9 c1_i32_30
  let v39 : BitVec 32 := Scalar.addi v37 v38
  v39.toNat
def k0_off4 (d0 : Dev nD) : Fin 4 → Nat :=
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c2_i32_35 : BitVec 32 := 2#32
  let c0_i32_45 : BitVec 32 := 0#32
  let c0_i32_46 : BitVec 32 := 0#32
  ![v18.toNat, 2, 0, 0]
def k0_dev3 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v48 : BitVec 32 := Scalar.muli v2 c4_i32_39
  let v49 : BitVec 32 := Scalar.addi c0_i32_40 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v50 : BitVec 32 := Scalar.muli v5 c2_i32_41
  let v51 : BitVec 32 := Scalar.addi v49 v50
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_42 : BitVec 32 := 1#32
  let v52 : BitVec 32 := Scalar.muli v9 c1_i32_42
  let v53 : BitVec 32 := Scalar.addi v51 v52
  v53.toNat
def k0_off5 (d0 : Dev nD) : Fin 4 → Nat :=
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c3_i32 : BitVec 32 := 3#32
  let c0_i32_56 : BitVec 32 := 0#32
  let c0_i32_57 : BitVec 32 := 0#32
  ![v19.toNat, 3, 0, 0]
def k0_dev4 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v62 : BitVec 32 := Scalar.muli v2 c4_i32_50
  let v63 : BitVec 32 := Scalar.addi c0_i32_51 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v64 : BitVec 32 := Scalar.muli v5 c2_i32_52
  let v65 : BitVec 32 := Scalar.addi v63 v64
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_53 : BitVec 32 := 1#32
  let v66 : BitVec 32 := Scalar.muli v9 c1_i32_53
  let v67 : BitVec 32 := Scalar.addi v65 v66
  v67.toNat
def k0_dev5 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_58 : BitVec 32 := 0#32
  let v76 : BitVec 32 := Scalar.xori v2 c0_i32_58
  let c4_i32_81 : BitVec 32 := 4#32
  let v97 : BitVec 32 := Scalar.muli v76 c4_i32_81
  let v98 : BitVec 32 := Scalar.addi c0_i32_82 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_59 : BitVec 32 := 0#32
  let v77 : BitVec 32 := Scalar.xori v5 c0_i32_59
  let c2_i32_83 : BitVec 32 := 2#32
  let v99 : BitVec 32 := Scalar.muli v77 c2_i32_83
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v78 : BitVec 32 := Scalar.xori v8 c1_i32_60
  let c1_i32_84 : BitVec 32 := 1#32
  let v101 : BitVec 32 := Scalar.muli v78 c1_i32_84
  let v102 : BitVec 32 := Scalar.addi v100 v101
  v102.toNat
def k0_dev6 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_61 : BitVec 32 := 0#32
  let v79 : BitVec 32 := Scalar.xori v2 c0_i32_61
  let c4_i32_89 : BitVec 32 := 4#32
  let v109 : BitVec 32 := Scalar.muli v79 c4_i32_89
  let v110 : BitVec 32 := Scalar.addi c0_i32_90 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_62 : BitVec 32 := 1#32
  let v80 : BitVec 32 := Scalar.xori v5 c1_i32_62
  let c2_i32_91 : BitVec 32 := 2#32
  let v111 : BitVec 32 := Scalar.muli v80 c2_i32_91
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_63 : BitVec 32 := 0#32
  let v81 : BitVec 32 := Scalar.xori v8 c0_i32_63
  let c1_i32_92 : BitVec 32 := 1#32
  let v113 : BitVec 32 := Scalar.muli v81 c1_i32_92
  let v114 : BitVec 32 := Scalar.addi v112 v113
  v114.toNat
def k0_dev7 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_64 : BitVec 32 := 0#32
  let v82 : BitVec 32 := Scalar.xori v2 c0_i32_64
  let c4_i32_97 : BitVec 32 := 4#32
  let v121 : BitVec 32 := Scalar.muli v82 c4_i32_97
  let v122 : BitVec 32 := Scalar.addi c0_i32_98 v121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_65 : BitVec 32 := 1#32
  let v83 : BitVec 32 := Scalar.xori v5 c1_i32_65
  let c2_i32_99 : BitVec 32 := 2#32
  let v123 : BitVec 32 := Scalar.muli v83 c2_i32_99
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v84 : BitVec 32 := Scalar.xori v8 c1_i32_66
  let c1_i32_100 : BitVec 32 := 1#32
  let v125 : BitVec 32 := Scalar.muli v84 c1_i32_100
  let v126 : BitVec 32 := Scalar.addi v124 v125
  v126.toNat
def k0_dev8 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_67 : BitVec 32 := 1#32
  let v85 : BitVec 32 := Scalar.xori v2 c1_i32_67
  let c4_i32_105 : BitVec 32 := 4#32
  let v133 : BitVec 32 := Scalar.muli v85 c4_i32_105
  let v134 : BitVec 32 := Scalar.addi c0_i32_106 v133
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_68 : BitVec 32 := 0#32
  let v86 : BitVec 32 := Scalar.xori v5 c0_i32_68
  let c2_i32_107 : BitVec 32 := 2#32
  let v135 : BitVec 32 := Scalar.muli v86 c2_i32_107
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_69 : BitVec 32 := 0#32
  let v87 : BitVec 32 := Scalar.xori v8 c0_i32_69
  let c1_i32_108 : BitVec 32 := 1#32
  let v137 : BitVec 32 := Scalar.muli v87 c1_i32_108
  let v138 : BitVec 32 := Scalar.addi v136 v137
  v138.toNat
def k0_dev9 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_70 : BitVec 32 := 1#32
  let v88 : BitVec 32 := Scalar.xori v2 c1_i32_70
  let c4_i32_112 : BitVec 32 := 4#32
  let v145 : BitVec 32 := Scalar.muli v88 c4_i32_112
  let v146 : BitVec 32 := Scalar.addi c0_i32_113 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_71 : BitVec 32 := 0#32
  let v89 : BitVec 32 := Scalar.xori v5 c0_i32_71
  let c2_i32_114 : BitVec 32 := 2#32
  let v147 : BitVec 32 := Scalar.muli v89 c2_i32_114
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v90 : BitVec 32 := Scalar.xori v8 c1_i32_72
  let c1_i32_115 : BitVec 32 := 1#32
  let v149 : BitVec 32 := Scalar.muli v90 c1_i32_115
  let v150 : BitVec 32 := Scalar.addi v148 v149
  v150.toNat
def k0_dev10 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_73 : BitVec 32 := 1#32
  let v91 : BitVec 32 := Scalar.xori v2 c1_i32_73
  let c4_i32_119 : BitVec 32 := 4#32
  let v157 : BitVec 32 := Scalar.muli v91 c4_i32_119
  let v158 : BitVec 32 := Scalar.addi c0_i32_120 v157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_74 : BitVec 32 := 1#32
  let v92 : BitVec 32 := Scalar.xori v5 c1_i32_74
  let c2_i32_121 : BitVec 32 := 2#32
  let v159 : BitVec 32 := Scalar.muli v92 c2_i32_121
  let v160 : BitVec 32 := Scalar.addi v158 v159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_75 : BitVec 32 := 0#32
  let v93 : BitVec 32 := Scalar.xori v8 c0_i32_75
  let c1_i32_122 : BitVec 32 := 1#32
  let v161 : BitVec 32 := Scalar.muli v93 c1_i32_122
  let v162 : BitVec 32 := Scalar.addi v160 v161
  v162.toNat
def k0_dev11 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_76 : BitVec 32 := 1#32
  let v94 : BitVec 32 := Scalar.xori v2 c1_i32_76
  let c4_i32_126 : BitVec 32 := 4#32
  let v169 : BitVec 32 := Scalar.muli v94 c4_i32_126
  let v170 : BitVec 32 := Scalar.addi c0_i32_127 v169
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_77 : BitVec 32 := 1#32
  let v95 : BitVec 32 := Scalar.xori v5 c1_i32_77
  let c2_i32_128 : BitVec 32 := 2#32
  let v171 : BitVec 32 := Scalar.muli v95 c2_i32_128
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v96 : BitVec 32 := Scalar.xori v8 c1_i32_78
  let c1_i32_129 : BitVec 32 := 1#32
  let v173 : BitVec 32 := Scalar.muli v96 c1_i32_129
  let v174 : BitVec 32 := Scalar.addi v172 v173
  v174.toNat
def k0_off6 (d0 : Dev nD) (c0_i32_58 : BitVec 32) (c0_i32_59 : BitVec 32) (c1_i32_60 : BitVec 32) : Fin 3 → Nat :=
  let c4_i32_180 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v76 : BitVec 32 := Scalar.xori v2 c0_i32_58
  let v229 : BitVec 32 := Scalar.muli c4_i32_180 v76
  let c2_i32_181 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.xori v5 c0_i32_59
  let v230 : BitVec 32 := Scalar.muli c2_i32_181 v77
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v78 : BitVec 32 := Scalar.xori v8 c1_i32_60
  let v232 : BitVec 32 := Scalar.addi v231 v78
  let c0_i32_188 : BitVec 32 := 0#32
  let c0_i32_189 : BitVec 32 := 0#32
  ![v232.toNat, 0, 0]
def k0_off6_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== CoresRef.lean ====
abbrev S16x4x16000x128 : Shape := ⟨4, ![16, 4, 16000, 128]⟩
abbrev S768x128 : Shape := ⟨2, ![768, 128]⟩
abbrev S4x2x2x4x16000x128 : Shape := ⟨6, ![4, 2, 2, 4, 16000, 128]⟩
abbrev S4x1x1x4x16000x128 : Shape := ⟨6, ![4, 1, 1, 4, 16000, 128]⟩
abbrev S4x4x16000x128 : Shape := ⟨4, ![4, 4, 16000, 128]⟩
abbrev S4x1x4x16000x128 : Shape := ⟨5, ![4, 1, 4, 16000, 128]⟩
abbrev S4x2x4x16000x128 : Shape := ⟨5, ![4, 2, 4, 16000, 128]⟩
abbrev S32x16000x128 : Shape := ⟨3, ![32, 16000, 128]⟩
abbrev S8x96x128 : Shape := ⟨3, ![8, 96, 128]⟩

abbrev nBuf : Space → Nat
  | .hbm => 12
  | .vmem => 0
  | .smem => 0
  | _ => 0

abbrev bufTy : (tb : Table) → Fin (tcTables nBuf tb) → BufTy
  | .hbm, ⟨0, _⟩ => ⟨S16x4x16000x128, .f32⟩
  | .hbm, ⟨1, _⟩ => ⟨S768x128, .f32⟩
  | .hbm, ⟨2, _⟩ => ⟨S4x2x2x4x16000x128, .f32⟩
  | .hbm, ⟨3, _⟩ => ⟨S4x1x1x4x16000x128, .f32⟩
  | .hbm, ⟨4, _⟩ => ⟨S4x4x16000x128, .f32⟩
  | .hbm, ⟨5, _⟩ => ⟨S4x1x1x4x16000x128, .f32⟩
  | .hbm, ⟨6, _⟩ => ⟨S4x4x16000x128, .f32⟩
  | .hbm, ⟨7, _⟩ => ⟨S4x1x4x16000x128, .f32⟩
  | .hbm, ⟨8, _⟩ => ⟨S4x1x4x16000x128, .f32⟩
  | .hbm, ⟨9, _⟩ => ⟨S4x2x4x16000x128, .f32⟩
  | .hbm, ⟨10, _⟩ => ⟨S32x16000x128, .f32⟩
  | .hbm, ⟨11, _⟩ => ⟨S8x96x128, .f32⟩
  | _, _ => ⟨S16x4x16000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Chips.lean ====
abbrev S4x16000x128 : Shape := ⟨3, ![4, 16000, 128]⟩
abbrev S3x16000x128 : Shape := ⟨3, ![3, 16000, 128]⟩
abbrev S3 : Shape := ⟨1, ![3]⟩
abbrev S1 : Shape := ⟨1, ![1]⟩
abbrev S_ : Shape := ⟨0, ![]⟩
abbrev S1x16000x128 : Shape := ⟨3, ![1, 16000, 128]⟩
abbrev S16000x128 : Shape := ⟨2, ![16000, 128]⟩

abbrev nBuf : Space → Nat
  | .hbm => 2
  | .vmem => 0
  | .smem => 0
  | _ => 0

abbrev bufTy : (tb : Table) → Fin (tcTables nBuf tb) → BufTy
  | .hbm, ⟨0, _⟩ => ⟨S4x16000x128, .bf16⟩
  | .hbm, ⟨1, _⟩ => ⟨S3x16000x128, .bf16⟩
  | _, _ => ⟨S4x16000x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) (c1_i32_3 : BitVec 32) (c0_i32 : BitVec 32) : Fin 3 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.xori v2 c1_i32_3
  let v11 : BitVec 32 := Scalar.muli c2_i32_4 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 c0_i32
  let v12 : BitVec 32 := Scalar.addi v11 v10
  let c0_i32_20 : BitVec 32 := 0#32
  let c0_i32_21 : BitVec 32 := 0#32
  ![v12.toNat, 0, 0]
def k0_off1_at (r : Fin 3) : BitVec 32 × BitVec 32 :=
  if r.val < 1 then
    (1#32, 0#32)
  else
    if r.val < 2 then
      (0#32, 1#32)
    else
      (1#32, 1#32)
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_3 : BitVec 32 := 1#32
  let v9 : BitVec 32 := Scalar.xori v2 c1_i32_3
  let c4_i32_14 : BitVec 32 := 4#32
  let v21 : BitVec 32 := Scalar.muli v9 c4_i32_14
  let v22 : BitVec 32 := Scalar.addi c0_i32_15 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v10 : BitVec 32 := Scalar.xori v5 c0_i32
  let c2_i32_16 : BitVec 32 := 2#32
  let v23 : BitVec 32 := Scalar.muli v10 c2_i32_16
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v25 : BitVec 32 := Scalar.muli v8 c1_i32_17
  let v26 : BitVec 32 := Scalar.addi v24 v25
  v26.toNat
def k0_dev2 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_5 : BitVec 32 := 0#32
  let v13 : BitVec 32 := Scalar.xori v2 c0_i32_5
  let c4_i32_25 : BitVec 32 := 4#32
  let v35 : BitVec 32 := Scalar.muli v13 c4_i32_25
  let v36 : BitVec 32 := Scalar.addi c0_i32_26 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_6 : BitVec 32 := 1#32
  let v14 : BitVec 32 := Scalar.xori v5 c1_i32_6
  let c2_i32_27 : BitVec 32 := 2#32
  let v37 : BitVec 32 := Scalar.muli v14 c2_i32_27
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v39 : BitVec 32 := Scalar.muli v8 c1_i32_28
  let v40 : BitVec 32 := Scalar.addi v38 v39
  v40.toNat
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_8 : BitVec 32 := 1#32
  let v17 : BitVec 32 := Scalar.xori v2 c1_i32_8
  let c4_i32_36 : BitVec 32 := 4#32
  let v49 : BitVec 32 := Scalar.muli v17 c4_i32_36
  let v50 : BitVec 32 := Scalar.addi c0_i32_37 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_9 : BitVec 32 := 1#32
  let v18 : BitVec 32 := Scalar.xori v5 c1_i32_9
  let c2_i32_38 : BitVec 32 := 2#32
  let v51 : BitVec 32 := Scalar.muli v18 c2_i32_38
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v53 : BitVec 32 := Scalar.muli v8 c1_i32_39
  let v54 : BitVec 32 := Scalar.addi v52 v53
  v54.toNat
-- ==== ChipsRef.lean ====
abbrev S32x16000x128 : Shape := ⟨3, ![32, 16000, 128]⟩
abbrev S2x2x2x2x2x16000x128 : Shape := ⟨7, ![2, 2, 2, 2, 2, 16000, 128]⟩
abbrev S1x1x1x1x1x16000x128 : Shape := ⟨7, ![1, 1, 1, 1, 1, 16000, 128]⟩
abbrev S16000x128 : Shape := ⟨2, ![16000, 128]⟩
abbrev S1x16000x128 : Shape := ⟨3, ![1, 16000, 128]⟩
abbrev S3x16000x128 : Shape := ⟨3, ![3, 16000, 128]⟩
abbrev S24x16000x128 : Shape := ⟨3, ![24, 16000, 128]⟩

abbrev nBuf : Space → Nat
  | .hbm => 83
  | .vmem => 0
  | .smem => 0
  | _ => 0

abbrev bufTy : (tb : Table) → Fin (tcTables nBuf tb) → BufTy
  | .hbm, ⟨0, _⟩ => ⟨S32x16000x128, .bf16⟩
  | .hbm, ⟨1, _⟩ => ⟨S2x2x2x2x2x16000x128, .bf16⟩
  | .hbm, ⟨2, _⟩ => ⟨S1x1x1x1x1x16000x128, .bf16⟩
  | .hbm, ⟨3, _⟩ => ⟨S16000x128, .bf16⟩
  | .hbm, ⟨4, _⟩ => ⟨S1x1x1x1x1x16000x128, .bf16⟩
  | .hbm, ⟨5, _⟩ => ⟨S16000x128, .bf16⟩
  | .hbm, ⟨6, _⟩ => ⟨S1x1x1x1x1x16000x128, .bf16⟩
  | .hbm, ⟨7, _⟩ => ⟨S16000x128, .bf16⟩
  | .hbm, ⟨8, _⟩ => ⟨S1x16000x128, .bf16⟩
  | .hbm, ⟨9, _⟩ => ⟨S1x16000x128, .bf16⟩
  | .hbm, ⟨10, _⟩ => ⟨S1x16000x128, .bf16⟩
  | .hbm, ⟨11, _⟩ => ⟨S3x16000x128, .bf16⟩
  | .hbm, ⟨12, _⟩ => ⟨S1x1x1x1x1x16000x128, .bf16⟩
  | .hbm, ⟨13, _⟩ => ⟨S16000x128, .bf16⟩
  | .hbm, ⟨14, _⟩ => ⟨S1x1x1x1x1x16000x128, .bf16⟩
  | .hbm, ⟨15, _⟩ => ⟨S16000x128, .bf16⟩
  | .hbm, ⟨16, _⟩ => ⟨S1x1x1x1x1x16000x128, .bf16⟩
  | .hbm, ⟨17, _⟩ => ⟨S16000x128, .bf16⟩
  | .hbm, ⟨18, _⟩ => ⟨S1x16000x128, .bf16⟩
  | .hbm, ⟨19, _⟩ => ⟨S1x16000x128, .bf16⟩
  | .hbm, ⟨20, _⟩ => ⟨S1x16000x128, .bf16⟩
  | .hbm, ⟨21, _⟩ => ⟨S3x16000x128, .bf16⟩
  | .hbm, ⟨22, _⟩ => ⟨S1x1x1x1x1x16000x128, .bf16⟩
  | .hbm, ⟨23, _⟩ => ⟨S16000x128, .bf16⟩
  | .hbm, ⟨24, _⟩ => ⟨S1x1x1x1x1x16000x128, .bf16⟩
  | .hbm, ⟨25, _⟩ => ⟨S16000x128, .bf16⟩
  | .hbm, ⟨26, _⟩ => ⟨S1x1x1x1x1x16000x128, .bf16⟩
  | .hbm, ⟨27, _⟩ => ⟨S16000x128, .bf16⟩
  | .hbm, ⟨28, _⟩ => ⟨S1x16000x128, .bf16⟩
  | .hbm, ⟨29, _⟩ => ⟨S1x16000x128, .bf16⟩
  | .hbm, ⟨30, _⟩ => ⟨S1x16000x128, .bf16⟩
  | .hbm, ⟨31, _⟩ => ⟨S3x16000x128, .bf16⟩
  | .hbm, ⟨32, _⟩ => ⟨S1x1x1x1x1x16000x128, .bf16⟩
  | .hbm, ⟨33, _⟩ => ⟨S16000x128, .bf16⟩
  | .hbm, ⟨34, _⟩ => ⟨S1x1x1x1x1x16000x128, .bf16⟩
  | .hbm, ⟨35, _⟩ => ⟨S16000x128, .bf16⟩
  | .hbm, ⟨36, _⟩ => ⟨S1x1x1x1x1x16000x128, .bf16⟩
  | .hbm, ⟨37, _⟩ => ⟨S16000x128, .bf16⟩
  | .hbm, ⟨38, _⟩ => ⟨S1x16000x128, .bf16⟩
  | .hbm, ⟨39, _⟩ => ⟨S1x16000x128, .bf16⟩
  | .hbm, ⟨40, _⟩ => ⟨S1x16000x128, .bf16⟩
  | .hbm, ⟨41, _⟩ => ⟨S3x16000x128, .bf16⟩
  | .hbm, ⟨42, _⟩ => ⟨S1x1x1x1x1x16000x128, .bf16⟩
  | .hbm, ⟨43, _⟩ => ⟨S16000x128, .bf16⟩
  | .hbm, ⟨44, _⟩ => ⟨S1x1x1x1x1x16000x128, .bf16⟩
  | .hbm, ⟨45, _⟩ => ⟨S16000x128, .bf16⟩
  | .hbm, ⟨46, _⟩ => ⟨S1x1x1x1x1x16000x128, .bf16⟩
  | .hbm, ⟨47, _⟩ => ⟨S16000x128, .bf16⟩
  | .hbm, ⟨48, _⟩ => ⟨S1x16000x128, .bf16⟩
  | .hbm, ⟨49, _⟩ => ⟨S1x16000x128, .bf16⟩
  | .hbm, ⟨50, _⟩ => ⟨S1x16000x128, .bf16⟩
  | .hbm, ⟨51, _⟩ => ⟨S3x16000x128, .bf16⟩
  | .hbm, ⟨52, _⟩ => ⟨S1x1x1x1x1x16000x128, .bf16⟩
  | .hbm, ⟨53, _⟩ => ⟨S16000x128, .bf16⟩
  | .hbm, ⟨54, _⟩ => ⟨S1x1x1x1x1x16000x128, .bf16⟩
  | .hbm, ⟨55, _⟩ => ⟨S16000x128, .bf16⟩
  | .hbm, ⟨56, _⟩ => ⟨S1x1x1x1x1x16000x128, .bf16⟩
  | .hbm, ⟨57, _⟩ => ⟨S16000x128, .bf16⟩
  | .hbm, ⟨58, _⟩ => ⟨S1x16000x128, .bf16⟩
  | .hbm, ⟨59, _⟩ => ⟨S1x16000x128, .bf16⟩
  | .hbm, ⟨60, _⟩ => ⟨S1x16000x128, .bf16⟩
  | .hbm, ⟨61, _⟩ => ⟨S3x16000x128, .bf16⟩
  | .hbm, ⟨62, _⟩ => ⟨S1x1x1x1x1x16000x128, .bf16⟩
  | .hbm, ⟨63, _⟩ => ⟨S16000x128, .bf16⟩
  | .hbm, ⟨64, _⟩ => ⟨S1x1x1x1x1x16000x128, .bf16⟩
  | .hbm, ⟨65, _⟩ => ⟨S16000x128, .bf16⟩
  | .hbm, ⟨66, _⟩ => ⟨S1x1x1x1x1x16000x128, .bf16⟩
  | .hbm, ⟨67, _⟩ => ⟨S16000x128, .bf16⟩
  | .hbm, ⟨68, _⟩ => ⟨S1x16000x128, .bf16⟩
  | .hbm, ⟨69, _⟩ => ⟨S1x16000x128, .bf16⟩
  | .hbm, ⟨70, _⟩ => ⟨S1x16000x128, .bf16⟩
  | .hbm, ⟨71, _⟩ => ⟨S3x16000x128, .bf16⟩
  | .hbm, ⟨72, _⟩ => ⟨S1x1x1x1x1x16000x128, .bf16⟩
  | .hbm, ⟨73, _⟩ => ⟨S16000x128, .bf16⟩
  | .hbm, ⟨74, _⟩ => ⟨S1x1x1x1x1x16000x128, .bf16⟩
  | .hbm, ⟨75, _⟩ => ⟨S16000x128, .bf16⟩
  | .hbm, ⟨76, _⟩ => ⟨S1x1x1x1x1x16000x128, .bf16⟩
  | .hbm, ⟨77, _⟩ => ⟨S16000x128, .bf16⟩
  | .hbm, ⟨78, _⟩ => ⟨S1x16000x128, .bf16⟩
  | .hbm, ⟨79, _⟩ => ⟨S1x16000x128, .bf16⟩
  | .hbm, ⟨80, _⟩ => ⟨S1x16000x128, .bf16⟩
  | .hbm, ⟨81, _⟩ => ⟨S3x16000x128, .bf16⟩
  | .hbm, ⟨82, _⟩ => ⟨S24x16000x128, .bf16⟩
  | _, _ => ⟨S32x16000x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩

abbrev nD : Nat := 1
abbrev τ : Topo := Topo.v7x

variable {F : FTy → Type} [FloatOps F]
-- ==== AdamIn.lean ====
abbrev S1024x672 : Shape := ⟨2, ![1024, 672]⟩
abbrev S256x672 : Shape := ⟨2, ![256, 672]⟩

abbrev nBuf : Space → Nat
  | .hbm => 7
  | .vmem => 14
  | .smem => 0
  | _ => 0

abbrev bufTy : (tb : Table) → Fin (tcTables nBuf tb) → BufTy
  | .hbm, ⟨0, _⟩ => ⟨S1024x672, .f32⟩
  | .hbm, ⟨1, _⟩ => ⟨S1024x672, .f32⟩
  | .hbm, ⟨2, _⟩ => ⟨S1024x672, .f32⟩
  | .hbm, ⟨3, _⟩ => ⟨S1024x672, .f32⟩
  | .hbm, ⟨4, _⟩ => ⟨S1024x672, .f32⟩
  | .hbm, ⟨5, _⟩ => ⟨S1024x672, .f32⟩
  | .hbm, ⟨6, _⟩ => ⟨S1024x672, .f32⟩
  | .local _ .vmem, ⟨0, _⟩ => ⟨S256x672, .f32⟩
  | .local _ .vmem, ⟨1, _⟩ => ⟨S256x672, .f32⟩
  | .local _ .vmem, ⟨2, _⟩ => ⟨S256x672, .f32⟩
  | .local _ .vmem, ⟨3, _⟩ => ⟨S256x672, .f32⟩
  | .local _ .vmem, ⟨4, _⟩ => ⟨S256x672, .f32⟩
  | .local _ .vmem, ⟨5, _⟩ => ⟨S256x672, .f32⟩
  | .local _ .vmem, ⟨6, _⟩ => ⟨S256x672, .f32⟩
  | .local _ .vmem, ⟨7, _⟩ => ⟨S256x672, .f32⟩
  | .local _ .vmem, ⟨8, _⟩ => ⟨S256x672, .f32⟩
  | .local _ .vmem, ⟨9, _⟩ => ⟨S256x672, .f32⟩
  | .local _ .vmem, ⟨10, _⟩ => ⟨S256x672, .f32⟩
  | .local _ .vmem, ⟨11, _⟩ => ⟨S256x672, .f32⟩
  | .local _ .vmem, ⟨12, _⟩ => ⟨S256x672, .f32⟩
  | .local _ .vmem, ⟨13, _⟩ => ⟨S256x672, .f32⟩
  | _, _ => ⟨S1024x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x672 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x672 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x672 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x672 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x672 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x672 : Shape := ⟨2, ![1024, 672]⟩
abbrev S256x672 : Shape := ⟨2, ![256, 672]⟩

abbrev nBuf : Space → Nat
  | .hbm => 7
  | .vmem => 14
  | .smem => 0
  | _ => 0

abbrev bufTy : (tb : Table) → Fin (tcTables nBuf tb) → BufTy
  | .hbm, ⟨0, _⟩ => ⟨S1024x672, .f32⟩
  | .hbm, ⟨1, _⟩ => ⟨S1024x672, .f32⟩
  | .hbm, ⟨2, _⟩ => ⟨S1024x672, .f32⟩
  | .hbm, ⟨3, _⟩ => ⟨S1024x672, .f32⟩
  | .hbm, ⟨4, _⟩ => ⟨S1024x672, .f32⟩
  | .hbm, ⟨5, _⟩ => ⟨S1024x672, .f32⟩
  | .hbm, ⟨6, _⟩ => ⟨S1024x672, .f32⟩
  | .local _ .vmem, ⟨0, _⟩ => ⟨S256x672, .f32⟩
  | .local _ .vmem, ⟨1, _⟩ => ⟨S256x672, .f32⟩
  | .local _ .vmem, ⟨2, _⟩ => ⟨S256x672, .f32⟩
  | .local _ .vmem, ⟨3, _⟩ => ⟨S256x672, .f32⟩
  | .local _ .vmem, ⟨4, _⟩ => ⟨S256x672, .f32⟩
  | .local _ .vmem, ⟨5, _⟩ => ⟨S256x672, .f32⟩
  | .local _ .vmem, ⟨6, _⟩ => ⟨S256x672, .f32⟩
  | .local _ .vmem, ⟨7, _⟩ => ⟨S256x672, .f32⟩
  | .local _ .vmem, ⟨8, _⟩ => ⟨S256x672, .f32⟩
  | .local _ .vmem, ⟨9, _⟩ => ⟨S256x672, .f32⟩
  | .local _ .vmem, ⟨10, _⟩ => ⟨S256x672, .f32⟩
  | .local _ .vmem, ⟨11, _⟩ => ⟨S256x672, .f32⟩
  | .local _ .vmem, ⟨12, _⟩ => ⟨S256x672, .f32⟩
  | .local _ .vmem, ⟨13, _⟩ => ⟨S256x672, .f32⟩
  | _, _ => ⟨S1024x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x672 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x672 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x672 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x672 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x672 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRef.lean ====
abbrev S1024x672 : Shape := ⟨2, ![1024, 672]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x672, .f32⟩
  | .hbm, ⟨1, _⟩ => ⟨S1024x672, .f32⟩
  | .hbm, ⟨2, _⟩ => ⟨S1024x672, .f32⟩
  | .hbm, ⟨3, _⟩ => ⟨S1024x672, .f32⟩
  | .hbm, ⟨4, _⟩ => ⟨S_, .f32⟩
  | .hbm, ⟨5, _⟩ => ⟨S1024x672, .f32⟩
  | .hbm, ⟨6, _⟩ => ⟨S1024x672, .f32⟩
  | .hbm, ⟨7, _⟩ => ⟨S_, .f32⟩
  | .hbm, ⟨8, _⟩ => ⟨S1024x672, .f32⟩
  | .hbm, ⟨9, _⟩ => ⟨S1024x672, .f32⟩
  | .hbm, ⟨10, _⟩ => ⟨S1024x672, .f32⟩
  | .hbm, ⟨11, _⟩ => ⟨S_, .f32⟩
  | .hbm, ⟨12, _⟩ => ⟨S1024x672, .f32⟩
  | .hbm, ⟨13, _⟩ => ⟨S1024x672, .f32⟩
  | .hbm, ⟨14, _⟩ => ⟨S1024x672, .f32⟩
  | .hbm, ⟨15, _⟩ => ⟨S_, .f32⟩
  | .hbm, ⟨16, _⟩ => ⟨S1024x672, .f32⟩
  | .hbm, ⟨17, _⟩ => ⟨S1024x672, .f32⟩
  | .hbm, ⟨18, _⟩ => ⟨S1024x672, .f32⟩
  | .hbm, ⟨19, _⟩ => ⟨S_, .f32⟩
  | .hbm, ⟨20, _⟩ => ⟨S1024x672, .f32⟩
  | .hbm, ⟨21, _⟩ => ⟨S1024x672, .f32⟩
  | .hbm, ⟨22, _⟩ => ⟨S_, .f32⟩
  | .hbm, ⟨23, _⟩ => ⟨S1024x672, .f32⟩
  | .hbm, ⟨24, _⟩ => ⟨S1024x672, .f32⟩
  | .hbm, ⟨25, _⟩ => ⟨S1024x672, .f32⟩
  | .hbm, ⟨26, _⟩ => ⟨S_, .f32⟩
  | .hbm, ⟨27, _⟩ => ⟨S1024x672, .f32⟩
  | .hbm, ⟨28, _⟩ => ⟨S1024x672, .f32⟩
  | .hbm, ⟨29, _⟩ => ⟨S1024x672, .f32⟩
  | .hbm, ⟨30, _⟩ => ⟨S_, .f32⟩
  | .hbm, ⟨31, _⟩ => ⟨S1024x672, .f32⟩
  | .hbm, ⟨32, _⟩ => ⟨S1024x672, .f32⟩
  | .hbm, ⟨33, _⟩ => ⟨S1024x672, .f32⟩
  | .hbm, ⟨34, _⟩ => ⟨S_, .f32⟩
  | .hbm, ⟨35, _⟩ => ⟨S1024x672, .f32⟩
  | .hbm, ⟨36, _⟩ => ⟨S1024x672, .f32⟩
  | _, _ => ⟨S1024x672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInRefIdeal.lean ====
abbrev S1024x672 : Shape := ⟨2, ![1024, 672]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x672, .f32⟩
  | .hbm, ⟨1, _⟩ => ⟨S1024x672, .f32⟩
  | .hbm, ⟨2, _⟩ => ⟨S1024x672, .f32⟩
  | .hbm, ⟨3, _⟩ => ⟨S1024x672, .f32⟩
  | .hbm, ⟨4, _⟩ => ⟨S_, .f32⟩
  | .hbm, ⟨5, _⟩ => ⟨S1024x672, .f32⟩
  | .hbm, ⟨6, _⟩ => ⟨S1024x672, .f32⟩
  | .hbm, ⟨7, _⟩ => ⟨S_, .f32⟩
  | .hbm, ⟨8, _⟩ => ⟨S1024x672, .f32⟩
  | .hbm, ⟨9, _⟩ => ⟨S1024x672, .f32⟩
  | .hbm, ⟨10, _⟩ => ⟨S1024x672, .f32⟩
  | .hbm, ⟨11, _⟩ => ⟨S_, .f32⟩
  | .hbm, ⟨12, _⟩ => ⟨S1024x672, .f32⟩
  | .hbm, ⟨13, _⟩ => ⟨S1024x672, .f32⟩
  | .hbm, ⟨14, _⟩ => ⟨S1024x672, .f32⟩
  | .hbm, ⟨15, _⟩ => ⟨S_, .f32⟩
  | .hbm, ⟨16, _⟩ => ⟨S1024x672, .f32⟩
  | .hbm, ⟨17, _⟩ => ⟨S1024x672, .f32⟩
  | .hbm, ⟨18, _⟩ => ⟨S1024x672, .f32⟩
  | .hbm, ⟨19, _⟩ => ⟨S_, .f32⟩
  | .hbm, ⟨20, _⟩ => ⟨S1024x672, .f32⟩
  | .hbm, ⟨21, _⟩ => ⟨S1024x672, .f32⟩
  | .hbm, ⟨22, _⟩ => ⟨S_, .f32⟩
  | .hbm, ⟨23, _⟩ => ⟨S1024x672, .f32⟩
  | .hbm, ⟨24, _⟩ => ⟨S1024x672, .f32⟩
  | .hbm, ⟨25, _⟩ => ⟨S1024x672, .f32⟩
  | .hbm, ⟨26, _⟩ => ⟨S_, .f32⟩
  | .hbm, ⟨27, _⟩ => ⟨S1024x672, .f32⟩
  | .hbm, ⟨28, _⟩ => ⟨S1024x672, .f32⟩
  | .hbm, ⟨29, _⟩ => ⟨S1024x672, .f32⟩
  | .hbm, ⟨30, _⟩ => ⟨S_, .f32⟩
  | .hbm, ⟨31, _⟩ => ⟨S1024x672, .f32⟩
  | .hbm, ⟨32, _⟩ => ⟨S1024x672, .f32⟩
  | .hbm, ⟨33, _⟩ => ⟨S1024x672, .f32⟩
  | .hbm, ⟨34, _⟩ => ⟨S_, .f32⟩
  | .hbm, ⟨35, _⟩ => ⟨S1024x672, .f32⟩
  | .hbm, ⟨36, _⟩ => ⟨S1024x672, .f32⟩
  | _, _ => ⟨S1024x672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S64x64 : Shape := ⟨2, ![64, 64]⟩

abbrev nBuf : Space → Nat
  | .hbm => 7
  | .vmem => 7
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamUpIdeal.lean ====
abbrev S64x64 : Shape := ⟨2, ![64, 64]⟩

abbrev nBuf : Space → Nat
  | .hbm => 7
  | .vmem => 7
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamUpRef.lean ====
abbrev S64x64 : Shape := ⟨2, ![64, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S64x64, .f32⟩
  | .hbm, ⟨7, _⟩ => ⟨S_, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S_, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUpRefIdeal.lean ====
abbrev S64x64 : Shape := ⟨2, ![64, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S64x64, .f32⟩
  | .hbm, ⟨7, _⟩ => ⟨S_, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S_, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGateUp.lean ====
abbrev S128x64 : Shape := ⟨2, ![128, 64]⟩

abbrev nBuf : Space → Nat
  | .hbm => 7
  | .vmem => 7
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateUpIdeal.lean ====
abbrev S128x64 : Shape := ⟨2, ![128, 64]⟩

abbrev nBuf : Space → Nat
  | .hbm => 7
  | .vmem => 7
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateUpRef.lean ====
abbrev S128x64 : Shape := ⟨2, ![128, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S_, .f32⟩
  | .hbm, ⟨5, _⟩ => ⟨S128x64, .f32⟩
  | .hbm, ⟨6, _⟩ => ⟨S128x64, .f32⟩
  | .hbm, ⟨7, _⟩ => ⟨S_, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S_, .f32⟩
  | .hbm, ⟨12, _⟩ => ⟨S128x64, .f32⟩
  | .hbm, ⟨13, _⟩ => ⟨S128x64, .f32⟩
  | .hbm, ⟨14, _⟩ => ⟨S128x64, .f32⟩
  | .hbm, ⟨15, _⟩ => ⟨S_, .f32⟩
  | .hbm, ⟨16, _⟩ => ⟨S128x64, .f32⟩
  | .hbm, ⟨17, _⟩ => ⟨S128x64, .f32⟩
  | .hbm, ⟨18, _⟩ => ⟨S128x64, .f32⟩
  | .hbm, ⟨19, _⟩ => ⟨S_, .f32⟩
  | .hbm, ⟨20, _⟩ => ⟨S128x64, .f32⟩
  | .hbm, ⟨21, _⟩ => ⟨S128x64, .f32⟩
  | .hbm, ⟨22, _⟩ => ⟨S_, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S_, .f32⟩
  | .hbm, ⟨27, _⟩ => ⟨S128x64, .f32⟩
  | .hbm, ⟨28, _⟩ => ⟨S128x64, .f32⟩
  | .hbm, ⟨29, _⟩ => ⟨S128x64, .f32⟩
  | .hbm, ⟨30, _⟩ => ⟨S_, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S_, .f32⟩
  | .hbm, ⟨35, _⟩ => ⟨S128x64, .f32⟩
  | .hbm, ⟨36, _⟩ => ⟨S128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGateUpRefIdeal.lean ====
abbrev S128x64 : Shape := ⟨2, ![128, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S128x64, .f32⟩
  | .hbm, ⟨4, _⟩ => ⟨S_, .f32⟩
  | .hbm, ⟨5, _⟩ => ⟨S128x64, .f32⟩
  | .hbm, ⟨6, _⟩ => ⟨S128x64, .f32⟩
  | .hbm, ⟨7, _⟩ => ⟨S_, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S_, .f32⟩
  | .hbm, ⟨12, _⟩ => ⟨S128x64, .f32⟩
  | .hbm, ⟨13, _⟩ => ⟨S128x64, .f32⟩
  | .hbm, ⟨14, _⟩ => ⟨S128x64, .f32⟩
  | .hbm, ⟨15, _⟩ => ⟨S_, .f32⟩
  | .hbm, ⟨16, _⟩ => ⟨S128x64, .f32⟩
  | .hbm, ⟨17, _⟩ => ⟨S128x64, .f32⟩
  | .hbm, ⟨18, _⟩ => ⟨S128x64, .f32⟩
  | .hbm, ⟨19, _⟩ => ⟨S_, .f32⟩
  | .hbm, ⟨20, _⟩ => ⟨S128x64, .f32⟩
  | .hbm, ⟨21, _⟩ => ⟨S128x64, .f32⟩
  | .hbm, ⟨22, _⟩ => ⟨S_, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S_, .f32⟩
  | .hbm, ⟨27, _⟩ => ⟨S128x64, .f32⟩
  | .hbm, ⟨28, _⟩ => ⟨S128x64, .f32⟩
  | .hbm, ⟨29, _⟩ => ⟨S128x64, .f32⟩
  | .hbm, ⟨30, _⟩ => ⟨S_, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S_, .f32⟩
  | .hbm, ⟨35, _⟩ => ⟨S128x64, .f32⟩
  | .hbm, ⟨36, _⟩ => ⟨S128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRef.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOutRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamO.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOIdeal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamORef.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamORefIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnUp.lean ====
abbrev S1024x352 : Shape := ⟨2, ![1024, 352]⟩

abbrev nBuf : Space → Nat
  | .hbm => 7
  | .vmem => 7
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S1024x352, .f32⟩
  | .local _ .vmem, ⟨1, _⟩ => ⟨S1024x352, .f32⟩
  | .local _ .vmem, ⟨2, _⟩ => ⟨S1024x352, .f32⟩
  | .local _ .vmem, ⟨3, _⟩ => ⟨S1024x352, .f32⟩
  | .local _ .vmem, ⟨4, _⟩ => ⟨S1024x352, .f32⟩
  | .local _ .vmem, ⟨5, _⟩ => ⟨S1024x352, .f32⟩
  | .local _ .vmem, ⟨6, _⟩ => ⟨S1024x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfnUpIdeal.lean ====
abbrev S1024x352 : Shape := ⟨2, ![1024, 352]⟩

abbrev nBuf : Space → Nat
  | .hbm => 7
  | .vmem => 7
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S1024x352, .f32⟩
  | .local _ .vmem, ⟨1, _⟩ => ⟨S1024x352, .f32⟩
  | .local _ .vmem, ⟨2, _⟩ => ⟨S1024x352, .f32⟩
  | .local _ .vmem, ⟨3, _⟩ => ⟨S1024x352, .f32⟩
  | .local _ .vmem, ⟨4, _⟩ => ⟨S1024x352, .f32⟩
  | .local _ .vmem, ⟨5, _⟩ => ⟨S1024x352, .f32⟩
  | .local _ .vmem, ⟨6, _⟩ => ⟨S1024x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfnUpRef.lean ====
abbrev S1024x352 : Shape := ⟨2, ![1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S_, .f32⟩
  | .hbm, ⟨5, _⟩ => ⟨S1024x352, .f32⟩
  | .hbm, ⟨6, _⟩ => ⟨S1024x352, .f32⟩
  | .hbm, ⟨7, _⟩ => ⟨S_, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S_, .f32⟩
  | .hbm, ⟨23, _⟩ => ⟨S1024x352, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnUpRefIdeal.lean ====
abbrev S1024x352 : Shape := ⟨2, ![1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S_, .f32⟩
  | .hbm, ⟨5, _⟩ => ⟨S1024x352, .f32⟩
  | .hbm, ⟨6, _⟩ => ⟨S1024x352, .f32⟩
  | .hbm, ⟨7, _⟩ => ⟨S_, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S_, .f32⟩
  | .hbm, ⟨23, _⟩ => ⟨S1024x352, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnDown.lean ====
abbrev S352x1024 : Shape := ⟨2, ![352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfnDownIdeal.lean ====
abbrev S352x1024 : Shape := ⟨2, ![352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfnDownRef.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S8x96x128 : Shape := ⟨3, ![8, 96, 128]⟩
abbrev S96x128 : Shape := ⟨2, ![96, 128]⟩
abbrev S1x96x128 : Shape := ⟨3, ![1, 96, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S96x128, .f32⟩
  | .hbm, ⟨5, _⟩ => ⟨S96x128, .f32⟩
  | .hbm, ⟨6, _⟩ => ⟨S96x128, .f32⟩
  | .hbm, ⟨7, _⟩ => ⟨S96x128, .f32⟩
  | .local _ .vmem, ⟨0, _⟩ => ⟨S8x96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | .local _ .vmem, ⟨7, _⟩ => ⟨S96x128, .f32⟩
  | _, _ => ⟨S8x96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamSmallRef.lean ====
abbrev S8x96x128 : Shape := ⟨3, ![8, 96, 128]⟩
abbrev S96x128 : Shape := ⟨2, ![96, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S_, .f32⟩
  | .hbm, ⟨5, _⟩ => ⟨S96x128, .f32⟩
  | .hbm, ⟨6, _⟩ => ⟨S_, .f32⟩
  | .hbm, ⟨7, _⟩ => ⟨S96x128, .f32⟩
  | .hbm, ⟨8, _⟩ => ⟨S96x128, .f32⟩
  | .hbm, ⟨9, _⟩ => ⟨S_, .f32⟩
  | .hbm, ⟨10, _⟩ => ⟨S96x128, .f32⟩
  | .hbm, ⟨11, _⟩ => ⟨S96x128, .f32⟩
  | .hbm, ⟨12, _⟩ => ⟨S96x128, .f32⟩
  | .hbm, ⟨13, _⟩ => ⟨S_, .f32⟩
  | .hbm, ⟨14, _⟩ => ⟨S96x128, .f32⟩
  | .hbm, ⟨15, _⟩ => ⟨S96x128, .f32⟩
  | .hbm, ⟨16, _⟩ => ⟨S96x128, .f32⟩
  | .hbm, ⟨17, _⟩ => ⟨S_, .f32⟩
  | .hbm, ⟨18, _⟩ => ⟨S96x128, .f32⟩
  | .hbm, ⟨19, _⟩ => ⟨S96x128, .f32⟩
  | .hbm, ⟨20, _⟩ => ⟨S96x128, .f32⟩
  | .hbm, ⟨21, _⟩ => ⟨S_, .f32⟩
  | .hbm, ⟨22, _⟩ => ⟨S96x128, .f32⟩
  | .hbm, ⟨23, _⟩ => ⟨S96x128, .f32⟩
  | .hbm, ⟨24, _⟩ => ⟨S_, .f32⟩
  | .hbm, ⟨25, _⟩ => ⟨S96x128, .f32⟩
  | .hbm, ⟨26, _⟩ => ⟨S96x128, .f32⟩
  | .hbm, ⟨27, _⟩ => ⟨S96x128, .f32⟩
  | .hbm, ⟨28, _⟩ => ⟨S_, .f32⟩
  | .hbm, ⟨29, _⟩ => ⟨S96x128, .f32⟩
  | .hbm, ⟨30, _⟩ => ⟨S96x128, .f32⟩
  | .hbm, ⟨31, _⟩ => ⟨S96x128, .f32⟩
  | .hbm, ⟨32, _⟩ => ⟨S_, .f32⟩
  | .hbm, ⟨33, _⟩ => ⟨S96x128, .f32⟩
  | .hbm, ⟨34, _⟩ => ⟨S96x128, .f32⟩
  | .hbm, ⟨35, _⟩ => ⟨S96x128, .f32⟩
  | .hbm, ⟨36, _⟩ => ⟨S_, .f32⟩
  | .hbm, ⟨37, _⟩ => ⟨S96x128, .f32⟩
  | .hbm, ⟨38, _⟩ => ⟨S96x128, .f32⟩
  | _, _ => ⟨S8x96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AddCore.lean ====
abbrev S1 : Shape := ⟨1, ![1]⟩
abbrev S2x4x16000x128 : Shape := ⟨4, ![2, 4, 16000, 128]⟩
abbrev S4x16000x128 : Shape := ⟨3, ![4, 16000, 128]⟩
abbrev S1x1x2000x128 : Shape := ⟨4, ![1, 1, 2000, 128]⟩
abbrev S1x2000x128 : Shape := ⟨3, ![1, 2000, 128]⟩
abbrev S2000x128 : Shape := ⟨2, ![2000, 128]⟩

abbrev nBuf : Space → Nat
  | .hbm => 3
  | .vmem => 6
  | .smem => 1
  | _ => 0

abbrev bufTy : (tb : Table) → Fin (tcTables nBuf tb) → BufTy
  | .hbm, ⟨0, _⟩ => ⟨S2x4x16000x128, .f32⟩
  | .hbm, ⟨1, _⟩ => ⟨S4x16000x128, .f32⟩
  | .hbm, ⟨2, _⟩ => ⟨S4x16000x128, .bf16⟩
  | .local _ .vmem, ⟨0, _⟩ => ⟨S1x1x2000x128, .f32⟩
  | .local _ .vmem, ⟨1, _⟩ => ⟨S1x1x2000x128, .f32⟩
  | .local _ .vmem, ⟨2, _⟩ => ⟨S1x2000x128, .f32⟩
  | .local _ .vmem, ⟨3, _⟩ => ⟨S1x2000x128, .f32⟩
  | .local _ .vmem, ⟨4, _⟩ => ⟨S1x2000x128, .bf16⟩
  | .local _ .vmem, ⟨5, _⟩ => ⟨S1x2000x128, .bf16⟩
  | .local _ .smem, ⟨0, _⟩ => ⟨S1, .i32⟩
  | _, _ => ⟨S2x4x16000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddCoreRef.lean ====
abbrev S1 : Shape := ⟨1, ![1]⟩
abbrev S2x4x16000x128 : Shape := ⟨4, ![2, 4, 16000, 128]⟩
abbrev S4x16000x128 : Shape := ⟨3, ![4, 16000, 128]⟩
abbrev S_ : Shape := ⟨0, ![]⟩
abbrev S1x4x16000x128 : Shape := ⟨4, ![1, 4, 16000, 128]⟩

abbrev nBuf : Space → Nat
  | .hbm => 11
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x4x16000x128, .f32⟩
  | .hbm, ⟨2, _⟩ => ⟨S4x16000x128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1x4x16000x128, .f32⟩
  | .hbm, ⟨8, _⟩ => ⟨S4x16000x128, .f32⟩
  | .hbm, ⟨9, _⟩ => ⟨S4x16000x128, .f32⟩
  | .hbm, ⟨10, _⟩ => ⟨S4x16000x128, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== SumChips.lean ====
abbrev S1 : Shape := ⟨1, ![1]⟩
abbrev S4x16000x128 : Shape := ⟨3, ![4, 16000, 128]⟩
abbrev S3x16000x128 : Shape := ⟨3, ![3, 16000, 128]⟩
abbrev S16000x128 : Shape := ⟨2, ![16000, 128]⟩
abbrev S1x2000x128 : Shape := ⟨3, ![1, 2000, 128]⟩
abbrev S3x2000x128 : Shape := ⟨3, ![3, 2000, 128]⟩
abbrev S2000x128 : Shape := ⟨2, ![2000, 128]⟩

abbrev nBuf : Space → Nat
  | .hbm => 3
  | .vmem => 6
  | .smem => 1
  | _ => 0

abbrev bufTy : (tb : Table) → Fin (tcTables nBuf tb) → BufTy
  | .hbm, ⟨0, _⟩ => ⟨S4x16000x128, .bf16⟩
  | .hbm, ⟨1, _⟩ => ⟨S3x16000x128, .bf16⟩
  | .hbm, ⟨2, _⟩ => ⟨S16000x128, .f32⟩
  | .local _ .vmem, ⟨0, _⟩ => ⟨S1x2000x128, .bf16⟩
  | .local _ .vmem, ⟨1, _⟩ => ⟨S1x2000x128, .bf16⟩
  | .local _ .vmem, ⟨2, _⟩ => ⟨S3x2000x128, .bf16⟩
  | .local _ .vmem, ⟨3, _⟩ => ⟨S3x2000x128, .bf16⟩
  | .local _ .vmem, ⟨4, _⟩ => ⟨S2000x128, .f32⟩
  | .local _ .vmem, ⟨5, _⟩ => ⟨S2000x128, .f32⟩
  | .local _ .smem, ⟨0, _⟩ => ⟨S1, .i32⟩
  | _, _ => ⟨S4x16000x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumChipsRef.lean ====
abbrev S1 : Shape := ⟨1, ![1]⟩
abbrev S4x16000x128 : Shape := ⟨3, ![4, 16000, 128]⟩
abbrev S3x16000x128 : Shape := ⟨3, ![3, 16000, 128]⟩
abbrev S_ : Shape := ⟨0, ![]⟩
abbrev S1x16000x128 : Shape := ⟨3, ![1, 16000, 128]⟩
abbrev S16000x128 : Shape := ⟨2, ![16000, 128]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x16000x128, .bf16⟩
  | .hbm, ⟨2, _⟩ => ⟨S3x16000x128, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1x16000x128, .bf16⟩
  | .hbm, ⟨7, _⟩ => ⟨S16000x128, .bf16⟩
  | .hbm, ⟨8, _⟩ => ⟨S16000x128, .f32⟩
  | .hbm, ⟨9, _⟩ => ⟨S3x16000x128, .f32⟩
  | .hbm, ⟨10, _⟩ => ⟨S_, .f32⟩
  | .hbm, ⟨11, _⟩ => ⟨S16000x128, .f32⟩
  | .hbm, ⟨12, _⟩ => ⟨S16000x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== GradQkv.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x1536 : Shape := ⟨2, ![2048, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradQkvIdeal.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x1536 : Shape := ⟨2, ![2048, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradQkvRef.lean ====
abbrev S8192x1024 : Shape := ⟨2, ![8192, 1024]⟩
abbrev S8192x1536 : Shape := ⟨2, ![8192, 1536]⟩
abbrev S1536x1024 : Shape := ⟨2, ![1536, 1024]⟩
abbrev S1024x1536 : Shape := ⟨2, ![1024, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x1024, .f32⟩
  | .hbm, ⟨3, _⟩ => ⟨S8192x1536, .f32⟩
  | .hbm, ⟨4, _⟩ => ⟨S1536x1024, .f32⟩
  | .hbm, ⟨5, _⟩ => ⟨S1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradQkvRefIdeal.lean ====
abbrev S8192x1024 : Shape := ⟨2, ![8192, 1024]⟩
abbrev S8192x1536 : Shape := ⟨2, ![8192, 1536]⟩
abbrev S1536x1024 : Shape := ⟨2, ![1536, 1024]⟩
abbrev S1024x1536 : Shape := ⟨2, ![1024, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x1024, .f32⟩
  | .hbm, ⟨3, _⟩ => ⟨S8192x1536, .f32⟩
  | .hbm, ⟨4, _⟩ => ⟨S1536x1024, .f32⟩
  | .hbm, ⟨5, _⟩ => ⟨S1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradRw.lean ====
abbrev S8192x1024 : Shape := ⟨2, ![8192, 1024]⟩
abbrev S8192x1792 : Shape := ⟨2, ![8192, 1792]⟩
abbrev S1024x1792 : Shape := ⟨2, ![1024, 1792]⟩
abbrev S2048x1024 : Shape := ⟨2, ![2048, 1024]⟩
abbrev S2048x1792 : Shape := ⟨2, ![2048, 1792]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S1024x1792, .f32⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradRwIdeal.lean ====
abbrev S8192x1024 : Shape := ⟨2, ![8192, 1024]⟩
abbrev S8192x1792 : Shape := ⟨2, ![8192, 1792]⟩
abbrev S1024x1792 : Shape := ⟨2, ![1024, 1792]⟩
abbrev S2048x1024 : Shape := ⟨2, ![2048, 1024]⟩
abbrev S2048x1792 : Shape := ⟨2, ![2048, 1792]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S1024x1792, .f32⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradRwRef.lean ====
abbrev S8192x1024 : Shape := ⟨2, ![8192, 1024]⟩
abbrev S8192x1792 : Shape := ⟨2, ![8192, 1792]⟩
abbrev S1792x1024 : Shape := ⟨2, ![1792, 1024]⟩
abbrev S1024x1792 : Shape := ⟨2, ![1024, 1792]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S8192x1024, .f32⟩
  | .hbm, ⟨3, _⟩ => ⟨S8192x1792, .f32⟩
  | .hbm, ⟨4, _⟩ => ⟨S1792x1024, .f32⟩
  | .hbm, ⟨5, _⟩ => ⟨S1024x1792, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradRwRefIdeal.lean ====
abbrev S8192x1024 : Shape := ⟨2, ![8192, 1024]⟩
abbrev S8192x1792 : Shape := ⟨2, ![8192, 1792]⟩
abbrev S1792x1024 : Shape := ⟨2, ![1792, 1024]⟩
abbrev S1024x1792 : Shape := ⟨2, ![1024, 1792]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1792, .bf16⟩
  | .hbm, ⟨2, _⟩ => ⟨S8192x1024, .f32⟩
  | .hbm, ⟨3, _⟩ => ⟨S8192x1792, .f32⟩
  | .hbm, ⟨4, _⟩ => ⟨S1792x1024, .f32⟩
  | .hbm, ⟨5, _⟩ => ⟨S1024x1792, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradGate.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradGateIdeal.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradGateRef.lean ====
abbrev S8192x1024 : Shape := ⟨2, ![8192, 1024]⟩
abbrev S8192x2048 : Shape := ⟨2, ![8192, 2048]⟩
abbrev S2048x1024 : Shape := ⟨2, ![2048, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradGateRefIdeal.lean ====
abbrev S8192x1024 : Shape := ⟨2, ![8192, 1024]⟩
abbrev S8192x2048 : Shape := ⟨2, ![8192, 2048]⟩
abbrev S2048x1024 : Shape := ⟨2, ![2048, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradOut.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutIdeal.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutRef.lean ====
abbrev S8192x512 : Shape := ⟨2, ![8192, 512]⟩
abbrev S8192x1024 : Shape := ⟨2, ![8192, 1024]⟩
abbrev S1024x512 : Shape := ⟨2, ![1024, 512]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S1024x512, .f32⟩
  | .hbm, ⟨5, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradOutRefIdeal.lean ====
abbrev S8192x512 : Shape := ⟨2, ![8192, 512]⟩
abbrev S8192x1024 : Shape := ⟨2, ![8192, 1024]⟩
abbrev S1024x512 : Shape := ⟨2, ![1024, 512]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S1024x512, .f32⟩
  | .hbm, ⟨5, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradO.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradORef.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradORefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradFfnUp.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnUpIdeal.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnUpRef.lean ====
abbrev S8192x1024 : Shape := ⟨2, ![8192, 1024]⟩
abbrev S8192x2816 : Shape := ⟨2, ![8192, 2816]⟩
abbrev S2816x1024 : Shape := ⟨2, ![2816, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradFfnUpRefIdeal.lean ====
abbrev S8192x1024 : Shape := ⟨2, ![8192, 1024]⟩
abbrev S8192x2816 : Shape := ⟨2, ![8192, 2816]⟩
abbrev S2816x1024 : Shape := ⟨2, ![2816, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradFfnDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnDownRef.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S1024x2816, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProj.lean ====
abbrev S8192x1024 : Shape := ⟨2, ![8192, 1024]⟩
abbrev S1x1024 : Shape := ⟨2, ![1, 1024]⟩
abbrev S1024x1536 : Shape := ⟨2, ![1024, 1536]⟩
abbrev S1024x1792 : Shape := ⟨2, ![1024, 1792]⟩
abbrev S1024x2048 : Shape := ⟨2, ![1024, 2048]⟩
abbrev S1x2048 : Shape := ⟨2, ![1, 2048]⟩
abbrev S8192x1536 : Shape := ⟨2, ![8192, 1536]⟩
abbrev S8192x1792 : Shape := ⟨2, ![8192, 1792]⟩
abbrev S8192x2048 : Shape := ⟨2, ![8192, 2048]⟩
abbrev S256x1024 : Shape := ⟨2, ![256, 1024]⟩
abbrev S256x1536 : Shape := ⟨2, ![256, 1536]⟩
abbrev S256x1792 : Shape := ⟨2, ![256, 1792]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .bf16⟩
  | .hbm, ⟨3, _⟩ => ⟨S1024x1792, .bf16⟩
  | .hbm, ⟨4, _⟩ => ⟨S1024x2048, .bf16⟩
  | .hbm, ⟨5, _⟩ => ⟨S1x2048, .f32⟩
  | .hbm, ⟨6, _⟩ => ⟨S8192x1024, .bf16⟩
  | .hbm, ⟨7, _⟩ => ⟨S8192x1536, .bf16⟩
  | .hbm, ⟨8, _⟩ => ⟨S8192x1792, .f32⟩
  | .hbm, ⟨9, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1792, .bf16⟩
  | .local _ .vmem, ⟨5, _⟩ => ⟨S1024x2048, .bf16⟩
  | .local _ .vmem, ⟨6, _⟩ => ⟨S1x2048, .f32⟩
  | .local _ .vmem, ⟨7, _⟩ => ⟨S256x1024, .bf16⟩
  | .local _ .vmem, ⟨8, _⟩ => ⟨S256x1024, .bf16⟩
  | .local _ .vmem, ⟨9, _⟩ => ⟨S256x1536, .bf16⟩
  | .local _ .vmem, ⟨10, _⟩ => ⟨S256x1536, .bf16⟩
  | .local _ .vmem, ⟨11, _⟩ => ⟨S256x1792, .f32⟩
  | .local _ .vmem, ⟨12, _⟩ => ⟨S256x1792, .f32⟩
  | .local _ .vmem, ⟨13, _⟩ => ⟨S256x2048, .f32⟩
  | .local _ .vmem, ⟨14, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjRef.lean ====
abbrev S8192x1024 : Shape := ⟨2, ![8192, 1024]⟩
abbrev S1x1024 : Shape := ⟨2, ![1, 1024]⟩
abbrev S1024x1536 : Shape := ⟨2, ![1024, 1536]⟩
abbrev S1024x1792 : Shape := ⟨2, ![1024, 1792]⟩
abbrev S1024x2048 : Shape := ⟨2, ![1024, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S8192x1536 : Shape := ⟨2, ![8192, 1536]⟩
abbrev S8192x1792 : Shape := ⟨2, ![8192, 1792]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .bf16⟩
  | .hbm, ⟨3, _⟩ => ⟨S1024x1792, .bf16⟩
  | .hbm, ⟨4, _⟩ => ⟨S1024x2048, .bf16⟩
  | .hbm, ⟨5, _⟩ => ⟨S1x2048, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x1024, .bf16⟩
  | .hbm, ⟨34, _⟩ => ⟨S1024x1536, .f32⟩
  | .hbm, ⟨35, _⟩ => ⟨S8192x1536, .f32⟩
  | .hbm, ⟨36, _⟩ => ⟨S8192x1536, .bf16⟩
  | .hbm, ⟨37, _⟩ => ⟨S1024x1792, .f32⟩
  | .hbm, ⟨38, _⟩ => ⟨S8192x1792, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== InProjBack.lean ====
abbrev S8192x1024 : Shape := ⟨2, ![8192, 1024]⟩
abbrev S1x1024 : Shape := ⟨2, ![1, 1024]⟩
abbrev S8192x1536 : Shape := ⟨2, ![8192, 1536]⟩
abbrev S8192x1792 : Shape := ⟨2, ![8192, 1792]⟩
abbrev S8192x2048 : Shape := ⟨2, ![8192, 2048]⟩
abbrev S1024x1536 : Shape := ⟨2, ![1024, 1536]⟩
abbrev S1024x1792 : Shape := ⟨2, ![1024, 1792]⟩
abbrev S1024x2048 : Shape := ⟨2, ![1024, 2048]⟩
abbrev S256x1024 : Shape := ⟨2, ![256, 1024]⟩
abbrev S256x1536 : Shape := ⟨2, ![256, 1536]⟩
abbrev S256x1792 : Shape := ⟨2, ![256, 1792]⟩
abbrev S256x2048 : Shape := ⟨2, ![256, 2048]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1536, .bf16⟩
  | .hbm, ⟨4, _⟩ => ⟨S8192x1792, .bf16⟩
  | .hbm, ⟨5, _⟩ => ⟨S8192x2048, .bf16⟩
  | .hbm, ⟨6, _⟩ => ⟨S1024x1536, .bf16⟩
  | .hbm, ⟨7, _⟩ => ⟨S1024x1792, .bf16⟩
  | .hbm, ⟨8, _⟩ => ⟨S1024x2048, .bf16⟩
  | .hbm, ⟨9, _⟩ => ⟨S8192x1024, .f32⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1536, .bf16⟩
  | .local _ .vmem, ⟨6, _⟩ => ⟨S256x1536, .bf16⟩
  | .local _ .vmem, ⟨7, _⟩ => ⟨S256x1792, .bf16⟩
  | .local _ .vmem, ⟨8, _⟩ => ⟨S256x1792, .bf16⟩
  | .local _ .vmem, ⟨9, _⟩ => ⟨S256x2048, .bf16⟩
  | .local _ .vmem, ⟨10, _⟩ => ⟨S256x2048, .bf16⟩
  | .local _ .vmem, ⟨11, _⟩ => ⟨S1024x1536, .bf16⟩
  | .local _ .vmem, ⟨12, _⟩ => ⟨S1024x1792, .bf16⟩
  | .local _ .vmem, ⟨13, _⟩ => ⟨S1024x2048, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_27 : BitVec 32 := 0#32
  let v43 : BitVec 1 := Scalar.cmpi .ne v42 c0_i32_27
  v43

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let v_true : BitVec 1 := 1#1
  let v44 : BitVec 1 := Scalar.xori v41 v_true
  let v45 : BitVec 32 := Scalar.extui v44
  let c0_i32_28 : BitVec 32 := 0#32
  let v46 : BitVec 1 := Scalar.cmpi .ne v45 c0_i32_28
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1792 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InProjBackRef.lean ====
abbrev S8192x1024 : Shape := ⟨2, ![8192, 1024]⟩
abbrev S1x1024 : Shape := ⟨2, ![1, 1024]⟩
abbrev S8192x1536 : Shape := ⟨2, ![8192, 1536]⟩
abbrev S8192x1792 : Shape := ⟨2, ![8192, 1792]⟩
abbrev S8192x2048 : Shape := ⟨2, ![8192, 2048]⟩
abbrev S1024x1536 : Shape := ⟨2, ![1024, 1536]⟩
abbrev S1024x1792 : Shape := ⟨2, ![1024, 1792]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1536, .bf16⟩
  | .hbm, ⟨4, _⟩ => ⟨S8192x1792, .bf16⟩
  | .hbm, ⟨5, _⟩ => ⟨S8192x2048, .bf16⟩
  | .hbm, ⟨6, _⟩ => ⟨S1024x1536, .bf16⟩
  | .hbm, ⟨7, _⟩ => ⟨S1024x1792, .bf16⟩
  | .hbm, ⟨8, _⟩ => ⟨S1024x2048, .bf16⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x1536, .f32⟩
  | .hbm, ⟨29, _⟩ => ⟨S8192x1536, .f32⟩
  | .hbm, ⟨30, _⟩ => ⟨S1024x1792, .f32⟩
  | .hbm, ⟨31, _⟩ => ⟨S8192x1792, .f32⟩
  | .hbm, ⟨32, _⟩ => ⟨S1024x2048, .f32⟩
  | .hbm, ⟨33, _⟩ => ⟨S8192x2048, .f32⟩
  | .hbm, ⟨34, _⟩ => ⟨S8192x1536, .f32⟩
  | .hbm, ⟨35, _⟩ => ⟨S8192x1792, .f32⟩
  | .hbm, ⟨36, _⟩ => ⟨S8192x2048, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Merge.lean ====
abbrev S8192x1024 : Shape := ⟨2, ![8192, 1024]⟩
abbrev S8192x512 : Shape := ⟨2, ![8192, 512]⟩
abbrev S4x8x2048x64 : Shape := ⟨4, ![4, 8, 2048, 64]⟩
abbrev S8192x2048 : Shape := ⟨2, ![8192, 2048]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S256x512 : Shape := ⟨2, ![256, 512]⟩
abbrev S1x8x256x64 : Shape := ⟨4, ![1, 8, 256, 64]⟩
abbrev S256x2048 : Shape := ⟨2, ![256, 2048]⟩
abbrev S1x1x256x64 : Shape := ⟨4, ![1, 1, 256, 64]⟩
abbrev S256x64 : Shape := ⟨2, ![256, 64]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S4x8x2048x64, .f32⟩
  | .hbm, ⟨3, _⟩ => ⟨S8192x512, .f32⟩
  | .hbm, ⟨4, _⟩ => ⟨S8192x2048, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S1x8x256x64, .f32⟩
  | .local _ .vmem, ⟨5, _⟩ => ⟨S1x8x256x64, .f32⟩
  | .local _ .vmem, ⟨6, _⟩ => ⟨S256x512, .f32⟩
  | .local _ .vmem, ⟨7, _⟩ => ⟨S256x512, .f32⟩
  | .local _ .vmem, ⟨8, _⟩ => ⟨S256x2048, .f32⟩
  | .local _ .vmem, ⟨9, _⟩ => ⟨S256x2048, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRef.lean ====
abbrev S8192x1024 : Shape := ⟨2, ![8192, 1024]⟩
abbrev S8192x512 : Shape := ⟨2, ![8192, 512]⟩
abbrev S4x8x2048x64 : Shape := ⟨4, ![4, 8, 2048, 64]⟩
abbrev S8192x2048 : Shape := ⟨2, ![8192, 2048]⟩
abbrev S512x1024 : Shape := ⟨2, ![512, 1024]⟩
abbrev S1024x1024 : Shape := ⟨2, ![1024, 1024]⟩
abbrev S1x1024 : Shape := ⟨2, ![1, 1024]⟩
abbrev S4x2048x8x64 : Shape := ⟨4, ![4, 2048, 8, 64]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S4x8x2048x64, .f32⟩
  | .hbm, ⟨3, _⟩ => ⟨S8192x512, .f32⟩
  | .hbm, ⟨4, _⟩ => ⟨S8192x2048, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S4x2048x8x64, .f32⟩
  | .hbm, ⟨10, _⟩ => ⟨S8192x512, .f32⟩
  | .hbm, ⟨11, _⟩ => ⟨S8192x512, .f32⟩
  | .hbm, ⟨12, _⟩ => ⟨S8192x1024, .f32⟩
  | .hbm, ⟨13, _⟩ => ⟨S8192x512, .f32⟩
  | .hbm, ⟨14, _⟩ => ⟨S512x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S512x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1024x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== MergeBack.lean ====
abbrev S8192x1024 : Shape := ⟨2, ![8192, 1024]⟩
abbrev S8192x512 : Shape := ⟨2, ![8192, 512]⟩
abbrev S4x8x2048x64 : Shape := ⟨4, ![4, 8, 2048, 64]⟩
abbrev S8192x2048 : Shape := ⟨2, ![8192, 2048]⟩
abbrev S512x1024 : Shape := ⟨2, ![512, 1024]⟩
abbrev S1024x1024 : Shape := ⟨2, ![1024, 1024]⟩
abbrev S1x1024 : Shape := ⟨2, ![1, 1024]⟩
abbrev S1x2048 : Shape := ⟨2, ![1, 2048]⟩
abbrev S256x1024 : Shape := ⟨2, ![256, 1024]⟩
abbrev S256x512 : Shape := ⟨2, ![256, 512]⟩
abbrev S1x8x256x64 : Shape := ⟨4, ![1, 8, 256, 64]⟩
abbrev S256x2048 : Shape := ⟨2, ![256, 2048]⟩
abbrev S1x1x256x64 : Shape := ⟨4, ![1, 1, 256, 64]⟩
abbrev S256x64 : Shape := ⟨2, ![256, 64]⟩
abbrev S256 : Shape := ⟨1, ![256]⟩
abbrev S256x1 : Shape := ⟨2, ![256, 1]⟩
abbrev S1024 : Shape := ⟨1, ![1024]⟩
abbrev S2048 : Shape := ⟨1, ![2048]⟩

abbrev nBuf : Space → Nat
  | .hbm => 20
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S4x8x2048x64, .f32⟩
  | .hbm, ⟨3, _⟩ => ⟨S8192x512, .f32⟩
  | .hbm, ⟨4, _⟩ => ⟨S8192x2048, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S8192x512, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x2048, .bf16⟩
  | .hbm, ⟨15, _⟩ => ⟨S8192x512, .bf16⟩
  | .hbm, ⟨16, _⟩ => ⟨S4x8x2048x64, .f32⟩
  | .hbm, ⟨17, _⟩ => ⟨S8192x512, .f32⟩
  | .hbm, ⟨18, _⟩ => ⟨S1x1024, .f32⟩
  | .hbm, ⟨19, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S1x8x256x64, .f32⟩
  | .local _ .vmem, ⟨5, _⟩ => ⟨S1x8x256x64, .f32⟩
  | .local _ .vmem, ⟨6, _⟩ => ⟨S256x512, .f32⟩
  | .local _ .vmem, ⟨7, _⟩ => ⟨S256x512, .f32⟩
  | .local _ .vmem, ⟨8, _⟩ => ⟨S256x2048, .f32⟩
  | .local _ .vmem, ⟨9, _⟩ => ⟨S256x2048, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S256x512, .bf16⟩
  | .local _ .vmem, ⟨15, _⟩ => ⟨S256x512, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x2048, .bf16⟩
  | .local _ .vmem, ⟨25, _⟩ => ⟨S256x2048, .bf16⟩
  | .local _ .vmem, ⟨26, _⟩ => ⟨S256x512, .bf16⟩
  | .local _ .vmem, ⟨27, _⟩ => ⟨S256x512, .bf16⟩
  | .local _ .vmem, ⟨28, _⟩ => ⟨S1x8x256x64, .f32⟩
  | .local _ .vmem, ⟨29, _⟩ => ⟨S1x8x256x64, .f32⟩
  | .local _ .vmem, ⟨30, _⟩ => ⟨S256x512, .f32⟩
  | .local _ .vmem, ⟨31, _⟩ => ⟨S256x512, .f32⟩
  | .local _ .vmem, ⟨32, _⟩ => ⟨S1x1024, .f32⟩
  | .local _ .vmem, ⟨33, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev main_v0_10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg19_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem19_0 : DmaSem sig := 33

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v124 : BitVec 1 := Scalar.cmpi .eq arg0 c0_i32
  let v125 : BitVec 32 := Scalar.extui v124
  let c0_i32_101 : BitVec 32 := 0#32
  let v126 : BitVec 1 := Scalar.cmpi .ne v125 c0_i32_101
  v126

def k0_cond2 (i : grid0.Coords) : BitVec 1 :=
  let arg0 : BitVec 32 := BitVec.ofNat 32 (i 0).val
  let c0_i32 : BitVec 32 := 0#32
  let v124 : BitVec 1 := Scalar.cmpi .eq arg0 c0_i32
  let v_true : BitVec 1 := 1#1
  let v127 : BitVec 1 := Scalar.xori v124 v_true
  let v128 : BitVec 32 := Scalar.extui v127
  let c0_i32_102 : BitVec 32 := 0#32
  let v129 : BitVec 1 := Scalar.cmpi .ne v128 c0_i32_102
  v129

def k0_cond3 (i : grid0.Coords) : BitVec 1 :=
  let arg0 : BitVec 32 := BitVec.ofNat 32 (i 0).val
  let c0_i32 : BitVec 32 := 0#32
  let v124 : BitVec 1 := Scalar.cmpi .eq arg0 c0_i32
  let v132 : BitVec 32 := Scalar.extui v124
  let c0_i32_104 : BitVec 32 := 0#32
  let v133 : BitVec 1 := Scalar.cmpi .ne v132 c0_i32_104
  v133

def k0_cond4 (i : grid0.Coords) : BitVec 1 :=
  let arg0 : BitVec 32 := BitVec.ofNat 32 (i 0).val
  let c0_i32 : BitVec 32 := 0#32
  let v124 : BitVec 1 := Scalar.cmpi .eq arg0 c0_i32
  let true_105 : BitVec 1 := 1#1
  let v134 : BitVec 1 := Scalar.xori v124 true_105
  let v135 : BitVec 32 := Scalar.extui v134
  let c0_i32_106 : BitVec 32 := 0#32
  let v136 : BitVec 1 := Scalar.cmpi .ne v135 c0_i32_106
  v136

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x256x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MergeBackRef.lean ====
abbrev S8192x1024 : Shape := ⟨2, ![8192, 1024]⟩
abbrev S8192x512 : Shape := ⟨2, ![8192, 512]⟩
abbrev S4x8x2048x64 : Shape := ⟨4, ![4, 8, 2048, 64]⟩
abbrev S8192x2048 : Shape := ⟨2, ![8192, 2048]⟩
abbrev S512x1024 : Shape := ⟨2, ![512, 1024]⟩
abbrev S1024x1024 : Shape := ⟨2, ![1024, 1024]⟩
abbrev S1x1024 : Shape := ⟨2, ![1, 1024]⟩
abbrev S4x2048x8x64 : Shape := ⟨4, ![4, 2048, 8, 64]⟩
abbrev S_ : Shape := ⟨0, ![]⟩
abbrev S8192 : Shape := ⟨1, ![8192]⟩
abbrev S8192x1 : Shape := ⟨2, ![8192, 1]⟩
abbrev S1024 : Shape := ⟨1, ![1024]⟩
abbrev S2048 : Shape := ⟨1, ![2048]⟩
abbrev S1x2048 : Shape := ⟨2, ![1, 2048]⟩

abbrev nBuf : Space → Nat
  | .hbm => 98
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S4x8x2048x64, .f32⟩
  | .hbm, ⟨3, _⟩ => ⟨S8192x512, .f32⟩
  | .hbm, ⟨4, _⟩ => ⟨S8192x2048, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1x1024, .f32⟩
  | .hbm, ⟨9, _⟩ => ⟨S4x2048x8x64, .f32⟩
  | .hbm, ⟨10, _⟩ => ⟨S8192x512, .f32⟩
  | .hbm, ⟨11, _⟩ => ⟨S8192x1024, .f32⟩
  | .hbm, ⟨12, _⟩ => ⟨S8192x1024, .f32⟩
  | .hbm, ⟨13, _⟩ => ⟨S8192x512, .f32⟩
  | .hbm, ⟨14, _⟩ => ⟨S8192x512, .f32⟩
  | .hbm, ⟨15, _⟩ => ⟨S512x1024, .f32⟩
  | .hbm, ⟨16, _⟩ => ⟨S8192x1024, .f32⟩
  | .hbm, ⟨17, _⟩ => ⟨S512x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1024x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x2048, .f32⟩
  | .hbm, ⟨82, _⟩ => ⟨S8192x512, .f32⟩
  | .hbm, ⟨83, _⟩ => ⟨S8192x512, .f32⟩
  | .hbm, ⟨84, _⟩ => ⟨S8192x512, .f32⟩
  | .hbm, ⟨85, _⟩ => ⟨S4x2048x8x64, .f32⟩
  | .hbm, ⟨86, _⟩ => ⟨S4x8x2048x64, .f32⟩
  | .hbm, ⟨87, _⟩ => ⟨S8192x512, .f32⟩
  | .hbm, ⟨88, _⟩ => ⟨S8192x512, .bf16⟩
  | .hbm, ⟨89, _⟩ => ⟨S8192x1024, .bf16⟩
  | .hbm, ⟨90, _⟩ => ⟨S8192x1024, .bf16⟩
  | .hbm, ⟨91, _⟩ => ⟨S8192x1024, .bf16⟩
  | .hbm, ⟨92, _⟩ => ⟨S8192x1024, .bf16⟩
  | .hbm, ⟨93, _⟩ => ⟨S8192x2048, .bf16⟩
  | .hbm, ⟨94, _⟩ => ⟨S8192x512, .bf16⟩
  | .hbm, ⟨95, _⟩ => ⟨S_, .f32⟩
  | .hbm, ⟨96, _⟩ => ⟨S2048, .f32⟩
  | .hbm, ⟨97, _⟩ => ⟨S1x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8x128 : Shape := ⟨2, ![8, 128]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 16
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S8x128, .f32⟩
  | .hbm, ⟨8, _⟩ => ⟨S8192x1024, .f32⟩
  | .hbm, ⟨9, _⟩ => ⟨S8192x1024, .bf16⟩
  | .hbm, ⟨10, _⟩ => ⟨S8192x2816, .bf16⟩
  | .hbm, ⟨11, _⟩ => ⟨S8192x2816, .bf16⟩
  | .hbm, ⟨12, _⟩ => ⟨S8192x2816, .bf16⟩
  | .hbm, ⟨13, _⟩ => ⟨S8192x1024, .bf16⟩
  | .hbm, ⟨14, _⟩ => ⟨S1x1024, .f32⟩
  | .hbm, ⟨15, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S8x128, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v97 : BitVec 1 := Scalar.cmpi .eq arg0 c0_i32
  let v107 : BitVec 32 := Scalar.extui v97
  let c0_i32_48 : BitVec 32 := 0#32
  let v108 : BitVec 1 := Scalar.cmpi .ne v107 c0_i32_48
  v108

def k0_cond2 (i : grid0.Coords) : BitVec 1 :=
  let arg0 : BitVec 32 := BitVec.ofNat 32 (i 0).val
  let c0_i32 : BitVec 32 := 0#32
  let v97 : BitVec 1 := Scalar.cmpi .eq arg0 c0_i32
  let v_true : BitVec 1 := 1#1
  let v109 : BitVec 1 := Scalar.xori v97 v_true
  let v110 : BitVec 32 := Scalar.extui v109
  let c0_i32_49 : BitVec 32 := 0#32
  let v111 : BitVec 1 := Scalar.cmpi .ne v110 c0_i32_49
  v111

def k0_cond3 (i : grid0.Coords) : BitVec 1 :=
  let arg0 : BitVec 32 := BitVec.ofNat 32 (i 0).val
  let c0_i32 : BitVec 32 := 0#32
  let v97 : BitVec 1 := Scalar.cmpi .eq arg0 c0_i32
  let v112 : BitVec 32 := Scalar.extui v97
  let c0_i32_50 : BitVec 32 := 0#32
  let v113 : BitVec 1 := Scalar.cmpi .ne v112 c0_i32_50
  v113

def k0_cond4 (i : grid0.Coords) : BitVec 1 :=
  let arg0 : BitVec 32 := BitVec.ofNat 32 (i 0).val
  let c0_i32 : BitVec 32 := 0#32
  let v97 : BitVec 1 := Scalar.cmpi .eq arg0 c0_i32
  let true_51 : BitVec 1 := 1#1
  let v114 : BitVec 1 := Scalar.xori v97 true_51
  let v115 : BitVec 32 := Scalar.extui v114
  let c0_i32_52 : BitVec 32 := 0#32
  let v116 : BitVec 1 := Scalar.cmpi .ne v115 c0_i32_52
  v116

def k0_cond5 (i : grid0.Coords) : BitVec 1 :=
  let arg0 : BitVec 32 := BitVec.ofNat 32 (i 0).val
  let c0_i32 : BitVec 32 := 0#32
  let v97 : BitVec 1 := Scalar.cmpi .eq arg0 c0_i32
  let v117 : BitVec 32 := Scalar.extui v97
  let c0_i32_53 : BitVec 32 := 0#32
  let v118 : BitVec 1 := Scalar.cmpi .ne v117 c0_i32_53
  v118

def k0_cond6 (i : grid0.Coords) : BitVec 1 :=
  let arg0 : BitVec 32 := BitVec.ofNat 32 (i 0).val
  let c0_i32 : BitVec 32 := 0#32
  let v97 : BitVec 1 := Scalar.cmpi .eq arg0 c0_i32
  let true_54 : BitVec 1 := 1#1
  let v119 : BitVec 1 := Scalar.xori v97 true_54
  let v120 : BitVec 32 := Scalar.extui v119
  let c0_i32_55 : BitVec 32 := 0#32
  let v121 : BitVec 1 := Scalar.cmpi .ne v120 c0_i32_55
  v121

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== FfnRef.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S8x128 : Shape := ⟨2, ![8, 128]⟩

abbrev nBuf : Space → Nat
  | .hbm => 150
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1024x2816, .bf16⟩
  | 5 => ⟨S1024x2816, .bf16⟩
  | 6 => ⟨S2816x1024, .bf16⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S8192x1024, .f32⟩
  | 25 => ⟨S8192x1024, .f32⟩
  | 26 => ⟨S1024x2816, .f32⟩
  | 27 => ⟨S8192x2816, .f32⟩
  | 28 => ⟨S1024x2816, .f32⟩
  | 29 => ⟨S8192x2816, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S_, .f32⟩
  | 39 => ⟨S8192x2816, .f32⟩
  | 40 => ⟨S8192x2816, .f32⟩
  | 41 => ⟨S8192x2816, .f32⟩
  | 42 => ⟨S8192x2816, .f32⟩
  | 43 => ⟨S8192x2816, .f32⟩
  | 44 => ⟨S2816x1024, .f32⟩
  | 45 => ⟨S8192x1024, .f32⟩
  | 46 => ⟨S8192x1024, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192, .f32⟩
  | 70 => ⟨S_, .f32⟩
  | 71 => ⟨S8192, .f32⟩
  | 72 => ⟨S8192, .f32⟩
  | 73 => ⟨S_, .f32⟩
  | 74 => ⟨S_, .f32⟩
  | 75 => ⟨S_, .f32⟩
  | 76 => ⟨S_, .f32⟩
  | 77 => ⟨S_, .f32⟩
  | 78 => ⟨S8192x1024, .f32⟩
  | 79 => ⟨S8192x1024, .f32⟩
  | 80 => ⟨S8192x1024, .f32⟩
  | 81 => ⟨S_, .f32⟩
  | 82 => ⟨S1024, .f32⟩
  | 83 => ⟨S1x1024, .f32⟩
  | 84 => ⟨S8192x1024, .f32⟩
  | 85 => ⟨S8192x1024, .f32⟩
  | 86 => ⟨S8192x1024, .f32⟩
  | 87 => ⟨S_, .f32⟩
  | 88 => ⟨S8192, .f32⟩
  | 89 => ⟨S8192x1, .f32⟩
  | 90 => ⟨S8192x1024, .f32⟩
  | 91 => ⟨S8192x1024, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x2816, .f32⟩
  | 104 => ⟨S8192x2816, .f32⟩
  | 105 => ⟨S_, .f32⟩
  | 106 => ⟨S8192x2816, .f32⟩
  | 107 => ⟨S8192x2816, .f32⟩
  | 108 => ⟨S8192x2816, .f32⟩
  | 109 => ⟨S8192x2816, .f32⟩
  | 110 => ⟨S8192x2816, .f32⟩
  | 111 => ⟨S8192x2816, .f32⟩
  | 112 => ⟨S8192x2816, .f32⟩
  | 113 => ⟨S8192x1024, .f32⟩
  | 114 => ⟨S8192x1024, .f32⟩
  | 115 => ⟨S8192x1024, .f32⟩
  | 116 => ⟨S8192x1024, .f32⟩
  | 117 => ⟨S_, .f32⟩
  | 118 => ⟨S1024, .f32⟩
  | 119 => ⟨S1x1024, .f32⟩
  | 120 => ⟨S8192x1024, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x2816, .f32⟩
  | 12 => ⟨S8192x1024, .bf16⟩
  | 13 => ⟨S8192x2816, .bf16⟩
  | 14 => ⟨S8192x2816, .bf16⟩
  | 15 => ⟨S8192x2816, .bf16⟩
  | 16 => ⟨S8192x1024, .bf16⟩
  | 17 => ⟨S8x128, .f32⟩
  | 18 => ⟨S_, .f32⟩
  | 19 => ⟨S8192x1024, .f32⟩
  | 20 => ⟨S8192x1024, .f32⟩
  | 21 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_12 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_13 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_cst_15 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_16 : Ref sig .tc := ⟨.hbm, 105, rfl⟩
abbrev main_v69 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_17 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_18 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_19 : Ref sig .tc := ⟨.hbm, 129, rfl⟩
abbrev main_v87 : Ref sig .tc := ⟨.hbm, 130, rfl⟩
abbrev main_v88 : Ref sig .tc := ⟨.hbm, 131, rfl⟩
abbrev main_cst_20 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_21 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩

abbrev nD : Nat := 1
abbrev τ : Topo := Topo.v7x

variable {F : FTy → Type} [FloatOps F]
-- ==== Proof.Exchange.Launch.lean ====
/-
The launch of a program whose first kernel writes into other devices' arrays at once.

The devices' arrays and semaphore counters are all handed over together, before any device takes a step, so that a
sender can start out owning the place it writes to on another device and the right to raise the counter there.
-/
module

public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg owing launchCred)

set_option Elab.async false

variable {nD : Nat} {τ : Topo} {sig : RefSig} {Val : EltTy → Type} {U : Type} [URA U]

local notation "𝕄" => MT nD τ sig Unit Val ℕ U ℕ

/-! ## Level facts for the TensorCores' semaphores -/

/-- Every semaphore of a TensorCore may be waited on at the one index there is; those of other processors are not used. -/
def tcIx (g : GSem nD τ sig) : Finset Unit := if g.1.2 = .tc then {()} else ∅

theorem tcIx_tc (c : Dev nD) (sm : SemLoc sig) : tcIx (nD := nD) (τ := τ) ((c : Thread nD τ), sm) = {()} := if_pos rfl

/-- The unassigned levels of every TensorCore's semaphores become the level facts of the assignment `lv`. -/
theorem levels_assigned (lv : GSem nD τ sig → Unit → ℕ) :
    (bigSep Finset.univ fun c : Dev nD => levels0 (Ix := Unit) (Val := Val) (Name := ℕ) (U := U) (Lvl := ℕ) (τ := τ) (sig := sig) c)
      ⊢ (|==> levAts tcIx lv : sProp 𝕄) := by
  have hoff : ∀ (d : Dev nD) (p : Proc τ), p ≠ .tc → (coreLevAts ((d, p) : Thread nD τ) tcIx lv : sProp 𝕄) = BI.emp := fun d p hp => by
    unfold coreLevAts
    have h (sm : SemLoc sig) : (bigSep (tcIx (((d, p) : Thread nD τ), sm)) fun ι => (levAt (((d, p) : Thread nD τ), sm) ι (lv (((d, p) : Thread nD τ), sm) ι) : sProp 𝕄)) = BI.emp := by
      rw [show tcIx (((d, p) : Thread nD τ), sm) = ∅ from if_neg hp, BI.bigSep_empty]
    rw [bigSep_congr fun sm _ => h sm, BI.bigSep_emp_const]
  have hall : (levAts tcIx lv : sProp 𝕄) = iprop((bigSep Finset.univ fun d : Dev nD => coreLevAts (d.tc : Thread nD τ) tcIx lv) ∗ BI.emp) := by
    rw [show (levAts tcIx lv : sProp 𝕄) = bigSep Finset.univ fun c : Thread nD τ => coreLevAts c tcIx lv
      from bigSep_univ_prod fun g : GSem nD τ sig => bigSep (tcIx g) fun ι => levAt g ι (lv g ι), bigSep_threads (fun c : Thread nD τ => coreLevAts c tcIx lv)]
    congr 1
    rw [bigSep_congr (Ψ := fun _ : Dev nD => (BI.emp : sProp 𝕄)) fun d _ =>
      (bigSep_congr (Ψ := fun _ : Proc τ => (BI.emp : sProp 𝕄)) fun p hp => hoff d p (Finset.ne_of_mem_erase hp)).trans (BI.bigSep_emp_const _), BI.bigSep_emp_const]
  refine ((bigSep_mono fun c _ => lev_assign_cells (c.tc : Thread nD τ) tcIx lv).trans (BI.bigSep_bupd _ _)).trans (BI.bupd_mono ?_)
  have hlast : (bigSep Finset.univ fun c : Dev nD =>
        iprop((bigSep Finset.univ fun sm : SemLoc sig => levels ((c.tc : Thread nD τ), sm) (tcIx ((c.tc : Thread nD τ), sm))) ∗ coreLevAts (c.tc : Thread nD τ) tcIx lv))
      ⊢ iprop((bigSep Finset.univ fun d : Dev nD => coreLevAts (d.tc : Thread nD τ) tcIx lv) ∗ (BI.emp : sProp 𝕄)) := by
    rw [bigSep_sep']
    iintro ⟨-, H⟩
    isplitl [H]; · iexact H
    iempintro
  rw [hall]
  exact hlast

/-! ## The launch -/

variable {Λ : Labels} {P : Type} [Fintype P]

/-- A program with one thread of work a device, launched with every device's holdings in one hand. Each device is to owe
    `O₀ c` at the start. From all devices' scoped storage, unscoped arrays, launch credits and their share `G c` of the
    ghost state, with the level facts, the proof makes what each device starts from, `T c` (`hdeal`); from `T c` and
    what it owes, each device runs @main to `fin c`, owing nothing (`hrun`); and from `fin c` and the final state come
    the fact claimed of that device and its scoped semaphores at zero (`hread`). -/
theorem θ_run_dealt {defs : Defs nD τ sig Val Λ} (𝒱 : Variants)
    (m : (ℓ : Loc nD τ sig) → Buf Val ℓ) (ρ : Dev nD → PrngReg)
    (main : Dev nD → Prog (TpuEff nD τ sig Val Λ .tc) PUnit)
    (O₀ : Dev nD → CellTallies nD τ sig Unit) (lv : GSem nD τ sig → Unit → ℕ)
    (G T fin : Dev nD → sProp 𝕄) (u₀ : U)
    (hu₀ : (ownU u₀ : sProp 𝕄) ⊢ |={Set.univ}=> bigSep Finset.univ G)
    (hdeal : iprop((bigSep Finset.univ fun c : Dev nD => iprop(boundary (c.tc : Thread nD τ) ∗ unscopedBufs c (fun b => m ((c.tc : Thread nD τ).loc b))
          ∗ launchCred O₀ c ∗ G c)) ∗ levAts tcIx lv) ⊢ |={Set.univ}=> bigSep Finset.univ T)
    (hrun : ∀ c, iprop(T c ∗ owes (c.tc : Thread nD τ) (O₀ c) ∅) ⊢ wp frame (wpE defs 𝒱 (c.tc : Thread nD τ) none) Set.univ (main c)
        fun _ => iprop(fin c ∗ ∃ W, owes (c.tc : Thread nD τ) (0 : CellTallies nD τ sig Unit) W))
    (q : Dev nD → MemSt nD τ sig Val → Prop)
    (hread : ∀ c (s' : Phys nD τ sig Val), iprop(fin c ∗ SI s') ⊢ |={Set.univ}=> iprop(⌜q c s'.mem
        ∧ ∀ sm : SemLoc sig, sm.isScoped .tc = true → s'.mem.sem ((c.tc : Thread nD τ), sm) = 0⌝ ∗ SI s'))
    {Q : PUnit × MemSt nD τ sig Val → Prop}
    (hQ : ∀ s : MemSt nD τ sig Val, (∀ c, q c s) →
      (∀ g' : GSem nD τ sig, (g'.1.2 ≠ .tc ∨ g'.2.isScoped .tc = true) → s.sem g' = 0) → Q (⟨⟩, s)) :
    θ_run defs (onTc main) ⟨m, fun _ => 0, ρ⟩ Q := by
  classical
  refine (θ_run defs _ _).mono (Q := fun r => (∀ c : Dev nD, q c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (owing O₀) 0 (noBookings fun _ => le_rfl) (Pipeline.owing_of_ne O₀) u₀
      (fun _ c => iprop(T c ∗ owes (c.tc : Thread nD τ) (O₀ c) ∅)) (fun _ => fin)
      (fun _ => iprop(emp)) Set.univ ?_ (fun _ c => ?_) fun _ => ?_))
  · have hcores : (bigSep Finset.univ fun d : Dev nD =>
          coreInit (Ix := Unit) (Name := ℕ) (U := U) (Lvl := ℕ) (owing O₀) 0 (⟨m, fun _ => 0, ρ⟩ : MemSt nD τ sig Val) (d.tc : Thread nD τ))
        ⊢ iprop((bigSep Finset.univ fun c : Dev nD => iprop(boundary (c.tc : Thread nD τ) ∗ unscopedBufs c (fun b => m ((c.tc : Thread nD τ).loc b)) ∗ launchCred O₀ c))
            ∗ (bigSep Finset.univ fun c : Dev nD => owes (c.tc : Thread nD τ) (O₀ c) ∅)
            ∗ (bigSep Finset.univ fun c : Dev nD => levels0 c) : sProp 𝕄) := by
      rw [← bigSep_sep', ← bigSep_sep']
      refine bigSep_mono fun c _ => (Pipeline.coreInit_boundary_owing O₀ m ρ c).trans ?_
      iintro ⟨Hb, Hub, -, HL, Hlv, -, Hcr⟩
      isplitl [Hb Hub Hcr]
      · isplitl [Hb]; · iexact Hb
        isplitl [Hub] <;> iassumption
      isplitl [HL] <;> iassumption
    iintro ⟨Hcores, Hu⟩
    ihave Hc := hcores $$ Hcores
    icases Hc with ⟨Hb, HL, Hlv⟩
    imod (levels_assigned lv) $$ Hlv with Hla
    imod hu₀ $$ Hu with HG
    imod hdeal $$ [Hb HG Hla] with HT
    · isplitr [Hla]
      · simp only [bigSep_sep']
        icases Hb with ⟨H1, H2, H3⟩
        isplitl [H1]; · iexact H1
        isplitl [H2]; · iexact H2
        isplitl [H3] <;> iassumption
      · iexact Hla
    imodintro
    iexists ()
    isplitl
    · rw [bigSep_sep']; isplitl [HT] <;> iassumption
    · iempintro
  · exact hrun c
  · iintro ⟨H, -, Hsc⟩ %s' HSI
    ihave %hz := (scSems_read_zero m ρ s') $$ [Hsc HSI]
    · isplitl [Hsc] <;> iassumption
    imod (posts_fupd Finset.univ hread s') $$ [H HSI] with %h
    · isplitl [H] <;> iassumption
    imodintro
    ipureintro
    exact ⟨fun c => h c (Finset.mem_univ c), hz⟩

end Cert.Exchange
-- ==== Proof.Exchange.Cells.lean ====
/-
An exchange in which every DMA semaphore is raised by at most one transfer.

A plan says, for each DMA semaphore, how much the one transfer that raises it is worth, what its arrival hands to the
semaphore's device, and which device's copy of the semaphore a given device raises. The state of a device while it runs
the exchange is one assertion, `St`, indexed by the semaphores still to be raised by it, still to be waited for, already
paid for, and still owed; starting a transfer and waiting for one change those sets and nothing else.
-/
module

public import proofs.«01_k».proof.Proof.Exchange.Launch
public import Idealize.ShloMosaic.Lib.Transfers

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (owing launchCred)

set_option Elab.async false

variable {nD : Nat} {τ : Topo} {sig : RefSig} {Val : EltTy → Type}

local notation "𝕄" => MT nD τ sig Unit Val ℕ (UR sig nD τ) ℕ

theorem sep_take {I : Type} [DecidableEq I] {s : Finset I} {i : I} (h : i ∈ s) {Φ : I → sProp 𝕄} :
    bigSep s Φ = iprop(Φ i ∗ bigSep (s.erase i) Φ) := bigSep_erase h

theorem sep_put {I : Type} [DecidableEq I] {s : Finset I} {i : I} (h : i ∉ s) {Φ : I → sProp 𝕄} :
    bigSep (insert i s) Φ = iprop(Φ i ∗ bigSep s Φ) := bigSep_insert h

theorem sep_pick {I : Type} [DecidableEq I] {s : Finset I} {i : I} (h : i ∈ s) {Φ : I → sProp 𝕄} : (bigSep s Φ : sProp 𝕄) ⊢ Φ i :=
  bigSep_elim h

/-- Where the rounds' bookkeeping sits in the ghost state: it is all of it. -/
abbrev ER : Emb (UR sig nD τ) 𝕄 := emb₁

variable (nD τ sig Val) in
/-- What each DMA semaphore is for. -/
structure Plan where
  /-- The credit of the one transfer that raises the semaphore; zero when nothing does. -/
  amt : DmaSem sig → ℕ
  /-- What that transfer's arrival hands to the device whose semaphore it is. -/
  pay : Dev nD → DmaSem sig → sProp 𝕄
  /-- The device whose copy of the semaphore a device raises. -/
  peer : DmaSem sig → Dev nD ≃ Dev nD
  /-- The semaphores that another device raises. -/
  recv : Finset (DmaSem sig)
  /-- The order in which semaphores may be waited for while something is still owed. -/
  lev : DmaSem sig → ℕ
  /-- What an arrival hands over can be kept in an invariant. -/
  storable : ∀ c s, BI.Storable (upEmb : UEmb _ 𝕄) (pay c s)

variable (X : Plan nD τ sig Val)

/-- Device `c`'s DMA semaphore `s`. -/
abbrev cell (c : Dev nD) (s : DmaSem sig) : GSem nD τ sig := ((c : Thread nD τ), .dma s)

theorem cell_inj : Function.Injective fun cs : Dev nD × DmaSem sig => (cell cs.1 cs.2 : GSem nD τ sig) := by
  rintro ⟨c, s⟩ ⟨c', s'⟩ h
  have h1 : c = c' := congrArg (fun g : GSem nD τ sig => g.1.1) h
  have h2 : (SemLoc.dma s : SemLoc sig) = .dma s' := congrArg Prod.snd h
  cases h1; cases h2; rfl

/-- The credit planned for a semaphore; regular semaphores are not used. -/
def Plan.amtAt : SemLoc sig → ℕ
  | .dma s => X.amt s
  | .reg _ => 0

/-- What is handed over with it. -/
def Plan.payAt (c : Dev nD) : SemLoc sig → sProp 𝕄
  | .dma s => X.pay c s
  | .reg _ => iprop(emp)

/-- The plan's order, on all semaphores. -/
def Plan.levAt : GSem nD τ sig → Unit → ℕ
  | (_, .dma s), _ => X.lev s
  | (_, .reg _), _ => 0

/-- The plan as a schedule: one round, with one duty at each semaphore that is used. -/
def Plan.rd : Schedule (GSem nD τ sig) Unit 𝕄 where
  duties g r := if r = 0 ∧ g.1.2 = .tc ∧ 0 < X.amtAt g.2 then {()} else ∅
  amount g _ _ := X.amtAt g.2
  payload g _ _ := X.payAt g.1.1 g.2
  amount_pos g r d h := by
    by_cases hc : r = 0 ∧ g.1.2 = .tc ∧ 0 < X.amtAt g.2
    · exact hc.2.2
    · rw [if_neg hc] at h; exact absurd h (Finset.notMem_empty _)

instance Plan.rd_storable (g : GSem nD τ sig) (r : ℕ) (d : Unit) : BI.Storable (upEmb : UEmb _ 𝕄) (X.rd.payload g r d) := by
  show BI.Storable upEmb (X.payAt g.1.1 g.2)
  rcases g with ⟨t, s | s⟩
  · show BI.Storable upEmb (iprop(emp) : sProp 𝕄); infer_instance
  · exact X.storable _ _

theorem Plan.duties_zero (c : Dev nD) {s : DmaSem sig} (h : 0 < X.amt s) : X.rd.duties (cell c s) 0 = {()} :=
  if_pos (⟨rfl, rfl, h⟩ : 0 = 0 ∧ (cell c s : GSem nD τ sig).1.2 = .tc ∧ 0 < X.amtAt (cell c s : GSem nD τ sig).2)

theorem Plan.duty_mem (c : Dev nD) {s : DmaSem sig} (h : 0 < X.amt s) : () ∈ X.rd.duties (cell c s) 0 := by
  rw [X.duties_zero c h]; exact Finset.mem_singleton_self _

theorem Plan.duties_later (g : GSem nD τ sig) : ∀ r, 1 ≤ r → X.rd.duties g r = ∅ := fun r hr =>
  if_neg fun h : r = 0 ∧ g.1.2 = .tc ∧ 0 < X.amtAt g.2 => by omega

theorem Plan.duties_unused (c : Dev nD) {s : DmaSem sig} (h : X.amt s = 0) : ∀ r, 0 ≤ r → X.rd.duties (cell c s) r = ∅ := fun r _ =>
  if_neg fun hc : r = 0 ∧ (cell c s : GSem nD τ sig).1.2 = .tc ∧ 0 < X.amtAt (cell c s : GSem nD τ sig).2 =>
    absurd (show 0 < X.amt s from hc.2.2) (by omega)

theorem Plan.expect_eq (c : Dev nD) {s : DmaSem sig} (h : 0 < X.amt s) : X.rd.expect (cell c s) 0 = X.amt s := by
  unfold Schedule.expect Schedule.amountOf
  rw [X.duties_zero c h, Finset.sum_singleton]; rfl

theorem Plan.rest_eq (c : Dev nD) {s : DmaSem sig} (h : 0 < X.amt s) :
    bigSep (X.rd.duties (cell c s) 0 \ ∅) (fun u => X.rd.payload (cell c s) 0 u) = X.pay c s := by
  rw [Finset.sdiff_empty, X.duties_zero c h, bigSep_singleton]; rfl

/-- What device `c` owes other devices while the transfers raising the semaphores `S` are not yet started. -/
def Plan.owe (c : Dev nD) (S : Finset (DmaSem sig)) : CellTallies nD τ sig Unit := ∑ s ∈ S, tallyAt (cell (X.peer s c) s) () (X.amt s)

theorem Plan.owe_erase (c : Dev nD) {S : Finset (DmaSem sig)} {s : DmaSem sig} (h : s ∈ S) :
    X.owe c S = X.owe c (S.erase s) + tallyAt (cell (X.peer s c) s) () (X.amt s) := by
  unfold Plan.owe; rw [Finset.sum_erase_add _ _ h]

theorem Plan.owe_pos {c : Dev nD} {S : Finset (DmaSem sig)} {g : GSem nD τ sig} {u : Unit} (h : 0 < X.owe c S g u) :
    ∃ s ∈ S, g = cell (X.peer s c) s := by
  unfold Plan.owe at h
  rw [Finset.sum_apply, Finsupp.finsetSum_apply] at h
  obtain ⟨s, hs, hp⟩ := Finset.exists_ne_zero_of_sum_ne_zero (Nat.pos_iff_ne_zero.mp h)
  exact ⟨s, hs, (Pipeline.tallyAt_pos (Nat.pos_iff_ne_zero.mpr hp)).1⟩

theorem Plan.mayWait (c : Dev nD) (q : DmaSem sig) (S : Finset (DmaSem sig)) (h : ∀ s ∈ S, X.lev q < X.lev s) :
    (levAts tcIx X.levAt : sProp 𝕄) ⊢ MayWait (c : Thread nD τ) (.dma q) () (X.owe c S) :=
  MayOwe.of_cut (L := tcIx) (lev := X.levAt) (X.lev q)
    (fun p hp => by rw [Finset.mem_singleton.mp hp, tcIx_tc]; exact Finset.mem_singleton_self _)
    (fun g u hg => by obtain ⟨s, -, rfl⟩ := X.owe_pos hg; rw [tcIx_tc]; exact Finset.mem_singleton_self _)
    (fun p hp => by rw [Finset.mem_singleton.mp hp]; exact le_refl _)
    (fun g u hg => by obtain ⟨s, hs, rfl⟩ := X.owe_pos hg; exact h s hs)

/-! ## The device's state -/

/-- The lasting records: every semaphore's invariant, and that its one round is open. -/
def Plan.records (K : Dev nD × DmaSem sig → ℕ) : sProp 𝕄 :=
  iprop((bigSep Finset.univ fun cs : Dev nD × DmaSem sig => cellInv ER X.rd (K cs) (cell cs.1 cs.2))
    ∗ bigSep Finset.univ fun cs : Dev nD × DmaSem sig => reached ER (cell cs.1 cs.2) 0)

instance Plan.records_persistent (K : Dev nD × DmaSem sig → ℕ) : BI.Persistent (X.records K) := by unfold Plan.records; infer_instance

theorem Plan.inv_at (K : Dev nD × DmaSem sig → ℕ) (c : Dev nD) (s : DmaSem sig) :
    X.records K ⊢ cellInv ER X.rd (K (c, s)) (cell c s) := by
  unfold Plan.records
  iintro ⟨H, -⟩
  iapply (sep_pick (Φ := fun cs : Dev nD × DmaSem sig => cellInv ER X.rd (K cs) (cell cs.1 cs.2)) (Finset.mem_univ (c, s)))
  iexact H

theorem Plan.reached_at (K : Dev nD × DmaSem sig → ℕ) (c : Dev nD) (s : DmaSem sig) :
    X.records K ⊢ (reached ER (cell c s) 0 : sProp 𝕄) := by
  unfold Plan.records
  iintro ⟨-, H⟩
  iapply (sep_pick (Φ := fun cs : Dev nD × DmaSem sig => (reached ER (cell cs.1 cs.2) 0 : sProp 𝕄)) (Finset.mem_univ (c, s)))
  iexact H

/-- Device `c`'s state: it has yet to start the transfers raising the semaphores `T`, has yet to wait for its semaphores
    `A`, holds the credit to wait for those in `C`, and still owes other devices the transfers raising `S`. The semaphores
    it is done waiting for are at zero. -/
def Plan.St (c : Dev nD) (T A C S : Finset (DmaSem sig)) : sProp 𝕄 :=
  iprop((∃ K, X.records K) ∗ levAts tcIx X.levAt
    ∗ (bigSep T fun s => dutyTok ER (cell (X.peer s c) s) 0 ())
    ∗ (bigSep A fun s => atPos ER (cell c s) 0 ∅ 0)
    ∗ (bigSep C fun s => cred (tallyAt (cell c s) () (X.amt s)))
    ∗ (bigSep Aᶜ fun s => semVal (cell c s) 0)
    ∗ ∃ W, owes (c : Thread nD τ) (X.owe c S) W)

/-- The elements of `I` held at contents `f`, at some share that need not be known: enough to read and to send them. -/
def held (ℓ : Loc nD τ sig) (I : Finset (Idx ℓ)) (f : Buf Val ℓ) : sProp 𝕄 := iprop(∃ q : PosShare TreeShare, ℓ ↦[I]{q} f)

/-- Part of what is held, lent out for good. -/
theorem held_lend (ℓ : Loc nD τ sig) {I J : Finset (Idx ℓ)} (h : J ⊆ I) (f : Buf Val ℓ) :
    (held ℓ I f : sProp 𝕄) ⊢ iprop((∃ q : PosShare TreeShare, ℓ ↦[J]{q} f) ∗ held ℓ I f) := by
  unfold held
  iintro ⟨%q, H⟩
  ihave H := (pointsTo_share (PosShare.mem_left_op_right q)).1 $$ H
  icases H with ⟨H1, H2⟩
  ihave H1 := (pointsTo_split_subset h).1 $$ H1
  icases H1 with ⟨H1, -⟩
  isplitl [H1]
  · iexists q.left; iexact H1
  · iexists q.right; iexact H2

/-- Elements held are what memory holds there. -/
theorem held_read (ℓ : Loc nD τ sig) (I : Finset (Idx ℓ)) (f : Buf Val ℓ) (s' : Phys nD τ sig Val) :
    iprop(held ℓ I f ∗ SI s') ⊢ (iprop(⌜∀ i ∈ I, s'.mem.mem ℓ i = f i⌝ ∗ SI s') : sProp 𝕄) := by
  unfold held
  iintro ⟨⟨%q, H⟩, HSI⟩
  icombine HSI H gives %h
  isplitr
  · ipureintro; exact h
  · iexact HSI

section Steps

variable {Λ : Labels} {defs : Defs nD τ sig Val Λ} (𝒱 : Variants) (c : Dev nD)
variable {α : Type} {sp sp' : Space} {s : Shape} {e : EltTy}

/-- Starting a transfer to another device. From the state, the source held, and the destination on the other device owned,
    the transfer starts; the device then has the credit to wait for its source semaphore `ss` and no longer owes `sr`. -/
theorem wp_put {T A C S : Finset (DmaSem sig)} (ss sr : DmaSem sig) {n : Dev nD} (hn : n = X.peer sr c) (hs : X.peer ss c = c)
    {src : Memref sig .tc sp s e} {dst : Memref sig .tc sp' s e} {hsc : dst.view.ref.isScScratch = false}
    {hsrc : src.view.WordExact} {hdst : dst.view.WordExact}
    {hsem : DmaTarget.Typed sp (.dma sr) (.remote (n.tc : Thread nD τ) dst (.dma ss) hsc)}
    {k : PUnit → Prog (TpuEff nD τ sig Val Λ .tc) α} {Q : α → sProp 𝕄}
    {I : Finset (Idx (src.view.loc (c : Thread nD τ)))} (hI : src.view.set ⊆ I)
    {fs : Buf Val (src.view.loc (c : Thread nD τ))} {fd : Buf Val (dst.view.loc (n : Thread nD τ))}
    (h1 : X.amt ss = dst.view.dmaCredit) (h2 : X.amt sr = dst.view.dmaCredit) (h0 : 0 < dst.view.dmaCredit)
    (hTs : ss ∈ T) (hTr : sr ∈ T.erase ss) (hC : ss ∉ C) (hS : sr ∈ S)
    (hp1 : (iprop(emp) : sProp 𝕄) ⊢ X.pay c ss)
    (hp2 : (dst.view.loc (n : Thread nD τ) ↦[dst.view.set]{fullShare} (dst.view.write Val fd (src.view.read Val fs) Finset.univ)) ⊢ X.pay n sr)
    (hr : τ.routes (c : Thread nD τ) (n : Thread nD τ) = true := by routes) :
    iprop(X.St c T A C S ∗ held (src.view.loc (c : Thread nD τ)) I fs ∗ (dst.view.loc (n : Thread nD τ) ↦[dst.view.set]{fullShare} fd))
      ⊢ iprop(((X.St c ((T.erase ss).erase sr) A (insert ss C) (S.erase sr) ∗ held (src.view.loc (c : Thread nD τ)) I fs)
            -∗ wp frame (wpE defs 𝒱 (c : Thread nD τ) none) Set.univ (k ⟨⟩) Q)
          -∗ wp frame (wpE defs 𝒱 (c : Thread nD τ) none) Set.univ
              (.op (.enqueueDma src (.remote (n.tc : Thread nD τ) dst (.dma ss) hsc) (.dma sr) hsrc hdst hsem) k) Q) := by
  subst hn
  unfold Plan.St
  rw [sep_take hTs, sep_take hTr, sep_put hC, hs]
  iintro ⟨⟨⟨%K, #HK⟩, #Hlev, ⟨Ht1, Ht2, HT⟩, HA, HC, HZ, ⟨%W, HO⟩⟩, Hsrc, Hdst⟩ Hk
  ihave Hsrc := (held_lend _ hI fs) $$ Hsrc
  icases Hsrc with ⟨⟨%q, Hs⟩, Hsrc⟩
  iapply (Rounds.wp_send_pointsTo 𝒱 ER X.rd (c : Thread nD τ) none (κ₁ := K (c, ss)) (κ₂ := K (X.peer sr c, sr))
    (r₁ := 0) (r₂ := 0) (d₁ := ()) (d₂ := ()) (fd := fd) (q := q) (fs := fs)
    (X.duty_mem c (by omega)) (X.duty_mem (X.peer sr c) (by omega)) () () dst.view.dmaCredit rfl h1 h2 (X.owe c (S.erase sr))
    (O₀ := X.owe c S) (by rw [X.owe_erase c hS, h2]) (W := W) (show _ ⊢ X.pay c ss from (show _ ⊢ (iprop(emp) : sProp 𝕄) from by iintro -; iempintro).trans hp1) hp2 hr)
    $$ [Hs Hdst HO Ht1 Ht2]
  · isplitr; · iapply (X.inv_at K c ss); iexact HK
    isplitr; · iapply (X.inv_at K (X.peer sr c) sr); iexact HK
    isplitl [Hs]; · iexact Hs
    isplitl [Hdst]; · iexact Hdst
    isplitl [HO]; · iexact HO
    isplitl [Ht1]; · iexact Ht1
    isplitr; · iapply (X.reached_at K c ss); iexact HK
    isplitl [Ht2]; · iexact Ht2
    iapply (X.reached_at K (X.peer sr c) sr); iexact HK
  iintro ⟨Hc, HO⟩
  iapply Hk
  isplitr [Hsrc]
  · isplitr; · iexists K; iexact HK
    isplitr; · iexact Hlev
    isplitl [HT]; · iexact HT
    isplitl [HA]; · iexact HA
    isplitl [Hc HC]
    · isplitl [Hc]
      · rw [h1]; iexact Hc
      · iexact HC
    isplitl [HZ]; · iexact HZ
    iexists W; iexact HO
  · iexact Hsrc

/-- Starting a copy on the device itself, from what is held to what is owned. -/
theorem wp_local {T A C S : Finset (DmaSem sig)} (sl : DmaSem sig) (hs : X.peer sl c = c)
    {src : Memref sig .tc sp s e} {dst : Memref sig .tc sp' s e}
    {hsrc : src.view.WordExact} {hdst : dst.view.WordExact} {hsem : DmaTarget.Typed (nD := nD) (τ := τ) (p := .tc) sp (.dma sl) (.here dst)}
    {k : PUnit → Prog (TpuEff nD τ sig Val Λ .tc) α} {Q : α → sProp 𝕄}
    {I : Finset (Idx (src.view.loc (c : Thread nD τ)))} (hI : src.view.set ⊆ I)
    {fs : Buf Val (src.view.loc (c : Thread nD τ))} {fd : Buf Val (dst.view.loc (c : Thread nD τ))}
    (h1 : X.amt sl = dst.view.dmaCredit) (h0 : 0 < dst.view.dmaCredit) (hT : sl ∈ T) (hC : sl ∉ C)
    (hp : (dst.view.loc (c : Thread nD τ) ↦[dst.view.set]{fullShare} (dst.view.write Val fd (src.view.read Val fs) Finset.univ)) ⊢ X.pay c sl) :
    iprop(X.St c T A C S ∗ held (src.view.loc (c : Thread nD τ)) I fs ∗ (dst.view.loc (c : Thread nD τ) ↦[dst.view.set]{fullShare} fd))
      ⊢ iprop(((X.St c (T.erase sl) A (insert sl C) S ∗ held (src.view.loc (c : Thread nD τ)) I fs)
            -∗ wp frame (wpE defs 𝒱 (c : Thread nD τ) none) Set.univ (k ⟨⟩) Q)
          -∗ wp frame (wpE defs 𝒱 (c : Thread nD τ) none) Set.univ
              (.op (.enqueueDma src (.here dst) (.dma sl) hsrc hdst hsem) k) Q) := by
  unfold Plan.St
  rw [sep_take hT, sep_put hC, hs]
  iintro ⟨⟨⟨%K, #HK⟩, #Hlev, ⟨Ht, HT⟩, HA, HC, HZ, HO⟩, Hsrc, Hdst⟩ Hk
  ihave Hsrc := (held_lend _ hI fs) $$ Hsrc
  icases Hsrc with ⟨⟨%q, Hs⟩, Hsrc⟩
  iapply (Rounds.wp_copy_pointsTo 𝒱 ER X.rd (c : Thread nD τ) none (κ := K (c, sl)) (r := 0) (d := ()) (fd := fd) (q := q) (fs := fs)
    (X.duty_mem c (by omega)) () dst.view.dmaCredit rfl h1
    (show _ ⊢ X.pay c sl from (show _ ⊢ _ from by iintro ⟨H, -⟩; iexact H).trans hp))
    $$ [Hs Hdst Ht]
  · isplitr; · iapply (X.inv_at K c sl); iexact HK
    isplitl [Hs]; · iexact Hs
    isplitl [Hdst]; · iexact Hdst
    isplitl [Ht]; · iexact Ht
    iapply (X.reached_at K c sl); iexact HK
  iintro Hc
  iapply Hk
  isplitr [Hsrc]
  · isplitr; · iexists K; iexact HK
    isplitr; · iexact Hlev
    isplitl [HT]; · iexact HT
    isplitl [HA]; · iexact HA
    isplitl [Hc HC]
    · isplitl [Hc]
      · rw [h1]; iexact Hc
      · iexact HC
    isplitl [HZ]; · iexact HZ
    iexact HO
  · iexact Hsrc

theorem compl_erase {A : Finset (DmaSem sig)} {q : DmaSem sig} : (A.erase q)ᶜ = insert q Aᶜ := by
  ext i; simp only [Finset.mem_compl, Finset.mem_erase, Finset.mem_insert]; tauto

/-- Waiting for a semaphore's one transfer. It hands over what the plan says; the semaphore is at zero for good. -/
theorem wp_take {T A C S : Finset (DmaSem sig)} (q : DmaSem sig) {w : TpuEff nD τ sig Val Λ .tc PUnit} {n : ℕ}
    (hw : ∀ K : PUnit → sProp 𝕄, wpE defs 𝒱 (c : Thread nD τ) none Set.univ w K = waitSpec (c : Thread nD τ) Set.univ (.dma q) n K)
    {k : PUnit → Prog (TpuEff nD τ sig Val Λ .tc) α} {Q : α → sProp 𝕄}
    (hn : X.amt q = n) (h0 : 0 < n) (hA : q ∈ A) (hC : q ∈ C) (hl : ∀ s ∈ S, X.lev q < X.lev s) :
    (X.St c T A C S)
      ⊢ iprop(((X.St c T (A.erase q) (C.erase q) S ∗ X.pay c q)
            -∗ wp frame (wpE defs 𝒱 (c : Thread nD τ) none) Set.univ (k ⟨⟩) Q)
          -∗ wp frame (wpE defs 𝒱 (c : Thread nD τ) none) Set.univ (.op w k) Q) := by
  subst hn
  unfold Plan.St
  rw [sep_take hA, sep_take hC, compl_erase, sep_put (show q ∉ Aᶜ from fun h => Finset.mem_compl.mp h hA)]
  iintro ⟨⟨%K, #HK⟩, #Hlev, HT, ⟨Ha, HA⟩, ⟨Hc, HC⟩, HZ, ⟨%W, HO⟩⟩ Hk
  iapply (Rounds.wp_wait_rest_token 𝒱 ER X.rd (c : Thread nD τ) none (κ := K (c, q)) hw (Set.mem_univ _) ()
      (O := X.owe c S) (W := W) (R := 0) (m := 0) (T := ∅) (by rw [X.expect_eq c h0, Nat.zero_add])) $$ [Hc HO Ha]
  · isplitr; · iapply (X.inv_at K c q); iexact HK
    isplitl [Hc]; · iexact Hc
    isplitl [HO]; · iexact HO
    isplitr; · iapply (X.mayWait c q S hl); iexact Hlev
    iexact Ha
  iintro ⟨HO, Ha, -, Hp⟩
  ihave Hp := (Entails.of_eq (X.rest_eq c h0)) $$ Hp
  imod (Rounds.cell_close ER X.rd (Set.mem_univ (K (c, q))) (fun h => h) (R := 0 + 1) (X.duties_later (cell c q))) $$ [Ha] with Hz
  · isplitr; · iapply (X.inv_at K c q); iexact HK
    iexact Ha
  iapply Hk
  isplitr [Hp]
  · isplitr; · iexists K; iexact HK
    isplitr; · iexact Hlev
    isplitl [HT]; · iexact HT
    isplitl [HA]; · iexact HA
    isplitl [HC]; · iexact HC
    isplitl [Hz HZ]
    · isplitl [Hz] <;> iassumption
    iexists _; iexact HO
  · iexact Hp

/-- A semaphore that nothing raises is at zero for good. -/
theorem st_unused {T A C S : Finset (DmaSem sig)} (q : DmaSem sig) (hn : X.amt q = 0) (hA : q ∈ A) :
    (X.St c T A C S) ⊢ |={Set.univ}=> X.St c T (A.erase q) C S := by
  unfold Plan.St
  rw [sep_take hA, compl_erase, sep_put (show q ∉ Aᶜ from fun h => Finset.mem_compl.mp h hA)]
  iintro ⟨⟨%K, #HK⟩, #Hlev, HT, ⟨Ha, HA⟩, HC, HZ, HO⟩
  imod (Rounds.cell_close ER X.rd (Set.mem_univ (K (c, q))) (fun h => h) (R := 0) (X.duties_unused c hn)) $$ [Ha] with Hz
  · isplitr; · iapply (X.inv_at K c q); iexact HK
    iexact Ha
  imodintro
  isplitr; · iexists K; iexact HK
  isplitr; · iexact Hlev
  isplitl [HT]; · iexact HT
  isplitl [HA]; · iexact HA
  isplitl [HC]; · iexact HC
  isplitl [Hz HZ]
  · isplitl [Hz] <;> iassumption
  iexact HO

end Steps

/-- The scoped semaphores of the launch are exactly the DMA semaphores. -/
def AllDma (sig : RefSig) : Prop := ∀ sm : SemLoc sig, sm.isScoped .tc = true ↔ ∃ s : DmaSem sig, sm = .dma s

theorem scoped_eq (h : AllDma sig) (c : Dev nD) :
    (scopedSems0 (c : Thread nD τ) : sProp 𝕄) = bigSep Finset.univ fun s : DmaSem sig => semVal (cell c s) 0 := by
  rw [show (scopedSems0 (c : Thread nD τ) : sProp 𝕄) = _ from scopedSems0_tc c]
  have he : (Finset.univ.filter fun sm : SemLoc sig => sm.isScoped .tc = true)
      = Finset.univ.map ⟨fun s : DmaSem sig => (SemLoc.dma s : SemLoc sig), fun a b hab => by cases hab; rfl⟩ := by
    ext sm
    simp only [Finset.mem_filter, Finset.mem_univ, true_and, Finset.mem_map, Function.Embedding.coeFn_mk]
    rw [h sm]
    exact ⟨fun ⟨s, hs⟩ => ⟨s, hs.symm⟩, fun ⟨s, hs⟩ => ⟨s, hs.symm⟩⟩
  rw [he, bigSep_map]; rfl

/-- At the end: nothing left to wait for and nothing owed. -/
theorem st_done (h : AllDma sig) (c : Dev nD) {T C : Finset (DmaSem sig)} :
    (X.St c T ∅ C ∅) ⊢ iprop(scopedSems0 (c : Thread nD τ) ∗ ∃ W, owes (c : Thread nD τ) (0 : CellTallies nD τ sig Unit) W) := by
  unfold Plan.St
  rw [scoped_eq h, Finset.compl_empty, show X.owe c ∅ = 0 from Finset.sum_empty]
  iintro ⟨-, -, -, -, -, HZ, HO⟩
  isplitl [HZ] <;> iassumption

/-! ## Funding and dealing -/

section Deal

/-- Every semaphore of every device, -/
def allCells : Finset (GSem nD τ sig) := Finset.univ.map ⟨_, cell_inj (nD := nD) (τ := τ) (sig := sig)⟩
/-- and the right to raise each. -/
def allToks : Finset (GSem nD τ sig × ℕ × Unit) :=
  Finset.univ.map ⟨fun cs : Dev nD × DmaSem sig => ((cell cs.1 cs.2 : GSem nD τ sig), 0, ()), fun _ _ h => cell_inj (congrArg Prod.fst h)⟩

variable (nD τ sig) in
/-- The ghost state the launch starts from. -/
def ghost₀ : UR sig nD τ := initOf allCells allToks

/-- Device `c`'s share of the ghost state. -/
def Plan.G (c : Dev nD) : sProp 𝕄 :=
  iprop((bigSep Finset.univ fun s : DmaSem sig => roundState ER X.rd (cell c s) 0)
    ∗ (bigSep Finset.univ fun s : DmaSem sig => atPos ER (cell c s) 0 ∅ 0)
    ∗ (bigSep Finset.univ fun s : DmaSem sig => reached ER (cell c s) 0)
    ∗ bigSep Finset.univ fun s : DmaSem sig => dutyTok ER (cell c s) 0 ())

theorem Plan.fund : (ownU (ghost₀ nD τ sig) : sProp 𝕄) ⊢ |={Set.univ}=> bigSep Finset.univ X.G := by
  have hX (Φ : GSem nD τ sig → sProp 𝕄) : bigSep allCells Φ = bigSep Finset.univ fun c : Dev nD => bigSep Finset.univ fun s : DmaSem sig => Φ (cell c s) := by
    unfold allCells; rw [bigSep_map, bigSep_univ_prod]; rfl
  have hT : bigSep allToks (fun x => (dutyTok ER x.1 x.2.1 x.2.2 : sProp 𝕄))
      = bigSep Finset.univ fun c : Dev nD => bigSep Finset.univ fun s : DmaSem sig => dutyTok ER (cell c s) 0 () := by
    unfold allToks; rw [bigSep_map, bigSep_univ_prod]; rfl
  rw [ownU_emb₁]
  unfold ghost₀
  iintro HX
  imod (Rounds.fund ER X.rd allCells allToks) $$ HX with ⟨Hst, Hr, Hat, Htok⟩
  imodintro
  ihave Hst := (Entails.of_eq (hX fun g => roundState ER X.rd g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Plan.G; simp only [bigSep_sep']
  isplitl [Hst]; · iexact Hst
  isplitl [Hat]; · iexact Hat
  isplitl [Hr] <;> iassumption

/-- Each device's launch credit covers the semaphores that another device raises. -/
theorem Plan.credits (c : Dev nD) :
    (launchCred (fun d => X.owe d X.recv) c : sProp 𝕄) ⊢ bigSep X.recv fun s => cred (tallyAt (cell c s) () (X.amt s)) := by
  unfold Plan.owe
  rw [Pipeline.launchCred_sum]
  exact bigSep_mono fun s _ => Pipeline.launchCred_tallyAt (.dma s) (X.peer s) (X.peer s).symm (X.peer s).apply_symm_apply (X.peer s).symm_apply_apply () (X.amt s) c

/-- Every device's invariants set up from its semaphores at zero and its share of the ghost state. -/
theorem Plan.alloc (h : AllDma sig) (c : Dev nD) :
    iprop(scopedSems0 (c : Thread nD τ) ∗ X.G c)
      ⊢ |={Set.univ}=> iprop((bigSep Finset.univ fun s : DmaSem sig => iprop(∃ κ : ℕ, cellInv ER X.rd κ (cell c s)))
          ∗ (bigSep Finset.univ fun s : DmaSem sig => atPos ER (cell c s) 0 ∅ 0)
          ∗ (bigSep Finset.univ fun s : DmaSem sig => reached ER (cell c s) 0)
          ∗ bigSep Finset.univ fun s : DmaSem sig => dutyTok ER (cell c s) 0 ()) := by
  unfold Plan.G
  rw [scoped_eq h]
  iintro ⟨Hv, Hst, Hat, Hr, Htok⟩
  imod (show iprop((bigSep Finset.univ fun s : DmaSem sig => semVal (cell c s) 0) ∗ bigSep Finset.univ fun s : DmaSem sig => roundState ER X.rd (cell c s) 0)
      ⊢ (|={Set.univ}=> bigSep Finset.univ fun s : DmaSem sig => iprop(∃ κ : ℕ, cellInv ER X.rd κ (cell c s)) : sProp 𝕄) from by
        rw [← bigSep_sep']
        exact (bigSep_mono fun s _ => (Rounds.body_intro ER X.rd (cell c s)).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- A device's state at the start, but for what it owes. -/
def Plan.S₀ (c : Dev nD) : sProp 𝕄 :=
  iprop((∃ K, X.records K) ∗ levAts tcIx X.levAt
    ∗ (bigSep Finset.univ fun s => dutyTok ER (cell (X.peer s c) s) 0 ())
    ∗ (bigSep Finset.univ fun s => atPos ER (cell c s) 0 ∅ 0)
    ∗ (bigSep X.recv fun s => cred (tallyAt (cell c s) () (X.amt s))))

/-- What a device starts from: everything to raise, everything to wait for, credit for what others raise, and its arrays
    as dealt. -/
def Plan.T₀ (B : Dev nD → sProp 𝕄) (c : Dev nD) : sProp 𝕄 := iprop(X.S₀ c ∗ scopedBufs (c : Thread nD τ) ∗ B c)

theorem Plan.st_start (c : Dev nD) :
    iprop(X.S₀ c ∗ ∃ W, owes (c : Thread nD τ) (X.owe c X.recv) W) ⊢ X.St c Finset.univ Finset.univ X.recv X.recv := by
  unfold Plan.S₀ Plan.St
  rw [Finset.compl_univ, BI.bigSep_empty]
  iintro ⟨⟨HK, Hl, HT, HA, HC⟩, HO⟩
  isplitl [HK]; · iexact HK
  isplitl [Hl]; · iexact Hl
  isplitl [HT]; · iexact HT
  isplitl [HA]; · iexact HA
  isplitl [HC]; · iexact HC
  isplitr; · iempintro
  iexact HO

/-- All devices' holdings dealt out: each gets the rights to raise the semaphores it is to raise, on whichever device, and
    the arrays `B` says. -/
theorem Plan.deal (h : AllDma sig) (V : (c : Dev nD) → (b : Ref sig .tc) → Buf Val ((c : Thread nD τ).loc b)) (B : Dev nD → sProp 𝕄)
    (hB : (bigSep Finset.univ fun c : Dev nD => unscopedBufs c (V c)) ⊢ bigSep Finset.univ B) :
    iprop((bigSep Finset.univ fun c : Dev nD => iprop(boundary (c.tc : Thread nD τ) ∗ unscopedBufs c (V c)
          ∗ launchCred (fun d => X.owe d X.recv) c ∗ X.G c)) ∗ levAts tcIx X.levAt) ⊢ |={Set.univ}=> bigSep Finset.univ (X.T₀ B) := by
  have h1 : ∀ c : Dev nD, iprop(boundary (c.tc : Thread nD τ) ∗ unscopedBufs c (V c) ∗ launchCred (fun d => X.owe d X.recv) c ∗ X.G c)
      ⊢ |={Set.univ}=> iprop((bigSep Finset.univ fun s : DmaSem sig => iprop(∃ κ : ℕ, cellInv ER X.rd κ (cell c s)))
          ∗ (bigSep Finset.univ fun s : DmaSem sig => atPos ER (cell c s) 0 ∅ 0)
          ∗ (bigSep Finset.univ fun s : DmaSem sig => reached ER (cell c s) 0)
          ∗ (bigSep Finset.univ fun s : DmaSem sig => dutyTok ER (cell c s) 0 ())
          ∗ scopedBufs (c : Thread nD τ) ∗ unscopedBufs c (V c)
          ∗ bigSep X.recv fun s => cred (tallyAt (cell c s) () (X.amt s))) := fun c => by
    unfold boundary
    iintro ⟨⟨Hsb, Hss, -⟩, Hub, Hcr, HG⟩
    imod (X.alloc h c) $$ [Hss HG] with ⟨HI, Hat, Hr, Ht⟩
    · isplitl [Hss] <;> iassumption
    ihave Hcr := (X.credits c) $$ Hcr
    imodintro
    isplitl [HI]; · iexact HI
    isplitl [Hat]; · iexact Hat
    isplitl [Hr]; · iexact Hr
    isplitl [Ht]; · iexact Ht
    isplitl [Hsb]; · iexact Hsb
    isplitl [Hub] <;> iassumption
  have htok : (bigSep Finset.univ fun c : Dev nD => bigSep Finset.univ fun s : DmaSem sig => (dutyTok ER (cell c s) 0 () : sProp 𝕄))
      = bigSep Finset.univ fun c : Dev nD => bigSep Finset.univ fun s : DmaSem sig => dutyTok ER (cell (X.peer s c) s) 0 () := by
    rw [BI.bigSep_univ_comm, BI.bigSep_univ_comm (fun (c : Dev nD) (s : DmaSem sig) => (dutyTok ER (cell (X.peer s c) s) 0 () : sProp 𝕄))]
    exact bigSep_congr fun s _ => bigSep_univ_equiv (X.peer s) (fun c : Dev nD => (dutyTok ER (cell c s) 0 () : sProp 𝕄))
  iintro ⟨HD, #Hlev⟩
  imod (show _ ⊢ (|={Set.univ}=> bigSep Finset.univ fun c : Dev nD => _ : sProp 𝕄) from
    (bigSep_mono fun c _ => h1 c).trans (bigSep_fupd _ _)) $$ HD with HD
  imodintro
  simp only [bigSep_sep']
  icases HD with ⟨HI, Hat, Hr, Ht, Hsb, Hub, Hcr⟩
  ihave HI := (Entails.of_eq (bigSep_univ_prod (fun cs : Dev nD × DmaSem sig => iprop(∃ κ : ℕ, cellInv ER X.rd κ (cell cs.1 cs.2)))).symm) $$ HI
  ihave Hr := (Entails.of_eq (bigSep_univ_prod (fun cs : Dev nD × DmaSem sig => (reached ER (cell cs.1 cs.2) 0 : sProp 𝕄))).symm) $$ Hr
  ihave HI := (BI.bigSep_exists_pi Finset.univ (fun (cs : Dev nD × DmaSem sig) (κ : ℕ) => (cellInv ER X.rd κ (cell cs.1 cs.2) : sProp 𝕄))) $$ HI
  icases HI with ⟨%K, #HI⟩
  icases Hr with #Hr
  ihave Ht := (Entails.of_eq htok) $$ Ht
  ihave HB := hB $$ Hub
  iapply (BI.bigSep_with_persistent (R := iprop(X.records K ∗ levAts tcIx X.levAt)) (Φ := fun c => iprop(
      (bigSep Finset.univ fun s => dutyTok ER (cell (X.peer s c) s) 0 ())
      ∗ (bigSep Finset.univ fun s => atPos ER (cell c s) 0 ∅ 0)
      ∗ (bigSep X.recv fun s => cred (tallyAt (cell c s) () (X.amt s)))
      ∗ scopedBufs (c : Thread nD τ) ∗ B c)) fun c _ => by
    unfold Plan.T₀ Plan.S₀
    iintro ⟨⟨#HK, #Hl⟩, ⟨H1, H2, H3, H4⟩⟩
    isplitr [H4]
    · isplitr; · iexists K; iexact HK
      isplitr; · iexact Hl
      isplitl [H1]; · iexact H1
      isplitl [H2] <;> iassumption
    · iexact H4)
  isplitr
  · isplitl
    · unfold Plan.records
      isplitl
      · iexact HI
      · iexact Hr
    · iexact Hlev
  · simp only [bigSep_sep']
    isplitl [Ht]; · iexact Ht
    isplitl [Hat]; · iexact Hat
    isplitl [Hcr]; · iexact Hcr
    isplitl [Hsb] <;> iassumption

end Deal

end Cert.Exchange

end
-- ==== Proof.Exchange.Run.lean ====
/-
Running a program that is one exchange: a kernel without a grid and without blocked operands, launched once.
-/
module

public import proofs.«01_k».proof.Proof.Exchange.Cells

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg BodyObligation launchCred pin)

set_option Elab.async false

variable {nD : Nat} {τ : Topo} {sig : RefSig} {Val : EltTy → Type} [∀ e, Nonempty (Val e)] {Λ₀ : Labels}

local notation "𝕄" => MT nD τ sig Unit Val ℕ (UR sig nD τ) ℕ

variable (pcs : Fin 1 → PCfg sig Λ₀ Val) (a : (p : Fin 1) → (pcs p).Adm)
  (hW : ∀ p, IsEmpty (Fin (pin pcs a p).W)) (hK : ∀ p, IsEmpty (Fin (pcs p).pre.K)) (hN : ∀ p, (pin pcs a p).N = 1)
  (defs₀ : Defs nD τ sig Val Λ₀)

/-- The region's proof data when it has no blocked operands: what holds before its one point and after it. -/
def dats (hW : ∀ p, IsEmpty (Fin (pin pcs a p).W)) (Pre Post : Dev nD → sProp 𝕄) (O : Dev nD → CellTallies nD τ sig Unit) (p : Fin 1) (c : Dev nD) :
    Dat τ Val Unit ℕ (UR sig nD τ) ℕ (pin pcs a p) c where
  A w := (hW p).elim w
  after w := (hW p).elim w
  Φ t := if t = 0 then Pre c else Post c
  q w := (hW p).elim w
  owed t := if t = 0 then O c else 0

theorem bigSep_none {I : Type} [Fintype I] (h : IsEmpty I) (Φ : I → sProp 𝕄) : bigSep Finset.univ Φ = iprop(emp) := by
  rw [Finset.univ_eq_empty]; rfl

include hW hK hN in
/-- A region without blocked operands, run: the body turns what the device holds before into what it holds after. -/
theorem wp_region (Pre Post : Dev nD → sProp 𝕄) (O : Dev nD → CellTallies nD τ sig Unit)
    (hinj : Function.Injective (Pipeline.cellOf (nD := nD) (τ := τ) (pin pcs a)))
    (hbody : ∀ (c : Dev nD) (t : Fin (pin pcs a 0).N),
      iprop(Pre c ∗ scopedBufs (c : Thread nD τ) ∗ ∃ W, owes (c : Thread nD τ) (O c) W)
        ⊢ wp frame (wpE defs₀ Variants.none (c : Thread nD τ) none) Set.univ
            (defs₀ .tc (pin pcs a 0).body ((pin pcs a 0).bodyArgs t ((pin pcs a 0).slots t)))
            fun _ => iprop(Post c ∗ scopedSems0 (c : Thread nD τ) ∗ scopedBufs (c : Thread nD τ)
              ∗ ∃ W, owes (c : Thread nD τ) (0 : CellTallies nD τ sig Unit) W))
    (c : Dev nD) {α : Type} {k : PUnit → Prog (TpuEff nD τ sig Val (Pipeline.Sig Λ₀ (Fin 1) fun p => (pcs p).Adm) Proc.tc) α} {Q : α → sProp 𝕄} :
    iprop(Pre c ∗ scopedBufs (c : Thread nD τ) ∗ owes (c : Thread nD τ) (O c) ∅)
      ⊢ iprop(((Post c ∗ ∃ W, owes (c : Thread nD τ) (0 : CellTallies nD τ sig Unit) W)
            -∗ (scopedSems0 (c : Thread nD τ) -∗ wp frame (wpE (Pipeline.defs pcs defs₀) (Variants.lift Variants.none) (c : Thread nD τ) none) Set.univ (k ⟨⟩) Q))
          -∗ wp frame (wpE (Pipeline.defs pcs defs₀) (Variants.lift Variants.none) (c : Thread nD τ) none) Set.univ
              (.op (.customCall (Pipeline.entry 0) ()) k) Q) := by
  have hlast : (Fin.last (pin pcs a 0).N : Fin ((pin pcs a 0).N + 1)) ≠ 0 := fun h => by
    have := congrArg Fin.val h; simp [hN 0] at this
  let D := dats pcs a hW (fun c => iprop(Pre c ∗ scopedBufs (c : Thread nD τ)))
    (fun c => iprop(Post c ∗ scopedSems0 (c : Thread nD τ) ∗ scopedBufs (c : Thread nD τ))) O
  have hΦ0 : (D 0 c).Φ 0 = iprop(Pre c ∗ scopedBufs (c : Thread nD τ)) := by simp only [D, dats, if_true]
  have hΦ1 : (D 0 c).Φ (Fin.last _) = iprop(Post c ∗ scopedSems0 (c : Thread nD τ) ∗ scopedBufs (c : Thread nD τ)) := if_neg hlast
  have hO0 : (D 0 c).owed 0 = O c := by simp only [D, dats, if_true]
  have hO1 : (D 0 c).owed (Fin.last _) = 0 := if_neg hlast
  have hob : Pipeline.BodyObligation (D 0 c) defs₀ Variants.none () Set.univ := fun t => by
    have hlt : t.val < 1 := lt_of_lt_of_eq t.isLt (hN 0)
    have ht0 : t.castSucc = 0 := Fin.ext (show t.val = 0 by omega)
    have ht1 : t.succ = Fin.last _ := Fin.ext (show t.val + 1 = (pin pcs a 0).N by have := hN 0; omega)
    rw [ht0, ht1, hΦ0, hΦ1]
    unfold Dat.owesAt Pipeline.owesWithin
    rw [hO0, hO1]
    iintro ⟨⟨HP, Hsb⟩, ⟨%W, -, HO⟩, -⟩
    iapply wp_wand $$ [HP Hsb HO]
    · iapply (hbody c t)
      isplitl [HP]; · iexact HP
      isplitl [Hsb]; · iexact Hsb
      iexists W; iexact HO
    iintro %_ ⟨HP, Hss, Hsb, ⟨%W', HO⟩⟩
    isplitl [HP Hss Hsb]
    · isplitl [HP]; · iexact HP
      isplitl [Hss] <;> iassumption
    isplitl [HO]
    · iexists W'
      isplitr; · ipureintro; exact fun _ _ => Or.inl trivial
      iexact HO
    · rw [bigSep_none (hW 0)]; iempintro
  iintro ⟨HP, Hsb, HO⟩ Hk
  iapply (Pipeline.wp_customCall_entry pcs a D () ER (fun _ => 0) hinj 0 defs₀ Variants.none (fun k => (hK 0).elim k) c Set.univ
      (fun w => (hW 0).elim w) hob.loose (fun w => (hW 0).elim w) none (fun u h => nomatch h)
      (X := Pre c) (Y := Post c) (R := scopedBufs (c : Thread nD τ))
      (by unfold Dat.staging; rw [bigSep_none (hW 0)]; iintro H; isplitr; · iempintro
          iexact H)
      (by rw [hΦ0]; iintro ⟨H1, -, H2⟩; isplitl [H1] <;> iassumption)
      (by rw [hΦ1]; iintro ⟨H, -, -⟩; iexact H)) $$ [HP Hsb HO]
  · isplitl [HO]
    · unfold Pipeline.EntryPre Pipeline.PerCore.EntryPre Dat.arrays Pipeline.PerCore.cellsWaits Pipeline.PerCore.cellsInit Pipeline.PerCore.toksInit Pipeline.PerCore.RDat.cellsWaits Pipeline.PerCore.RDat.cellsInit
      rw [bigSep_none (hW 0), bigSep_none (hW 0), bigSep_none (hW 0), bigSep_none (hW 0)]
      isplitr; · iempintro
      isplitl [HO]
      · unfold Dat.owesAt Pipeline.owesWithin
        rw [hO0]
        iexists ∅
        isplitr; · ipureintro; exact fun _ _ => Or.inl trivial
        iexact HO
      isplitr; · iempintro
      isplitr; · iempintro
      iempintro
    isplitr
    · unfold Pipeline.prefHeld; rw [bigSep_none (hK 0)]; iempintro
    isplitl [HP] <;> iassumption
  unfold Pipeline.EntryPost Pipeline.PerCore.EntryPost Dat.owesAt Pipeline.owesWithin
  rw [hO1]
  iintro ⟨⟨-, ⟨%W, -, HO⟩⟩, HP, Hss, -⟩
  iapply Hk $$ [HP HO] [Hss]
  · isplitl [HP]; · iexact HP
    iexists W; iexact HO
  · iexact Hss

variable (X : Plan nD τ sig Val)

include hW hK hN in
/-- A program that is one exchange, from any launch memory: if the devices' arrays deal out as `B`, the body gets every
    device through the exchange from `B` to `fin`, and `fin` shows `q` of the final memory, then the program ends with `q` on
    every device and all semaphores at zero. -/
theorem θ_run_exchange (m : (ℓ : Loc nD τ sig) → Buf Val ℓ) (ρ : Dev nD → PrngReg)
    (main : Dev nD → Prog (TpuEff nD τ sig Val (Pipeline.Sig Λ₀ (Fin 1) fun p => (pcs p).Adm) Proc.tc) PUnit)
    (hmain : ∀ c, main c = .op (.customCall (Pipeline.entry 0) ()) fun _ => .ret ⟨⟩)
    (hinj : Function.Injective (Pipeline.cellOf (nD := nD) (τ := τ) (pin pcs a)))
    (h : AllDma sig) (hscoped : ∀ sm : SemLoc sig, sm.isScoped .tc = true)
    (B fin : Dev nD → sProp 𝕄)
    (hB : (bigSep Finset.univ fun c : Dev nD => unscopedBufs c fun b => m ((c.tc : Thread nD τ).loc b)) ⊢ bigSep Finset.univ B)
    (hbody : ∀ (c : Dev nD) (t : Fin (pin pcs a 0).N),
      iprop(X.St c Finset.univ Finset.univ X.recv X.recv ∗ scopedBufs (c : Thread nD τ) ∗ B c)
        ⊢ wp frame (wpE defs₀ Variants.none (c : Thread nD τ) none) Set.univ
            (defs₀ .tc (pin pcs a 0).body ((pin pcs a 0).bodyArgs t ((pin pcs a 0).slots t)))
            fun _ => iprop((∃ T C, X.St c T ∅ C ∅) ∗ scopedBufs (c : Thread nD τ) ∗ fin c))
    (q : Dev nD → ((ℓ : Loc nD τ sig) → Buf Val ℓ) → Prop)
    (hfin : ∀ c (s' : Phys nD τ sig Val), iprop(fin c ∗ SI s') ⊢ (iprop(⌜q c s'.mem.mem⌝ ∗ SI s') : sProp 𝕄)) :
    θ_run (Pipeline.defs pcs defs₀) (onTc main) ⟨m, fun _ => 0, ρ⟩ (fun r => (∀ c, q c r.2.mem) ∧ r.2.sem = fun _ => 0) := by
  refine θ_run_dealt (Variants.lift Variants.none) m ρ main (fun d => X.owe d X.recv) X.levAt X.G (X.T₀ B)
    (fun c => iprop(fin c ∗ scopedSems0 (c : Thread nD τ))) (ghost₀ nD τ sig) X.fund
    (X.deal h (fun c b => m ((c.tc : Thread nD τ).loc b)) B hB) (fun c => ?_) (fun c s => q c s.mem) (fun c s' => ?_) (fun s hs hz => ?_)
  · rw [hmain c]
    unfold Plan.T₀
    iintro ⟨⟨HS, Hsb, HB⟩, HO⟩
    iapply (wp_region pcs a hW hK hN defs₀ (fun c => iprop(X.S₀ c ∗ B c)) fin (fun d => X.owe d X.recv) hinj (fun c t => by
      iintro ⟨⟨HS, HB⟩, Hsb, HO⟩
      iapply wp_wand $$ [HS HB Hsb HO]
      · iapply (hbody c t)
        isplitl [HS HO]
        · iapply (X.st_start c)
          isplitl [HS] <;> iassumption
        isplitl [Hsb] <;> iassumption
      iintro %_ ⟨⟨%T, %C, HS⟩, Hsb, HF⟩
      ihave HS := (st_done X h c) $$ HS
      icases HS with ⟨Hss, HO⟩
      isplitl [HF]; · iexact HF
      isplitl [Hss]; · iexact Hss
      isplitl [Hsb] <;> iassumption) c) $$ [HS HB Hsb HO]
    · isplitl [HS HB]
      · isplitl [HS] <;> iassumption
      isplitl [Hsb] <;> iassumption
    iintro ⟨HF, HO⟩ Hss
    rw [wp_ret]
    imodintro
    isplitr [HO]
    · isplitl [HF] <;> iassumption
    · iexact HO
  · iintro ⟨⟨HF, Hss⟩, HSI⟩
    ihave %hz := (tcScoped_read_pers c s') $$ [Hss HSI]
    · isplitl [Hss] <;> iassumption
    ihave HF := (hfin c s') $$ [HF HSI]
    · isplitl [HF] <;> iassumption
    icases HF with ⟨%hq, HSI⟩
    imodintro
    isplitr
    · ipureintro; exact ⟨hq, hz⟩
    · iexact HSI
  · refine ⟨hs, funext fun g' => hz g' ?_⟩
    exact Or.inr (hscoped g'.2)

end Cert.Exchange

end
-- ==== Proof.Exchange.Slots.lean ====
/-
Rows of an array along its first axis, as the ends of transfers: which elements such a row is, what reading it gives,
what it holds once a transfer into it has arrived, and dealing the rows of every device's array to other devices.
-/
module

public import proofs.«01_k».proof.Proof.Exchange.Run
public import Idealize.ShloMosaic.Lib.ValueLayout

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

set_option Elab.async false

variable {nD : Nat} {τ : Topo} {sig : RefSig} {Val : EltTy → Type}

local notation "𝕄" => MT nD τ sig Unit Val ℕ (UR sig nD τ) ℕ

/-! ## The transferred data where it arrives -/

/-- Once written, a view's elements are any contents that read there as what was written. -/
theorem pts_arrived {sp : Space} {s : Shape} {e : EltTy} (v : View sig .tc sp s e) (c : Dev nD) {q : PosShare TreeShare}
    {out fd : Buf Val (v.loc (c : Thread nD τ))} {w : s.Idx → Val e} (h : v.read Val out = w) :
    (v.loc (c : Thread nD τ) ↦[v.set]{q} v.write Val fd w Finset.univ : sProp 𝕄) = (v.loc (c : Thread nD τ) ↦[v.set]{q} out) := by
  subst h
  refine pointsTo_congr fun i hi => ?_
  obtain ⟨x, -, rfl⟩ := Finset.mem_map.mp hi
  rw [View.write_emb_of_mem _ _ (Finset.mem_univ x), View.read_apply, cast_cast, cast_eq]

/-! ## Rows along the first axis -/

section Rows

variable {n a b : ℕ} {sp : Space} {e : EltTy} (M : Memref sig .tc sp ⟨3, ![n, a, b]⟩ e)

/-- Where row `k`'s elements are in the array's buffer. -/
def rowEmb (k : Fin n) : (⟨2, ![a, b]⟩ : Shape).Idx ↪ M.view.ty.Idx where
  toFun y := M.view.emb (ix3 k (y 0) (y 1))
  inj' y y' h := by
    have h := M.view.emb.injective h
    rw [eq_ix2 y, eq_ix2 y']
    exact congrArg₂ ix2 (congrFun h 1) (congrFun h 2)

/-- Row `k`'s elements. -/
def rowSet (k : Fin n) : Finset M.view.ty.Idx := Finset.univ.map (rowEmb M k)

theorem rowSet_disjoint {k k' : Fin n} (h : k ≠ k') : Disjoint (rowSet M k) (rowSet M k') := by
  rw [Finset.disjoint_left]
  intro i hi hi'
  obtain ⟨y, -, rfl⟩ := Finset.mem_map.mp hi
  obtain ⟨y', -, hy⟩ := Finset.mem_map.mp hi'
  exact h (congrFun (M.view.emb.injective hy) 0).symm

theorem rowSet_cover (hM : M.view.set = Finset.univ) : Finset.univ.biUnion (rowSet M) = Finset.univ := by
  ext i
  simp only [Finset.mem_biUnion, Finset.mem_univ, true_and, iff_true]
  have hi : i ∈ M.view.set := hM ▸ Finset.mem_univ i
  obtain ⟨x, -, rfl⟩ := Finset.mem_map.mp hi
  refine ⟨x 0, Finset.mem_map.mpr ⟨ix2 (x 1) (x 2), Finset.mem_univ _, ?_⟩⟩
  exact congrArg M.view.emb (eq_ix3 x).symm

variable {k : Fin n} {off : Fin 3 → ℕ} (h : off = ![k.val, 0, 0])
  (inb : ∀ d, off d + (![1, a, b] : Fin 3 → ℕ) d ≤ (⟨3, ![n, a, b]⟩ : Shape).size d)
  (hr : ∀ d, (Rect.unit (s := ⟨3, ![n, a, b]⟩) off ![1, a, b] inb).stride d = 1)
  (hq : (⟨3, ![1, a, b]⟩ : Shape).Squeezes ⟨2, ![a, b]⟩)

/-- The row as the kernel forms it: a one-row slice, the unit axis dropped. -/
abbrev rowView : Memref sig .tc sp ⟨2, ![a, b]⟩ e :=
  (M.slice (Rect.unit (s := ⟨3, ![n, a, b]⟩) off ![1, a, b] inb) hr).squeeze ⟨2, ![a, b]⟩ hq

include h in
theorem rowView_emb (y : (⟨2, ![a, b]⟩ : Shape).Idx) : (rowView M inb hr hq).view.emb y = M.view.emb (ix3 k (y 0) (y 1)) := by
  subst h
  obtain ⟨x, z, rfl⟩ : ∃ (x : Fin a) (z : Fin b), y = ix2 x z := ⟨y 0, y 1, eq_ix2 y⟩
  have e1 : (rowView M inb hr hq).view.emb (ix2 x z)
      = M.view.emb ((Rect.unit (s := ⟨3, ![n, a, b]⟩) ![k.val, 0, 0] ![1, a, b] inb).emb (Shape.reshapeEquiv hq.numel_eq (ix2 x z))) := rfl
  rw [e1]
  refine congrArg M.view.emb ?_
  rw [reshapeEquiv_ix2_1ab]
  funext d
  apply Fin.ext
  rw [Rect.emb_apply]
  match d with
  | ⟨0, _⟩ => show k.val + 1 * 0 = k.val; omega
  | ⟨1, _⟩ => show 0 + 1 * x.val = x.val; omega
  | ⟨2, _⟩ => show 0 + 1 * z.val = z.val; omega

include h in
theorem rowView_set : (rowView M inb hr hq).view.set = rowSet M k := by
  ext i
  simp only [View.set, rowSet, Finset.mem_map, Finset.mem_univ, true_and]
  exact ⟨fun ⟨y, hy⟩ => ⟨y, (rowView_emb M h inb hr hq y).symm.trans hy⟩, fun ⟨y, hy⟩ => ⟨y, (rowView_emb M h inb hr hq y).trans hy⟩⟩

include h in
theorem rowView_read (f : M.view.ty.Contents Val) (x : Fin a) (y : Fin b) :
    (rowView M inb hr hq).view.read Val f (ix2 x y) = M.view.read Val f (ix3 k x y) := by
  rw [View.read_apply, rowView_emb M h inb hr hq]; rfl

include h in
/-- A row written by a transfer is any contents that read there as what the transfer read. -/
theorem row_arrived (c : Dev nD) {q : PosShare TreeShare} {out fd : Buf Val (M.view.loc (c : Thread nD τ))} {w : (⟨2, ![a, b]⟩ : Shape).Idx → Val e}
    (hv : ∀ x y, M.view.read Val out (ix3 k x y) = w (ix2 x y)) :
    ((rowView M inb hr hq).view.loc (c : Thread nD τ) ↦[(rowView M inb hr hq).view.set]{q} (rowView M inb hr hq).view.write Val fd w Finset.univ : sProp 𝕄)
      = (M.view.loc (c : Thread nD τ) ↦[rowSet M k]{q} out) := by
  rw [pts_arrived (rowView M inb hr hq).view c (out := out) (funext fun z =>
    (congrArg _ (eq_ix2 z)).trans ((rowView_read M h inb hr hq _ (z 0) (z 1)).trans ((hv _ _).trans (congrArg w (eq_ix2 z).symm))))]
  exact congrArg (fun I => (M.view.loc (c : Thread nD τ) ↦[I]{q} out : sProp 𝕄)) (rowView_set M h inb hr hq)

end Rows

/-- Two leading coordinates fixed: the part as the kernel forms it, a slice with its two unit axes dropped. -/
abbrev partView {n n' a b : ℕ} {sp : Space} {e : EltTy} (M : Memref sig .tc sp ⟨4, ![n, n', a, b]⟩ e) {off : Fin 4 → ℕ}
    (inb : ∀ d, off d + (![1, 1, a, b] : Fin 4 → ℕ) d ≤ (⟨4, ![n, n', a, b]⟩ : Shape).size d)
    (hr : ∀ d, (Rect.unit (s := ⟨4, ![n, n', a, b]⟩) off ![1, 1, a, b] inb).stride d = 1)
    (hq : (⟨4, ![1, 1, a, b]⟩ : Shape).Squeezes ⟨2, ![a, b]⟩) : Memref sig .tc sp ⟨2, ![a, b]⟩ e :=
  (M.slice (Rect.unit (s := ⟨4, ![n, n', a, b]⟩) off ![1, 1, a, b] inb) hr).squeeze ⟨2, ![a, b]⟩ hq

theorem partView_read {n n' a b : ℕ} {sp : Space} {e : EltTy} (M : Memref sig .tc sp ⟨4, ![n, n', a, b]⟩ e) {i : Fin n} {k : Fin n'}
    {off : Fin 4 → ℕ} (h : off = ![i.val, k.val, 0, 0])
    (inb : ∀ d, off d + (![1, 1, a, b] : Fin 4 → ℕ) d ≤ (⟨4, ![n, n', a, b]⟩ : Shape).size d)
    (hr : ∀ d, (Rect.unit (s := ⟨4, ![n, n', a, b]⟩) off ![1, 1, a, b] inb).stride d = 1)
    (hq : (⟨4, ![1, 1, a, b]⟩ : Shape).Squeezes ⟨2, ![a, b]⟩) (f : M.view.ty.Contents Val) (x : Fin a) (y : Fin b) :
    (partView M inb hr hq).view.read Val f (ix2 x y) = M.view.read Val f (ix4 i k x y) := by
  subst h
  have e1 : (partView M inb hr hq).view.emb (ix2 x y)
      = M.view.emb ((Rect.unit (s := ⟨4, ![n, n', a, b]⟩) ![i.val, k.val, 0, 0] ![1, 1, a, b] inb).emb (Shape.reshapeEquiv hq.numel_eq (ix2 x y))) := rfl
  have e2 : (partView M inb hr hq).view.emb (ix2 x y) = M.view.emb (ix4 i k x y) := by
    rw [e1]
    refine congrArg M.view.emb ?_
    rw [reshapeEquiv_ix2_11ab]
    funext d
    apply Fin.ext
    rw [Rect.emb_apply]
    match d with
    | ⟨0, _⟩ => show i.val + 1 * 0 = i.val; omega
    | ⟨1, _⟩ => show k.val + 1 * 0 = k.val; omega
    | ⟨2, _⟩ => show 0 + 1 * x.val = x.val; omega
    | ⟨3, _⟩ => show 0 + 1 * y.val = y.val; omega
  rw [View.read_apply, e2]; rfl

/-! ## Dealing every device's rows to others -/

/-- What each device holds of each index, dealt out again with a rearrangement of the devices per index. -/
theorem deal_again {K : Type} [Fintype K] (r : K → Dev nD ≃ Dev nD) (Φ : Dev nD → K → sProp 𝕄) :
    (bigSep Finset.univ fun c => bigSep Finset.univ fun k => Φ c k) = bigSep Finset.univ fun c => bigSep Finset.univ fun k => Φ (r k c) k := by
  rw [BI.bigSep_univ_comm, BI.bigSep_univ_comm (fun c k => Φ (r k c) k)]
  exact congrArg _ (funext fun k => bigSep_univ_equiv (r k) fun c => Φ c k)

/-! ## Eight devices -/

/-- The device whose number differs from a device's in the bits of `k`. -/
def across (k : Fin 8) : Dev 8 ≃ Dev 8 where
  toFun c := c ^^^ k
  invFun c := c ^^^ k
  left_inv := by revert k; decide
  right_inv := by revert k; decide

theorem across_across (k : Fin 8) (c : Dev 8) : across k (across k c) = c := (across k).left_inv c

theorem across_zero (c : Dev 8) : across 0 c = c := by revert c; decide

/-- The rows as numbered from a device: row `k` is that of the device that differs in the bits of `k`. -/
def rowFrom (c : Dev 8) : Fin 8 ≃ Fin 8 where
  toFun k := across k c
  invFun k := across k c
  left_inv := by revert c; decide
  right_inv := by revert c; decide

/-- Where each device holds one row for every device: dealt out so that each device holds, of every device, its own row. -/
theorem rows_dealt (Φ : Dev 8 → Fin 8 → sProp 𝕄) :
    (bigSep Finset.univ fun c => bigSep Finset.univ fun r => Φ c r) = bigSep Finset.univ fun c => bigSep Finset.univ fun k => Φ (across k c) c := by
  have e : ∀ c, bigSep Finset.univ (fun r => Φ c r) = bigSep Finset.univ fun k => Φ c (across k c) := fun c => bigSep_univ_equiv (rowFrom c) (Φ c)
  simp only [e]
  rw [BI.bigSep_univ_comm, BI.bigSep_univ_comm (fun c k => Φ (across k c) c)]
  refine congrArg _ (funext fun k => (bigSep_univ_equiv (across k) fun c => Φ c (across k c)).trans ?_)
  simp only [across_across]

/-- A device's unscoped buffers, listed. -/
theorem unscoped_list (c : Dev nD) (V : (b : Ref sig .tc) → Buf Val ((c.tc : Thread nD τ).loc b)) (l : List (Ref sig .tc))
    (h : (Finset.univ.filter fun b : Ref sig .tc => ¬ b.isScoped) = l.toFinset) (hl : l.Nodup) :
    (unscopedBufs c V : sProp 𝕄) = bigSepL l fun b => ((c.tc : Thread nD τ).loc b) ↦{fullShare} V b := by
  unfold unscopedBufs; exact bigSep_eq_bigSepL_of_eq l h hl _

end Cert.Exchange

end
-- ==== Proof.Exchange.Steps.lean ====
/-
The steps of an exchange whose destinations are rows: starting a transfer into a row of another device's array or of the
device's own, and waiting for one. Semaphores and devices are named by the plan; the kernel's own expressions for them are
arguments with equations.
-/
module

public import proofs.«01_k».proof.Proof.Exchange.Slots

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

set_option Elab.async false

variable {nD : Nat} {τ : Topo} {sig : RefSig} {Val : EltTy → Type}

local notation "𝕄" => MT nD τ sig Unit Val ℕ (UR sig nD τ) ℕ

variable (X : Plan nD τ sig Val) {Λ : Labels} {defs : Defs nD τ sig Val Λ} (𝒱 : Variants) (c : Dev nD) {α : Type} {sp sp' : Space} {e : EltTy}

/-- The set of the numbers below `n` that are the positions of the ones in `w`. -/
def bits (n w : ℕ) : Finset (Fin n) := Finset.univ.filter fun i => w.testBit i.val = true

/-- One semaphore of an array of consecutive ones. -/
theorem sem_at {n N base : ℕ} (hb : base + (⟨1, ![n]⟩ : Shape).numel ≤ N) {off : Fin 1 → ℕ} (k : Fin n) (h : off = ![k.val])
    (inb : ∀ d, off d + (![1] : Fin 1 → ℕ) d ≤ (⟨1, ![n]⟩ : Shape).size d) (hq : (⟨1, ![1]⟩ : Shape).Squeezes ⟨0, ![]⟩) (hk : base + k.val < N) :
    (((SemArray.consecutive base ⟨1, ![n]⟩ hb).slice (Rect.unit (s := ⟨1, ![n]⟩) off ![1] inb)).squeeze ⟨0, ![]⟩ hq).sem = ⟨base + k.val, hk⟩ := by
  subst h
  apply Fin.ext
  show base + ((⟨1, ![n]⟩ : Shape).rowMajor ((Rect.unit (s := ⟨1, ![n]⟩) ![k.val] ![1] inb).emb _)).val = base + k.val
  rw [Shape.rowMajor_val_one, Rect.emb_apply]
  have h1 : ∀ z : Fin 1, k.val + 1 * z.val = k.val := fun z => by omega
  exact congrArg (base + ·) (h1 _)

/-- The one semaphore of an array of a single one. -/
theorem sem_alone {N base : ℕ} (hb : base + (⟨0, ![]⟩ : Shape).numel ≤ N) (hk : base < N) :
    (SemArray.consecutive base ⟨0, ![]⟩ hb).sem = ⟨base, hk⟩ := by
  apply Fin.ext
  show base + ((⟨0, ![]⟩ : Shape).rowMajor _).val = base
  have h : ∀ z : Fin (⟨0, ![]⟩ : Shape).numel, z.val < 1 := fun z => z.isLt
  have h1 := h ((⟨0, ![]⟩ : Shape).rowMajor fun d => d.elim0)
  omega

/-- A row held, as the view the kernel forms of it. -/
theorem row_held {N a b : ℕ} (M : Memref sig .tc sp' ⟨3, ![N, a, b]⟩ e) {k : Fin N} {off : Fin 3 → ℕ} (h : off = ![k.val, 0, 0])
    (inb : ∀ d, off d + (![1, a, b] : Fin 3 → ℕ) d ≤ (⟨3, ![N, a, b]⟩ : Shape).size d)
    (hr : ∀ d, (Rect.unit (s := ⟨3, ![N, a, b]⟩) off ![1, a, b] inb).stride d = 1)
    (hq : (⟨3, ![1, a, b]⟩ : Shape).Squeezes ⟨2, ![a, b]⟩) {q : PosShare TreeShare} (f : Buf Val (M.view.loc (c : Thread nD τ))) :
    (M.view.loc (c : Thread nD τ) ↦[rowSet M k]{q} f : sProp 𝕄)
      = ((rowView M inb hr hq).view.loc (c : Thread nD τ) ↦[(rowView M inb hr hq).view.set]{q} f) :=
  congrArg (fun I => (M.view.loc (c : Thread nD τ) ↦[I]{q} f : sProp 𝕄)) (rowView_set M h inb hr hq).symm

/-- Starting a transfer into row `k` of another device's array. -/
theorem wp_put_row (T A C S T' C' S' : Finset (DmaSem sig)) {ss' sr' : DmaSem sig} (ss sr : DmaSem sig) (hss : ss' = ss) (hsr : sr' = sr)
    {n : Dev nD} (hn : n = X.peer sr c) (hs : X.peer ss c = c)
    {N a b : ℕ} (M : Memref sig .tc sp' ⟨3, ![N, a, b]⟩ e) (k : Fin N) {off : Fin 3 → ℕ} (h : off = ![k.val, 0, 0])
    {inb : ∀ d, off d + (![1, a, b] : Fin 3 → ℕ) d ≤ (⟨3, ![N, a, b]⟩ : Shape).size d}
    {hr : ∀ d, (Rect.unit (s := ⟨3, ![N, a, b]⟩) off ![1, a, b] inb).stride d = 1}
    {hq : (⟨3, ![1, a, b]⟩ : Shape).Squeezes ⟨2, ![a, b]⟩}
    {src : Memref sig .tc sp ⟨2, ![a, b]⟩ e} {hsc : (rowView M inb hr hq).view.ref.isScScratch = false}
    {hsrc : src.view.WordExact} {hdst : (rowView M inb hr hq).view.WordExact}
    {hsem : DmaTarget.Typed sp (.dma sr') (.remote (n.tc : Thread nD τ) (rowView M inb hr hq) (.dma ss') hsc)}
    {K : PUnit → Prog (TpuEff nD τ sig Val Λ .tc) α} {Q : α → sProp 𝕄}
    {I : Finset (Idx (src.view.loc (c : Thread nD τ)))} (hI : src.view.set ⊆ I)
    {fs : Buf Val (src.view.loc (c : Thread nD τ))} {fd out : Buf Val (M.view.loc ((X.peer sr c : Dev nD) : Thread nD τ))}
    (h1 : X.amt ss = (rowView M inb hr hq).view.dmaCredit) (h2 : X.amt sr = (rowView M inb hr hq).view.dmaCredit)
    (h0 : 0 < (⟨2, ![a, b]⟩ : Shape).numel)
    (hTs : ss ∈ T) (hTr : sr ∈ T.erase ss) (hC : ss ∉ C) (hS : sr ∈ S)
    (hT' : (T.erase ss).erase sr = T') (hC' : insert ss C = C') (hS' : S.erase sr = S')
    (hp1 : X.pay c ss = iprop(emp))
    (hp2 : X.pay (X.peer sr c) sr = (M.view.loc ((X.peer sr c : Dev nD) : Thread nD τ) ↦[rowSet M k]{fullShare} out))
    (hv : ∀ x y, M.view.read Val out (ix3 k x y) = src.view.read Val fs (ix2 x y))
    (hR : ∀ n : Dev nD, τ.routes (c : Thread nD τ) (n : Thread nD τ) = true := by routes) :
    iprop(X.St c T A C S ∗ held (src.view.loc (c : Thread nD τ)) I fs
        ∗ (M.view.loc ((X.peer sr c : Dev nD) : Thread nD τ) ↦[rowSet M k]{fullShare} fd))
      ⊢ iprop(((X.St c T' A C' S' ∗ held (src.view.loc (c : Thread nD τ)) I fs)
            -∗ wp frame (wpE defs 𝒱 (c : Thread nD τ) none) Set.univ (K ⟨⟩) Q)
          -∗ wp frame (wpE defs 𝒱 (c : Thread nD τ) none) Set.univ
              (.op (.enqueueDma src (.remote (n.tc : Thread nD τ) (rowView M inb hr hq) (.dma ss') hsc) (.dma sr') hsrc hdst hsem) K) Q) := by
  subst hn hss hsr hT' hC' hS'
  rw [row_held (X.peer sr' c) M h inb hr hq fd]
  refine wp_put X 𝒱 c ss' sr' rfl hs (dst := rowView M inb hr hq) hI (fd := fd) h1 h2 (View.dmaCredit_pos _ h0) hTs hTr hC hS (by rw [hp1]) ?_ (hR _)
  rw [hp2, row_arrived M h inb hr hq (X.peer sr' c) (out := out) hv]

/-- Starting a transfer into row `k` of the device's own array. -/
theorem wp_local_row (T A C S T' C' : Finset (DmaSem sig)) {sl' : DmaSem sig} (sl : DmaSem sig) (hsl : sl' = sl) (hs : X.peer sl c = c)
    {N a b : ℕ} (M : Memref sig .tc sp' ⟨3, ![N, a, b]⟩ e) (k : Fin N) {off : Fin 3 → ℕ} (h : off = ![k.val, 0, 0])
    {inb : ∀ d, off d + (![1, a, b] : Fin 3 → ℕ) d ≤ (⟨3, ![N, a, b]⟩ : Shape).size d}
    {hr : ∀ d, (Rect.unit (s := ⟨3, ![N, a, b]⟩) off ![1, a, b] inb).stride d = 1}
    {hq : (⟨3, ![1, a, b]⟩ : Shape).Squeezes ⟨2, ![a, b]⟩}
    {src : Memref sig .tc sp ⟨2, ![a, b]⟩ e}
    {hsrc : src.view.WordExact} {hdst : (rowView M inb hr hq).view.WordExact}
    {hsem : DmaTarget.Typed (nD := nD) (τ := τ) (p := .tc) sp (.dma sl') (.here (rowView M inb hr hq))}
    {K : PUnit → Prog (TpuEff nD τ sig Val Λ .tc) α} {Q : α → sProp 𝕄}
    {I : Finset (Idx (src.view.loc (c : Thread nD τ)))} (hI : src.view.set ⊆ I)
    {fs : Buf Val (src.view.loc (c : Thread nD τ))} {fd out : Buf Val (M.view.loc (c : Thread nD τ))}
    (h1 : X.amt sl = (rowView M inb hr hq).view.dmaCredit) (h0 : 0 < (⟨2, ![a, b]⟩ : Shape).numel)
    (hT : sl ∈ T) (hC : sl ∉ C) (hT' : T.erase sl = T') (hC' : insert sl C = C')
    (hp : X.pay c sl = (M.view.loc (c : Thread nD τ) ↦[rowSet M k]{fullShare} out))
    (hv : ∀ x y, M.view.read Val out (ix3 k x y) = src.view.read Val fs (ix2 x y)) :
    iprop(X.St c T A C S ∗ held (src.view.loc (c : Thread nD τ)) I fs ∗ (M.view.loc (c : Thread nD τ) ↦[rowSet M k]{fullShare} fd))
      ⊢ iprop(((X.St c T' A C' S ∗ held (src.view.loc (c : Thread nD τ)) I fs)
            -∗ wp frame (wpE defs 𝒱 (c : Thread nD τ) none) Set.univ (K ⟨⟩) Q)
          -∗ wp frame (wpE defs 𝒱 (c : Thread nD τ) none) Set.univ
              (.op (.enqueueDma src (.here (rowView M inb hr hq)) (.dma sl') hsrc hdst hsem) K) Q) := by
  subst hsl hT' hC'
  rw [row_held c M h inb hr hq fd]
  refine wp_local X 𝒱 c sl' hs (dst := rowView M inb hr hq) hI (fd := fd) h1 (View.dmaCredit_pos _ h0) hT hC ?_
  rw [hp, row_arrived M h inb hr hq c (out := out) hv]

/-- Waiting for a transfer: what its arrival hands over is received. -/
theorem wp_wait (T A C S A' C' : Finset (DmaSem sig)) {q' : DmaSem sig} (q : DmaSem sig) (hq : q' = q)
    {s s' : Shape} {e' : EltTy} {src : Memref sig .tc sp s' e'} {dst : Memref sig .tc sp' s e} {hsrc : src.view.WordExact} {hdst : dst.view.WordExact}
    {K : PUnit → Prog (TpuEff nD τ sig Val Λ .tc) α} {Q : α → sProp 𝕄}
    (hn : X.amt q = dst.view.dmaCredit) (h0 : 0 < s.numel) (hA : q ∈ A) (hC : q ∈ C) (hl : ∀ s ∈ S, X.lev q < X.lev s)
    (hA' : A.erase q = A') (hC' : C.erase q = C') {P : sProp 𝕄} (hP : X.pay c q = P) :
    (X.St c T A C S)
      ⊢ iprop(((X.St c T A' C' S ∗ P)
            -∗ wp frame (wpE defs 𝒱 (c : Thread nD τ) none) Set.univ (K ⟨⟩) Q)
          -∗ wp frame (wpE defs 𝒱 (c : Thread nD τ) none) Set.univ (.op (.waitDma2 q' src dst hsrc hdst) K) Q) := by
  subst hq hA' hC' hP
  exact wp_take X 𝒱 c q' (wpE_waitDma2_eq 𝒱 (c : Thread nD τ) none Set.univ) hn (View.dmaCredit_pos _ h0) hA hC hl

end Cert.Exchange

end
-- ==== Proof.Exchange.Gather.lean ====
/-
The gathering of every device's array: each device sends its array to the other core of its chip and to the same core of the three other
chips, and passes on to the other core of its chip the three arrays that reach it from the other chips.
-/
module

public import proofs.«01_k».proof.Proof.Exchange.Steps
public import proofs.«01_k».proof.Proof.Gen.GatherIdeal.Skeleton
public import proofs.«01_k».proof.Proof.Gen.GatherIdeal.Launch
public import Idealize.ShloMosaic.Lib.Ring

@[expose] public section

noncomputable section

namespace Cert.GatherIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks)
open Cert.Exchange Cert.GatherIdeal.Gen

set_option Elab.async false

variable {F : FTy → Type} [FloatOps F]

local notation "𝕄" => MT nD τ sig Unit (Elt F) ℕ (UR sig nD τ) ℕ

/-! ## Who exchanges with whom -/

theorem dev1_eq (c : Dev nD) : (⟨k0_dev1 c, k0_dev1_lt c⟩ : Dev nD) = across 1 c := by revert c; decide +kernel
theorem dev2_eq (c : Dev nD) : (⟨k0_dev2 c, k0_dev2_lt c⟩ : Dev nD) = across 4 c := by revert c; decide +kernel
theorem dev3_eq (c : Dev nD) : (⟨k0_dev3 c, k0_dev3_lt c⟩ : Dev nD) = across 2 c := by revert c; decide +kernel
theorem dev4_eq (c : Dev nD) : (⟨k0_dev4 c, k0_dev4_lt c⟩ : Dev nD) = across 6 c := by revert c; decide +kernel
theorem dev5_eq (c : Dev nD) : (⟨k0_dev5 c, k0_dev5_lt c⟩ : Dev nD) = across 1 c := by revert c; decide +kernel
theorem dev6_eq (c : Dev nD) : (⟨k0_dev6 c, k0_dev6_lt c⟩ : Dev nD) = across 1 c := by revert c; decide +kernel
theorem dev7_eq (c : Dev nD) : (⟨k0_dev7 c, k0_dev7_lt c⟩ : Dev nD) = across 1 c := by revert c; decide +kernel
theorem off1_eq (c : Dev nD) : k0_off1 c = ![c.val, 0, 0] := by revert c; decide +kernel
theorem off2_eq (c : Dev nD) : k0_off2 c = ![(across 4 c).val, 0, 0] := by revert c; decide +kernel
theorem off3_eq (c : Dev nD) : k0_off3 c = ![(across 2 c).val, 0, 0] := by revert c; decide +kernel
theorem off4_eq (c : Dev nD) : k0_off4 c = ![(across 6 c).val, 0, 0] := by revert c; decide +kernel
theorem off5_eq (c : Dev nD) : k0_off5 c = ![(across 1 c).val, 0, 0] := by revert c; decide +kernel
theorem off6_eq (c : Dev nD) : k0_off6 c = ![(across 5 c).val, 0, 0] := by revert c; decide +kernel
theorem off7_eq (c : Dev nD) : k0_off7 c = ![(across 3 c).val, 0, 0] := by revert c; decide +kernel
theorem off8_eq (c : Dev nD) : k0_off8 c = ![(across 7 c).val, 0, 0] := by revert c; decide +kernel

/-! ## What is exchanged -/

variable (m : (ℓ : Loc nD τ sig) → Buf (Elt F) ℓ)

/-- What every device's result holds at the end: row `d` is device `d`'s array. -/
def out (c : Dev nD) : Buf (Elt F) ((c : Thread nD τ).loc main_v1) := fun i : S8x16000x128.Idx =>
  (m (((show Dev nD from i 0) : Thread nD τ).loc main_arg0) : S16000x128.Idx → Elt F .bf16) (ix2 (i 1) (i 2))

/-- The result array. -/
abbrev res : Memref sig .tc .hbm S8x16000x128 .bf16 := Memref.whole main_v1

/-- The credit of one row. -/
def credit : ℕ := sig.dmaCredit .tc .hbm (0 : Fin 2) S16000x128 .bf16

/-- Row `r` of device `c`'s result, arrived. -/
def rowAt (c : Dev nD) (r : Fin 8) : sProp 𝕄 := (c : Thread nD τ).loc main_v1 ↦[rowSet res r]{fullShare} out m c

/-- In which bits the device whose row a semaphore says has arrived differs from the device that waits for it. -/
def nth (s : Fin 15) : Fin 8 := (![0, 0, 0, 0, 0, 0, 0, 1, 4, 2, 6, 5, 3, 7, 0] : Fin 15 → Fin 8) s

/-- In which bits the device that sends that row differs from the device that waits for it. -/
def sender (s : Fin 15) : Fin 8 := (![0, 0, 0, 0, 0, 0, 0, 1, 4, 2, 6, 1, 1, 1, 0] : Fin 15 → Fin 8) s

/-- The rows that come by way of the other core are waited for after those that come directly. -/
def level (s : Fin 15) : ℕ := if s.val < 11 then 0 else 1

/-- The plan. Semaphores 0 to 6 say that a row has been sent, 7 to 13 that one has arrived, 14 that the device's own has been copied. -/
def plan : Plan nD τ sig (Elt F) where
  amt _ := credit
  pay c s := (if s.val < 7 then iprop(emp) else rowAt m c (across (nth s) c) : sProp 𝕄)
  peer s := (if s.val < 7 then Equiv.refl _ else if s.val = 14 then Equiv.refl _ else across (sender s) : Dev nD ≃ Dev nD)
  recv := bits 15 16256
  lev s := level s
  storable c s := by
    have hA : ∀ k, BI.Storable (upEmb : UEmb _ 𝕄) (rowAt m c k) := fun k => by unfold rowAt; infer_instance
    have hE : BI.Storable (upEmb : UEmb _ 𝕄) (iprop(emp) : sProp 𝕄) := inferInstance
    beta_reduce
    split_ifs
    · exact hE
    · exact hA _

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Row `r` of device `d`'s result, not yet filled. -/
abbrev blank (d : Dev nD) (r : Fin 8) : sProp 𝕄 := (d : Thread nD τ).loc main_v1 ↦[rowSet res r]{fullShare} m ((d : Thread nD τ).loc main_v1)

/-- To which device each of the eight rows that a device fills belongs, and which row it is. -/
def filled (c : Dev nD) (k : Fin 8) : Dev nD := across ((![0, 1, 2, 1, 4, 1, 6, 1] : Fin 8 → Fin 8) k) c
def filledRow (c : Dev nD) (k : Fin 8) : Fin 8 := (![c, c, c, across 2 c, c, across 4 c, c, across 6 c] : Fin 8 → Dev nD) k

theorem filled_row (c : Dev nD) (k : Fin 8) : across k (filled c k) = filledRow c k := by revert c k; decide

/-- What a device starts with: its own array, and the eight rows that it is to fill: its own row of its own result, of the other core's
    and of those on the other chips, and the three rows that it passes on to the other core. -/
def start (c : Dev nD) : sProp 𝕄 :=
  iprop(((c : Thread nD τ).loc main_arg0 ↦{fullShare} m ((c : Thread nD τ).loc main_arg0))
    ∗ blank m c c ∗ blank m (across 1 c) c ∗ blank m (across 2 c) c ∗ blank m (across 1 c) (across 2 c)
    ∗ blank m (across 4 c) c ∗ blank m (across 1 c) (across 4 c) ∗ blank m (across 6 c) c ∗ blank m (across 1 c) (across 6 c))

/-- What a device ends with: its own array as it was, and every row of its result. -/
def finish (c : Dev nD) : sProp 𝕄 :=
  iprop(held ((c : Thread nD τ).loc main_arg0) Finset.univ (m ((c : Thread nD τ).loc main_arg0))
    ∗ bigSep Finset.univ fun k : Fin 8 => held ((c : Thread nD τ).loc main_v1) (rowSet res (across k c)) (out m c))

theorem rows (c : Dev nD) (f : Buf (Elt F) ((c : Thread nD τ).loc main_v1)) :
    ((c : Thread nD τ).loc main_v1 ↦{fullShare} f : sProp 𝕄)
      = bigSep Finset.univ fun r : Fin 8 => ((c : Thread nD τ).loc main_v1) ↦[rowSet res r]{fullShare} f :=
  pointsTo_blocks (ℓ := (c : Thread nD τ).loc main_v1) (rowSet res) (fun _ _ h => rowSet_disjoint res h) (rowSet_cover res (View.set_whole _)) f

theorem start_deal : (bigSep Finset.univ fun c : Dev nD => unscopedBufs c fun b => m ((c.tc : Thread nD τ).loc b)) ⊢ bigSep Finset.univ (start m) := by
  have e : ∀ c : Dev nD, (unscopedBufs c (fun b => m ((c.tc : Thread nD τ).loc b)) : sProp 𝕄)
      = iprop(((c : Thread nD τ).loc main_arg0 ↦{fullShare} m ((c : Thread nD τ).loc main_arg0))
        ∗ bigSep Finset.univ fun k : Fin 8 => blank m c (across k c)) := fun c => by
    rw [unscoped_list c _ [main_arg0, main_v1] (by decide) (by decide)]
    refine Eq.trans ?_ (congrArg (fun P : sProp 𝕄 => iprop(((c : Thread nD τ).loc main_arg0 ↦{fullShare} m ((c : Thread nD τ).loc main_arg0)) ∗ P))
      ((rows c (m ((c : Thread nD τ).loc main_v1))).trans (bigSep_univ_equiv (rowFrom c) fun r => blank m c r)))
    rfl
  have e' : ∀ c : Dev nD, start m c
      = iprop(((c : Thread nD τ).loc main_arg0 ↦{fullShare} m ((c : Thread nD τ).loc main_arg0))
        ∗ bigSep Finset.univ fun k : Fin 8 => blank m (filled c k) (across k (filled c k))) := fun c => by
    rw [eight]
    simp only [filled_row]
    show _ = iprop(_ ∗ blank m (across 0 c) c ∗ _)
    rw [across_zero]
    rfl
  simp only [e, show start m = fun c => _ from funext e']
  rw [bigSep_sep', bigSep_sep', deal_again fun k => across ((![0, 1, 2, 1, 4, 1, 6, 1] : Fin 8 → Fin 8) k)]
  exact Entails.rfl

/-- A row of the result, as the kernel forms it. -/
abbrev rowOf {off : Fin 3 → ℕ} (inb : ∀ d, off d + S1x16000x128.size d ≤ S8x16000x128.size d) : Memref sig .tc .hbm S16000x128 .bf16 :=
  rowView res (off := off) inb (fun _ => rfl) squeezes_S1x16000x128_S16000x128

/-- Its transfers are of whole words. -/
theorem whole_words {off : Fin 3 → ℕ} (inb : ∀ d, off d + S1x16000x128.size d ≤ S8x16000x128.size d)
    (h : (Rect.unit (s := S8x16000x128) off S1x16000x128.size inb).WholeWords (EltTy.packing .bf16)) : (rowOf inb).view.WordExact :=
  ((Memref.isWhole_whole main_v1).wordExact_slice rfl _ h).reshape _ _

/-- What device `c` sends to any device is what row `c` of that device's result is to hold. -/
theorem sent (c d : Dev nD) (x : Fin 16000) (y : Fin 128) :
    res.view.read (Elt F) (out m d) (ix3 (c : Fin 8) x y)
      = (Memref.whole main_arg0).view.read (Elt F) (m ((c : Thread nD τ).loc main_arg0)) (ix2 x y) := rfl

/-- What a device passes on, a row of its own result, is what the same row of any other device's result is to hold. -/
theorem passed (c d : Dev nD) (r : Fin 8) {off : Fin 3 → ℕ} (h : off = ![r.val, 0, 0])
    (inb : ∀ d, off d + S1x16000x128.size d ≤ S8x16000x128.size d) (x : Fin 16000) (y : Fin 128) :
    res.view.read (Elt F) (out m d) (ix3 r x y) = (rowOf inb).view.read (Elt F) (out m c) (ix2 x y) :=
  (rowView_read res h inb (fun _ => rfl) squeezes_S1x16000x128_S16000x128 (out m c) x y).symm

/-- What a device is to receive by a semaphore, its row named by the device that fills it. -/
theorem dealt (s : Fin 15) (r : Fin 8) (d : Dev nD) (h7 : ¬ s.val < 7) (h : across (nth s) d = r) :
    (plan m).pay d s = ((d : Thread nD τ).loc main_v1 ↦[rowSet res r]{fullShare} out m d) := by
  subst h
  exact if_neg h7

theorem own (c : Dev nD) : (plan m).pay c 14 = ((c : Thread nD τ).loc main_v1 ↦[rowSet res (c : Fin 8)]{fullShare} out m c) := by
  show rowAt m c (across 0 c) = _
  rw [across_zero]
  rfl

theorem level_lt (q : Fin 15) (S : Finset (Fin 15)) (h : ∀ s ∈ S, level q < level s) : ∀ s ∈ S, (plan m).lev q < (plan m).lev s := h

theorem body (c : Dev nD) :
    iprop((plan m).St c Finset.univ Finset.univ (plan m).recv (plan m).recv ∗ scopedBufs (c : Thread nD τ) ∗ start m c)
      ⊢ wp frame (wpE (defs₀ (F := F)) Variants.none (c : Thread nD τ) none) Set.univ
          (cc0_all_gather_weights (Memref.whole main_arg0) (Memref.isWhole_whole _) (Memref.whole main_v1) (Memref.isWhole_whole _)
            cc0_scratch0 cc0_scratch1 cc0_scratch2)
          fun _ => iprop((∃ T C, (plan m).St c T ∅ C ∅) ∗ scopedBufs (c : Thread nD τ) ∗ finish m c) := by
  unfold start
  rw [show (Finset.univ : Finset (DmaSem sig)) = bits 15 32767 from by decide +kernel]
  iintro ⟨HS, Hb, Ha, R0, R1, R2, R3, R4, R5, R6, R7⟩
  ihave Ha : held ((c : Thread nD τ).loc main_arg0) Finset.univ (m ((c : Thread nD τ).loc main_arg0)) $$ [Ha]
  · unfold held; iexists _; iexact Ha
  rw [cc0_all_gather_weights_eq_skeleton]
  unfold cc0_all_gather_weights_skel
  rw [k0_part10_eq_skeleton]
  unfold k0_part10_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  iapply (wp_local_row (plan m) Variants.none c (bits 15 32767) (bits 15 32767) (bits 15 16256) (bits 15 16256) (bits 15 16383) (bits 15 32640) (14 : Fin 15) (sem_alone _ (by decide)) rfl
    res (c : Fin 8) (off1_eq c) (src := (Memref.whole main_arg0)) (Finset.subset_univ _) (fs := m ((c : Thread nD τ).loc main_arg0)) rfl (by decide)
    (by decide +kernel) (by decide +kernel) (by decide +kernel) (by decide +kernel) (own m c) (sent m c c)) $$ [HS Ha R0]
  · isplitl [HS]; · iexact HS
    isplitl [Ha]; · iexact Ha
    iexact R0
  iintro ⟨HS, Ha⟩
  iapply (wp_put_row (plan m) Variants.none c (bits 15 16383) (bits 15 32767) (bits 15 32640) (bits 15 16256) (bits 15 16254) (bits 15 32641) (bits 15 16128) (0 : Fin 15) (7 : Fin 15)
    (sem_at _ 0 rfl _ _ (by decide)) (sem_at _ 0 rfl _ _ (by decide)) (dev1_eq c) rfl res (c : Fin 8) (off1_eq c) (src := (Memref.whole main_arg0))
    (Finset.subset_univ _) (fs := m ((c : Thread nD τ).loc main_arg0)) rfl rfl (by decide) (by decide +kernel) (by decide +kernel) (by decide +kernel) (by decide +kernel)
    (by decide +kernel) (by decide +kernel) (by decide +kernel) rfl (dealt m 7 c (across 1 c) (by decide) (across_across 1 c)) (sent m c (across 1 c))) $$ [HS Ha R1]
  · isplitl [HS]; · iexact HS
    isplitl [Ha]; · iexact Ha
    iexact R1
  iintro ⟨HS, Ha⟩
  iapply (wp_put_row (plan m) Variants.none c (bits 15 16254) (bits 15 32767) (bits 15 32641) (bits 15 16128) (bits 15 15996) (bits 15 32643) (bits 15 15872) (1 : Fin 15) (8 : Fin 15)
    (sem_at _ 1 rfl _ _ (by decide)) (sem_at _ 1 rfl _ _ (by decide)) (dev2_eq c) rfl res (c : Fin 8) (off1_eq c) (src := (Memref.whole main_arg0))
    (Finset.subset_univ _) (fs := m ((c : Thread nD τ).loc main_arg0)) rfl rfl (by decide) (by decide +kernel) (by decide +kernel) (by decide +kernel) (by decide +kernel)
    (by decide +kernel) (by decide +kernel) (by decide +kernel) rfl (dealt m 8 c (across 4 c) (by decide) (across_across 4 c)) (sent m c (across 4 c))) $$ [HS Ha R4]
  · isplitl [HS]; · iexact HS
    isplitl [Ha]; · iexact Ha
    iexact R4
  iintro ⟨HS, Ha⟩
  iapply (wp_put_row (plan m) Variants.none c (bits 15 15996) (bits 15 32767) (bits 15 32643) (bits 15 15872) (bits 15 15480) (bits 15 32647) (bits 15 15360) (2 : Fin 15) (9 : Fin 15)
    (sem_at _ 2 rfl _ _ (by decide)) (sem_at _ 2 rfl _ _ (by decide)) (dev3_eq c) rfl res (c : Fin 8) (off1_eq c) (src := (Memref.whole main_arg0))
    (Finset.subset_univ _) (fs := m ((c : Thread nD τ).loc main_arg0)) rfl rfl (by decide) (by decide +kernel) (by decide +kernel) (by decide +kernel) (by decide +kernel)
    (by decide +kernel) (by decide +kernel) (by decide +kernel) rfl (dealt m 9 c (across 2 c) (by decide) (across_across 2 c)) (sent m c (across 2 c))) $$ [HS Ha R2]
  · isplitl [HS]; · iexact HS
    isplitl [Ha]; · iexact Ha
    iexact R2
  iintro ⟨HS, Ha⟩
  iapply (wp_put_row (plan m) Variants.none c (bits 15 15480) (bits 15 32767) (bits 15 32647) (bits 15 15360) (bits 15 14448) (bits 15 32655) (bits 15 14336) (3 : Fin 15) (10 : Fin 15)
    (sem_at _ 3 rfl _ _ (by decide)) (sem_at _ 3 rfl _ _ (by decide)) (dev4_eq c) rfl res (c : Fin 8) (off1_eq c) (src := (Memref.whole main_arg0))
    (Finset.subset_univ _) (fs := m ((c : Thread nD τ).loc main_arg0)) rfl rfl (by decide) (by decide +kernel) (by decide +kernel) (by decide +kernel) (by decide +kernel)
    (by decide +kernel) (by decide +kernel) (by decide +kernel) rfl (dealt m 10 c (across 6 c) (by decide) (across_across 6 c)) (sent m c (across 6 c))) $$ [HS Ha R6]
  · isplitl [HS]; · iexact HS
    isplitl [Ha]; · iexact Ha
    iexact R6
  iintro ⟨HS, Ha⟩
  iapply (wp_wait (plan m) Variants.none c (bits 15 14448) (bits 15 32767) (bits 15 32655) (bits 15 14336) (bits 15 32511) (bits 15 32399) (8 : Fin 15) (sem_at _ 1 rfl _ _ (by decide))
    (src := rowOf (k0_off2_inb c)) (dst := rowOf (k0_off2_inb c)) (hsrc := (whole_words _ (k0_off2_wordsbf16 c))) (hdst := (whole_words _ (k0_off2_wordsbf16 c))) rfl (by decide)
    (by decide +kernel) (by decide +kernel) (level_lt m 8 _ (by decide +kernel)) (by decide +kernel) (by decide +kernel) (P := ((c : Thread nD τ).loc main_v1 ↦[rowSet res (across 4 c : Fin 8)]{fullShare} out m c)) rfl) $$ HS
  iintro ⟨HS, R4⟩
  ihave R4 : held ((c : Thread nD τ).loc main_v1) (rowSet res (across 4 c : Fin 8)) (out m c) $$ [R4]
  · unfold held; iexists _; iexact R4
  iapply (wp_put_row (plan m) Variants.none c (bits 15 14448) (bits 15 32511) (bits 15 32399) (bits 15 14336) (bits 15 12384) (bits 15 32415) (bits 15 12288) (4 : Fin 15) (11 : Fin 15)
    (sem_at _ 4 rfl _ _ (by decide)) (sem_at _ 4 rfl _ _ (by decide)) (dev5_eq c) rfl res (across 4 c : Fin 8) (off2_eq c) (src := rowOf (k0_off2_inb c))
    (le_of_eq (rowView_set res (off2_eq c) _ _ _)) (fs := out m c) rfl rfl (by decide) (by decide +kernel) (by decide +kernel) (by decide +kernel) (by decide +kernel)
    (by decide +kernel) (by decide +kernel) (by decide +kernel) rfl (dealt m 11 (across 4 c) (across 1 c) (by decide) (by revert c; decide)) (passed m c (across 1 c) (across 4 c) (off2_eq c) _)) $$ [HS R4 R5]
  · isplitl [HS]; · iexact HS
    isplitl [R4]; · iexact R4
    iexact R5
  iintro ⟨HS, R4⟩
  iapply (wp_wait (plan m) Variants.none c (bits 15 12384) (bits 15 32511) (bits 15 32415) (bits 15 12288) (bits 15 31999) (bits 15 31903) (9 : Fin 15) (sem_at _ 2 rfl _ _ (by decide))
    (src := rowOf (k0_off3_inb c)) (dst := rowOf (k0_off3_inb c)) (hsrc := (whole_words _ (k0_off3_wordsbf16 c))) (hdst := (whole_words _ (k0_off3_wordsbf16 c))) rfl (by decide)
    (by decide +kernel) (by decide +kernel) (level_lt m 9 _ (by decide +kernel)) (by decide +kernel) (by decide +kernel) (P := ((c : Thread nD τ).loc main_v1 ↦[rowSet res (across 2 c : Fin 8)]{fullShare} out m c)) rfl) $$ HS
  iintro ⟨HS, R2⟩
  ihave R2 : held ((c : Thread nD τ).loc main_v1) (rowSet res (across 2 c : Fin 8)) (out m c) $$ [R2]
  · unfold held; iexists _; iexact R2
  iapply (wp_put_row (plan m) Variants.none c (bits 15 12384) (bits 15 31999) (bits 15 31903) (bits 15 12288) (bits 15 8256) (bits 15 31935) (bits 15 8192) (5 : Fin 15) (12 : Fin 15)
    (sem_at _ 5 rfl _ _ (by decide)) (sem_at _ 5 rfl _ _ (by decide)) (dev6_eq c) rfl res (across 2 c : Fin 8) (off3_eq c) (src := rowOf (k0_off3_inb c))
    (le_of_eq (rowView_set res (off3_eq c) _ _ _)) (fs := out m c) rfl rfl (by decide) (by decide +kernel) (by decide +kernel) (by decide +kernel) (by decide +kernel)
    (by decide +kernel) (by decide +kernel) (by decide +kernel) rfl (dealt m 12 (across 2 c) (across 1 c) (by decide) (by revert c; decide)) (passed m c (across 1 c) (across 2 c) (off3_eq c) _)) $$ [HS R2 R3]
  · isplitl [HS]; · iexact HS
    isplitl [R2]; · iexact R2
    iexact R3
  iintro ⟨HS, R2⟩
  iapply (wp_wait (plan m) Variants.none c (bits 15 8256) (bits 15 31999) (bits 15 31935) (bits 15 8192) (bits 15 30975) (bits 15 30911) (10 : Fin 15) (sem_at _ 3 rfl _ _ (by decide))
    (src := rowOf (k0_off4_inb c)) (dst := rowOf (k0_off4_inb c)) (hsrc := (whole_words _ (k0_off4_wordsbf16 c))) (hdst := (whole_words _ (k0_off4_wordsbf16 c))) rfl (by decide)
    (by decide +kernel) (by decide +kernel) (level_lt m 10 _ (by decide +kernel)) (by decide +kernel) (by decide +kernel) (P := ((c : Thread nD τ).loc main_v1 ↦[rowSet res (across 6 c : Fin 8)]{fullShare} out m c)) rfl) $$ HS
  iintro ⟨HS, R6⟩
  ihave R6 : held ((c : Thread nD τ).loc main_v1) (rowSet res (across 6 c : Fin 8)) (out m c) $$ [R6]
  · unfold held; iexists _; iexact R6
  iapply (wp_put_row (plan m) Variants.none c (bits 15 8256) (bits 15 30975) (bits 15 30911) (bits 15 8192) (bits 15 0) (bits 15 30975) (bits 15 0) (6 : Fin 15) (13 : Fin 15)
    (sem_at _ 6 rfl _ _ (by decide)) (sem_at _ 6 rfl _ _ (by decide)) (dev7_eq c) rfl res (across 6 c : Fin 8) (off4_eq c) (src := rowOf (k0_off4_inb c))
    (le_of_eq (rowView_set res (off4_eq c) _ _ _)) (fs := out m c) rfl rfl (by decide) (by decide +kernel) (by decide +kernel) (by decide +kernel) (by decide +kernel)
    (by decide +kernel) (by decide +kernel) (by decide +kernel) rfl (dealt m 13 (across 6 c) (across 1 c) (by decide) (by revert c; decide)) (passed m c (across 1 c) (across 6 c) (off4_eq c) _)) $$ [HS R6 R7]
  · isplitl [HS]; · iexact HS
    isplitl [R6]; · iexact R6
    iexact R7
  iintro ⟨HS, R6⟩
  iapply (wp_wait (plan m) Variants.none c (bits 15 0) (bits 15 30975) (bits 15 30975) (bits 15 0) (bits 15 30847) (bits 15 30847) (7 : Fin 15) (sem_at _ 0 rfl _ _ (by decide))
    (src := rowOf (k0_off5_inb c)) (dst := rowOf (k0_off5_inb c)) (hsrc := (whole_words _ (k0_off5_wordsbf16 c))) (hdst := (whole_words _ (k0_off5_wordsbf16 c))) rfl (by decide)
    (by decide +kernel) (by decide +kernel) (fun s hs => absurd hs (by revert s; decide +kernel)) (by decide +kernel) (by decide +kernel) (P := ((c : Thread nD τ).loc main_v1 ↦[rowSet res (across 1 c : Fin 8)]{fullShare} out m c)) rfl) $$ HS
  iintro ⟨HS, R1⟩
  iapply (wp_wait (plan m) Variants.none c (bits 15 0) (bits 15 30847) (bits 15 30847) (bits 15 0) (bits 15 28799) (bits 15 28799) (11 : Fin 15) (sem_at _ 4 rfl _ _ (by decide))
    (src := rowOf (k0_off6_inb c)) (dst := rowOf (k0_off6_inb c)) (hsrc := (whole_words _ (k0_off6_wordsbf16 c))) (hdst := (whole_words _ (k0_off6_wordsbf16 c))) rfl (by decide)
    (by decide +kernel) (by decide +kernel) (fun s hs => absurd hs (by revert s; decide +kernel)) (by decide +kernel) (by decide +kernel) (P := ((c : Thread nD τ).loc main_v1 ↦[rowSet res (across 5 c : Fin 8)]{fullShare} out m c)) rfl) $$ HS
  iintro ⟨HS, R5⟩
  iapply (wp_wait (plan m) Variants.none c (bits 15 0) (bits 15 28799) (bits 15 28799) (bits 15 0) (bits 15 24703) (bits 15 24703) (12 : Fin 15) (sem_at _ 5 rfl _ _ (by decide))
    (src := rowOf (k0_off7_inb c)) (dst := rowOf (k0_off7_inb c)) (hsrc := (whole_words _ (k0_off7_wordsbf16 c))) (hdst := (whole_words _ (k0_off7_wordsbf16 c))) rfl (by decide)
    (by decide +kernel) (by decide +kernel) (fun s hs => absurd hs (by revert s; decide +kernel)) (by decide +kernel) (by decide +kernel) (P := ((c : Thread nD τ).loc main_v1 ↦[rowSet res (across 3 c : Fin 8)]{fullShare} out m c)) rfl) $$ HS
  iintro ⟨HS, R3⟩
  iapply (wp_wait (plan m) Variants.none c (bits 15 0) (bits 15 24703) (bits 15 24703) (bits 15 0) (bits 15 16511) (bits 15 16511) (13 : Fin 15) (sem_at _ 6 rfl _ _ (by decide))
    (src := rowOf (k0_off8_inb c)) (dst := rowOf (k0_off8_inb c)) (hsrc := (whole_words _ (k0_off8_wordsbf16 c))) (hdst := (whole_words _ (k0_off8_wordsbf16 c))) rfl (by decide)
    (by decide +kernel) (by decide +kernel) (fun s hs => absurd hs (by revert s; decide +kernel)) (by decide +kernel) (by decide +kernel) (P := ((c : Thread nD τ).loc main_v1 ↦[rowSet res (across 7 c : Fin 8)]{fullShare} out m c)) rfl) $$ HS
  iintro ⟨HS, R7⟩
  iapply (wp_wait (plan m) Variants.none c (bits 15 0) (bits 15 16511) (bits 15 16511) (bits 15 0) (bits 15 16510) (bits 15 16510) (0 : Fin 15) (sem_at _ 0 rfl _ _ (by decide))
    (src := rowOf (k0_off1_inb c)) (dst := (Memref.whole main_arg0)) (hsrc := (whole_words _ (k0_off1_wordsbf16 c))) (hdst := ((Memref.isWhole_whole _).wordExact)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 15 0) (bits 15 16510) (bits 15 16510) (bits 15 0) (bits 15 16508) (bits 15 16508) (1 : Fin 15) (sem_at _ 1 rfl _ _ (by decide))
    (src := rowOf (k0_off1_inb c)) (dst := (Memref.whole main_arg0)) (hsrc := (whole_words _ (k0_off1_wordsbf16 c))) (hdst := ((Memref.isWhole_whole _).wordExact)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 15 0) (bits 15 16508) (bits 15 16508) (bits 15 0) (bits 15 16504) (bits 15 16504) (2 : Fin 15) (sem_at _ 2 rfl _ _ (by decide))
    (src := rowOf (k0_off1_inb c)) (dst := (Memref.whole main_arg0)) (hsrc := (whole_words _ (k0_off1_wordsbf16 c))) (hdst := ((Memref.isWhole_whole _).wordExact)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 15 0) (bits 15 16504) (bits 15 16504) (bits 15 0) (bits 15 16496) (bits 15 16496) (3 : Fin 15) (sem_at _ 3 rfl _ _ (by decide))
    (src := rowOf (k0_off1_inb c)) (dst := (Memref.whole main_arg0)) (hsrc := (whole_words _ (k0_off1_wordsbf16 c))) (hdst := ((Memref.isWhole_whole _).wordExact)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 15 0) (bits 15 16496) (bits 15 16496) (bits 15 0) (bits 15 16480) (bits 15 16480) (4 : Fin 15) (sem_at _ 4 rfl _ _ (by decide))
    (src := rowOf (k0_off2_inb c)) (dst := rowOf (k0_off2_inb c)) (hsrc := (whole_words _ (k0_off2_wordsbf16 c))) (hdst := (whole_words _ (k0_off2_wordsbf16 c))) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 15 0) (bits 15 16480) (bits 15 16480) (bits 15 0) (bits 15 16448) (bits 15 16448) (5 : Fin 15) (sem_at _ 5 rfl _ _ (by decide))
    (src := rowOf (k0_off3_inb c)) (dst := rowOf (k0_off3_inb c)) (hsrc := (whole_words _ (k0_off3_wordsbf16 c))) (hdst := (whole_words _ (k0_off3_wordsbf16 c))) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 15 0) (bits 15 16448) (bits 15 16448) (bits 15 0) (bits 15 16384) (bits 15 16384) (6 : Fin 15) (sem_at _ 6 rfl _ _ (by decide))
    (src := rowOf (k0_off4_inb c)) (dst := rowOf (k0_off4_inb c)) (hsrc := (whole_words _ (k0_off4_wordsbf16 c))) (hdst := (whole_words _ (k0_off4_wordsbf16 c))) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 15 0) (bits 15 16384) (bits 15 16384) (bits 15 0) (bits 15 0) (bits 15 0) (14 : Fin 15) (sem_alone _ (by decide))
    (src := (Memref.whole main_arg0)) (dst := rowOf (k0_off1_inb c)) (hsrc := ((Memref.isWhole_whole _).wordExact)) (hdst := (whole_words _ (k0_off1_wordsbf16 c))) rfl (by decide)
    (by decide +kernel) (by decide +kernel) (fun s hs => absurd hs (by revert s; decide +kernel)) (by decide +kernel) (by decide +kernel) (P := ((c : Thread nD τ).loc main_v1 ↦[rowSet res (across 0 c : Fin 8)]{fullShare} out m c)) rfl) $$ HS
  iintro ⟨HS, R0⟩
  rw [wp_ret]
  imodintro
  isplitl [HS]
  · iexists _, _
    rw [show (∅ : Finset (DmaSem sig)) = bits 15 0 from by decide +kernel]
    iexact HS
  isplitl [Hb]; · iexact Hb
  unfold finish
  isplitl [Ha]; · iexact Ha
  rw [eight]
  isplitl [R0]
  · unfold held; iexists _; iexact R0
  isplitl [R1]
  · unfold held; iexists _; iexact R1
  isplitl [R2]
  · iexact R2
  isplitl [R3]
  · unfold held; iexists _; iexact R3
  isplitl [R4]
  · iexact R4
  isplitl [R5]
  · unfold held; iexists _; iexact R5
  isplitl [R6]
  · iexact R6
  unfold held; iexists _; iexact R7

/-- What a device's memory is to hold at the end: its own array as it was, and its result. -/
def final (c : Dev nD) (mem : (ℓ : Loc nD τ sig) → Buf (Elt F) ℓ) : Prop :=
  mem ((c : Thread nD τ).loc main_arg0) = m ((c : Thread nD τ).loc main_arg0) ∧ mem ((c : Thread nD τ).loc main_v1) = out m c

/-- Every row of the result being held, the whole of it is read. -/
theorem rows_read (c : Dev nD) (s' : Phys nD τ sig (Elt F)) (K : Finset (Fin 8)) :
    iprop((bigSep K fun k : Fin 8 => held ((c : Thread nD τ).loc main_v1) (rowSet res (across k c)) (out m c)) ∗ SI s')
      ⊢ (iprop(⌜∀ k ∈ K, ∀ i ∈ rowSet res (across k c), s'.mem.mem ((c : Thread nD τ).loc main_v1) i = out m c i⌝ ∗ SI s') : sProp 𝕄) := by
  induction K using Finset.induction_on with
  | empty =>
    iintro ⟨-, HSI⟩
    isplitr
    · ipureintro; exact fun k hk => absurd hk (Finset.notMem_empty k)
    · iexact HSI
  | insert k K hk ih =>
    rw [show (bigSep (insert k K) fun k : Fin 8 => (held ((c : Thread nD τ).loc main_v1) (rowSet res (across k c)) (out m c) : sProp 𝕄))
      = iprop(held ((c : Thread nD τ).loc main_v1) (rowSet res (across k c)) (out m c)
        ∗ bigSep K fun k : Fin 8 => held ((c : Thread nD τ).loc main_v1) (rowSet res (across k c)) (out m c)) from bigSep_insert hk]
    iintro ⟨⟨Hk, HK⟩, HSI⟩
    ihave HSI := (held_read ((c : Thread nD τ).loc main_v1) (rowSet res (across k c)) (out m c) s') $$ [Hk HSI]
    · isplitl [Hk] <;> iassumption
    icases HSI with ⟨%h, HSI⟩
    ihave HSI := ih $$ [HK HSI]
    · isplitl [HK] <;> iassumption
    icases HSI with ⟨%h', HSI⟩
    isplitr
    · ipureintro
      intro j hj
      rcases Finset.mem_insert.mp hj with rfl | hj
      · exact h
      · exact h' j hj
    · iexact HSI

theorem finish_read (c : Dev nD) (s' : Phys nD τ sig (Elt F)) :
    iprop(finish m c ∗ SI s') ⊢ (iprop(⌜final m c s'.mem.mem⌝ ∗ SI s') : sProp 𝕄) := by
  unfold finish
  iintro ⟨⟨Ha, Hr⟩, HSI⟩
  ihave HSI := (held_read ((c : Thread nD τ).loc main_arg0) Finset.univ (m ((c : Thread nD τ).loc main_arg0)) s') $$ [Ha HSI]
  · isplitl [Ha] <;> iassumption
  icases HSI with ⟨%ha, HSI⟩
  ihave HSI := (rows_read m c s' Finset.univ) $$ [Hr HSI]
  · isplitl [Hr] <;> iassumption
  icases HSI with ⟨%hr, HSI⟩
  isplitr
  · ipureintro
    refine ⟨funext fun i => ha i (Finset.mem_univ i), funext fun i => ?_⟩
    have hi := Finset.mem_univ i
    rw [← rowSet_cover res (View.set_whole _)] at hi
    obtain ⟨r, -, hi⟩ := Finset.mem_biUnion.mp hi
    refine hr ((rowFrom c).symm r) (Finset.mem_univ _) i ?_
    rw [show across ((rowFrom c).symm r) c = r from (rowFrom c).apply_symm_apply r]
    exact hi
  · iexact HSI

/-- The run of the gathering: for any float values and from any memory, every device ends with its own array as it was and with every
    device's array, and every semaphore reads zero. -/
theorem run (m : (ℓ : Loc nD τ sig) → Buf (Elt F) ℓ) (ρ : Dev nD → PrngReg) :
    θ_run (defs (F := F)) (onTc (main (F := F))) ⟨m, fun _ => 0, ρ⟩ (fun r => (∀ c, final m c r.2.mem) ∧ r.2.sem = fun _ => 0) :=
  θ_run_exchange pcfgs (fun p => (cfgs p).toPCfg_adm) (fun p => by fin_cases p; exact ⟨fun w => w.elim0⟩)
    (fun p => by fin_cases p; exact ⟨fun w => w.elim0⟩) (fun p => by fin_cases p; exact N_0)
    defs₀ (plan m) m ρ main main_chain cellOf_inj (by unfold AllDma; decide) (by decide) (start m) (finish m) (start_deal m)
    (fun c t => by
      rw [fin_N0 t]
      exact body m c) (final m) (finish_read m)

end Cert.GatherIdeal

end
-- ==== Proof.Exchange.GatherRef.lean ====
/-
The reference of the gathering, read at an index: row `d` of its result is the array of the device numbered `d`.
-/
module

public import proofs.«01_k».proof.Proof.Exchange.Gather
public import proofs.«01_k».proof.Proof.Gen.GatherRefIdeal.Run
public import Idealize.ShloMosaic.Lib.Pointwise.Reshape

@[expose] public section

noncomputable section

namespace Cert.GatherRefIdeal.Read

open Cert.GatherRefIdeal Cert.GatherRefIdeal.Gen
open Idealize.ShloMosaic Idealize.ShloMosaic.TcCoe Idealize.SL.Sem

set_option Elab.async false

variable {α : Type}

/-- The reference's result. -/
def gathered (X : S128000x128.Idx → α) : S8x16000x128.Idx → α := shapeCast S8x16000x128 X shapeCasts_S128000x128_S8x16000x128

/-- The result at device `d`'s row. -/
theorem gathered_apply (X : S128000x128.Idx → α) (d : Fin 8) (y : Fin 16000) (z : Fin 128) (r : Fin 128000) (hr : r.val = d.val * 16000 + y.val) :
    gathered X (ValueIdx.ix3 d y z) = X (ValueIdx.ix2 r z) :=
  shapeCast_apply X shapeCasts_S128000x128_S8x16000x128 (ValueIdx.ix3 d y z) (ValueIdx.ix2 r z) (by
    rw [rowMajor_val2 _ 128 rfl, rowMajor_val3 _ 2048000 128 rfl rfl]
    change r.val * 128 + z.val = d.val * 2048000 + y.val * 128 + z.val
    omega)

end Cert.GatherRefIdeal.Read

end
-- ==== Proof.Exchange.Blocks.lean ====
/-
Where a device's block lies in the whole array, row by row.
-/
module

public import Idealize.ShloMosaic.Lib.Layout
public import Idealize.ShloMosaic.Lib.ValueIdx

@[expose] public section

noncomputable section

namespace Cert.Exchange

open Idealize.ShloMosaic

theorem coords {a b c : ℕ} (i : (⟨3, ![a, b, c]⟩ : Shape).Idx) : ∃ (x : Fin a) (y : Fin b) (z : Fin c), i = ValueIdx.ix3 x y z :=
  ⟨i 0, i 1, i 2, funext fun t => by match t with | ⟨0, _⟩ => rfl | ⟨1, _⟩ => rfl | ⟨2, _⟩ => rfl⟩

/-- Where row `k` of block `c` lies in the whole array. -/
theorem block_row {n N b e k : ℕ} (h : Layout.Tiles ⟨3, ![n, b, e]⟩ ⟨3, ![N, b, e]⟩ 0 k) (c : Fin k) (x : Fin n) (y : Fin b) (z : Fin e) (r : Fin N)
    (hr : r.val = c.val * n + x.val) : h.idx c (ValueIdx.ix3 x y z) = ValueIdx.ix3 r y z := by
  funext t
  apply Fin.ext
  rw [h.idx_val]
  match t with
  | ⟨0, _⟩ => exact hr.symm
  | ⟨1, _⟩ => rfl
  | ⟨2, _⟩ => rfl

theorem block_row2 {n N b k : ℕ} (h : Layout.Tiles ⟨2, ![n, b]⟩ ⟨2, ![N, b]⟩ 0 k) (c : Fin k) (x : Fin n) (y : Fin b) (r : Fin N)
    (hr : r.val = c.val * n + x.val) : h.idx c (ValueIdx.ix2 x y) = ValueIdx.ix2 r y := by
  funext t
  apply Fin.ext
  rw [h.idx_val]
  match t with
  | ⟨0, _⟩ => exact hr.symm
  | ⟨1, _⟩ => rfl

theorem block_row4 {n N b e f k : ℕ} (h : Layout.Tiles ⟨4, ![n, b, e, f]⟩ ⟨4, ![N, b, e, f]⟩ 0 k) (c : Fin k) (x : Fin n) (y : Fin b) (z : Fin e)
    (w : Fin f) (r : Fin N) (hr : r.val = c.val * n + x.val) : h.idx c (ValueIdx.ix4 x y z w) = ValueIdx.ix4 r y z w := by
  funext t
  apply Fin.ext
  rw [h.idx_val]
  match t with
  | ⟨0, _⟩ => exact hr.symm
  | ⟨1, _⟩ => rfl
  | ⟨2, _⟩ => rfl
  | ⟨3, _⟩ => rfl

end Cert.Exchange

end
-- ==== Proof.Exchange.GatherClaims.lean ====
/-
The claims about the gathering: the kernel and its reference run and leave their arguments as they were, and the reference's result is what the
kernel leaves on every device.
-/
module

public import proofs.«01_k».proof.Defs
public import proofs.«01_k».proof.Proof.Exchange.GatherRef
public import proofs.«01_k».proof.Proof.Exchange.Blocks
public import proofs.«01_k».proof.Proof.Gen.Gather
public import proofs.«01_k».proof.Proof.Gen.GatherRef

@[expose] public section

noncomputable section

namespace Cert.Exchange.Gather

open Idealize.ShloMosaic Idealize.ShloMosaic.TcCoe Idealize.SL.Sem

set_option Elab.async false

variable {F : FTy → Type} [FloatOps F]

/-- That every device's array is its block of the whole argument. -/
def Dealt (m : (ℓ : Loc Cert.GatherIdeal.nD Cert.GatherIdeal.τ Cert.GatherIdeal.sig) → Buf (Elt F) ℓ)
    (m' : (ℓ : Loc Cert.GatherRefIdeal.nD Cert.GatherRefIdeal.τ Cert.GatherRefIdeal.sig) → Buf (Elt F) ℓ) : Prop :=
  ∀ c : Dev Cert.GatherIdeal.nD, m ((c.tc : Thread Cert.GatherIdeal.nD Cert.GatherIdeal.τ).loc Cert.GatherIdeal.main_arg0)
      = Layout.block ⟨2, ![16000, 128]⟩ ⟨2, ![128000, 128]⟩ 0 8 c
          (m' (((0 : Dev Cert.GatherRefIdeal.nD).tc : Thread Cert.GatherRefIdeal.nD Cert.GatherRefIdeal.τ).loc Cert.GatherRefIdeal.main_arg0))

/-- The reference's result. -/
abbrev gathered (m' : (ℓ : Loc Cert.GatherRefIdeal.nD Cert.GatherRefIdeal.τ Cert.GatherRefIdeal.sig) → Buf (Elt F) ℓ) :
    Buf (Elt F) (((0 : Dev Cert.GatherRefIdeal.nD).tc : Thread Cert.GatherRefIdeal.nD Cert.GatherRefIdeal.τ).loc Cert.GatherRefIdeal.main_v0) :=
  Cert.GatherRefIdeal.Read.gathered (α := Elt F .bf16)
    (m' (((0 : Dev Cert.GatherRefIdeal.nD).tc : Thread Cert.GatherRefIdeal.nD Cert.GatherRefIdeal.τ).loc Cert.GatherRefIdeal.main_arg0))

theorem agree (m : (ℓ : Loc Cert.GatherIdeal.nD Cert.GatherIdeal.τ Cert.GatherIdeal.sig) → Buf (Elt F) ℓ)
    (m' : (ℓ : Loc Cert.GatherRefIdeal.nD Cert.GatherRefIdeal.τ Cert.GatherRefIdeal.sig) → Buf (Elt F) ℓ) (h : Dealt m m') (c : Dev Cert.GatherIdeal.nD) :
    Cert.GatherIdeal.out m c = gathered m' := by
  funext i
  obtain ⟨d, y, z, rfl⟩ := coords (a := 8) (b := 16000) (c := 128) i
  have hd : d.val < 8 := d.isLt
  refine Eq.trans ?_ (Cert.GatherRefIdeal.Read.gathered_apply (α := Elt F .bf16) _ d y z (⟨d.val * 16000 + y.val, by omega⟩ : Fin 128000) rfl).symm
  show (m ((show Dev Cert.GatherIdeal.nD from d).tc.loc Cert.GatherIdeal.main_arg0) : Cert.GatherIdeal.S16000x128.Idx → Elt F .bf16)
    (ValueIdx.ix2 y z) = _
  rw [h _, Layout.block_apply, block_row2 _ _ y z (⟨d.val * 16000 + y.val, by omega⟩ : Fin 128000) rfl]

theorem frame_kernel : Cert.quiescent_Gather := fun m ρ _ =>
  (θ_run Cert.GatherIdeal.defs _ _).mono (fun _ h => ⟨fun c => (h.1 c).1, h.2⟩) (Cert.GatherIdeal.run (F := Bits) m ρ)

theorem frame_ideal : Cert.quiescent_GatherIdeal := fun m ρ _ =>
  (θ_run Cert.GatherIdeal.defs _ _).mono (fun _ h => ⟨fun c => (h.1 c).1, h.2⟩) (Cert.GatherIdeal.run (F := Ideal) m ρ)

theorem frame_reference : Cert.quiescent_GatherRef := fun m ρ _ =>
  (θ_run Cert.GatherRefIdeal.defs _ _).mono (fun r h => ⟨fun c => (h c).2, sem_eq_zero_of_no_sems (by decide) r.2⟩)
    (Cert.GatherRefIdeal.Value.run (F := Bits) m ρ)

theorem frame_reference_ideal : Cert.quiescent_GatherRefIdeal := fun m ρ _ =>
  (θ_run Cert.GatherRefIdeal.defs _ _).mono (fun r h => ⟨fun c => (h c).2, sem_eq_zero_of_no_sems (by decide) r.2⟩)
    (Cert.GatherRefIdeal.Value.run (F := Ideal) m ρ)

theorem bitexact : Cert.bitexact_Gather_GatherRef := fun m g m' g' _ h =>
  ⟨gathered (F := Bits) m',
    (θ_run Cert.GatherIdeal.defs _ _).mono (fun _ hr c => ⟨(hr.1 c).2.trans (agree (F := Bits) m m' h c), (hr.1 c).1⟩)
      (Cert.GatherIdeal.run (F := Bits) m g),
    (θ_run Cert.GatherRefIdeal.defs _ _).mono (fun _ hr => hr 0) (Cert.GatherRefIdeal.Value.run (F := Bits) m' g')⟩

theorem algebraic : Cert.algebraic_GatherIdeal_GatherRefIdeal := fun m g m' g' _ h =>
  ⟨gathered (F := Ideal) m',
    (θ_run Cert.GatherIdeal.defs _ _).mono (fun _ hr c => ⟨(hr.1 c).2.trans (agree (F := Ideal) m m' h c), (hr.1 c).1⟩)
      (Cert.GatherIdeal.run (F := Ideal) m g),
    (θ_run Cert.GatherRefIdeal.defs _ _).mono (fun _ hr => hr 0) (Cert.GatherRefIdeal.Value.run (F := Ideal) m' g')⟩

end Cert.Exchange.Gather

end
-- ==== Proof.Exchange.Cores.lean ====
/-
The exchange of halves between the two cores of a chip, and of the small arrays between all devices: each device sends the other
core of its chip the four parts that are that core's, and every other device its small array.
-/
module

public import proofs.«01_k».proof.Proof.Exchange.Steps
public import proofs.«01_k».proof.Proof.Gen.CoresIdeal.Skeleton
public import proofs.«01_k».proof.Proof.Gen.CoresIdeal.Launch
public import Idealize.ShloMosaic.Lib.Ring

@[expose] public section

noncomputable section

namespace Cert.CoresIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks)
open Cert.Exchange Cert.CoresIdeal.Gen

set_option Elab.async false

variable {F : FTy → Type} [FloatOps F]

local notation "𝕄" => MT nD τ sig Unit (Elt F) ℕ (UR sig nD τ) ℕ

/-! ## Who exchanges with whom -/

/-- A device's core, which is also the half of the other core's array that is sent to it. -/
def core (c : Dev nD) : Fin 2 := ⟨c.val % 2, Nat.mod_lt _ (by decide)⟩

theorem dev1_eq (c : Dev nD) : (⟨k0_dev1 c, k0_dev1_lt c⟩ : Dev nD) = across 1 c := by revert c; decide +kernel
theorem dev2_eq (c : Dev nD) : (⟨k0_dev2 c, k0_dev2_lt c⟩ : Dev nD) = across 1 c := by revert c; decide +kernel
theorem dev3_eq (c : Dev nD) : (⟨k0_dev3 c, k0_dev3_lt c⟩ : Dev nD) = across 1 c := by revert c; decide +kernel
theorem dev4_eq (c : Dev nD) : (⟨k0_dev4 c, k0_dev4_lt c⟩ : Dev nD) = across 1 c := by revert c; decide +kernel
theorem dev5_eq (c : Dev nD) : (⟨k0_dev5 c, k0_dev5_lt c⟩ : Dev nD) = across 1 c := by revert c; decide +kernel
theorem dev6_eq (c : Dev nD) : (⟨k0_dev6 c, k0_dev6_lt c⟩ : Dev nD) = across 2 c := by revert c; decide +kernel
theorem dev7_eq (c : Dev nD) : (⟨k0_dev7 c, k0_dev7_lt c⟩ : Dev nD) = across 3 c := by revert c; decide +kernel
theorem dev8_eq (c : Dev nD) : (⟨k0_dev8 c, k0_dev8_lt c⟩ : Dev nD) = across 4 c := by revert c; decide +kernel
theorem dev9_eq (c : Dev nD) : (⟨k0_dev9 c, k0_dev9_lt c⟩ : Dev nD) = across 5 c := by revert c; decide +kernel
theorem dev10_eq (c : Dev nD) : (⟨k0_dev10 c, k0_dev10_lt c⟩ : Dev nD) = across 6 c := by revert c; decide +kernel
theorem dev11_eq (c : Dev nD) : (⟨k0_dev11 c, k0_dev11_lt c⟩ : Dev nD) = across 7 c := by revert c; decide +kernel
theorem off2_eq (c : Dev nD) : k0_off2 c = ![(core (across 1 c)).val, 0, 0, 0] := by revert c; decide +kernel
theorem off3_eq (c : Dev nD) : k0_off3 c = ![(core (across 1 c)).val, 1, 0, 0] := by revert c; decide +kernel
theorem off4_eq (c : Dev nD) : k0_off4 c = ![(core (across 1 c)).val, 2, 0, 0] := by revert c; decide +kernel
theorem off5_eq (c : Dev nD) : k0_off5 c = ![(core (across 1 c)).val, 3, 0, 0] := by revert c; decide +kernel
theorem off1_eq (c : Dev nD) : k0_off1 c = ![c.val, 0, 0] := by revert c; decide +kernel

/-! ## What is exchanged -/

variable (m : (ℓ : Loc nD τ sig) → Buf (Elt F) ℓ)

/-- What a device's first result holds after the exchange: the device's core's half of the other core's array. -/
def halfOut (c : Dev nD) : Buf (Elt F) ((c : Thread nD τ).loc main_v1_0) := fun i : S4x16000x128.Idx =>
  (m (((across 1 c : Dev nD) : Thread nD τ).loc main_arg0) : S2x4x16000x128.Idx → Elt F .f32) (ix4 (core c) (i 0) (i 1) (i 2))

/-- What every device's second result holds after the exchange: row `d` is device `d`'s small array. -/
def smallOut (c : Dev nD) : Buf (Elt F) ((c : Thread nD τ).loc main_v1_1) := fun i : S8x96x128.Idx =>
  (m (((show Dev nD from i 0) : Thread nD τ).loc main_arg1) : S96x128.Idx → Elt F .f32) (ix2 (i 1) (i 2))

/-- The result arrays. -/
abbrev half : Memref sig .tc .hbm S4x16000x128 .f32 := Memref.whole main_v1_0
abbrev small : Memref sig .tc .hbm S8x96x128 .f32 := Memref.whole main_v1_1

/-- The credit of one part of the half, and of one small array. -/
def partCredit : ℕ := sig.dmaCredit .tc .hbm (0 : Fin 4) S16000x128 .f32
def smallCredit : ℕ := sig.dmaCredit .tc .hbm (0 : Fin 4) S96x128 .f32

/-- Part `j` of device `c`'s half, arrived. -/
def halfAt (c : Dev nD) (j : Fin 4) : sProp 𝕄 := (c : Thread nD τ).loc main_v1_0 ↦[rowSet half j]{fullShare} halfOut m c
/-- The small array of the device that differs from device `c` in the bits of `k`, arrived at device `c`. -/
def smallAt (c : Dev nD) (k : Fin 8) : sProp 𝕄 := (c : Thread nD τ).loc main_v1_1 ↦[rowSet small (across k c)]{fullShare} smallOut m c

/-- Which of the eight a semaphore of the small arrays is for; the one of the device's own copy counts as the first. -/
def nth (s : Fin 25) : Fin 8 := ⟨s.val % 8, Nat.mod_lt _ (by decide)⟩

/-- The plan. Semaphores 0 to 3 say that a part has been sent and 4 to 7 that one has arrived; 9 to 15 that the small array has been
    sent and 17 to 23 that one has arrived; 24 that the device's own has been copied. Semaphores 8 and 16 are not used. -/
def plan : Plan nD τ sig (Elt F) where
  amt s := (if s.val < 8 then partCredit else if s.val = 8 then 0 else if s.val = 16 then 0 else smallCredit : ℕ)
  pay c s := (if s.val < 4 then iprop(emp) else if h : s.val - 4 < 4 then halfAt m c ⟨s.val - 4, h⟩
    else if s.val ≤ 16 then iprop(emp) else smallAt m c (nth s) : sProp 𝕄)
  peer s := (if s.val < 4 then Equiv.refl _ else if s.val < 8 then across 1 else if s.val ≤ 16 then Equiv.refl _
    else if s.val = 24 then Equiv.refl _ else across (nth s) : Dev nD ≃ Dev nD)
  recv := bits 25 16646384
  lev _ := 0
  storable c s := by
    have hA : ∀ k, BI.Storable (upEmb : UEmb _ 𝕄) (halfAt m c k) := fun k => by unfold halfAt; infer_instance
    have hB : ∀ k, BI.Storable (upEmb : UEmb _ 𝕄) (smallAt m c k) := fun k => by unfold smallAt; infer_instance
    have hE : BI.Storable (upEmb : UEmb _ 𝕄) (iprop(emp) : sProp 𝕄) := inferInstance
    beta_reduce
    split_ifs
    · exact hE
    · exact hA _
    · exact hE
    · exact hB _

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What a device starts with: its own two arrays, the four parts it is to fill of the other core's half, and of every device's second
    result the row it is to fill. -/
def start (c : Dev nD) : sProp 𝕄 :=
  iprop(((c : Thread nD τ).loc main_arg0 ↦{fullShare} m ((c : Thread nD τ).loc main_arg0))
    ∗ ((c : Thread nD τ).loc main_arg1 ↦{fullShare} m ((c : Thread nD τ).loc main_arg1))
    ∗ (bigSep Finset.univ fun j : Fin 4 => (((across 1 c : Dev nD) : Thread nD τ).loc main_v1_0)
        ↦[rowSet half j]{fullShare} m (((across 1 c : Dev nD) : Thread nD τ).loc main_v1_0))
    ∗ bigSep Finset.univ fun k : Fin 8 => (((across k c : Dev nD) : Thread nD τ).loc main_v1_1)
        ↦[rowSet small (c : Fin 8)]{fullShare} m (((across k c : Dev nD) : Thread nD τ).loc main_v1_1))

/-- What a device ends with: its own arrays as they were, and its results. -/
def finish (c : Dev nD) : sProp 𝕄 :=
  iprop(held ((c : Thread nD τ).loc main_arg0) Finset.univ (m ((c : Thread nD τ).loc main_arg0))
    ∗ held ((c : Thread nD τ).loc main_arg1) Finset.univ (m ((c : Thread nD τ).loc main_arg1))
    ∗ ((c : Thread nD τ).loc main_v1_0 ↦{fullShare} halfOut m c)
    ∗ ((c : Thread nD τ).loc main_v1_1 ↦{fullShare} smallOut m c))

theorem half_rows (c : Dev nD) (f : Buf (Elt F) ((c : Thread nD τ).loc main_v1_0)) :
    ((c : Thread nD τ).loc main_v1_0 ↦{fullShare} f : sProp 𝕄)
      = bigSep Finset.univ fun j : Fin 4 => ((c : Thread nD τ).loc main_v1_0) ↦[rowSet half j]{fullShare} f :=
  pointsTo_blocks (ℓ := (c : Thread nD τ).loc main_v1_0) (rowSet half) (fun _ _ h => rowSet_disjoint half h) (rowSet_cover half (View.set_whole _)) f

theorem small_rows (c : Dev nD) (f : Buf (Elt F) ((c : Thread nD τ).loc main_v1_1)) :
    ((c : Thread nD τ).loc main_v1_1 ↦{fullShare} f : sProp 𝕄)
      = bigSep Finset.univ fun r : Fin 8 => ((c : Thread nD τ).loc main_v1_1) ↦[rowSet small r]{fullShare} f :=
  pointsTo_blocks (ℓ := (c : Thread nD τ).loc main_v1_1) (rowSet small) (fun _ _ h => rowSet_disjoint small h) (rowSet_cover small (View.set_whole _)) f

theorem half_whole (c : Dev nD) : bigSep Finset.univ (halfAt m c) = ((c : Thread nD τ).loc main_v1_0 ↦{fullShare} halfOut m c) := by
  rw [half_rows]
  rfl

theorem small_whole (c : Dev nD) : bigSep Finset.univ (smallAt m c) = ((c : Thread nD τ).loc main_v1_1 ↦{fullShare} smallOut m c) := by
  rw [small_rows]
  exact (bigSep_univ_equiv (rowFrom c) fun r => ((c : Thread nD τ).loc main_v1_1) ↦[rowSet small r]{fullShare} smallOut m c).symm

theorem start_deal : (bigSep Finset.univ fun c : Dev nD => unscopedBufs c fun b => m ((c.tc : Thread nD τ).loc b)) ⊢ bigSep Finset.univ (start m) := by
  have e : ∀ c : Dev nD, (unscopedBufs c (fun b => m ((c.tc : Thread nD τ).loc b)) : sProp 𝕄)
      = iprop(((c : Thread nD τ).loc main_arg0 ↦{fullShare} m ((c : Thread nD τ).loc main_arg0))
        ∗ ((c : Thread nD τ).loc main_arg1 ↦{fullShare} m ((c : Thread nD τ).loc main_arg1))
        ∗ (bigSep Finset.univ fun j : Fin 4 => ((c : Thread nD τ).loc main_v1_0) ↦[rowSet half j]{fullShare} m ((c : Thread nD τ).loc main_v1_0))
        ∗ bigSep Finset.univ fun r : Fin 8 => ((c : Thread nD τ).loc main_v1_1) ↦[rowSet small r]{fullShare} m ((c : Thread nD τ).loc main_v1_1)) := fun c => by
    rw [unscoped_list c _ [main_arg0, main_arg1, main_v1_0, main_v1_1] (by decide) (by decide), ← half_rows, ← small_rows]
    rfl
  simp only [e]
  unfold start
  rw [bigSep_sep', bigSep_sep', bigSep_sep', bigSep_sep', bigSep_sep', bigSep_sep', deal_again fun _ => across 1,
    rows_dealt fun c r => ((c : Thread nD τ).loc main_v1_1) ↦[rowSet small r]{fullShare} m ((c : Thread nD τ).loc main_v1_1)]

/-- A part of the device's own array, and a row of either result, as the kernel forms them. -/
abbrev partAt {off : Fin 4 → ℕ} (inb : ∀ d, off d + S1x1x16000x128.size d ≤ S2x4x16000x128.size d) : Memref sig .tc .hbm S16000x128 .f32 :=
  partView (Memref.whole main_arg0) (off := off) inb (fun _ => rfl) squeezes_S1x1x16000x128_S16000x128
abbrev halfRow {off : Fin 3 → ℕ} (inb : ∀ d, off d + S1x16000x128.size d ≤ S4x16000x128.size d) : Memref sig .tc .hbm S16000x128 .f32 :=
  rowView half (off := off) inb (fun _ => rfl) squeezes_S1x16000x128_S16000x128
abbrev smallRow {off : Fin 3 → ℕ} (inb : ∀ d, off d + S1x96x128.size d ≤ S8x96x128.size d) : Memref sig .tc .hbm S96x128 .f32 :=
  rowView small (off := off) inb (fun _ => rfl) squeezes_S1x96x128_S96x128

/-- What device `c` sends to the other core is what that device's half is to hold. -/
theorem half_sent (c : Dev nD) (j : Fin 4) {off : Fin 4 → ℕ} (h : off = ![(core (across 1 c)).val, j.val, 0, 0])
    (inb : ∀ d, off d + S1x1x16000x128.size d ≤ S2x4x16000x128.size d) (x : Fin 16000) (y : Fin 128) :
    half.view.read (Elt F) (halfOut m (across 1 c)) (ix3 j x y) = (partAt inb).view.read (Elt F) (m ((c : Thread nD τ).loc main_arg0)) (ix2 x y) := by
  refine Eq.trans ?_ (partView_read (Memref.whole main_arg0) h inb (fun _ => rfl) squeezes_S1x1x16000x128_S16000x128
    (m ((c : Thread nD τ).loc main_arg0)) x y).symm
  show (m (((across 1 (across 1 c) : Dev nD) : Thread nD τ).loc main_arg0) : S2x4x16000x128.Idx → Elt F .f32) _ = _
  rw [across_across]
  rfl

/-- What device `c` sends to any device is what row `c` of that device's second result is to hold. -/
theorem small_sent (c d : Dev nD) (x : Fin 96) (y : Fin 128) :
    small.view.read (Elt F) (smallOut m d) (ix3 (c : Fin 8) x y)
      = (Memref.whole main_arg1).view.read (Elt F) (m ((c : Thread nD τ).loc main_arg1)) (ix2 x y) := rfl

/-- The row that device `c` is to fill of another device's second result, and of its own. -/
theorem small_dealt (c : Dev nD) (k : Fin 8) :
    smallAt m (across k c) k = (((across k c : Dev nD) : Thread nD τ).loc main_v1_1 ↦[rowSet small (c : Fin 8)]{fullShare} smallOut m (across k c)) := by
  unfold smallAt
  rw [across_across]

theorem small_own (c : Dev nD) : smallAt m c 0 = ((c : Thread nD τ).loc main_v1_1 ↦[rowSet small (c : Fin 8)]{fullShare} smallOut m c) := by
  unfold smallAt
  rw [across_zero]

theorem body (c : Dev nD) :
    iprop((plan m).St c Finset.univ Finset.univ (plan m).recv (plan m).recv ∗ scopedBufs (c : Thread nD τ) ∗ start m c)
      ⊢ wp frame (wpE (defs₀ (F := F)) Variants.none (c : Thread nD τ) none) Set.univ
          (cc0_exchange_core (Memref.whole main_arg0) (Memref.isWhole_whole _) (Memref.whole main_arg1) (Memref.isWhole_whole _)
            (Memref.whole main_v1_0) (Memref.isWhole_whole _) (Memref.whole main_v1_1) (Memref.isWhole_whole _)
            cc0_scratch0 cc0_scratch1 cc0_scratch2 cc0_scratch3 cc0_scratch4)
          fun _ => iprop((∃ T C, (plan m).St c T ∅ C ∅) ∗ scopedBufs (c : Thread nD τ) ∗ finish m c) := by
  unfold start
  rw [four, eight, across_zero, show (Finset.univ : Finset (DmaSem sig)) = bits 25 33554431 from by decide +kernel]
  iintro ⟨HS, Hb, Ha, Hs, ⟨P0, P1, P2, P3⟩, R0, R1, R2, R3, R4, R5, R6, R7⟩
  ihave Ha : held ((c : Thread nD τ).loc main_arg0) Finset.univ (m ((c : Thread nD τ).loc main_arg0)) $$ [Ha]
  · unfold held; iexists _; iexact Ha
  ihave Hs : held ((c : Thread nD τ).loc main_arg1) Finset.univ (m ((c : Thread nD τ).loc main_arg1)) $$ [Hs]
  · unfold held; iexists _; iexact Hs
  rw [cc0_exchange_core_eq_skeleton]
  unfold cc0_exchange_core_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [Prog.lift, Prog.bind_op, Prog.bind_ret, Prog.pure_eq_ret, wp_deviceId]
  iapply (wp_local_row (plan m) Variants.none c (bits 25 33554431) (bits 25 33554431) (bits 25 16646384) (bits 25 16646384) (bits 25 16777215) (bits 25 33423600) (24 : Fin 25) (sem_alone _ (by decide)) rfl
    small (c : Fin 8) (off1_eq c) (src := (Memref.whole main_arg1)) (Finset.subset_univ _) (fs := m ((c : Thread nD τ).loc main_arg1)) rfl (by decide)
    (by decide +kernel) (by decide +kernel) (by decide +kernel) (by decide +kernel) (small_own m c) (small_sent m c c)) $$ [HS Hs R0]
  · isplitl [HS]; · iexact HS
    isplitl [Hs]; · iexact Hs
    iexact R0
  iintro ⟨HS, Hs⟩
  iapply (wp_put_row (plan m) Variants.none c (bits 25 16777215) (bits 25 33554431) (bits 25 33423600) (bits 25 16646384) (bits 25 16777198) (bits 25 33423601) (bits 25 16646368) (0 : Fin 25) (4 : Fin 25)
    (sem_at _ 0 rfl _ _ (by decide)) (sem_at _ 0 rfl _ _ (by decide)) (dev1_eq c) rfl half 0 rfl (src := partAt (k0_off2_inb c))
    (Finset.subset_univ _) (fs := m ((c : Thread nD τ).loc main_arg0)) rfl rfl (by decide) (by decide +kernel) (by decide +kernel) (by decide +kernel) (by decide +kernel)
    (by decide +kernel) (by decide +kernel) (by decide +kernel) rfl rfl (half_sent m c 0 (off2_eq c) _)) $$ [HS Ha P0]
  · isplitl [HS]; · iexact HS
    isplitl [Ha]; · iexact Ha
    iexact P0
  iintro ⟨HS, Ha⟩
  iapply (wp_put_row (plan m) Variants.none c (bits 25 16777198) (bits 25 33554431) (bits 25 33423601) (bits 25 16646368) (bits 25 16777164) (bits 25 33423603) (bits 25 16646336) (1 : Fin 25) (5 : Fin 25)
    (sem_at _ 1 rfl _ _ (by decide)) (sem_at _ 1 rfl _ _ (by decide)) (dev2_eq c) rfl half 1 rfl (src := partAt (k0_off3_inb c))
    (Finset.subset_univ _) (fs := m ((c : Thread nD τ).loc main_arg0)) rfl rfl (by decide) (by decide +kernel) (by decide +kernel) (by decide +kernel) (by decide +kernel)
    (by decide +kernel) (by decide +kernel) (by decide +kernel) rfl rfl (half_sent m c 1 (off3_eq c) _)) $$ [HS Ha P1]
  · isplitl [HS]; · iexact HS
    isplitl [Ha]; · iexact Ha
    iexact P1
  iintro ⟨HS, Ha⟩
  iapply (wp_put_row (plan m) Variants.none c (bits 25 16777164) (bits 25 33554431) (bits 25 33423603) (bits 25 16646336) (bits 25 16777096) (bits 25 33423607) (bits 25 16646272) (2 : Fin 25) (6 : Fin 25)
    (sem_at _ 2 rfl _ _ (by decide)) (sem_at _ 2 rfl _ _ (by decide)) (dev3_eq c) rfl half 2 rfl (src := partAt (k0_off4_inb c))
    (Finset.subset_univ _) (fs := m ((c : Thread nD τ).loc main_arg0)) rfl rfl (by decide) (by decide +kernel) (by decide +kernel) (by decide +kernel) (by decide +kernel)
    (by decide +kernel) (by decide +kernel) (by decide +kernel) rfl rfl (half_sent m c 2 (off4_eq c) _)) $$ [HS Ha P2]
  · isplitl [HS]; · iexact HS
    isplitl [Ha]; · iexact Ha
    iexact P2
  iintro ⟨HS, Ha⟩
  iapply (wp_put_row (plan m) Variants.none c (bits 25 16777096) (bits 25 33554431) (bits 25 33423607) (bits 25 16646272) (bits 25 16776960) (bits 25 33423615) (bits 25 16646144) (3 : Fin 25) (7 : Fin 25)
    (sem_at _ 3 rfl _ _ (by decide)) (sem_at _ 3 rfl _ _ (by decide)) (dev4_eq c) rfl half 3 rfl (src := partAt (k0_off5_inb c))
    (Finset.subset_univ _) (fs := m ((c : Thread nD τ).loc main_arg0)) rfl rfl (by decide) (by decide +kernel) (by decide +kernel) (by decide +kernel) (by decide +kernel)
    (by decide +kernel) (by decide +kernel) (by decide +kernel) rfl rfl (half_sent m c 3 (off5_eq c) _)) $$ [HS Ha P3]
  · isplitl [HS]; · iexact HS
    isplitl [Ha]; · iexact Ha
    iexact P3
  iintro ⟨HS, Ha⟩
  iapply (wp_put_row (plan m) Variants.none c (bits 25 16776960) (bits 25 33554431) (bits 25 33423615) (bits 25 16646144) (bits 25 16645376) (bits 25 33424127) (bits 25 16515072) (9 : Fin 25) (17 : Fin 25)
    (sem_at _ 1 rfl _ _ (by decide)) (sem_at _ 1 rfl _ _ (by decide)) (dev5_eq c) rfl small (c : Fin 8) (off1_eq c) (src := (Memref.whole main_arg1))
    (Finset.subset_univ _) (fs := m ((c : Thread nD τ).loc main_arg1)) rfl rfl (by decide) (by decide +kernel) (by decide +kernel) (by decide +kernel) (by decide +kernel)
    (by decide +kernel) (by decide +kernel) (by decide +kernel) rfl (small_dealt m c 1) (small_sent m c (across 1 c))) $$ [HS Hs R1]
  · isplitl [HS]; · iexact HS
    isplitl [Hs]; · iexact Hs
    iexact R1
  iintro ⟨HS, Hs⟩
  iapply (wp_put_row (plan m) Variants.none c (bits 25 16645376) (bits 25 33554431) (bits 25 33424127) (bits 25 16515072) (bits 25 16382208) (bits 25 33425151) (bits 25 16252928) (10 : Fin 25) (18 : Fin 25)
    (sem_at _ 2 rfl _ _ (by decide)) (sem_at _ 2 rfl _ _ (by decide)) (dev6_eq c) rfl small (c : Fin 8) (off1_eq c) (src := (Memref.whole main_arg1))
    (Finset.subset_univ _) (fs := m ((c : Thread nD τ).loc main_arg1)) rfl rfl (by decide) (by decide +kernel) (by decide +kernel) (by decide +kernel) (by decide +kernel)
    (by decide +kernel) (by decide +kernel) (by decide +kernel) rfl (small_dealt m c 2) (small_sent m c (across 2 c))) $$ [HS Hs R2]
  · isplitl [HS]; · iexact HS
    isplitl [Hs]; · iexact Hs
    iexact R2
  iintro ⟨HS, Hs⟩
  iapply (wp_put_row (plan m) Variants.none c (bits 25 16382208) (bits 25 33554431) (bits 25 33425151) (bits 25 16252928) (bits 25 15855872) (bits 25 33427199) (bits 25 15728640) (11 : Fin 25) (19 : Fin 25)
    (sem_at _ 3 rfl _ _ (by decide)) (sem_at _ 3 rfl _ _ (by decide)) (dev7_eq c) rfl small (c : Fin 8) (off1_eq c) (src := (Memref.whole main_arg1))
    (Finset.subset_univ _) (fs := m ((c : Thread nD τ).loc main_arg1)) rfl rfl (by decide) (by decide +kernel) (by decide +kernel) (by decide +kernel) (by decide +kernel)
    (by decide +kernel) (by decide +kernel) (by decide +kernel) rfl (small_dealt m c 3) (small_sent m c (across 3 c))) $$ [HS Hs R3]
  · isplitl [HS]; · iexact HS
    isplitl [Hs]; · iexact Hs
    iexact R3
  iintro ⟨HS, Hs⟩
  iapply (wp_put_row (plan m) Variants.none c (bits 25 15855872) (bits 25 33554431) (bits 25 33427199) (bits 25 15728640) (bits 25 14803200) (bits 25 33431295) (bits 25 14680064) (12 : Fin 25) (20 : Fin 25)
    (sem_at _ 4 rfl _ _ (by decide)) (sem_at _ 4 rfl _ _ (by decide)) (dev8_eq c) rfl small (c : Fin 8) (off1_eq c) (src := (Memref.whole main_arg1))
    (Finset.subset_univ _) (fs := m ((c : Thread nD τ).loc main_arg1)) rfl rfl (by decide) (by decide +kernel) (by decide +kernel) (by decide +kernel) (by decide +kernel)
    (by decide +kernel) (by decide +kernel) (by decide +kernel) rfl (small_dealt m c 4) (small_sent m c (across 4 c))) $$ [HS Hs R4]
  · isplitl [HS]; · iexact HS
    isplitl [Hs]; · iexact Hs
    iexact R4
  iintro ⟨HS, Hs⟩
  iapply (wp_put_row (plan m) Variants.none c (bits 25 14803200) (bits 25 33554431) (bits 25 33431295) (bits 25 14680064) (bits 25 12697856) (bits 25 33439487) (bits 25 12582912) (13 : Fin 25) (21 : Fin 25)
    (sem_at _ 5 rfl _ _ (by decide)) (sem_at _ 5 rfl _ _ (by decide)) (dev9_eq c) rfl small (c : Fin 8) (off1_eq c) (src := (Memref.whole main_arg1))
    (Finset.subset_univ _) (fs := m ((c : Thread nD τ).loc main_arg1)) rfl rfl (by decide) (by decide +kernel) (by decide +kernel) (by decide +kernel) (by decide +kernel)
    (by decide +kernel) (by decide +kernel) (by decide +kernel) rfl (small_dealt m c 5) (small_sent m c (across 5 c))) $$ [HS Hs R5]
  · isplitl [HS]; · iexact HS
    isplitl [Hs]; · iexact Hs
    iexact R5
  iintro ⟨HS, Hs⟩
  iapply (wp_put_row (plan m) Variants.none c (bits 25 12697856) (bits 25 33554431) (bits 25 33439487) (bits 25 12582912) (bits 25 8487168) (bits 25 33455871) (bits 25 8388608) (14 : Fin 25) (22 : Fin 25)
    (sem_at _ 6 rfl _ _ (by decide)) (sem_at _ 6 rfl _ _ (by decide)) (dev10_eq c) rfl small (c : Fin 8) (off1_eq c) (src := (Memref.whole main_arg1))
    (Finset.subset_univ _) (fs := m ((c : Thread nD τ).loc main_arg1)) rfl rfl (by decide) (by decide +kernel) (by decide +kernel) (by decide +kernel) (by decide +kernel)
    (by decide +kernel) (by decide +kernel) (by decide +kernel) rfl (small_dealt m c 6) (small_sent m c (across 6 c))) $$ [HS Hs R6]
  · isplitl [HS]; · iexact HS
    isplitl [Hs]; · iexact Hs
    iexact R6
  iintro ⟨HS, Hs⟩
  iapply (wp_put_row (plan m) Variants.none c (bits 25 8487168) (bits 25 33554431) (bits 25 33455871) (bits 25 8388608) (bits 25 65792) (bits 25 33488639) (bits 25 0) (15 : Fin 25) (23 : Fin 25)
    (sem_at _ 7 rfl _ _ (by decide)) (sem_at _ 7 rfl _ _ (by decide)) (dev11_eq c) rfl small (c : Fin 8) (off1_eq c) (src := (Memref.whole main_arg1))
    (Finset.subset_univ _) (fs := m ((c : Thread nD τ).loc main_arg1)) rfl rfl (by decide) (by decide +kernel) (by decide +kernel) (by decide +kernel) (by decide +kernel)
    (by decide +kernel) (by decide +kernel) (by decide +kernel) rfl (small_dealt m c 7) (small_sent m c (across 7 c))) $$ [HS Hs R7]
  · isplitl [HS]; · iexact HS
    isplitl [Hs]; · iexact Hs
    iexact R7
  iintro ⟨HS, Hs⟩
  iapply (wp_wait (plan m) Variants.none c (bits 25 65792) (bits 25 33554431) (bits 25 33488639) (bits 25 0) (bits 25 33554415) (bits 25 33488623) (4 : Fin 25) (sem_at _ 0 rfl _ _ (by decide))
    (src := partAt (k0_off2_inb c)) (dst := halfRow inb_S4x16000x128_S1x16000x128_0_0_0) (hsrc := (View.wordExact_bits rfl)) (hdst := (View.wordExact_bits rfl)) rfl (by decide)
    (by decide +kernel) (by decide +kernel) (fun s hs => absurd hs (by revert s; decide +kernel)) (by decide +kernel) (by decide +kernel) (P := halfAt m c 0) rfl) $$ HS
  iintro ⟨HS, P0⟩
  iapply (wp_wait (plan m) Variants.none c (bits 25 65792) (bits 25 33554415) (bits 25 33488623) (bits 25 0) (bits 25 33554383) (bits 25 33488591) (5 : Fin 25) (sem_at _ 1 rfl _ _ (by decide))
    (src := partAt (k0_off3_inb c)) (dst := halfRow inb_S4x16000x128_S1x16000x128_1_0_0) (hsrc := (View.wordExact_bits rfl)) (hdst := (View.wordExact_bits rfl)) rfl (by decide)
    (by decide +kernel) (by decide +kernel) (fun s hs => absurd hs (by revert s; decide +kernel)) (by decide +kernel) (by decide +kernel) (P := halfAt m c 1) rfl) $$ HS
  iintro ⟨HS, P1⟩
  iapply (wp_wait (plan m) Variants.none c (bits 25 65792) (bits 25 33554383) (bits 25 33488591) (bits 25 0) (bits 25 33554319) (bits 25 33488527) (6 : Fin 25) (sem_at _ 2 rfl _ _ (by decide))
    (src := partAt (k0_off4_inb c)) (dst := halfRow inb_S4x16000x128_S1x16000x128_2_0_0) (hsrc := (View.wordExact_bits rfl)) (hdst := (View.wordExact_bits rfl)) rfl (by decide)
    (by decide +kernel) (by decide +kernel) (fun s hs => absurd hs (by revert s; decide +kernel)) (by decide +kernel) (by decide +kernel) (P := halfAt m c 2) rfl) $$ HS
  iintro ⟨HS, P2⟩
  iapply (wp_wait (plan m) Variants.none c (bits 25 65792) (bits 25 33554319) (bits 25 33488527) (bits 25 0) (bits 25 33554191) (bits 25 33488399) (7 : Fin 25) (sem_at _ 3 rfl _ _ (by decide))
    (src := partAt (k0_off5_inb c)) (dst := halfRow inb_S4x16000x128_S1x16000x128_3_0_0) (hsrc := (View.wordExact_bits rfl)) (hdst := (View.wordExact_bits rfl)) rfl (by decide)
    (by decide +kernel) (by decide +kernel) (fun s hs => absurd hs (by revert s; decide +kernel)) (by decide +kernel) (by decide +kernel) (P := halfAt m c 3) rfl) $$ HS
  iintro ⟨HS, P3⟩
  iapply (wp_wait (plan m) Variants.none c (bits 25 65792) (bits 25 33554191) (bits 25 33488399) (bits 25 0) (bits 25 33423119) (bits 25 33357327) (17 : Fin 25) (sem_at _ 1 rfl _ _ (by decide))
    (src := (Memref.whole main_arg1)) (dst := smallRow (k0_off6_inb c 0)) (hsrc := (View.wordExact_bits rfl)) (hdst := (View.wordExact_bits rfl)) rfl (by decide)
    (by decide +kernel) (by decide +kernel) (fun s hs => absurd hs (by revert s; decide +kernel)) (by decide +kernel) (by decide +kernel) (P := smallAt m c 1) rfl) $$ HS
  iintro ⟨HS, R1⟩
  iapply (wp_wait (plan m) Variants.none c (bits 25 65792) (bits 25 33423119) (bits 25 33357327) (bits 25 0) (bits 25 33160975) (bits 25 33095183) (18 : Fin 25) (sem_at _ 2 rfl _ _ (by decide))
    (src := (Memref.whole main_arg1)) (dst := smallRow (k0_off6_inb c 1)) (hsrc := (View.wordExact_bits rfl)) (hdst := (View.wordExact_bits rfl)) rfl (by decide)
    (by decide +kernel) (by decide +kernel) (fun s hs => absurd hs (by revert s; decide +kernel)) (by decide +kernel) (by decide +kernel) (P := smallAt m c 2) rfl) $$ HS
  iintro ⟨HS, R2⟩
  iapply (wp_wait (plan m) Variants.none c (bits 25 65792) (bits 25 33160975) (bits 25 33095183) (bits 25 0) (bits 25 32636687) (bits 25 32570895) (19 : Fin 25) (sem_at _ 3 rfl _ _ (by decide))
    (src := (Memref.whole main_arg1)) (dst := smallRow (k0_off6_inb c 2)) (hsrc := (View.wordExact_bits rfl)) (hdst := (View.wordExact_bits rfl)) rfl (by decide)
    (by decide +kernel) (by decide +kernel) (fun s hs => absurd hs (by revert s; decide +kernel)) (by decide +kernel) (by decide +kernel) (P := smallAt m c 3) rfl) $$ HS
  iintro ⟨HS, R3⟩
  iapply (wp_wait (plan m) Variants.none c (bits 25 65792) (bits 25 32636687) (bits 25 32570895) (bits 25 0) (bits 25 31588111) (bits 25 31522319) (20 : Fin 25) (sem_at _ 4 rfl _ _ (by decide))
    (src := (Memref.whole main_arg1)) (dst := smallRow (k0_off6_inb c 3)) (hsrc := (View.wordExact_bits rfl)) (hdst := (View.wordExact_bits rfl)) rfl (by decide)
    (by decide +kernel) (by decide +kernel) (fun s hs => absurd hs (by revert s; decide +kernel)) (by decide +kernel) (by decide +kernel) (P := smallAt m c 4) rfl) $$ HS
  iintro ⟨HS, R4⟩
  iapply (wp_wait (plan m) Variants.none c (bits 25 65792) (bits 25 31588111) (bits 25 31522319) (bits 25 0) (bits 25 29490959) (bits 25 29425167) (21 : Fin 25) (sem_at _ 5 rfl _ _ (by decide))
    (src := (Memref.whole main_arg1)) (dst := smallRow (k0_off6_inb c 4)) (hsrc := (View.wordExact_bits rfl)) (hdst := (View.wordExact_bits rfl)) rfl (by decide)
    (by decide +kernel) (by decide +kernel) (fun s hs => absurd hs (by revert s; decide +kernel)) (by decide +kernel) (by decide +kernel) (P := smallAt m c 5) rfl) $$ HS
  iintro ⟨HS, R5⟩
  iapply (wp_wait (plan m) Variants.none c (bits 25 65792) (bits 25 29490959) (bits 25 29425167) (bits 25 0) (bits 25 25296655) (bits 25 25230863) (22 : Fin 25) (sem_at _ 6 rfl _ _ (by decide))
    (src := (Memref.whole main_arg1)) (dst := smallRow (k0_off6_inb c 5)) (hsrc := (View.wordExact_bits rfl)) (hdst := (View.wordExact_bits rfl)) rfl (by decide)
    (by decide +kernel) (by decide +kernel) (fun s hs => absurd hs (by revert s; decide +kernel)) (by decide +kernel) (by decide +kernel) (P := smallAt m c 6) rfl) $$ HS
  iintro ⟨HS, R6⟩
  iapply (wp_wait (plan m) Variants.none c (bits 25 65792) (bits 25 25296655) (bits 25 25230863) (bits 25 0) (bits 25 16908047) (bits 25 16842255) (23 : Fin 25) (sem_at _ 7 rfl _ _ (by decide))
    (src := (Memref.whole main_arg1)) (dst := smallRow (k0_off6_inb c 6)) (hsrc := (View.wordExact_bits rfl)) (hdst := (View.wordExact_bits rfl)) rfl (by decide)
    (by decide +kernel) (by decide +kernel) (fun s hs => absurd hs (by revert s; decide +kernel)) (by decide +kernel) (by decide +kernel) (P := smallAt m c 7) rfl) $$ HS
  iintro ⟨HS, R7⟩
  iapply (wp_wait (plan m) Variants.none c (bits 25 65792) (bits 25 16908047) (bits 25 16842255) (bits 25 0) (bits 25 16908046) (bits 25 16842254) (0 : Fin 25) (sem_at _ 0 rfl _ _ (by decide))
    (src := halfRow inb_S4x16000x128_S1x16000x128_0_0_0) (dst := partAt (k0_off2_inb c)) (hsrc := (View.wordExact_bits rfl)) (hdst := (View.wordExact_bits rfl)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 25 65792) (bits 25 16908046) (bits 25 16842254) (bits 25 0) (bits 25 16908044) (bits 25 16842252) (1 : Fin 25) (sem_at _ 1 rfl _ _ (by decide))
    (src := halfRow inb_S4x16000x128_S1x16000x128_1_0_0) (dst := partAt (k0_off3_inb c)) (hsrc := (View.wordExact_bits rfl)) (hdst := (View.wordExact_bits rfl)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 25 65792) (bits 25 16908044) (bits 25 16842252) (bits 25 0) (bits 25 16908040) (bits 25 16842248) (2 : Fin 25) (sem_at _ 2 rfl _ _ (by decide))
    (src := halfRow inb_S4x16000x128_S1x16000x128_2_0_0) (dst := partAt (k0_off4_inb c)) (hsrc := (View.wordExact_bits rfl)) (hdst := (View.wordExact_bits rfl)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 25 65792) (bits 25 16908040) (bits 25 16842248) (bits 25 0) (bits 25 16908032) (bits 25 16842240) (3 : Fin 25) (sem_at _ 3 rfl _ _ (by decide))
    (src := halfRow inb_S4x16000x128_S1x16000x128_3_0_0) (dst := partAt (k0_off5_inb c)) (hsrc := (View.wordExact_bits rfl)) (hdst := (View.wordExact_bits rfl)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 25 65792) (bits 25 16908032) (bits 25 16842240) (bits 25 0) (bits 25 16907520) (bits 25 16841728) (9 : Fin 25) (sem_at _ 1 rfl _ _ (by decide))
    (src := smallRow (k0_off1_inb c)) (dst := (Memref.whole main_arg1)) (hsrc := (View.wordExact_bits rfl)) (hdst := (View.wordExact_bits rfl)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 25 65792) (bits 25 16907520) (bits 25 16841728) (bits 25 0) (bits 25 16906496) (bits 25 16840704) (10 : Fin 25) (sem_at _ 2 rfl _ _ (by decide))
    (src := smallRow (k0_off1_inb c)) (dst := (Memref.whole main_arg1)) (hsrc := (View.wordExact_bits rfl)) (hdst := (View.wordExact_bits rfl)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 25 65792) (bits 25 16906496) (bits 25 16840704) (bits 25 0) (bits 25 16904448) (bits 25 16838656) (11 : Fin 25) (sem_at _ 3 rfl _ _ (by decide))
    (src := smallRow (k0_off1_inb c)) (dst := (Memref.whole main_arg1)) (hsrc := (View.wordExact_bits rfl)) (hdst := (View.wordExact_bits rfl)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 25 65792) (bits 25 16904448) (bits 25 16838656) (bits 25 0) (bits 25 16900352) (bits 25 16834560) (12 : Fin 25) (sem_at _ 4 rfl _ _ (by decide))
    (src := smallRow (k0_off1_inb c)) (dst := (Memref.whole main_arg1)) (hsrc := (View.wordExact_bits rfl)) (hdst := (View.wordExact_bits rfl)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 25 65792) (bits 25 16900352) (bits 25 16834560) (bits 25 0) (bits 25 16892160) (bits 25 16826368) (13 : Fin 25) (sem_at _ 5 rfl _ _ (by decide))
    (src := smallRow (k0_off1_inb c)) (dst := (Memref.whole main_arg1)) (hsrc := (View.wordExact_bits rfl)) (hdst := (View.wordExact_bits rfl)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 25 65792) (bits 25 16892160) (bits 25 16826368) (bits 25 0) (bits 25 16875776) (bits 25 16809984) (14 : Fin 25) (sem_at _ 6 rfl _ _ (by decide))
    (src := smallRow (k0_off1_inb c)) (dst := (Memref.whole main_arg1)) (hsrc := (View.wordExact_bits rfl)) (hdst := (View.wordExact_bits rfl)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 25 65792) (bits 25 16875776) (bits 25 16809984) (bits 25 0) (bits 25 16843008) (bits 25 16777216) (15 : Fin 25) (sem_at _ 7 rfl _ _ (by decide))
    (src := smallRow (k0_off1_inb c)) (dst := (Memref.whole main_arg1)) (hsrc := (View.wordExact_bits rfl)) (hdst := (View.wordExact_bits rfl)) rfl (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 25 65792) (bits 25 16843008) (bits 25 16777216) (bits 25 0) (bits 25 65792) (bits 25 0) (24 : Fin 25) (sem_alone _ (by decide))
    (src := (Memref.whole main_arg1)) (dst := smallRow (k0_off1_inb c)) (hsrc := (View.wordExact_bits rfl)) (hdst := (View.wordExact_bits rfl)) rfl (by decide)
    (by decide +kernel) (by decide +kernel) (fun s hs => absurd hs (by revert s; decide +kernel)) (by decide +kernel) (by decide +kernel) (P := smallAt m c 0) rfl) $$ HS
  iintro ⟨HS, R0⟩
  imod (st_unused (T := bits 25 65792) (A := bits 25 65792) (C := bits 25 0) (S := bits 25 0) (plan m) c (8 : Fin 25) rfl (by decide +kernel)) $$ HS with HS
  rw [show (bits 25 65792).erase (8 : Fin 25) = bits 25 65536 from by decide +kernel]
  imod (st_unused (T := bits 25 65792) (A := bits 25 65536) (C := bits 25 0) (S := bits 25 0) (plan m) c (16 : Fin 25) rfl (by decide +kernel)) $$ HS with HS
  rw [show (bits 25 65536).erase (16 : Fin 25) = bits 25 0 from by decide +kernel]
  rw [wp_ret]
  imodintro
  isplitl [HS]
  · iexists _, _
    rw [show (∅ : Finset (DmaSem sig)) = bits 25 0 from by decide +kernel]
    iexact HS
  isplitl [Hb]; · iexact Hb
  unfold finish
  isplitl [Ha]; · iexact Ha
  isplitl [Hs]; · iexact Hs
  isplitl [P0 P1 P2 P3]
  · rw [← half_whole, four]
    isplitl [P0]; · iexact P0
    isplitl [P1]; · iexact P1
    isplitl [P2]; · iexact P2
    iexact P3
  rw [← small_whole, eight]
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R7

/-- What a device's memory is to hold at the end: its own arrays as they were, and its results. -/
def final (c : Dev nD) (mem : (ℓ : Loc nD τ sig) → Buf (Elt F) ℓ) : Prop :=
  mem ((c : Thread nD τ).loc main_arg0) = m ((c : Thread nD τ).loc main_arg0) ∧ mem ((c : Thread nD τ).loc main_arg1) = m ((c : Thread nD τ).loc main_arg1)
    ∧ mem ((c : Thread nD τ).loc main_v1_0) = halfOut m c ∧ mem ((c : Thread nD τ).loc main_v1_1) = smallOut m c

theorem finish_read (c : Dev nD) (s' : Phys nD τ sig (Elt F)) :
    iprop(finish m c ∗ SI s') ⊢ (iprop(⌜final m c s'.mem.mem⌝ ∗ SI s') : sProp 𝕄) := by
  unfold finish
  iintro ⟨⟨Ha, Hs, Hh, Hr⟩, HSI⟩
  ihave HSI := (held_read ((c : Thread nD τ).loc main_arg0) Finset.univ (m ((c : Thread nD τ).loc main_arg0)) s') $$ [Ha HSI]
  · isplitl [Ha] <;> iassumption
  icases HSI with ⟨%ha, HSI⟩
  ihave HSI := (held_read ((c : Thread nD τ).loc main_arg1) Finset.univ (m ((c : Thread nD τ).loc main_arg1)) s') $$ [Hs HSI]
  · isplitl [Hs] <;> iassumption
  icases HSI with ⟨%hs, HSI⟩
  ihave Hh : held ((c : Thread nD τ).loc main_v1_0) Finset.univ (halfOut m c) $$ [Hh]
  · unfold held; iexists _; iexact Hh
  ihave HSI := (held_read ((c : Thread nD τ).loc main_v1_0) Finset.univ (halfOut m c) s') $$ [Hh HSI]
  · isplitl [Hh] <;> iassumption
  icases HSI with ⟨%hh, HSI⟩
  ihave Hr : held ((c : Thread nD τ).loc main_v1_1) Finset.univ (smallOut m c) $$ [Hr]
  · unfold held; iexists _; iexact Hr
  ihave HSI := (held_read ((c : Thread nD τ).loc main_v1_1) Finset.univ (smallOut m c) s') $$ [Hr HSI]
  · isplitl [Hr] <;> iassumption
  icases HSI with ⟨%hr, HSI⟩
  isplitr
  · ipureintro
    exact ⟨funext fun i => ha i (Finset.mem_univ i), funext fun i => hs i (Finset.mem_univ i), funext fun i => hh i (Finset.mem_univ i),
      funext fun i => hr i (Finset.mem_univ i)⟩
  · iexact HSI

/-- The run of the exchange between the cores: for any float values and from any memory, every device ends with its own arrays as they
    were, with its core's half of the other core's array and with every device's small array, and every semaphore reads zero. -/
theorem run (m : (ℓ : Loc nD τ sig) → Buf (Elt F) ℓ) (ρ : Dev nD → PrngReg) :
    θ_run (defs (F := F)) (onTc (main (F := F))) ⟨m, fun _ => 0, ρ⟩ (fun r => (∀ c, final m c r.2.mem) ∧ r.2.sem = fun _ => 0) :=
  θ_run_exchange pcfgs (fun p => (cfgs p).toPCfg_adm) (fun p => by fin_cases p; exact ⟨fun w => w.elim0⟩)
    (fun p => by fin_cases p; exact ⟨fun w => w.elim0⟩) (fun p => by fin_cases p; exact N_0)
    defs₀ (plan m) m ρ main main_chain cellOf_inj (by unfold AllDma; decide) (by decide) (start m) (finish m) (start_deal m)
    (fun c t => by
      rw [fin_N0 t]
      exact body m c) (final m) (finish_read m)

end Cert.CoresIdeal

end
-- ==== Proof.Exchange.CoresRef.lean ====
/-
The reference of the exchange between the cores, read at an index: row `4 d + j` of its first result is, for the device numbered `d`, part `j`
of its core's half of the array of the other core of its chip; row `d` of its second result is device `d`'s small array.
-/
module

public import proofs.«01_k».proof.Proof.Exchange.Cores
public import proofs.«01_k».proof.Proof.Gen.CoresRefIdeal.Run
public import Idealize.ShloMosaic.Lib.Pointwise.Reshape

@[expose] public section

noncomputable section

namespace Cert.CoresRefIdeal.Read

open Cert.Exchange (across)
open Cert.CoresIdeal (core)
open Cert.CoresRefIdeal Cert.CoresRefIdeal.Gen
open Idealize.ShloMosaic Idealize.ShloMosaic.TcCoe Idealize.SL.Sem

set_option Elab.async false

variable {α : Type}

/-- One half of one core's arrays on every chip, cut out of the whole array by the core and the half. -/
theorem piece (a b : ℕ) (X : S16x4x16000x128.Idx → α) (h1 : S16x4x16000x128.ShapeCasts S4x2x2x4x16000x128)
    (h2 : S4x2x2x4x16000x128.Slices ![0, a, b, 0, 0, 0] S4x1x1x4x16000x128) (h3 : S4x1x1x4x16000x128.ShapeCasts S4x4x16000x128)
    (h4 : S4x4x16000x128.BroadcastsInDim S4x1x4x16000x128 (![0, 2, 3, 4] : Fin 4 → Fin S4x1x4x16000x128.rank))
    (i : Fin 4) (j : Fin 4) (y : Fin 16000) (z : Fin 128) (ha : a < 2) (hb : b < 2) (r : Fin 16) (hr : r.val = 4 * i.val + 2 * a + b) :
    broadcastInDim S4x1x4x16000x128 ![0, 2, 3, 4] h4 (shapeCast S4x4x16000x128 (extractStridedSlice S4x1x1x4x16000x128 ![0, a, b, 0, 0, 0]
      (shapeCast S4x2x2x4x16000x128 X h1) h2) h3) (ix5 i (0 : Fin 1) j y z) = X (ValueIdx.ix4 r j y z) := by
  rw [broadcastInDim_apply _ h4 _ (ix5 i (0 : Fin 1) j y z) (ValueIdx.ix4 i j y z) (by
    intro t; match t with | ⟨0, _⟩ => rfl | ⟨1, _⟩ => rfl | ⟨2, _⟩ => rfl | ⟨3, _⟩ => rfl)]
  rw [shapeCast_apply _ h3 (ValueIdx.ix4 i j y z) (ix6 i (0 : Fin 1) (0 : Fin 1) j y z) (by
    rw [rowMajor_val4 _ 8192000 2048000 128 rfl rfl rfl, rowMajor_val6 _ 8192000 8192000 8192000 2048000 128 rfl rfl rfl rfl rfl]
    change i.val * 8192000 + 0 * 8192000 + 0 * 8192000 + j.val * 2048000 + y.val * 128 + z.val = i.val * 8192000 + j.val * 2048000 + y.val * 128 + z.val
    omega)]
  rw [extractStridedSlice_apply _ _ h2 _ (ix6 i (⟨a, ha⟩ : Fin 2) (⟨b, hb⟩ : Fin 2) j y z) (by
    intro t
    match t with
    | ⟨0, _⟩ => exact (Nat.zero_add _).symm
    | ⟨1, _⟩ => rfl
    | ⟨2, _⟩ => rfl
    | ⟨3, _⟩ => exact (Nat.zero_add _).symm
    | ⟨4, _⟩ => exact (Nat.zero_add _).symm
    | ⟨5, _⟩ => exact (Nat.zero_add _).symm)]
  exact shapeCast_apply X h1 _ (ValueIdx.ix4 r j y z) (by
    rw [rowMajor_val4 _ 8192000 2048000 128 rfl rfl rfl, rowMajor_val6 _ 32768000 16384000 8192000 2048000 128 rfl rfl rfl rfl rfl]
    change r.val * 8192000 + j.val * 2048000 + y.val * 128 + z.val
      = i.val * 32768000 + a * 16384000 + b * 8192000 + j.val * 2048000 + y.val * 128 + z.val
    omega)

/-- The two cores' arrays laid side by side, read at core `e`. -/
theorem second (u0 u1 : S4x1x4x16000x128.Idx → α) (h : Shape.Concatenates [S4x1x4x16000x128, S4x1x4x16000x128] S4x2x4x16000x128 1)
    (i : Fin 4) (e : Fin 2) (j : Fin 4) (y : Fin 16000) (z : Fin 128) :
    concatenate S4x2x4x16000x128 1 [⟨S4x1x4x16000x128, u0⟩, ⟨S4x1x4x16000x128, u1⟩] h (ix5 i e j y z)
      = (![u0, u1] e : S4x1x4x16000x128.Idx → α) (ix5 i (0 : Fin 1) j y z) := by
  have off : ∀ b : Fin S4x1x4x16000x128.rank, b.cast (rfl : S4x1x4x16000x128.rank = S4x2x4x16000x128.rank) ≠ (1 : Fin S4x2x4x16000x128.rank) →
      (ix5 i (0 : Fin 1) j y z b : ℕ) = (ix5 i e j y z (b.cast rfl) : ℕ) := fun b hb => by
    match b with
    | ⟨0, _⟩ => rfl
    | ⟨1, _⟩ => exact absurd rfl hb
    | ⟨2, _⟩ => rfl
    | ⟨3, _⟩ => rfl
    | ⟨4, _⟩ => rfl
  fin_cases e
  · exact concatenate_apply_piece (t := S4x2x4x16000x128) 1 _ _ _ 0 (by simp) S4x1x4x16000x128 u0 rfl rfl 0 rfl _ off rfl
  · exact concatenate_apply_piece (t := S4x2x4x16000x128) 1 _ _ _ 1 (by simp) S4x1x4x16000x128 u1 rfl rfl 1 rfl _ off rfl

/-- The reference's first result as its operations compose it. -/
def halves (X : S16x4x16000x128.Idx → α) : S32x16000x128.Idx → α :=
  shapeCast S32x16000x128 (concatenate S4x2x4x16000x128 1
    [⟨S4x1x4x16000x128, broadcastInDim S4x1x4x16000x128 ![0, 2, 3, 4] bcast_S4x4x16000x128_S4x1x4x16000x128_0_2_3_4
        (shapeCast S4x4x16000x128 (extractStridedSlice S4x1x1x4x16000x128 ![0, 1, 0, 0, 0, 0]
          (shapeCast S4x2x2x4x16000x128 X shapeCasts_S16x4x16000x128_S4x2x2x4x16000x128) slices_S4x2x2x4x16000x128_S4x1x1x4x16000x128_0_1_0_0_0_0)
          shapeCasts_S4x1x1x4x16000x128_S4x4x16000x128)⟩,
      ⟨S4x1x4x16000x128, broadcastInDim S4x1x4x16000x128 ![0, 2, 3, 4] bcast_S4x4x16000x128_S4x1x4x16000x128_0_2_3_4
        (shapeCast S4x4x16000x128 (extractStridedSlice S4x1x1x4x16000x128 ![0, 0, 1, 0, 0, 0]
          (shapeCast S4x2x2x4x16000x128 X shapeCasts_S16x4x16000x128_S4x2x2x4x16000x128) slices_S4x2x2x4x16000x128_S4x1x1x4x16000x128_0_0_1_0_0_0)
          shapeCasts_S4x1x1x4x16000x128_S4x4x16000x128)⟩]
    concatenates_S4x1x4x16000x128_S4x1x4x16000x128_S4x2x4x16000x128_d1) shapeCasts_S4x2x4x16000x128_S32x16000x128

/-- The reference's second result. -/
def smalls (X : S768x128.Idx → α) : S8x96x128.Idx → α := shapeCast S8x96x128 X shapeCasts_S768x128_S8x96x128

/-- The whole array's row that device `d`'s half comes from. -/
def source (d : Fin 8) : Fin 16 :=
  ⟨(across 1 d).val * 2 + (core d).val, by
    have h : (across 1 d).val < 8 := (across 1 d).isLt
    have h' : (core d).val < 2 := (core d).isLt
    omega⟩

/-- The first result at device `d`'s part `j`. -/
theorem halves_apply (X : S16x4x16000x128.Idx → α) (d : Fin 8) (j : Fin 4) (y : Fin 16000) (z : Fin 128) (r : Fin 32)
    (hr : r.val = d.val * 4 + j.val) : halves X (ValueIdx.ix3 r y z) = X (ValueIdx.ix4 (source d) j y z) := by
  have hd : d.val < 8 := d.isLt
  unfold halves
  rw [shapeCast_apply _ shapeCasts_S4x2x4x16000x128_S32x16000x128 (ValueIdx.ix3 r y z)
    (ix5 (⟨d.val / 2, by omega⟩ : Fin 4) (⟨d.val % 2, by omega⟩ : Fin 2) j y z) (by
      rw [rowMajor_val3 _ 2048000 128 rfl rfl, rowMajor_val5 _ 16384000 8192000 2048000 128 rfl rfl rfl rfl]
      change d.val / 2 * 16384000 + d.val % 2 * 8192000 + j.val * 2048000 + y.val * 128 + z.val = r.val * 2048000 + y.val * 128 + z.val
      omega)]
  rw [second]
  clear hr hd
  fin_cases d <;>
    exact piece _ _ X (by decide) (by decide) (by decide) (by decide) _ j y z (by decide) (by decide) _ rfl

/-- The second result at device `d`'s row. -/
theorem smalls_apply (X : S768x128.Idx → α) (d : Fin 8) (y : Fin 96) (z : Fin 128) (r : Fin 768) (hr : r.val = d.val * 96 + y.val) :
    smalls X (ValueIdx.ix3 d y z) = X (ValueIdx.ix2 r z) :=
  shapeCast_apply X shapeCasts_S768x128_S8x96x128 (ValueIdx.ix3 d y z) (ValueIdx.ix2 r z) (by
    rw [rowMajor_val2 _ 128 rfl, rowMajor_val3 _ 12288 128 rfl rfl]
    change r.val * 128 + z.val = d.val * 12288 + y.val * 128 + z.val
    omega)

end Cert.CoresRefIdeal.Read

end
-- ==== Proof.Exchange.CoresClaims.lean ====
/-
The claims about the exchange between the cores: the kernel and its reference run and leave their arguments as they were, each device's block
of the reference's first result is what the kernel leaves on that device, and its second result is what the kernel leaves on every device.
-/
module

public import proofs.«01_k».proof.Defs
public import proofs.«01_k».proof.Proof.Exchange.CoresRef
public import proofs.«01_k».proof.Proof.Exchange.Blocks
public import proofs.«01_k».proof.Proof.Gen.Cores
public import proofs.«01_k».proof.Proof.Gen.CoresRef

@[expose] public section

noncomputable section

namespace Cert.Exchange.Cores

open Idealize.ShloMosaic Idealize.ShloMosaic.TcCoe Idealize.SL.Sem

set_option Elab.async false

variable {F : FTy → Type} [FloatOps F]

/-- That every device's two arrays are its blocks of the whole arguments. -/
def Dealt (m : (ℓ : Loc Cert.CoresIdeal.nD Cert.CoresIdeal.τ Cert.CoresIdeal.sig) → Buf (Elt F) ℓ)
    (m' : (ℓ : Loc Cert.CoresRefIdeal.nD Cert.CoresRefIdeal.τ Cert.CoresRefIdeal.sig) → Buf (Elt F) ℓ) : Prop :=
  ∀ c : Dev Cert.CoresIdeal.nD, m ((c.tc : Thread Cert.CoresIdeal.nD Cert.CoresIdeal.τ).loc Cert.CoresIdeal.main_arg0)
      = Layout.block ⟨4, ![2, 4, 16000, 128]⟩ ⟨4, ![16, 4, 16000, 128]⟩ 0 8 c
          (m' (((0 : Dev Cert.CoresRefIdeal.nD).tc : Thread Cert.CoresRefIdeal.nD Cert.CoresRefIdeal.τ).loc Cert.CoresRefIdeal.main_arg0))
    ∧ m ((c.tc : Thread Cert.CoresIdeal.nD Cert.CoresIdeal.τ).loc Cert.CoresIdeal.main_arg1)
      = Layout.block ⟨2, ![96, 128]⟩ ⟨2, ![768, 128]⟩ 0 8 c
          (m' (((0 : Dev Cert.CoresRefIdeal.nD).tc : Thread Cert.CoresRefIdeal.nD Cert.CoresRefIdeal.τ).loc Cert.CoresRefIdeal.main_arg1))

/-- The reference's results. -/
abbrev halves (m' : (ℓ : Loc Cert.CoresRefIdeal.nD Cert.CoresRefIdeal.τ Cert.CoresRefIdeal.sig) → Buf (Elt F) ℓ) :
    Buf (Elt F) (((0 : Dev Cert.CoresRefIdeal.nD).tc : Thread Cert.CoresRefIdeal.nD Cert.CoresRefIdeal.τ).loc Cert.CoresRefIdeal.main_v8) :=
  Cert.CoresRefIdeal.Read.halves (α := Elt F .f32)
    (m' (((0 : Dev Cert.CoresRefIdeal.nD).tc : Thread Cert.CoresRefIdeal.nD Cert.CoresRefIdeal.τ).loc Cert.CoresRefIdeal.main_arg0))
abbrev smalls (m' : (ℓ : Loc Cert.CoresRefIdeal.nD Cert.CoresRefIdeal.τ Cert.CoresRefIdeal.sig) → Buf (Elt F) ℓ) :
    Buf (Elt F) (((0 : Dev Cert.CoresRefIdeal.nD).tc : Thread Cert.CoresRefIdeal.nD Cert.CoresRefIdeal.τ).loc Cert.CoresRefIdeal.main_v9) :=
  Cert.CoresRefIdeal.Read.smalls (α := Elt F .f32)
    (m' (((0 : Dev Cert.CoresRefIdeal.nD).tc : Thread Cert.CoresRefIdeal.nD Cert.CoresRefIdeal.τ).loc Cert.CoresRefIdeal.main_arg1))

theorem agree_half (m : (ℓ : Loc Cert.CoresIdeal.nD Cert.CoresIdeal.τ Cert.CoresIdeal.sig) → Buf (Elt F) ℓ)
    (m' : (ℓ : Loc Cert.CoresRefIdeal.nD Cert.CoresRefIdeal.τ Cert.CoresRefIdeal.sig) → Buf (Elt F) ℓ) (h : Dealt m m') (c : Dev Cert.CoresIdeal.nD) :
    Cert.CoresIdeal.halfOut m c = Layout.block ⟨3, ![4, 16000, 128]⟩ ⟨3, ![32, 16000, 128]⟩ 0 8 c (halves m') := by
  funext i
  obtain ⟨j, y, z, rfl⟩ := coords (a := 4) (b := 16000) (c := 128) i
  have hc : c.val < 8 := c.isLt
  rw [Layout.block_apply, block_row _ c j y z (⟨c.val * 4 + j.val, by omega⟩ : Fin 32) rfl]
  refine Eq.trans ?_ (Cert.CoresRefIdeal.Read.halves_apply (α := Elt F .f32) _ c j y z _ rfl).symm
  show (m ((Cert.Exchange.across 1 c : Dev Cert.CoresIdeal.nD).tc.loc Cert.CoresIdeal.main_arg0)
    : Cert.CoresIdeal.S2x4x16000x128.Idx → Elt F .f32) (ValueIdx.ix4 (Cert.CoresIdeal.core c) j y z) = _
  rw [(h _).1, Layout.block_apply, block_row4 _ _ (Cert.CoresIdeal.core c) j y z (Cert.CoresRefIdeal.Read.source c) rfl]

theorem agree_small (m : (ℓ : Loc Cert.CoresIdeal.nD Cert.CoresIdeal.τ Cert.CoresIdeal.sig) → Buf (Elt F) ℓ)
    (m' : (ℓ : Loc Cert.CoresRefIdeal.nD Cert.CoresRefIdeal.τ Cert.CoresRefIdeal.sig) → Buf (Elt F) ℓ) (h : Dealt m m') (c : Dev Cert.CoresIdeal.nD) :
    Cert.CoresIdeal.smallOut m c = smalls m' := by
  funext i
  obtain ⟨d, y, z, rfl⟩ := coords (a := 8) (b := 96) (c := 128) i
  have hd : d.val < 8 := d.isLt
  refine Eq.trans ?_ (Cert.CoresRefIdeal.Read.smalls_apply (α := Elt F .f32) _ d y z (⟨d.val * 96 + y.val, by omega⟩ : Fin 768) rfl).symm
  show (m ((show Dev Cert.CoresIdeal.nD from d).tc.loc Cert.CoresIdeal.main_arg1) : Cert.CoresIdeal.S96x128.Idx → Elt F .f32) (ValueIdx.ix2 y z) = _
  rw [(h _).2, Layout.block_apply, block_row2 _ _ y z (⟨d.val * 96 + y.val, by omega⟩ : Fin 768) rfl]

theorem frame_kernel : Cert.quiescent_Cores := fun m ρ _ =>
  (θ_run Cert.CoresIdeal.defs _ _).mono (fun _ h => ⟨fun c => ⟨(h.1 c).1, (h.1 c).2.1⟩, h.2⟩) (Cert.CoresIdeal.run (F := Bits) m ρ)

theorem frame_ideal : Cert.quiescent_CoresIdeal := fun m ρ _ =>
  (θ_run Cert.CoresIdeal.defs _ _).mono (fun _ h => ⟨fun c => ⟨(h.1 c).1, (h.1 c).2.1⟩, h.2⟩) (Cert.CoresIdeal.run (F := Ideal) m ρ)

theorem frame_reference : Cert.quiescent_CoresRef := fun m ρ _ =>
  (θ_run Cert.CoresRefIdeal.defs _ _).mono (fun r h => ⟨fun c => (h c).2.2, sem_eq_zero_of_no_sems (by decide) r.2⟩)
    (Cert.CoresRefIdeal.Value.run (F := Bits) m ρ)

theorem frame_reference_ideal : Cert.quiescent_CoresRefIdeal := fun m ρ _ =>
  (θ_run Cert.CoresRefIdeal.defs _ _).mono (fun r h => ⟨fun c => (h c).2.2, sem_eq_zero_of_no_sems (by decide) r.2⟩)
    (Cert.CoresRefIdeal.Value.run (F := Ideal) m ρ)

theorem bitexact : Cert.bitexact_Cores_CoresRef := fun m g m' g' _ h =>
  ⟨halves (F := Bits) m', smalls (F := Bits) m',
    (θ_run Cert.CoresIdeal.defs _ _).mono (fun _ hr c => ⟨(hr.1 c).2.2.1.trans (agree_half (F := Bits) m m' h c),
      (hr.1 c).2.2.2.trans (agree_small (F := Bits) m m' h c), (hr.1 c).1, (hr.1 c).2.1⟩) (Cert.CoresIdeal.run (F := Bits) m g),
    (θ_run Cert.CoresRefIdeal.defs _ _).mono (fun _ hr => hr 0) (Cert.CoresRefIdeal.Value.run (F := Bits) m' g')⟩

theorem algebraic : Cert.algebraic_CoresIdeal_CoresRefIdeal := fun m g m' g' _ h =>
  ⟨halves (F := Ideal) m', smalls (F := Ideal) m',
    (θ_run Cert.CoresIdeal.defs _ _).mono (fun _ hr c => ⟨(hr.1 c).2.2.1.trans (agree_half (F := Ideal) m m' h c),
      (hr.1 c).2.2.2.trans (agree_small (F := Ideal) m m' h c), (hr.1 c).1, (hr.1 c).2.1⟩) (Cert.CoresIdeal.run (F := Ideal) m g),
    (θ_run Cert.CoresRefIdeal.defs _ _).mono (fun _ hr => hr 0) (Cert.CoresRefIdeal.Value.run (F := Ideal) m' g')⟩

end Cert.Exchange.Cores

end
-- ==== Proof.Exchange.Chips.lean ====
/-
The exchange between chips: each device sends one slice of its array to each of the three other chips' device of the same
core, and receives one from each.
-/
module

public import proofs.«01_k».proof.Proof.Exchange.Steps
public import proofs.«01_k».proof.Proof.Gen.ChipsIdeal.Skeleton
public import proofs.«01_k».proof.Proof.Gen.ChipsIdeal.Launch
public import Idealize.ShloMosaic.Lib.Ring

@[expose] public section

noncomputable section

namespace Cert.ChipsIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks)
open Cert.Exchange Cert.ChipsIdeal.Gen

set_option Elab.async false

variable {F : FTy → Type} [FloatOps F]

local notation "𝕄" => MT nD τ sig Unit (Elt F) ℕ (UR sig nD τ) ℕ

/-! ## Who exchanges with whom -/

/-- The `k`-th other chip, as the bits in which its devices' numbers differ. -/
def other : Fin 3 → Fin 8 := ![4, 2, 6]

/-- A device's chip, which is also the slice that the others send it. -/
def chip (c : Dev nD) : Fin 4 := ⟨c.val / 2, by have h : c.val < 8 := c.isLt; omega⟩

theorem dev1_eq (c : Dev nD) : (⟨k0_dev1 c, k0_dev1_lt c⟩ : Dev nD) = across 4 c := by revert c; decide +kernel
theorem dev2_eq (c : Dev nD) : (⟨k0_dev2 c, k0_dev2_lt c⟩ : Dev nD) = across 2 c := by revert c; decide +kernel
theorem dev3_eq (c : Dev nD) : (⟨k0_dev3 c, k0_dev3_lt c⟩ : Dev nD) = across 6 c := by revert c; decide +kernel
theorem off1_eq (c : Dev nD) : k0_off1 c 1#32 0#32 = ![(chip (across 4 c)).val, 0, 0] := by revert c; decide +kernel
theorem off2_eq (c : Dev nD) : k0_off1 c 0#32 1#32 = ![(chip (across 2 c)).val, 0, 0] := by revert c; decide +kernel
theorem off3_eq (c : Dev nD) : k0_off1 c 1#32 1#32 = ![(chip (across 6 c)).val, 0, 0] := by revert c; decide +kernel

/-! ## What is exchanged -/

variable (m : (ℓ : Loc nD τ sig) → Buf (Elt F) ℓ)

/-- What a device's result holds after the exchange: row `k` is the device's chip's slice of the `k`-th other chip's array. -/
def out (c : Dev nD) : Buf (Elt F) ((c : Thread nD τ).loc main_v1) := fun i : S3x16000x128.Idx =>
  (m (((across (other (i 0)) c : Dev nD) : Thread nD τ).loc main_arg0) : S4x16000x128.Idx → Elt F .bf16) (ix3 (chip c) (i 1) (i 2))

/-- The result array. -/
abbrev res : Memref sig .tc .hbm S3x16000x128 .bf16 := Memref.whole main_v1

/-- The credit of one row. -/
def rowCredit : ℕ := sig.dmaCredit .tc .hbm (1 : Fin 2) S16000x128 .bf16

/-- Row `k` of device `c`'s result, arrived. -/
def arrived (c : Dev nD) (k : Fin 3) : sProp 𝕄 := (c : Thread nD τ).loc main_v1 ↦[rowSet res k]{fullShare} out m c

/-- The plan: semaphores 0, 1, 2 say that a row has been sent, semaphores 3, 4, 5 that one has arrived. -/
def plan : Plan nD τ sig (Elt F) where
  amt _ := rowCredit
  pay c s := (![iprop(emp), iprop(emp), iprop(emp), arrived m c 0, arrived m c 1, arrived m c 2] : Fin 6 → sProp 𝕄) s
  peer s := (![Equiv.refl _, Equiv.refl _, Equiv.refl _, across 4, across 2, across 6] : Fin 6 → (Dev nD ≃ Dev nD)) s
  recv := bits 6 56
  lev _ := 0
  storable c s := by
    have hA : ∀ k, BI.Storable (upEmb : UEmb _ 𝕄) (arrived m c k) := fun k => by unfold arrived; infer_instance
    have hE : BI.Storable (upEmb : UEmb _ 𝕄) (iprop(emp) : sProp 𝕄) := inferInstance
    match s with
    | ⟨0, _⟩ => exact hE
    | ⟨1, _⟩ => exact hE
    | ⟨2, _⟩ => exact hE
    | ⟨3, _⟩ => exact hA 0
    | ⟨4, _⟩ => exact hA 1
    | ⟨5, _⟩ => exact hA 2

theorem three (Φ : Fin 3 → sProp 𝕄) : bigSep Finset.univ Φ = iprop(Φ 0 ∗ Φ 1 ∗ Φ 2) :=
  bigSep_univ_eq_bigSepL [0, 1, 2] (by decide) (by decide) Φ

/-- What a device starts with: its own array, and the row it is to fill of each device it sends to. -/
def start (c : Dev nD) : sProp 𝕄 :=
  iprop(((c : Thread nD τ).loc main_arg0 ↦{fullShare} m ((c : Thread nD τ).loc main_arg0))
    ∗ bigSep Finset.univ fun k : Fin 3 => (((across (other k) c : Dev nD) : Thread nD τ).loc main_v1)
        ↦[rowSet res k]{fullShare} m (((across (other k) c : Dev nD) : Thread nD τ).loc main_v1))

/-- What a device ends with: its own array as it was, and its result. -/
def finish (c : Dev nD) : sProp 𝕄 :=
  iprop(held ((c : Thread nD τ).loc main_arg0) Finset.univ (m ((c : Thread nD τ).loc main_arg0))
    ∗ ((c : Thread nD τ).loc main_v1 ↦{fullShare} out m c))

theorem start_deal : (bigSep Finset.univ fun c : Dev nD => unscopedBufs c fun b => m ((c.tc : Thread nD τ).loc b)) ⊢ bigSep Finset.univ (start m) := by
  have e : ∀ c : Dev nD, (unscopedBufs c (fun b => m ((c.tc : Thread nD τ).loc b)) : sProp 𝕄)
      = iprop(((c : Thread nD τ).loc main_arg0 ↦{fullShare} m ((c : Thread nD τ).loc main_arg0))
        ∗ bigSep Finset.univ fun k : Fin 3 => ((c : Thread nD τ).loc main_v1) ↦[rowSet res k]{fullShare} m ((c : Thread nD τ).loc main_v1)) := fun c => by
    rw [unscoped_list c _ [main_arg0, main_v1] (by decide) (by decide)]
    rw [← pointsTo_blocks (ℓ := (c : Thread nD τ).loc main_v1) (rowSet res) (fun _ _ h => rowSet_disjoint res h) (rowSet_cover res (View.set_whole _))]
    rfl
  simp only [e]
  unfold start
  rw [bigSep_sep', bigSep_sep', deal_again (fun k => across (other k))]

/-- What device `c` sends to the `k`-th other chip is what that device's result is to hold. -/
theorem out_at (c : Dev nD) (k : Fin 3) (x : Fin 16000) (y : Fin 128) :
    (out m (across (other k) c) : S3x16000x128.Idx → Elt F .bf16) (ix3 k x y)
      = (m ((c : Thread nD τ).loc main_arg0) : S4x16000x128.Idx → Elt F .bf16) (ix3 (chip (across (other k) c)) x y) := by
  show (m (((across (other k) (across (other k) c) : Dev nD) : Thread nD τ).loc main_arg0) : S4x16000x128.Idx → Elt F .bf16) _ = _
  rw [across_across]

/-- The slices of the device's own array that it sends. -/
abbrev slice0 (c : Dev nD) : Memref sig .tc .hbm S16000x128 .bf16 :=
  rowView (Memref.whole main_arg0) (off := k0_off1 c 1#32 0#32) (k0_off1_inb c 0) (fun _ => rfl) squeezes_S1x16000x128_S16000x128
abbrev slice1 (c : Dev nD) : Memref sig .tc .hbm S16000x128 .bf16 :=
  rowView (Memref.whole main_arg0) (off := k0_off1 c 0#32 1#32) (k0_off1_inb c 1) (fun _ => rfl) squeezes_S1x16000x128_S16000x128
abbrev slice2 (c : Dev nD) : Memref sig .tc .hbm S16000x128 .bf16 :=
  rowView (Memref.whole main_arg0) (off := k0_off1 c 1#32 1#32) (k0_off1_inb c 2) (fun _ => rfl) squeezes_S1x16000x128_S16000x128

/-- The rows of the result, as the kernel forms them. -/
abbrev row0 : Memref sig .tc .hbm S16000x128 .bf16 :=
  rowView res (off := ![0, 0, 0]) inb_S3x16000x128_S1x16000x128_0_0_0 (fun _ => rfl) squeezes_S1x16000x128_S16000x128
abbrev row1 : Memref sig .tc .hbm S16000x128 .bf16 :=
  rowView res (off := ![1, 0, 0]) inb_S3x16000x128_S1x16000x128_1_0_0 (fun _ => rfl) squeezes_S1x16000x128_S16000x128
abbrev row2 : Memref sig .tc .hbm S16000x128 .bf16 :=
  rowView res (off := ![2, 0, 0]) inb_S3x16000x128_S1x16000x128_2_0_0 (fun _ => rfl) squeezes_S1x16000x128_S16000x128

theorem slice0_exact (c : Dev nD) : (slice0 c).view.WordExact :=
  ((Memref.isWhole_whole main_arg0).wordExact_slice rfl _ (k0_off1_wordsbf16 c 0)).reshape _ _
theorem row0_exact : row0.view.WordExact :=
  ((Memref.isWhole_whole main_v1).wordExact_slice rfl _ wordsbf16_S3x16000x128_S1x16000x128_0_0_0).reshape _ _
theorem slice1_exact (c : Dev nD) : (slice1 c).view.WordExact :=
  ((Memref.isWhole_whole main_arg0).wordExact_slice rfl _ (k0_off1_wordsbf16 c 1)).reshape _ _
theorem row1_exact : row1.view.WordExact :=
  ((Memref.isWhole_whole main_v1).wordExact_slice rfl _ wordsbf16_S3x16000x128_S1x16000x128_1_0_0).reshape _ _
theorem slice2_exact (c : Dev nD) : (slice2 c).view.WordExact :=
  ((Memref.isWhole_whole main_arg0).wordExact_slice rfl _ (k0_off1_wordsbf16 c 2)).reshape _ _
theorem row2_exact : row2.view.WordExact :=
  ((Memref.isWhole_whole main_v1).wordExact_slice rfl _ wordsbf16_S3x16000x128_S1x16000x128_2_0_0).reshape _ _

theorem sent0 (c : Dev nD) (x : Fin 16000) (y : Fin 128) :
    res.view.read (Elt F) (out m (across 4 c)) (ix3 0 x y) = (slice0 c).view.read (Elt F) (m ((c : Thread nD τ).loc main_arg0)) (ix2 x y) :=
  (out_at m c 0 x y).trans (rowView_read (Memref.whole main_arg0) (off1_eq c) _ _ _ (m ((c : Thread nD τ).loc main_arg0)) x y).symm

theorem sent1 (c : Dev nD) (x : Fin 16000) (y : Fin 128) :
    res.view.read (Elt F) (out m (across 2 c)) (ix3 1 x y) = (slice1 c).view.read (Elt F) (m ((c : Thread nD τ).loc main_arg0)) (ix2 x y) :=
  (out_at m c 1 x y).trans (rowView_read (Memref.whole main_arg0) (off2_eq c) _ _ _ (m ((c : Thread nD τ).loc main_arg0)) x y).symm

theorem sent2 (c : Dev nD) (x : Fin 16000) (y : Fin 128) :
    res.view.read (Elt F) (out m (across 6 c)) (ix3 2 x y) = (slice2 c).view.read (Elt F) (m ((c : Thread nD τ).loc main_arg0)) (ix2 x y) :=
  (out_at m c 2 x y).trans (rowView_read (Memref.whole main_arg0) (off3_eq c) _ _ _ (m ((c : Thread nD τ).loc main_arg0)) x y).symm

/-- A row's credit, whichever of the two arrays it is of. -/
theorem credit (dst : Memref sig .tc .hbm S16000x128 .bf16) : rowCredit = dst.view.dmaCredit := rfl

theorem body (c : Dev nD) :
    iprop((plan m).St c Finset.univ Finset.univ (plan m).recv (plan m).recv ∗ scopedBufs (c : Thread nD τ) ∗ start m c)
      ⊢ wp frame (wpE (defs₀ (F := F)) Variants.none (c : Thread nD τ) none) Set.univ
          (cc0_exchange_chips (Memref.whole main_arg0) (Memref.isWhole_whole _) (Memref.whole main_v1) (Memref.isWhole_whole _) cc0_scratch0 cc0_scratch1)
          fun _ => iprop((∃ T C, (plan m).St c T ∅ C ∅) ∗ scopedBufs (c : Thread nD τ) ∗ finish m c) := by
  unfold start
  rw [three, show (Finset.univ : Finset (DmaSem sig)) = bits 6 63 from by decide +kernel]
  iintro ⟨HS, Hb, Ha, H0, H1, H2⟩
  ihave Ha : held ((c : Thread nD τ).loc main_arg0) Finset.univ (m ((c : Thread nD τ).loc main_arg0)) $$ [Ha]
  · unfold held; iexists _; iexact Ha
  rw [cc0_exchange_chips_eq_skeleton]
  unfold cc0_exchange_chips_skel
  rw [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  iapply (wp_put_row (plan m) Variants.none c (bits 6 63) (bits 6 63) (bits 6 56) (bits 6 56) (bits 6 54) (bits 6 57) (bits 6 48) (0 : Fin 6) (3 : Fin 6)
    (sem_at _ 0 rfl _ _ (by decide)) (sem_at _ 0 rfl _ _ (by decide)) (dev1_eq c) rfl
    res 0 rfl (src := slice0 c) (Finset.subset_univ _) (fs := m ((c : Thread nD τ).loc main_arg0)) (out := out m _) rfl rfl (by decide)
    (by decide +kernel) (by decide +kernel) (by decide +kernel) (by decide +kernel) (by decide +kernel) (by decide +kernel) (by decide +kernel) rfl rfl
    (sent0 m c)) $$ [HS Ha H0]
  · isplitl [HS]; · iexact HS
    isplitl [Ha]; · iexact Ha
    iexact H0
  iintro ⟨HS, Ha⟩
  iapply (wp_put_row (plan m) Variants.none c (bits 6 54) (bits 6 63) (bits 6 57) (bits 6 48) (bits 6 36) (bits 6 59) (bits 6 32) (1 : Fin 6) (4 : Fin 6)
    (sem_at _ 1 rfl _ _ (by decide)) (sem_at _ 1 rfl _ _ (by decide)) (dev2_eq c) rfl
    res 1 rfl (src := slice1 c) (Finset.subset_univ _) (fs := m ((c : Thread nD τ).loc main_arg0)) (out := out m _) rfl rfl (by decide)
    (by decide +kernel) (by decide +kernel) (by decide +kernel) (by decide +kernel) (by decide +kernel) (by decide +kernel) (by decide +kernel) rfl rfl
    (sent1 m c)) $$ [HS Ha H1]
  · isplitl [HS]; · iexact HS
    isplitl [Ha]; · iexact Ha
    iexact H1
  iintro ⟨HS, Ha⟩
  iapply (wp_put_row (plan m) Variants.none c (bits 6 36) (bits 6 63) (bits 6 59) (bits 6 32) (bits 6 0) (bits 6 63) (bits 6 0) (2 : Fin 6) (5 : Fin 6)
    (sem_at _ 2 rfl _ _ (by decide)) (sem_at _ 2 rfl _ _ (by decide)) (dev3_eq c) rfl
    res 2 rfl (src := slice2 c) (Finset.subset_univ _) (fs := m ((c : Thread nD τ).loc main_arg0)) (out := out m _) rfl rfl (by decide)
    (by decide +kernel) (by decide +kernel) (by decide +kernel) (by decide +kernel) (by decide +kernel) (by decide +kernel) (by decide +kernel) rfl rfl
    (sent2 m c)) $$ [HS Ha H2]
  · isplitl [HS]; · iexact HS
    isplitl [Ha]; · iexact Ha
    iexact H2
  iintro ⟨HS, Ha⟩
  iapply (wp_wait (plan m) Variants.none c (bits 6 0) (bits 6 63) (bits 6 63) (bits 6 0) (bits 6 55) (bits 6 55) (3 : Fin 6) (sem_at _ 0 rfl _ _ (by decide)) (src := slice0 c) (dst := row0) (hsrc := (slice0_exact c)) (hdst := (row0_exact)) (credit _) (by decide)
    (by decide +kernel) (by decide +kernel) (fun s hs => absurd hs (by revert s; decide +kernel)) (by decide +kernel) (by decide +kernel) (P := ((c : Thread nD τ).loc main_v1 ↦[rowSet res 0]{fullShare} out m c)) rfl) $$ HS
  iintro ⟨HS, H0⟩
  iapply (wp_wait (plan m) Variants.none c (bits 6 0) (bits 6 55) (bits 6 55) (bits 6 0) (bits 6 39) (bits 6 39) (4 : Fin 6) (sem_at _ 1 rfl _ _ (by decide)) (src := slice1 c) (dst := row1) (hsrc := (slice1_exact c)) (hdst := (row1_exact)) (credit _) (by decide)
    (by decide +kernel) (by decide +kernel) (fun s hs => absurd hs (by revert s; decide +kernel)) (by decide +kernel) (by decide +kernel) (P := ((c : Thread nD τ).loc main_v1 ↦[rowSet res 1]{fullShare} out m c)) rfl) $$ HS
  iintro ⟨HS, H1⟩
  iapply (wp_wait (plan m) Variants.none c (bits 6 0) (bits 6 39) (bits 6 39) (bits 6 0) (bits 6 7) (bits 6 7) (5 : Fin 6) (sem_at _ 2 rfl _ _ (by decide)) (src := slice2 c) (dst := row2) (hsrc := (slice2_exact c)) (hdst := (row2_exact)) (credit _) (by decide)
    (by decide +kernel) (by decide +kernel) (fun s hs => absurd hs (by revert s; decide +kernel)) (by decide +kernel) (by decide +kernel) (P := ((c : Thread nD τ).loc main_v1 ↦[rowSet res 2]{fullShare} out m c)) rfl) $$ HS
  iintro ⟨HS, H2⟩
  iapply (wp_wait (plan m) Variants.none c (bits 6 0) (bits 6 7) (bits 6 7) (bits 6 0) (bits 6 6) (bits 6 6) (0 : Fin 6) (sem_at _ 0 rfl _ _ (by decide)) (src := row0) (dst := slice0 c) (hsrc := (row0_exact)) (hdst := (slice0_exact c)) (credit _) (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 6 0) (bits 6 6) (bits 6 6) (bits 6 0) (bits 6 4) (bits 6 4) (1 : Fin 6) (sem_at _ 1 rfl _ _ (by decide)) (src := row1) (dst := slice1 c) (hsrc := (row1_exact)) (hdst := (slice1_exact c)) (credit _) (by decide)
    (by decide +kernel) (by decide +kernel) (fun s hs => absurd hs (by revert s; decide +kernel)) (by decide +kernel) (by decide +kernel) (P := iprop(emp)) rfl) $$ HS
  iintro ⟨HS, -⟩
  iapply (wp_wait (plan m) Variants.none c (bits 6 0) (bits 6 4) (bits 6 4) (bits 6 0) (bits 6 0) (bits 6 0) (2 : Fin 6) (sem_at _ 2 rfl _ _ (by decide)) (src := row2) (dst := slice2 c) (hsrc := (row2_exact)) (hdst := (slice2_exact c)) (credit _) (by decide)
    (by decide +kernel) (by decide +kernel) (fun s hs => absurd hs (by revert s; decide +kernel)) (by decide +kernel) (by decide +kernel) (P := iprop(emp)) rfl) $$ HS
  iintro ⟨HS, -⟩
  rw [wp_ret]
  imodintro
  isplitl [HS]
  · iexists _, _
    rw [show (∅ : Finset (DmaSem sig)) = bits 6 0 from by decide +kernel]
    iexact HS
  isplitl [Hb]; · iexact Hb
  unfold finish
  isplitl [Ha]; · iexact Ha
  rw [pointsTo_blocks (ℓ := (c : Thread nD τ).loc main_v1) (rowSet res) (fun _ _ h => rowSet_disjoint res h) (rowSet_cover res (View.set_whole _)), three]
  isplitl [H0]; · iexact H0
  isplitl [H1]; · iexact H1
  iexact H2

/-- What a device's memory is to hold at the end: its own array as it was, and its result. -/
def final (c : Dev nD) (mem : (ℓ : Loc nD τ sig) → Buf (Elt F) ℓ) : Prop :=
  mem ((c : Thread nD τ).loc main_arg0) = m ((c : Thread nD τ).loc main_arg0) ∧ mem ((c : Thread nD τ).loc main_v1) = out m c

theorem finish_read (c : Dev nD) (s' : Phys nD τ sig (Elt F)) :
    iprop(finish m c ∗ SI s') ⊢ (iprop(⌜final m c s'.mem.mem⌝ ∗ SI s') : sProp 𝕄) := by
  unfold finish
  iintro ⟨⟨Ha, Hr⟩, HSI⟩
  ihave HSI := (held_read ((c : Thread nD τ).loc main_arg0) Finset.univ (m ((c : Thread nD τ).loc main_arg0)) s') $$ [Ha HSI]
  · isplitl [Ha] <;> iassumption
  icases HSI with ⟨%ha, HSI⟩
  ihave Hr : held ((c : Thread nD τ).loc main_v1) Finset.univ (out m c) $$ [Hr]
  · unfold held; iexists _; iexact Hr
  ihave HSI := (held_read ((c : Thread nD τ).loc main_v1) Finset.univ (out m c) s') $$ [Hr HSI]
  · isplitl [Hr] <;> iassumption
  icases HSI with ⟨%hr, HSI⟩
  isplitr
  · ipureintro
    exact ⟨funext fun i => ha i (Finset.mem_univ i), funext fun i => hr i (Finset.mem_univ i)⟩
  · iexact HSI

/-- The run of the exchange between the chips: for any float values and from any memory, every device ends with its own array as
    it was and with its chip's slice of each of the other three chips' arrays, and every semaphore reads zero. -/
theorem run (m : (ℓ : Loc nD τ sig) → Buf (Elt F) ℓ) (ρ : Dev nD → PrngReg) :
    θ_run (defs (F := F)) (onTc (main (F := F))) ⟨m, fun _ => 0, ρ⟩ (fun r => (∀ c, final m c r.2.mem) ∧ r.2.sem = fun _ => 0) :=
  θ_run_exchange pcfgs (fun p => (cfgs p).toPCfg_adm) (fun p => by fin_cases p; exact ⟨fun w => w.elim0⟩)
    (fun p => by fin_cases p; exact ⟨fun w => w.elim0⟩) (fun p => by fin_cases p; exact N_0)
    defs₀ (plan m) m ρ main main_chain cellOf_inj (by unfold AllDma; decide) (by decide) (start m) (finish m) (start_deal m)
    (fun c t => by
      rw [fin_N0 t]
      exact body m c) (final m) (finish_read m)

end Cert.ChipsIdeal

end
-- ==== Proof.Exchange.ChipsRef.lean ====
/-
The reference of the exchange between the chips, read at an index: row `3 d + k` of its result is, for the device numbered `d`, its chip's
slice of the array of the device on the `k`-th other chip.
-/
module

public import proofs.«01_k».proof.Proof.Exchange.Chips
public import proofs.«01_k».proof.Proof.Gen.ChipsRefIdeal.Run
public import Idealize.ShloMosaic.Lib.Pointwise.Reshape

@[expose] public section

noncomputable section

namespace Cert.ChipsRefIdeal.Read

open Cert.Exchange (across)
open Cert.ChipsIdeal (other chip)
open Cert.ChipsRefIdeal Cert.ChipsRefIdeal.Gen
open Idealize.ShloMosaic Idealize.ShloMosaic.TcCoe Idealize.SL.Sem

set_option Elab.async false

variable {α : Type}

/-- One slice of one device's array, cut out of the whole array by its five binary coordinates. -/
theorem piece (a b c d e : ℕ) (X : S32x16000x128.Idx → α) (h1 : S32x16000x128.ShapeCasts S2x2x2x2x2x16000x128)
    (h2 : S2x2x2x2x2x16000x128.Slices ![a, b, c, d, e, 0, 0] S1x1x1x1x1x16000x128) (h3 : S1x1x1x1x1x16000x128.ShapeCasts S16000x128)
    (h4 : S16000x128.BroadcastsInDim S1x16000x128 (![1, 2] : Fin 2 → Fin S1x16000x128.rank)) (y : Fin 16000) (z : Fin 128)
    (ha : a < 2) (hb : b < 2) (hc : c < 2) (hd : d < 2) (he : e < 2) (r : Fin 32) (hr : r.val = 16 * a + 8 * b + 4 * c + 2 * d + e) :
    broadcastInDim S1x16000x128 ![1, 2] h4 (shapeCast S16000x128 (extractStridedSlice S1x1x1x1x1x16000x128 ![a, b, c, d, e, 0, 0]
      (shapeCast S2x2x2x2x2x16000x128 X h1) h2) h3) (ValueIdx.ix3 (0 : Fin 1) y z) = X (ValueIdx.ix3 r y z) := by
  rw [broadcastInDim_apply _ h4 _ (ValueIdx.ix3 (0 : Fin 1) y z) (ValueIdx.ix2 y z) (by intro t; match t with | ⟨0, _⟩ => rfl | ⟨1, _⟩ => rfl)]
  rw [shapeCast_apply _ h3 (ValueIdx.ix2 y z) (ix7 (0 : Fin 1) (0 : Fin 1) (0 : Fin 1) (0 : Fin 1) (0 : Fin 1) y z) (by
    rw [rowMajor_val2 _ 128 rfl, rowMajor_val7 _ 2048000 2048000 2048000 2048000 2048000 128 rfl rfl rfl rfl rfl rfl]
    simp)]
  rw [extractStridedSlice_apply _ _ h2 _ (ix7 (⟨a, ha⟩ : Fin 2) (⟨b, hb⟩ : Fin 2) (⟨c, hc⟩ : Fin 2) (⟨d, hd⟩ : Fin 2) (⟨e, he⟩ : Fin 2) y z) (by
    intro t
    match t with
    | ⟨0, _⟩ => rfl
    | ⟨1, _⟩ => rfl
    | ⟨2, _⟩ => rfl
    | ⟨3, _⟩ => rfl
    | ⟨4, _⟩ => rfl
    | ⟨5, _⟩ => exact (Nat.zero_add _).symm
    | ⟨6, _⟩ => exact (Nat.zero_add _).symm)]
  exact shapeCast_apply X h1 _ (ValueIdx.ix3 r y z) (by
    rw [rowMajor_val3 _ 2048000 128 rfl rfl, rowMajor_val7 _ 32768000 16384000 8192000 4096000 2048000 128 rfl rfl rfl rfl rfl rfl]
    change r.val * 2048000 + y.val * 128 + z.val = a * 32768000 + b * 16384000 + c * 8192000 + d * 4096000 + e * 2048000 + y.val * 128 + z.val
    omega)

/-- Three slices laid one after the other, read in the `k`-th. -/
theorem third (u0 u1 u2 : S1x16000x128.Idx → α)
    (h : Shape.Concatenates [S1x16000x128, S1x16000x128, S1x16000x128] S3x16000x128 0) (k : Fin 3) (y : Fin 16000) (z : Fin 128) :
    concatenate S3x16000x128 0 [⟨S1x16000x128, u0⟩, ⟨S1x16000x128, u1⟩, ⟨S1x16000x128, u2⟩] h (ValueIdx.ix3 k y z)
      = (![u0, u1, u2] k : S1x16000x128.Idx → α) (ValueIdx.ix3 (0 : Fin 1) y z) := by
  have off : ∀ b : Fin S1x16000x128.rank, b.cast (rfl : S1x16000x128.rank = S3x16000x128.rank) ≠ (0 : Fin S3x16000x128.rank) →
      (ValueIdx.ix3 (0 : Fin 1) y z b : ℕ) = (ValueIdx.ix3 k y z (b.cast rfl) : ℕ) := fun b hb => by
    match b with
    | ⟨0, _⟩ => exact absurd rfl hb
    | ⟨1, _⟩ => rfl
    | ⟨2, _⟩ => rfl
  fin_cases k
  · exact concatenate_apply_piece (t := S3x16000x128) 0 _ _ _ 0 (by simp) S1x16000x128 u0 rfl rfl 0 rfl _ off rfl
  · exact concatenate_apply_piece (t := S3x16000x128) 0 _ _ _ 1 (by simp) S1x16000x128 u1 rfl rfl 1 rfl _ off rfl
  · exact concatenate_apply_piece (t := S3x16000x128) 0 _ _ _ 2 (by simp) S1x16000x128 u2 rfl rfl 2 rfl _ off rfl

/-- Eight devices' arrays of three rows laid one after the other, read in device `d`'s `k`-th row. -/
theorem eighth (u0 u1 u2 u3 u4 u5 u6 u7 : S3x16000x128.Idx → α)
    (h : Shape.Concatenates [S3x16000x128, S3x16000x128, S3x16000x128, S3x16000x128, S3x16000x128, S3x16000x128, S3x16000x128, S3x16000x128] S24x16000x128 0)
    (d : Fin 8) (k : Fin 3) (y : Fin 16000) (z : Fin 128) (r : Fin 24) (hr : r.val = d.val * 3 + k.val) :
    concatenate S24x16000x128 0 [⟨S3x16000x128, u0⟩, ⟨S3x16000x128, u1⟩, ⟨S3x16000x128, u2⟩, ⟨S3x16000x128, u3⟩, ⟨S3x16000x128, u4⟩,
      ⟨S3x16000x128, u5⟩, ⟨S3x16000x128, u6⟩, ⟨S3x16000x128, u7⟩] h (ValueIdx.ix3 r y z)
      = (![u0, u1, u2, u3, u4, u5, u6, u7] d : S3x16000x128.Idx → α) (ValueIdx.ix3 k y z) := by
  have off : ∀ b : Fin S3x16000x128.rank, b.cast (rfl : S3x16000x128.rank = S24x16000x128.rank) ≠ (0 : Fin S24x16000x128.rank) →
      (ValueIdx.ix3 k y z b : ℕ) = (ValueIdx.ix3 r y z (b.cast rfl) : ℕ) := fun b hb => by
    match b with
    | ⟨0, _⟩ => exact absurd rfl hb
    | ⟨1, _⟩ => rfl
    | ⟨2, _⟩ => rfl
  fin_cases d
  · exact concatenate_apply_piece (t := S24x16000x128) 0 _ _ _ 0 (by simp) S3x16000x128 u0 rfl rfl 0 rfl _ off hr.symm
  · exact concatenate_apply_piece (t := S24x16000x128) 0 _ _ _ 1 (by simp) S3x16000x128 u1 rfl rfl 3 rfl _ off hr.symm
  · exact concatenate_apply_piece (t := S24x16000x128) 0 _ _ _ 2 (by simp) S3x16000x128 u2 rfl rfl 6 rfl _ off hr.symm
  · exact concatenate_apply_piece (t := S24x16000x128) 0 _ _ _ 3 (by simp) S3x16000x128 u3 rfl rfl 9 rfl _ off hr.symm
  · exact concatenate_apply_piece (t := S24x16000x128) 0 _ _ _ 4 (by simp) S3x16000x128 u4 rfl rfl 12 rfl _ off hr.symm
  · exact concatenate_apply_piece (t := S24x16000x128) 0 _ _ _ 5 (by simp) S3x16000x128 u5 rfl rfl 15 rfl _ off hr.symm
  · exact concatenate_apply_piece (t := S24x16000x128) 0 _ _ _ 6 (by simp) S3x16000x128 u6 rfl rfl 18 rfl _ off hr.symm
  · exact concatenate_apply_piece (t := S24x16000x128) 0 _ _ _ 7 (by simp) S3x16000x128 u7 rfl rfl 21 rfl _ off hr.symm

variable {F : FTy → Type} [FloatOps F]

/-- The whole argument's row that device `d`'s `k`-th row comes from. -/
def source (d : Fin 8) (k : Fin 3) : Fin 32 :=
  ⟨(across (other k) d).val * 4 + (chip d).val, by
    have h : (across (other k) d).val < 8 := (across (other k) d).isLt
    have h' : (chip d).val < 4 := (chip d).isLt
    omega⟩

/-- The reference's result at device `d`'s `k`-th row. -/
theorem value (m : (ℓ : Loc nD τ sig) → Buf (Elt F) ℓ) (q : Dev nD) (d : Fin 8) (k : Fin 3) (y : Fin 16000) (z : Fin 128) (r : Fin 24)
    (hr : r.val = d.val * 3 + k.val) :
    (Value.res_out0 m q : S24x16000x128.Idx → Elt F .bf16) (ValueIdx.ix3 r y z)
      = (m ((q.tc : Thread nD τ).loc main_arg0) : S32x16000x128.Idx → Elt F .bf16) (ValueIdx.ix3 (source d k) y z) := by
  unfold Value.res_out0 Value.res_main_v81
  refine (eighth (α := Elt F .bf16) _ _ _ _ _ _ _ _ (by decide) d k y z r hr).trans ?_
  clear hr
  fin_cases d <;>
    (refine (third (α := Elt F .bf16) _ _ _ concatenates_S1x16000x128_S1x16000x128_S1x16000x128_S3x16000x128_d0 k y z).trans ?_
     fin_cases k <;> exact piece (α := Elt F .bf16) _ _ _ _ _ _ (by decide) (by decide) (by decide) (by decide) y z (by decide) (by decide) (by decide) (by decide) (by decide) _ (by decide +kernel))

end Cert.ChipsRefIdeal.Read

end
-- ==== Proof.Exchange.ChipsClaims.lean ====
/-
The claims about the exchange between the chips: the kernel and its reference run and leave their arguments as they were, and each device's
block of the reference's result is what the kernel leaves on that device.
-/
module

public import proofs.«01_k».proof.Defs
public import proofs.«01_k».proof.Proof.Exchange.ChipsRef
public import proofs.«01_k».proof.Proof.Exchange.Blocks
public import proofs.«01_k».proof.Proof.Gen.Chips
public import proofs.«01_k».proof.Proof.Gen.ChipsRef

@[expose] public section

noncomputable section

namespace Cert.Exchange.Chips

open Idealize.ShloMosaic Idealize.ShloMosaic.TcCoe Idealize.SL.Sem

set_option Elab.async false

variable {F : FTy → Type} [FloatOps F]

/-- If every device's array is its block of the whole argument, every device's result is its block of the reference's result. -/
theorem agree (m : (ℓ : Loc Cert.ChipsIdeal.nD Cert.ChipsIdeal.τ Cert.ChipsIdeal.sig) → Buf (Elt F) ℓ)
    (m' : (ℓ : Loc Cert.ChipsRefIdeal.nD Cert.ChipsRefIdeal.τ Cert.ChipsRefIdeal.sig) → Buf (Elt F) ℓ)
    (h : ∀ c : Dev Cert.ChipsIdeal.nD, m ((c.tc : Thread Cert.ChipsIdeal.nD Cert.ChipsIdeal.τ).loc Cert.ChipsIdeal.main_arg0)
      = Layout.block ⟨3, ![4, 16000, 128]⟩ ⟨3, ![32, 16000, 128]⟩ 0 8 c
          (m' (((0 : Dev Cert.ChipsRefIdeal.nD).tc : Thread Cert.ChipsRefIdeal.nD Cert.ChipsRefIdeal.τ).loc Cert.ChipsRefIdeal.main_arg0)))
    (c : Dev Cert.ChipsIdeal.nD) :
    Cert.ChipsIdeal.out m c = Layout.block ⟨3, ![3, 16000, 128]⟩ ⟨3, ![24, 16000, 128]⟩ 0 8 c (Cert.ChipsRefIdeal.Value.res_out0 m' 0) := by
  funext i
  obtain ⟨k, y, z, rfl⟩ := coords (a := 3) (b := 16000) (c := 128) i
  have hc : c.val < 8 := c.isLt
  rw [Layout.block_apply, block_row _ c k y z (⟨c.val * 3 + k.val, by omega⟩ : Fin 24) rfl]
  refine Eq.trans ?_ (Cert.ChipsRefIdeal.Read.value m' 0 c k y z _ rfl).symm
  show (m ((Cert.Exchange.across (Cert.ChipsIdeal.other k) c : Dev Cert.ChipsIdeal.nD).tc.loc Cert.ChipsIdeal.main_arg0)
    : Cert.ChipsIdeal.S4x16000x128.Idx → Elt F .bf16) (ValueIdx.ix3 (Cert.ChipsIdeal.chip c) y z) = _
  rw [h, Layout.block_apply, block_row _ _ (Cert.ChipsIdeal.chip c) y z (Cert.ChipsRefIdeal.Read.source c k) rfl]

theorem frame_kernel : Cert.quiescent_Chips := fun m ρ _ =>
  (θ_run Cert.ChipsIdeal.defs _ _).mono (fun _ h => ⟨fun c => (h.1 c).1, h.2⟩) (Cert.ChipsIdeal.run (F := Bits) m ρ)

theorem frame_ideal : Cert.quiescent_ChipsIdeal := fun m ρ _ =>
  (θ_run Cert.ChipsIdeal.defs _ _).mono (fun _ h => ⟨fun c => (h.1 c).1, h.2⟩) (Cert.ChipsIdeal.run (F := Ideal) m ρ)

theorem frame_reference : Cert.quiescent_ChipsRef := fun m ρ _ =>
  (θ_run Cert.ChipsRefIdeal.defs _ _).mono (fun r h => ⟨fun c => (h c).2, sem_eq_zero_of_no_sems (by decide) r.2⟩)
    (Cert.ChipsRefIdeal.Value.run (F := Bits) m ρ)

theorem frame_reference_ideal : Cert.quiescent_ChipsRefIdeal := fun m ρ _ =>
  (θ_run Cert.ChipsRefIdeal.defs _ _).mono (fun r h => ⟨fun c => (h c).2, sem_eq_zero_of_no_sems (by decide) r.2⟩)
    (Cert.ChipsRefIdeal.Value.run (F := Ideal) m ρ)

theorem bitexact : Cert.bitexact_Chips_ChipsRef := fun m g m' g' _ h =>
  ⟨Cert.ChipsRefIdeal.Value.res_out0 (F := Bits) m' 0,
    (θ_run Cert.ChipsIdeal.defs _ _).mono (fun _ hr c => ⟨(hr.1 c).2.trans (agree (F := Bits) m m' h c), (hr.1 c).1⟩) (Cert.ChipsIdeal.run (F := Bits) m g),
    (θ_run Cert.ChipsRefIdeal.defs _ _).mono (fun _ hr => hr 0) (Cert.ChipsRefIdeal.Value.run (F := Bits) m' g')⟩

theorem algebraic : Cert.algebraic_ChipsIdeal_ChipsRefIdeal := fun m g m' g' _ h =>
  ⟨Cert.ChipsRefIdeal.Value.res_out0 (F := Ideal) m' 0,
    (θ_run Cert.ChipsIdeal.defs _ _).mono (fun _ hr c => ⟨(hr.1 c).2.trans (agree (F := Ideal) m m' h c), (hr.1 c).1⟩) (Cert.ChipsIdeal.run (F := Ideal) m g),
    (θ_run Cert.ChipsRefIdeal.defs _ _).mono (fun _ hr => hr 0) (Cert.ChipsRefIdeal.Value.run (F := Ideal) m' g')⟩

end Cert.Exchange.Chips

end
-- ==== Proof.Step.Product.lean ====
/-
The products that give a weight's gradient: one product of the tokens' rows, and the same product in the order of its transposed.
-/
module

public import Idealize.ShloMosaic.Lib.Pipeline.ValueKit

@[expose] public section

noncomputable section

namespace Cert.Step

open Idealize.ShloMosaic

/-- The two matrices' rows, multiplied row by row and added over all the rows. -/
abbrev rows {t k n : Nat} (a : FVec Ideal ⟨2, ![t, k]⟩ .bf16) (b : FVec Ideal ⟨2, ![t, n]⟩ .bf16) : FVec Ideal ⟨2, ![k, n]⟩ .f32 :=
  fun i => ∑ l : Fin t, (a (ix2 l (i 0)) : EReal) * b (ix2 l (i 1))

/-- A block that is a quarter's product at the first of four points and has the next quarter's added at each of the others
    is, after the last, the product over all the rows. -/
theorem rows_of_quarters {N k n K M : Nat} (outs : (p : Nat) → p < N → FVec Ideal ⟨2, ![k, n]⟩ .f32)
    (a : Fin N → FVec Ideal ⟨2, ![2048, k]⟩ .bf16) (b : Fin N → FVec Ideal ⟨2, ![2048, n]⟩ .bf16)
    (A : FVec Ideal ⟨2, ![8192, K]⟩ .bf16) (B : FVec Ideal ⟨2, ![8192, M]⟩ .bf16)
    (first : ∀ t : Fin N, t.val % 4 = 0 → ∀ j, outs t t.isLt j = rows (a t) (b t) j)
    (next : ∀ t : Fin N, ¬t.val % 4 = 0 → ∀ j,
      outs t t.isLt j = (outs (t.val - 1) (Nat.lt_of_le_of_lt (Nat.sub_le _ _) t.isLt) j + rows (a t) (b t) j : EReal))
    (t : Fin N) (last : t.val % 4 = 4 - 1) (j : Shape.Idx ⟨2, ![k, n]⟩) (i : Shape.Idx ⟨2, ![K, M]⟩)
    (left : ∀ (s : Fin 4) (l : Fin 2048) (hl : s.val * 2048 + l.val < 8192),
      a ⟨_, Pipeline.run_point_lt_of_flush t last s⟩ (ix2 l (j 0)) = A (ix2 ⟨s.val * 2048 + l.val, hl⟩ (i 0)))
    (right : ∀ (s : Fin 4) (l : Fin 2048) (hl : s.val * 2048 + l.val < 8192),
      b ⟨_, Pipeline.run_point_lt_of_flush t last s⟩ (ix2 l (j 1)) = B (ix2 ⟨s.val * 2048 + l.val, hl⟩ (i 1))) :
    outs t t.isLt j = rows A B i := by
  rw [Pipeline.eq_sum_fin_of_reset_step_apply_of_flush outs 4 (fun _ => (0 : EReal)) (fun t => rows (a t) (b t))
    (fun t h j => by rw [first t h, zero_add]) next t last]
  exact (zero_add (_ : EReal)).trans
    (Fin.sum_mul_add_congr (f := fun l => _) fun s l hl => congrArg₂ (fun x y : EReal => x * y) (left s l hl) (right s l hl))

end Cert.Step

end
-- ==== Proof.Step.Grads.lean ====
/-
The claims about the product that gives a weight's gradient, on each shape of weight: both programs run and leave their
arguments as they were, and they agree.
-/
module

public import proofs.«01_k».proof.Defs
public import proofs.«01_k».proof.Proof.Step.Product
public import proofs.«01_k».proof.Proof.Gen.GradQkv.Frame
public import proofs.«01_k».proof.Proof.Gen.GradQkvRef
public import proofs.«01_k».proof.Proof.Gen.GradQkvIdeal.Value
public import proofs.«01_k».proof.Proof.Gen.GradQkvRefIdeal.Run
public import proofs.«01_k».proof.Proof.Gen.GradRw.Frame
public import proofs.«01_k».proof.Proof.Gen.GradRwRef
public import proofs.«01_k».proof.Proof.Gen.GradRwIdeal.Value
public import proofs.«01_k».proof.Proof.Gen.GradRwRefIdeal.Run
public import proofs.«01_k».proof.Proof.Gen.GradGate.Frame
public import proofs.«01_k».proof.Proof.Gen.GradGateRef
public import proofs.«01_k».proof.Proof.Gen.GradGateIdeal.Value
public import proofs.«01_k».proof.Proof.Gen.GradGateRefIdeal.Run
public import proofs.«01_k».proof.Proof.Gen.GradOut.Frame
public import proofs.«01_k».proof.Proof.Gen.GradOutRef
public import proofs.«01_k».proof.Proof.Gen.GradOutIdeal.Value
public import proofs.«01_k».proof.Proof.Gen.GradOutRefIdeal.Run
public import proofs.«01_k».proof.Proof.Gen.GradO.Frame
public import proofs.«01_k».proof.Proof.Gen.GradORef
public import proofs.«01_k».proof.Proof.Gen.GradOIdeal.Value
public import proofs.«01_k».proof.Proof.Gen.GradORefIdeal.Run
public import proofs.«01_k».proof.Proof.Gen.GradFfnUp.Frame
public import proofs.«01_k».proof.Proof.Gen.GradFfnUpRef
public import proofs.«01_k».proof.Proof.Gen.GradFfnUpIdeal.Value
public import proofs.«01_k».proof.Proof.Gen.GradFfnUpRefIdeal.Run
public import proofs.«01_k».proof.Proof.Gen.GradFfnDown.Frame
public import proofs.«01_k».proof.Proof.Gen.GradFfnDownRef
public import proofs.«01_k».proof.Proof.Gen.GradFfnDownIdeal.Value
public import proofs.«01_k».proof.Proof.Gen.GradFfnDownRefIdeal.Run
public import Idealize.ShloMosaic.Lib.Quiescent

@[expose] public section

noncomputable section

open Idealize.ShloMosaic Idealize.ShloMosaic.TcCoe Idealize.SL.Sem

namespace Cert.Step.GradQkv

/-! The weight of the queries, keys and values. -/

open Cert.GradQkvIdeal Cert.GradQkvIdeal.Gen

theorem reference (a : FVec Ideal S8192x1024 .bf16) (b : FVec Ideal S8192x1536 .bf16) :
    transpose S1024x1536 [1, 0]
        (Host.dotGeneral Cert.GradQkvRefIdeal.dot_S8192x1536_S8192x1024_S1536x1024_0_0_1_1_n_n none (extf .f32 b Cert.GradQkvRefIdeal.Facts₀.bitsLt_bf16_f32) (extf .f32 a Cert.GradQkvRefIdeal.Facts₀.bitsLt_bf16_f32))
        Cert.GradQkvRefIdeal.Facts₀.transposes_S1536x1024_S1024x1536_1_0
      = rows a b := by
  funext i
  pointwise
  exact Finset.sum_congr rfl fun l _ => mul_comm _ _

theorem index0 : ∀ t : Fin cfg0.N, win0_0.index t = ![t.val % 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![0, 0] := (by decide +kernel : ∀ t : Fin grid0.N, _)

theorem final (m : (ℓ : Loc nD τ sig) → Buf (Elt Ideal) ℓ) (c : Dev nD) : (dats m 0 c).arrAt 2 cfg0.N
    = rows (m ((c : Thread nD τ).loc main_arg0)) (m ((c : Thread nD τ).loc main_arg1)) := by
  refine (dats m 0 c).arrAt_eq_of_covers 2 _ (by decide +kernel) fun t hf y => ?_
  blk_simp
  rw [after0_2]
  refine rows_of_quarters (fun n h => outsAt0 m c n h) (iblk m c 0) (iblk m c 1) _ _
    (fun t h j => by rw [outsAt0_A m c t h (by have : t.val < 4 := t.isLt; omega)]; frame_out; pointwise [k0_pay1])
    (fun t h j => by rw [outsAt0_B m c t h (by have : t.val < 4 := t.isLt; omega)]; frame_out; pointwise [k0_pay2, k0_pay1]) t ((flush0_2 t).mp hf) _ _
    (fun s l hl => ?_) fun s l hl => ?_
  all_goals blk_ext [iblk, V, index0 ⟨_, Pipeline.run_point_lt_of_flush t ((flush0_2 t).mp hf) s⟩, index1 ⟨_, Pipeline.run_point_lt_of_flush t ((flush0_2 t).mp hf) s⟩, index2 t]

theorem frame_kernel : Cert.quiescent_GradQkv := fun m ρ _ => Cert.GradQkv.Gen.frame (F := Bits) m ρ

theorem frame_ideal : Cert.quiescent_GradQkvIdeal := fun m ρ _ => Gen.frame (F := Ideal) m ρ

theorem frame_reference : Cert.quiescent_GradQkvRef := fun m ρ _ =>
  (θ_run Cert.GradQkvRefIdeal.defs _ _).mono
    (fun r h => ⟨fun c => (h c).2, sem_eq_zero_of_no_sems (by decide) r.2⟩) (Cert.GradQkvRefIdeal.Value.run (F := Bits) m ρ)

theorem frame_reference_ideal : Cert.quiescent_GradQkvRefIdeal := fun m ρ _ =>
  (θ_run Cert.GradQkvRefIdeal.defs _ _).mono
    (fun r h => ⟨fun c => (h c).2, sem_eq_zero_of_no_sems (by decide) r.2⟩) (Cert.GradQkvRefIdeal.Value.run (F := Ideal) m ρ)

theorem algebraic : Cert.algebraic_GradQkvIdeal_GradQkvRefIdeal := fun m g m' g' _ h =>
  ⟨_, (θ_run defs _ _).mono (fun _ hr c => ⟨(hr c).1.trans (final m c), (hr c).2⟩) (Value.run_blocks m g),
    (θ_run Cert.GradQkvRefIdeal.defs _ _).mono
      (fun _ hr c => ⟨(hr c).1.trans (by rw [reference, (h c).1, (h c).2]), (hr c).2⟩) (Cert.GradQkvRefIdeal.Value.run (F := Ideal) m' g')⟩

end Cert.Step.GradQkv

namespace Cert.Step.GradRw

/-! The weight of the rewrite path's input. -/

open Cert.GradRwIdeal Cert.GradRwIdeal.Gen

theorem reference (a : FVec Ideal S8192x1024 .bf16) (b : FVec Ideal S8192x1792 .bf16) :
    transpose S1024x1792 [1, 0]
        (Host.dotGeneral Cert.GradRwRefIdeal.dot_S8192x1792_S8192x1024_S1792x1024_0_0_1_1_n_n none (extf .f32 b Cert.GradRwRefIdeal.Facts₀.bitsLt_bf16_f32) (extf .f32 a Cert.GradRwRefIdeal.Facts₀.bitsLt_bf16_f32))
        Cert.GradRwRefIdeal.Facts₀.transposes_S1792x1024_S1024x1792_1_0
      = rows a b := by
  funext i
  pointwise
  exact Finset.sum_congr rfl fun l _ => mul_comm _ _

theorem index0 : ∀ t : Fin cfg0.N, win0_0.index t = ![t.val % 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![0, 0] := (by decide +kernel : ∀ t : Fin grid0.N, _)

theorem final (m : (ℓ : Loc nD τ sig) → Buf (Elt Ideal) ℓ) (c : Dev nD) : (dats m 0 c).arrAt 2 cfg0.N
    = rows (m ((c : Thread nD τ).loc main_arg0)) (m ((c : Thread nD τ).loc main_arg1)) := by
  refine (dats m 0 c).arrAt_eq_of_covers 2 _ (by decide +kernel) fun t hf y => ?_
  blk_simp
  rw [after0_2]
  refine rows_of_quarters (fun n h => outsAt0 m c n h) (iblk m c 0) (iblk m c 1) _ _
    (fun t h j => by rw [outsAt0_A m c t h (by have : t.val < 4 := t.isLt; omega)]; frame_out; pointwise [k0_pay1])
    (fun t h j => by rw [outsAt0_B m c t h (by have : t.val < 4 := t.isLt; omega)]; frame_out; pointwise [k0_pay2, k0_pay1]) t ((flush0_2 t).mp hf) _ _
    (fun s l hl => ?_) fun s l hl => ?_
  all_goals blk_ext [iblk, V, index0 ⟨_, Pipeline.run_point_lt_of_flush t ((flush0_2 t).mp hf) s⟩, index1 ⟨_, Pipeline.run_point_lt_of_flush t ((flush0_2 t).mp hf) s⟩, index2 t]

theorem frame_kernel : Cert.quiescent_GradRw := fun m ρ _ => Cert.GradRw.Gen.frame (F := Bits) m ρ

theorem frame_ideal : Cert.quiescent_GradRwIdeal := fun m ρ _ => Gen.frame (F := Ideal) m ρ

theorem frame_reference : Cert.quiescent_GradRwRef := fun m ρ _ =>
  (θ_run Cert.GradRwRefIdeal.defs _ _).mono
    (fun r h => ⟨fun c => (h c).2, sem_eq_zero_of_no_sems (by decide) r.2⟩) (Cert.GradRwRefIdeal.Value.run (F := Bits) m ρ)

theorem frame_reference_ideal : Cert.quiescent_GradRwRefIdeal := fun m ρ _ =>
  (θ_run Cert.GradRwRefIdeal.defs _ _).mono
    (fun r h => ⟨fun c => (h c).2, sem_eq_zero_of_no_sems (by decide) r.2⟩) (Cert.GradRwRefIdeal.Value.run (F := Ideal) m ρ)

theorem algebraic : Cert.algebraic_GradRwIdeal_GradRwRefIdeal := fun m g m' g' _ h =>
  ⟨_, (θ_run defs _ _).mono (fun _ hr c => ⟨(hr c).1.trans (final m c), (hr c).2⟩) (Value.run_blocks m g),
    (θ_run Cert.GradRwRefIdeal.defs _ _).mono
      (fun _ hr c => ⟨(hr c).1.trans (by rw [reference, (h c).1, (h c).2]), (hr c).2⟩) (Cert.GradRwRefIdeal.Value.run (F := Ideal) m' g')⟩

end Cert.Step.GradRw

namespace Cert.Step.GradGate

/-! The weight of the gates. -/

open Cert.GradGateIdeal Cert.GradGateIdeal.Gen

theorem reference (a : FVec Ideal S8192x1024 .bf16) (b : FVec Ideal S8192x2048 .bf16) :
    transpose S1024x2048 [1, 0]
        (Host.dotGeneral Cert.GradGateRefIdeal.dot_S8192x2048_S8192x1024_S2048x1024_0_0_1_1_n_n none (extf .f32 b Cert.GradGateRefIdeal.Facts₀.bitsLt_bf16_f32) (extf .f32 a Cert.GradGateRefIdeal.Facts₀.bitsLt_bf16_f32))
        Cert.GradGateRefIdeal.Facts₀.transposes_S2048x1024_S1024x2048_1_0
      = rows a b := by
  funext i
  pointwise
  exact Finset.sum_congr rfl fun l _ => mul_comm _ _

theorem index0 : ∀ t : Fin cfg0.N, win0_0.index t = ![t.val % 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![0, 0] := (by decide +kernel : ∀ t : Fin grid0.N, _)

theorem final (m : (ℓ : Loc nD τ sig) → Buf (Elt Ideal) ℓ) (c : Dev nD) : (dats m 0 c).arrAt 2 cfg0.N
    = rows (m ((c : Thread nD τ).loc main_arg0)) (m ((c : Thread nD τ).loc main_arg1)) := by
  refine (dats m 0 c).arrAt_eq_of_covers 2 _ (by decide +kernel) fun t hf y => ?_
  blk_simp
  rw [after0_2]
  refine rows_of_quarters (fun n h => outsAt0 m c n h) (iblk m c 0) (iblk m c 1) _ _
    (fun t h j => by rw [outsAt0_A m c t h (by have : t.val < 4 := t.isLt; omega)]; frame_out; pointwise [k0_pay1])
    (fun t h j => by rw [outsAt0_B m c t h (by have : t.val < 4 := t.isLt; omega)]; frame_out; pointwise [k0_pay2, k0_pay1]) t ((flush0_2 t).mp hf) _ _
    (fun s l hl => ?_) fun s l hl => ?_
  all_goals blk_ext [iblk, V, index0 ⟨_, Pipeline.run_point_lt_of_flush t ((flush0_2 t).mp hf) s⟩, index1 ⟨_, Pipeline.run_point_lt_of_flush t ((flush0_2 t).mp hf) s⟩, index2 t]

theorem frame_kernel : Cert.quiescent_GradGate := fun m ρ _ => Cert.GradGate.Gen.frame (F := Bits) m ρ

theorem frame_ideal : Cert.quiescent_GradGateIdeal := fun m ρ _ => Gen.frame (F := Ideal) m ρ

theorem frame_reference : Cert.quiescent_GradGateRef := fun m ρ _ =>
  (θ_run Cert.GradGateRefIdeal.defs _ _).mono
    (fun r h => ⟨fun c => (h c).2, sem_eq_zero_of_no_sems (by decide) r.2⟩) (Cert.GradGateRefIdeal.Value.run (F := Bits) m ρ)

theorem frame_reference_ideal : Cert.quiescent_GradGateRefIdeal := fun m ρ _ =>
  (θ_run Cert.GradGateRefIdeal.defs _ _).mono
    (fun r h => ⟨fun c => (h c).2, sem_eq_zero_of_no_sems (by decide) r.2⟩) (Cert.GradGateRefIdeal.Value.run (F := Ideal) m ρ)

theorem algebraic : Cert.algebraic_GradGateIdeal_GradGateRefIdeal := fun m g m' g' _ h =>
  ⟨_, (θ_run defs _ _).mono (fun _ hr c => ⟨(hr c).1.trans (final m c), (hr c).2⟩) (Value.run_blocks m g),
    (θ_run Cert.GradGateRefIdeal.defs _ _).mono
      (fun _ hr c => ⟨(hr c).1.trans (by rw [reference, (h c).1, (h c).2]), (hr c).2⟩) (Cert.GradGateRefIdeal.Value.run (F := Ideal) m' g')⟩

end Cert.Step.GradGate

namespace Cert.Step.GradOut

/-! The weight of a core's output. -/

open Cert.GradOutIdeal Cert.GradOutIdeal.Gen

theorem reference (a : FVec Ideal S8192x512 .bf16) (b : FVec Ideal S8192x1024 .bf16) :
    transpose S512x1024 [1, 0]
        (Host.dotGeneral Cert.GradOutRefIdeal.dot_S8192x1024_S8192x512_S1024x512_0_0_1_1_n_n none (extf .f32 b Cert.GradOutRefIdeal.Facts₀.bitsLt_bf16_f32) (extf .f32 a Cert.GradOutRefIdeal.Facts₀.bitsLt_bf16_f32))
        Cert.GradOutRefIdeal.Facts₀.transposes_S1024x512_S512x1024_1_0
      = rows a b := by
  funext i
  pointwise
  exact Finset.sum_congr rfl fun l _ => mul_comm _ _

theorem index0 : ∀ t : Fin cfg0.N, win0_0.index t = ![t.val % 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![0, 0] := (by decide +kernel : ∀ t : Fin grid0.N, _)

theorem final (m : (ℓ : Loc nD τ sig) → Buf (Elt Ideal) ℓ) (c : Dev nD) : (dats m 0 c).arrAt 2 cfg0.N
    = rows (m ((c : Thread nD τ).loc main_arg0)) (m ((c : Thread nD τ).loc main_arg1)) := by
  refine (dats m 0 c).arrAt_eq_of_covers 2 _ (by decide +kernel) fun t hf y => ?_
  blk_simp
  rw [after0_2]
  refine rows_of_quarters (fun n h => outsAt0 m c n h) (iblk m c 0) (iblk m c 1) _ _
    (fun t h j => by rw [outsAt0_A m c t h (by have : t.val < 4 := t.isLt; omega)]; frame_out; pointwise [k0_pay1])
    (fun t h j => by rw [outsAt0_B m c t h (by have : t.val < 4 := t.isLt; omega)]; frame_out; pointwise [k0_pay2, k0_pay1]) t ((flush0_2 t).mp hf) _ _
    (fun s l hl => ?_) fun s l hl => ?_
  all_goals blk_ext [iblk, V, index0 ⟨_, Pipeline.run_point_lt_of_flush t ((flush0_2 t).mp hf) s⟩, index1 ⟨_, Pipeline.run_point_lt_of_flush t ((flush0_2 t).mp hf) s⟩, index2 t]

theorem frame_kernel : Cert.quiescent_GradOut := fun m ρ _ => Cert.GradOut.Gen.frame (F := Bits) m ρ

theorem frame_ideal : Cert.quiescent_GradOutIdeal := fun m ρ _ => Gen.frame (F := Ideal) m ρ

theorem frame_reference : Cert.quiescent_GradOutRef := fun m ρ _ =>
  (θ_run Cert.GradOutRefIdeal.defs _ _).mono
    (fun r h => ⟨fun c => (h c).2, sem_eq_zero_of_no_sems (by decide) r.2⟩) (Cert.GradOutRefIdeal.Value.run (F := Bits) m ρ)

theorem frame_reference_ideal : Cert.quiescent_GradOutRefIdeal := fun m ρ _ =>
  (θ_run Cert.GradOutRefIdeal.defs _ _).mono
    (fun r h => ⟨fun c => (h c).2, sem_eq_zero_of_no_sems (by decide) r.2⟩) (Cert.GradOutRefIdeal.Value.run (F := Ideal) m ρ)

theorem algebraic : Cert.algebraic_GradOutIdeal_GradOutRefIdeal := fun m g m' g' _ h =>
  ⟨_, (θ_run defs _ _).mono (fun _ hr c => ⟨(hr c).1.trans (final m c), (hr c).2⟩) (Value.run_blocks m g),
    (θ_run Cert.GradOutRefIdeal.defs _ _).mono
      (fun _ hr c => ⟨(hr c).1.trans (by rw [reference, (h c).1, (h c).2]), (hr c).2⟩) (Cert.GradOutRefIdeal.Value.run (F := Ideal) m' g')⟩

end Cert.Step.GradOut

namespace Cert.Step.GradO

/-! The weight of the attention's output. -/

open Cert.GradOIdeal Cert.GradOIdeal.Gen

theorem reference (a : FVec Ideal S8192x1024 .bf16) (b : FVec Ideal S8192x1024 .bf16) :
    transpose S1024x1024 [1, 0]
        (Host.dotGeneral Cert.GradORefIdeal.dot_S8192x1024_S8192x1024_S1024x1024_0_0_1_1_n_n none (extf .f32 b Cert.GradORefIdeal.Facts₀.bitsLt_bf16_f32) (extf .f32 a Cert.GradORefIdeal.Facts₀.bitsLt_bf16_f32))
        Cert.GradORefIdeal.Facts₀.transposes_S1024x1024_S1024x1024_1_0
      = rows a b := by
  funext i
  pointwise
  exact Finset.sum_congr rfl fun l _ => mul_comm _ _

theorem index0 : ∀ t : Fin cfg0.N, win0_0.index t = ![t.val % 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![0, 0] := (by decide +kernel : ∀ t : Fin grid0.N, _)

theorem final (m : (ℓ : Loc nD τ sig) → Buf (Elt Ideal) ℓ) (c : Dev nD) : (dats m 0 c).arrAt 2 cfg0.N
    = rows (m ((c : Thread nD τ).loc main_arg0)) (m ((c : Thread nD τ).loc main_arg1)) := by
  refine (dats m 0 c).arrAt_eq_of_covers 2 _ (by decide +kernel) fun t hf y => ?_
  blk_simp
  rw [after0_2]
  refine rows_of_quarters (fun n h => outsAt0 m c n h) (iblk m c 0) (iblk m c 1) _ _
    (fun t h j => by rw [outsAt0_A m c t h (by have : t.val < 4 := t.isLt; omega)]; frame_out; pointwise [k0_pay1])
    (fun t h j => by rw [outsAt0_B m c t h (by have : t.val < 4 := t.isLt; omega)]; frame_out; pointwise [k0_pay2, k0_pay1]) t ((flush0_2 t).mp hf) _ _
    (fun s l hl => ?_) fun s l hl => ?_
  all_goals blk_ext [iblk, V, index0 ⟨_, Pipeline.run_point_lt_of_flush t ((flush0_2 t).mp hf) s⟩, index1 ⟨_, Pipeline.run_point_lt_of_flush t ((flush0_2 t).mp hf) s⟩, index2 t]

theorem frame_kernel : Cert.quiescent_GradO := fun m ρ _ => Cert.GradO.Gen.frame (F := Bits) m ρ

theorem frame_ideal : Cert.quiescent_GradOIdeal := fun m ρ _ => Gen.frame (F := Ideal) m ρ

theorem frame_reference : Cert.quiescent_GradORef := fun m ρ _ =>
  (θ_run Cert.GradORefIdeal.defs _ _).mono
    (fun r h => ⟨fun c => (h c).2, sem_eq_zero_of_no_sems (by decide) r.2⟩) (Cert.GradORefIdeal.Value.run (F := Bits) m ρ)

theorem frame_reference_ideal : Cert.quiescent_GradORefIdeal := fun m ρ _ =>
  (θ_run Cert.GradORefIdeal.defs _ _).mono
    (fun r h => ⟨fun c => (h c).2, sem_eq_zero_of_no_sems (by decide) r.2⟩) (Cert.GradORefIdeal.Value.run (F := Ideal) m ρ)

theorem algebraic : Cert.algebraic_GradOIdeal_GradORefIdeal := fun m g m' g' _ h =>
  ⟨_, (θ_run defs _ _).mono (fun _ hr c => ⟨(hr c).1.trans (final m c), (hr c).2⟩) (Value.run_blocks m g),
    (θ_run Cert.GradORefIdeal.defs _ _).mono
      (fun _ hr c => ⟨(hr c).1.trans (by rw [reference, (h c).1, (h c).2]), (hr c).2⟩) (Cert.GradORefIdeal.Value.run (F := Ideal) m' g')⟩

end Cert.Step.GradO

namespace Cert.Step.GradFfnUp

/-! The weight into the feed-forward layer. -/

open Cert.GradFfnUpIdeal Cert.GradFfnUpIdeal.Gen

theorem reference (a : FVec Ideal S8192x1024 .bf16) (b : FVec Ideal S8192x2816 .bf16) :
    transpose S1024x2816 [1, 0]
        (Host.dotGeneral Cert.GradFfnUpRefIdeal.dot_S8192x2816_S8192x1024_S2816x1024_0_0_1_1_n_n none (extf .f32 b Cert.GradFfnUpRefIdeal.Facts₀.bitsLt_bf16_f32) (extf .f32 a Cert.GradFfnUpRefIdeal.Facts₀.bitsLt_bf16_f32))
        Cert.GradFfnUpRefIdeal.Facts₀.transposes_S2816x1024_S1024x2816_1_0
      = rows a b := by
  funext i
  pointwise
  exact Finset.sum_congr rfl fun l _ => mul_comm _ _

theorem index0 : ∀ t : Fin cfg0.N, win0_0.index t = ![t.val % 4, 0] := (by decide +kernel : ∀ t : Fin grid0.N, _)
theorem index1 : ∀ t : Fin cfg0.N, win0_1.index t = ![t.val % 4, t.val / 4] := (by decide +kernel : ∀ t : Fin grid0.N, _)
theorem index2 : ∀ t : Fin cfg0.N, win0_2.index t = ![0, t.val / 4] := (by decide +kernel : ∀ t : Fin grid0.N, _)

theorem final (m : (ℓ : Loc nD τ sig) → Buf (Elt Ideal) ℓ) (c : Dev nD) : (dats m 0 c).arrAt 2 cfg0.N
    = rows (m ((c : Thread nD τ).loc main_arg0)) (m ((c : Thread nD τ).loc main_arg1)) := by
  refine (dats m 0 c).arrAt_eq_of_covers 2 _ (by decide +kernel) fun t hf y => ?_
  blk_simp
  rw [after0_2]
  refine rows_of_quarters (fun n h => outsAt0 m c n h) (iblk m c 0) (iblk m c 1) _ _
    (fun t h j => by rw [outsAt0_A m c t h (by omega)]; frame_out; pointwise [k0_pay1])
    (fun t h j => by rw [outsAt0_B m c t h (by omega)]; frame_out; pointwise [k0_pay2, k0_pay1]) t ((flush0_2 t).mp hf) _ _
    (fun s l hl => ?_) fun s l hl => ?_
  all_goals blk_ext [iblk, V, index0 ⟨_, Pipeline.run_point_lt_of_flush t ((flush0_2 t).mp hf) s⟩, index1 ⟨_, Pipeline.run_point_lt_of_flush t ((flush0_2 t).mp hf) s⟩, index2 t]

theorem frame_kernel : Cert.quiescent_GradFfnUp := fun m ρ _ => Cert.GradFfnUp.Gen.frame (F := Bits) m ρ

theorem frame_ideal : Cert.quiescent_GradFfnUpIdeal := fun m ρ _ => Gen.frame (F := Ideal) m ρ

theorem frame_reference : Cert.quiescent_GradFfnUpRef := fun m ρ _ =>
  (θ_run Cert.GradFfnUpRefIdeal.defs _ _).mono
    (fun r h => ⟨fun c => (h c).2, sem_eq_zero_of_no_sems (by decide) r.2⟩) (Cert.GradFfnUpRefIdeal.Value.run (F := Bits) m ρ)

theorem frame_reference_ideal : Cert.quiescent_GradFfnUpRefIdeal := fun m ρ _ =>
  (θ_run Cert.GradFfnUpRefIdeal.defs _ _).mono
    (fun r h => ⟨fun c => (h c).2, sem_eq_zero_of_no_sems (by decide) r.2⟩) (Cert.GradFfnUpRefIdeal.Value.run (F := Ideal) m ρ)

theorem algebraic : Cert.algebraic_GradFfnUpIdeal_GradFfnUpRefIdeal := fun m g m' g' _ h =>
  ⟨_, (θ_run defs _ _).mono (fun _ hr c => ⟨(hr c).1.trans (final m c), (hr c).2⟩) (Value.run_blocks m g),
    (θ_run Cert.GradFfnUpRefIdeal.defs _ _).mono
      (fun _ hr c => ⟨(hr c).1.trans (by rw [reference, (h c).1, (h c).2]), (hr c).2⟩) (Cert.GradFfnUpRefIdeal.Value.run (F := Ideal) m' g')⟩

end Cert.Step.GradFfnUp

namespace Cert.Step.GradFfnDown

/-! The weight out of the feed-forward layer. -/

open Cert.GradFfnDownIdeal Cert.GradFfnDownIdeal.Gen

theorem reference (a : FVec Ideal S8192x2816 .bf16) (b : FVec Ideal S8192x1024 .bf16) :
    transpose S2816x1024 [1, 0]
        (Host.dotGeneral Cert.GradFfnDownRefIdeal.dot_S8192x1024_S8192x2816_S1024x2816_0_0_1_1_n_n none (extf .f32 b Cert.GradFfnDownRefIdeal.Facts₀.bitsLt_bf16_f32) (extf .f32 a Cert.GradFfnDownRefIdeal.Facts₀.bitsLt_bf16_f32))
        Cert.GradFfnDownRefIdeal.Facts₀.transposes_S1024x2816_S2816x1024_1_0
      = rows a b := by
  funext i
  pointwise
  exact Finset.sum_congr rfl fun l _ => mul_comm _ _

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

theorem final (m : (ℓ : Loc nD τ sig) → Buf (Elt Ideal) ℓ) (c : Dev nD) : (dats m 0 c).arrAt 2 cfg0.N
    = rows (m ((c : Thread nD τ).loc main_arg0)) (m ((c : Thread nD τ).loc main_arg1)) := by
  refine (dats m 0 c).arrAt_eq_of_covers 2 _ (by decide +kernel) fun t hf y => ?_
  blk_simp
  rw [after0_2]
  refine rows_of_quarters (fun n h => outsAt0 m c n h) (iblk m c 0) (iblk m c 1) _ _
    (fun t h j => by rw [outsAt0_A m c t h (by omega)]; frame_out; pointwise [k0_pay1])
    (fun t h j => by rw [outsAt0_B m c t h (by omega)]; frame_out; pointwise [k0_pay2, k0_pay1]) t ((flush0_2 t).mp hf) _ _
    (fun s l hl => ?_) fun s l hl => ?_
  all_goals blk_ext [iblk, V, index0 ⟨_, Pipeline.run_point_lt_of_flush t ((flush0_2 t).mp hf) s⟩, index1 ⟨_, Pipeline.run_point_lt_of_flush t ((flush0_2 t).mp hf) s⟩, index2 t]

theorem frame_kernel : Cert.quiescent_GradFfnDown := fun m ρ _ => Cert.GradFfnDown.Gen.frame (F := Bits) m ρ

theorem frame_ideal : Cert.quiescent_GradFfnDownIdeal := fun m ρ _ => Gen.frame (F := Ideal) m ρ

theorem frame_reference : Cert.quiescent_GradFfnDownRef := fun m ρ _ =>
  (θ_run Cert.GradFfnDownRefIdeal.defs _ _).mono
    (fun r h => ⟨fun c => (h c).2, sem_eq_zero_of_no_sems (by decide) r.2⟩) (Cert.GradFfnDownRefIdeal.Value.run (F := Bits) m ρ)

theorem frame_reference_ideal : Cert.quiescent_GradFfnDownRefIdeal := fun m ρ _ =>
  (θ_run Cert.GradFfnDownRefIdeal.defs _ _).mono
    (fun r h => ⟨fun c => (h c).2, sem_eq_zero_of_no_sems (by decide) r.2⟩) (Cert.GradFfnDownRefIdeal.Value.run (F := Ideal) m ρ)

theorem algebraic : Cert.algebraic_GradFfnDownIdeal_GradFfnDownRefIdeal := fun m g m' g' _ h =>
  ⟨_, (θ_run defs _ _).mono (fun _ hr c => ⟨(hr c).1.trans (final m c), (hr c).2⟩) (Value.run_blocks m g),
    (θ_run Cert.GradFfnDownRefIdeal.defs _ _).mono
      (fun _ hr c => ⟨(hr c).1.trans (by rw [reference, (h c).1, (h c).2]), (hr c).2⟩) (Cert.GradFfnDownRefIdeal.Value.run (F := Ideal) m' g')⟩

end Cert.Step.GradFfnDown

end
-- ==== Proof.Step.InProj.lean ====
/-
The claims about the input projections: both programs run and leave their arguments as they were, and they agree.
-/
module

public import proofs.«01_k».proof.Defs
public import proofs.«01_k».proof.Proof.Gen.InProj.Frame
public import proofs.«01_k».proof.Proof.Gen.InProjRef
public import proofs.«01_k».proof.Proof.Gen.InProjIdeal.Value
public import proofs.«01_k».proof.Proof.Gen.InProjRefIdeal.Run
public import Idealize.ShloMosaic.Lib.Pipeline.ValueKit
public import Idealize.ShloMosaic.Lib.Quiescent

@[expose] public section

noncomputable section

open Idealize.ShloMosaic Idealize.ShloMosaic.TcCoe Idealize.SL.Sem

namespace Cert.Step.InProj

section

open Cert.InProjRefIdeal Cert.InProjRefIdeal.Facts₀

/-- The reference's normed rows: each over the root of its mean square, times the gain. -/
abbrev refNormed (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 g)

end

open Cert.InProjIdeal Cert.InProjIdeal.Gen

theorem index : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

variable (m : (ℓ : Loc nD τ sig) → Buf (Elt Ideal) ℓ) (c : Dev nD)

theorem final6 : (dats m 0 c).arrAt 6 cfg0.N = truncf .bf16 (refNormed (m ((c : Thread nD τ).loc main_arg0)) (m ((c : Thread nD τ).loc main_arg1))) Cert.InProjRefIdeal.Facts₀.bitsLt_bf16_f32 := by
  refine (dats m 0 c).arrAt_eq_of_covers 6 _ (by decide +kernel) fun t hf y => ?_
  blk_simp
  rw [after0_6]
  frame_out
  pointwise [k0_pay1]
  blk_point [iblk, V, index t]

theorem final7 : (dats m 0 c).arrAt 7 cfg0.N = truncf .bf16 (Host.dotGeneral Cert.InProjRefIdeal.dot_S8192x1024_S1024x1536_S8192x1536_1_0_0_1_n_n none (refNormed (m ((c : Thread nD τ).loc main_arg0)) (m ((c : Thread nD τ).loc main_arg1))) (extf .f32 (m ((c : Thread nD τ).loc main_arg2)) Cert.InProjRefIdeal.Facts₀.bitsLt_bf16_f32)) Cert.InProjRefIdeal.Facts₀.bitsLt_bf16_f32 := by
  refine (dats m 0 c).arrAt_eq_of_covers 7 _ (by decide +kernel) fun t hf y => ?_
  blk_simp
  rw [after0_7]
  frame_out
  pointwise [k0_pay2, k0_pay1]
  blk_point [iblk, V, index t]

theorem final8 : (dats m 0 c).arrAt 8 cfg0.N = Host.dotGeneral Cert.InProjRefIdeal.dot_S8192x1024_S1024x1792_S8192x1792_1_0_0_1_n_n none (refNormed (m ((c : Thread nD τ).loc main_arg0)) (m ((c : Thread nD τ).loc main_arg1))) (extf .f32 (m ((c : Thread nD τ).loc main_arg3)) Cert.InProjRefIdeal.Facts₀.bitsLt_bf16_f32) := by
  refine (dats m 0 c).arrAt_eq_of_covers 8 _ (by decide +kernel) fun t hf y => ?_
  blk_simp
  rw [after0_8]
  frame_out
  pointwise [k0_pay3, k0_pay1]
  blk_point [iblk, V, index t]

theorem final9 : (dats m 0 c).arrAt 9 cfg0.N = Host.divf (broadcastInDim S8192x2048 ![] Cert.InProjRefIdeal.Facts₀.bcast_S_S8192x2048 (constant Cert.InProjRefIdeal.S_ .f32 0x3F800000#32)) (addf (broadcastInDim S8192x2048 ![] Cert.InProjRefIdeal.Facts₀.bcast_S_S8192x2048 (constant Cert.InProjRefIdeal.S_ .f32 0x3F800000#32)) (Host.exp (Host.negf (addf (Host.dotGeneral Cert.InProjRefIdeal.dot_S8192x1024_S1024x2048_S8192x2048_1_0_0_1_n_n none (refNormed (m ((c : Thread nD τ).loc main_arg0)) (m ((c : Thread nD τ).loc main_arg1))) (extf .f32 (m ((c : Thread nD τ).loc main_arg4)) Cert.InProjRefIdeal.Facts₀.bitsLt_bf16_f32)) (broadcastInDim S8192x2048 ![0, 1] Cert.InProjRefIdeal.Facts₀.bcast_S1x2048_S8192x2048_0_1 (m ((c : Thread nD τ).loc main_arg5))))))) := by
  refine (dats m 0 c).arrAt_eq_of_covers 9 _ (by decide +kernel) fun t hf y => ?_
  blk_simp
  rw [after0_9]
  frame_out
  pointwise [k0_pay4, k0_pay1]
  rw [Ideal.logistic]
  blk_point [iblk, V, index t]

omit m c

theorem frame_kernel : Cert.quiescent_InProj := fun m ρ _ => Cert.InProj.Gen.frame (F := Bits) m ρ

theorem frame_ideal : Cert.quiescent_InProjIdeal := fun m ρ _ => Gen.frame (F := Ideal) m ρ

theorem frame_reference : Cert.quiescent_InProjRef := fun m ρ _ =>
  (θ_run Cert.InProjRefIdeal.defs _ _).mono
    (fun r h => ⟨fun c => (h c).2.2.2.2, sem_eq_zero_of_no_sems (by decide) r.2⟩) (Cert.InProjRefIdeal.Value.run (F := Bits) m ρ)

theorem frame_reference_ideal : Cert.quiescent_InProjRefIdeal := fun m ρ _ =>
  (θ_run Cert.InProjRefIdeal.defs _ _).mono
    (fun r h => ⟨fun c => (h c).2.2.2.2, sem_eq_zero_of_no_sems (by decide) r.2⟩) (Cert.InProjRefIdeal.Value.run (F := Ideal) m ρ)

theorem algebraic : Cert.algebraic_InProjIdeal_InProjRefIdeal := fun m g m' g' _ h =>
  ⟨_, _, _, _, (θ_run defs _ _).mono (fun _ hr c => ⟨(hr c).1.trans (final6 m c), (hr c).2.1.trans (final7 m c),
      (hr c).2.2.1.trans (final8 m c), (hr c).2.2.2.1.trans (final9 m c), (hr c).2.2.2.2⟩) (Value.run_blocks m g),
    (θ_run Cert.InProjRefIdeal.defs _ _).mono (fun _ hr c => by
      obtain ⟨h0, h1, h2, h3, h4, h5⟩ := h c
      have hc := hr c
      rw [h0, h1, h2, h3, h4, h5] at hc
      rw [h0, h1, h2, h3, h4, h5]
      exact hc) (Cert.InProjRefIdeal.Value.run (F := Ideal) m' g')⟩

end Cert.Step.InProj

end
-- ==== Proof.Step.Norm.lean ====
module

public import Idealize.ShloMosaic.Lib.Pipeline.ValueKit
public import Idealize.ShloMosaic.Lib.Quiescent

/-!
The derivative of a row's root-mean-square norm, written two ways: through the normed row, and term by term as the chain
rule gives it.  They agree on every extended real.  Where the row has an infinite entry both are the zero, since the
reciprocal of the root is; elsewhere the row and that reciprocal are real, and only the incoming derivative can be infinite.
-/

@[expose] public section

noncomputable section

open Idealize.ShloMosaic

namespace Cert.Step

/-- A row's length, as the programs write it. -/
theorem length_eq : Ideal.ofBits .f32 1149239296#32 = ((1024 : ℝ) : EReal) := by
  simp [Ideal.ofBits, Ideal.ieee, -EReal.coe_mul]
  norm_num

theorem neg_half_eq : Ideal.ofBits .f32 3204448256#32 = ((-(1 / 2) : ℝ) : EReal) := by
  simp [Ideal.ofBits, Ideal.ieee, -EReal.coe_mul, -EReal.coe_neg]
  norm_num

/-- What is added to the mean of the squares is a positive real. -/
theorem offset_pos : ∃ e : ℝ, 0 < e ∧ Ideal.ofBits .f32 897988541#32 = (e : EReal) := by
  refine ⟨8796093 * 2 ^ (-43 : ℤ), by positivity, ?_⟩
  simp [Ideal.ofBits, Ideal.ieee, -EReal.coe_mul]

theorem sum_mul_real {n : Nat} (f : Fin n → EReal) {r : ℝ} (hr : 0 ≤ r) : ∑ j, f j * (r : EReal) = (∑ j, f j) * (r : EReal) := by
  induction (Finset.univ : Finset (Fin n)) using Finset.induction_on with
  | empty => simp
  | insert j s hj ih =>
    rw [Finset.sum_insert hj, Finset.sum_insert hj, ih,
      EReal.right_distrib_of_nonneg_of_ne_top (EReal.coe_nonneg.mpr hr) (EReal.coe_ne_top r)]

theorem twice_mul (A : EReal) (a : ℝ) : A * (a : EReal) + A * (a : EReal) = A * ((2 * a : ℝ) : EReal) := by
  have h := EReal.left_distrib_of_nonneg (a := 1) (b := 1) (c := A * a) zero_le_one zero_le_one
  rw [mul_one] at h
  rw [← h, mul_comm 2 a, EReal.coe_mul, ← mul_assoc]
  congr 1
  norm_num
  norm_cast

/-- The mean of a row's squares, with the programs' offset. -/
def meanSq (X : Fin 1024 → EReal) : EReal :=
  Ideal.div (∑ j, X j * X j) (Ideal.ofBits .f32 1149239296#32) + Ideal.ofBits .f32 897988541#32

/-- Either the reciprocal of the root is zero and so is its quotient by the mean, or the row is real and the mean positive. -/
theorem meanSq_cases (X : Fin 1024 → EReal) :
    meanSq X = ⊤ ∨ ∃ (x : Fin 1024 → ℝ) (s : ℝ), 0 < s ∧ meanSq X = (s : EReal) ∧ ∀ j, X j = (x j : EReal) := by
  obtain ⟨e, he, hE⟩ := offset_pos
  have sq : ∀ j, 0 ≤ X j * X j := fun j =>
    EReal.mul_nonneg_iff.mpr ((le_total 0 (X j)).imp (fun h => ⟨h, h⟩) fun h => ⟨h, h⟩)
  have nonneg : 0 ≤ ∑ j, X j * X j := Finset.sum_nonneg fun j _ => sq j
  rw [meanSq, hE, length_eq, Ideal.div_coe (by norm_num)]
  by_cases top : ∑ j, X j * X j = ⊤
  · left
    rw [top, EReal.top_mul_coe_of_pos (by norm_num), EReal.top_add_coe]
  · right
    have each : ∀ j, X j ≠ ⊤ ∧ X j ≠ ⊥ := fun j => by
      have le : X j * X j ≤ ∑ j, X j * X j := Finset.single_le_sum (fun j _ => sq j) (Finset.mem_univ j)
      refine ⟨fun h => top ?_, fun h => top ?_⟩ <;> rw [h] at le <;> simpa using le
    have bot : ∑ j, X j * X j ≠ ⊥ := fun h => by rw [h] at nonneg; simp at nonneg
    refine ⟨fun j => (X j).toReal, (∑ j, X j * X j).toReal * (1 / 1024) + e, ?_, ?_, fun j => (EReal.coe_toReal (each j).1 (each j).2).symm⟩
    · have := EReal.toReal_nonneg nonneg
      positivity
    · rw [EReal.coe_add, EReal.coe_mul, EReal.coe_toReal top bot]

theorem norm_derivative (X U : Fin 1024 → EReal) (k : Fin 1024) :
    Ideal.rsqrt (meanSq X) * (U k - X k * Ideal.rsqrt (meanSq X)
        * Ideal.div (∑ j, U j * (X j * Ideal.rsqrt (meanSq X))) (Ideal.ofBits .f32 1149239296#32))
      = U k * Ideal.rsqrt (meanSq X)
        + (X k * Ideal.div ((∑ j, X j * U j) * (Ideal.ofBits .f32 3204448256#32 * Ideal.div (Ideal.rsqrt (meanSq X)) (meanSq X)))
            (Ideal.ofBits .f32 1149239296#32)
          + Ideal.div ((∑ j, X j * U j) * (Ideal.ofBits .f32 3204448256#32 * Ideal.div (Ideal.rsqrt (meanSq X)) (meanSq X)))
            (Ideal.ofBits .f32 1149239296#32) * X k) := by
  rw [length_eq, neg_half_eq]
  rcases meanSq_cases X with h | ⟨x, s, hs, h, hx⟩
  · rw [h]
    simp [Ideal.div]
  · obtain ⟨r, hr, hrs, e⟩ : ∃ r : ℝ, 0 < r ∧ r * r = 1 / s ∧ Ideal.rsqrt (meanSq X) = (r : EReal) := by
      refine ⟨(Real.sqrt s)⁻¹, by positivity, ?_, ?_⟩
      · rw [← mul_inv, Real.mul_self_sqrt hs.le, one_div]
      · rw [h, Ideal.rsqrt_coe, if_neg (by linarith), if_neg hs.ne']
    have sum : ∑ j, U j * (X j * (r : EReal)) = (∑ j, X j * U j) * (r : EReal) := by
      rw [← sum_mul_real _ hr.le]
      exact Finset.sum_congr rfl fun j _ => by rw [← mul_assoc, mul_comm (U j)]
    rw [e, sum, h, hx k, Ideal.div_coe (by norm_num), Ideal.div_coe (by norm_num), Ideal.div_coe hs.ne']
    generalize (∑ j, X j * U j) = A
    have left : (r : EReal) * (U k - (x k : EReal) * r * (A * r * ((1 / 1024 : ℝ) : EReal)))
        = U k * r + A * ((-(x k * r * r * r / 1024) : ℝ) : EReal) := by
      rw [sub_eq_add_neg, EReal.left_distrib_of_nonneg_of_ne_top (EReal.coe_nonneg.mpr hr.le) (EReal.coe_ne_top r), mul_comm (r : EReal) (U k),
        mul_neg, EReal.coe_neg, mul_neg]
      congr 2
      rw [show x k * r * r * r / 1024 = r * (x k * r * (r * (1 / 1024))) by ring]
      simp only [EReal.coe_mul]
      ac_rfl
    have right : (x k : EReal) * (A * (((-(1 / 2) : ℝ) : EReal) * ((r : EReal) * ((1 / s : ℝ) : EReal))) * ((1 / 1024 : ℝ) : EReal))
        = A * ((x k * (-(1 / 2) * (r * (1 / s))) * (1 / 1024) : ℝ) : EReal) := by
      simp only [EReal.coe_mul]
      ac_rfl
    rw [left, mul_comm _ (x k : EReal), right, twice_mul]
    congr 3
    rw [← hrs]
    ring

end Cert.Step

end
-- ==== Proof.Step.InProjBack.lean ====
module

public import proofs.«01_k».proof.Defs
public import proofs.«01_k».proof.Proof.Gen.InProjBack.Frame
public import proofs.«01_k».proof.Proof.Gen.InProjBackRef
public import proofs.«01_k».proof.Proof.Gen.InProjBackIdeal.Value
public import proofs.«01_k».proof.Proof.Gen.InProjBackRefIdeal.Run
public import proofs.«01_k».proof.Proof.Step.Norm
public import Idealize.ShloMosaic.Lib.Pipeline.ValueKit
public import Idealize.ShloMosaic.Lib.Quiescent

@[expose] public section

noncomputable section

open Idealize.ShloMosaic Idealize.ShloMosaic.TcCoe Idealize.SL.Sem

namespace Cert.Step.InProjBack

/-- The derivative at the normed and scaled rows: what the three products carry back, added up. -/
abbrev back {R : Nat} (dq : FVec Ideal ⟨2, ![R, 1536]⟩ .bf16) (dr : FVec Ideal ⟨2, ![R, 1792]⟩ .bf16) (dg : FVec Ideal ⟨2, ![R, 2048]⟩ .bf16)
    (wq : FVec Ideal ⟨2, ![1024, 1536]⟩ .bf16) (wr : FVec Ideal ⟨2, ![1024, 1792]⟩ .bf16) (wg : FVec Ideal ⟨2, ![1024, 2048]⟩ .bf16)
    (r : Fin R) (k : Fin 1024) : EReal :=
  ∑ l, dq (ix2 r l) * wq (ix2 k l) + ∑ l, dr (ix2 r l) * wr (ix2 k l) + ∑ l, dg (ix2 r l) * wg (ix2 k l)

/-- The derivative at the rows: the one that came past the products, and the norm's. -/
abbrev gradRows {R : Nat} (x : FVec Ideal ⟨2, ![R, 1024]⟩ .f32) (g : FVec Ideal ⟨2, ![1, 1024]⟩ .f32) (d : FVec Ideal ⟨2, ![R, 1024]⟩ .f32)
    (u : Fin R → Fin 1024 → EReal) : FVec Ideal ⟨2, ![R, 1024]⟩ .f32 :=
  fun i => d i + Ideal.rsqrt (meanSq fun j => x (ix2 (i 0) j)) * (u (i 0) (i 1) * g (ix2 0 (i 1))
    - x i * Ideal.rsqrt (meanSq fun j => x (ix2 (i 0) j))
      * Ideal.div (∑ j, u (i 0) j * g (ix2 0 j) * (x (ix2 (i 0) j) * Ideal.rsqrt (meanSq fun j => x (ix2 (i 0) j)))) (Ideal.ofBits .f32 1149239296#32))

/-- The gain's gradient: the normed rows against the derivative at them. -/
abbrev gradGain {R : Nat} (x : FVec Ideal ⟨2, ![R, 1024]⟩ .f32) (u : Fin R → Fin 1024 → EReal) : FVec Ideal ⟨2, ![1, 1024]⟩ .f32 :=
  fun i => ∑ r, u r (i 1) * (x (ix2 r (i 1)) * Ideal.rsqrt (meanSq fun j => x (ix2 r j)))

/-- Term by term: through the row's own entry, through the reciprocal of its root twice, and past the norm. -/
theorem gradRows_eq {R : Nat} (x : FVec Ideal ⟨2, ![R, 1024]⟩ .f32) (g : FVec Ideal ⟨2, ![1, 1024]⟩ .f32) (d : FVec Ideal ⟨2, ![R, 1024]⟩ .f32)
    (u v : Fin R → Fin 1024 → EReal) (uv : ∀ r k, u r k = v r k) (i : Shape.Idx ⟨2, ![R, 1024]⟩) :
    (d i + (v (i 0) (i 1) * g (ix2 0 (i 1)) * Ideal.rsqrt (meanSq fun j => x (ix2 (i 0) j))
      + x i * ∑ _ : Fin 1, Ideal.div ((∑ j, x (ix2 (i 0) j) * (v (i 0) j * g (ix2 0 j)))
          * (Ideal.ofBits .f32 3204448256#32 * Ideal.div (Ideal.rsqrt (meanSq fun j => x (ix2 (i 0) j))) (meanSq fun j => x (ix2 (i 0) j))))
        (Ideal.ofBits .f32 1149239296#32)
      + (∑ _ : Fin 1, Ideal.div ((∑ j, x (ix2 (i 0) j) * (v (i 0) j * g (ix2 0 j)))
          * (Ideal.ofBits .f32 3204448256#32 * Ideal.div (Ideal.rsqrt (meanSq fun j => x (ix2 (i 0) j))) (meanSq fun j => x (ix2 (i 0) j))))
        (Ideal.ofBits .f32 1149239296#32)) * x i) : EReal) = gradRows x g d u i := by
  obtain rfl : u = v := funext fun r => funext (uv r)
  obtain ⟨r, k, rfl⟩ : ∃ r k, i = ix2 r k := ⟨i 0, i 1, by ext a; fin_cases a <;> rfl⟩
  refine congrArg (fun z : EReal => (d (ix2 r k) : EReal) + z) (Eq.trans ?_ (norm_derivative (fun j => x (ix2 r j)) (fun j => u r j * g (ix2 0 j)) k).symm)
  rw [Fin.sum_univ_one, add_assoc]
  rfl

theorem back_eq {R : Nat} (dq : FVec Ideal ⟨2, ![R, 1536]⟩ .bf16) (dr : FVec Ideal ⟨2, ![R, 1792]⟩ .bf16) (dg : FVec Ideal ⟨2, ![R, 2048]⟩ .bf16)
    (wq : FVec Ideal ⟨2, ![1024, 1536]⟩ .bf16) (wr : FVec Ideal ⟨2, ![1024, 1792]⟩ .bf16) (wg : FVec Ideal ⟨2, ![1024, 2048]⟩ .bf16)
    (r : Fin R) (k : Fin 1024) : back dq dr dg wq wr wg r k
      = (∑ l, dg (ix2 r l) * wg (ix2 k l) + ∑ l, dr (ix2 r l) * wr (ix2 k l) + ∑ l, dq (ix2 r l) * wq (ix2 k l) : EReal) := by
  exact (add_comm _ _).trans ((congrArg _ (add_comm _ _)).trans (add_assoc _ _ _).symm)

section

open Cert.InProjBackRefIdeal Cert.InProjBackRefIdeal.Facts₀

variable (m : (ℓ : Loc nD τ sig) → Buf (Elt Ideal) ℓ) (c : Dev nD)

theorem reference_rows : Value.res_main_v48 m c
    = gradRows (R := 8192) (m ((c.tc : Thread nD τ).loc main_arg0)) (m ((c.tc : Thread nD τ).loc main_arg1)) (m ((c.tc : Thread nD τ).loc main_arg2))
      (back (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))) := by
  unfold Value.res_main_v48
  funext i
  pointwise
  exact gradRows_eq (R := 8192) (m ((c.tc : Thread nD τ).loc main_arg0)) (m ((c.tc : Thread nD τ).loc main_arg1)) (m ((c.tc : Thread nD τ).loc main_arg2))
    _ _ (back_eq (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))) i

theorem reference_gain (x : FVec Ideal S8192x1024 .f32) (dq : FVec Ideal S8192x1536 .bf16) (dr : FVec Ideal S8192x1792 .bf16)
    (dg : FVec Ideal S8192x2048 .bf16) (wq : FVec Ideal S1024x1536 .bf16) (wr : FVec Ideal S1024x1792 .bf16) (wg : FVec Ideal S1024x2048 .bf16) :
    shapeCast S1x1024 (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (addf (addf (Host.dotGeneral dot_S8192x2048_S1024x2048_S8192x1024_1_1_0_0_n_n none (extf .f32 dg bitsLt_bf16_f32) (extf .f32 wg bitsLt_bf16_f32)) (Host.dotGeneral dot_S8192x1792_S1024x1792_S8192x1024_1_1_0_0_n_n none (extf .f32 dr bitsLt_bf16_f32) (extf .f32 wr bitsLt_bf16_f32))) (Host.dotGeneral dot_S8192x1536_S1024x1536_S8192x1024_1_1_0_0_n_n none (extf .f32 dq bitsLt_bf16_f32) (extf .f32 wq bitsLt_bf16_f32)))) (constant S_ .f32 0x00000000#32) reducesTo_S8192x1024_S1024_d0 h_S_) shapeCasts_S1024_S1x1024
      = gradGain x (back dq dr dg wq wr wg) := by
  funext i
  pointwise
  exact Finset.sum_congr rfl fun r _ =>
    (mul_comm (_ : EReal) _).trans (congrArg (fun z : EReal => z * _) (back_eq dq dr dg wq wr wg r (i 1)).symm)

end

open Cert.InProjBackIdeal Cert.InProjBackIdeal.Gen

theorem index : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![t.val, 0] ∧ win0_10.index t = ![0, 0] :=
  (by decide +kernel : ∀ t : Fin grid0.N, _)

variable (m : (ℓ : Loc nD τ sig) → Buf (Elt Ideal) ℓ) (c : Dev nD)

/-- A point's part of the gain's gradient. -/
abbrev part (t : Fin cfg0.N) : FVec Ideal ⟨2, ![1, 1024]⟩ .f32 :=
  gradGain (R := 256) (iblk m c 0 t) (back (iblk m c 3 t) (iblk m c 4 t) (iblk m c 5 t) (iblk m c 6 t) (iblk m c 7 t) (iblk m c 8 t))

theorem outs_rows (t : Fin cfg0.N) (y : S256x1024.Idx) : (outsAt0 m c t.val t.isLt).1 y = gradRows (R := 256) (iblk m c 0 t) (iblk m c 1 t) (iblk m c 2 t)
    (back (iblk m c 3 t) (iblk m c 4 t) (iblk m c 5 t) (iblk m c 6 t) (iblk m c 7 t) (iblk m c 8 t)) y := by
  have hN : t.val < 32 := t.isLt
  by_cases h : t.val % 32 = 0
  · rw [outsAt0_A m c t h (by omega)]
    frame_out
    pointwise [k0_pay2, k0_pay7, k0_pay6, k0_pay5, k0_pay4]
    rfl
  · rw [outsAt0_B m c t h (by omega)]
    frame_out
    pointwise [k0_pay2, k0_pay7, k0_pay6, k0_pay5, k0_pay4]
    rfl

theorem outs_first (t : Fin cfg0.N) (h : t.val % 32 = 0) (y : S1x1024.Idx) : (outsAt0 m c t.val t.isLt).2 y = part m c t y := by
  have hN : t.val < 32 := t.isLt
  rw [outsAt0_A m c t h (by omega)]
  frame_out
  pointwise [k0_pay1, k0_pay6, k0_pay5, k0_pay4]
  rfl

theorem outs_next (t : Fin cfg0.N) (h : ¬t.val % 32 = 0) (y : S1x1024.Idx) : (outsAt0 m c t.val t.isLt).2 y =
   ((outsAt0 m c (t.val - 1) (Nat.lt_of_le_of_lt (Nat.sub_le _ _) t.isLt)).2 y + part m c t y : EReal) := by
  have hN : t.val < 32 := t.isLt
  rw [outsAt0_B m c t h (by omega)]
  frame_out
  pointwise [k0_pay3, k0_pay1, k0_pay6, k0_pay5, k0_pay4]
  rfl

theorem final_rows : (dats m 0 c).arrAt 9 cfg0.N
    = gradRows (R := 8192) (m ((c : Thread nD τ).loc main_arg0)) (m ((c : Thread nD τ).loc main_arg1)) (m ((c : Thread nD τ).loc main_arg2))
      (back (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))) := by
  refine (dats m 0 c).arrAt_eq_of_covers 9 _ (by decide +kernel) fun t hf y => ?_
  blk_simp
  rw [after0_9, outs_rows]
  simp only [gradRows, back, meanSq]
  blk_point [iblk, V, index t]

theorem final_gain : (dats m 0 c).arrAt 10 cfg0.N
    = gradGain (R := 8192) (m ((c : Thread nD τ).loc main_arg0))
      (back (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))) := by
  refine (dats m 0 c).arrAt_eq_of_covers 10 _ (by decide +kernel) fun t hf y => ?_
  blk_simp
  rw [after0_10, Pipeline.eq_sum_fin_of_reset_step_apply_of_flush (fun n h => (outsAt0 m c n h).2) 32 (fun _ => (0 : EReal)) (part m c)
    (fun t h j => by rw [outs_first m c t h, zero_add]) (outs_next m c) t ((flush0_10 t).mp hf)]
  refine (zero_add (_ : EReal)).trans (Fin.sum_mul_add_congr (f := fun l => _) fun s l hl => ?_)
  simp only [back, meanSq]
  blk_point [iblk, V, index ⟨_, Pipeline.run_point_lt_of_flush t ((flush0_10 t).mp hf) s⟩, index t]

omit m c

theorem frame_kernel : Cert.quiescent_InProjBack := fun m ρ _ => Cert.InProjBack.Gen.frame (F := Bits) m ρ

theorem frame_ideal : Cert.quiescent_InProjBackIdeal := fun m ρ _ => Gen.frame (F := Ideal) m ρ

theorem frame_reference : Cert.quiescent_InProjBackRef := fun m ρ _ =>
  (θ_run Cert.InProjBackRefIdeal.defs _ _).mono
    (fun r h => ⟨fun c => (h c).2.2, sem_eq_zero_of_no_sems (by decide) r.2⟩) (Cert.InProjBackRefIdeal.Value.run (F := Bits) m ρ)

theorem frame_reference_ideal : Cert.quiescent_InProjBackRefIdeal := fun m ρ _ =>
  (θ_run Cert.InProjBackRefIdeal.defs _ _).mono
    (fun r h => ⟨fun c => (h c).2.2, sem_eq_zero_of_no_sems (by decide) r.2⟩) (Cert.InProjBackRefIdeal.Value.run (F := Ideal) m ρ)

theorem algebraic : Cert.algebraic_InProjBackIdeal_InProjBackRefIdeal := fun m g m' g' _ h =>
  ⟨_, _, (θ_run defs _ _).mono (fun _ hr c => ⟨(hr c).1.trans (final_rows m c), (hr c).2.1.trans (final_gain m c), (hr c).2.2⟩)
      (Value.run_blocks m g),
    (θ_run Cert.InProjBackRefIdeal.defs _ _).mono (fun _ hr c => by
      obtain ⟨h0, h1, h2, h3, h4, h5, h6, h7, h8⟩ := h c
      have hc := hr c
      rw [reference_rows, reference_gain, h0, h1, h2, h3, h4, h5, h6, h7, h8] at hc
      rw [h0, h1, h2, h3, h4, h5, h6, h7, h8]
      exact hc) (Cert.InProjBackRefIdeal.Value.run (F := Ideal) m' g')⟩

end Cert.Step.InProjBack

end
-- ==== Proof.Step.Merge.lean ====
module

public import proofs.«01_k».proof.Defs
public import proofs.«01_k».proof.Proof.Gen.Merge.Frame
public import proofs.«01_k».proof.Proof.Gen.MergeRef
public import proofs.«01_k».proof.Proof.Gen.MergeIdeal.Value
public import proofs.«01_k».proof.Proof.Gen.MergeRefIdeal.Run
public import proofs.«01_k».proof.Proof.Step.Norm
public import Idealize.ShloMosaic.Lib.Pipeline.ValueKit
public import Idealize.ShloMosaic.Lib.Quiescent

@[expose] public section

noncomputable section

open Idealize.ShloMosaic Idealize.ShloMosaic.TcCoe Idealize.SL.Sem

namespace Cert.Step.Merge

/-- The two heads' parts mixed by their gates, row by row. -/
abbrev mixed {R : Nat} (o : FVec Ideal ⟨2, ![R, 512]⟩ .bf16) (h : Fin R → Fin 512 → EReal) (g : FVec Ideal ⟨2, ![R, 512]⟩ .f32)
    (gates : FVec Ideal ⟨2, ![R, 2048]⟩ .f32) (ws wr : FVec Ideal ⟨2, ![512, 1024]⟩ .bf16) (r : Fin R) (k : Fin 1024) : EReal :=
  gates (ix2 r ⟨k.val, by omega⟩) * ∑ l, o (ix2 r l) * ws (ix2 l k)
    + gates (ix2 r ⟨1024 + k.val, by omega⟩) * ∑ l, h r l * g (ix2 r l) * wr (ix2 l k)

/-- The rows with the normed product of the mixed parts added. -/
abbrev merged {R : Nat} (x : FVec Ideal ⟨2, ![R, 1024]⟩ .f32) (u : Fin R → Fin 1024 → EReal) (wo : FVec Ideal ⟨2, ![1024, 1024]⟩ .bf16)
    (gain : FVec Ideal ⟨2, ![1, 1024]⟩ .f32) : FVec Ideal ⟨2, ![R, 1024]⟩ .f32 :=
  fun i => x i + (∑ l, u (i 0) l * wo (ix2 l (i 1))) * Ideal.rsqrt (meanSq fun j => ∑ l, u (i 0) l * wo (ix2 l j)) * gain (ix2 0 (i 1))

theorem merged_congr {R S : Nat} {x : FVec Ideal ⟨2, ![R, 1024]⟩ .f32} {x' : FVec Ideal ⟨2, ![S, 1024]⟩ .f32} {u : Fin R → Fin 1024 → EReal}
    {u' : Fin S → Fin 1024 → EReal} {r : Fin R} {s : Fin S} {k : Fin 1024} (hx : x (ix2 r k) = x' (ix2 s k)) (hu : u r = u' s)
    (wo : FVec Ideal ⟨2, ![1024, 1024]⟩ .bf16) (gain : FVec Ideal ⟨2, ![1, 1024]⟩ .f32) :
    merged x u wo gain (ix2 r k) = merged x' u' wo gain (ix2 s k) := by
  change x (ix2 r k) + (∑ l, u r l * wo (ix2 l k)) * Ideal.rsqrt (meanSq fun j => ∑ l, u r l * wo (ix2 l j)) * gain (ix2 0 k) = _
  rw [hx, hu]
  rfl

/-- The heads of a row side by side. -/
abbrev heads (w : FVec Ideal ⟨4, ![4, 8, 2048, 64]⟩ .f32) (r : Fin 8192) (k : Fin 512) : EReal :=
  w (ix4 ⟨r.val / 2048, by omega⟩ ⟨k.val / 64, by omega⟩ ⟨r.val % 2048, by omega⟩ ⟨k.val % 64, by omega⟩)

section

open Cert.MergeRefIdeal Cert.MergeRefIdeal.Facts₀

theorem reference (x : FVec Ideal S8192x1024 .f32) (o : FVec Ideal S8192x512 .bf16) (w : FVec Ideal S4x8x2048x64 .f32) (g : FVec Ideal S8192x512 .f32)
    (gates : FVec Ideal S8192x2048 .f32) (ws wr : FVec Ideal S512x1024 .bf16) (wo : FVec Ideal S1024x1024 .bf16) (gain : FVec Ideal S1x1024 .f32) :
    addf x (mulf (mulf (Host.dotGeneral dot_S8192x1024_S1024x1024_S8192x1024_1_0_0_1_n_n none (addf (mulf (extractStridedSlice S8192x1024 ![0, 0] gates slices_S8192x2048_S8192x1024_0_0) (Host.dotGeneral dot_S8192x512_S512x1024_S8192x1024_1_0_0_1_n_n none (extf .f32 o bitsLt_bf16_f32) (extf .f32 ws bitsLt_bf16_f32))) (mulf (extractStridedSlice S8192x1024 ![0, 1024] gates slices_S8192x2048_S8192x1024_0_1024) (Host.dotGeneral dot_S8192x512_S512x1024_S8192x1024_1_0_0_1_n_n none (mulf (shapeCast _ (transpose S4x2048x8x64 [0, 2, 1, 3] w transposes_S4x8x2048x64_S4x2048x8x64_0_2_1_3) shapeCasts_S4x2048x8x64_S8192x512) g) (extf .f32 wr bitsLt_bf16_f32)))) (extf .f32 wo bitsLt_bf16_f32))
      (broadcastInDim S8192x1024 ![0, 1] bcast_S8192x1_S8192x1024_0_1 (Host.rsqrt (addf (Host.divf (broadcastInDim S8192x1 ![0] bcast_S8192_S8192x1_0 (Host.reduceAdd (mulf (Host.dotGeneral dot_S8192x1024_S1024x1024_S8192x1024_1_0_0_1_n_n none (addf (mulf (extractStridedSlice S8192x1024 ![0, 0] gates slices_S8192x2048_S8192x1024_0_0) (Host.dotGeneral dot_S8192x512_S512x1024_S8192x1024_1_0_0_1_n_n none (extf .f32 o bitsLt_bf16_f32) (extf .f32 ws bitsLt_bf16_f32))) (mulf (extractStridedSlice S8192x1024 ![0, 1024] gates slices_S8192x2048_S8192x1024_0_1024) (Host.dotGeneral dot_S8192x512_S512x1024_S8192x1024_1_0_0_1_n_n none (mulf (shapeCast _ (transpose S4x2048x8x64 [0, 2, 1, 3] w transposes_S4x8x2048x64_S4x2048x8x64_0_2_1_3) shapeCasts_S4x2048x8x64_S8192x512) g) (extf .f32 wr bitsLt_bf16_f32)))) (extf .f32 wo bitsLt_bf16_f32)) (Host.dotGeneral dot_S8192x1024_S1024x1024_S8192x1024_1_0_0_1_n_n none (addf (mulf (extractStridedSlice S8192x1024 ![0, 0] gates slices_S8192x2048_S8192x1024_0_0) (Host.dotGeneral dot_S8192x512_S512x1024_S8192x1024_1_0_0_1_n_n none (extf .f32 o bitsLt_bf16_f32) (extf .f32 ws bitsLt_bf16_f32))) (mulf (extractStridedSlice S8192x1024 ![0, 1024] gates slices_S8192x2048_S8192x1024_0_1024) (Host.dotGeneral dot_S8192x512_S512x1024_S8192x1024_1_0_0_1_n_n none (mulf (shapeCast _ (transpose S4x2048x8x64 [0, 2, 1, 3] w transposes_S4x8x2048x64_S4x2048x8x64_0_2_1_3) shapeCasts_S4x2048x8x64_S8192x512) g) (extf .f32 wr bitsLt_bf16_f32)))) (extf .f32 wo bitsLt_bf16_f32))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
      (broadcastInDim S8192x1024 ![0, 1] bcast_S1x1024_S8192x1024_0_1 gain))
      = merged x (mixed o (heads w) g gates ws wr) wo gain := by
  funext i
  pointwise
  rfl

end

open Cert.MergeIdeal Cert.MergeIdeal.Gen

theorem kernel_heads (x : Vec Ideal S1x8x256x64 .f32) (r : Fin 256) (k : Fin 512) :
    k0_pay2 (View.ld x r0_1) (View.ld x r0_2) (View.ld x r0_3) (View.ld x r0_4) (View.ld x r0_5) (View.ld x r0_6) (View.ld x r0_7) (View.ld x r0_8) (ix2 r k)
      = x (ix4 0 ⟨k.val / 64, by omega⟩ r ⟨k.val % 64, by omega⟩) := by
  pointwise [k0_pay2]
  split_ifs <;> exact congrArg₂ (fun a b => x (ix4 0 a r b)) (Fin.ext (by simp; omega)) (Fin.ext (by simp; omega))

theorem index : ∀ t : Fin cfg0.N, win0_0.index t = ![t.val, 0] ∧ win0_1.index t = ![t.val, 0] ∧ win0_2.index t = ![t.val / 8, 0, t.val % 8, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

theorem pay_merged (v0 : Vec Ideal S256x512 .bf16) (v17 v18 : Vec Ideal S256x512 .f32) (v19 : Vec Ideal S256x2048 .f32) (v20 v21 : Vec Ideal S512x1024 .bf16)
    (v22 : Vec Ideal S1024x1024 .bf16) (v34 : Vec Ideal S256x1024 .f32) (v35 : Vec Ideal S1x1024 .f32) (y : S256x1024.Idx) :
    k0_pay1 v0 v17 v18 v19 v20 v21 v22 v34 v35 y
      = merged (R := 256) v34 (mixed v0 (fun r k => v17 (ix2 r k)) v18 v19 v20 v21) v22 v35 y := by
  pointwise [k0_pay1]
  rfl

variable (m : (ℓ : Loc nD τ sig) → Buf (Elt Ideal) ℓ) (c : Dev nD)

/-- The row of the whole array at a row of a point's block. -/
abbrev at256 (t : Fin cfg0.N) (r : Fin 256) : Fin 8192 :=
  ⟨t.val * 256 + r.val, by have h : t.val < 32 := t.isLt; omega⟩

theorem block_x (t : Fin cfg0.N) (r : Fin 256) (k : Fin 1024) : iblk m c 0 t (ix2 r k) = m ((c : Thread nD τ).loc main_arg0) (ix2 (at256 t r) k) := by
  blk_point [iblk, V, index t]

theorem block_o (t : Fin cfg0.N) (r : Fin 256) (k : Fin 512) : iblk m c 1 t (ix2 r k) = m ((c : Thread nD τ).loc main_arg1) (ix2 (at256 t r) k) := by
  blk_point [iblk, V, index t]

theorem block_heads (t : Fin cfg0.N) (r : Fin 256) (k : Fin 512) :
    k0_pay2 (View.ld (iblk m c 2 t) r0_1) (View.ld (iblk m c 2 t) r0_2) (View.ld (iblk m c 2 t) r0_3) (View.ld (iblk m c 2 t) r0_4)
        (View.ld (iblk m c 2 t) r0_5) (View.ld (iblk m c 2 t) r0_6) (View.ld (iblk m c 2 t) r0_7) (View.ld (iblk m c 2 t) r0_8) (ix2 r k)
      = heads (m ((c : Thread nD τ).loc main_arg2)) (at256 t r) k := by
  refine (kernel_heads (iblk m c 2 t) r k).trans ?_
  blk_point [iblk, V, index t, heads]

theorem block_g (t : Fin cfg0.N) (r : Fin 256) (k : Fin 512) : iblk m c 3 t (ix2 r k) = m ((c : Thread nD τ).loc main_arg3) (ix2 (at256 t r) k) := by
  blk_point [iblk, V, index t]

theorem block_gates (t : Fin cfg0.N) (r : Fin 256) (k : Fin 2048) : iblk m c 4 t (ix2 r k) = m ((c : Thread nD τ).loc main_arg4) (ix2 (at256 t r) k) := by
  blk_point [iblk, V, index t]

theorem block_ws (t : Fin cfg0.N) : iblk m c 5 t = m ((c : Thread nD τ).loc main_arg5) := by
  funext i
  blk_point [iblk, V, index t]

theorem block_wr (t : Fin cfg0.N) : iblk m c 6 t = m ((c : Thread nD τ).loc main_arg6) := by
  funext i
  blk_point [iblk, V, index t]

theorem block_wo (t : Fin cfg0.N) : iblk m c 7 t = m ((c : Thread nD τ).loc main_arg7) := by
  funext i
  blk_point [iblk, V, index t]

theorem block_gain (t : Fin cfg0.N) : iblk m c 8 t = m ((c : Thread nD τ).loc main_arg8) := by
  funext i
  blk_point [iblk, V, index t]

theorem block_mixed (t : Fin cfg0.N) (r : Fin 256) :
    mixed (iblk m c 1 t) (fun r k => k0_pay2 (View.ld (iblk m c 2 t) r0_1) (View.ld (iblk m c 2 t) r0_2) (View.ld (iblk m c 2 t) r0_3) (View.ld (iblk m c 2 t) r0_4)
        (View.ld (iblk m c 2 t) r0_5) (View.ld (iblk m c 2 t) r0_6) (View.ld (iblk m c 2 t) r0_7) (View.ld (iblk m c 2 t) r0_8) (ix2 r k))
        (iblk m c 3 t) (iblk m c 4 t) (iblk m c 5 t) (iblk m c 6 t) r
      = mixed (m ((c : Thread nD τ).loc main_arg1)) (heads (m ((c : Thread nD τ).loc main_arg2))) (m ((c : Thread nD τ).loc main_arg3))
        (m ((c : Thread nD τ).loc main_arg4)) (m ((c : Thread nD τ).loc main_arg5)) (m ((c : Thread nD τ).loc main_arg6)) (at256 t r) := by
  rw [block_ws, block_wr]
  funext k
  simp only [mixed, block_o, block_heads, block_g, block_gates]

theorem final : (dats m 0 c).arrAt 9 cfg0.N
    = merged (R := 8192) (m ((c : Thread nD τ).loc main_arg0)) (mixed (m ((c : Thread nD τ).loc main_arg1)) (heads (m ((c : Thread nD τ).loc main_arg2)))
        (m ((c : Thread nD τ).loc main_arg3)) (m ((c : Thread nD τ).loc main_arg4)) (m ((c : Thread nD τ).loc main_arg5)) (m ((c : Thread nD τ).loc main_arg6)))
      (m ((c : Thread nD τ).loc main_arg7)) (m ((c : Thread nD τ).loc main_arg8)) := by
  refine (dats m 0 c).arrAt_eq_of_covers 9 _ (by decide +kernel) fun t hf y => ?_
  blk_simp
  rw [after0_9]
  unfold out0_9
  frame_out
  obtain ⟨r, k, rfl⟩ : ∃ (r : Fin 256) (k : Fin 1024), y = ix2 r k := ⟨y 0, y 1, by ext a; fin_cases a <;> rfl⟩
  have at_y : ((View.whole main_v0).slice (win0_9.rect t)).emb (ix2 r k) = ix2 (at256 t r) k := by
    blk_point [index t]
  rw [pay_merged, at_y, block_wo, block_gain]
  exact merged_congr (block_x m c t r k) (block_mixed m c t r) _ _

omit m c

theorem frame_kernel : Cert.quiescent_Merge := fun m ρ _ => Cert.Merge.Gen.frame (F := Bits) m ρ

theorem frame_ideal : Cert.quiescent_MergeIdeal := fun m ρ _ => Gen.frame (F := Ideal) m ρ

theorem frame_reference : Cert.quiescent_MergeRef := fun m ρ _ =>
  (θ_run Cert.MergeRefIdeal.defs _ _).mono
    (fun r h => ⟨fun c => (h c).2, sem_eq_zero_of_no_sems (by decide) r.2⟩) (Cert.MergeRefIdeal.Value.run (F := Bits) m ρ)

theorem frame_reference_ideal : Cert.quiescent_MergeRefIdeal := fun m ρ _ =>
  (θ_run Cert.MergeRefIdeal.defs _ _).mono
    (fun r h => ⟨fun c => (h c).2, sem_eq_zero_of_no_sems (by decide) r.2⟩) (Cert.MergeRefIdeal.Value.run (F := Ideal) m ρ)

theorem algebraic : Cert.algebraic_MergeIdeal_MergeRefIdeal := fun m g m' g' _ h =>
  ⟨_, (θ_run defs _ _).mono (fun _ hr c => ⟨(hr c).1.trans (final m c), (hr c).2⟩) (Value.run_blocks m g),
    (θ_run Cert.MergeRefIdeal.defs _ _).mono (fun _ hr c => by
      obtain ⟨h0, h1, h2, h3, h4, h5, h6, h7, h8⟩ := h c
      have hc := hr c
      rw [reference, h0, h1, h2, h3, h4, h5, h6, h7, h8] at hc
      rw [h0, h1, h2, h3, h4, h5, h6, h7, h8]
      exact hc) (Cert.MergeRefIdeal.Value.run (F := Ideal) m' g')⟩

end Cert.Step.Merge

end
-- ==== Proof.Step.Ffn.lean ====
module

public import proofs.«01_k».proof.Defs
public import proofs.«01_k».proof.Proof.Gen.Ffn.Frame
public import proofs.«01_k».proof.Proof.Gen.FfnRef
public import proofs.«01_k».proof.Proof.Gen.FfnIdeal.Value
public import proofs.«01_k».proof.Proof.Gen.FfnRefIdeal.Run
public import proofs.«01_k».proof.Proof.Step.Norm
public import Idealize.ShloMosaic.Lib.Pipeline.ValueKit
public import Idealize.ShloMosaic.Lib.Quiescent

@[expose] public section

noncomputable section

open Idealize.ShloMosaic Idealize.ShloMosaic.TcCoe Idealize.SL.Sem

namespace Cert.Step.Ffn

section Rows

/-- A row of an array. -/
abbrev row {R n : Nat} (x : FVec Ideal ⟨2, ![R, n]⟩ .f32) (r : Fin R) (k : Fin n) : EReal := x (ix2 r k)

/-- The two gains and the three weights. -/
structure Params where
  pre : FVec Ideal ⟨2, ![1, 1024]⟩ .f32
  post : FVec Ideal ⟨2, ![1, 1024]⟩ .f32
  gate : FVec Ideal ⟨2, ![1024, 2816]⟩ .bf16
  up : FVec Ideal ⟨2, ![1024, 2816]⟩ .bf16
  down : FVec Ideal ⟨2, ![2816, 1024]⟩ .bf16

/-- A row over the root of its mean square. -/
def unit (X : Fin 1024 → EReal) (k : Fin 1024) : EReal := X k * Ideal.rsqrt (meanSq X)

/-- A row through a weight. -/
def into {a b : Nat} (X : Fin a → EReal) (w : FVec Ideal ⟨2, ![a, b]⟩ .bf16) (k : Fin b) : EReal := ∑ l, X l * w (ix2 l k)

/-- A derivative back through a weight. -/
def back {a b : Nat} (X : Fin b → EReal) (w : FVec Ideal ⟨2, ![a, b]⟩ .bf16) (k : Fin a) : EReal := ∑ l, X l * w (ix2 k l)

/-- A derivative back through the norm of a row. -/
def normBack (X U : Fin 1024 → EReal) (g : FVec Ideal ⟨2, ![1, 1024]⟩ .f32) (k : Fin 1024) : EReal :=
  Ideal.rsqrt (meanSq X) * (U k * g (ix2 0 k) - unit X k * Ideal.div (∑ j, U j * g (ix2 0 j) * unit X j) (Ideal.ofBits .f32 1149239296#32))

variable (p : Params) (X T : Fin 1024 → EReal)

def normed (k : Fin 1024) : EReal := unit X k * p.pre (ix2 0 k)

def gate : Fin 2816 → EReal := into (normed p X) p.gate

def up : Fin 2816 → EReal := into (normed p X) p.up

def hidden (k : Fin 2816) : EReal := gate p X k * Ideal.logistic (gate p X k) * up p X k

def down : Fin 1024 → EReal := into (hidden p X) p.down

/-- What the row misses its target by. -/
def miss (k : Fin 1024) : EReal := X k + unit (down p X) k * p.post (ix2 0 k) - T k

def gradOut (k : Fin 1024) : EReal := miss p X T k * Ideal.ofBits .f32 981467136#32

def gradDown : Fin 1024 → EReal := normBack (down p X) (gradOut p X T) p.post

def gradHidden : Fin 2816 → EReal := back (gradDown p X T) p.down

def gradUp (k : Fin 2816) : EReal := gradHidden p X T k * gate p X k * Ideal.logistic (gate p X k)

def gradGate (k : Fin 2816) : EReal :=
  gradHidden p X T k * up p X k * (Ideal.logistic (gate p X k) * (1
    + gate p X k * (1 - Ideal.logistic (gate p X k))))

def gradNormed (k : Fin 1024) : EReal := back (gradGate p X T) p.gate k + back (gradUp p X T) p.up k

def gradRow (k : Fin 1024) : EReal := gradOut p X T k + normBack X (gradNormed p X T) p.pre k

theorem normBack_eq (U : Fin 1024 → EReal) (g : FVec Ideal ⟨2, ![1, 1024]⟩ .f32) (k : Fin 1024) :
    U k * g (ix2 0 k) * Ideal.rsqrt (meanSq X)
      + X k * ∑ _ : Fin 1, Ideal.div ((∑ j, X j * (U j * g (ix2 0 j)))
          * (Ideal.ofBits .f32 3204448256#32 * Ideal.div (Ideal.rsqrt (meanSq X)) (meanSq X))) (Ideal.ofBits .f32 1149239296#32)
      + (∑ _ : Fin 1, Ideal.div ((∑ j, X j * (U j * g (ix2 0 j)))
          * (Ideal.ofBits .f32 3204448256#32 * Ideal.div (Ideal.rsqrt (meanSq X)) (meanSq X))) (Ideal.ofBits .f32 1149239296#32)) * X k
      = normBack X U g k := by
  rw [Fin.sum_univ_one, add_assoc]
  exact (norm_derivative X (fun j => U j * g (ix2 0 j)) k).symm

/-- The derivative of an entry times its logistic, as the chain rule gives it and with the logistic drawn out. -/
theorem slope_eq (a : EReal) : Ideal.logistic a + a * (Ideal.logistic a * (1 - Ideal.logistic a))
    = Ideal.logistic a * (1 + a * (1 - Ideal.logistic a)) := by
  induction a with
  | bot => simp [Ideal.logistic_bot]
  | top =>
    have one : (1 : EReal) - 1 = 0 := by
      rw [← EReal.coe_one, ← EReal.coe_sub, sub_self, EReal.coe_zero]
    simp [Ideal.logistic_top, one]
  | coe r =>
    rw [Ideal.logistic_coe]
    generalize (1 + Real.exp (-r))⁻¹ = s
    norm_cast
    ring

/-- A quotient by the row's length is a product with its reciprocal. -/
theorem over_length (a : EReal) : Ideal.div a (Ideal.ofBits .f32 1149239296#32) = a * Ideal.ofBits .f32 981467136#32 := by
  have h : Ideal.ofBits .f32 981467136#32 = ((1 / 1024 : ℝ) : EReal) := by
    simp [Ideal.ofBits, Ideal.ieee, -EReal.coe_mul]
    norm_num
  rw [length_eq, Ideal.div_coe (by norm_num), h]

section Results

variable {R : Nat} (x t : FVec Ideal ⟨2, ![R, 1024]⟩ .f32)

def loss : FVec Ideal ⟨2, ![8, 128]⟩ .f32 :=
  fun _ => ∑ r, (∑ k, miss p (row x r) (row t r) k * miss p (row x r) (row t r) k) * Ideal.ofBits .f32 973078528#32

def rows : FVec Ideal ⟨2, ![R, 1024]⟩ .f32 := fun i => gradRow p (row x (i 0)) (row t (i 0)) (i 1)

def normedRows : FVec Ideal ⟨2, ![R, 1024]⟩ .bf16 := fun i => normed p (row x (i 0)) (i 1)

def gateRows : FVec Ideal ⟨2, ![R, 2816]⟩ .bf16 := fun i => gradGate p (row x (i 0)) (row t (i 0)) (i 1)

def upRows : FVec Ideal ⟨2, ![R, 2816]⟩ .bf16 := fun i => gradUp p (row x (i 0)) (row t (i 0)) (i 1)

def hiddenRows : FVec Ideal ⟨2, ![R, 2816]⟩ .bf16 := fun i => hidden p (row x (i 0)) (i 1)

def downRows : FVec Ideal ⟨2, ![R, 1024]⟩ .bf16 := fun i => gradDown p (row x (i 0)) (row t (i 0)) (i 1)

def preGain : FVec Ideal ⟨2, ![1, 1024]⟩ .f32 :=
  fun i => ∑ r, gradNormed p (row x r) (row t r) (i 1) * unit (row x r) (i 1)

def postGain : FVec Ideal ⟨2, ![1, 1024]⟩ .f32 :=
  fun i => ∑ r, gradOut p (row x r) (row t r) (i 1) * unit (down p (row x r)) (i 1)

end Results

end Rows

theorem half_eq : Ideal.ofBits .f32 1056964608#32 = ((1 / 2 : ℝ) : EReal) := by
  simp [Ideal.ofBits, Ideal.ieee, -EReal.coe_mul]
  norm_num

theorem half_over_length_eq : Ideal.ofBits .f32 973078528#32 = ((1 / 2048 : ℝ) : EReal) := by
  simp [Ideal.ofBits, Ideal.ieee, -EReal.coe_mul]
  norm_num

theorem eta {R n : Nat} (i : Shape.Idx ⟨2, ![R, n]⟩) : ∃ r k, i = ix2 r k := ⟨i 0, i 1, by ext a; fin_cases a <;> rfl⟩

section Kernel

open Cert.FfnIdeal Cert.FfnIdeal.Gen

variable (x t : Vec Ideal S256x1024 .f32) (g h : Vec Ideal S1x1024 .f32) (wg wu : Vec Ideal S1024x2816 .bf16) (wd : Vec Ideal S2816x1024 .bf16)

theorem pay_unit (r : Fin 256) (k : Fin 1024) : k0_pay4 x (ix2 r k) = unit (row (R := 256) x r) k := by
  pointwise [k0_pay4, k0_pay3]
  rfl

theorem pay_normed (r : Fin 256) (k : Fin 1024) : k0_pay5 x g (ix2 r k) = normed ⟨g, h, wg, wu, wd⟩ (row (R := 256) x r) k := by
  pointwise [k0_pay5]
  rw [pay_unit]
  rfl

theorem pay_gate (r : Fin 256) (k : Fin 2816) : k0_pay6 x g wg (ix2 r k) = gate ⟨g, h, wg, wu, wd⟩ (row (R := 256) x r) k := by
  pointwise [k0_pay6]
  simp only [pay_normed x g h wg wu wd]
  rfl

theorem pay_up (r : Fin 256) (k : Fin 2816) : k0_pay7 x g wu (ix2 r k) = up ⟨g, h, wg, wu, wd⟩ (row (R := 256) x r) k := by
  pointwise [k0_pay7]
  simp only [pay_normed x g h wg wu wd]
  rfl

theorem pay_logistic (r : Fin 256) (k : Fin 2816) :
    k0_pay8 x g wg (ix2 r k) = Ideal.logistic (gate ⟨g, h, wg, wu, wd⟩ (row (R := 256) x r) k) := by
  pointwise [k0_pay8]
  rw [pay_gate x g h wg wu wd]

theorem pay_hidden (r : Fin 256) (k : Fin 2816) : k0_pay9 x g wg wu (ix2 r k) = hidden ⟨g, h, wg, wu, wd⟩ (row (R := 256) x r) k := by
  pointwise [k0_pay9]
  rw [pay_gate x g h wg wu wd, pay_up x g h wg wu wd, pay_logistic x g h wg wu wd]
  rfl

theorem pay_down (r : Fin 256) (k : Fin 1024) : k0_pay10 x g wg wu wd (ix2 r k) = down ⟨g, h, wg, wu, wd⟩ (row (R := 256) x r) k := by
  pointwise [k0_pay10]
  simp only [pay_hidden x g h wg wu wd]
  rfl

theorem pay_root (r : Fin 256) (k : Fin 1) :
    k0_pay11 x g wg wu wd (ix2 r k) = Ideal.rsqrt (meanSq (down ⟨g, h, wg, wu, wd⟩ (row (R := 256) x r))) := by
  pointwise [k0_pay11]
  simp only [pay_down x g h wg wu wd]
  rfl

theorem pay_unit_down (r : Fin 256) (k : Fin 1024) :
    k0_pay12 x g wg wu wd (ix2 r k) = unit (down ⟨g, h, wg, wu, wd⟩ (row (R := 256) x r)) k := by
  pointwise [k0_pay12]
  rw [pay_down x g h wg wu wd, pay_root x g h wg wu wd]
  rfl

theorem pay_normed_down (r : Fin 256) (k : Fin 1024) :
    k0_pay13 x g h wg wu wd (ix2 r k) = unit (down ⟨g, h, wg, wu, wd⟩ (row (R := 256) x r)) k * h (ix2 0 k) := by
  pointwise [k0_pay13]
  rw [pay_unit_down x g h wg wu wd]

theorem pay_miss (r : Fin 256) (k : Fin 1024) :
    k0_pay14 x (k0_pay13 x g h wg wu wd) t (ix2 r k) = miss ⟨g, h, wg, wu, wd⟩ (row (R := 256) x r) (row (R := 256) t r) k := by
  pointwise [k0_pay14]
  rw [pay_normed_down x g h wg wu wd]
  rfl

theorem pay_gradOut (r : Fin 256) (k : Fin 1024) :
    k0_pay15 x (k0_pay13 x g h wg wu wd) t (ix2 r k) = gradOut ⟨g, h, wg, wu, wd⟩ (row (R := 256) x r) (row (R := 256) t r) k := by
  pointwise [k0_pay15]
  rw [pay_miss]
  rfl

theorem pay_gradPost (k : Fin 1024) : k0_pay16 x (k0_pay12 x g wg wu wd) (k0_pay13 x g h wg wu wd) t (ix2 0 k)
    = ∑ r, gradOut ⟨g, h, wg, wu, wd⟩ (row (R := 256) x r) (row (R := 256) t r) k * unit (down ⟨g, h, wg, wu, wd⟩ (row (R := 256) x r)) k := by
  pointwise [k0_pay16]
  simp only [pay_gradOut, pay_unit_down x g h wg wu wd]

theorem pay_gradDown (r : Fin 256) (k : Fin 1024) : k0_pay17 x h (k0_pay11 x g wg wu wd) (k0_pay12 x g wg wu wd) (k0_pay13 x g h wg wu wd) t (ix2 r k)
    = gradDown ⟨g, h, wg, wu, wd⟩ (row (R := 256) x r) (row (R := 256) t r) k := by
  pointwise [k0_pay17]
  simp only [pay_gradOut, pay_unit_down x g h wg wu wd, pay_root x g h wg wu wd]
  rfl

theorem pay_gradHidden (r : Fin 256) (k : Fin 2816) : k0_pay18 x h wd (k0_pay11 x g wg wu wd) (k0_pay12 x g wg wu wd) (k0_pay13 x g h wg wu wd) t (ix2 r k)
    = gradHidden ⟨g, h, wg, wu, wd⟩ (row (R := 256) x r) (row (R := 256) t r) k := by
  pointwise [k0_pay18]
  simp only [pay_gradDown]
  rfl

theorem pay_gradUp (r : Fin 256) (k : Fin 2816) : k0_pay19 x h wd (k0_pay6 x g wg) (k0_pay8 x g wg) (k0_pay11 x g wg wu wd) (k0_pay12 x g wg wu wd)
    (k0_pay13 x g h wg wu wd) t (ix2 r k) = gradUp ⟨g, h, wg, wu, wd⟩ (row (R := 256) x r) (row (R := 256) t r) k := by
  pointwise [k0_pay19]
  rw [pay_gradHidden, pay_gate x g h wg wu wd, pay_logistic x g h wg wu wd]
  rfl

theorem pay_gradGate (r : Fin 256) (k : Fin 2816) : k0_pay20 x h wd (k0_pay6 x g wg) (k0_pay7 x g wu) (k0_pay8 x g wg) (k0_pay11 x g wg wu wd)
    (k0_pay12 x g wg wu wd) (k0_pay13 x g h wg wu wd) t (ix2 r k) = gradGate ⟨g, h, wg, wu, wd⟩ (row (R := 256) x r) (row (R := 256) t r) k := by
  pointwise [k0_pay20]
  rw [pay_gradHidden, pay_gate x g h wg wu wd, pay_up x g h wg wu wd, pay_logistic x g h wg wu wd]
  rfl

theorem pay_gradNormed (r : Fin 256) (k : Fin 1024) : k0_pay21 x h wg wu wd (k0_pay6 x g wg) (k0_pay7 x g wu) (k0_pay8 x g wg) (k0_pay11 x g wg wu wd)
    (k0_pay12 x g wg wu wd) (k0_pay13 x g h wg wu wd) t (ix2 r k) = gradNormed ⟨g, h, wg, wu, wd⟩ (row (R := 256) x r) (row (R := 256) t r) k := by
  pointwise [k0_pay21]
  simp only [pay_gradGate, pay_gradUp]
  rfl

theorem pay_gradRow (r : Fin 256) (k : Fin 1024) : k0_pay24 (k0_pay3 x) (k0_pay15 x (k0_pay13 x g h wg wu wd) t)
    (k0_pay22 x g h wg wu wd (k0_pay4 x) (k0_pay6 x g wg) (k0_pay7 x g wu) (k0_pay8 x g wg) (k0_pay11 x g wg wu wd)
      (k0_pay12 x g wg wu wd) (k0_pay13 x g h wg wu wd) t) (ix2 r k) = gradRow ⟨g, h, wg, wu, wd⟩ (row (R := 256) x r) (row (R := 256) t r) k := by
  pointwise [k0_pay24, k0_pay22, k0_pay3]
  simp only [pay_gradOut, pay_gradNormed, pay_unit]
  rfl

theorem pay_gradPre (k : Fin 1024) : k0_pay23 (k0_pay4 x) (k0_pay21 x h wg wu wd (k0_pay6 x g wg) (k0_pay7 x g wu) (k0_pay8 x g wg) (k0_pay11 x g wg wu wd)
    (k0_pay12 x g wg wu wd) (k0_pay13 x g h wg wu wd) t) (ix2 0 k)
      = ∑ r, gradNormed ⟨g, h, wg, wu, wd⟩ (row (R := 256) x r) (row (R := 256) t r) k * unit (row (R := 256) x r) k := by
  pointwise [k0_pay23]
  simp only [pay_gradNormed, pay_unit]

theorem pay_loss (y : S8x128.Idx) : k0_pay25 (k0_pay14 x (k0_pay13 x g h wg wu wd) t) y = loss (R := 256) ⟨g, h, wg, wu, wd⟩ x t y := by
  pointwise [k0_pay25]
  simp only [pay_miss]
  rw [loss, half_over_length_eq, sum_mul_real _ (by norm_num)]

end Kernel

section Reference

open Cert.FfnRefIdeal Cert.FfnRefIdeal.Facts₀

variable (V : Valuation τ sig (Elt Ideal))

/-- The reference's gains and weights. -/
abbrev params : Params :=
  ⟨V (Proc.devRef .tc main_arg2), V (Proc.devRef .tc main_arg3), V (Proc.devRef .tc main_arg4), V (Proc.devRef .tc main_arg5), V (Proc.devRef .tc main_arg6)⟩

/-- A row of the reference's activations. -/
abbrev rowX (r : Fin 8192) : Fin 1024 → EReal := row (R := 8192) (V (Proc.devRef .tc main_arg0)) r

/-- A row of the reference's target. -/
abbrev rowT (r : Fin 8192) : Fin 1024 → EReal := row (R := 8192) (V (Proc.devRef .tc main_arg1)) r

theorem ref_meanSq (r : Fin 8192) (k : Fin 1) : Value.res_main_v6 V (ix2 r k) = meanSq (rowX V r) := by
  unfold Value.res_main_v6
  pointwise
  rfl

theorem ref_unit (r : Fin 8192) (k : Fin 1024) : Value.res_main_v12 V (ix2 r k) = unit (rowX V r) k := by
  unfold Value.res_main_v12 Value.res_main_v7
  pointwise
  simp only [ref_meanSq]
  rfl

theorem ref_normed (r : Fin 8192) (k : Fin 1024) : Value.res_main_v14 V (ix2 r k) = normed (params V) (rowX V r) k := by
  unfold Value.res_main_v14
  pointwise
  rw [ref_unit]
  rfl

theorem ref_gate (r : Fin 8192) (k : Fin 2816) : Value.res_main_v16 V (ix2 r k) = gate (params V) (rowX V r) k := by
  unfold Value.res_main_v16 Value.res_main_v15
  pointwise
  simp only [ref_normed]
  rfl

theorem ref_up (r : Fin 8192) (k : Fin 2816) : Value.res_main_v18 V (ix2 r k) = up (params V) (rowX V r) k := by
  unfold Value.res_main_v18 Value.res_main_v17
  pointwise
  simp only [ref_normed]
  rfl

theorem ref_logistic (r : Fin 8192) (k : Fin 2816) : Value.res_main_v19_2 V (ix2 r k) = Ideal.logistic (gate (params V) (rowX V r) k) := by
  unfold Value.res_main_v19_2
  pointwise
  rw [ref_gate]
  rfl

theorem ref_hidden (r : Fin 8192) (k : Fin 2816) :
    (mulf (Value.res_main_v19_0 V) (Value.res_main_v18 V) : FVec Ideal S8192x2816 .f32) (ix2 r k) = hidden (params V) (rowX V r) k := by
  unfold Value.res_main_v19_0
  pointwise
  rw [ref_gate, ref_logistic, ref_up]
  rfl

theorem ref_down (r : Fin 8192) (k : Fin 1024) : Value.res_main_v22 V (ix2 r k) = down (params V) (rowX V r) k := by
  unfold Value.res_main_v22 Value.res_main_v21 Value.res_main_v19_0
  pointwise
  simp only [ref_gate, ref_logistic, ref_up]
  rfl

theorem ref_meanSq_down (r : Fin 8192) (k : Fin 1) : Value.res_main_v29 V (ix2 r k) = meanSq (down (params V) (rowX V r)) := by
  unfold Value.res_main_v29
  pointwise
  simp only [ref_down]
  rfl

theorem ref_unit_down (r : Fin 8192) (k : Fin 1024) : Value.res_main_v35 V (ix2 r k) = unit (down (params V) (rowX V r)) k := by
  unfold Value.res_main_v35 Value.res_main_v30
  pointwise
  simp only [ref_meanSq_down, ref_down]
  rfl

theorem ref_miss (r : Fin 8192) (k : Fin 1024) : Value.res_main_v39 V (ix2 r k) = miss (params V) (rowX V r) (rowT V r) k := by
  unfold Value.res_main_v39
  pointwise
  rw [ref_unit_down]
  rfl

theorem ref_gradOut (r : Fin 8192) (k : Fin 1024) : Value.res_main_v47 V (ix2 r k) = gradOut (params V) (rowX V r) (rowT V r) k := by
  unfold Value.res_main_v47
  pointwise
  rw [ref_miss]
  exact over_length _

theorem ref_gradDown (r : Fin 8192) (k : Fin 1024) : Value.res_main_v66 V (ix2 r k) = gradDown (params V) (rowX V r) (rowT V r) k := by
  unfold Value.res_main_v66 Value.res_main_v62 Value.res_main_v52 Value.res_main_v30
  pointwise
  simp only [ref_gradOut, ref_meanSq_down, ref_down]
  exact normBack_eq _ _ _ k

theorem ref_gradHidden (r : Fin 8192) (k : Fin 2816) : Value.res_main_v67 V (ix2 r k) = gradHidden (params V) (rowX V r) (rowT V r) k := by
  unfold Value.res_main_v67 Value.res_main_v21
  pointwise
  simp only [ref_gradDown]
  rfl

theorem ref_gradGate (r : Fin 8192) (k : Fin 2816) : Value.res_main_v71 V (ix2 r k) = gradGate (params V) (rowX V r) (rowT V r) k := by
  unfold Value.res_main_v71 Value.res_main_v69
  pointwise
  rw [ref_gradHidden, ref_up, ref_logistic, ref_gate]
  exact congrArg (fun z : EReal => _ * z) (slope_eq _)

theorem ref_gradUp (r : Fin 8192) (k : Fin 2816) : Value.res_main_v72 V (ix2 r k) = gradUp (params V) (rowX V r) (rowT V r) k := by
  unfold Value.res_main_v72 Value.res_main_v19_0
  pointwise
  rw [ref_gradHidden, ref_logistic, ref_gate]
  exact (mul_assoc (_ : EReal) _ _).symm

theorem ref_gradNormed (r : Fin 8192) (k : Fin 1024) : Value.res_main_v75 V (ix2 r k) = gradNormed (params V) (rowX V r) (rowT V r) k := by
  unfold Value.res_main_v75 Value.res_main_v15 Value.res_main_v17
  pointwise
  simp only [ref_gradGate, ref_gradUp]
  rfl

theorem ref_loss : broadcastInDim S8x128 ![] bcast_S_S8x128 (mulf (constant S_ .f32 0x3F000000#32) (Host.reduceAdd (Host.divf (Host.reduceAdd (mulf (Value.res_main_v39 V) (Value.res_main_v39 V)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))
    = loss (R := 8192) (params V) (V (Proc.devRef .tc main_arg0)) (V (Proc.devRef .tc main_arg1)) := by
  funext i
  pointwise
  simp only [ref_miss]
  rw [half_eq, length_eq]
  simp only [Ideal.div_coe (show (1024 : ℝ) ≠ 0 by norm_num)]
  rw [sum_mul_real _ (by norm_num), mul_comm, mul_assoc, ← EReal.coe_mul, loss, half_over_length_eq, sum_mul_real _ (by norm_num)]
  norm_num

theorem ref_rows : addf (Host.divf (Value.res_main_v39 V) (broadcastInDim S8192x1024 ![] bcast_S_S8192x1024 (constant S_ .f32 0x44800000#32))) (addf (addf (mulf (Value.res_main_v80 V) (broadcastInDim S8192x1024 ![0, 1] bcast_S8192x1_S8192x1024_0_1 (Value.res_main_v7 V))) (mulf (V (Proc.devRef .tc main_arg0)) (Value.res_main_v90 V))) (mulf (Value.res_main_v90 V) (V (Proc.devRef .tc main_arg0))))
    = rows (R := 8192) (params V) (V (Proc.devRef .tc main_arg0)) (V (Proc.devRef .tc main_arg1)) := by
  funext i
  obtain ⟨r, k, rfl⟩ := eta i
  unfold Value.res_main_v90 Value.res_main_v80 Value.res_main_v7
  pointwise
  simp only [ref_gradNormed, ref_meanSq, ref_miss]
  refine congrArg₂ (fun y z : EReal => y + z) (over_length _) ?_
  exact normBack_eq (rowX V r) _ _ k

theorem ref_normedRows : (truncf .bf16 (Value.res_main_v14 V) bitsLt_bf16_f32 : FVec Ideal S8192x1024 .bf16) = normedRows (R := 8192) (params V) (V (Proc.devRef .tc main_arg0)) := by
  funext i
  obtain ⟨r, k, rfl⟩ := eta i
  exact ref_normed V r k

theorem ref_gateRows : (truncf .bf16 (Value.res_main_v71 V) bitsLt_bf16_f32 : FVec Ideal S8192x2816 .bf16)
    = gateRows (R := 8192) (params V) (V (Proc.devRef .tc main_arg0)) (V (Proc.devRef .tc main_arg1)) := by
  funext i
  obtain ⟨r, k, rfl⟩ := eta i
  exact ref_gradGate V r k

theorem ref_upRows : (truncf .bf16 (Value.res_main_v72 V) bitsLt_bf16_f32 : FVec Ideal S8192x2816 .bf16)
    = upRows (R := 8192) (params V) (V (Proc.devRef .tc main_arg0)) (V (Proc.devRef .tc main_arg1)) := by
  funext i
  obtain ⟨r, k, rfl⟩ := eta i
  exact ref_gradUp V r k

theorem ref_hiddenRows : (truncf .bf16 (mulf (Value.res_main_v19_0 V) (Value.res_main_v18 V)) bitsLt_bf16_f32 : FVec Ideal S8192x2816 .bf16)
    = hiddenRows (R := 8192) (params V) (V (Proc.devRef .tc main_arg0)) := by
  funext i
  obtain ⟨r, k, rfl⟩ := eta i
  exact ref_hidden V r k

theorem ref_downRows : (truncf .bf16 (Value.res_main_v66 V) bitsLt_bf16_f32 : FVec Ideal S8192x1024 .bf16)
    = downRows (R := 8192) (params V) (V (Proc.devRef .tc main_arg0)) (V (Proc.devRef .tc main_arg1)) := by
  funext i
  obtain ⟨r, k, rfl⟩ := eta i
  exact ref_gradDown V r k

theorem ref_preGain : shapeCast S1x1024 (Host.reduceAdd (mulf (Value.res_main_v12 V) (Value.res_main_v75 V)) (constant S_ .f32 0x00000000#32) reducesTo_S8192x1024_S1024_d0 h_S_) shapeCasts_S1024_S1x1024
    = preGain (R := 8192) (params V) (V (Proc.devRef .tc main_arg0)) (V (Proc.devRef .tc main_arg1)) := by
  funext i
  obtain ⟨r, k, rfl⟩ := eta i
  pointwise
  simp only [ref_unit, ref_gradNormed]
  exact Finset.sum_congr rfl fun r _ => mul_comm (_ : EReal) _

theorem ref_postGain : shapeCast S1x1024 (Host.reduceAdd (mulf (Value.res_main_v35 V) (Value.res_main_v47 V)) (constant S_ .f32 0x00000000#32) reducesTo_S8192x1024_S1024_d0 h_S_) shapeCasts_S1024_S1x1024
    = postGain (R := 8192) (params V) (V (Proc.devRef .tc main_arg0)) (V (Proc.devRef .tc main_arg1)) := by
  funext i
  obtain ⟨r, k, rfl⟩ := eta i
  pointwise
  simp only [ref_unit_down, ref_gradOut]
  exact Finset.sum_congr rfl fun r _ => mul_comm (_ : EReal) _

end Reference

open Cert.FfnIdeal Cert.FfnIdeal.Gen

theorem index : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![0, 0] ∧ win0_15.index t = ![0, 0] :=
  (by decide +kernel : ∀ t : Fin grid0.N, _)

variable (m : (ℓ : Loc nD τ sig) → Buf (Elt Ideal) ℓ) (c : Dev nD)

/-- The kernel's gains and weights. -/
abbrev weights : Params :=
  ⟨m ((c : Thread nD τ).loc main_arg2), m ((c : Thread nD τ).loc main_arg3), m ((c : Thread nD τ).loc main_arg4), m ((c : Thread nD τ).loc main_arg5),
    m ((c : Thread nD τ).loc main_arg6)⟩

/-- A point's blocks of them: the whole of each. -/
abbrev blocks (t : Fin cfg0.N) : Params := ⟨iblk m c 2 t, iblk m c 3 t, iblk m c 4 t, iblk m c 5 t, iblk m c 6 t⟩

theorem blocks_eq (t : Fin cfg0.N) : blocks m c t = weights m c := by
  have h2 : iblk m c 2 t = m ((c : Thread nD τ).loc main_arg2) := by
    funext i
    blk_point [iblk, V, index t]
  have h3 : iblk m c 3 t = m ((c : Thread nD τ).loc main_arg3) := by
    funext i
    blk_point [iblk, V, index t]
  have h4 : iblk m c 4 t = m ((c : Thread nD τ).loc main_arg4) := by
    funext i
    blk_point [iblk, V, index t]
  have h5 : iblk m c 5 t = m ((c : Thread nD τ).loc main_arg5) := by
    funext i
    blk_point [iblk, V, index t]
  have h6 : iblk m c 6 t = m ((c : Thread nD τ).loc main_arg6) := by
    funext i
    blk_point [iblk, V, index t]
  rw [blocks, h2, h3, h4, h5, h6]

/-- The row of the whole array at a row of a point's block. -/
abbrev at256 (t : Fin cfg0.N) (r : Fin 256) : Fin 8192 :=
  ⟨t.val * 256 + r.val, by have h : t.val < 32 := t.isLt; omega⟩

theorem block_x (t : Fin cfg0.N) (r : Fin 256) : row (R := 256) (iblk m c 0 t) r = row (R := 8192) (m ((c : Thread nD τ).loc main_arg0)) (at256 t r) := by
  funext k
  blk_point [row, iblk, V, index t]

theorem block_t (t : Fin cfg0.N) (r : Fin 256) : row (R := 256) (iblk m c 1 t) r = row (R := 8192) (m ((c : Thread nD τ).loc main_arg1)) (at256 t r) := by
  funext k
  blk_point [row, iblk, V, index t]

theorem of_block {n : Nat} (f : Params → (Fin 1024 → EReal) → (Fin 1024 → EReal) → Fin n → EReal) (t : Fin cfg0.N) (r : Fin 256) (k : Fin n) :
    f (blocks m c t) (row (R := 256) (iblk m c 0 t) r) (row (R := 256) (iblk m c 1 t) r) k
      = f (weights m c) (row (R := 8192) (m ((c : Thread nD τ).loc main_arg0)) (at256 t r)) (row (R := 8192) (m ((c : Thread nD τ).loc main_arg1)) (at256 t r)) k := by
  rw [blocks_eq, block_x, block_t]

/-- The points' sums over their rows make the sum over all rows. -/
theorem of_blocks {n : Nat} (f : Params → (Fin 1024 → EReal) → (Fin 1024 → EReal) → Fin n → EReal) (t : Fin cfg0.N)
    (h : ∀ s : Fin 32, 32 * (t.val / 32) + s.val < cfg0.N) (k : Fin n) :
    (0 : EReal) + ∑ s : Fin 32, ∑ r : Fin 256, f (blocks m c ⟨_, h s⟩) (row (R := 256) (iblk m c 0 ⟨_, h s⟩) r) (row (R := 256) (iblk m c 1 ⟨_, h s⟩) r) k
      = ∑ r : Fin 8192, f (weights m c) (row (R := 8192) (m ((c : Thread nD τ).loc main_arg0)) r) (row (R := 8192) (m ((c : Thread nD τ).loc main_arg1)) r) k := by
  refine (zero_add (_ : EReal)).trans (Fin.sum_mul_add_congr (f := fun l => _) fun s l hl => ?_)
  rw [of_block m c f]
  have ht : t.val < 32 := t.isLt
  have e : at256 ⟨_, h s⟩ l = ⟨s.val * 256 + l.val, hl⟩ := Fin.ext (by simp only; omega)
  rw [e]

theorem outs_rows (t : Fin cfg0.N) (r : Fin 256) (k : Fin 1024) :
    (outsAt0 m c t.val t.isLt).2.1 (ix2 r k) = rows (R := 256) (blocks m c t) (iblk m c 0 t) (iblk m c 1 t) (ix2 r k)
      ∧ (outsAt0 m c t.val t.isLt).2.2.1 (ix2 r k) = normedRows (R := 256) (blocks m c t) (iblk m c 0 t) (ix2 r k)
      ∧ (outsAt0 m c t.val t.isLt).2.2.2.2.2.2.1 (ix2 r k) = downRows (R := 256) (blocks m c t) (iblk m c 0 t) (iblk m c 1 t) (ix2 r k) := by
  have hN : t.val < 32 := t.isLt
  by_cases h : t.val % 32 = 0
  · rw [outsAt0_A m c t h (by omega) h (by omega) h (by omega)]
    frame_out
    exact ⟨pay_gradRow .., pay_normed .., pay_gradDown ..⟩
  · rw [outsAt0_B m c t h (by omega) h (by omega) h (by omega)]
    frame_out
    exact ⟨pay_gradRow .., pay_normed .., pay_gradDown ..⟩

theorem outs_hidden (t : Fin cfg0.N) (r : Fin 256) (k : Fin 2816) :
    (outsAt0 m c t.val t.isLt).2.2.2.1 (ix2 r k) = gateRows (R := 256) (blocks m c t) (iblk m c 0 t) (iblk m c 1 t) (ix2 r k)
      ∧ (outsAt0 m c t.val t.isLt).2.2.2.2.1 (ix2 r k) = upRows (R := 256) (blocks m c t) (iblk m c 0 t) (iblk m c 1 t) (ix2 r k)
      ∧ (outsAt0 m c t.val t.isLt).2.2.2.2.2.1 (ix2 r k) = hiddenRows (R := 256) (blocks m c t) (iblk m c 0 t) (ix2 r k) := by
  have hN : t.val < 32 := t.isLt
  by_cases h : t.val % 32 = 0
  · rw [outsAt0_A m c t h (by omega) h (by omega) h (by omega)]
    frame_out
    exact ⟨pay_gradGate .., pay_gradUp .., pay_hidden ..⟩
  · rw [outsAt0_B m c t h (by omega) h (by omega) h (by omega)]
    frame_out
    exact ⟨pay_gradGate .., pay_gradUp .., pay_hidden ..⟩

/-- A point's part of the loss and of the gains' gradients. -/
abbrev lossPart (t : Fin cfg0.N) : FVec Ideal ⟨2, ![8, 128]⟩ .f32 := loss (R := 256) (blocks m c t) (iblk m c 0 t) (iblk m c 1 t)

abbrev prePart (t : Fin cfg0.N) : FVec Ideal ⟨2, ![1, 1024]⟩ .f32 := preGain (R := 256) (blocks m c t) (iblk m c 0 t) (iblk m c 1 t)

abbrev postPart (t : Fin cfg0.N) : FVec Ideal ⟨2, ![1, 1024]⟩ .f32 := postGain (R := 256) (blocks m c t) (iblk m c 0 t) (iblk m c 1 t)

theorem outs_first (t : Fin cfg0.N) (h : t.val % 32 = 0) : (outsAt0 m c t.val t.isLt).1 = lossPart m c t
    ∧ (outsAt0 m c t.val t.isLt).2.2.2.2.2.2.2.1 = prePart m c t ∧ (outsAt0 m c t.val t.isLt).2.2.2.2.2.2.2.2 = postPart m c t := by
  have hN : t.val < 32 := t.isLt
  rw [outsAt0_A m c t h (by omega) h (by omega) h (by omega)]
  refine ⟨funext fun y => ?_, funext fun y => ?_, funext fun y => ?_⟩ <;> obtain ⟨r, k, rfl⟩ := eta y <;> frame_out
  · exact pay_loss ..
  · obtain rfl : r = 0 := Subsingleton.elim _ _
    exact pay_gradPre ..
  · obtain rfl : r = 0 := Subsingleton.elim _ _
    exact pay_gradPost ..

theorem outs_next (t : Fin cfg0.N) (h : ¬t.val % 32 = 0) :
    (∀ y, (outsAt0 m c t.val t.isLt).1 y = ((outsAt0 m c (t.val - 1) (Nat.lt_of_le_of_lt (Nat.sub_le _ _) t.isLt)).1 y + lossPart m c t y : EReal))
    ∧ (∀ y, (outsAt0 m c t.val t.isLt).2.2.2.2.2.2.2.1 y
      = ((outsAt0 m c (t.val - 1) (Nat.lt_of_le_of_lt (Nat.sub_le _ _) t.isLt)).2.2.2.2.2.2.2.1 y + prePart m c t y : EReal))
    ∧ ∀ y, (outsAt0 m c t.val t.isLt).2.2.2.2.2.2.2.2 y
      = ((outsAt0 m c (t.val - 1) (Nat.lt_of_le_of_lt (Nat.sub_le _ _) t.isLt)).2.2.2.2.2.2.2.2 y + postPart m c t y : EReal) := by
  have hN : t.val < 32 := t.isLt
  rw [outsAt0_B m c t h (by omega) h (by omega) h (by omega)]
  refine ⟨fun y => ?_, fun y => ?_, fun y => ?_⟩ <;> obtain ⟨r, k, rfl⟩ := eta y <;> frame_out
  · pointwise [k0_pay26]
    exact congrArg (fun z : EReal => _ + z) (pay_loss ..)
  · obtain rfl : r = 0 := Subsingleton.elim _ _
    pointwise [k0_pay1]
    exact congrArg (fun z : EReal => _ + z) (pay_gradPre ..)
  · obtain rfl : r = 0 := Subsingleton.elim _ _
    pointwise [k0_pay2]
    exact congrArg (fun z : EReal => _ + z) (pay_gradPost ..)

theorem final_rows : (dats m 0 c).arrAt 8 cfg0.N
    = rows (R := 8192) (weights m c) (m ((c : Thread nD τ).loc main_arg0)) (m ((c : Thread nD τ).loc main_arg1)) := by
  refine (dats m 0 c).arrAt_eq_of_covers 8 _ (by decide +kernel) fun t hf y => ?_
  blk_simp
  obtain ⟨r, k, rfl⟩ : ∃ (r : Fin 256) (k : Fin 1024), y = ix2 r k := eta y
  have at_y : ((View.whole main_v0_1).slice (win0_8.rect t)).emb (ix2 r k) = ix2 (at256 t r) k := by
    blk_point [index t]
  rw [after0_8, (outs_rows m c t r k).1, at_y]
  exact of_block m c gradRow t r k

theorem final_normed : (dats m 0 c).arrAt 9 cfg0.N = normedRows (R := 8192) (weights m c) (m ((c : Thread nD τ).loc main_arg0)) := by
  refine (dats m 0 c).arrAt_eq_of_covers 9 _ (by decide +kernel) fun t hf y => ?_
  blk_simp
  obtain ⟨r, k, rfl⟩ : ∃ (r : Fin 256) (k : Fin 1024), y = ix2 r k := eta y
  have at_y : ((View.whole main_v0_2).slice (win0_9.rect t)).emb (ix2 r k) = ix2 (at256 t r) k := by
    blk_point [index t]
  rw [after0_9, (outs_rows m c t r k).2.1, at_y]
  exact of_block m c (fun p X _ => normed p X) t r k

theorem final_gate : (dats m 0 c).arrAt 10 cfg0.N
    = gateRows (R := 8192) (weights m c) (m ((c : Thread nD τ).loc main_arg0)) (m ((c : Thread nD τ).loc main_arg1)) := by
  refine (dats m 0 c).arrAt_eq_of_covers 10 _ (by decide +kernel) fun t hf y => ?_
  blk_simp
  obtain ⟨r, k, rfl⟩ : ∃ (r : Fin 256) (k : Fin 2816), y = ix2 r k := eta y
  have at_y : ((View.whole main_v0_3).slice (win0_10.rect t)).emb (ix2 r k) = ix2 (at256 t r) k := by
    blk_point [index t]
  rw [after0_10, (outs_hidden m c t r k).1, at_y]
  exact of_block m c gradGate t r k

theorem final_up : (dats m 0 c).arrAt 11 cfg0.N
    = upRows (R := 8192) (weights m c) (m ((c : Thread nD τ).loc main_arg0)) (m ((c : Thread nD τ).loc main_arg1)) := by
  refine (dats m 0 c).arrAt_eq_of_covers 11 _ (by decide +kernel) fun t hf y => ?_
  blk_simp
  obtain ⟨r, k, rfl⟩ : ∃ (r : Fin 256) (k : Fin 2816), y = ix2 r k := eta y
  have at_y : ((View.whole main_v0_4).slice (win0_11.rect t)).emb (ix2 r k) = ix2 (at256 t r) k := by
    blk_point [index t]
  rw [after0_11, (outs_hidden m c t r k).2.1, at_y]
  exact of_block m c gradUp t r k

theorem final_hidden : (dats m 0 c).arrAt 12 cfg0.N = hiddenRows (R := 8192) (weights m c) (m ((c : Thread nD τ).loc main_arg0)) := by
  refine (dats m 0 c).arrAt_eq_of_covers 12 _ (by decide +kernel) fun t hf y => ?_
  blk_simp
  obtain ⟨r, k, rfl⟩ : ∃ (r : Fin 256) (k : Fin 2816), y = ix2 r k := eta y
  have at_y : ((View.whole main_v0_5).slice (win0_12.rect t)).emb (ix2 r k) = ix2 (at256 t r) k := by
    blk_point [index t]
  rw [after0_12, (outs_hidden m c t r k).2.2, at_y]
  exact of_block m c (fun p X _ => hidden p X) t r k

theorem final_down : (dats m 0 c).arrAt 13 cfg0.N
    = downRows (R := 8192) (weights m c) (m ((c : Thread nD τ).loc main_arg0)) (m ((c : Thread nD τ).loc main_arg1)) := by
  refine (dats m 0 c).arrAt_eq_of_covers 13 _ (by decide +kernel) fun t hf y => ?_
  blk_simp
  obtain ⟨r, k, rfl⟩ : ∃ (r : Fin 256) (k : Fin 1024), y = ix2 r k := eta y
  have at_y : ((View.whole main_v0_6).slice (win0_13.rect t)).emb (ix2 r k) = ix2 (at256 t r) k := by
    blk_point [index t]
  rw [after0_13, (outs_rows m c t r k).2.2, at_y]
  exact of_block m c gradDown t r k

theorem final_loss : (dats m 0 c).arrAt 7 cfg0.N
    = loss (R := 8192) (weights m c) (m ((c : Thread nD τ).loc main_arg0)) (m ((c : Thread nD τ).loc main_arg1)) := by
  refine (dats m 0 c).arrAt_eq_of_covers 7 _ (by decide +kernel) fun t hf y => ?_
  blk_simp
  rw [after0_7, Pipeline.eq_sum_fin_of_reset_step_apply_of_flush (fun n h => (outsAt0 m c n h).1) 32 (fun _ => (0 : EReal)) (lossPart m c)
    (fun t h j => by rw [(outs_first m c t h).1, zero_add]) (fun t h => (outs_next m c t h).1) t ((flush0_7 t).mp hf)]
  exact of_blocks m c (fun p X T (_ : Fin 1) => (∑ k, miss p X T k * miss p X T k) * Ideal.ofBits .f32 973078528#32) t _ 0

theorem final_pre : (dats m 0 c).arrAt 14 cfg0.N
    = preGain (R := 8192) (weights m c) (m ((c : Thread nD τ).loc main_arg0)) (m ((c : Thread nD τ).loc main_arg1)) := by
  refine (dats m 0 c).arrAt_eq_of_covers 14 _ (by decide +kernel) fun t hf y => ?_
  blk_simp
  obtain ⟨r, k, rfl⟩ : ∃ (r : Fin 1) (k : Fin 1024), y = ix2 r k := eta y
  have at_y : ((View.whole main_v0_7).slice (win0_14.rect t)).emb (ix2 r k) = ix2 r k := by
    blk_point [index t]
  rw [after0_14, Pipeline.eq_sum_fin_of_reset_step_apply_of_flush (fun n h => (outsAt0 m c n h).2.2.2.2.2.2.2.1) 32 (fun _ => (0 : EReal)) (prePart m c)
    (fun t h j => by rw [(outs_first m c t h).2.1, zero_add]) (fun t h => (outs_next m c t h).2.1) t ((flush0_14 t).mp hf), at_y]
  exact of_blocks m c (fun p X T k => gradNormed p X T k * unit X k) t _ k

theorem final_post : (dats m 0 c).arrAt 15 cfg0.N
    = postGain (R := 8192) (weights m c) (m ((c : Thread nD τ).loc main_arg0)) (m ((c : Thread nD τ).loc main_arg1)) := by
  refine (dats m 0 c).arrAt_eq_of_covers 15 _ (by decide +kernel) fun t hf y => ?_
  blk_simp
  obtain ⟨r, k, rfl⟩ : ∃ (r : Fin 1) (k : Fin 1024), y = ix2 r k := eta y
  have at_y : ((View.whole main_v0_8).slice (win0_15.rect t)).emb (ix2 r k) = ix2 r k := by
    blk_point [index t]
  rw [after0_15, Pipeline.eq_sum_fin_of_reset_step_apply_of_flush (fun n h => (outsAt0 m c n h).2.2.2.2.2.2.2.2) 32 (fun _ => (0 : EReal)) (postPart m c)
    (fun t h j => by rw [(outs_first m c t h).2.2, zero_add]) (fun t h => (outs_next m c t h).2.2) t ((flush0_15 t).mp hf), at_y]
  exact of_blocks m c (fun p X T k => gradOut p X T k * unit (down p X) k) t _ k

omit m c

theorem frame_kernel : Cert.quiescent_Ffn := fun m ρ _ => Cert.Ffn.Gen.frame (F := Bits) m ρ

theorem frame_ideal : Cert.quiescent_FfnIdeal := fun m ρ _ => Gen.frame (F := Ideal) m ρ

theorem frame_reference : Cert.quiescent_FfnRef := fun m ρ _ =>
  (θ_run Cert.FfnRefIdeal.defs _ _).mono
    (fun r h => ⟨fun c => (h c).2.2.2.2.2.2.2.2.2, sem_eq_zero_of_no_sems (by decide) r.2⟩) (Cert.FfnRefIdeal.Value.run (F := Bits) m ρ)

theorem frame_reference_ideal : Cert.quiescent_FfnRefIdeal := fun m ρ _ =>
  (θ_run Cert.FfnRefIdeal.defs _ _).mono
    (fun r h => ⟨fun c => (h c).2.2.2.2.2.2.2.2.2, sem_eq_zero_of_no_sems (by decide) r.2⟩) (Cert.FfnRefIdeal.Value.run (F := Ideal) m ρ)

theorem algebraic : Cert.algebraic_FfnIdeal_FfnRefIdeal := fun m g m' g' _ h =>
  ⟨fun c => loss (R := 8192) (weights m c) (m ((c : Thread nD τ).loc main_arg0)) (m ((c : Thread nD τ).loc main_arg1)),
    fun c => rows (R := 8192) (weights m c) (m ((c : Thread nD τ).loc main_arg0)) (m ((c : Thread nD τ).loc main_arg1)),
    fun c => normedRows (R := 8192) (weights m c) (m ((c : Thread nD τ).loc main_arg0)),
    fun c => gateRows (R := 8192) (weights m c) (m ((c : Thread nD τ).loc main_arg0)) (m ((c : Thread nD τ).loc main_arg1)),
    fun c => upRows (R := 8192) (weights m c) (m ((c : Thread nD τ).loc main_arg0)) (m ((c : Thread nD τ).loc main_arg1)),
    fun c => hiddenRows (R := 8192) (weights m c) (m ((c : Thread nD τ).loc main_arg0)),
    fun c => downRows (R := 8192) (weights m c) (m ((c : Thread nD τ).loc main_arg0)) (m ((c : Thread nD τ).loc main_arg1)),
    fun c => preGain (R := 8192) (weights m c) (m ((c : Thread nD τ).loc main_arg0)) (m ((c : Thread nD τ).loc main_arg1)),
    fun c => postGain (R := 8192) (weights m c) (m ((c : Thread nD τ).loc main_arg0)) (m ((c : Thread nD τ).loc main_arg1)),
    (θ_run defs _ _).mono (fun _ hr c => by
      have hc := hr c
      rw [final_loss, final_rows, final_normed, final_gate, final_up, final_hidden, final_down, final_pre, final_post] at hc
      exact hc) (Value.run_blocks m g),
    (θ_run Cert.FfnRefIdeal.defs _ _).mono (fun _ hr c => by
      obtain ⟨h0, h1, h2, h3, h4, h5, h6⟩ := h c
      obtain ⟨a0, a1, a2, a3, a4, a5, a6, a7, a8, kept⟩ := hr c
      rw [ref_loss] at a0
      rw [ref_rows] at a1
      rw [ref_normedRows] at a2
      rw [ref_gateRows] at a3
      rw [ref_upRows] at a4
      rw [ref_hiddenRows] at a5
      rw [ref_downRows] at a6
      rw [ref_preGain] at a7
      rw [ref_postGain] at a8
      have hp : params (StableHlo.launchContents m' c) = weights m c := by
        change (⟨m' ((c.tc : Thread Cert.FfnRefIdeal.nD Cert.FfnRefIdeal.τ).loc Cert.FfnRefIdeal.main_arg2), m' ((c.tc : Thread Cert.FfnRefIdeal.nD Cert.FfnRefIdeal.τ).loc Cert.FfnRefIdeal.main_arg3), m' ((c.tc : Thread Cert.FfnRefIdeal.nD Cert.FfnRefIdeal.τ).loc Cert.FfnRefIdeal.main_arg4),
          m' ((c.tc : Thread Cert.FfnRefIdeal.nD Cert.FfnRefIdeal.τ).loc Cert.FfnRefIdeal.main_arg5), m' ((c.tc : Thread Cert.FfnRefIdeal.nD Cert.FfnRefIdeal.τ).loc Cert.FfnRefIdeal.main_arg6)⟩ : Params) = _
        rw [h2, h3, h4, h5, h6]
      have hx : StableHlo.launchContents m' c (Proc.devRef .tc Cert.FfnRefIdeal.main_arg0) = m ((c : Thread nD τ).loc main_arg0) := h0
      have ht : StableHlo.launchContents m' c (Proc.devRef .tc Cert.FfnRefIdeal.main_arg1) = m ((c : Thread nD τ).loc main_arg1) := h1
      rw [hp, hx] at a0 a1 a2 a3 a4 a5 a6 a7 a8
      rw [ht] at a0 a1 a3 a4 a6 a7 a8
      exact ⟨a0, a1, a2, a3, a4, a5, a6, a7, a8, kept⟩) (Cert.FfnRefIdeal.Value.run (F := Ideal) m' g')⟩

end Cert.Step.Ffn

end
-- ==== Proof.Step.MergeBack.lean ====
module

public import proofs.«01_k».proof.Defs
public import proofs.«01_k».proof.Proof.Gen.MergeBack.Frame
public import proofs.«01_k».proof.Proof.Gen.MergeBackRef
public import proofs.«01_k».proof.Proof.Gen.MergeBackIdeal.Value
public import proofs.«01_k».proof.Proof.Gen.MergeBackRefIdeal.Run
public import proofs.«01_k».proof.Proof.Step.Ffn

@[expose] public section

noncomputable section

open Idealize.ShloMosaic Idealize.ShloMosaic.TcCoe Idealize.SL.Sem
open Cert.Step.Ffn (row unit into back normBack normBack_eq eta)

namespace Cert.Step.MergeBack

section Rows

/-- The branches' two weights, the weight of what they make together and the gain of its norm. -/
structure Params where
  first : FVec Ideal ⟨2, ![512, 1024]⟩ .bf16
  second : FVec Ideal ⟨2, ![512, 1024]⟩ .bf16
  out : FVec Ideal ⟨2, ![1024, 1024]⟩ .bf16
  gain : FVec Ideal ⟨2, ![1, 1024]⟩ .f32

/-- What there is for one token: the derivative that comes back, the two mixers' outputs, what scales the second, and the branches' gates. -/
structure Row where
  grad : Fin 1024 → EReal
  first : Fin 512 → EReal
  second : Fin 512 → EReal
  scale : Fin 512 → EReal
  gates : Fin 2048 → EReal

variable (p : Params) (q : Row)

def scaled (k : Fin 512) : EReal := q.second k * q.scale k

def branch : Fin 1024 → EReal := into q.first p.first

def branch' : Fin 1024 → EReal := into (scaled q) p.second

def gate (k : Fin 1024) : EReal := q.gates ⟨k.val, by omega⟩

def gate' (k : Fin 1024) : EReal := q.gates ⟨1024 + k.val, by omega⟩

def mixed (k : Fin 1024) : EReal := gate q k * branch p q k + gate' q k * branch' p q k

def product : Fin 1024 → EReal := into (mixed p q) p.out

def gradProduct : Fin 1024 → EReal := normBack (product p q) q.grad p.gain

def gradMixed : Fin 1024 → EReal := back (gradProduct p q) p.out

def gradBranch (k : Fin 1024) : EReal := gradMixed p q k * gate q k

def gradBranch' (k : Fin 1024) : EReal := gradMixed p q k * gate' q k

/-- The derivative with respect to what the gates are the logistic of. -/
def gradGates (k : Fin 2048) : EReal :=
  if h : k.val < 1024 then gradMixed p q ⟨k.val, h⟩ * branch p q ⟨k.val, h⟩ * gate q ⟨k.val, h⟩ * (1 - gate q ⟨k.val, h⟩)
  else gradMixed p q ⟨k.val - 1024, by omega⟩ * branch' p q ⟨k.val - 1024, by omega⟩ * gate' q ⟨k.val - 1024, by omega⟩
    * (1 - gate' q ⟨k.val - 1024, by omega⟩)

def gradFirst : Fin 512 → EReal := back (gradBranch p q) p.first

def gradScaled : Fin 512 → EReal := back (gradBranch' p q) p.second

def gradSecond (k : Fin 512) : EReal := gradScaled p q k * q.scale k

def gradScale (k : Fin 512) : EReal := gradScaled p q k * q.second k

section Results

variable {R : Nat} (Q : Fin R → Row)

/-- The token of a row of the arrays. -/
abbrev rowAt (d : FVec Ideal ⟨2, ![R, 1024]⟩ .f32) (o : FVec Ideal ⟨2, ![R, 512]⟩ .bf16) (h : Fin R → Fin 512 → EReal) (g : FVec Ideal ⟨2, ![R, 512]⟩ .f32)
    (gates : FVec Ideal ⟨2, ![R, 2048]⟩ .f32) (r : Fin R) : Row :=
  ⟨row d r, fun k => o (ix2 r k), h r, row g r, row gates r⟩

/-- The array whose rows are a function's values at the tokens. -/
abbrev each {n : Nat} (φ : FTy) (f : Params → Row → Fin n → EReal) : FVec Ideal ⟨2, ![R, n]⟩ φ := fun i => f p (Q (i 0)) (i 1)

/-- The row whose entries are a function's values summed over the tokens. -/
abbrev total {n : Nat} (f : Params → Row → Fin n → EReal) : FVec Ideal ⟨2, ![1, n]⟩ .f32 := fun i => ∑ r, f p (Q r) (i 1)

/-- The array whose heads' rows are the parts of a function's values. -/
abbrev inHeads (Q : Fin 8192 → Row) (f : Params → Row → Fin 512 → EReal) : FVec Ideal ⟨4, ![4, 8, 2048, 64]⟩ .f32 := fun i =>
  f p (Q ⟨(i 0).val * 2048 + (i 2).val, by have h0 : (i 0).val < 4 := (i 0).isLt; have h2 : (i 2).val < 2048 := (i 2).isLt; omega⟩)
    ⟨(i 1).val * 64 + (i 3).val, by have h1 : (i 1).val < 8 := (i 1).isLt; have h3 : (i 3).val < 64 := (i 3).isLt; omega⟩

/-- The heads of a row side by side. -/
abbrev heads (w : FVec Ideal ⟨4, ![4, 8, 2048, 64]⟩ .f32) (r : Fin 8192) (k : Fin 512) : EReal :=
  w (ix4 ⟨r.val / 2048, by omega⟩ ⟨k.val / 64, by omega⟩ ⟨r.val % 2048, by omega⟩ ⟨k.val % 64, by omega⟩)

end Results

/-- The gradient of the gain, token by token. -/
def gradGain (k : Fin 1024) : EReal := q.grad k * unit (product p q) k

end Rows

section Kernel

open Cert.MergeBackIdeal Cert.MergeBackIdeal.Gen

variable (d : Vec Ideal S256x1024 .f32) (o : Vec Ideal S256x512 .bf16) (h : FVec Ideal S256x512 .f32) (g : Vec Ideal S256x512 .f32)
  (gates : Vec Ideal S256x2048 .f32) (ws wr : Vec Ideal S512x1024 .bf16) (wo : Vec Ideal S1024x1024 .bf16) (gain : Vec Ideal S1x1024 .f32)

theorem pay_scaled (r : Fin 256) (k : Fin 512) : k0_pay7 h g (ix2 r k)
    = scaled (rowAt (R := 256) d o (fun r k => h (ix2 r k)) g gates r) k := by
  pointwise [k0_pay7]
  rfl

theorem pay_branch (r : Fin 256) (k : Fin 1024) : k0_pay8 ws o (ix2 r k)
    = branch ⟨ws, wr, wo, gain⟩ (rowAt (R := 256) d o (fun r k => h (ix2 r k)) g gates r) k := by
  pointwise [k0_pay8]
  rfl

theorem pay_branch' (r : Fin 256) (k : Fin 1024) : k0_pay9 h g wr (ix2 r k)
    = branch' ⟨ws, wr, wo, gain⟩ (rowAt (R := 256) d o (fun r k => h (ix2 r k)) g gates r) k := by
  pointwise [k0_pay9]
  simp only [pay_scaled d o h g gates]
  rfl

theorem pay_gate (r : Fin 256) (k : Fin 1024) : k0_pay10 gates (ix2 r k)
    = gate (rowAt (R := 256) d o (fun r k => h (ix2 r k)) g gates r) k := by
  pointwise [k0_pay10]
  rfl

theorem pay_gate' (r : Fin 256) (k : Fin 1024) : k0_pay11 gates (ix2 r k)
    = gate' (rowAt (R := 256) d o (fun r k => h (ix2 r k)) g gates r) k := by
  pointwise [k0_pay11]
  rfl

theorem pay_mixed (r : Fin 256) (k : Fin 1024) : k0_pay12 h g ws wr o gates (ix2 r k)
    = mixed ⟨ws, wr, wo, gain⟩ (rowAt (R := 256) d o (fun r k => h (ix2 r k)) g gates r) k := by
  pointwise [k0_pay12]
  simp only [pay_gate d o h g gates, pay_gate' d o h g gates, pay_branch d o h g gates ws wr wo gain, pay_branch' d o h g gates ws wr wo gain]
  rfl

theorem pay_product (r : Fin 256) (k : Fin 1024) : k0_pay13 h g ws wr wo o gates (ix2 r k)
    = product ⟨ws, wr, wo, gain⟩ (rowAt (R := 256) d o (fun r k => h (ix2 r k)) g gates r) k := by
  pointwise [k0_pay13]
  simp only [pay_mixed d o h g gates ws wr wo gain]
  rfl

theorem pay_root (r : Fin 256) (k : Fin 1) : k0_pay14 h g ws wr wo o gates (ix2 r k)
    = Ideal.rsqrt (meanSq (product ⟨ws, wr, wo, gain⟩ (rowAt (R := 256) d o (fun r k => h (ix2 r k)) g gates r))) := by
  pointwise [k0_pay14]
  simp only [pay_product d o h g gates ws wr wo gain]
  rfl

theorem pay_unit (r : Fin 256) (k : Fin 1024) : k0_pay15 h g ws wr wo o gates (ix2 r k)
    = unit (product ⟨ws, wr, wo, gain⟩ (rowAt (R := 256) d o (fun r k => h (ix2 r k)) g gates r)) k := by
  pointwise [k0_pay15]
  simp only [pay_product d o h g gates ws wr wo gain, pay_root d o h g gates ws wr wo gain]
  rfl

theorem pay_gradProduct (r : Fin 256) (k : Fin 1024) : k0_pay17 h g ws wr wo o gates gain d (ix2 r k)
    = gradProduct ⟨ws, wr, wo, gain⟩ (rowAt (R := 256) d o (fun r k => h (ix2 r k)) g gates r) k := by
  pointwise [k0_pay17]
  simp only [pay_unit d o h g gates ws wr wo gain, pay_root d o h g gates ws wr wo gain]
  rfl

theorem pay_gradMixed (r : Fin 256) (k : Fin 1024) : k0_pay18 wo (k0_pay17 h g ws wr wo o gates gain d) (ix2 r k)
    = gradMixed ⟨ws, wr, wo, gain⟩ (rowAt (R := 256) d o (fun r k => h (ix2 r k)) g gates r) k := by
  pointwise [k0_pay18]
  simp only [pay_gradProduct d o h g gates ws wr wo gain]
  rfl

theorem pay_gradBranch (r : Fin 256) (k : Fin 1024) : k0_pay19 wo (k0_pay10 gates) (k0_pay17 h g ws wr wo o gates gain d) (ix2 r k)
    = gradBranch ⟨ws, wr, wo, gain⟩ (rowAt (R := 256) d o (fun r k => h (ix2 r k)) g gates r) k := by
  pointwise [k0_pay19]
  simp only [pay_gradMixed d o h g gates ws wr wo gain, pay_gate d o h g gates]
  rfl

theorem pay_gradBranch' (r : Fin 256) (k : Fin 1024) : k0_pay20 wo (k0_pay11 gates) (k0_pay17 h g ws wr wo o gates gain d) (ix2 r k)
    = gradBranch' ⟨ws, wr, wo, gain⟩ (rowAt (R := 256) d o (fun r k => h (ix2 r k)) g gates r) k := by
  pointwise [k0_pay20]
  simp only [pay_gradMixed d o h g gates ws wr wo gain, pay_gate' d o h g gates]
  rfl

theorem pay_gradGates (r : Fin 256) (k : Fin 2048) : k0_pay21 wo (k0_pay8 ws o) (k0_pay9 h g wr) (k0_pay10 gates) (k0_pay11 gates) (k0_pay17 h g ws wr wo o gates gain d) (ix2 r k)
    = gradGates ⟨ws, wr, wo, gain⟩ (rowAt (R := 256) d o (fun r k => h (ix2 r k)) g gates r) k := by
  pointwise [k0_pay21]
  simp only [pay_gradMixed d o h g gates ws wr wo gain, pay_gate d o h g gates, pay_gate' d o h g gates, pay_branch d o h g gates ws wr wo gain, pay_branch' d o h g gates ws wr wo gain]
  rfl

theorem pay_gradFirst (r : Fin 256) (k : Fin 512) : k0_pay24 ws wo (k0_pay10 gates) (k0_pay17 h g ws wr wo o gates gain d) (ix2 r k)
    = gradFirst ⟨ws, wr, wo, gain⟩ (rowAt (R := 256) d o (fun r k => h (ix2 r k)) g gates r) k := by
  pointwise [k0_pay24]
  simp only [pay_gradBranch d o h g gates ws wr wo gain]
  rfl

theorem pay_gradScaled (r : Fin 256) (k : Fin 512) : k0_pay22 wr wo (k0_pay11 gates) (k0_pay17 h g ws wr wo o gates gain d) (ix2 r k)
    = gradScaled ⟨ws, wr, wo, gain⟩ (rowAt (R := 256) d o (fun r k => h (ix2 r k)) g gates r) k := by
  pointwise [k0_pay22]
  simp only [pay_gradBranch' d o h g gates ws wr wo gain]
  rfl

theorem pay_gradSecond (r : Fin 256) (k : Fin 512) : k0_pay25 g wr wo (k0_pay11 gates) (k0_pay17 h g ws wr wo o gates gain d) (ix2 r k)
    = gradSecond ⟨ws, wr, wo, gain⟩ (rowAt (R := 256) d o (fun r k => h (ix2 r k)) g gates r) k := by
  pointwise [k0_pay25]
  simp only [pay_gradScaled d o h g gates ws wr wo gain]
  rfl

theorem pay_gradScale (r : Fin 256) (k : Fin 512) : k0_pay2 h (k0_pay22 wr wo (k0_pay11 gates) (k0_pay17 h g ws wr wo o gates gain d)) (ix2 r k)
    = gradScale ⟨ws, wr, wo, gain⟩ (rowAt (R := 256) d o (fun r k => h (ix2 r k)) g gates r) k := by
  pointwise [k0_pay2]
  simp only [pay_gradScaled d o h g gates ws wr wo gain]
  rfl

theorem pay_gradGain (k : Fin 1024) : k0_pay16 h g ws wr wo o gates d (ix2 0 k) = ∑ r, gradGain ⟨ws, wr, wo, gain⟩ (rowAt (R := 256) d o (fun r k => h (ix2 r k)) g gates r) k := by
  pointwise [k0_pay16]
  simp only [pay_unit d o h g gates ws wr wo gain]
  rfl

theorem pay_gradBias (k : Fin 2048) : k0_pay4 (k0_pay21 wo (k0_pay8 ws o) (k0_pay9 h g wr) (k0_pay10 gates) (k0_pay11 gates) (k0_pay17 h g ws wr wo o gates gain d)) (ix2 0 k) = ∑ r, gradGates ⟨ws, wr, wo, gain⟩ (rowAt (R := 256) d o (fun r k => h (ix2 r k)) g gates r) k := by
  pointwise [k0_pay4]
  simp only [pay_gradGates d o h g gates ws wr wo gain]

end Kernel

section Reference

open Cert.MergeBackRefIdeal Cert.MergeBackRefIdeal.Facts₀

variable (d : FVec Ideal S8192x1024 .f32) (o : FVec Ideal S8192x512 .bf16) (w : FVec Ideal S4x8x2048x64 .f32) (g : FVec Ideal S8192x512 .f32)
  (gates : FVec Ideal S8192x2048 .f32) (ws wr : FVec Ideal S512x1024 .bf16) (wo : FVec Ideal S1024x1024 .bf16) (gain : FVec Ideal S1x1024 .f32)

def refHeads : FVec Ideal S8192x512 .f32 :=
  shapeCast S8192x512 (transpose S4x2048x8x64 [0, 2, 1, 3] w transposes_S4x8x2048x64_S4x2048x8x64_0_2_1_3) shapeCasts_S4x2048x8x64_S8192x512

def refGate : FVec Ideal S8192x1024 .f32 := extractStridedSlice S8192x1024 ![0, 0] gates slices_S8192x2048_S8192x1024_0_0

def refGate' : FVec Ideal S8192x1024 .f32 := extractStridedSlice S8192x1024 ![0, 1024] gates slices_S8192x2048_S8192x1024_0_1024

def refBranch : FVec Ideal S8192x1024 .f32 :=
  Host.dotGeneral dot_S8192x512_S512x1024_S8192x1024_1_0_0_1_n_n none (extf .f32 o bitsLt_bf16_f32) (extf .f32 ws bitsLt_bf16_f32)

def refBranch' : FVec Ideal S8192x1024 .f32 :=
  Host.dotGeneral dot_S8192x512_S512x1024_S8192x1024_1_0_0_1_n_n none (mulf (refHeads w) g) (extf .f32 wr bitsLt_bf16_f32)

def refMixed : FVec Ideal S8192x1024 .f32 := addf (mulf (refGate gates) (refBranch o ws)) (mulf (refGate' gates) (refBranch' w g wr))

def refProduct : FVec Ideal S8192x1024 .f32 :=
  Host.dotGeneral dot_S8192x1024_S1024x1024_S8192x1024_1_0_0_1_n_n none (refMixed o w g gates ws wr) (extf .f32 wo bitsLt_bf16_f32)

def refMeanSq : FVec Ideal S8192x1 .f32 :=
  addf (Host.divf (broadcastInDim S8192x1 ![0] bcast_S8192_S8192x1_0 (Host.reduceAdd (mulf (refProduct o w g gates ws wr wo) (refProduct o w g gates ws wr wo))
    (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32))

def refUnit : FVec Ideal S8192x1024 .f32 :=
  mulf (refProduct o w g gates ws wr wo) (broadcastInDim S8192x1024 ![0, 1] bcast_S8192x1_S8192x1024_0_1 (Host.rsqrt (refMeanSq o w g gates ws wr wo)))

def refScaledGrad : FVec Ideal S8192x1024 .f32 := mulf d (broadcastInDim S8192x1024 ![0, 1] bcast_S1x1024_S8192x1024_0_1 gain)

def refThroughRoot : FVec Ideal S8192x1024 .f32 :=
  broadcastInDim S8192x1024 ![0] bcast_S8192_S8192x1024_0 (Host.reduceAdd (Host.divf (mulf (shapeCast S8192x1 (Host.reduceAdd (mulf (refProduct o w g gates ws wr wo) (refScaledGrad d gain))
    (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (refMeanSq o w g gates ws wr wo)) (refMeanSq o w g gates ws wr wo))))
    (broadcastInDim S8192x1 ![] bcast_S_S8192x1 (constant S_ .f32 0x44800000#32))) (constant S_ .f32 0x00000000#32) reducesTo_S8192x1_S8192_d1 h_S_)

def refGradProduct : FVec Ideal S8192x1024 .f32 :=
  addf (addf (mulf (refScaledGrad d gain) (broadcastInDim S8192x1024 ![0, 1] bcast_S8192x1_S8192x1024_0_1 (Host.rsqrt (refMeanSq o w g gates ws wr wo))))
    (mulf (refProduct o w g gates ws wr wo) (refThroughRoot d o w g gates ws wr wo gain))) (mulf (refThroughRoot d o w g gates ws wr wo gain) (refProduct o w g gates ws wr wo))

def refGradMixed : FVec Ideal S8192x1024 .f32 :=
  Host.dotGeneral dot_S8192x1024_S1024x1024_S8192x1024_1_1_0_0_n_n none (refGradProduct d o w g gates ws wr wo gain) (extf .f32 wo bitsLt_bf16_f32)

def refGradGates : FVec Ideal S8192x2048 .f32 :=
  concatenate S8192x2048 1 [⟨S8192x1024, mulf (mulf (mulf (refGradMixed d o w g gates ws wr wo gain) (refBranch o ws)) (refGate gates))
      (subf (broadcastInDim S8192x1024 ![] bcast_S_S8192x1024 (constant S_ .f32 0x3F800000#32)) (refGate gates))⟩,
    ⟨S8192x1024, mulf (mulf (mulf (refGradMixed d o w g gates ws wr wo gain) (refBranch' w g wr)) (refGate' gates))
      (subf (broadcastInDim S8192x1024 ![] bcast_S_S8192x1024 (constant S_ .f32 0x3F800000#32)) (refGate' gates))⟩]
    concatenates_S8192x1024_S8192x1024_S8192x2048_d1

def refGradScaled : FVec Ideal S8192x512 .f32 :=
  Host.dotGeneral dot_S8192x1024_S512x1024_S8192x512_1_1_0_0_n_n none (mulf (refGate' gates) (refGradMixed d o w g gates ws wr wo gain)) (extf .f32 wr bitsLt_bf16_f32)

variable (r : Fin 8192)

theorem ref_heads (k : Fin 512) : refHeads w (ix2 r k) = heads w r k := by
  unfold refHeads
  pointwise

theorem ref_gate (k : Fin 1024) : refGate gates (ix2 r k) = gate (rowAt (R := 8192) d o (heads w) g gates r) k := by
  unfold refGate
  pointwise
  rfl

theorem ref_gate' (k : Fin 1024) : refGate' gates (ix2 r k) = gate' (rowAt (R := 8192) d o (heads w) g gates r) k := by
  unfold refGate'
  pointwise
  rfl

theorem ref_branch (k : Fin 1024) : refBranch o ws (ix2 r k) = branch ⟨ws, wr, wo, gain⟩ (rowAt (R := 8192) d o (heads w) g gates r) k := by
  unfold refBranch
  pointwise
  rfl

theorem ref_branch' (k : Fin 1024) : refBranch' w g wr (ix2 r k) = branch' ⟨ws, wr, wo, gain⟩ (rowAt (R := 8192) d o (heads w) g gates r) k := by
  unfold refBranch'
  pointwise
  simp only [ref_heads]
  rfl

theorem ref_mixed (k : Fin 1024) : refMixed o w g gates ws wr (ix2 r k) = mixed ⟨ws, wr, wo, gain⟩ (rowAt (R := 8192) d o (heads w) g gates r) k := by
  unfold refMixed
  pointwise
  simp only [ref_gate d o w g gates, ref_gate' d o w g gates, ref_branch d o w g gates ws wr wo gain, ref_branch' d o w g gates ws wr wo gain]
  rfl

theorem ref_product (k : Fin 1024) : refProduct o w g gates ws wr wo (ix2 r k) = product ⟨ws, wr, wo, gain⟩ (rowAt (R := 8192) d o (heads w) g gates r) k := by
  unfold refProduct
  pointwise
  simp only [ref_mixed d o w g gates ws wr wo gain]
  rfl

theorem ref_meanSq (k : Fin 1) : refMeanSq o w g gates ws wr wo (ix2 r k) = meanSq (product ⟨ws, wr, wo, gain⟩ (rowAt (R := 8192) d o (heads w) g gates r)) := by
  unfold refMeanSq
  pointwise
  simp only [ref_product d o w g gates ws wr wo gain]
  rfl

theorem ref_unit (k : Fin 1024) : refUnit o w g gates ws wr wo (ix2 r k) = unit (product ⟨ws, wr, wo, gain⟩ (rowAt (R := 8192) d o (heads w) g gates r)) k := by
  unfold refUnit
  pointwise
  simp only [ref_product d o w g gates ws wr wo gain, ref_meanSq d o w g gates ws wr wo gain]
  rfl

theorem ref_gradProduct (k : Fin 1024) : refGradProduct d o w g gates ws wr wo gain (ix2 r k) = gradProduct ⟨ws, wr, wo, gain⟩ (rowAt (R := 8192) d o (heads w) g gates r) k := by
  unfold refGradProduct refThroughRoot refScaledGrad
  pointwise
  simp only [ref_product d o w g gates ws wr wo gain, ref_meanSq d o w g gates ws wr wo gain]
  exact normBack_eq _ (row (R := 8192) d r) gain k

theorem ref_gradMixed (k : Fin 1024) : refGradMixed d o w g gates ws wr wo gain (ix2 r k) = gradMixed ⟨ws, wr, wo, gain⟩ (rowAt (R := 8192) d o (heads w) g gates r) k := by
  unfold refGradMixed
  pointwise
  simp only [ref_gradProduct d o w g gates ws wr wo gain]
  rfl

theorem ref_gradGates (k : Fin 2048) : refGradGates d o w g gates ws wr wo gain (ix2 r k) = gradGates ⟨ws, wr, wo, gain⟩ (rowAt (R := 8192) d o (heads w) g gates r) k := by
  unfold refGradGates
  pointwise
  simp only [ref_gradMixed d o w g gates ws wr wo gain, ref_gate d o w g gates, ref_gate' d o w g gates, ref_branch d o w g gates ws wr wo gain, ref_branch' d o w g gates ws wr wo gain]
  rfl

theorem ref_gradBranch (k : Fin 1024) : (mulf (refGate gates) (refGradMixed d o w g gates ws wr wo gain) : FVec Ideal S8192x1024 .f32) (ix2 r k) = gradBranch ⟨ws, wr, wo, gain⟩ (rowAt (R := 8192) d o (heads w) g gates r) k := by
  pointwise
  simp only [ref_gradMixed d o w g gates ws wr wo gain, ref_gate d o w g gates]
  exact mul_comm (_ : EReal) _

theorem ref_gradBranch' (k : Fin 1024) : (mulf (refGate' gates) (refGradMixed d o w g gates ws wr wo gain) : FVec Ideal S8192x1024 .f32) (ix2 r k) = gradBranch' ⟨ws, wr, wo, gain⟩ (rowAt (R := 8192) d o (heads w) g gates r) k := by
  pointwise
  simp only [ref_gradMixed d o w g gates ws wr wo gain, ref_gate' d o w g gates]
  exact mul_comm (_ : EReal) _

theorem ref_gradScaled (k : Fin 512) : refGradScaled d o w g gates ws wr wo gain (ix2 r k) = gradScaled ⟨ws, wr, wo, gain⟩ (rowAt (R := 8192) d o (heads w) g gates r) k := by
  unfold refGradScaled
  pointwise
  simp only [ref_gradMixed d o w g gates ws wr wo gain, ref_gate' d o w g gates]
  exact Finset.sum_congr rfl fun l _ => congrArg (fun z : EReal => z * _) (mul_comm (_ : EReal) _)

/-- The reference's weights and gain. -/
abbrev params (m : (ℓ : Loc nD τ sig) → Buf (Elt Ideal) ℓ) (c : Dev nD) : Params :=
  ⟨m ((c.tc : Thread nD τ).loc main_arg5), m ((c.tc : Thread nD τ).loc main_arg6), m ((c.tc : Thread nD τ).loc main_arg7), m ((c.tc : Thread nD τ).loc main_arg8)⟩

/-- The reference's tokens. -/
abbrev rows (m : (ℓ : Loc nD τ sig) → Buf (Elt Ideal) ℓ) (c : Dev nD) : Fin 8192 → Row :=
  rowAt (R := 8192) (m ((c.tc : Thread nD τ).loc main_arg0)) (m ((c.tc : Thread nD τ).loc main_arg1)) (heads (m ((c.tc : Thread nD τ).loc main_arg2)))
    (m ((c.tc : Thread nD τ).loc main_arg3)) (m ((c.tc : Thread nD τ).loc main_arg4))
section

variable (m : (ℓ : Loc nD τ sig) → Buf (Elt Ideal) ℓ) (c : Dev nD)

theorem res_scaled : (truncf .bf16 (mulf (refHeads (m ((c.tc : Thread nD τ).loc main_arg2))) (m ((c.tc : Thread nD τ).loc main_arg3))) bitsLt_bf16_f32 : FVec Ideal S8192x512 .bf16) = each (params m c) (rows m c) .bf16 (fun _ => scaled) := by
  funext i
  obtain ⟨r, k, rfl⟩ := eta i
  exact congrArg (fun z : EReal => z * _) (ref_heads (m ((c.tc : Thread nD τ).loc main_arg2)) r k)

theorem res_mixed : (truncf .bf16 (refMixed (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) bitsLt_bf16_f32 : FVec Ideal S8192x1024 .bf16) = each (params m c) (rows m c) .bf16 mixed := by
  funext i
  obtain ⟨r, k, rfl⟩ := eta i
  exact ref_mixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) r k

theorem res_gradProduct : Value.res_main_v71 m c = each (params m c) (rows m c) .bf16 gradProduct := by
  have e : Value.res_main_v71 m c = (truncf .bf16 (refGradProduct (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) bitsLt_bf16_f32 : FVec Ideal S8192x1024 .bf16) := rfl
  rw [e]
  funext i
  obtain ⟨r, k, rfl⟩ := eta i
  exact ref_gradProduct _ _ _ _ _ _ _ _ _ r k

theorem res_gradBranch : Value.res_main_v72 m c = each (params m c) (rows m c) .bf16 gradBranch := by
  have e : Value.res_main_v72 m c = (truncf .bf16 (mulf (refGate (m ((c.tc : Thread nD τ).loc main_arg4))) (refGradMixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) bitsLt_bf16_f32 : FVec Ideal S8192x1024 .bf16) := rfl
  rw [e]
  funext i
  obtain ⟨r, k, rfl⟩ := eta i
  exact ref_gradBranch _ _ _ _ _ _ _ _ _ r k

theorem res_gradBranch' : Value.res_main_v73 m c = each (params m c) (rows m c) .bf16 gradBranch' := by
  have e : Value.res_main_v73 m c = (truncf .bf16 (mulf (refGate' (m ((c.tc : Thread nD τ).loc main_arg4))) (refGradMixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) bitsLt_bf16_f32 : FVec Ideal S8192x1024 .bf16) := rfl
  rw [e]
  funext i
  obtain ⟨r, k, rfl⟩ := eta i
  exact ref_gradBranch' _ _ _ _ _ _ _ _ _ r k

theorem res_gradGates : Value.res_main_v74 m c = each (params m c) (rows m c) .bf16 gradGates := by
  have e : Value.res_main_v74 m c = (truncf .bf16 (refGradGates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) bitsLt_bf16_f32 : FVec Ideal S8192x2048 .bf16) := rfl
  rw [e]
  funext i
  obtain ⟨r, k, rfl⟩ := eta i
  exact ref_gradGates _ _ _ _ _ _ _ _ _ r k

theorem res_gradFirst : Value.res_main_v75 m c = each (params m c) (rows m c) .bf16 gradFirst := by
  have e : Value.res_main_v75 m c = (truncf .bf16 (Host.dotGeneral dot_S8192x1024_S512x1024_S8192x512_1_1_0_0_n_n none (mulf (refGate (m ((c.tc : Thread nD τ).loc main_arg4))) (refGradMixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) (extf .f32 (m ((c.tc : Thread nD τ).loc main_arg5)) bitsLt_bf16_f32)) bitsLt_bf16_f32 : FVec Ideal S8192x512 .bf16) := rfl
  rw [e]
  funext i
  obtain ⟨r, k, rfl⟩ := eta i
  pointwise
  simp only [ref_gradMixed, ref_gate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))]
  exact Finset.sum_congr rfl fun l _ => congrArg (fun z : EReal => z * _) (mul_comm (_ : EReal) _)

theorem res_gradScale : Value.res_main_v64 m c = each (params m c) (rows m c) .f32 gradScale := by
  have e : Value.res_main_v64 m c = (mulf (refHeads (m ((c.tc : Thread nD τ).loc main_arg2))) (refGradScaled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) : FVec Ideal S8192x512 .f32) := rfl
  rw [e]
  funext i
  obtain ⟨r, k, rfl⟩ := eta i
  pointwise
  simp only [ref_heads, ref_gradScaled]
  exact mul_comm (_ : EReal) _

theorem res_gradSecond : Value.res_main_v67 m c = inHeads (params m c) (rows m c) gradSecond := by
  have e : Value.res_main_v67 m c = (transpose S4x8x2048x64 [0, 2, 1, 3] (shapeCast S4x2048x8x64 (mulf (refGradScaled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg3)))
    shapeCasts_S8192x512_S4x2048x8x64) transposes_S4x2048x8x64_S4x8x2048x64_0_2_1_3 : FVec Ideal S4x8x2048x64 .f32) := rfl
  rw [e]
  funext i
  pointwise
  simp only [ref_gradScaled]
  rfl

theorem res_gradGain : shapeCast S1x1024 (Host.reduceAdd (mulf (refUnit (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0))) (constant S_ .f32 0x00000000#32) reducesTo_S8192x1024_S1024_d0 h_S_) shapeCasts_S1024_S1x1024
    = total (params m c) (rows m c) gradGain := by
  funext i
  obtain ⟨r, k, rfl⟩ := eta i
  pointwise
  simp only [ref_unit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))]
  exact Finset.sum_congr rfl fun r _ => mul_comm (_ : EReal) _

theorem res_gradBias : Value.res_main_v77 m c = total (params m c) (rows m c) gradGates := by
  have e : Value.res_main_v77 m c = (broadcastInDim S1x2048 ![1] bcast_S2048_S1x2048_1 (Host.reduceAdd (refGradGates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
    (constant S_ .f32 0x00000000#32) reducesTo_S8192x2048_S2048_d0 h_S_) : FVec Ideal S1x2048 .f32) := rfl
  rw [e]
  funext i
  obtain ⟨r, k, rfl⟩ := eta i
  pointwise
  simp only [ref_gradGates]
  rfl

end

end Reference
open Cert.MergeBackIdeal Cert.MergeBackIdeal.Gen

theorem kernel_heads (x : Vec Ideal S1x8x256x64 .f32) (r : Fin 256) (k : Fin 512) :
    k0_pay6 (View.ld x (Rect.unit (s := S1x8x256x64) ![0, 0, 0, 0] S1x1x256x64.size inb_S1x8x256x64_S1x1x256x64_0_0_0_0)) (View.ld x (Rect.unit (s := S1x8x256x64) ![0, 1, 0, 0] S1x1x256x64.size inb_S1x8x256x64_S1x1x256x64_0_1_0_0)) (View.ld x (Rect.unit (s := S1x8x256x64) ![0, 2, 0, 0] S1x1x256x64.size inb_S1x8x256x64_S1x1x256x64_0_2_0_0)) (View.ld x (Rect.unit (s := S1x8x256x64) ![0, 3, 0, 0] S1x1x256x64.size inb_S1x8x256x64_S1x1x256x64_0_3_0_0)) (View.ld x (Rect.unit (s := S1x8x256x64) ![0, 4, 0, 0] S1x1x256x64.size inb_S1x8x256x64_S1x1x256x64_0_4_0_0)) (View.ld x (Rect.unit (s := S1x8x256x64) ![0, 5, 0, 0] S1x1x256x64.size inb_S1x8x256x64_S1x1x256x64_0_5_0_0)) (View.ld x (Rect.unit (s := S1x8x256x64) ![0, 6, 0, 0] S1x1x256x64.size inb_S1x8x256x64_S1x1x256x64_0_6_0_0)) (View.ld x (Rect.unit (s := S1x8x256x64) ![0, 7, 0, 0] S1x1x256x64.size inb_S1x8x256x64_S1x1x256x64_0_7_0_0)) (ix2 r k)
      = x (ix4 0 ⟨k.val / 64, by omega⟩ r ⟨k.val % 64, by omega⟩) := by
  pointwise [k0_pay6]
  split_ifs <;> exact congrArg₂ (fun a b => x (ix4 0 a r b)) (Fin.ext (by simp; omega)) (Fin.ext (by simp; omega))

theorem index : ∀ t : Fin cfg0.N, win0_0.index t = ![t.val, 0] ∧ win0_1.index t = ![t.val, 0] ∧ win0_2.index t = ![t.val / 8, 0, t.val % 8, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val / 8, 0, t.val % 8, 0] ∧ win0_17.index t = ![t.val, 0] ∧ win0_18.index t = ![0, 0] ∧ win0_19.index t = ![0, 0] :=
  (by decide +kernel : ∀ t : Fin grid0.N, _)

variable (m : (ℓ : Loc nD τ sig) → Buf (Elt Ideal) ℓ) (c : Dev nD)

/-- The kernel's weights and gain. -/
abbrev weights : Params := ⟨m ((c : Thread nD τ).loc main_arg5), m ((c : Thread nD τ).loc main_arg6), m ((c : Thread nD τ).loc main_arg7), m ((c : Thread nD τ).loc main_arg8)⟩

/-- The kernel's tokens. -/
abbrev tokens : Fin 8192 → Row :=
  rowAt (R := 8192) (m ((c : Thread nD τ).loc main_arg0)) (m ((c : Thread nD τ).loc main_arg1)) (heads (m ((c : Thread nD τ).loc main_arg2))) (m ((c : Thread nD τ).loc main_arg3)) (m ((c : Thread nD τ).loc main_arg4))

/-- A point's blocks of the weights and the gain: the whole of each. -/
abbrev blocks (t : Fin cfg0.N) : Params := ⟨iblk m c 5 t, iblk m c 6 t, iblk m c 7 t, iblk m c 8 t⟩

/-- The heads of a point's block side by side. -/
abbrev blockHeads (t : Fin cfg0.N) : FVec Ideal S256x512 .f32 :=
  k0_pay6 (View.ld (iblk m c 2 t) (Rect.unit (s := S1x8x256x64) ![0, 0, 0, 0] S1x1x256x64.size inb_S1x8x256x64_S1x1x256x64_0_0_0_0)) (View.ld (iblk m c 2 t) (Rect.unit (s := S1x8x256x64) ![0, 1, 0, 0] S1x1x256x64.size inb_S1x8x256x64_S1x1x256x64_0_1_0_0)) (View.ld (iblk m c 2 t) (Rect.unit (s := S1x8x256x64) ![0, 2, 0, 0] S1x1x256x64.size inb_S1x8x256x64_S1x1x256x64_0_2_0_0)) (View.ld (iblk m c 2 t) (Rect.unit (s := S1x8x256x64) ![0, 3, 0, 0] S1x1x256x64.size inb_S1x8x256x64_S1x1x256x64_0_3_0_0)) (View.ld (iblk m c 2 t) (Rect.unit (s := S1x8x256x64) ![0, 4, 0, 0] S1x1x256x64.size inb_S1x8x256x64_S1x1x256x64_0_4_0_0)) (View.ld (iblk m c 2 t) (Rect.unit (s := S1x8x256x64) ![0, 5, 0, 0] S1x1x256x64.size inb_S1x8x256x64_S1x1x256x64_0_5_0_0)) (View.ld (iblk m c 2 t) (Rect.unit (s := S1x8x256x64) ![0, 6, 0, 0] S1x1x256x64.size inb_S1x8x256x64_S1x1x256x64_0_6_0_0)) (View.ld (iblk m c 2 t) (Rect.unit (s := S1x8x256x64) ![0, 7, 0, 0] S1x1x256x64.size inb_S1x8x256x64_S1x1x256x64_0_7_0_0))

/-- A point's tokens. -/
abbrev blockRows (t : Fin cfg0.N) : Fin 256 → Row :=
  rowAt (R := 256) (iblk m c 0 t) (iblk m c 1 t) (fun r k => blockHeads m c t (ix2 r k)) (iblk m c 3 t) (iblk m c 4 t)

theorem blocks_eq (t : Fin cfg0.N) : blocks m c t = weights m c := by
  have h5 : iblk m c 5 t = m ((c : Thread nD τ).loc main_arg5) := by
    funext i
    blk_point [iblk, V, index t]
  have h6 : iblk m c 6 t = m ((c : Thread nD τ).loc main_arg6) := by
    funext i
    blk_point [iblk, V, index t]
  have h7 : iblk m c 7 t = m ((c : Thread nD τ).loc main_arg7) := by
    funext i
    blk_point [iblk, V, index t]
  have h8 : iblk m c 8 t = m ((c : Thread nD τ).loc main_arg8) := by
    funext i
    blk_point [iblk, V, index t]
  rw [blocks, h5, h6, h7, h8]

/-- The row of the whole array at a row of a point's block. -/
abbrev at256 (t : Fin cfg0.N) (r : Fin 256) : Fin 8192 :=
  ⟨t.val * 256 + r.val, by have h : t.val < 32 := t.isLt; omega⟩

theorem block_heads (t : Fin cfg0.N) (r : Fin 256) (k : Fin 512) :
    blockHeads m c t (ix2 r k) = heads (m ((c : Thread nD τ).loc main_arg2)) (at256 t r) k := by
  refine (kernel_heads (iblk m c 2 t) r k).trans ?_
  blk_point [iblk, V, index t, heads]

theorem block_row (t : Fin cfg0.N) (r : Fin 256) : blockRows m c t r = tokens m c (at256 t r) := by
  have h0 : row (R := 256) (iblk m c 0 t) r = row (R := 8192) (m ((c : Thread nD τ).loc main_arg0)) (at256 t r) := by
    funext k
    blk_point [row, iblk, V, index t]
  have h1 : (fun k : Fin 512 => iblk m c 1 t (ix2 r k)) = fun k => (m ((c : Thread nD τ).loc main_arg1)) (ix2 (at256 t r) k) := by
    funext k
    blk_point [iblk, V, index t]
  have h3 : row (R := 256) (iblk m c 3 t) r = row (R := 8192) (m ((c : Thread nD τ).loc main_arg3)) (at256 t r) := by
    funext k
    blk_point [row, iblk, V, index t]
  have h4 : row (R := 256) (iblk m c 4 t) r = row (R := 8192) (m ((c : Thread nD τ).loc main_arg4)) (at256 t r) := by
    funext k
    blk_point [row, iblk, V, index t]
  rw [Row.mk.injEq]
  exact ⟨h0, h1, funext (block_heads m c t r), h3, h4⟩

theorem of_block {n : Nat} (f : Params → Row → Fin n → EReal) (t : Fin cfg0.N) (r : Fin 256) (k : Fin n) :
    f (blocks m c t) (blockRows m c t r) k = f (weights m c) (tokens m c (at256 t r)) k := by
  rw [blocks_eq, block_row]

/-- The points' sums over their rows make the sum over all rows. -/
theorem of_blocks {n : Nat} (f : Params → Row → Fin n → EReal) (t : Fin cfg0.N) (h : ∀ s : Fin 32, 32 * (t.val / 32) + s.val < cfg0.N) (k : Fin n) :
    (0 : EReal) + ∑ s : Fin 32, ∑ r : Fin 256, f (blocks m c ⟨_, h s⟩) (blockRows m c ⟨_, h s⟩ r) k
      = ∑ r : Fin 8192, f (weights m c) (tokens m c r) k := by
  refine (zero_add (_ : EReal)).trans (Fin.sum_mul_add_congr (f := fun l => _) fun s l hl => ?_)
  rw [of_block m c f]
  have ht : t.val < 32 := t.isLt
  have e : at256 ⟨_, h s⟩ l = ⟨s.val * 256 + l.val, hl⟩ := Fin.ext (by simp only; omega)
  rw [e]

theorem outs_mixers (t : Fin cfg0.N) (r : Fin 256) (k : Fin 512) :
    (outsAt0 m c t.val t.isLt).1 (ix2 r k) = each (blocks m c t) (blockRows m c t) .bf16 (fun _ => scaled) (ix2 r k)
      ∧ (outsAt0 m c t.val t.isLt).2.2.2.2.2.2.1 (ix2 r k) = each (blocks m c t) (blockRows m c t) .bf16 gradFirst (ix2 r k)
      ∧ (outsAt0 m c t.val t.isLt).2.2.2.2.2.2.2.2.1 (ix2 r k) = each (blocks m c t) (blockRows m c t) .f32 gradScale (ix2 r k) := by
  have hN : t.val < 32 := t.isLt
  by_cases h : t.val % 32 = 0
  · rw [outsAt0_A m c t h (by omega) h (by omega)]
    frame_out
    exact ⟨pay_scaled .., pay_gradFirst .., pay_gradScale ..⟩
  · rw [outsAt0_B m c t h (by omega) h (by omega)]
    frame_out
    exact ⟨pay_scaled .., pay_gradFirst .., pay_gradScale ..⟩

theorem outs_branches (t : Fin cfg0.N) (r : Fin 256) (k : Fin 1024) :
    (outsAt0 m c t.val t.isLt).2.1 (ix2 r k) = each (blocks m c t) (blockRows m c t) .bf16 mixed (ix2 r k)
      ∧ (outsAt0 m c t.val t.isLt).2.2.1 (ix2 r k) = each (blocks m c t) (blockRows m c t) .bf16 gradProduct (ix2 r k)
      ∧ (outsAt0 m c t.val t.isLt).2.2.2.1 (ix2 r k) = each (blocks m c t) (blockRows m c t) .bf16 gradBranch (ix2 r k)
      ∧ (outsAt0 m c t.val t.isLt).2.2.2.2.1 (ix2 r k) = each (blocks m c t) (blockRows m c t) .bf16 gradBranch' (ix2 r k) := by
  have hN : t.val < 32 := t.isLt
  by_cases h : t.val % 32 = 0
  · rw [outsAt0_A m c t h (by omega) h (by omega)]
    frame_out
    exact ⟨pay_mixed .., pay_gradProduct .., pay_gradBranch .., pay_gradBranch' ..⟩
  · rw [outsAt0_B m c t h (by omega) h (by omega)]
    frame_out
    exact ⟨pay_mixed .., pay_gradProduct .., pay_gradBranch .., pay_gradBranch' ..⟩

theorem outs_gates (t : Fin cfg0.N) (r : Fin 256) (k : Fin 2048) :
    (outsAt0 m c t.val t.isLt).2.2.2.2.2.1 (ix2 r k) = each (blocks m c t) (blockRows m c t) .bf16 gradGates (ix2 r k) := by
  have hN : t.val < 32 := t.isLt
  by_cases h : t.val % 32 = 0
  · rw [outsAt0_A m c t h (by omega) h (by omega)]
    frame_out
    exact pay_gradGates ..
  · rw [outsAt0_B m c t h (by omega) h (by omega)]
    frame_out
    exact pay_gradGates ..

/-- What is stored head by head, read back. -/
theorem heads_piece (v : FVec Ideal S256x512 .f32) (a : Fin 8) (r : Fin 256) (k : Fin 64) :
    View.canon (Val := Elt Ideal) (s := S1x8x256x64) (e := .f32) [⟨Rect.unit (s := S1x8x256x64) ![0, 7, 0, 0] S1x1x256x64.size inb_S1x8x256x64_S1x1x256x64_0_7_0_0, k0_pay1 (k0_pay34 v)⟩,
        ⟨Rect.unit (s := S1x8x256x64) ![0, 6, 0, 0] S1x1x256x64.size inb_S1x8x256x64_S1x1x256x64_0_6_0_0, k0_pay33 v⟩,
        ⟨Rect.unit (s := S1x8x256x64) ![0, 5, 0, 0] S1x1x256x64.size inb_S1x8x256x64_S1x1x256x64_0_5_0_0, k0_pay32 v⟩,
        ⟨Rect.unit (s := S1x8x256x64) ![0, 4, 0, 0] S1x1x256x64.size inb_S1x8x256x64_S1x1x256x64_0_4_0_0, k0_pay31 v⟩,
        ⟨Rect.unit (s := S1x8x256x64) ![0, 3, 0, 0] S1x1x256x64.size inb_S1x8x256x64_S1x1x256x64_0_3_0_0, k0_pay30 v⟩,
        ⟨Rect.unit (s := S1x8x256x64) ![0, 2, 0, 0] S1x1x256x64.size inb_S1x8x256x64_S1x1x256x64_0_2_0_0, k0_pay29 v⟩,
        ⟨Rect.unit (s := S1x8x256x64) ![0, 1, 0, 0] S1x1x256x64.size inb_S1x8x256x64_S1x1x256x64_0_1_0_0, k0_pay28 v⟩,
        ⟨Rect.unit (s := S1x8x256x64) ![0, 0, 0, 0] S1x1x256x64.size inb_S1x8x256x64_S1x1x256x64_0_0_0_0, k0_pay27 (extractStridedSlice S256x64 ![0, 0] v slices_S256x512_o0_0_S256x64)⟩]
      (ix4 0 a r k) = v (ix2 r ⟨a.val * 64 + k.val, by omega⟩) := by
  canon_tiles x h
  all_goals
    obtain rfl : x = ix4 0 0 r k := by
      funext b
      fin_cases b <;> refine Fin.ext ?_ <;> simp_all <;> omega
    pointwise [k0_pay1, k0_pay34, k0_pay27, k0_pay28, k0_pay29, k0_pay30, k0_pay31, k0_pay32, k0_pay33]
    have ha : a.val = _ := h1
    have hz : ((ix4 (0 : Fin 1) (0 : Fin 1) r k 1 : Fin 1) : Nat) = 0 := rfl
    rw [hz] at ha
    refine congrArg (fun i => v (ix2 r i)) (Fin.ext ?_)
    simp only
    omega

theorem outs_heads (t : Fin cfg0.N) (a : Fin 8) (r : Fin 256) (k : Fin 64) :
    (outsAt0 m c t.val t.isLt).2.2.2.2.2.2.2.1 (ix4 0 a r k) = gradSecond (blocks m c t) (blockRows m c t r) ⟨a.val * 64 + k.val, by omega⟩ := by
  have hN : t.val < 32 := t.isLt
  by_cases h : t.val % 32 = 0
  · rw [outsAt0_A m c t h (by omega) h (by omega)]
    frame_out
    exact (heads_piece ..).trans (pay_gradSecond ..)
  · rw [outsAt0_B m c t h (by omega) h (by omega)]
    frame_out
    exact (heads_piece ..).trans (pay_gradSecond ..)

/-- A point's part of the gradients of the gain and of the gates' bias. -/
abbrev gainPart (t : Fin cfg0.N) : FVec Ideal ⟨2, ![1, 1024]⟩ .f32 := total (blocks m c t) (blockRows m c t) gradGain

abbrev biasPart (t : Fin cfg0.N) : FVec Ideal ⟨2, ![1, 2048]⟩ .f32 := total (blocks m c t) (blockRows m c t) gradGates

theorem outs_first (t : Fin cfg0.N) (h : t.val % 32 = 0) : (outsAt0 m c t.val t.isLt).2.2.2.2.2.2.2.2.2.1 = gainPart m c t ∧ (outsAt0 m c t.val t.isLt).2.2.2.2.2.2.2.2.2.2 = biasPart m c t := by
  have hN : t.val < 32 := t.isLt
  rw [outsAt0_A m c t h (by omega) h (by omega)]
  refine ⟨funext fun y => ?_, funext fun y => ?_⟩ <;> obtain ⟨r, k, rfl⟩ := eta y <;> obtain rfl : r = 0 := Subsingleton.elim _ _ <;> frame_out
  · exact pay_gradGain ..
  · exact pay_gradBias ..

theorem outs_next (t : Fin cfg0.N) (h : ¬t.val % 32 = 0) :
    (∀ y, (outsAt0 m c t.val t.isLt).2.2.2.2.2.2.2.2.2.1 y = ((outsAt0 m c (t.val - 1) (Nat.lt_of_le_of_lt (Nat.sub_le _ _) t.isLt)).2.2.2.2.2.2.2.2.2.1 y + gainPart m c t y : EReal))
    ∧ ∀ y, (outsAt0 m c t.val t.isLt).2.2.2.2.2.2.2.2.2.2 y = ((outsAt0 m c (t.val - 1) (Nat.lt_of_le_of_lt (Nat.sub_le _ _) t.isLt)).2.2.2.2.2.2.2.2.2.2 y + biasPart m c t y : EReal) := by
  have hN : t.val < 32 := t.isLt
  rw [outsAt0_B m c t h (by omega) h (by omega)]
  refine ⟨fun y => ?_, fun y => ?_⟩ <;> obtain ⟨r, k, rfl⟩ := eta y <;> obtain rfl : r = 0 := Subsingleton.elim _ _ <;> frame_out
  · pointwise [k0_pay3]
    exact congrArg (fun z : EReal => _ + z) (pay_gradGain ..)
  · pointwise [k0_pay5]
    exact congrArg (fun z : EReal => _ + z) (pay_gradBias ..)

theorem final_scaled : (dats m 0 c).arrAt 9 cfg0.N = each (weights m c) (tokens m c) .bf16 (fun _ => scaled) := by
  refine (dats m 0 c).arrAt_eq_of_covers 9 _ (by decide +kernel) fun t hf y => ?_
  blk_simp
  obtain ⟨r, k, rfl⟩ : ∃ (r : Fin 256) (k : Fin 512), y = ix2 r k := eta y
  have at_y : ((View.whole main_v0_0).slice (win0_9.rect t)).emb (ix2 r k) = ix2 (at256 t r) k := by
    blk_point [index t]
  rw [after0_9, (outs_mixers m c t r k).1, at_y]
  exact of_block m c (fun _ => scaled) t r k

theorem final_gradFirst : (dats m 0 c).arrAt 15 cfg0.N = each (weights m c) (tokens m c) .bf16 gradFirst := by
  refine (dats m 0 c).arrAt_eq_of_covers 15 _ (by decide +kernel) fun t hf y => ?_
  blk_simp
  obtain ⟨r, k, rfl⟩ : ∃ (r : Fin 256) (k : Fin 512), y = ix2 r k := eta y
  have at_y : ((View.whole main_v0_6).slice (win0_15.rect t)).emb (ix2 r k) = ix2 (at256 t r) k := by
    blk_point [index t]
  rw [after0_15, (outs_mixers m c t r k).2.1, at_y]
  exact of_block m c gradFirst t r k

theorem final_gradScale : (dats m 0 c).arrAt 17 cfg0.N = each (weights m c) (tokens m c) .f32 gradScale := by
  refine (dats m 0 c).arrAt_eq_of_covers 17 _ (by decide +kernel) fun t hf y => ?_
  blk_simp
  obtain ⟨r, k, rfl⟩ : ∃ (r : Fin 256) (k : Fin 512), y = ix2 r k := eta y
  have at_y : ((View.whole main_v0_8).slice (win0_17.rect t)).emb (ix2 r k) = ix2 (at256 t r) k := by
    blk_point [index t]
  rw [after0_17, (outs_mixers m c t r k).2.2, at_y]
  exact of_block m c gradScale t r k

theorem final_mixed : (dats m 0 c).arrAt 10 cfg0.N = each (weights m c) (tokens m c) .bf16 mixed := by
  refine (dats m 0 c).arrAt_eq_of_covers 10 _ (by decide +kernel) fun t hf y => ?_
  blk_simp
  obtain ⟨r, k, rfl⟩ : ∃ (r : Fin 256) (k : Fin 1024), y = ix2 r k := eta y
  have at_y : ((View.whole main_v0_1).slice (win0_10.rect t)).emb (ix2 r k) = ix2 (at256 t r) k := by
    blk_point [index t]
  rw [after0_10, (outs_branches m c t r k).1, at_y]
  exact of_block m c mixed t r k

theorem final_gradProduct : (dats m 0 c).arrAt 11 cfg0.N = each (weights m c) (tokens m c) .bf16 gradProduct := by
  refine (dats m 0 c).arrAt_eq_of_covers 11 _ (by decide +kernel) fun t hf y => ?_
  blk_simp
  obtain ⟨r, k, rfl⟩ : ∃ (r : Fin 256) (k : Fin 1024), y = ix2 r k := eta y
  have at_y : ((View.whole main_v0_2).slice (win0_11.rect t)).emb (ix2 r k) = ix2 (at256 t r) k := by
    blk_point [index t]
  rw [after0_11, (outs_branches m c t r k).2.1, at_y]
  exact of_block m c gradProduct t r k

theorem final_gradBranch : (dats m 0 c).arrAt 12 cfg0.N = each (weights m c) (tokens m c) .bf16 gradBranch := by
  refine (dats m 0 c).arrAt_eq_of_covers 12 _ (by decide +kernel) fun t hf y => ?_
  blk_simp
  obtain ⟨r, k, rfl⟩ : ∃ (r : Fin 256) (k : Fin 1024), y = ix2 r k := eta y
  have at_y : ((View.whole main_v0_3).slice (win0_12.rect t)).emb (ix2 r k) = ix2 (at256 t r) k := by
    blk_point [index t]
  rw [after0_12, (outs_branches m c t r k).2.2.1, at_y]
  exact of_block m c gradBranch t r k

theorem final_gradBranch' : (dats m 0 c).arrAt 13 cfg0.N = each (weights m c) (tokens m c) .bf16 gradBranch' := by
  refine (dats m 0 c).arrAt_eq_of_covers 13 _ (by decide +kernel) fun t hf y => ?_
  blk_simp
  obtain ⟨r, k, rfl⟩ : ∃ (r : Fin 256) (k : Fin 1024), y = ix2 r k := eta y
  have at_y : ((View.whole main_v0_4).slice (win0_13.rect t)).emb (ix2 r k) = ix2 (at256 t r) k := by
    blk_point [index t]
  rw [after0_13, (outs_branches m c t r k).2.2.2, at_y]
  exact of_block m c gradBranch' t r k

theorem final_gradGates : (dats m 0 c).arrAt 14 cfg0.N = each (weights m c) (tokens m c) .bf16 gradGates := by
  refine (dats m 0 c).arrAt_eq_of_covers 14 _ (by decide +kernel) fun t hf y => ?_
  blk_simp
  obtain ⟨r, k, rfl⟩ : ∃ (r : Fin 256) (k : Fin 2048), y = ix2 r k := eta y
  have at_y : ((View.whole main_v0_5).slice (win0_14.rect t)).emb (ix2 r k) = ix2 (at256 t r) k := by
    blk_point [index t]
  rw [after0_14, outs_gates m c t r k, at_y]
  exact of_block m c gradGates t r k

theorem final_gradSecond : (dats m 0 c).arrAt 16 cfg0.N = inHeads (weights m c) (tokens m c) gradSecond := by
  refine (dats m 0 c).arrAt_eq_of_covers 16 _ (by decide +kernel) fun t hf y => ?_
  blk_simp
  obtain ⟨z, a, r, k, rfl⟩ : ∃ (z : Fin 1) (a : Fin 8) (r : Fin 256) (k : Fin 64), y = ix4 z a r k :=
    ⟨y 0, y 1, y 2, y 3, by ext a; fin_cases a <;> rfl⟩
  obtain rfl : z = 0 := Subsingleton.elim _ _
  have ht : t.val < 32 := t.isLt
  have at_y : ((View.whole main_v0_7).slice (win0_16.rect t)).emb (ix4 0 a r k)
      = ix4 ⟨t.val / 8, by omega⟩ a ⟨t.val % 8 * 256 + r.val, by omega⟩ k := by
    blk_point [index t]
  rw [after0_16, outs_heads m c t a r k, at_y, of_block m c gradSecond]
  exact congrArg (fun s => gradSecond (weights m c) (tokens m c s) _) (Fin.ext (by simp; omega))

theorem final_gradGain : (dats m 0 c).arrAt 18 cfg0.N = total (weights m c) (tokens m c) gradGain := by
  refine (dats m 0 c).arrAt_eq_of_covers 18 _ (by decide +kernel) fun t hf y => ?_
  blk_simp
  obtain ⟨r, k, rfl⟩ : ∃ (r : Fin 1) (k : Fin 1024), y = ix2 r k := eta y
  have at_y : ((View.whole main_v0_9).slice (win0_18.rect t)).emb (ix2 r k) = ix2 r k := by
    blk_point [index t]
  rw [after0_18, Pipeline.eq_sum_fin_of_reset_step_apply_of_flush (fun n h => (outsAt0 m c n h).2.2.2.2.2.2.2.2.2.1) 32 (fun _ => (0 : EReal)) (gainPart m c)
    (fun t h j => by rw [(outs_first m c t h).1, zero_add]) (fun t h => (outs_next m c t h).1) t ((flush0_18 t).mp hf), at_y]
  exact of_blocks m c gradGain t _ k

theorem final_gradBias : (dats m 0 c).arrAt 19 cfg0.N = total (weights m c) (tokens m c) gradGates := by
  refine (dats m 0 c).arrAt_eq_of_covers 19 _ (by decide +kernel) fun t hf y => ?_
  blk_simp
  obtain ⟨r, k, rfl⟩ : ∃ (r : Fin 1) (k : Fin 2048), y = ix2 r k := eta y
  have at_y : ((View.whole main_v0_10).slice (win0_19.rect t)).emb (ix2 r k) = ix2 r k := by
    blk_point [index t]
  rw [after0_19, Pipeline.eq_sum_fin_of_reset_step_apply_of_flush (fun n h => (outsAt0 m c n h).2.2.2.2.2.2.2.2.2.2) 32 (fun _ => (0 : EReal)) (biasPart m c)
    (fun t h j => by rw [(outs_first m c t h).2, zero_add]) (fun t h => (outs_next m c t h).2) t ((flush0_19 t).mp hf), at_y]
  exact of_blocks m c gradGates t _ k

omit m c

theorem frame_kernel : Cert.quiescent_MergeBack := fun m ρ _ => Cert.MergeBack.Gen.frame (F := Bits) m ρ

theorem frame_ideal : Cert.quiescent_MergeBackIdeal := fun m ρ _ => Gen.frame (F := Ideal) m ρ

theorem frame_reference : Cert.quiescent_MergeBackRef := fun m ρ _ =>
  (θ_run Cert.MergeBackRefIdeal.defs _ _).mono
    (fun r h => ⟨fun c => (h c).2.2.2.2.2.2.2.2.2.2.2, sem_eq_zero_of_no_sems (by decide) r.2⟩) (Cert.MergeBackRefIdeal.Value.run (F := Bits) m ρ)

theorem frame_reference_ideal : Cert.quiescent_MergeBackRefIdeal := fun m ρ _ =>
  (θ_run Cert.MergeBackRefIdeal.defs _ _).mono
    (fun r h => ⟨fun c => (h c).2.2.2.2.2.2.2.2.2.2.2, sem_eq_zero_of_no_sems (by decide) r.2⟩) (Cert.MergeBackRefIdeal.Value.run (F := Ideal) m ρ)

theorem algebraic : Cert.algebraic_MergeBackIdeal_MergeBackRefIdeal := fun m g m' g' _ h =>
  ⟨fun c => each (weights m c) (tokens m c) .bf16 (fun _ => scaled),
    fun c => each (weights m c) (tokens m c) .bf16 mixed,
    fun c => each (weights m c) (tokens m c) .bf16 gradProduct,
    fun c => each (weights m c) (tokens m c) .bf16 gradBranch,
    fun c => each (weights m c) (tokens m c) .bf16 gradBranch',
    fun c => each (weights m c) (tokens m c) .bf16 gradGates,
    fun c => each (weights m c) (tokens m c) .bf16 gradFirst,
    fun c => inHeads (weights m c) (tokens m c) gradSecond,
    fun c => each (weights m c) (tokens m c) .f32 gradScale,
    fun c => total (weights m c) (tokens m c) gradGain,
    fun c => total (weights m c) (tokens m c) gradGates,
    (θ_run defs _ _).mono (fun _ hr c => by
      have hc := hr c
      rw [final_scaled, final_mixed, final_gradProduct, final_gradBranch, final_gradBranch', final_gradGates, final_gradFirst, final_gradSecond, final_gradScale, final_gradGain, final_gradBias] at hc
      exact hc) (Value.run_blocks m g),
    (θ_run Cert.MergeBackRefIdeal.defs _ _).mono (fun _ hr c => by
      obtain ⟨h0, h1, h2, h3, h4, h5, h6, h7, h8⟩ := h c
      obtain ⟨a0, a1, a2, a3, a4, a5, a6, a7, a8, a9, a10, kept⟩ := hr c
      have hp : params m' c = weights m c := by
        rw [params, h5, h6, h7, h8]
      have hq : rows m' c = tokens m c := by
        rw [rows, h0, h1, h2, h3, h4]
      have b0 := a0.trans (res_scaled m' c)
      have b1 := a1.trans (res_mixed m' c)
      have b2 := a2.trans (res_gradProduct m' c)
      have b3 := a3.trans (res_gradBranch m' c)
      have b4 := a4.trans (res_gradBranch' m' c)
      have b5 := a5.trans (res_gradGates m' c)
      have b6 := a6.trans (res_gradFirst m' c)
      have b7 := a7.trans (res_gradSecond m' c)
      have b8 := a8.trans (res_gradScale m' c)
      have b9 := a9.trans (res_gradGain m' c)
      have b10 := a10.trans (res_gradBias m' c)
      rw [hp, hq] at b0 b1 b2 b3 b4 b5 b6 b7 b8 b9 b10
      exact ⟨b0, b1, b2, b3, b4, b5, b6, b7, b8, b9, b10, kept⟩) (Cert.MergeBackRefIdeal.Value.run (F := Ideal) m' g')⟩

end Cert.Step.MergeBack

end
-- ==== Proof.Step.Adam.lean ====
/-
One step of the optimiser on arrays of any shape: a kernel's element-by-element formula and the formula over whole arrays are the same.
-/
module

public import Idealize.ShloMosaic.PureOps.Ideal
public import Idealize.ShloMosaic.PureOps.Vector
public import Idealize.ShloMosaic.PureOps.ShapeOps

@[expose] public section

noncomputable section

namespace Cert.Step

open Idealize.ShloMosaic

variable {F : FTy → Type} [FloatOps F] {s : Shape}

/-- A number repeated over a whole array. -/
abbrev all (h : (⟨0, ![]⟩ : Shape).BroadcastsInDim s (![] : Fin 0 → Fin s.rank)) (w : BitVec 32) : FVec F s .f32 :=
  broadcastInDim s ![] h (constant ⟨0, ![]⟩ .f32 w)

/-- The running mean of the gradient at one element, -/
abbrev mean (g m : F .f32) : F .f32 :=
  FloatOps.addf (FloatOps.mulf (Scalar.ofBits .f32 0x3F666666#32) m) (FloatOps.mulf (Scalar.ofBits .f32 0x3DCCCCCD#32) g)

/-- the running mean of its square, -/
abbrev square (g v : F .f32) : F .f32 :=
  FloatOps.addf (FloatOps.mulf (Scalar.ofBits .f32 0x3F7FBE77#32) v)
    (FloatOps.mulf (Scalar.ofBits .f32 0x3A83126F#32) (FloatOps.mulf g g))

/-- and the change of the weight. -/
abbrev change (w g m v : F .f32) : F .f32 :=
  FloatOps.mulf (Scalar.ofBits .f32 0xBA83126F#32)
    (FloatOps.addf
      (FloatOps.divf (FloatOps.divf (mean g m) (Scalar.ofBits .f32 0x3F26BD02#32))
        (FloatOps.addf (FloatOps.sqrt (FloatOps.divf (square g v) (Scalar.ofBits .f32 0x3C231ACC#32))) (Scalar.ofBits .f32 0x322BCC77#32)))
      (FloatOps.mulf (Scalar.ofBits .f32 0x3C23D70A#32) w))

variable (h : (⟨0, ![]⟩ : Shape).BroadcastsInDim s (![] : Fin 0 → Fin s.rank))

/-- The three over whole arrays, as the plain formula writes them. -/
abbrev means (g m : FVec F s .f32) : FVec F s .f32 := addf (mulf (all h 0x3F666666#32) m) (mulf (all h 0x3DCCCCCD#32) g)

abbrev squares (g v : FVec F s .f32) : FVec F s .f32 :=
  addf (mulf (all h 0x3F7FBE77#32) v) (mulf (all h 0x3A83126F#32) (mulf g g))

abbrev changes (w g m v : FVec F s .f32) : FVec F s .f32 :=
  mulf (all h 0xBA83126F#32)
    (addf
      (Host.divf (Host.divf (means h g m) (all h 0x3F26BD02#32))
        (addf (Host.sqrt (Host.divf (squares h g v) (all h 0x3C231ACC#32))) (all h 0x322BCC77#32)))
      (mulf (all h 0x3C23D70A#32) w))

theorem means_eq (g m : FVec F s .f32) : means h g m = fun i => mean (g i) (m i) := rfl

theorem squares_eq (g v : FVec F s .f32) : squares h g v = fun i => square (g i) (v i) := rfl

/-- Over the extended reals a division and a root are the same on the host and in a kernel. -/
theorem changes_eq (w g m v : FVec Ideal s .f32) : changes h w g m v = fun i => change (F := Ideal) (w i) (g i) (m i) (v i) := rfl

/-- From equal arguments, whole-array formulas leave what the element-by-element formulas leave. -/
theorem agree {w g m v w' g' m' v' d a b : FVec Ideal s .f32} {rest : Prop} (e : w' = w ∧ g' = g ∧ m' = m ∧ v' = v)
    (r : d = changes h w' g' m' v' ∧ a = means h g' m' ∧ b = squares h g' v' ∧ rest) :
    (d = fun i => change (F := Ideal) (w i) (g i) (m i) (v i)) ∧ (a = fun i => mean (F := Ideal) (g i) (m i))
      ∧ (b = fun i => square (F := Ideal) (g i) (v i)) ∧ rest := by
  obtain ⟨rfl, rfl, rfl, rfl⟩ := e
  exact ⟨r.1.trans (changes_eq h _ _ _ _), r.2.1.trans (means_eq h _ _), r.2.2.1.trans (squares_eq h _ _), r.2.2.2⟩

end Cert.Step

end
-- ==== Proof.Step.Weights.lean ====
/-
The claims about the optimiser's step on each shape of sharded weight: both programs run and leave their arguments as they were, and they agree.
-/
module

public import proofs.«01_k».proof.Defs
public import proofs.«01_k».proof.Proof.Step.Adam
public import proofs.«01_k».proof.Proof.Gen.AdamIn.Frame
public import proofs.«01_k».proof.Proof.Gen.AdamInRef
public import proofs.«01_k».proof.Proof.Gen.AdamInIdeal.Value
public import proofs.«01_k».proof.Proof.Gen.AdamInRefIdeal.Run
public import proofs.«01_k».proof.Proof.Gen.AdamUp.Frame
public import proofs.«01_k».proof.Proof.Gen.AdamUpRef
public import proofs.«01_k».proof.Proof.Gen.AdamUpIdeal.Value
public import proofs.«01_k».proof.Proof.Gen.AdamUpRefIdeal.Run
public import proofs.«01_k».proof.Proof.Gen.AdamGateUp.Frame
public import proofs.«01_k».proof.Proof.Gen.AdamGateUpRef
public import proofs.«01_k».proof.Proof.Gen.AdamGateUpIdeal.Value
public import proofs.«01_k».proof.Proof.Gen.AdamGateUpRefIdeal.Run
public import proofs.«01_k».proof.Proof.Gen.AdamOut.Frame
public import proofs.«01_k».proof.Proof.Gen.AdamOutRef
public import proofs.«01_k».proof.Proof.Gen.AdamOutIdeal.Value
public import proofs.«01_k».proof.Proof.Gen.AdamOutRefIdeal.Run
public import proofs.«01_k».proof.Proof.Gen.AdamO.Frame
public import proofs.«01_k».proof.Proof.Gen.AdamORef
public import proofs.«01_k».proof.Proof.Gen.AdamOIdeal.Value
public import proofs.«01_k».proof.Proof.Gen.AdamORefIdeal.Run
public import proofs.«01_k».proof.Proof.Gen.AdamFfnUp.Frame
public import proofs.«01_k».proof.Proof.Gen.AdamFfnUpRef
public import proofs.«01_k».proof.Proof.Gen.AdamFfnUpIdeal.Value
public import proofs.«01_k».proof.Proof.Gen.AdamFfnUpRefIdeal.Run
public import proofs.«01_k».proof.Proof.Gen.AdamFfnDown.Frame
public import proofs.«01_k».proof.Proof.Gen.AdamFfnDownRef
public import proofs.«01_k».proof.Proof.Gen.AdamFfnDownIdeal.Value
public import proofs.«01_k».proof.Proof.Gen.AdamFfnDownRefIdeal.Run
public import Idealize.ShloMosaic.Lib.Quiescent

@[expose] public section

noncomputable section

namespace Cert.Step

open Idealize.ShloMosaic Idealize.ShloMosaic.TcCoe Idealize.SL.Sem

namespace AdamIn

/-! The shape of the input projection. -/

theorem frame_kernel : Cert.quiescent_AdamIn := fun m ρ _ => Cert.AdamIn.Gen.frame (F := Bits) m ρ

theorem frame_ideal : Cert.quiescent_AdamInIdeal := fun m ρ _ => Cert.AdamInIdeal.Gen.frame (F := Ideal) m ρ

theorem frame_reference : Cert.quiescent_AdamInRef := fun m ρ _ =>
  (θ_run Cert.AdamInRefIdeal.defs _ _).mono (fun r h => ⟨fun c => (h c).2.2.2, sem_eq_zero_of_no_sems (by decide) r.2⟩)
    (Cert.AdamInRefIdeal.Value.run (F := Bits) m ρ)

theorem frame_reference_ideal : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)

theorem algebraic : Cert.algebraic_AdamInIdeal_AdamInRefIdeal := fun m g m' g' _ h =>
  ⟨_, _, _, Cert.AdamInIdeal.Value.run (F := Ideal) m g, (θ_run Cert.AdamInRefIdeal.defs _ _).mono (fun _ r c => agree _ (h c) (r c))
    (Cert.AdamInRefIdeal.Value.run (F := Ideal) m' g')⟩

end AdamIn

namespace AdamUp

/-! The shape of the square low-rank weights. -/

theorem frame_kernel : Cert.quiescent_AdamUp := fun m ρ _ => Cert.AdamUp.Gen.frame (F := Bits) m ρ

theorem frame_ideal : Cert.quiescent_AdamUpIdeal := fun m ρ _ => Cert.AdamUpIdeal.Gen.frame (F := Ideal) m ρ

theorem frame_reference : Cert.quiescent_AdamUpRef := fun m ρ _ =>
  (θ_run Cert.AdamUpRefIdeal.defs _ _).mono (fun r h => ⟨fun c => (h c).2.2.2, sem_eq_zero_of_no_sems (by decide) r.2⟩)
    (Cert.AdamUpRefIdeal.Value.run (F := Bits) m ρ)

theorem frame_reference_ideal : Cert.quiescent_AdamUpRefIdeal := fun m ρ _ =>
  (θ_run Cert.AdamUpRefIdeal.defs _ _).mono (fun r h => ⟨fun c => (h c).2.2.2, sem_eq_zero_of_no_sems (by decide) r.2⟩)
    (Cert.AdamUpRefIdeal.Value.run (F := Ideal) m ρ)

theorem algebraic : Cert.algebraic_AdamUpIdeal_AdamUpRefIdeal := fun m g m' g' _ h =>
  ⟨_, _, _, Cert.AdamUpIdeal.Value.run (F := Ideal) m g, (θ_run Cert.AdamUpRefIdeal.defs _ _).mono (fun _ r c => agree _ (h c) (r c))
    (Cert.AdamUpRefIdeal.Value.run (F := Ideal) m' g')⟩

end AdamUp

namespace AdamGateUp

/-! The shape of the gate's low-rank weight. -/

theorem frame_kernel : Cert.quiescent_AdamGateUp := fun m ρ _ => Cert.AdamGateUp.Gen.frame (F := Bits) m ρ

theorem frame_ideal : Cert.quiescent_AdamGateUpIdeal := fun m ρ _ => Cert.AdamGateUpIdeal.Gen.frame (F := Ideal) m ρ

theorem frame_reference : Cert.quiescent_AdamGateUpRef := fun m ρ _ =>
  (θ_run Cert.AdamGateUpRefIdeal.defs _ _).mono (fun r h => ⟨fun c => (h c).2.2.2, sem_eq_zero_of_no_sems (by decide) r.2⟩)
    (Cert.AdamGateUpRefIdeal.Value.run (F := Bits) m ρ)

theorem frame_reference_ideal : Cert.quiescent_AdamGateUpRefIdeal := fun m ρ _ =>
  (θ_run Cert.AdamGateUpRefIdeal.defs _ _).mono (fun r h => ⟨fun c => (h c).2.2.2, sem_eq_zero_of_no_sems (by decide) r.2⟩)
    (Cert.AdamGateUpRefIdeal.Value.run (F := Ideal) m ρ)

theorem algebraic : Cert.algebraic_AdamGateUpIdeal_AdamGateUpRefIdeal := fun m g m' g' _ h =>
  ⟨_, _, _, Cert.AdamGateUpIdeal.Value.run (F := Ideal) m g, (θ_run Cert.AdamGateUpRefIdeal.defs _ _).mono (fun _ r c => agree _ (h c) (r c))
    (Cert.AdamGateUpRefIdeal.Value.run (F := Ideal) m' g')⟩

end AdamGateUp

namespace AdamOut

/-! The shape of the two branches' output weights. -/

theorem frame_kernel : Cert.quiescent_AdamOut := fun m ρ _ => Cert.AdamOut.Gen.frame (F := Bits) m ρ

theorem frame_ideal : Cert.quiescent_AdamOutIdeal := fun m ρ _ => Cert.AdamOutIdeal.Gen.frame (F := Ideal) m ρ

theorem frame_reference : Cert.quiescent_AdamOutRef := fun m ρ _ =>
  (θ_run Cert.AdamOutRefIdeal.defs _ _).mono (fun r h => ⟨fun c => (h c).2.2.2, sem_eq_zero_of_no_sems (by decide) r.2⟩)
    (Cert.AdamOutRefIdeal.Value.run (F := Bits) m ρ)

theorem frame_reference_ideal : Cert.quiescent_AdamOutRefIdeal := fun m ρ _ =>
  (θ_run Cert.AdamOutRefIdeal.defs _ _).mono (fun r h => ⟨fun c => (h c).2.2.2, sem_eq_zero_of_no_sems (by decide) r.2⟩)
    (Cert.AdamOutRefIdeal.Value.run (F := Ideal) m ρ)

theorem algebraic : Cert.algebraic_AdamOutIdeal_AdamOutRefIdeal := fun m g m' g' _ h =>
  ⟨_, _, _, Cert.AdamOutIdeal.Value.run (F := Ideal) m g, (θ_run Cert.AdamOutRefIdeal.defs _ _).mono (fun _ r c => agree _ (h c) (r c))
    (Cert.AdamOutRefIdeal.Value.run (F := Ideal) m' g')⟩

end AdamOut

namespace AdamO

/-! The shape of the mixing output weight. -/

theorem frame_kernel : Cert.quiescent_AdamO := fun m ρ _ => Cert.AdamO.Gen.frame (F := Bits) m ρ

theorem frame_ideal : Cert.quiescent_AdamOIdeal := fun m ρ _ => Cert.AdamOIdeal.Gen.frame (F := Ideal) m ρ

theorem frame_reference : Cert.quiescent_AdamORef := fun m ρ _ =>
  (θ_run Cert.AdamORefIdeal.defs _ _).mono (fun r h => ⟨fun c => (h c).2.2.2, sem_eq_zero_of_no_sems (by decide) r.2⟩)
    (Cert.AdamORefIdeal.Value.run (F := Bits) m ρ)

theorem frame_reference_ideal : Cert.quiescent_AdamORefIdeal := fun m ρ _ =>
  (θ_run Cert.AdamORefIdeal.defs _ _).mono (fun r h => ⟨fun c => (h c).2.2.2, sem_eq_zero_of_no_sems (by decide) r.2⟩)
    (Cert.AdamORefIdeal.Value.run (F := Ideal) m ρ)

theorem algebraic : Cert.algebraic_AdamOIdeal_AdamORefIdeal := fun m g m' g' _ h =>
  ⟨_, _, _, Cert.AdamOIdeal.Value.run (F := Ideal) m g, (θ_run Cert.AdamORefIdeal.defs _ _).mono (fun _ r c => agree _ (h c) (r c))
    (Cert.AdamORefIdeal.Value.run (F := Ideal) m' g')⟩

end AdamO

namespace AdamFfnUp

/-! The shape of the two widening weights of the feed-forward part. -/

theorem frame_kernel : Cert.quiescent_AdamFfnUp := fun m ρ _ => Cert.AdamFfnUp.Gen.frame (F := Bits) m ρ

theorem frame_ideal : Cert.quiescent_AdamFfnUpIdeal := fun m ρ _ => Cert.AdamFfnUpIdeal.Gen.frame (F := Ideal) m ρ

theorem frame_reference : Cert.quiescent_AdamFfnUpRef := fun m ρ _ =>
  (θ_run Cert.AdamFfnUpRefIdeal.defs _ _).mono (fun r h => ⟨fun c => (h c).2.2.2, sem_eq_zero_of_no_sems (by decide) r.2⟩)
    (Cert.AdamFfnUpRefIdeal.Value.run (F := Bits) m ρ)

theorem frame_reference_ideal : Cert.quiescent_AdamFfnUpRefIdeal := fun m ρ _ =>
  (θ_run Cert.AdamFfnUpRefIdeal.defs _ _).mono (fun r h => ⟨fun c => (h c).2.2.2, sem_eq_zero_of_no_sems (by decide) r.2⟩)
    (Cert.AdamFfnUpRefIdeal.Value.run (F := Ideal) m ρ)

theorem algebraic : Cert.algebraic_AdamFfnUpIdeal_AdamFfnUpRefIdeal := fun m g m' g' _ h =>
  ⟨_, _, _, Cert.AdamFfnUpIdeal.Value.run (F := Ideal) m g, (θ_run Cert.AdamFfnUpRefIdeal.defs _ _).mono (fun _ r c => agree _ (h c) (r c))
    (Cert.AdamFfnUpRefIdeal.Value.run (F := Ideal) m' g')⟩

end AdamFfnUp

namespace AdamFfnDown

/-! The shape of its narrowing weight. -/

theorem frame_kernel : Cert.quiescent_AdamFfnDown := fun m ρ _ => Cert.AdamFfnDown.Gen.frame (F := Bits) m ρ

theorem frame_ideal : Cert.quiescent_AdamFfnDownIdeal := fun m ρ _ => Cert.AdamFfnDownIdeal.Gen.frame (F := Ideal) m ρ

theorem frame_reference : Cert.quiescent_AdamFfnDownRef := fun m ρ _ =>
  (θ_run Cert.AdamFfnDownRefIdeal.defs _ _).mono (fun r h => ⟨fun c => (h c).2.2.2, sem_eq_zero_of_no_sems (by decide) r.2⟩)
    (Cert.AdamFfnDownRefIdeal.Value.run (F := Bits) m ρ)

theorem frame_reference_ideal : Cert.quiescent_AdamFfnDownRefIdeal := fun m ρ _ =>
  (θ_run Cert.AdamFfnDownRefIdeal.defs _ _).mono (fun r h => ⟨fun c => (h c).2.2.2, sem_eq_zero_of_no_sems (by decide) r.2⟩)
    (Cert.AdamFfnDownRefIdeal.Value.run (F := Ideal) m ρ)

theorem algebraic : Cert.algebraic_AdamFfnDownIdeal_AdamFfnDownRefIdeal := fun m g m' g' _ h =>
  ⟨_, _, _, Cert.AdamFfnDownIdeal.Value.run (F := Ideal) m g, (θ_run Cert.AdamFfnDownRefIdeal.defs _ _).mono (fun _ r c => agree _ (h c) (r c))
    (Cert.AdamFfnDownRefIdeal.Value.run (F := Ideal) m' g')⟩

end AdamFfnDown

end Cert.Step

end
-- ==== Proof.Step.Word.lean ====
/-
A word that names one of the first few entries of an array: as the preconditions say it, and as a slice's start reads it.
-/
module

public import Idealize.ShloMosaic.PureOps
public import Idealize.ShloMosaic.Lib.DynamicIndex

@[expose] public section

namespace Cert.Step

open Idealize.ShloMosaic

/-- Between zero and `n`, compared as signed numbers: so less than `n`. -/
theorem lt_of_given {n : ℕ} (hn : n < 2 ^ 31) {x : BitVec 32}
    (h : IntOp.andi (IntOp.cmpi .sge x 0#32) (IntOp.cmpi .slt x (BitVec.ofNat 32 n)) = 1#1) : x.toNat < n := by
  have both (a b : BitVec 1) : IntOp.andi a b = 1#1 → a = 1#1 ∧ b = 1#1 := by revert a b; decide
  have one (p : Bool) : BitVec.ofBool p = 1#1 ↔ p = true := by cases p <;> decide
  obtain ⟨h0, h1⟩ := both _ _ h
  simp only [IntOp.cmpi, one, BitVec.sle, BitVec.slt, decide_eq_true_eq, BitVec.toInt_zero, toInt_ofNat_of_lt hn] at h0 h1
  have := x.isLt
  rw [BitVec.toInt_eq_toNat_cond] at h0 h1
  split at h0 <;> split at h1 <;> omega

/-- Read signed, such a word is the number that it is read unsigned. -/
theorem toInt_of_lt {n : ℕ} (hn : n < 2 ^ 31) {x : BitVec 32} (h : x.toNat < n) : x.toInt = (x.toNat : ℤ) := by
  rw [BitVec.toInt_eq_toNat_cond, if_pos (by omega)]

end Cert.Step
-- ==== Proof.Step.AddCore.lean ====
/-
The call that adds what came from the other core to the core's own part: what its blocks are, what each grid point leaves, and what the
result's array holds.
-/
module

public import proofs.«01_k».proof.Defs
public import proofs.«01_k».proof.Proof.Step.Word
public import proofs.«01_k».proof.Proof.Gen.AddCore.Frame
public import proofs.«01_k».proof.Proof.Gen.AddCoreIdeal.Frame
public import proofs.«01_k».proof.Proof.Gen.AddCoreRef
public import proofs.«01_k».proof.Proof.Gen.AddCoreRefIdeal
public import Idealize.ShloMosaic.Lib.Pipeline.Value
public import Idealize.ShloMosaic.Lib.Pointwise.Index
public import Idealize.ShloMosaic.Lib.Quiescent
public import Idealize.ShloMosaic.Lib.StableHlo.RunClose

@[expose] public section

noncomputable section

namespace Cert.Step.AddCore

open Idealize.ShloMosaic Idealize.ShloMosaic.TcCoe Idealize.SL.Sem
open Cert.AddCoreIdeal Cert.AddCoreIdeal.Gen

variable {F : FTy → Type} [FloatOps F] (m : (ℓ : Loc nD τ sig) → Buf (Elt F) ℓ) (ρ : Dev nD → PrngReg)

/-- The word that names the core, as the region finds it. -/
abbrev word : BitVec 32 := m (((0 : Dev nD) : Thread nD τ).loc main_arg0) (ix1 0)

theorem index_packed (i : grid0.Coords) : cc0_transform_2 i = ![(i 0).val, (i 1).val, 0] := by
  have h0 : (i 0).val < 4 := (i 0).isLt
  have h1 : (i 1).val < 8 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  show ![_, _, _] = _
  rw [e0, e1]
  rfl

theorem index_core (i : grid0.Coords) :
    cc0_transform_0 Facts₀.inb_S1_S1_0 Facts₀.numel1_S1 (tbl m) i = ![(word m).toNat, (i 0).val, (i 1).val, 0] := by
  have h := index_packed i
  have e0 : (BitVec.ofNat 32 (i 0).val).toNat = (i 0).val := congrFun h 0
  have e1 : (BitVec.ofNat 32 (i 1).val).toNat = (i 1).val := congrFun h 1
  show ![_, _, _, _] = _
  rw [e0, e1]
  congr 2
  show m (((0 : Dev nD) : Thread nD τ).loc main_arg0) _ = _
  exact congrArg (m (((0 : Dev nD) : Thread nD τ).loc main_arg0)) (funext fun a => match a with | ⟨0, _⟩ => Subsingleton.elim (α := Fin 1) _ _)

/-- Of a word that names a core every block lies in the array. -/
theorem ok (h : (word m).toNat < 2) : Ok m := by
  intro i
  refine ⟨fun a => ?_, .inl rfl⟩
  rw [index_core]
  have h0 : (i 0).val < 4 := (i 0).isLt
  have h1 : (i 1).val < 8 := (i 1).isLt
  match a with
  | ⟨0, _⟩ => show ((word m).toNat + 1) * 1 ≤ 2; omega
  | ⟨1, _⟩ => show ((i 0).val + 1) * 1 ≤ 4; omega
  | ⟨2, _⟩ => show ((i 1).val + 1) * 2000 ≤ 16000; omega
  | ⟨3, _⟩ => show (0 + 1) * 128 ≤ 128; omega

/-- The parts of core `k` and what came for it, added up and rounded. -/
abbrev sums (k : Fin 2) (p : Vec F S2x4x16000x128 .f32) (g : Vec F S4x16000x128 .f32) : Vec F S4x16000x128 .bf16 :=
  fun i => FloatOps.truncf .bf16 Facts₀.bitsLt_bf16_f32 (FloatOps.addf (p (ix4 k (i 0) (i 1) (i 2))) (g i))

theorem out_eq (c : Dev nD) (i : grid0.Coords) (a0 : Memref sig .tc .vmem S1x1x2000x128 .f32) (h0 : a0.IsWhole)
    (a1 : Memref sig .tc .vmem S1x2000x128 .f32) (h1 : a1.IsWhole) (a2 : Memref sig .tc .vmem S1x2000x128 .bf16) (h2 : a2.IsWhole)
    (x : Vec F S1x1x2000x128 .f32) (y : Vec F S1x2000x128 .f32) (w : TbBuf0 (F := F) c tbM0_0) :
    out0_A_2 c i a0 h0 a1 h1 a2 h2 x y w = k0_pay1 x y := by
  have z3 : (![0, 0, 0] : Fin 3 → ℕ) = fun _ => 0 := by decide
  have z4 : (![0, 0, 0, 0] : Fin 4 → ℕ) = fun _ => 0 := by decide
  unfold out0_A_2
  rw [View.read_writes_junk_eq_canon]
  unfold kernelRun0_A
  dsimp only
  rw [View.canon_unit_zero z3]
  simp only [View.readAt_eq_ld, h0.read_unread, h1.read_unread, View.ld_unit_zero (S := S1x2000x128) z3, View.ld_unit_zero (S := S1x1x2000x128) z4]

theorem pay_eq (x : Vec F S1x1x2000x128 .f32) (y : Vec F S1x2000x128 .f32) (j : S1x2000x128.Idx) :
    k0_pay1 x y j = FloatOps.truncf .bf16 Facts₀.bitsLt_bf16_f32 (FloatOps.addf (x (ix4 0 0 (j 1) (j 2))) (y j)) := by
  have j0 : (j 0).val < 1 := (j 0).isLt
  unfold k0_pay1
  refine (shapeCast_addUnit_apply ![2000, 128] _ _ j).trans ?_
  refine congrArg (FloatOps.truncf (F := F) .bf16 Facts₀.bitsLt_bf16_f32) (congrArg₂ (FloatOps.addf (F := F)) ?_ ?_)
  · refine shapeCast_apply _ _ _ _ ?_
    show (Shape.rowMajorPi ![1, 1, 2000, 128] _).val = (Shape.rowMajorPi ![2000, 128] fun a => j a.succ).val
    rw [Shape.rowMajorPi_succ_val, Shape.rowMajorPi_succ_val]
    show 0 * _ + (0 * _ + (Shape.rowMajorPi ![2000, 128] fun a => ix4 0 0 (j 1) (j 2) a.succ.succ).val) = _
    rw [zero_mul, zero_mul, zero_add, zero_add]
    refine congrArg (fun k => (Shape.rowMajorPi ![2000, 128] k).val) (funext fun a => ?_)
    match a with
    | ⟨0, _⟩ => rfl
    | ⟨1, _⟩ => rfl
  · refine (shapeCast_dropUnit_apply ![2000, 128] y _ _).trans (congrArg y (funext fun a => Fin.ext ?_))
    match a with
    | ⟨0, _⟩ => show 0 = (j 0).val; omega
    | ⟨1, _⟩ => rfl
    | ⟨2, _⟩ => rfl

variable (hO : Ok m)

/-- What each point writes back is its block of the sums. -/
theorem flushed (k : Fin 2) (hk : (word m).toNat = k.val) (c : Dev nD) (t : Fin (cfgM m hO).N) :
    (dats m hO 0 c).flushed 2 t = (((cfgM m hO).win 2).blk t).view.read (Elt F) (sums k (V m c main_arg1) (V m c main_arg2)) := by
  have e2 := index_packed (grid0.coords t)
  have e0 := index_core m (grid0.coords t)
  show ((cfgM m hO).win 2).cut (grid0.coords t) ((dats m hO 0 c).after 2 t) = _
  rw [after0_2]
  refine (congrArg (((cfgM m hO).win 2).cut (grid0.coords t)) (out_eq c _ _ _ _ _ _ _ _ _ _)).trans ?_
  refine funext fun (j : S1x2000x128.Idx) => ?_
  show k0_pay1 (iblk m hO c 0 t) (iblk m hO c 1 t) j = sums k (V m c main_arg1) (V m c main_arg2) ((((cfgM m hO).win 2).blk t).view.emb j)
  refine (pay_eq (iblk m hO c 0 t) (iblk m hO c 1 t) j).trans ?_
  have j0 : (j 0).val < 1 := (j 0).isLt
  refine congrArg (FloatOps.truncf (F := F) .bf16 Facts₀.bitsLt_bf16_f32) (congrArg₂ (FloatOps.addf (F := F)) ?_ rfl)
  refine congrArg (V m c main_arg1) (funext fun a => Fin.ext ?_)
  match a with
  | ⟨0, _⟩ =>
    show cc0_transform_0 Facts₀.inb_S1_S1_0 Facts₀.numel1_S1 (tbl m) (grid0.coords t) 0 * 1 + 1 * 0 = k.val
    rw [e0]; show (word m).toNat * 1 + 1 * 0 = _; omega
  | ⟨1, _⟩ =>
    show cc0_transform_0 Facts₀.inb_S1_S1_0 Facts₀.numel1_S1 (tbl m) (grid0.coords t) 1 * 1 + 1 * 0 = cc0_transform_2 (grid0.coords t) 0 * 1 + 1 * (j 0).val
    rw [e0, e2]; show (grid0.coords t 0).val * 1 + 1 * 0 = (grid0.coords t 0).val * 1 + 1 * (j 0).val; omega
  | ⟨2, _⟩ =>
    show cc0_transform_0 Facts₀.inb_S1_S1_0 Facts₀.numel1_S1 (tbl m) (grid0.coords t) 2 * 2000 + 1 * (j 1).val = cc0_transform_2 (grid0.coords t) 1 * 2000 + 1 * (j 1).val
    rw [e0, e2]; rfl
  | ⟨3, _⟩ =>
    show cc0_transform_0 Facts₀.inb_S1_S1_0 Facts₀.numel1_S1 (tbl m) (grid0.coords t) 3 * 128 + 1 * (j 2).val = cc0_transform_2 (grid0.coords t) 2 * 128 + 1 * (j 2).val
    rw [e0, e2]; rfl

theorem onto : ∀ (p : Fin 4) (q : Fin 8), ∃ t : Fin grid0.N, cc0_transform_2 (grid0.coords t) = ![p.val, q.val, 0] := by decide +kernel

/-- The blocks are the whole array. -/
theorem covered (i : S4x16000x128.Idx) :
    ∃ t : Fin (cfgM m hO).N, ((cfgM m hO).win 2).flush t = true ∧ i ∈ (((cfgM m hO).win 2).blk t).view.set := by
  have h0 : (i 0).val < 4 := (i 0).isLt
  have h1 : (i 1).val < 16000 := (i 1).isLt
  have h2 : (i 2).val < 128 := (i 2).isLt
  obtain ⟨t, ht⟩ := onto ⟨(i 0).val, h0⟩ ⟨(i 1).val / 2000, by omega⟩
  refine ⟨t, flush0_2 _ t, ?_⟩
  have e : (((cfgM m hO).win 2).blk t).view.emb (ix3 0 ⟨(i 1).val % 2000, by omega⟩ (i 2)) = i := by
    funext a
    apply Fin.ext
    match a with
    | ⟨0, _⟩ => show cc0_transform_2 (grid0.coords t) 0 * 1 + 1 * 0 = (i 0).val; rw [ht]; show (i 0).val * 1 + 1 * 0 = _; omega
    | ⟨1, _⟩ =>
      show cc0_transform_2 (grid0.coords t) 1 * 2000 + 1 * ((i 1).val % 2000) = (i 1).val
      rw [ht]; show (i 1).val / 2000 * 2000 + 1 * ((i 1).val % 2000) = _; omega
    | ⟨2, _⟩ => show cc0_transform_2 (grid0.coords t) 2 * 128 + 1 * (i 2).val = (i 2).val; rw [ht]; show 0 * 128 + 1 * (i 2).val = _; omega
  exact e ▸ (((cfgM m hO).win 2).blk t).view.emb_mem_set _

/-- The run: the result holds the sums, and the operands are kept. -/
theorem run (k : Fin 2) (hk : (word m).toNat = k.val) :
    θ_run defs (onTc (τ := τ) (main (F := F))) ⟨m, fun _ => 0, ρ⟩ fun r => ∀ c : Dev nD,
      r.2.mem ((c : Thread nD τ).loc main_v0) = sums k (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  have hO := ok m (by omega)
  have values : θ_run defs (onTc (τ := τ) (main (F := F))) ⟨m, fun _ => 0, ρ⟩ fun r => ∀ c : Dev nD,
      r.2.mem ((c : Thread nD τ).loc main_v0) = sums k (m ((c : Thread nD τ).loc main_arg1)) (m ((c : Thread nD τ).loc main_arg2)) :=
    (θ_run defs _ _).mono (fun _ h c => ((h c).1 2).trans
      ((dats m hO 0 c).arrAt_eq_of_cover 2 (sums k (V m c main_arg1) (V m c main_arg2)) (fun t _ => flushed m hO k hk c t) (covered m hO)))
      (run_main m ρ hO)
  (θ_run defs _ _).mono (fun _ h c => ⟨h.1 c, h.2 c⟩) (θ_run_and values (unchanged m ρ hO))

/-- Over the same values the two texts of the kernel have the same bodies. -/
theorem bodies_eq : Cert.AddCore.defs₀ (F := F) = Cert.AddCoreIdeal.defs₀ (F := F) := by
  unfold Cert.AddCore.defs₀ Cert.AddCoreIdeal.defs₀
  refine congrArg Defs.onTc (funext fun ℓ => funext fun x => ?_)
  match ℓ, x with
  | ⟨0, _⟩, (t, s) => rfl

theorem defs_eq : Cert.AddCore.defs (F := F) = Cert.AddCoreIdeal.defs (F := F) :=
  congrArg (Pipeline.defs Cert.AddCoreIdeal.pcfgs) bodies_eq

instance facts_given : Cert.Pre_core_given.Facts := ⟨by decide⟩

/-- The precondition says that the word names a core. -/
theorem named {w : IVec S1 32} {p : Vec F S2x4x16000x128 .f32} {g : Vec F S4x16000x128 .f32}
    (h : Cert.Pre_core_given.fn (F := F) w p g = fun _ => 1#1) : (w (ix1 0)).toNat < 2 :=
  lt_of_given (by decide) (congrFun h (ix1 0))

/-- What the reference cuts out of the parts, starting at core `k`. -/
theorem picked_eq (k : Fin 2) (p : Vec F S2x4x16000x128 .f32) (start : Fin 4 → ℤ) (hs : ∀ a, start a = ((![k.val, 0, 0, 0] : Fin 4 → ℕ) a : ℤ))
    (hf : S2x4x16000x128.Slices (fun _ => 0) Cert.AddCoreRefIdeal.S1x4x16000x128)
    (hc : Cert.AddCoreRefIdeal.S1x4x16000x128.ShapeCasts S4x16000x128) :
    shapeCast S4x16000x128 (Host.dynamicSlice Cert.AddCoreRefIdeal.S1x4x16000x128 p start hf) hc = fun i => p (ix4 k (i 0) (i 1) (i 2)) := by
  have hk := k.isLt
  have hoff : S2x4x16000x128.Slices (![k.val, 0, 0, 0] : Fin 4 → ℕ) Cert.AddCoreRefIdeal.S1x4x16000x128 :=
    ⟨rfl, fun a => by
      match a with
      | ⟨0, _⟩ => show k.val + 1 ≤ 2; omega
      | ⟨1, _⟩ => show 0 + 4 ≤ 4; omega
      | ⟨2, _⟩ => show 0 + 16000 ≤ 16000; omega
      | ⟨3, _⟩ => show 0 + 128 ≤ 128; omega⟩
  rw [Host.dynamicSlice_eq_extractStridedSlice _ p start _ hf hoff hs]
  funext i
  refine (shapeCast_dropUnit_apply ![4, 16000, 128] _ hc i).trans (congrArg p (funext fun a => Fin.ext ?_))
  match a with
  | ⟨0, _⟩ => show k.val + 0 = k.val; omega
  | ⟨1, _⟩ => show 0 + (i 0).val = (i 0).val; omega
  | ⟨2, _⟩ => show 0 + (i 1).val = (i 1).val; omega
  | ⟨3, _⟩ => show 0 + (i 2).val = (i 2).val; omega

end Cert.Step.AddCore

/-! ## The plain sum -/

namespace Cert.Step.AddCore.Plain

open Idealize.ShloMosaic Idealize.ShloMosaic.TcCoe Idealize.SL.Sem Idealize.ShloMosaic.StableHlo
open Cert.AddCoreRefIdeal Cert.AddCoreRefIdeal.Gen

variable {F : FTy → Type} [FloatOps F] (m : (ℓ : Loc nD τ sig) → Buf (Elt F) ℓ) (ρ : Dev nD → PrngReg)

/-- What the program does, one after the other. -/
abbrev steps : List (HloOp τ sig (Elt F)) :=
  [reshape main_arg0 main_v0 rfl shapeCasts_S1_S_,
    nullary main_c (constantI S_ 32 0#32), nullary main_c_0 (constantI S_ 32 0#32), nullary main_c_1 (constantI S_ 32 0#32),
    unaryIndexed main_arg1 ![main_v0, main_c, main_c_0, main_c_1] ⟨S_, .i32⟩ main_v1
      (fun x i => Host.dynamicSlice S1x4x16000x128 x (fun k => (i k (Shape.Idx.first h_S_)).toInt) sliceFits_S2x4x16000x128_S1x4x16000x128),
    reshape main_v1 main_v2 rfl shapeCasts_S1x4x16000x128_S4x16000x128,
    binary main_v2 main_arg2 main_v3 (addf (F := F) (s := S4x16000x128) (φ := .f32)),
    unary main_v3 main_v4 (truncf (F := F) (s := S4x16000x128) (φ := .f32) .bf16 · bitsLt_bf16_f32)]

theorem main_steps (c : Dev nD) : main (F := F) c = seq steps := rfl

/-- Where the slice starts: at the core's parts, and at zero along the other axes. -/
abbrev start (w : IVec S1 32) : Fin 4 → ℤ := fun k =>
  ((![shapeCast S_ w shapeCasts_S1_S_, constantI S_ 32 0#32, constantI S_ 32 0#32, constantI S_ 32 0#32] : Fin 4 → IVec S_ 32) k
    (Shape.Idx.first h_S_)).toInt

/-- The result of the program. -/
abbrev total (w : IVec S1 32) (p : FVec F S2x4x16000x128 .f32) (g : FVec F S4x16000x128 .f32) : FVec F S4x16000x128 .bf16 :=
  truncf .bf16 (addf (shapeCast S4x16000x128 (Host.dynamicSlice S1x4x16000x128 p (start w) sliceFits_S2x4x16000x128_S1x4x16000x128)
    shapeCasts_S1x4x16000x128_S4x16000x128) g) bitsLt_bf16_f32

theorem run : θ_run defs (onTc (τ := τ) (main (F := F))) ⟨m, fun _ => 0, ρ⟩ fun r => ∀ c : Dev nD,
    r.2.mem ((c.tc : Thread nD τ).loc main_v4) = total (m ((c.tc : Thread nD τ).loc main_arg0)) (m ((c.tc : Thread nD τ).loc main_arg1))
      (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono
    (fun _ h c => ⟨(h c main_v4).trans ?_, (h c main_arg0).trans ?_, (h c main_arg1).trans ?_, (h c main_arg2).trans ?_⟩)
    (run_seq (by decide) (by decide) defs main (fun _ => steps) main_steps
      (fun _ => ⟨reshape_bufs_sub .., nullary_bufs_sub .., nullary_bufs_sub .., nullary_bufs_sub .., unaryIndexed_bufs_sub ..,
        reshape_bufs_sub .., binary_bufs_sub .., unary_bufs_sub ..⟩) m ρ)
  all_goals after_results_simp_entrywise
  rfl

theorem frame : θ_run defs (onTc (τ := τ) (main (F := F))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (run m ρ)

/-- Of a word that names a core it is the sums that the kernel leaves. -/
theorem total_eq (w : IVec S1 32) (k : Fin 2) (hk : (w (ix1 0)).toNat = k.val) (p : FVec F S2x4x16000x128 .f32) (g : FVec F S4x16000x128 .f32) :
    total w p g = sums k p g := by
  have hlt := k.isLt
  unfold total
  rw [picked_eq k p (start w) ?_]
  · rfl
  · intro a
    match a with
    | ⟨0, _⟩ =>
      have e : shapeCast S_ w shapeCasts_S1_S_ (Shape.Idx.first h_S_) = w (ix1 0) :=
        congrArg w (funext fun a => match a with | ⟨0, _⟩ => Subsingleton.elim (α := Fin 1) _ _)
      show (shapeCast S_ w shapeCasts_S1_S_ (Shape.Idx.first h_S_)).toInt = _
      rw [e, toInt_of_lt (n := 2) (by decide) (by omega), hk]
      rfl
    | ⟨1, _⟩ => rfl
    | ⟨2, _⟩ => rfl
    | ⟨3, _⟩ => rfl

end Cert.Step.AddCore.Plain

/-! ## The claims -/

namespace Cert.Step.AddCore

open Idealize.ShloMosaic Idealize.ShloMosaic.TcCoe Idealize.SL.Sem

theorem frame_kernel : Cert.quiescent_AddCore := fun m ρ h => Cert.AddCore.Gen.frame (F := Bits) m ρ (ok m (named (h 0)))

theorem frame_ideal : Cert.quiescent_AddCoreIdeal := fun m ρ h => Cert.AddCoreIdeal.Gen.frame (F := Ideal) m ρ (ok m (named (h 0)))

theorem frame_reference : Cert.quiescent_AddCoreRef := fun m ρ _ => Plain.frame (F := Bits) m ρ

theorem frame_reference_given : Cert.quiescent_AddCoreRef_pre_core_given := fun m ρ _ => Plain.frame (F := Bits) m ρ

theorem frame_reference_ideal : Cert.quiescent_AddCoreRefIdeal := fun m ρ _ => Plain.frame (F := Ideal) m ρ

theorem frame_reference_ideal_given : Cert.quiescent_AddCoreRefIdeal_pre_core_given := fun m ρ _ => Plain.frame (F := Ideal) m ρ

theorem preserves : Cert.preserves_AddCore_AddCoreIdeal := trivial

theorem bitexact : Cert.bitexact_AddCore_AddCoreRef := fun m ρ m' ρ' h same =>
  ⟨fun c => sums ⟨_, named (h 0)⟩ (m ((c.tc : Thread Cert.AddCore.nD Cert.AddCore.τ).loc Cert.AddCore.main_arg1)) (m ((c.tc : Thread Cert.AddCore.nD Cert.AddCore.τ).loc Cert.AddCore.main_arg2)),
    Eq.mpr (congrArg (fun d => θ_run d (onTc (τ := Cert.AddCoreIdeal.τ) (Cert.AddCoreIdeal.main (F := Bits))) _ _) defs_eq)
      (run (F := Bits) m ρ ⟨_, named (h 0)⟩ rfl),
    (θ_run Cert.AddCoreRefIdeal.defs _ _).mono
      (fun r hr c => by
        obtain ⟨h0, h1, h2⟩ := same c
        obtain ⟨t, rest⟩ := hr c
        rw [h0, h1, h2] at t
        obtain rfl : c = 0 := Subsingleton.elim _ _
        exact ⟨t.trans (Plain.total_eq _ ⟨_, named (h 0)⟩ rfl _ _), rest⟩)
      (Plain.run (F := Bits) m' ρ')⟩

theorem algebraic : Cert.algebraic_AddCoreIdeal_AddCoreRefIdeal := fun m ρ m' ρ' h same =>
  ⟨fun c => sums ⟨_, named (h 0)⟩ (m ((c.tc : Thread Cert.AddCoreIdeal.nD Cert.AddCoreIdeal.τ).loc Cert.AddCoreIdeal.main_arg1)) (m ((c.tc : Thread Cert.AddCoreIdeal.nD Cert.AddCoreIdeal.τ).loc Cert.AddCoreIdeal.main_arg2)),
    run (F := Ideal) m ρ ⟨_, named (h 0)⟩ rfl,
    (θ_run Cert.AddCoreRefIdeal.defs _ _).mono
      (fun r hr c => by
        obtain ⟨h0, h1, h2⟩ := same c
        obtain ⟨t, rest⟩ := hr c
        rw [h0, h1, h2] at t
        obtain rfl : c = 0 := Subsingleton.elim _ _
        exact ⟨t.trans (Plain.total_eq _ ⟨_, named (h 0)⟩ rfl _ _), rest⟩)
      (Plain.run (F := Ideal) m' ρ')⟩

end Cert.Step.AddCore

end
-- ==== Proof.Step.AdamSmall.lean ====
/-
The claims about the optimiser's step on the small weights, whose gradients are first added up over the devices: both programs run and leave
their arguments as they were, and they agree.
-/
module

public import proofs.«01_k».proof.Defs
public import proofs.«01_k».proof.Proof.Step.Adam
public import proofs.«01_k».proof.Proof.Gen.AdamSmall.Frame
public import proofs.«01_k».proof.Proof.Gen.AdamSmallRef
public import proofs.«01_k».proof.Proof.Gen.AdamSmallIdeal.Value
public import proofs.«01_k».proof.Proof.Gen.AdamSmallRefIdeal.Run
public import Idealize.ShloMosaic.Lib.Quiescent
public import Idealize.ShloMosaic.Lib.Pointwise.Tactic
public import Idealize.ShloMosaic.Lib.Pointwise.Reduce

@[expose] public section

noncomputable section

namespace Cert.Step.AdamSmall

open Idealize.ShloMosaic Idealize.ShloMosaic.TcCoe Idealize.SL.Sem
open Cert.AdamSmallIdeal Cert.AdamSmallIdeal.Gen

theorem frame_kernel : Cert.quiescent_AdamSmall := fun m ρ _ => Cert.AdamSmall.Gen.frame (F := Bits) m ρ

theorem frame_ideal : Cert.quiescent_AdamSmallIdeal := fun m ρ _ => Cert.AdamSmallIdeal.Gen.frame (F := Ideal) m ρ

theorem frame_reference : Cert.quiescent_AdamSmallRef := fun m ρ _ =>
  (θ_run Cert.AdamSmallRefIdeal.defs _ _).mono (fun r h => ⟨fun c => (h c).2.2.2.2, sem_eq_zero_of_no_sems (by decide) r.2⟩)
    (Cert.AdamSmallRefIdeal.Value.run (F := Bits) m ρ)

theorem frame_reference_ideal : Cert.quiescent_AdamSmallRefIdeal := fun m ρ _ =>
  (θ_run Cert.AdamSmallRefIdeal.defs _ _).mono (fun r h => ⟨fun c => (h c).2.2.2.2, sem_eq_zero_of_no_sems (by decide) r.2⟩)
    (Cert.AdamSmallRefIdeal.Value.run (F := Ideal) m ρ)

/-- Device `k`'s part, read through its row of the packed parts. -/
theorem part_apply (x : Vec Ideal S8x96x128 .f32) (k : Fin 8)
    (inb : ∀ a, (![k.val, 0, 0] : Fin 3 → Nat) a + S1x96x128.size a ≤ S8x96x128.size a) (hs : S1x96x128.ShapeCasts S96x128) (j : S96x128.Idx) :
    shapeCast S96x128 (View.ld (Val := Elt Ideal) (e' := .f32) x (Rect.unit (s := S8x96x128) ![k.val, 0, 0] S1x96x128.size inb)) hs j
      = x (ix3 k (j 0) (j 1)) :=
  (shapeCast_dropUnit_apply ![96, 128] _ hs j).trans (congrArg x (funext fun a => Fin.ext (by
    match a with
    | ⟨0, _⟩ => show k.val + 1 * 0 = k.val; omega
    | ⟨1, _⟩ => show 0 + 1 * (j 0).val = (j 0).val; omega
    | ⟨2, _⟩ => show 0 + 1 * (j 1).val = (j 1).val; omega)))

/-- The kernel adds the eight devices' parts one after another; that is their sum. -/
theorem total_eq (x : FVec Ideal S8x96x128 .f32) (h : S8x96x128.ReducesTo [0] S96x128) (h0 : 0 < (⟨0, ![]⟩ : Shape).numel) :
    k0_pay4 (F := Ideal) (View.ld x r0_0) (View.ld x r0_1) (View.ld x r0_2) (View.ld x r0_3) (View.ld x r0_4) (View.ld x r0_5) (View.ld x r0_6)
        (View.ld x r0_7)
      = Host.reduceAdd x (constant ⟨0, ![]⟩ .f32 0x00000000#32) h h0 := by
  funext j
  have e : Host.reduceAdd x (constant ⟨0, ![]⟩ .f32 0x00000000#32) h h0 j = ∑ k : Fin 8, x (ix3 k (j 0) (j 1)) := by
    refine (Ideal.hostReduceAdd_r3_a0 h x _ j).trans ?_
    rw [show (constant ⟨0, ![]⟩ .f32 0x00000000#32 : FVec Ideal ⟨0, ![]⟩ .f32) (Shape.Idx.first h0) = 0 from Ideal.ofBits_zero_f32, zero_add]
    rfl
  rw [e, Fin.sum_univ_eight, ← part_apply x 0 inb_S8x96x128_S1x96x128_0_0_0 shapeCasts_S1x96x128_S96x128 j,
    ← part_apply x 1 inb_S8x96x128_S1x96x128_1_0_0 shapeCasts_S1x96x128_S96x128 j,
    ← part_apply x 2 inb_S8x96x128_S1x96x128_2_0_0 shapeCasts_S1x96x128_S96x128 j,
    ← part_apply x 3 inb_S8x96x128_S1x96x128_3_0_0 shapeCasts_S1x96x128_S96x128 j,
    ← part_apply x 4 inb_S8x96x128_S1x96x128_4_0_0 shapeCasts_S1x96x128_S96x128 j,
    ← part_apply x 5 inb_S8x96x128_S1x96x128_5_0_0 shapeCasts_S1x96x128_S96x128 j,
    ← part_apply x 6 inb_S8x96x128_S1x96x128_6_0_0 shapeCasts_S1x96x128_S96x128 j,
    ← part_apply x 7 inb_S8x96x128_S1x96x128_7_0_0 shapeCasts_S1x96x128_S96x128 j]
  rfl

theorem algebraic : Cert.algebraic_AdamSmallIdeal_AdamSmallRefIdeal := fun m g m' g' _ h =>
  ⟨_, _, _, _, Cert.AdamSmallIdeal.Value.run (F := Ideal) m g,
    (θ_run Cert.AdamSmallRefIdeal.defs _ _).mono
      (fun r hr c => by
        obtain ⟨h0, h1, h2, h3⟩ := h c
        obtain ⟨t, a, b, d, rest⟩ := hr c
        rw [h0, ← total_eq] at t
        rw [h0, h1, h2, h3, ← total_eq] at a
        rw [h0, h2, ← total_eq] at b
        rw [h0, h3, ← total_eq] at d
        exact ⟨t, a.trans (changes_eq _ _ _ _ _), b.trans (means_eq _ _ _), d.trans (squares_eq _ _ _), rest⟩)
      (Cert.AdamSmallRefIdeal.Value.run (F := Ideal) m' g')⟩

end Cert.Step.AdamSmall

end
-- ==== Proof.Step.SumChips.lean ====
/-
The call that adds what came from the other chips to the chip's own part: what its blocks are, what each grid point leaves, what the
result's array holds, and the plain sum that it agrees with.
-/
module

public import proofs.«01_k».proof.Defs
public import proofs.«01_k».proof.Proof.Step.Word
public import proofs.«01_k».proof.Proof.Gen.SumChips.Frame
public import proofs.«01_k».proof.Proof.Gen.SumChipsIdeal.Frame
public import proofs.«01_k».proof.Proof.Gen.SumChipsRef
public import proofs.«01_k».proof.Proof.Gen.SumChipsRefIdeal
public import Idealize.ShloMosaic.Lib.Pipeline.Value
public import Idealize.ShloMosaic.Lib.Pointwise.Index
public import Idealize.ShloMosaic.Lib.Pointwise.Reduce
public import Idealize.ShloMosaic.Lib.Quiescent
public import Idealize.ShloMosaic.Lib.StableHlo.RunClose

@[expose] public section

noncomputable section

namespace Cert.Step.SumChips

open Idealize.ShloMosaic Idealize.ShloMosaic.TcCoe Idealize.SL.Sem
open Cert.SumChipsIdeal Cert.SumChipsIdeal.Gen

variable {F : FTy → Type} [FloatOps F] (m : (ℓ : Loc nD τ sig) → Buf (Elt F) ℓ) (ρ : Dev nD → PrngReg)

/-- The word that names the chip, as the region finds it. -/
abbrev word : BitVec 32 := m (((0 : Dev nD) : Thread nD τ).loc main_arg0) (ix1 0)

theorem index_total (i : grid0.Coords) : cc0_transform_2 i = ![(i 0).val, 0] := by
  have h0 : (i 0).val < 8 := (i 0).isLt
  have e0 : (BitVec.ofNat 32 (i 0).val).toNat = (i 0).val := by rw [BitVec.toNat_ofNat]; omega
  show ![_, _] = _
  rw [e0]
  rfl

theorem index_others (i : grid0.Coords) : cc0_transform_1 i = ![0, (i 0).val, 0] := by
  have e0 : (BitVec.ofNat 32 (i 0).val).toNat = (i 0).val := congrFun (index_total i) 0
  show ![_, _, _] = _
  rw [e0]
  rfl

theorem index_own (i : grid0.Coords) :
    cc0_transform_0 Facts₀.inb_S1_S1_0 Facts₀.numel1_S1 (tbl m) i = ![(word m).toNat, (i 0).val, 0] := by
  have e0 : (BitVec.ofNat 32 (i 0).val).toNat = (i 0).val := congrFun (index_total i) 0
  show ![_, _, _] = _
  rw [e0]
  congr 2
  show m (((0 : Dev nD) : Thread nD τ).loc main_arg0) _ = _
  exact congrArg (m (((0 : Dev nD) : Thread nD τ).loc main_arg0)) (funext fun a => match a with | ⟨0, _⟩ => Subsingleton.elim (α := Fin 1) _ _)

/-- Of a word that names a chip every block lies in the array. -/
theorem ok (h : (word m).toNat < 4) : Ok m := by
  intro i
  refine ⟨fun a => ?_, .inr (Affine.block_words_dvd (of_decide_eq_true rfl) (by decide))⟩
  rw [index_own]
  have h0 : (i 0).val < 8 := (i 0).isLt
  match a with
  | ⟨0, _⟩ => show ((word m).toNat + 1) * 1 ≤ 4; omega
  | ⟨1, _⟩ => show ((i 0).val + 1) * 2000 ≤ 16000; omega
  | ⟨2, _⟩ => show (0 + 1) * 128 ≤ 128; omega

/-- A part widened. -/
abbrev wide (x : F .bf16) : F .f32 := FloatOps.extf .f32 Facts₀.bitsLt_bf16_f32 x

/-- Chip `k`'s part and what came for it, added up from left to right. -/
abbrev sums (k : Fin 4) (p : Vec F S4x16000x128 .bf16) (g : Vec F S3x16000x128 .bf16) : Vec F S16000x128 .f32 := fun i =>
  FloatOps.addf (FloatOps.addf (FloatOps.addf (wide (p (ix3 k (i 0) (i 1)))) (wide (g (ix3 0 (i 0) (i 1))))) (wide (g (ix3 1 (i 0) (i 1)))))
    (wide (g (ix3 2 (i 0) (i 1))))

theorem out_eq (c : Dev nD) (i : grid0.Coords) (a0 : Memref sig .tc .vmem S1x2000x128 .bf16) (h0 : a0.IsWhole)
    (a1 : Memref sig .tc .vmem S3x2000x128 .bf16) (h1 : a1.IsWhole) (a2 : Memref sig .tc .vmem S2000x128 .f32) (h2 : a2.IsWhole)
    (x : Vec F S1x2000x128 .bf16) (y : Vec F S3x2000x128 .bf16) (w : TbBuf0 (F := F) c tbM0_0) :
    out0_A_2 c i a0 h0 a1 h1 a2 h2 x y w
      = k0_pay1 x (View.ld y (Rect.unit (s := S3x2000x128) ![0, 0, 0] S1x2000x128.size inb_S3x2000x128_S1x2000x128_0_0_0))
          (View.ld y (Rect.unit (s := S3x2000x128) ![1, 0, 0] S1x2000x128.size inb_S3x2000x128_S1x2000x128_1_0_0))
          (View.ld y (Rect.unit (s := S3x2000x128) ![2, 0, 0] S1x2000x128.size inb_S3x2000x128_S1x2000x128_2_0_0)) := by
  have z2 : (![0, 0] : Fin 2 → ℕ) = fun _ => 0 := by decide
  have z3 : (![0, 0, 0] : Fin 3 → ℕ) = fun _ => 0 := by decide
  unfold out0_A_2
  rw [View.read_writes_junk_eq_canon]
  unfold kernelRun0_A
  dsimp only
  rw [View.canon_unit_zero z2]
  simp only [View.readAt_eq_ld, h0.read_unread, h1.read_unread, View.ld_unit_zero (S := S1x2000x128) z3]

/-- A row of what came, as the body reads it. -/
theorem row_apply (y : Vec F S3x2000x128 .bf16) (k : Fin 3)
    (inb : ∀ a, (![k.val, 0, 0] : Fin 3 → ℕ) a + S1x2000x128.size a ≤ S3x2000x128.size a) (hs : S1x2000x128.ShapeCasts S2000x128) (j : S2000x128.Idx) :
    shapeCast S2000x128 (View.ld y (Rect.unit (s := S3x2000x128) ![k.val, 0, 0] S1x2000x128.size inb)) hs j = y (ix3 k (j 0) (j 1)) := by
  refine (shapeCast_dropUnit_apply ![2000, 128] _ hs j).trans (congrArg y (funext fun a => Fin.ext ?_))
  match a with
  | ⟨0, _⟩ => show k.val + 1 * 0 = k.val; omega
  | ⟨1, _⟩ => show 0 + 1 * (j 0).val = (j 0).val; omega
  | ⟨2, _⟩ => show 0 + 1 * (j 1).val = (j 1).val; omega

theorem pay_eq (x : Vec F S1x2000x128 .bf16) (y : Vec F S3x2000x128 .bf16) (j : S2000x128.Idx) :
    k0_pay1 x (View.ld y (Rect.unit (s := S3x2000x128) ![0, 0, 0] S1x2000x128.size inb_S3x2000x128_S1x2000x128_0_0_0))
        (View.ld y (Rect.unit (s := S3x2000x128) ![1, 0, 0] S1x2000x128.size inb_S3x2000x128_S1x2000x128_1_0_0))
        (View.ld y (Rect.unit (s := S3x2000x128) ![2, 0, 0] S1x2000x128.size inb_S3x2000x128_S1x2000x128_2_0_0)) j
      = FloatOps.addf (FloatOps.addf (FloatOps.addf (wide (x (ix3 0 (j 0) (j 1)))) (wide (y (ix3 0 (j 0) (j 1))))) (wide (y (ix3 1 (j 0) (j 1)))))
          (wide (y (ix3 2 (j 0) (j 1)))) := by
  have own : shapeCast S2000x128 x shapeCasts_S1x2000x128_S2000x128 j = x (ix3 0 (j 0) (j 1)) :=
    (shapeCast_dropUnit_apply ![2000, 128] x _ j).trans (congrArg x (funext fun a => match a with | ⟨0, _⟩ => rfl | ⟨1, _⟩ => rfl | ⟨2, _⟩ => rfl))
  unfold k0_pay1
  refine congrArg₂ (FloatOps.addf (F := F)) (congrArg₂ (FloatOps.addf (F := F)) (congrArg₂ (FloatOps.addf (F := F)) ?_ ?_) ?_) ?_
  · exact congrArg wide own
  · exact congrArg wide (row_apply y 0 _ _ j)
  · exact congrArg wide (row_apply y 1 _ _ j)
  · exact congrArg wide (row_apply y 2 _ _ j)

variable (hO : Ok m)

/-- What each point writes back is its block of the sums. -/
theorem flushed (k : Fin 4) (hk : (word m).toNat = k.val) (c : Dev nD) (t : Fin (cfgM m hO).N) :
    (dats m hO 0 c).flushed 2 t = (((cfgM m hO).win 2).blk t).view.read (Elt F) (sums k (V m c main_arg1) (V m c main_arg2)) := by
  have e2 := index_total (grid0.coords t)
  have e1 := index_others (grid0.coords t)
  have e0 := index_own m (grid0.coords t)
  show ((cfgM m hO).win 2).cut (grid0.coords t) ((dats m hO 0 c).after 2 t) = _
  rw [after0_2]
  refine (congrArg (((cfgM m hO).win 2).cut (grid0.coords t)) (out_eq c _ _ _ _ _ _ _ _ _ _)).trans ?_
  refine funext fun (j : S2000x128.Idx) => ?_
  refine (pay_eq (iblk m hO c 0 t) (iblk m hO c 1 t) j).trans ?_
  show _ = sums k (V m c main_arg1) (V m c main_arg2) ((((cfgM m hO).win 2).blk t).view.emb j)
  have own (i : S16000x128.Idx) (hi : i = (((cfgM m hO).win 2).blk t).view.emb j) :
      iblk m hO c 0 t (ix3 0 (j 0) (j 1)) = V m c main_arg1 (ix3 k (i 0) (i 1)) := by
    subst hi
    refine congrArg (V m c main_arg1) (funext fun a => Fin.ext ?_)
    match a with
    | ⟨0, _⟩ =>
      show cc0_transform_0 Facts₀.inb_S1_S1_0 Facts₀.numel1_S1 (tbl m) (grid0.coords t) 0 * 1 + 1 * 0 = k.val
      rw [e0]; show (word m).toNat * 1 + 1 * 0 = _; omega
    | ⟨1, _⟩ =>
      show cc0_transform_0 Facts₀.inb_S1_S1_0 Facts₀.numel1_S1 (tbl m) (grid0.coords t) 1 * 2000 + 1 * (j 0).val = cc0_transform_2 (grid0.coords t) 0 * 2000 + 1 * (j 0).val
      rw [e0, e2]; rfl
    | ⟨2, _⟩ =>
      show cc0_transform_0 Facts₀.inb_S1_S1_0 Facts₀.numel1_S1 (tbl m) (grid0.coords t) 2 * 128 + 1 * (j 1).val = cc0_transform_2 (grid0.coords t) 1 * 128 + 1 * (j 1).val
      rw [e0, e2]; rfl
  have others (l : Fin 3) (i : S16000x128.Idx) (hi : i = (((cfgM m hO).win 2).blk t).view.emb j) :
      iblk m hO c 1 t (ix3 l (j 0) (j 1)) = V m c main_arg2 (ix3 l (i 0) (i 1)) := by
    subst hi
    refine congrArg (V m c main_arg2) (funext fun a => Fin.ext ?_)
    match a with
    | ⟨0, _⟩ =>
      show cc0_transform_1 (grid0.coords t) 0 * 3 + 1 * l.val = l.val
      rw [e1]; show 0 * 3 + 1 * l.val = _; omega
    | ⟨1, _⟩ =>
      show cc0_transform_1 (grid0.coords t) 1 * 2000 + 1 * (j 0).val = cc0_transform_2 (grid0.coords t) 0 * 2000 + 1 * (j 0).val
      rw [e1, e2]; rfl
    | ⟨2, _⟩ =>
      show cc0_transform_1 (grid0.coords t) 2 * 128 + 1 * (j 1).val = cc0_transform_2 (grid0.coords t) 1 * 128 + 1 * (j 1).val
      rw [e1, e2]; rfl
  refine congrArg₂ (FloatOps.addf (F := F)) (congrArg₂ (FloatOps.addf (F := F)) (congrArg₂ (FloatOps.addf (F := F)) ?_ ?_) ?_) ?_
  · exact congrArg wide (own _ rfl)
  · exact congrArg wide (others 0 _ rfl)
  · exact congrArg wide (others 1 _ rfl)
  · exact congrArg wide (others 2 _ rfl)

theorem onto : ∀ q : Fin 8, ∃ t : Fin grid0.N, cc0_transform_2 (grid0.coords t) = ![q.val, 0] := by decide +kernel

/-- The blocks are the whole array. -/
theorem covered (i : S16000x128.Idx) :
    ∃ t : Fin (cfgM m hO).N, ((cfgM m hO).win 2).flush t = true ∧ i ∈ (((cfgM m hO).win 2).blk t).view.set := by
  have h0 : (i 0).val < 16000 := (i 0).isLt
  have h1 : (i 1).val < 128 := (i 1).isLt
  obtain ⟨t, ht⟩ := onto ⟨(i 0).val / 2000, by omega⟩
  refine ⟨t, flush0_2 _ t, ?_⟩
  have e : (((cfgM m hO).win 2).blk t).view.emb (ix2 ⟨(i 0).val % 2000, by omega⟩ (i 1)) = i := by
    funext a
    apply Fin.ext
    match a with
    | ⟨0, _⟩ =>
      show cc0_transform_2 (grid0.coords t) 0 * 2000 + 1 * ((i 0).val % 2000) = (i 0).val
      rw [ht]; show (i 0).val / 2000 * 2000 + 1 * ((i 0).val % 2000) = _; omega
    | ⟨1, _⟩ => show cc0_transform_2 (grid0.coords t) 1 * 128 + 1 * (i 1).val = (i 1).val; rw [ht]; show 0 * 128 + 1 * (i 1).val = _; omega
  exact e ▸ (((cfgM m hO).win 2).blk t).view.emb_mem_set _

/-- The run: the result holds the sums, and the operands are kept. -/
theorem run (k : Fin 4) (hk : (word m).toNat = k.val) :
    θ_run defs (onTc (τ := τ) (main (F := F))) ⟨m, fun _ => 0, ρ⟩ fun r => ∀ c : Dev nD,
      r.2.mem ((c : Thread nD τ).loc main_v0) = sums k (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  have hO := ok m (by omega)
  have values : θ_run defs (onTc (τ := τ) (main (F := F))) ⟨m, fun _ => 0, ρ⟩ fun r => ∀ c : Dev nD,
      r.2.mem ((c : Thread nD τ).loc main_v0) = sums k (m ((c : Thread nD τ).loc main_arg1)) (m ((c : Thread nD τ).loc main_arg2)) :=
    (θ_run defs _ _).mono (fun _ h c => ((h c).1 2).trans
      ((dats m hO 0 c).arrAt_eq_of_cover 2 (sums k (V m c main_arg1) (V m c main_arg2)) (fun t _ => flushed m hO k hk c t) (covered m hO)))
      (run_main m ρ hO)
  (θ_run defs _ _).mono (fun _ h c => ⟨h.1 c, h.2 c⟩) (θ_run_and values (unchanged m ρ hO))

instance facts_given : Cert.Pre_chip_given.Facts := ⟨by decide⟩

/-- The precondition says that the word names a chip. -/
theorem named {w : IVec S1 32} {p : Vec F S4x16000x128 .bf16} {g : Vec F S3x16000x128 .bf16}
    (h : Cert.Pre_chip_given.fn (F := F) w p g = fun _ => 1#1) : (w (ix1 0)).toNat < 4 :=
  lt_of_given (by decide) (congrFun h (ix1 0))

/-- What the reference cuts out of the parts, starting at chip `k`. -/
theorem picked_eq (k : Fin 4) (p : Vec F S4x16000x128 .bf16) (start : Fin 3 → ℤ) (hs : ∀ a, start a = ((![k.val, 0, 0] : Fin 3 → ℕ) a : ℤ))
    (hf : S4x16000x128.Slices (fun _ => 0) Cert.SumChipsRefIdeal.S1x16000x128)
    (hc : Cert.SumChipsRefIdeal.S1x16000x128.ShapeCasts S16000x128) :
    shapeCast S16000x128 (Host.dynamicSlice Cert.SumChipsRefIdeal.S1x16000x128 p start hf) hc = fun i => p (ix3 k (i 0) (i 1)) := by
  have hk := k.isLt
  have hoff : S4x16000x128.Slices (![k.val, 0, 0] : Fin 3 → ℕ) Cert.SumChipsRefIdeal.S1x16000x128 :=
    ⟨rfl, fun a => by
      match a with
      | ⟨0, _⟩ => show k.val + 1 ≤ 4; omega
      | ⟨1, _⟩ => show 0 + 16000 ≤ 16000; omega
      | ⟨2, _⟩ => show 0 + 128 ≤ 128; omega⟩
  rw [Host.dynamicSlice_eq_extractStridedSlice _ p start _ hf hoff hs]
  funext i
  refine (shapeCast_dropUnit_apply ![16000, 128] _ hc i).trans (congrArg p (funext fun a => Fin.ext ?_))
  match a with
  | ⟨0, _⟩ => show k.val + 0 = k.val; omega
  | ⟨1, _⟩ => show 0 + (i 0).val = (i 0).val; omega
  | ⟨2, _⟩ => show 0 + (i 1).val = (i 1).val; omega

end Cert.Step.SumChips

/-! ## The plain sum -/

namespace Cert.Step.SumChips.Plain

open Idealize.ShloMosaic Idealize.ShloMosaic.TcCoe Idealize.SL.Sem Idealize.ShloMosaic.StableHlo
open Cert.SumChipsRefIdeal Cert.SumChipsRefIdeal.Gen

variable {F : FTy → Type} [FloatOps F] (m : (ℓ : Loc nD τ sig) → Buf (Elt F) ℓ) (ρ : Dev nD → PrngReg)

/-- What the program does, one after the other. -/
abbrev steps : List (HloOp τ sig (Elt F)) :=
  [reshape main_arg0 main_v0 rfl shapeCasts_S1_S_,
    nullary main_c (constantI S_ 32 0#32), nullary main_c_0 (constantI S_ 32 0#32),
    unaryIndexed main_arg1 ![main_v0, main_c, main_c_0] ⟨S_, .i32⟩ main_v1
      (fun x i => Host.dynamicSlice S1x16000x128 x (fun k => (i k (Shape.Idx.first h_S_)).toInt) sliceFits_S4x16000x128_S1x16000x128),
    reshape main_v1 main_v2 rfl shapeCasts_S1x16000x128_S16000x128,
    unary main_v2 main_v3 (extf (F := F) (s := S16000x128) (φ := .bf16) .f32 · bitsLt_bf16_f32),
    unary main_arg2 main_v4 (extf (F := F) (s := S3x16000x128) (φ := .bf16) .f32 · bitsLt_bf16_f32),
    nullary main_cst (constant S_ .f32 0x00000000#32),
    binary main_v4 main_cst main_v5 (fun x v => Host.reduceAdd (F := F) (φ := .f32) x v reducesTo_S3x16000x128_S16000x128_d0 h_S_),
    binary main_v3 main_v5 main_v6 (addf (F := F) (s := S16000x128) (φ := .f32))]

theorem main_steps (c : Dev nD) : main (F := F) c = seq steps := rfl

/-- Where the slice starts: at the chip's part, and at zero along the other axes. -/
abbrev start (w : IVec S1 32) : Fin 3 → ℤ := fun k =>
  ((![shapeCast S_ w shapeCasts_S1_S_, constantI S_ 32 0#32, constantI S_ 32 0#32] : Fin 3 → IVec S_ 32) k (Shape.Idx.first h_S_)).toInt

/-- The result of the program. -/
abbrev total (w : IVec S1 32) (p : FVec F S4x16000x128 .bf16) (g : FVec F S3x16000x128 .bf16) : FVec F S16000x128 .f32 :=
  addf (extf .f32 (shapeCast S16000x128 (Host.dynamicSlice S1x16000x128 p (start w) sliceFits_S4x16000x128_S1x16000x128)
      shapeCasts_S1x16000x128_S16000x128) bitsLt_bf16_f32)
    (Host.reduceAdd (extf .f32 g bitsLt_bf16_f32) (constant S_ .f32 0x00000000#32) reducesTo_S3x16000x128_S16000x128_d0 h_S_)

theorem run : θ_run defs (onTc (τ := τ) (main (F := F))) ⟨m, fun _ => 0, ρ⟩ fun r => ∀ c : Dev nD,
    r.2.mem ((c.tc : Thread nD τ).loc main_v6) = total (m ((c.tc : Thread nD τ).loc main_arg0)) (m ((c.tc : Thread nD τ).loc main_arg1))
      (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono
    (fun _ h c => ⟨(h c main_v6).trans ?_, (h c main_arg0).trans ?_, (h c main_arg1).trans ?_, (h c main_arg2).trans ?_⟩)
    (run_seq (by decide) (by decide) defs main (fun _ => steps) main_steps
      (fun _ => ⟨reshape_bufs_sub .., nullary_bufs_sub .., nullary_bufs_sub .., unaryIndexed_bufs_sub .., reshape_bufs_sub ..,
        unary_bufs_sub .., unary_bufs_sub .., nullary_bufs_sub .., binary_bufs_sub .., binary_bufs_sub ..⟩) m ρ)
  all_goals after_results_simp_entrywise
  rfl

theorem frame : θ_run defs (onTc (τ := τ) (main (F := F))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (run m ρ)

theorem start_eq (w : IVec S1 32) (k : Fin 4) (hk : (w (ix1 0)).toNat = k.val) (a : Fin 3) : start w a = ((![k.val, 0, 0] : Fin 3 → ℕ) a : ℤ) := by
  have hlt := k.isLt
  match a with
  | ⟨0, _⟩ =>
    have e : shapeCast S_ w shapeCasts_S1_S_ (Shape.Idx.first h_S_) = w (ix1 0) :=
      congrArg w (funext fun a => match a with | ⟨0, _⟩ => Subsingleton.elim (α := Fin 1) _ _)
    show (shapeCast S_ w shapeCasts_S1_S_ (Shape.Idx.first h_S_)).toInt = _
    rw [e, toInt_of_lt (n := 4) (by decide) (by omega), hk]
    rfl
  | ⟨1, _⟩ => rfl
  | ⟨2, _⟩ => rfl

/-- Of a word that names a chip it is the sums that the kernel leaves, the additions being exact. -/
theorem total_eq (w : IVec S1 32) (k : Fin 4) (hk : (w (ix1 0)).toNat = k.val) (p : FVec Ideal S4x16000x128 .bf16)
    (g : FVec Ideal S3x16000x128 .bf16) : total w p g = sums (F := Ideal) k p g := by
  unfold total
  rw [picked_eq (F := Ideal) k p (start w) (start_eq w k hk)]
  funext j
  have e : Host.reduceAdd (extf .f32 g bitsLt_bf16_f32) (constant S_ .f32 0x00000000#32) reducesTo_S3x16000x128_S16000x128_d0 h_S_ j
      = ∑ l : Fin 3, g (ix3 l (j 0) (j 1)) := by
    refine (Ideal.hostReduceAdd_r3_a0 reducesTo_S3x16000x128_S16000x128_d0 (extf .f32 g bitsLt_bf16_f32) _ j).trans ?_
    rw [show (constant S_ .f32 0x00000000#32 : FVec Ideal S_ .f32) (Shape.Idx.first h_S_) = 0 from Ideal.ofBits_zero_f32, zero_add]
    rfl
  refine (congrArg (fun s => p (ix3 k (j 0) (j 1)) + s) (e.trans (Fin.sum_univ_three _))).trans ?_
  rw [← add_assoc, ← add_assoc]
  rfl

end Cert.Step.SumChips.Plain

/-! ## The claims -/

namespace Cert.Step.SumChips

open Idealize.ShloMosaic Idealize.ShloMosaic.TcCoe Idealize.SL.Sem

theorem frame_kernel : Cert.quiescent_SumChips := fun m ρ h => Cert.SumChips.Gen.frame (F := Bits) m ρ (ok m (named (h 0)))

theorem frame_ideal : Cert.quiescent_SumChipsIdeal := fun m ρ h => Cert.SumChipsIdeal.Gen.frame (F := Ideal) m ρ (ok m (named (h 0)))

theorem frame_reference : Cert.quiescent_SumChipsRef := fun m ρ _ => Plain.frame (F := Bits) m ρ

theorem frame_reference_ideal : Cert.quiescent_SumChipsRefIdeal := fun m ρ _ => Plain.frame (F := Ideal) m ρ

theorem frame_reference_ideal_given : Cert.quiescent_SumChipsRefIdeal_pre_chip_given := fun m ρ _ => Plain.frame (F := Ideal) m ρ

theorem preserves : Cert.preserves_SumChips_SumChipsIdeal := trivial

theorem algebraic : Cert.algebraic_SumChipsIdeal_SumChipsRefIdeal := fun m ρ m' ρ' h same =>
  ⟨fun c => sums ⟨_, named (h 0)⟩ (m ((c.tc : Thread Cert.SumChipsIdeal.nD Cert.SumChipsIdeal.τ).loc Cert.SumChipsIdeal.main_arg1)) (m ((c.tc : Thread Cert.SumChipsIdeal.nD Cert.SumChipsIdeal.τ).loc Cert.SumChipsIdeal.main_arg2)),
    run (F := Ideal) m ρ ⟨_, named (h 0)⟩ rfl,
    (θ_run Cert.SumChipsRefIdeal.defs _ _).mono
      (fun r hr c => by
        obtain ⟨h0, h1, h2⟩ := same c
        obtain ⟨t, rest⟩ := hr c
        rw [h0, h1, h2] at t
        obtain rfl : c = 0 := Subsingleton.elim _ _
        exact ⟨t.trans (Plain.total_eq _ ⟨_, named (h 0)⟩ rfl _ _), rest⟩)
      (Plain.run (F := Ideal) m' ρ')⟩

end Cert.Step.SumChips

end
-- ==== Proof.lean ====
/-
The claims about the gathering, the exchange between the cores and the exchange between the chips, about the sums of what came with the own
part, about the optimiser's step, about the products that give the weights' gradients, about the input projections, about the merging of
the two mixers' parts and the derivatives through both, and about the feed-forward part, put together.
-/
module

public import proofs.«01_k».proof.Defs
public import proofs.«01_k».proof.Proof.Gen.Gather
public import proofs.«01_k».proof.Proof.Gen.GatherIdeal
public import proofs.«01_k».proof.Proof.Gen.GatherRef
public import proofs.«01_k».proof.Proof.Gen.GatherRefIdeal
public import proofs.«01_k».proof.Proof.Gen.GatherRefIdeal.Run
public import proofs.«01_k».proof.Proof.Gen.GatherIdeal.Skeleton
public import proofs.«01_k».proof.Proof.Gen.GatherIdeal.Launch
public import proofs.«01_k».proof.Proof.Gen.Cores
public import proofs.«01_k».proof.Proof.Gen.CoresIdeal
public import proofs.«01_k».proof.Proof.Gen.CoresRef
public import proofs.«01_k».proof.Proof.Gen.CoresRefIdeal
public import proofs.«01_k».proof.Proof.Gen.CoresRefIdeal.Run
public import proofs.«01_k».proof.Proof.Gen.CoresIdeal.Skeleton
public import proofs.«01_k».proof.Proof.Gen.CoresIdeal.Launch
public import proofs.«01_k».proof.Proof.Gen.Chips
public import proofs.«01_k».proof.Proof.Gen.ChipsIdeal
public import proofs.«01_k».proof.Proof.Gen.ChipsRef
public import proofs.«01_k».proof.Proof.Gen.ChipsRefIdeal
public import proofs.«01_k».proof.Proof.Gen.ChipsRefIdeal.Run
public import proofs.«01_k».proof.Proof.Gen.AdamIn
public import proofs.«01_k».proof.Proof.Gen.AdamIn.Frame
public import proofs.«01_k».proof.Proof.Gen.AdamInIdeal
public import proofs.«01_k».proof.Proof.Gen.AdamInRef
public import proofs.«01_k».proof.Proof.Gen.AdamInRefIdeal
public import proofs.«01_k».proof.Proof.Gen.AdamInRefIdeal.Run
public import proofs.«01_k».proof.Proof.Gen.AdamInIdeal.Value
public import proofs.«01_k».proof.Proof.Gen.AdamUp
public import proofs.«01_k».proof.Proof.Gen.AdamUp.Frame
public import proofs.«01_k».proof.Proof.Gen.AdamUpIdeal
public import proofs.«01_k».proof.Proof.Gen.AdamUpRef
public import proofs.«01_k».proof.Proof.Gen.AdamUpRefIdeal
public import proofs.«01_k».proof.Proof.Gen.AdamUpRefIdeal.Run
public import proofs.«01_k».proof.Proof.Gen.AdamUpIdeal.Value
public import proofs.«01_k».proof.Proof.Gen.AdamGateUp
public import proofs.«01_k».proof.Proof.Gen.AdamGateUp.Frame
public import proofs.«01_k».proof.Proof.Gen.AdamGateUpIdeal
public import proofs.«01_k».proof.Proof.Gen.AdamGateUpRef
public import proofs.«01_k».proof.Proof.Gen.AdamGateUpRefIdeal
public import proofs.«01_k».proof.Proof.Gen.AdamGateUpRefIdeal.Run
public import proofs.«01_k».proof.Proof.Gen.AdamGateUpIdeal.Value
public import proofs.«01_k».proof.Proof.Gen.AdamOut
public import proofs.«01_k».proof.Proof.Gen.AdamOut.Frame
public import proofs.«01_k».proof.Proof.Gen.AdamOutIdeal
public import proofs.«01_k».proof.Proof.Gen.AdamOutRef
public import proofs.«01_k».proof.Proof.Gen.AdamOutRefIdeal
public import proofs.«01_k».proof.Proof.Gen.AdamOutRefIdeal.Run
public import proofs.«01_k».proof.Proof.Gen.AdamOutIdeal.Value
public import proofs.«01_k».proof.Proof.Gen.AdamO
public import proofs.«01_k».proof.Proof.Gen.AdamO.Frame
public import proofs.«01_k».proof.Proof.Gen.AdamOIdeal
public import proofs.«01_k».proof.Proof.Gen.AdamORef
public import proofs.«01_k».proof.Proof.Gen.AdamORefIdeal
public import proofs.«01_k».proof.Proof.Gen.AdamORefIdeal.Run
public import proofs.«01_k».proof.Proof.Gen.AdamOIdeal.Value
public import proofs.«01_k».proof.Proof.Gen.AdamFfnUp
public import proofs.«01_k».proof.Proof.Gen.AdamFfnUp.Frame
public import proofs.«01_k».proof.Proof.Gen.AdamFfnUpIdeal
public import proofs.«01_k».proof.Proof.Gen.AdamFfnUpRef
public import proofs.«01_k».proof.Proof.Gen.AdamFfnUpRefIdeal
public import proofs.«01_k».proof.Proof.Gen.AdamFfnUpRefIdeal.Run
public import proofs.«01_k».proof.Proof.Gen.AdamFfnUpIdeal.Value
public import proofs.«01_k».proof.Proof.Gen.AdamFfnDown
public import proofs.«01_k».proof.Proof.Gen.AdamFfnDown.Frame
public import proofs.«01_k».proof.Proof.Gen.AdamFfnDownIdeal
public import proofs.«01_k».proof.Proof.Gen.AdamFfnDownRef
public import proofs.«01_k».proof.Proof.Gen.AdamFfnDownRefIdeal
public import proofs.«01_k».proof.Proof.Gen.AdamFfnDownRefIdeal.Run
public import proofs.«01_k».proof.Proof.Gen.AdamFfnDownIdeal.Value
public import proofs.«01_k».proof.Proof.Gen.AdamSmall
public import proofs.«01_k».proof.Proof.Gen.AdamSmall.Frame
public import proofs.«01_k».proof.Proof.Gen.AdamSmallIdeal
public import proofs.«01_k».proof.Proof.Gen.AdamSmallRef
public import proofs.«01_k».proof.Proof.Gen.AdamSmallRefIdeal
public import proofs.«01_k».proof.Proof.Gen.AdamSmallRefIdeal.Run
public import proofs.«01_k».proof.Proof.Gen.AdamSmallIdeal.Value
public import proofs.«01_k».proof.Proof.Gen.AddCore
public import proofs.«01_k».proof.Proof.Gen.AddCore.Frame
public import proofs.«01_k».proof.Proof.Gen.AddCoreIdeal
public import proofs.«01_k».proof.Proof.Gen.AddCoreIdeal.Frame
public import proofs.«01_k».proof.Proof.Gen.AddCoreRef
public import proofs.«01_k».proof.Proof.Gen.AddCoreRefIdeal
public import proofs.«01_k».proof.Proof.Gen.SumChips
public import proofs.«01_k».proof.Proof.Gen.SumChips.Frame
public import proofs.«01_k».proof.Proof.Gen.SumChipsIdeal
public import proofs.«01_k».proof.Proof.Gen.SumChipsIdeal.Frame
public import proofs.«01_k».proof.Proof.Gen.SumChipsRef
public import proofs.«01_k».proof.Proof.Gen.SumChipsRefIdeal
public import proofs.«01_k».proof.Proof.Gen.GradQkv
public import proofs.«01_k».proof.Proof.Gen.GradQkv.Frame
public import proofs.«01_k».proof.Proof.Gen.GradQkvIdeal
public import proofs.«01_k».proof.Proof.Gen.GradQkvRef
public import proofs.«01_k».proof.Proof.Gen.GradQkvRefIdeal
public import proofs.«01_k».proof.Proof.Gen.GradQkvRefIdeal.Run
public import proofs.«01_k».proof.Proof.Gen.GradQkvIdeal.Value
public import proofs.«01_k».proof.Proof.Gen.GradRw
public import proofs.«01_k».proof.Proof.Gen.GradRw.Frame
public import proofs.«01_k».proof.Proof.Gen.GradRwIdeal
public import proofs.«01_k».proof.Proof.Gen.GradRwRef
public import proofs.«01_k».proof.Proof.Gen.GradRwRefIdeal
public import proofs.«01_k».proof.Proof.Gen.GradRwRefIdeal.Run
public import proofs.«01_k».proof.Proof.Gen.GradRwIdeal.Value
public import proofs.«01_k».proof.Proof.Gen.GradGate
public import proofs.«01_k».proof.Proof.Gen.GradGate.Frame
public import proofs.«01_k».proof.Proof.Gen.GradGateIdeal
public import proofs.«01_k».proof.Proof.Gen.GradGateRef
public import proofs.«01_k».proof.Proof.Gen.GradGateRefIdeal
public import proofs.«01_k».proof.Proof.Gen.GradGateRefIdeal.Run
public import proofs.«01_k».proof.Proof.Gen.GradGateIdeal.Value
public import proofs.«01_k».proof.Proof.Gen.GradOut
public import proofs.«01_k».proof.Proof.Gen.GradOut.Frame
public import proofs.«01_k».proof.Proof.Gen.GradOutIdeal
public import proofs.«01_k».proof.Proof.Gen.GradOutRef
public import proofs.«01_k».proof.Proof.Gen.GradOutRefIdeal
public import proofs.«01_k».proof.Proof.Gen.GradOutRefIdeal.Run
public import proofs.«01_k».proof.Proof.Gen.GradOutIdeal.Value
public import proofs.«01_k».proof.Proof.Gen.GradO
public import proofs.«01_k».proof.Proof.Gen.GradO.Frame
public import proofs.«01_k».proof.Proof.Gen.GradOIdeal
public import proofs.«01_k».proof.Proof.Gen.GradORef
public import proofs.«01_k».proof.Proof.Gen.GradORefIdeal
public import proofs.«01_k».proof.Proof.Gen.GradORefIdeal.Run
public import proofs.«01_k».proof.Proof.Gen.GradOIdeal.Value
public import proofs.«01_k».proof.Proof.Gen.GradFfnUp
public import proofs.«01_k».proof.Proof.Gen.GradFfnUp.Frame
public import proofs.«01_k».proof.Proof.Gen.GradFfnUpIdeal
public import proofs.«01_k».proof.Proof.Gen.GradFfnUpRef
public import proofs.«01_k».proof.Proof.Gen.GradFfnUpRefIdeal
public import proofs.«01_k».proof.Proof.Gen.GradFfnUpRefIdeal.Run
public import proofs.«01_k».proof.Proof.Gen.GradFfnUpIdeal.Value
public import proofs.«01_k».proof.Proof.Gen.GradFfnDown
public import proofs.«01_k».proof.Proof.Gen.GradFfnDown.Frame
public import proofs.«01_k».proof.Proof.Gen.GradFfnDownIdeal
public import proofs.«01_k».proof.Proof.Gen.GradFfnDownRef
public import proofs.«01_k».proof.Proof.Gen.GradFfnDownRefIdeal
public import proofs.«01_k».proof.Proof.Gen.GradFfnDownRefIdeal.Run
public import proofs.«01_k».proof.Proof.Gen.GradFfnDownIdeal.Value
public import proofs.«01_k».proof.Proof.Gen.InProj
public import proofs.«01_k».proof.Proof.Gen.InProj.Frame
public import proofs.«01_k».proof.Proof.Gen.InProjIdeal
public import proofs.«01_k».proof.Proof.Gen.InProjRef
public import proofs.«01_k».proof.Proof.Gen.InProjRefIdeal
public import proofs.«01_k».proof.Proof.Gen.InProjRefIdeal.Run
public import proofs.«01_k».proof.Proof.Gen.InProjIdeal.Value
public import proofs.«01_k».proof.Proof.Gen.InProjBack
public import proofs.«01_k».proof.Proof.Gen.InProjBack.Frame
public import proofs.«01_k».proof.Proof.Gen.InProjBackIdeal
public import proofs.«01_k».proof.Proof.Gen.InProjBackRef
public import proofs.«01_k».proof.Proof.Gen.InProjBackRefIdeal
public import proofs.«01_k».proof.Proof.Gen.InProjBackRefIdeal.Run
public import proofs.«01_k».proof.Proof.Gen.InProjBackIdeal.Value
public import proofs.«01_k».proof.Proof.Gen.Merge
public import proofs.«01_k».proof.Proof.Gen.Merge.Frame
public import proofs.«01_k».proof.Proof.Gen.MergeIdeal
public import proofs.«01_k».proof.Proof.Gen.MergeRef
public import proofs.«01_k».proof.Proof.Gen.MergeRefIdeal
public import proofs.«01_k».proof.Proof.Gen.MergeRefIdeal.Run
public import proofs.«01_k».proof.Proof.Gen.MergeIdeal.Value
public import proofs.«01_k».proof.Proof.Gen.MergeBack
public import proofs.«01_k».proof.Proof.Gen.MergeBack.Frame
public import proofs.«01_k».proof.Proof.Gen.MergeBackIdeal
public import proofs.«01_k».proof.Proof.Gen.MergeBackRef
public import proofs.«01_k».proof.Proof.Gen.MergeBackRefIdeal
public import proofs.«01_k».proof.Proof.Gen.MergeBackRefIdeal.Run
public import proofs.«01_k».proof.Proof.Gen.MergeBackIdeal.Value
public import proofs.«01_k».proof.Proof.Gen.Ffn
public import proofs.«01_k».proof.Proof.Gen.Ffn.Frame
public import proofs.«01_k».proof.Proof.Gen.FfnIdeal
public import proofs.«01_k».proof.Proof.Gen.FfnRef
public import proofs.«01_k».proof.Proof.Gen.FfnRefIdeal
public import proofs.«01_k».proof.Proof.Gen.FfnRefIdeal.Run
public import proofs.«01_k».proof.Proof.Gen.FfnIdeal.Value
public import proofs.«01_k».proof.Proof.Exchange.GatherClaims
public import proofs.«01_k».proof.Proof.Exchange.CoresClaims
public import proofs.«01_k».proof.Proof.Exchange.ChipsClaims
public import proofs.«01_k».proof.Proof.Step.Grads
public import proofs.«01_k».proof.Proof.Step.InProj
public import proofs.«01_k».proof.Proof.Step.InProjBack
public import proofs.«01_k».proof.Proof.Step.Merge
public import proofs.«01_k».proof.Proof.Step.MergeBack
public import proofs.«01_k».proof.Proof.Step.Ffn
public import proofs.«01_k».proof.Proof.Step.Weights
public import proofs.«01_k».proof.Proof.Step.AddCore
public import proofs.«01_k».proof.Proof.Step.AdamSmall
public import proofs.«01_k».proof.Proof.Step.SumChips

@[expose] public section

noncomputable section

namespace Cert.Proof

theorem claim : Cert.Claim := ⟨Cert.Gather.Gen.facts, Cert.GatherIdeal.Gen.facts, Cert.GatherRef.Gen.facts, Cert.GatherRefIdeal.Gen.facts,
  Cert.Cores.Gen.facts, Cert.CoresIdeal.Gen.facts, Cert.CoresRef.Gen.facts, Cert.CoresRefIdeal.Gen.facts,
  Cert.Chips.Gen.facts, Cert.ChipsIdeal.Gen.facts, Cert.ChipsRef.Gen.facts, Cert.ChipsRefIdeal.Gen.facts,
  Cert.AdamIn.Gen.facts, Cert.AdamInIdeal.Gen.facts, Cert.AdamInRef.Gen.facts, Cert.AdamInRefIdeal.Gen.facts,
  Cert.AdamUp.Gen.facts, Cert.AdamUpIdeal.Gen.facts, Cert.AdamUpRef.Gen.facts, Cert.AdamUpRefIdeal.Gen.facts,
  Cert.AdamGateUp.Gen.facts, Cert.AdamGateUpIdeal.Gen.facts, Cert.AdamGateUpRef.Gen.facts, Cert.AdamGateUpRefIdeal.Gen.facts,
  Cert.AdamOut.Gen.facts, Cert.AdamOutIdeal.Gen.facts, Cert.AdamOutRef.Gen.facts, Cert.AdamOutRefIdeal.Gen.facts,
  Cert.AdamO.Gen.facts, Cert.AdamOIdeal.Gen.facts, Cert.AdamORef.Gen.facts, Cert.AdamORefIdeal.Gen.facts,
  Cert.AdamFfnUp.Gen.facts, Cert.AdamFfnUpIdeal.Gen.facts, Cert.AdamFfnUpRef.Gen.facts, Cert.AdamFfnUpRefIdeal.Gen.facts,
  Cert.AdamFfnDown.Gen.facts, Cert.AdamFfnDownIdeal.Gen.facts, Cert.AdamFfnDownRef.Gen.facts, Cert.AdamFfnDownRefIdeal.Gen.facts,
  Cert.AdamSmall.Gen.facts, Cert.AdamSmallIdeal.Gen.facts, Cert.AdamSmallRef.Gen.facts, Cert.AdamSmallRefIdeal.Gen.facts,
  Cert.AddCore.Gen.facts, Cert.AddCoreIdeal.Gen.facts, Cert.AddCoreRef.Gen.facts, Cert.AddCoreRefIdeal.Gen.facts,
  Cert.SumChips.Gen.facts, Cert.SumChipsIdeal.Gen.facts, Cert.SumChipsRef.Gen.facts, Cert.SumChipsRefIdeal.Gen.facts,
  Cert.GradQkv.Gen.facts, Cert.GradQkvIdeal.Gen.facts, Cert.GradQkvRef.Gen.facts, Cert.GradQkvRefIdeal.Gen.facts,
  Cert.GradRw.Gen.facts, Cert.GradRwIdeal.Gen.facts, Cert.GradRwRef.Gen.facts, Cert.GradRwRefIdeal.Gen.facts,
  Cert.GradGate.Gen.facts, Cert.GradGateIdeal.Gen.facts, Cert.GradGateRef.Gen.facts, Cert.GradGateRefIdeal.Gen.facts,
  Cert.GradOut.Gen.facts, Cert.GradOutIdeal.Gen.facts, Cert.GradOutRef.Gen.facts, Cert.GradOutRefIdeal.Gen.facts,
  Cert.GradO.Gen.facts, Cert.GradOIdeal.Gen.facts, Cert.GradORef.Gen.facts, Cert.GradORefIdeal.Gen.facts,
  Cert.GradFfnUp.Gen.facts, Cert.GradFfnUpIdeal.Gen.facts, Cert.GradFfnUpRef.Gen.facts, Cert.GradFfnUpRefIdeal.Gen.facts,
  Cert.GradFfnDown.Gen.facts, Cert.GradFfnDownIdeal.Gen.facts, Cert.GradFfnDownRef.Gen.facts, Cert.GradFfnDownRefIdeal.Gen.facts,
  Cert.InProj.Gen.facts, Cert.InProjIdeal.Gen.facts, Cert.InProjRef.Gen.facts, Cert.InProjRefIdeal.Gen.facts,
  Cert.InProjBack.Gen.facts, Cert.InProjBackIdeal.Gen.facts, Cert.InProjBackRef.Gen.facts, Cert.InProjBackRefIdeal.Gen.facts,
  Cert.Merge.Gen.facts, Cert.MergeIdeal.Gen.facts, Cert.MergeRef.Gen.facts, Cert.MergeRefIdeal.Gen.facts,
  Cert.MergeBack.Gen.facts, Cert.MergeBackIdeal.Gen.facts, Cert.MergeBackRef.Gen.facts, Cert.MergeBackRefIdeal.Gen.facts,
  Cert.Ffn.Gen.facts, Cert.FfnIdeal.Gen.facts, Cert.FfnRef.Gen.facts, Cert.FfnRefIdeal.Gen.facts,
  Cert.Step.AddCore.facts_given, Cert.Step.SumChips.facts_given,
  Cert.Exchange.Gather.frame_kernel, Cert.Exchange.Gather.frame_ideal, Cert.Exchange.Gather.frame_reference, Cert.Exchange.Gather.frame_reference_ideal,
  Cert.Exchange.Cores.frame_kernel, Cert.Exchange.Cores.frame_ideal, Cert.Exchange.Cores.frame_reference, Cert.Exchange.Cores.frame_reference_ideal,
  Cert.Exchange.Chips.frame_kernel, Cert.Exchange.Chips.frame_ideal, Cert.Exchange.Chips.frame_reference, Cert.Exchange.Chips.frame_reference_ideal,
  Cert.Step.AdamIn.frame_kernel, Cert.Step.AdamIn.frame_ideal, Cert.Step.AdamIn.frame_reference, Cert.Step.AdamIn.frame_reference_ideal,
  Cert.Step.AdamUp.frame_kernel, Cert.Step.AdamUp.frame_ideal, Cert.Step.AdamUp.frame_reference, Cert.Step.AdamUp.frame_reference_ideal,
  Cert.Step.AdamGateUp.frame_kernel, Cert.Step.AdamGateUp.frame_ideal, Cert.Step.AdamGateUp.frame_reference, Cert.Step.AdamGateUp.frame_reference_ideal,
  Cert.Step.AdamOut.frame_kernel, Cert.Step.AdamOut.frame_ideal, Cert.Step.AdamOut.frame_reference, Cert.Step.AdamOut.frame_reference_ideal,
  Cert.Step.AdamO.frame_kernel, Cert.Step.AdamO.frame_ideal, Cert.Step.AdamO.frame_reference, Cert.Step.AdamO.frame_reference_ideal,
  Cert.Step.AdamFfnUp.frame_kernel, Cert.Step.AdamFfnUp.frame_ideal, Cert.Step.AdamFfnUp.frame_reference, Cert.Step.AdamFfnUp.frame_reference_ideal,
  Cert.Step.AdamFfnDown.frame_kernel, Cert.Step.AdamFfnDown.frame_ideal, Cert.Step.AdamFfnDown.frame_reference, Cert.Step.AdamFfnDown.frame_reference_ideal,
  Cert.Step.AdamSmall.frame_kernel, Cert.Step.AdamSmall.frame_ideal, Cert.Step.AdamSmall.frame_reference, Cert.Step.AdamSmall.frame_reference_ideal,
  Cert.Step.AddCore.frame_kernel, Cert.Step.AddCore.frame_ideal, Cert.Step.AddCore.frame_reference, Cert.Step.AddCore.frame_reference_given,
  Cert.Step.AddCore.frame_reference_ideal, Cert.Step.AddCore.frame_reference_ideal_given,
  Cert.Step.SumChips.frame_kernel, Cert.Step.SumChips.frame_ideal, Cert.Step.SumChips.frame_reference, Cert.Step.SumChips.frame_reference_ideal,
  Cert.Step.SumChips.frame_reference_ideal_given,
  Cert.Step.GradQkv.frame_kernel, Cert.Step.GradQkv.frame_ideal, Cert.Step.GradQkv.frame_reference, Cert.Step.GradQkv.frame_reference_ideal,
  Cert.Step.GradRw.frame_kernel, Cert.Step.GradRw.frame_ideal, Cert.Step.GradRw.frame_reference, Cert.Step.GradRw.frame_reference_ideal,
  Cert.Step.GradGate.frame_kernel, Cert.Step.GradGate.frame_ideal, Cert.Step.GradGate.frame_reference, Cert.Step.GradGate.frame_reference_ideal,
  Cert.Step.GradOut.frame_kernel, Cert.Step.GradOut.frame_ideal, Cert.Step.GradOut.frame_reference, Cert.Step.GradOut.frame_reference_ideal,
  Cert.Step.GradO.frame_kernel, Cert.Step.GradO.frame_ideal, Cert.Step.GradO.frame_reference, Cert.Step.GradO.frame_reference_ideal,
  Cert.Step.GradFfnUp.frame_kernel, Cert.Step.GradFfnUp.frame_ideal, Cert.Step.GradFfnUp.frame_reference, Cert.Step.GradFfnUp.frame_reference_ideal,
  Cert.Step.GradFfnDown.frame_kernel, Cert.Step.GradFfnDown.frame_ideal, Cert.Step.GradFfnDown.frame_reference, Cert.Step.GradFfnDown.frame_reference_ideal,
  Cert.Step.InProj.frame_kernel, Cert.Step.InProj.frame_ideal, Cert.Step.InProj.frame_reference, Cert.Step.InProj.frame_reference_ideal,
  Cert.Step.InProjBack.frame_kernel, Cert.Step.InProjBack.frame_ideal, Cert.Step.InProjBack.frame_reference, Cert.Step.InProjBack.frame_reference_ideal,
  Cert.Step.Merge.frame_kernel, Cert.Step.Merge.frame_ideal, Cert.Step.Merge.frame_reference, Cert.Step.Merge.frame_reference_ideal,
  Cert.Step.MergeBack.frame_kernel, Cert.Step.MergeBack.frame_ideal, Cert.Step.MergeBack.frame_reference, Cert.Step.MergeBack.frame_reference_ideal,
  Cert.Step.Ffn.frame_kernel, Cert.Step.Ffn.frame_ideal, Cert.Step.Ffn.frame_reference, Cert.Step.Ffn.frame_reference_ideal,
  trivial, Cert.Exchange.Gather.bitexact, Cert.Exchange.Gather.algebraic,
  trivial, Cert.Exchange.Cores.bitexact, Cert.Exchange.Cores.algebraic,
  trivial, Cert.Exchange.Chips.bitexact, Cert.Exchange.Chips.algebraic,
  trivial, Cert.Step.AdamIn.algebraic,
  trivial, Cert.Step.AdamUp.algebraic,
  trivial, Cert.Step.AdamGateUp.algebraic,
  trivial, Cert.Step.AdamOut.algebraic,
  trivial, Cert.Step.AdamO.algebraic,
  trivial, Cert.Step.AdamFfnUp.algebraic,
  trivial, Cert.Step.AdamFfnDown.algebraic,
  trivial, Cert.Step.AdamSmall.algebraic,
  Cert.Step.AddCore.preserves, Cert.Step.AddCore.bitexact, Cert.Step.AddCore.algebraic,
  Cert.Step.SumChips.preserves, Cert.Step.SumChips.algebraic,
  trivial, Cert.Step.GradQkv.algebraic,
  trivial, Cert.Step.GradRw.algebraic,
  trivial, Cert.Step.GradGate.algebraic,
  trivial, Cert.Step.GradOut.algebraic,
  trivial, Cert.Step.GradO.algebraic,
  trivial, Cert.Step.GradFfnUp.algebraic,
  trivial, Cert.Step.GradFfnDown.algebraic,
  trivial, Cert.Step.InProj.algebraic,
  trivial, Cert.Step.InProjBack.algebraic,
  trivial, Cert.Step.Merge.algebraic,
  trivial, Cert.Step.MergeBack.algebraic,
  trivial, Cert.Step.Ffn.algebraic⟩

end Cert.Proof

end
